-- ==== Defs.lean ====
def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Oproj (m : (ℓ : Loc Cert.Oproj.nD Cert.Oproj.τ Cert.Oproj.sig) → Buf (Elt Bits) ℓ) : Prop :=
  True

def Pre_OprojIdeal (m : (ℓ : Loc Cert.OprojIdeal.nD Cert.OprojIdeal.τ Cert.OprojIdeal.sig) → Buf (Elt Ideal) ℓ) : Prop :=
  True

def Pre_OprojRefIdeal (m : (ℓ : Loc Cert.OprojRefIdeal.nD Cert.OprojRefIdeal.τ Cert.OprojRefIdeal.sig) → Buf (Elt Ideal) ℓ) : Prop :=
  True

def Pre_Gu (m : (ℓ : Loc Cert.Gu.nD Cert.Gu.τ Cert.Gu.sig) → Buf (Elt Bits) ℓ) : Prop :=
  True

def Pre_GuIdeal (m : (ℓ : Loc Cert.GuIdeal.nD Cert.GuIdeal.τ Cert.GuIdeal.sig) → Buf (Elt Ideal) ℓ) : Prop :=
  True

def Pre_GuRefIdeal (m : (ℓ : Loc Cert.GuRefIdeal.nD Cert.GuRefIdeal.τ Cert.GuRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7)
      ∧ r.2.mem ((c.tc : Thread Cert.Qkv.nD Cert.Qkv.τ).loc Cert.Qkv.main_arg8) = m ((c.tc : Thread Cert.Qkv.nD Cert.Qkv.τ).loc Cert.Qkv.main_arg8))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
      ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7)
      ∧ r.2.mem ((c.tc : Thread Cert.QkvRefIdeal.nD Cert.QkvRefIdeal.τ).loc Cert.QkvRefIdeal.main_arg8) = m ((c.tc : Thread Cert.QkvRefIdeal.nD Cert.QkvRefIdeal.τ).loc Cert.QkvRefIdeal.main_arg8))
      ∧ r.2.sem = fun _ => 0)

def quiescent_Oproj [hOproj : Cert.Oproj.Facts] : Prop :=
  ∀ (m : (ℓ : Loc Cert.Oproj.nD Cert.Oproj.τ Cert.Oproj.sig) → Buf (Elt Bits) ℓ) (g : Dev Cert.Oproj.nD → PrngReg), Pre_Oproj m →
    θ_run (Cert.Oproj.defs (F := Bits)) (onTc (τ := Cert.Oproj.τ) (Cert.Oproj.main (F := Bits))) ⟨m, fun _ => 0, g⟩ (fun r => (∀ c : Dev Cert.Oproj.nD,
      r.2.mem ((c.tc : Thread Cert.Oproj.nD Cert.Oproj.τ).loc Cert.Oproj.main_arg0) = m ((c.tc : Thread Cert.Oproj.nD Cert.Oproj.τ).loc Cert.Oproj.main_arg0)
      ∧ r.2.mem ((c.tc : Thread Cert.Oproj.nD Cert.Oproj.τ).loc Cert.Oproj.main_arg1) = m ((c.tc : Thread Cert.Oproj.nD Cert.Oproj.τ).loc Cert.Oproj.main_arg1)
      ∧ r.2.mem ((c.tc : Thread Cert.Oproj.nD Cert.Oproj.τ).loc Cert.Oproj.main_arg2) = m ((c.tc : Thread Cert.Oproj.nD Cert.Oproj.τ).loc Cert.Oproj.main_arg2)
      ∧ r.2.mem ((c.tc : Thread Cert.Oproj.nD Cert.Oproj.τ).loc Cert.Oproj.main_arg3) = m ((c.tc : Thread Cert.Oproj.nD Cert.Oproj.τ).loc Cert.Oproj.main_arg3)
      ∧ r.2.mem ((c.tc : Thread Cert.Oproj.nD Cert.Oproj.τ).loc Cert.Oproj.main_arg4) = m ((c.tc : Thread Cert.Oproj.nD Cert.Oproj.τ).loc Cert.Oproj.main_arg4))
      ∧ r.2.sem = fun _ => 0)

def quiescent_OprojIdeal [hOprojIdeal : Cert.OprojIdeal.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
      ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4))
      ∧ r.2.sem = fun _ => 0)

def quiescent_OprojRefIdeal [hOprojRefIdeal : Cert.OprojRefIdeal.Facts] : Prop :=
  ∀ (m : (ℓ : Loc Cert.OprojRefIdeal.nD Cert.OprojRefIdeal.τ Cert.OprojRefIdeal.sig) → Buf (Elt Ideal) ℓ) (g : Dev Cert.OprojRefIdeal.nD → PrngReg), Pre_OprojRefIdeal m →
    θ_run (Cert.OprojRefIdeal.defs (F := Ideal)) (onTc (τ := Cert.OprojRefIdeal.τ) (Cert.OprojRefIdeal.main (F := Ideal))) ⟨m, fun _ => 0, g⟩ (fun r => (∀ c : Dev Cert.OprojRefIdeal.nD,
      r.2.mem ((c.tc : Thread Cert.OprojRefIdeal.nD Cert.OprojRefIdeal.τ).loc Cert.OprojRefIdeal.main_arg0) = m ((c.tc : Thread Cert.OprojRefIdeal.nD Cert.OprojRefIdeal.τ).loc Cert.OprojRefIdeal.main_arg0)
      ∧ r.2.mem ((c.tc : Thread Cert.OprojRefIdeal.nD Cert.OprojRefIdeal.τ).loc Cert.OprojRefIdeal.main_arg1) = m ((c.tc : Thread Cert.OprojRefIdeal.nD Cert.OprojRefIdeal.τ).loc Cert.OprojRefIdeal.main_arg1)
      ∧ r.2.mem ((c.tc : Thread Cert.OprojRefIdeal.nD Cert.OprojRefIdeal.τ).loc Cert.OprojRefIdeal.main_arg2) = m ((c.tc : Thread Cert.OprojRefIdeal.nD Cert.OprojRefIdeal.τ).loc Cert.OprojRefIdeal.main_arg2)
      ∧ r.2.mem ((c.tc : Thread Cert.OprojRefIdeal.nD Cert.OprojRefIdeal.τ).loc Cert.OprojRefIdeal.main_arg3) = m ((c.tc : Thread Cert.OprojRefIdeal.nD Cert.OprojRefIdeal.τ).loc Cert.OprojRefIdeal.main_arg3)
      ∧ r.2.mem ((c.tc : Thread Cert.OprojRefIdeal.nD Cert.OprojRefIdeal.τ).loc Cert.OprojRefIdeal.main_arg4) = m ((c.tc : Thread Cert.OprojRefIdeal.nD Cert.OprojRefIdeal.τ).loc Cert.OprojRefIdeal.main_arg4))
      ∧ r.2.sem = fun _ => 0)

def quiescent_Gu [hGu : Cert.Gu.Facts] : Prop :=
  ∀ (m : (ℓ : Loc Cert.Gu.nD Cert.Gu.τ Cert.Gu.sig) → Buf (Elt Bits) ℓ) (g : Dev Cert.Gu.nD → PrngReg), Pre_Gu m →
    θ_run (Cert.Gu.defs (F := Bits)) (onTc (τ := Cert.Gu.τ) (Cert.Gu.main (F := Bits))) ⟨m, fun _ => 0, g⟩ (fun r => (∀ c : Dev Cert.Gu.nD,
      r.2.mem ((c.tc : Thread Cert.Gu.nD Cert.Gu.τ).loc Cert.Gu.main_arg0) = m ((c.tc : Thread Cert.Gu.nD Cert.Gu.τ).loc Cert.Gu.main_arg0)
      ∧ r.2.mem ((c.tc : Thread Cert.Gu.nD Cert.Gu.τ).loc Cert.Gu.main_arg1) = m ((c.tc : Thread Cert.Gu.nD Cert.Gu.τ).loc Cert.Gu.main_arg1)
      ∧ r.2.mem ((c.tc : Thread Cert.Gu.nD Cert.Gu.τ).loc Cert.Gu.main_arg2) = m ((c.tc : Thread Cert.Gu.nD Cert.Gu.τ).loc Cert.Gu.main_arg2)
      ∧ r.2.mem ((c.tc : Thread Cert.Gu.nD Cert.Gu.τ).loc Cert.Gu.main_arg3) = m ((c.tc : Thread Cert.Gu.nD Cert.Gu.τ).loc Cert.Gu.main_arg3)
      ∧ r.2.mem ((c.tc : Thread Cert.Gu.nD Cert.Gu.τ).loc Cert.Gu.main_arg4) = m ((c.tc : Thread Cert.Gu.nD Cert.Gu.τ).loc Cert.Gu.main_arg4))
      ∧ r.2.sem = fun _ => 0)

def quiescent_GuIdeal [hGuIdeal : Cert.GuIdeal.Facts] : Prop :=
  ∀ (m : (ℓ : Loc Cert.GuIdeal.nD Cert.GuIdeal.τ Cert.GuIdeal.sig) → Buf (Elt Ideal) ℓ) (g : Dev Cert.GuIdeal.nD → PrngReg), Pre_GuIdeal m →
    θ_run (Cert.GuIdeal.defs (F := Ideal)) (onTc (τ := Cert.GuIdeal.τ) (Cert.GuIdeal.main (F := Ideal))) ⟨m, fun _ => 0, g⟩ (fun r => (∀ c : Dev Cert.GuIdeal.nD,
      r.2.mem ((c.tc : Thread Cert.GuIdeal.nD Cert.GuIdeal.τ).loc Cert.GuIdeal.main_arg0) = m ((c.tc : Thread Cert.GuIdeal.nD Cert.GuIdeal.τ).loc Cert.GuIdeal.main_arg0)
      ∧ r.2.mem ((c.tc : Thread Cert.GuIdeal.nD Cert.GuIdeal.τ).loc Cert.GuIdeal.main_arg1) = m ((c.tc : Thread Cert.GuIdeal.nD Cert.GuIdeal.τ).loc Cert.GuIdeal.main_arg1)
      ∧ r.2.mem ((c.tc : Thread Cert.GuIdeal.nD Cert.GuIdeal.τ).loc Cert.GuIdeal.main_arg2) = m ((c.tc : Thread Cert.GuIdeal.nD Cert.GuIdeal.τ).loc Cert.GuIdeal.main_arg2)
      ∧ r.2.mem ((c.tc : Thread Cert.GuIdeal.nD Cert.GuIdeal.τ).loc Cert.GuIdeal.main_arg3) = m ((c.tc : Thread Cert.GuIdeal.nD Cert.GuIdeal.τ).loc Cert.GuIdeal.main_arg3)
      ∧ r.2.mem ((c.tc : Thread Cert.GuIdeal.nD Cert.GuIdeal.τ).loc Cert.GuIdeal.main_arg4) = m ((c.tc : Thread Cert.GuIdeal.nD Cert.GuIdeal.τ).loc Cert.GuIdeal.main_arg4))
      ∧ r.2.sem = fun _ => 0)

def quiescent_GuRefIdeal [hGuRefIdeal : Cert.GuRefIdeal.Facts] : Prop :=
  ∀ (m : (ℓ : Loc Cert.GuRefIdeal.nD Cert.GuRefIdeal.τ Cert.GuRefIdeal.sig) → Buf (Elt Ideal) ℓ) (g : Dev Cert.GuRefIdeal.nD → PrngReg), Pre_GuRefIdeal m →
    θ_run (Cert.GuRefIdeal.defs (F := Ideal)) (onTc (τ := Cert.GuRefIdeal.τ) (Cert.GuRefIdeal.main (F := Ideal))) ⟨m, fun _ => 0, g⟩ (fun r => (∀ c : Dev Cert.GuRefIdeal.nD,
      r.2.mem ((c.tc : Thread Cert.GuRefIdeal.nD Cert.GuRefIdeal.τ).loc Cert.GuRefIdeal.main_arg0) = m ((c.tc : Thread Cert.GuRefIdeal.nD Cert.GuRefIdeal.τ).loc Cert.GuRefIdeal.main_arg0)
      ∧ r.2.mem ((c.tc : Thread Cert.GuRefIdeal.nD Cert.GuRefIdeal.τ).loc Cert.GuRefIdeal.main_arg1) = m ((c.tc : Thread Cert.GuRefIdeal.nD Cert.GuRefIdeal.τ).loc Cert.GuRefIdeal.main_arg1)
      ∧ r.2.mem ((c.tc : Thread Cert.GuRefIdeal.nD Cert.GuRefIdeal.τ).loc Cert.GuRefIdeal.main_arg2) = m ((c.tc : Thread Cert.GuRefIdeal.nD Cert.GuRefIdeal.τ).loc Cert.GuRefIdeal.main_arg2)
      ∧ r.2.mem ((c.tc : Thread Cert.GuRefIdeal.nD Cert.GuRefIdeal.τ).loc Cert.GuRefIdeal.main_arg3) = m ((c.tc : Thread Cert.GuRefIdeal.nD Cert.GuRefIdeal.τ).loc Cert.GuRefIdeal.main_arg3)
      ∧ r.2.mem ((c.tc : Thread Cert.GuRefIdeal.nD Cert.GuRefIdeal.τ).loc Cert.GuRefIdeal.main_arg4) = m ((c.tc : Thread Cert.GuRefIdeal.nD Cert.GuRefIdeal.τ).loc Cert.GuRefIdeal.main_arg4))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)
      ∧ m' ((c.tc : Thread Cert.QkvRefIdeal.nD Cert.QkvRefIdeal.τ).loc Cert.QkvRefIdeal.main_arg7) = m ((c.tc : Thread Cert.QkvIdeal.nD Cert.QkvIdeal.τ).loc Cert.QkvIdeal.main_arg7)
      ∧ m' ((c.tc : Thread Cert.QkvRefIdeal.nD Cert.QkvRefIdeal.τ).loc Cert.QkvRefIdeal.main_arg8) = m ((c.tc : Thread Cert.QkvIdeal.nD Cert.QkvIdeal.τ).loc Cert.QkvIdeal.main_arg8)) →
    ∃ (v0 : (c : Dev Cert.QkvIdeal.nD) → Buf (Elt Ideal) ((c.tc : Thread Cert.QkvIdeal.nD Cert.QkvIdeal.τ).loc Cert.QkvIdeal.main_v8_0)) (v1 : (c : Dev Cert.QkvIdeal.nD) → Buf (Elt Ideal) ((c.tc : Thread Cert.QkvIdeal.nD Cert.QkvIdeal.τ).loc Cert.QkvIdeal.main_v8_1)) (v2 : (c : Dev Cert.QkvIdeal.nD) → Buf (Elt Ideal) ((c.tc : Thread Cert.QkvIdeal.nD Cert.QkvIdeal.τ).loc Cert.QkvIdeal.main_v8_2)) (v3 : (c : Dev Cert.QkvIdeal.nD) → Buf (Elt Ideal) ((c.tc : Thread Cert.QkvIdeal.nD Cert.QkvIdeal.τ).loc Cert.QkvIdeal.main_v8_3)) (v4 : (c : Dev Cert.QkvIdeal.nD) → Buf (Elt Ideal) ((c.tc : Thread Cert.QkvIdeal.nD Cert.QkvIdeal.τ).loc Cert.QkvIdeal.main_v8_4)) (v5 : (c : Dev Cert.QkvIdeal.nD) → Buf (Elt Ideal) ((c.tc : Thread Cert.QkvIdeal.nD Cert.QkvIdeal.τ).loc Cert.QkvIdeal.main_v8_5)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v8_0) = v0 c
          ∧ r.2.mem ((c.tc : Thread Cert.QkvIdeal.nD Cert.QkvIdeal.τ).loc Cert.QkvIdeal.main_v8_1) = v1 c
          ∧ r.2.mem ((c.tc : Thread Cert.QkvIdeal.nD Cert.QkvIdeal.τ).loc Cert.QkvIdeal.main_v8_2) = v2 c
          ∧ r.2.mem ((c.tc : Thread Cert.QkvIdeal.nD Cert.QkvIdeal.τ).loc Cert.QkvIdeal.main_v8_3) = v3 c
          ∧ r.2.mem ((c.tc : Thread Cert.QkvIdeal.nD Cert.QkvIdeal.τ).loc Cert.QkvIdeal.main_v8_4) = v4 c
          ∧ r.2.mem ((c.tc : Thread Cert.QkvIdeal.nD Cert.QkvIdeal.τ).loc Cert.QkvIdeal.main_v8_5) = v5 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
          ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v0_0) = v0 c
          ∧ r.2.mem ((c.tc : Thread Cert.QkvRefIdeal.nD Cert.QkvRefIdeal.τ).loc Cert.QkvRefIdeal.main_v0_1) = v1 c
          ∧ r.2.mem ((c.tc : Thread Cert.QkvRefIdeal.nD Cert.QkvRefIdeal.τ).loc Cert.QkvRefIdeal.main_v0_2) = v2 c
          ∧ r.2.mem ((c.tc : Thread Cert.QkvRefIdeal.nD Cert.QkvRefIdeal.τ).loc Cert.QkvRefIdeal.main_v0_3) = v3 c
          ∧ r.2.mem ((c.tc : Thread Cert.QkvRefIdeal.nD Cert.QkvRefIdeal.τ).loc Cert.QkvRefIdeal.main_v0_4) = v4 c
          ∧ r.2.mem ((c.tc : Thread Cert.QkvRefIdeal.nD Cert.QkvRefIdeal.τ).loc Cert.QkvRefIdeal.main_v0_5) = v5 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6)
          ∧ r.2.mem ((c.tc : Thread Cert.QkvRefIdeal.nD Cert.QkvRefIdeal.τ).loc Cert.QkvRefIdeal.main_arg7) = m' ((c.tc : Thread Cert.QkvRefIdeal.nD Cert.QkvRefIdeal.τ).loc Cert.QkvRefIdeal.main_arg7)
          ∧ r.2.mem ((c.tc : Thread Cert.QkvRefIdeal.nD Cert.QkvRefIdeal.τ).loc Cert.QkvRefIdeal.main_arg8) = m' ((c.tc : Thread Cert.QkvRefIdeal.nD Cert.QkvRefIdeal.τ).loc Cert.QkvRefIdeal.main_arg8))

def preserves_Oproj_OprojIdeal : Prop :=
  True

def algebraic_OprojIdeal_OprojRefIdeal [hOprojIdeal : Cert.OprojIdeal.Facts] [hOprojRefIdeal : Cert.OprojRefIdeal.Facts] : Prop :=
  ∀ (m : (ℓ : Loc Cert.OprojIdeal.nD Cert.OprojIdeal.τ Cert.OprojIdeal.sig) → Buf (Elt Ideal) ℓ) (g : Dev Cert.OprojIdeal.nD → PrngReg)
    (m' : (ℓ : Loc Cert.OprojRefIdeal.nD Cert.OprojRefIdeal.τ Cert.OprojRefIdeal.sig) → Buf (Elt Ideal) ℓ) (g' : Dev Cert.OprojRefIdeal.nD → PrngReg), Pre_OprojIdeal m →
    (∀ c : Dev Cert.OprojIdeal.nD,
      m' ((c.tc : Thread Cert.OprojRefIdeal.nD Cert.OprojRefIdeal.τ).loc Cert.OprojRefIdeal.main_arg0) = m ((c.tc : Thread Cert.OprojIdeal.nD Cert.OprojIdeal.τ).loc Cert.OprojIdeal.main_arg0)
      ∧ m' ((c.tc : Thread Cert.OprojRefIdeal.nD Cert.OprojRefIdeal.τ).loc Cert.OprojRefIdeal.main_arg1) = m ((c.tc : Thread Cert.OprojIdeal.nD Cert.OprojIdeal.τ).loc Cert.OprojIdeal.main_arg1)
      ∧ m' ((c.tc : Thread Cert.OprojRefIdeal.nD Cert.OprojRefIdeal.τ).loc Cert.OprojRefIdeal.main_arg2) = m ((c.tc : Thread Cert.OprojIdeal.nD Cert.OprojIdeal.τ).loc Cert.OprojIdeal.main_arg2)
      ∧ m' ((c.tc : Thread Cert.OprojRefIdeal.nD Cert.OprojRefIdeal.τ).loc Cert.OprojRefIdeal.main_arg3) = m ((c.tc : Thread Cert.OprojIdeal.nD Cert.OprojIdeal.τ).loc Cert.OprojIdeal.main_arg3)
      ∧ m' ((c.tc : Thread Cert.OprojRefIdeal.nD Cert.OprojRefIdeal.τ).loc Cert.OprojRefIdeal.main_arg4) = m ((c.tc : Thread Cert.OprojIdeal.nD Cert.OprojIdeal.τ).loc Cert.OprojIdeal.main_arg4)) →
    ∃ (v0 : (c : Dev Cert.OprojIdeal.nD) → Buf (Elt Ideal) ((c.tc : Thread Cert.OprojIdeal.nD Cert.OprojIdeal.τ).loc Cert.OprojIdeal.main_v3_0)) (v1 : (c : Dev Cert.OprojIdeal.nD) → Buf (Elt Ideal) ((c.tc : Thread Cert.OprojIdeal.nD Cert.OprojIdeal.τ).loc Cert.OprojIdeal.main_v3_1)) (v2 : (c : Dev Cert.OprojIdeal.nD) → Buf (Elt Ideal) ((c.tc : Thread Cert.OprojIdeal.nD Cert.OprojIdeal.τ).loc Cert.OprojIdeal.main_v3_2)),
      θ_run (Cert.OprojIdeal.defs (F := Ideal)) (onTc (τ := Cert.OprojIdeal.τ) (Cert.OprojIdeal.main (F := Ideal))) ⟨m, fun _ => 0, g⟩ (fun r => ∀ c : Dev Cert.OprojIdeal.nD,
          r.2.mem ((c.tc : Thread Cert.OprojIdeal.nD Cert.OprojIdeal.τ).loc Cert.OprojIdeal.main_v3_0) = v0 c
          ∧ r.2.mem ((c.tc : Thread Cert.OprojIdeal.nD Cert.OprojIdeal.τ).loc Cert.OprojIdeal.main_v3_1) = v1 c
          ∧ r.2.mem ((c.tc : Thread Cert.OprojIdeal.nD Cert.OprojIdeal.τ).loc Cert.OprojIdeal.main_v3_2) = v2 c
          ∧ r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
          ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
          ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
          ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
          ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4))
      ∧ θ_run (Cert.OprojRefIdeal.defs (F := Ideal)) (onTc (τ := Cert.OprojRefIdeal.τ) (Cert.OprojRefIdeal.main (F := Ideal))) ⟨m', fun _ => 0, g'⟩ (fun r => ∀ c : Dev Cert.OprojRefIdeal.nD,
          r.2.mem ((c.tc : Thread Cert.OprojRefIdeal.nD Cert.OprojRefIdeal.τ).loc Cert.OprojRefIdeal.main_v0_0) = v0 c
          ∧ r.2.mem ((c.tc : Thread Cert.OprojRefIdeal.nD Cert.OprojRefIdeal.τ).loc Cert.OprojRefIdeal.main_v0_1) = v1 c
          ∧ r.2.mem ((c.tc : Thread Cert.OprojRefIdeal.nD Cert.OprojRefIdeal.τ).loc Cert.OprojRefIdeal.main_v0_2) = v2 c
          ∧ r.2.mem ((c.tc : Thread Cert.OprojRefIdeal.nD Cert.OprojRefIdeal.τ).loc Cert.OprojRefIdeal.main_arg0) = m' ((c.tc : Thread Cert.OprojRefIdeal.nD Cert.OprojRefIdeal.τ).loc Cert.OprojRefIdeal.main_arg0)
          ∧ r.2.mem ((c.tc : Thread Cert.OprojRefIdeal.nD Cert.OprojRefIdeal.τ).loc Cert.OprojRefIdeal.main_arg1) = m' ((c.tc : Thread Cert.OprojRefIdeal.nD Cert.OprojRefIdeal.τ).loc Cert.OprojRefIdeal.main_arg1)
          ∧ r.2.mem ((c.tc : Thread Cert.OprojRefIdeal.nD Cert.OprojRefIdeal.τ).loc Cert.OprojRefIdeal.main_arg2) = m' ((c.tc : Thread Cert.OprojRefIdeal.nD Cert.OprojRefIdeal.τ).loc Cert.OprojRefIdeal.main_arg2)
          ∧ r.2.mem ((c.tc : Thread Cert.OprojRefIdeal.nD Cert.OprojRefIdeal.τ).loc Cert.OprojRefIdeal.main_arg3) = m' ((c.tc : Thread Cert.OprojRefIdeal.nD Cert.OprojRefIdeal.τ).loc Cert.OprojRefIdeal.main_arg3)
          ∧ r.2.mem ((c.tc : Thread Cert.OprojRefIdeal.nD Cert.OprojRefIdeal.τ).loc Cert.OprojRefIdeal.main_arg4) = m' ((c.tc : Thread Cert.OprojRefIdeal.nD Cert.OprojRefIdeal.τ).loc Cert.OprojRefIdeal.main_arg4))

def preserves_Gu_GuIdeal : Prop :=
  True

def algebraic_GuIdeal_GuRefIdeal [hGuIdeal : Cert.GuIdeal.Facts] [hGuRefIdeal : Cert.GuRefIdeal.Facts] : Prop :=
  ∀ (m : (ℓ : Loc Cert.GuIdeal.nD Cert.GuIdeal.τ Cert.GuIdeal.sig) → Buf (Elt Ideal) ℓ) (g : Dev Cert.GuIdeal.nD → PrngReg)
    (m' : (ℓ : Loc Cert.GuRefIdeal.nD Cert.GuRefIdeal.τ Cert.GuRefIdeal.sig) → Buf (Elt Ideal) ℓ) (g' : Dev Cert.GuRefIdeal.nD → PrngReg), Pre_GuIdeal m →
    (∀ c : Dev Cert.GuIdeal.nD,
      m' ((c.tc : Thread Cert.GuRefIdeal.nD Cert.GuRefIdeal.τ).loc Cert.GuRefIdeal.main_arg0) = m ((c.tc : Thread Cert.GuIdeal.nD Cert.GuIdeal.τ).loc Cert.GuIdeal.main_arg0)
      ∧ m' ((c.tc : Thread Cert.GuRefIdeal.nD Cert.GuRefIdeal.τ).loc Cert.GuRefIdeal.main_arg1) = m ((c.tc : Thread Cert.GuIdeal.nD Cert.GuIdeal.τ).loc Cert.GuIdeal.main_arg1)
      ∧ m' ((c.tc : Thread Cert.GuRefIdeal.nD Cert.GuRefIdeal.τ).loc Cert.GuRefIdeal.main_arg2) = m ((c.tc : Thread Cert.GuIdeal.nD Cert.GuIdeal.τ).loc Cert.GuIdeal.main_arg2)
      ∧ m' ((c.tc : Thread Cert.GuRefIdeal.nD Cert.GuRefIdeal.τ).loc Cert.GuRefIdeal.main_arg3) = m ((c.tc : Thread Cert.GuIdeal.nD Cert.GuIdeal.τ).loc Cert.GuIdeal.main_arg3)
      ∧ m' ((c.tc : Thread Cert.GuRefIdeal.nD Cert.GuRefIdeal.τ).loc Cert.GuRefIdeal.main_arg4) = m ((c.tc : Thread Cert.GuIdeal.nD Cert.GuIdeal.τ).loc Cert.GuIdeal.main_arg4)) →
    ∃ (v0 : (c : Dev Cert.GuIdeal.nD) → Buf (Elt Ideal) ((c.tc : Thread Cert.GuIdeal.nD Cert.GuIdeal.τ).loc Cert.GuIdeal.main_v2_0)) (v1 : (c : Dev Cert.GuIdeal.nD) → Buf (Elt Ideal) ((c.tc : Thread Cert.GuIdeal.nD Cert.GuIdeal.τ).loc Cert.GuIdeal.main_v2_1)) (v2 : (c : Dev Cert.GuIdeal.nD) → Buf (Elt Ideal) ((c.tc : Thread Cert.GuIdeal.nD Cert.GuIdeal.τ).loc Cert.GuIdeal.main_v2_2)),
      θ_run (Cert.GuIdeal.defs (F := Ideal)) (onTc (τ := Cert.GuIdeal.τ) (Cert.GuIdeal.main (F := Ideal))) ⟨m, fun _ => 0, g⟩ (fun r => ∀ c : Dev Cert.GuIdeal.nD,
          r.2.mem ((c.tc : Thread Cert.GuIdeal.nD Cert.GuIdeal.τ).loc Cert.GuIdeal.main_v2_0) = v0 c
          ∧ r.2.mem ((c.tc : Thread Cert.GuIdeal.nD Cert.GuIdeal.τ).loc Cert.GuIdeal.main_v2_1) = v1 c
          ∧ r.2.mem ((c.tc : Thread Cert.GuIdeal.nD Cert.GuIdeal.τ).loc Cert.GuIdeal.main_v2_2) = v2 c
          ∧ r.2.mem ((c.tc : Thread Cert.GuIdeal.nD Cert.GuIdeal.τ).loc Cert.GuIdeal.main_arg0) = m ((c.tc : Thread Cert.GuIdeal.nD Cert.GuIdeal.τ).loc Cert.GuIdeal.main_arg0)
          ∧ r.2.mem ((c.tc : Thread Cert.GuIdeal.nD Cert.GuIdeal.τ).loc Cert.GuIdeal.main_arg1) = m ((c.tc : Thread Cert.GuIdeal.nD Cert.GuIdeal.τ).loc Cert.GuIdeal.main_arg1)
          ∧ r.2.mem ((c.tc : Thread Cert.GuIdeal.nD Cert.GuIdeal.τ).loc Cert.GuIdeal.main_arg2) = m ((c.tc : Thread Cert.GuIdeal.nD Cert.GuIdeal.τ).loc Cert.GuIdeal.main_arg2)
          ∧ r.2.mem ((c.tc : Thread Cert.GuIdeal.nD Cert.GuIdeal.τ).loc Cert.GuIdeal.main_arg3) = m ((c.tc : Thread Cert.GuIdeal.nD Cert.GuIdeal.τ).loc Cert.GuIdeal.main_arg3)
          ∧ r.2.mem ((c.tc : Thread Cert.GuIdeal.nD Cert.GuIdeal.τ).loc Cert.GuIdeal.main_arg4) = m ((c.tc : Thread Cert.GuIdeal.nD Cert.GuIdeal.τ).loc Cert.GuIdeal.main_arg4))
      ∧ θ_run (Cert.GuRefIdeal.defs (F := Ideal)) (onTc (τ := Cert.GuRefIdeal.τ) (Cert.GuRefIdeal.main (F := Ideal))) ⟨m', fun _ => 0, g'⟩ (fun r => ∀ c : Dev Cert.GuRefIdeal.nD,
          r.2.mem ((c.tc : Thread Cert.GuRefIdeal.nD Cert.GuRefIdeal.τ).loc Cert.GuRefIdeal.main_v0_0) = v0 c
          ∧ r.2.mem ((c.tc : Thread Cert.GuRefIdeal.nD Cert.GuRefIdeal.τ).loc Cert.GuRefIdeal.main_v0_1) = v1 c
          ∧ r.2.mem ((c.tc : Thread Cert.GuRefIdeal.nD Cert.GuRefIdeal.τ).loc Cert.GuRefIdeal.main_v0_2) = v2 c
          ∧ r.2.mem ((c.tc : Thread Cert.GuRefIdeal.nD Cert.GuRefIdeal.τ).loc Cert.GuRefIdeal.main_arg0) = m' ((c.tc : Thread Cert.GuRefIdeal.nD Cert.GuRefIdeal.τ).loc Cert.GuRefIdeal.main_arg0)
          ∧ r.2.mem ((c.tc : Thread Cert.GuRefIdeal.nD Cert.GuRefIdeal.τ).loc Cert.GuRefIdeal.main_arg1) = m' ((c.tc : Thread Cert.GuRefIdeal.nD Cert.GuRefIdeal.τ).loc Cert.GuRefIdeal.main_arg1)
          ∧ r.2.mem ((c.tc : Thread Cert.GuRefIdeal.nD Cert.GuRefIdeal.τ).loc Cert.GuRefIdeal.main_arg2) = m' ((c.tc : Thread Cert.GuRefIdeal.nD Cert.GuRefIdeal.τ).loc Cert.GuRefIdeal.main_arg2)
          ∧ r.2.mem ((c.tc : Thread Cert.GuRefIdeal.nD Cert.GuRefIdeal.τ).loc Cert.GuRefIdeal.main_arg3) = m' ((c.tc : Thread Cert.GuRefIdeal.nD Cert.GuRefIdeal.τ).loc Cert.GuRefIdeal.main_arg3)
          ∧ r.2.mem ((c.tc : Thread Cert.GuRefIdeal.nD Cert.GuRefIdeal.τ).loc Cert.GuRefIdeal.main_arg4) = m' ((c.tc : Thread Cert.GuRefIdeal.nD Cert.GuRefIdeal.τ).loc Cert.GuRefIdeal.main_arg4))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v1_0)) (v1 : (c : Dev Cert.DownIdeal.nD) → Buf (Elt Ideal) ((c.tc : Thread Cert.DownIdeal.nD Cert.DownIdeal.τ).loc Cert.DownIdeal.main_v1_1)) (v2 : (c : Dev Cert.DownIdeal.nD) → Buf (Elt Ideal) ((c.tc : Thread Cert.DownIdeal.nD Cert.DownIdeal.τ).loc Cert.DownIdeal.main_v1_2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1_0) = v0 c
          ∧ r.2.mem ((c.tc : Thread Cert.DownIdeal.nD Cert.DownIdeal.τ).loc Cert.DownIdeal.main_v1_1) = v1 c
          ∧ r.2.mem ((c.tc : Thread Cert.DownIdeal.nD Cert.DownIdeal.τ).loc Cert.DownIdeal.main_v1_2) = v2 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v0_0) = v0 c
          ∧ r.2.mem ((c.tc : Thread Cert.DownRefIdeal.nD Cert.DownRefIdeal.τ).loc Cert.DownRefIdeal.main_v0_1) = v1 c
          ∧ r.2.mem ((c.tc : Thread Cert.DownRefIdeal.nD Cert.DownRefIdeal.τ).loc Cert.DownRefIdeal.main_v0_2) = v2 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def Claim : Prop :=
  ∃ (hQkv : Cert.Qkv.Facts) (hQkvIdeal : Cert.QkvIdeal.Facts) (hQkvRefIdeal : Cert.QkvRefIdeal.Facts) (hOproj : Cert.Oproj.Facts) (hOprojIdeal : Cert.OprojIdeal.Facts) (hOprojRefIdeal : Cert.OprojRefIdeal.Facts) (hGu : Cert.Gu.Facts) (hGuIdeal : Cert.GuIdeal.Facts) (hGuRefIdeal : Cert.GuRefIdeal.Facts) (hDown : Cert.Down.Facts) (hDownIdeal : Cert.DownIdeal.Facts) (hDownRefIdeal : Cert.DownRefIdeal.Facts),
    quiescent_Qkv (hQkv := hQkv)
    ∧ quiescent_QkvIdeal (hQkvIdeal := hQkvIdeal)
    ∧ quiescent_QkvRefIdeal (hQkvRefIdeal := hQkvRefIdeal)
    ∧ quiescent_Oproj (hOproj := hOproj)
    ∧ quiescent_OprojIdeal (hOprojIdeal := hOprojIdeal)
    ∧ quiescent_OprojRefIdeal (hOprojRefIdeal := hOprojRefIdeal)
    ∧ quiescent_Gu (hGu := hGu)
    ∧ quiescent_GuIdeal (hGuIdeal := hGuIdeal)
    ∧ quiescent_GuRefIdeal (hGuRefIdeal := hGuRefIdeal)
    ∧ quiescent_Down (hDown := hDown)
    ∧ quiescent_DownIdeal (hDownIdeal := hDownIdeal)
    ∧ quiescent_DownRefIdeal (hDownRefIdeal := hDownRefIdeal)
    ∧ preserves_Qkv_QkvIdeal
    ∧ algebraic_QkvIdeal_QkvRefIdeal (hQkvIdeal := hQkvIdeal) (hQkvRefIdeal := hQkvRefIdeal)
    ∧ preserves_Oproj_OprojIdeal
    ∧ algebraic_OprojIdeal_OprojRefIdeal (hOprojIdeal := hOprojIdeal) (hOprojRefIdeal := hOprojRefIdeal)
    ∧ preserves_Gu_GuIdeal
    ∧ algebraic_GuIdeal_GuRefIdeal (hGuIdeal := hGuIdeal) (hGuRefIdeal := hGuRefIdeal)
    ∧ preserves_Down_DownIdeal
    ∧ algebraic_DownIdeal_DownRefIdeal (hDownIdeal := hDownIdeal) (hDownRefIdeal := hDownRefIdeal)
-- ==== Qkv.lean ====
abbrev S72x1x8192 : Shape := ⟨3, ![72, 1, 8192]⟩
abbrev S8192 : Shape := ⟨1, ![8192]⟩
abbrev S72x1x64 : Shape := ⟨3, ![72, 1, 64]⟩
abbrev S2 : Shape := ⟨1, ![2]⟩
abbrev S1024x2560 : Shape := ⟨2, ![1024, 2560]⟩
abbrev S64x2560 : Shape := ⟨2, ![64, 2560]⟩
abbrev S2560 : Shape := ⟨1, ![2560]⟩
abbrev S72x8192 : Shape := ⟨2, ![72, 8192]⟩
abbrev S72x64 : Shape := ⟨2, ![72, 64]⟩
abbrev S72x128 : Shape := ⟨2, ![72, 128]⟩
abbrev S1x8192 : Shape := ⟨2, ![1, 8192]⟩
abbrev S1x2560 : Shape := ⟨2, ![1, 2560]⟩
abbrev S1x72 : Shape := ⟨2, ![1, 72]⟩
abbrev S16x72x128 : Shape := ⟨3, ![16, 72, 128]⟩
abbrev S2x72x128 : Shape := ⟨3, ![2, 72, 128]⟩
abbrev S1024x512 : Shape := ⟨2, ![1024, 512]⟩
abbrev S64x512 : Shape := ⟨2, ![64, 512]⟩
abbrev S1x512 : Shape := ⟨2, ![1, 512]⟩
abbrev S80x8192 : Shape := ⟨2, ![80, 8192]⟩
abbrev S72 : Shape := ⟨1, ![72]⟩
abbrev S72x1 : Shape := ⟨2, ![72, 1]⟩
abbrev S8x8192 : Shape := ⟨2, ![8, 8192]⟩
abbrev S128x72 : Shape := ⟨2, ![128, 72]⟩
abbrev S80x512 : Shape := ⟨2, ![80, 512]⟩
abbrev S32x512 : Shape := ⟨2, ![32, 512]⟩
abbrev S32x1x512 : Shape := ⟨3, ![32, 1, 512]⟩
abbrev S32x8x512 : Shape := ⟨3, ![32, 8, 512]⟩
abbrev S256x512 : Shape := ⟨2, ![256, 512]⟩
abbrev S128x512 : Shape := ⟨2, ![128, 512]⟩
abbrev S80x256 : Shape := ⟨2, ![80, 256]⟩
abbrev S72x512 : Shape := ⟨2, ![72, 512]⟩
abbrev S1x72x128 : Shape := ⟨3, ![1, 72, 128]⟩
abbrev S1 : Shape := ⟨1, ![1]⟩

abbrev nBuf : Space → Nat
  | .hbm => 23
  | .vmem => 18
  | .smem => 2
  | _ => 0

abbrev bufTy : (tb : Table) → Fin (tcTables nBuf tb) → BufTy
  | .hbm, ⟨0, _⟩ => ⟨S72x1x8192, .bf16⟩
  | .hbm, ⟨1, _⟩ => ⟨S8192, .f32⟩
  | .hbm, ⟨2, _⟩ => ⟨S72x1x64, .f32⟩
  | .hbm, ⟨3, _⟩ => ⟨S72x1x64, .f32⟩
  | .hbm, ⟨4, _⟩ => ⟨S2, .f32⟩
  | .hbm, ⟨5, _⟩ => ⟨S2, .f32⟩
  | .hbm, ⟨6, _⟩ => ⟨S1024x2560, .i32⟩
  | .hbm, ⟨7, _⟩ => ⟨S64x2560, .fp8e4m3⟩
  | .hbm, ⟨8, _⟩ => ⟨S2560, .f32⟩
  | .hbm, ⟨9, _⟩ => ⟨S72x8192, .bf16⟩
  | .hbm, ⟨10, _⟩ => ⟨S72x64, .f32⟩
  | .hbm, ⟨11, _⟩ => ⟨S72x64, .f32⟩
  | .hbm, ⟨12, _⟩ => ⟨S72x128, .f32⟩
  | .hbm, ⟨13, _⟩ => ⟨S72x64, .f32⟩
  | .hbm, ⟨14, _⟩ => ⟨S72x128, .f32⟩
  | .hbm, ⟨15, _⟩ => ⟨S1x8192, .f32⟩
  | .hbm, ⟨16, _⟩ => ⟨S1x2560, .f32⟩
  | .hbm, ⟨17, _⟩ => ⟨S72x8192, .fp8e4m3⟩
  | .hbm, ⟨18, _⟩ => ⟨S1x72, .f32⟩
  | .hbm, ⟨19, _⟩ => ⟨S16x72x128, .f32⟩
  | .hbm, ⟨20, _⟩ => ⟨S16x72x128, .f32⟩
  | .hbm, ⟨21, _⟩ => ⟨S2x72x128, .fp8e4m3⟩
  | .hbm, ⟨22, _⟩ => ⟨S2x72x128, .fp8e4m3⟩
  | .local _ .vmem, ⟨0, _⟩ => ⟨S72x8192, .bf16⟩
  | .local _ .vmem, ⟨1, _⟩ => ⟨S1x8192, .f32⟩
  | .local _ .vmem, ⟨2, _⟩ => ⟨S72x128, .f32⟩
  | .local _ .vmem, ⟨3, _⟩ => ⟨S72x128, .f32⟩
  | .local _ .vmem, ⟨4, _⟩ => ⟨S1024x512, .i32⟩
  | .local _ .vmem, ⟨5, _⟩ => ⟨S1024x512, .i32⟩
  | .local _ .vmem, ⟨6, _⟩ => ⟨S64x512, .fp8e4m3⟩
  | .local _ .vmem, ⟨7, _⟩ => ⟨S64x512, .fp8e4m3⟩
  | .local _ .vmem, ⟨8, _⟩ => ⟨S1x512, .f32⟩
  | .local _ .vmem, ⟨9, _⟩ => ⟨S1x512, .f32⟩
  | .local _ .vmem, ⟨10, _⟩ => ⟨S72x8192, .fp8e4m3⟩
  | .local _ .vmem, ⟨11, _⟩ => ⟨S1x72, .f32⟩
  | .local _ .vmem, ⟨12, _⟩ => ⟨S16x72x128, .f32⟩
  | .local _ .vmem, ⟨13, _⟩ => ⟨S16x72x128, .f32⟩
  | .local _ .vmem, ⟨14, _⟩ => ⟨S2x72x128, .fp8e4m3⟩
  | .local _ .vmem, ⟨15, _⟩ => ⟨S2x72x128, .fp8e4m3⟩
  | .local _ .vmem, ⟨16, _⟩ => ⟨S80x8192, .bf16⟩
  | .local _ .vmem, ⟨17, _⟩ => ⟨S72x128, .f32⟩
  | .local _ .smem, ⟨0, _⟩ => ⟨S2, .f32⟩
  | .local _ .smem, ⟨1, _⟩ => ⟨S2, .f32⟩
  | _, _ => ⟨S72x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v8_3 : Ref sig .tc := ⟨.hbm, 20, rfl⟩
abbrev main_v8_4 : Ref sig .tc := ⟨.hbm, 21, rfl⟩
abbrev main_v8_5 : Ref sig .tc := ⟨.hbm, 22, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg6_1 : Ref sig .tc := ⟨.vmem, 5, rfl⟩
abbrev cc0_stg7_0 : Ref sig .tc := ⟨.vmem, 6, rfl⟩
abbrev cc0_stg7_1 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_scratch0 : Ref sig .tc := ⟨.vmem, 16, rfl⟩
abbrev cc0_scratch1 : Ref sig .tc := ⟨.vmem, 17, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17

abbrev nD : Nat := 1
abbrev τ : Topo := Topo.v7x

variable {F : FTy → Type} [FloatOps F]

abbrev grid0 : Pipeline.Grid := ⟨1, ![5], ![false]⟩

def k0_cond2 (i : grid0.Coords) : BitVec 1 :=
  let arg0 : BitVec 32 := BitVec.ofNat 32 (i 0).val
  let c4_i32_142 : BitVec 32 := 4#32
  let v790 : BitVec 1 := Scalar.cmpi .slt arg0 c4_i32_142
  let v791 : BitVec 32 := Scalar.extui v790
  let c0_i32_143 : BitVec 32 := 0#32
  let v792 : BitVec 1 := Scalar.cmpi .ne v791 c0_i32_143
  v792

def k0_off1 (i : grid0.Coords) (c0_i32_147 : BitVec 32) : Fin 3 → Nat :=
  let arg0 : BitVec 32 := BitVec.ofNat 32 (i 0).val
  let c4_i32_146 : BitVec 32 := 4#32
  let v800 : BitVec 32 := Scalar.muli arg0 c4_i32_146
  let v801 : BitVec 32 := Scalar.addi v800 c0_i32_147
  let v802 : Index := Scalar.indexCast v801
  let c0_148 : Index := 0#32
  let c0_149 : Index := 0#32
  ![v802.toNat, 0, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond3 (i : grid0.Coords) : BitVec 1 :=
  let arg0 : BitVec 32 := BitVec.ofNat 32 (i 0).val
  let c4_i32_144 : BitVec 32 := 4#32
  let v793 : BitVec 1 := Scalar.cmpi .eq arg0 c4_i32_144
  let v794 : BitVec 32 := Scalar.extui v793
  let c0_i32_145 : BitVec 32 := 0#32
  let v795 : BitVec 1 := Scalar.cmpi .ne v794 c0_i32_145
  v795

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S72x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S72x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S72x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x512 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x512 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S72x8192 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x72 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S16x72x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S16x72x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2x72x128 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2x72x128 .fp8e4m3 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== QkvRefIdeal.lean ====
abbrev S72x1x8192 : Shape := ⟨3, ![72, 1, 8192]⟩
abbrev S8192 : Shape := ⟨1, ![8192]⟩
abbrev S72x1x64 : Shape := ⟨3, ![72, 1, 64]⟩
abbrev S2 : Shape := ⟨1, ![2]⟩
abbrev S1024x2560 : Shape := ⟨2, ![1024, 2560]⟩
abbrev S64x2560 : Shape := ⟨2, ![64, 2560]⟩
abbrev S2560 : Shape := ⟨1, ![2560]⟩
abbrev S72x8192 : Shape := ⟨2, ![72, 8192]⟩
abbrev S1x72 : Shape := ⟨2, ![1, 72]⟩
abbrev S16x72x128 : Shape := ⟨3, ![16, 72, 128]⟩
abbrev S2x72x128 : Shape := ⟨3, ![2, 72, 128]⟩
abbrev S72x64 : Shape := ⟨2, ![72, 64]⟩
abbrev S72 : Shape := ⟨1, ![72]⟩
abbrev S72x1 : Shape := ⟨2, ![72, 1]⟩
abbrev S1x8192 : Shape := ⟨2, ![1, 8192]⟩
abbrev S8x1x1 : Shape := ⟨3, ![8, 1, 1]⟩
abbrev S1x1024x2560 : Shape := ⟨3, ![1, 1024, 2560]⟩
abbrev S8x1024x2560 : Shape := ⟨3, ![8, 1024, 2560]⟩
abbrev S64x1x2560 : Shape := ⟨3, ![64, 1, 2560]⟩
abbrev S64x16x2560 : Shape := ⟨3, ![64, 16, 2560]⟩
abbrev S72x1024x8 : Shape := ⟨3, ![72, 1024, 8]⟩
abbrev S72x2560 : Shape := ⟨2, ![72, 2560]⟩
abbrev S1x2560 : Shape := ⟨2, ![1, 2560]⟩
abbrev S72x2048 : Shape := ⟨2, ![72, 2048]⟩
abbrev S72x16x128 : Shape := ⟨3, ![72, 16, 128]⟩
abbrev S72x256 : Shape := ⟨2, ![72, 256]⟩
abbrev S72x2x128 : Shape := ⟨3, ![72, 2, 128]⟩
abbrev S72x16x64 : Shape := ⟨3, ![72, 16, 64]⟩
abbrev S72x2x64 : Shape := ⟨3, ![72, 2, 64]⟩
abbrev S2x1 : Shape := ⟨2, ![2, 1]⟩
abbrev S1x2x1 : Shape := ⟨3, ![1, 2, 1]⟩
abbrev S72x2x8x128 : Shape := ⟨4, ![72, 2, 8, 128]⟩
abbrev S72x2x8 : Shape := ⟨3, ![72, 2, 8]⟩
abbrev S72x16 : Shape := ⟨2, ![72, 16]⟩
abbrev S16x72 : Shape := ⟨2, ![16, 72]⟩
abbrev S16x72x1 : Shape := ⟨3, ![16, 72, 1]⟩

abbrev nBuf : Space → Nat
  | .hbm => 15
  | .vmem => 15
  | .smem => 0
  | _ => 0

abbrev bufTy : (tb : Table) → Fin (tcTables nBuf tb) → BufTy
  | .hbm, ⟨0, _⟩ => ⟨S72x1x8192, .bf16⟩
  | .hbm, ⟨1, _⟩ => ⟨S8192, .f32⟩
  | .hbm, ⟨2, _⟩ => ⟨S72x1x64, .f32⟩
  | .hbm, ⟨3, _⟩ => ⟨S72x1x64, .f32⟩
  | .hbm, ⟨4, _⟩ => ⟨S2, .f32⟩
  | .hbm, ⟨5, _⟩ => ⟨S2, .f32⟩
  | .hbm, ⟨6, _⟩ => ⟨S1024x2560, .i32⟩
  | .hbm, ⟨7, _⟩ => ⟨S64x2560, .fp8e4m3⟩
  | .hbm, ⟨8, _⟩ => ⟨S2560, .f32⟩
  | .hbm, ⟨9, _⟩ => ⟨S72x8192, .fp8e4m3⟩
  | .hbm, ⟨10, _⟩ => ⟨S1x72, .f32⟩
  | .hbm, ⟨11, _⟩ => ⟨S16x72x128, .f32⟩
  | .hbm, ⟨12, _⟩ => ⟨S16x72x128, .f32⟩
  | .hbm, ⟨13, _⟩ => ⟨S2x72x128, .fp8e4m3⟩
  | .hbm, ⟨14, _⟩ => ⟨S2x72x128, .fp8e4m3⟩
  | .local _ .vmem, ⟨0, _⟩ => ⟨S72x1x8192, .bf16⟩
  | .local _ .vmem, ⟨1, _⟩ => ⟨S8192, .f32⟩
  | .local _ .vmem, ⟨2, _⟩ => ⟨S72x1x64, .f32⟩
  | .local _ .vmem, ⟨3, _⟩ => ⟨S72x1x64, .f32⟩
  | .local _ .vmem, ⟨4, _⟩ => ⟨S2, .f32⟩
  | .local _ .vmem, ⟨5, _⟩ => ⟨S2, .f32⟩
  | .local _ .vmem, ⟨6, _⟩ => ⟨S1024x2560, .i32⟩
  | .local _ .vmem, ⟨7, _⟩ => ⟨S64x2560, .fp8e4m3⟩
  | .local _ .vmem, ⟨8, _⟩ => ⟨S2560, .f32⟩
  | .local _ .vmem, ⟨9, _⟩ => ⟨S72x8192, .fp8e4m3⟩
  | .local _ .vmem, ⟨10, _⟩ => ⟨S1x72, .f32⟩
  | .local _ .vmem, ⟨11, _⟩ => ⟨S16x72x128, .f32⟩
  | .local _ .vmem, ⟨12, _⟩ => ⟨S16x72x128, .f32⟩
  | .local _ .vmem, ⟨13, _⟩ => ⟨S2x72x128, .fp8e4m3⟩
  | .local _ .vmem, ⟨14, _⟩ => ⟨S2x72x128, .fp8e4m3⟩
  | _, _ => ⟨S72x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S72x1x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S72x1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S72x1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x2560 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x2560 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2560 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S72x8192 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x72 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S16x72x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S16x72x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x72x128 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x72x128 .fp8e4m3 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Oproj.lean ====
abbrev S72x16x128 : Shape := ⟨3, ![72, 16, 128]⟩
abbrev S72x1x8192 : Shape := ⟨3, ![72, 1, 8192]⟩
abbrev S256x8192 : Shape := ⟨2, ![256, 8192]⟩
abbrev S16x8192 : Shape := ⟨2, ![16, 8192]⟩
abbrev S8192 : Shape := ⟨1, ![8192]⟩
abbrev S72x8192 : Shape := ⟨2, ![72, 8192]⟩
abbrev S1152x128 : Shape := ⟨2, ![1152, 128]⟩
abbrev S1x8192 : Shape := ⟨2, ![1, 8192]⟩
abbrev S72x2048 : Shape := ⟨2, ![72, 2048]⟩
abbrev S1x72 : Shape := ⟨2, ![1, 72]⟩
abbrev S72x1024 : Shape := ⟨2, ![72, 1024]⟩
abbrev S256x1024 : Shape := ⟨2, ![256, 1024]⟩
abbrev S16x1024 : Shape := ⟨2, ![16, 1024]⟩
abbrev S1x1024 : Shape := ⟨2, ![1, 1024]⟩
abbrev S80x2048 : Shape := ⟨2, ![80, 2048]⟩
abbrev S72x128 : Shape := ⟨2, ![72, 128]⟩
abbrev S72 : Shape := ⟨1, ![72]⟩
abbrev S72x1 : Shape := ⟨2, ![72, 1]⟩
abbrev S8x2048 : Shape := ⟨2, ![8, 2048]⟩
abbrev S128x72 : Shape := ⟨2, ![128, 72]⟩
abbrev S80x1024 : Shape := ⟨2, ![80, 1024]⟩
abbrev S32x1024 : Shape := ⟨2, ![32, 1024]⟩
abbrev S32x1x1024 : Shape := ⟨3, ![32, 1, 1024]⟩
abbrev S32x8x1024 : Shape := ⟨3, ![32, 8, 1024]⟩
abbrev S128x1024 : Shape := ⟨2, ![128, 1024]⟩
abbrev S80x256 : Shape := ⟨2, ![80, 256]⟩

abbrev nBuf : Space → Nat
  | .hbm => 11
  | .vmem => 15
  | .smem => 0
  | _ => 0

abbrev bufTy : (tb : Table) → Fin (tcTables nBuf tb) → BufTy
  | .hbm, ⟨0, _⟩ => ⟨S72x16x128, .f32⟩
  | .hbm, ⟨1, _⟩ => ⟨S72x1x8192, .bf16⟩
  | .hbm, ⟨2, _⟩ => ⟨S256x8192, .i32⟩
  | .hbm, ⟨3, _⟩ => ⟨S16x8192, .fp8e4m3⟩
  | .hbm, ⟨4, _⟩ => ⟨S8192, .f32⟩
  | .hbm, ⟨5, _⟩ => ⟨S72x8192, .bf16⟩
  | .hbm, ⟨6, _⟩ => ⟨S1152x128, .f32⟩
  | .hbm, ⟨7, _⟩ => ⟨S1x8192, .f32⟩
  | .hbm, ⟨8, _⟩ => ⟨S72x8192, .f32⟩
  | .hbm, ⟨9, _⟩ => ⟨S72x2048, .fp8e4m3⟩
  | .hbm, ⟨10, _⟩ => ⟨S1x72, .f32⟩
  | .local _ .vmem, ⟨0, _⟩ => ⟨S1152x128, .f32⟩
  | .local _ .vmem, ⟨1, _⟩ => ⟨S72x1024, .bf16⟩
  | .local _ .vmem, ⟨2, _⟩ => ⟨S72x1024, .bf16⟩
  | .local _ .vmem, ⟨3, _⟩ => ⟨S256x1024, .i32⟩
  | .local _ .vmem, ⟨4, _⟩ => ⟨S256x1024, .i32⟩
  | .local _ .vmem, ⟨5, _⟩ => ⟨S16x1024, .fp8e4m3⟩
  | .local _ .vmem, ⟨6, _⟩ => ⟨S16x1024, .fp8e4m3⟩
  | .local _ .vmem, ⟨7, _⟩ => ⟨S1x1024, .f32⟩
  | .local _ .vmem, ⟨8, _⟩ => ⟨S1x1024, .f32⟩
  | .local _ .vmem, ⟨9, _⟩ => ⟨S72x1024, .f32⟩
  | .local _ .vmem, ⟨10, _⟩ => ⟨S72x1024, .f32⟩
  | .local _ .vmem, ⟨11, _⟩ => ⟨S72x2048, .fp8e4m3⟩
  | .local _ .vmem, ⟨12, _⟩ => ⟨S1x72, .f32⟩
  | .local _ .vmem, ⟨13, _⟩ => ⟨S80x2048, .bf16⟩
  | .local _ .vmem, ⟨14, _⟩ => ⟨S72x128, .f32⟩
  | _, _ => ⟨S72x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1152x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S72x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S72x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S72x2048 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x72 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== OprojRefIdeal.lean ====
abbrev S72x16x128 : Shape := ⟨3, ![72, 16, 128]⟩
abbrev S72x1x8192 : Shape := ⟨3, ![72, 1, 8192]⟩
abbrev S256x8192 : Shape := ⟨2, ![256, 8192]⟩
abbrev S16x8192 : Shape := ⟨2, ![16, 8192]⟩
abbrev S8192 : Shape := ⟨1, ![8192]⟩
abbrev S72x8192 : Shape := ⟨2, ![72, 8192]⟩
abbrev S72x2048 : Shape := ⟨2, ![72, 2048]⟩
abbrev S1x72 : Shape := ⟨2, ![1, 72]⟩
abbrev S72 : Shape := ⟨1, ![72]⟩
abbrev S72x1 : Shape := ⟨2, ![72, 1]⟩
abbrev S8x1x1 : Shape := ⟨3, ![8, 1, 1]⟩
abbrev S1x256x8192 : Shape := ⟨3, ![1, 256, 8192]⟩
abbrev S8x256x8192 : Shape := ⟨3, ![8, 256, 8192]⟩
abbrev S16x1x8192 : Shape := ⟨3, ![16, 1, 8192]⟩
abbrev S16x16x8192 : Shape := ⟨3, ![16, 16, 8192]⟩
abbrev S72x256x8 : Shape := ⟨3, ![72, 256, 8]⟩
abbrev S1x8192 : Shape := ⟨2, ![1, 8192]⟩

abbrev nBuf : Space → Nat
  | .hbm => 8
  | .vmem => 8
  | .smem => 0
  | _ => 0

abbrev bufTy : (tb : Table) → Fin (tcTables nBuf tb) → BufTy
  | .hbm, ⟨0, _⟩ => ⟨S72x16x128, .f32⟩
  | .hbm, ⟨1, _⟩ => ⟨S72x1x8192, .bf16⟩
  | .hbm, ⟨2, _⟩ => ⟨S256x8192, .i32⟩
  | .hbm, ⟨3, _⟩ => ⟨S16x8192, .fp8e4m3⟩
  | .hbm, ⟨4, _⟩ => ⟨S8192, .f32⟩
  | .hbm, ⟨5, _⟩ => ⟨S72x8192, .f32⟩
  | .hbm, ⟨6, _⟩ => ⟨S72x2048, .fp8e4m3⟩
  | .hbm, ⟨7, _⟩ => ⟨S1x72, .f32⟩
  | .local _ .vmem, ⟨0, _⟩ => ⟨S72x16x128, .f32⟩
  | .local _ .vmem, ⟨1, _⟩ => ⟨S72x1x8192, .bf16⟩
  | .local _ .vmem, ⟨2, _⟩ => ⟨S256x8192, .i32⟩
  | .local _ .vmem, ⟨3, _⟩ => ⟨S16x8192, .fp8e4m3⟩
  | .local _ .vmem, ⟨4, _⟩ => ⟨S8192, .f32⟩
  | .local _ .vmem, ⟨5, _⟩ => ⟨S72x8192, .f32⟩
  | .local _ .vmem, ⟨6, _⟩ => ⟨S72x2048, .fp8e4m3⟩
  | .local _ .vmem, ⟨7, _⟩ => ⟨S1x72, .f32⟩
  | _, _ => ⟨S72x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S72x16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S72x1x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x8192 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x8192 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S72x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S72x2048 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x72 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Gu.lean ====
abbrev S72x8192 : Shape := ⟨2, ![72, 8192]⟩
abbrev S8192 : Shape := ⟨1, ![8192]⟩
abbrev S1024x14336 : Shape := ⟨2, ![1024, 14336]⟩
abbrev S64x14336 : Shape := ⟨2, ![64, 14336]⟩
abbrev S14336 : Shape := ⟨1, ![14336]⟩
abbrev S1x14336 : Shape := ⟨2, ![1, 14336]⟩
abbrev S1x8192 : Shape := ⟨2, ![1, 8192]⟩
abbrev S72x7168 : Shape := ⟨2, ![72, 7168]⟩
abbrev S1x72 : Shape := ⟨2, ![1, 72]⟩
abbrev S1024x512 : Shape := ⟨2, ![1024, 512]⟩
abbrev S64x512 : Shape := ⟨2, ![64, 512]⟩
abbrev S1x512 : Shape := ⟨2, ![1, 512]⟩
abbrev S72x512 : Shape := ⟨2, ![72, 512]⟩
abbrev S80x8192 : Shape := ⟨2, ![80, 8192]⟩
abbrev S72x128 : Shape := ⟨2, ![72, 128]⟩
abbrev S72 : Shape := ⟨1, ![72]⟩
abbrev S72x1 : Shape := ⟨2, ![72, 1]⟩
abbrev S8x8192 : Shape := ⟨2, ![8, 8192]⟩
abbrev S128x72 : Shape := ⟨2, ![128, 72]⟩
abbrev S80x512 : Shape := ⟨2, ![80, 512]⟩
abbrev S32x512 : Shape := ⟨2, ![32, 512]⟩
abbrev S32x1x512 : Shape := ⟨3, ![32, 1, 512]⟩
abbrev S32x8x512 : Shape := ⟨3, ![32, 8, 512]⟩
abbrev S256x512 : Shape := ⟨2, ![256, 512]⟩
abbrev S128x512 : Shape := ⟨2, ![128, 512]⟩
abbrev S80x256 : Shape := ⟨2, ![80, 256]⟩

abbrev nBuf : Space → Nat
  | .hbm => 10
  | .vmem => 20
  | .smem => 0
  | _ => 0

abbrev bufTy : (tb : Table) → Fin (tcTables nBuf tb) → BufTy
  | .hbm, ⟨0, _⟩ => ⟨S72x8192, .f32⟩
  | .hbm, ⟨1, _⟩ => ⟨S8192, .f32⟩
  | .hbm, ⟨2, _⟩ => ⟨S1024x14336, .i32⟩
  | .hbm, ⟨3, _⟩ => ⟨S64x14336, .fp8e4m3⟩
  | .hbm, ⟨4, _⟩ => ⟨S14336, .f32⟩
  | .hbm, ⟨5, _⟩ => ⟨S1x14336, .f32⟩
  | .hbm, ⟨6, _⟩ => ⟨S1x8192, .f32⟩
  | .hbm, ⟨7, _⟩ => ⟨S72x7168, .f32⟩
  | .hbm, ⟨8, _⟩ => ⟨S72x8192, .fp8e4m3⟩
  | .hbm, ⟨9, _⟩ => ⟨S1x72, .f32⟩
  | .local _ .vmem, ⟨0, _⟩ => ⟨S72x8192, .f32⟩
  | .local _ .vmem, ⟨1, _⟩ => ⟨S1x8192, .f32⟩
  | .local _ .vmem, ⟨2, _⟩ => ⟨S1024x512, .i32⟩
  | .local _ .vmem, ⟨3, _⟩ => ⟨S1024x512, .i32⟩
  | .local _ .vmem, ⟨4, _⟩ => ⟨S1024x512, .i32⟩
  | .local _ .vmem, ⟨5, _⟩ => ⟨S1024x512, .i32⟩
  | .local _ .vmem, ⟨6, _⟩ => ⟨S64x512, .fp8e4m3⟩
  | .local _ .vmem, ⟨7, _⟩ => ⟨S64x512, .fp8e4m3⟩
  | .local _ .vmem, ⟨8, _⟩ => ⟨S64x512, .fp8e4m3⟩
  | .local _ .vmem, ⟨9, _⟩ => ⟨S64x512, .fp8e4m3⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S72x512, .f32⟩
  | .local _ .vmem, ⟨15, _⟩ => ⟨S72x512, .f32⟩
  | .local _ .vmem, ⟨16, _⟩ => ⟨S72x8192, .fp8e4m3⟩
  | .local _ .vmem, ⟨17, _⟩ => ⟨S1x72, .f32⟩
  | .local _ .vmem, ⟨18, _⟩ => ⟨S80x8192, .bf16⟩
  | .local _ .vmem, ⟨19, _⟩ => ⟨S72x128, .f32⟩
  | _, _ => ⟨S72x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![14], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c14_i32 : BitVec 32 := 14#32
  let v0 : BitVec 32 := Scalar.addi arg0 c14_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c14_i32 : BitVec 32 := 14#32
  let v0 : BitVec 32 := Scalar.addi arg0 c14_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c14_i32 : BitVec 32 := 14#32
  let v0 : BitVec 32 := Scalar.addi arg0 c14_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S72x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x512 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S72x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S72x8192 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x72 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== GuRefIdeal.lean ====
abbrev S72x8192 : Shape := ⟨2, ![72, 8192]⟩
abbrev S8192 : Shape := ⟨1, ![8192]⟩
abbrev S1024x14336 : Shape := ⟨2, ![1024, 14336]⟩
abbrev S64x14336 : Shape := ⟨2, ![64, 14336]⟩
abbrev S14336 : Shape := ⟨1, ![14336]⟩
abbrev S72x7168 : Shape := ⟨2, ![72, 7168]⟩
abbrev S1x72 : Shape := ⟨2, ![1, 72]⟩
abbrev S72 : Shape := ⟨1, ![72]⟩
abbrev S72x1 : Shape := ⟨2, ![72, 1]⟩
abbrev S1x8192 : Shape := ⟨2, ![1, 8192]⟩
abbrev S8x1x1 : Shape := ⟨3, ![8, 1, 1]⟩
abbrev S1x1024x14336 : Shape := ⟨3, ![1, 1024, 14336]⟩
abbrev S8x1024x14336 : Shape := ⟨3, ![8, 1024, 14336]⟩
abbrev S64x1x14336 : Shape := ⟨3, ![64, 1, 14336]⟩
abbrev S64x16x14336 : Shape := ⟨3, ![64, 16, 14336]⟩
abbrev S72x1024x8 : Shape := ⟨3, ![72, 1024, 8]⟩
abbrev S72x14336 : Shape := ⟨2, ![72, 14336]⟩
abbrev S1x14336 : Shape := ⟨2, ![1, 14336]⟩

abbrev nBuf : Space → Nat
  | .hbm => 8
  | .vmem => 8
  | .smem => 0
  | _ => 0

abbrev bufTy : (tb : Table) → Fin (tcTables nBuf tb) → BufTy
  | .hbm, ⟨0, _⟩ => ⟨S72x8192, .f32⟩
  | .hbm, ⟨1, _⟩ => ⟨S8192, .f32⟩
  | .hbm, ⟨2, _⟩ => ⟨S1024x14336, .i32⟩
  | .hbm, ⟨3, _⟩ => ⟨S64x14336, .fp8e4m3⟩
  | .hbm, ⟨4, _⟩ => ⟨S14336, .f32⟩
  | .hbm, ⟨5, _⟩ => ⟨S72x7168, .f32⟩
  | .hbm, ⟨6, _⟩ => ⟨S72x8192, .fp8e4m3⟩
  | .hbm, ⟨7, _⟩ => ⟨S1x72, .f32⟩
  | .local _ .vmem, ⟨0, _⟩ => ⟨S72x8192, .f32⟩
  | .local _ .vmem, ⟨1, _⟩ => ⟨S8192, .f32⟩
  | .local _ .vmem, ⟨2, _⟩ => ⟨S1024x14336, .i32⟩
  | .local _ .vmem, ⟨3, _⟩ => ⟨S64x14336, .fp8e4m3⟩
  | .local _ .vmem, ⟨4, _⟩ => ⟨S14336, .f32⟩
  | .local _ .vmem, ⟨5, _⟩ => ⟨S72x7168, .f32⟩
  | .local _ .vmem, ⟨6, _⟩ => ⟨S72x8192, .fp8e4m3⟩
  | .local _ .vmem, ⟨7, _⟩ => ⟨S1x72, .f32⟩
  | _, _ => ⟨S72x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S72x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x14336 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x14336 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S14336 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S72x7168 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S72x8192 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x72 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Down.lean ====
abbrev S72x7168 : Shape := ⟨2, ![72, 7168]⟩
abbrev S72x8192 : Shape := ⟨2, ![72, 8192]⟩
abbrev S896x8192 : Shape := ⟨2, ![896, 8192]⟩
abbrev S56x8192 : Shape := ⟨2, ![56, 8192]⟩
abbrev S8192 : Shape := ⟨1, ![8192]⟩
abbrev S1x8192 : Shape := ⟨2, ![1, 8192]⟩
abbrev S1x72 : Shape := ⟨2, ![1, 72]⟩
abbrev S72x512 : Shape := ⟨2, ![72, 512]⟩
abbrev S896x512 : Shape := ⟨2, ![896, 512]⟩
abbrev S56x512 : Shape := ⟨2, ![56, 512]⟩
abbrev S1x512 : Shape := ⟨2, ![1, 512]⟩
abbrev S80x7168 : Shape := ⟨2, ![80, 7168]⟩
abbrev S72x128 : Shape := ⟨2, ![72, 128]⟩
abbrev S72 : Shape := ⟨1, ![72]⟩
abbrev S72x1 : Shape := ⟨2, ![72, 1]⟩
abbrev S8x7168 : Shape := ⟨2, ![8, 7168]⟩
abbrev S128x72 : Shape := ⟨2, ![128, 72]⟩
abbrev S80x512 : Shape := ⟨2, ![80, 512]⟩
abbrev S32x512 : Shape := ⟨2, ![32, 512]⟩
abbrev S32x1x512 : Shape := ⟨3, ![32, 1, 512]⟩
abbrev S32x8x512 : Shape := ⟨3, ![32, 8, 512]⟩
abbrev S256x512 : Shape := ⟨2, ![256, 512]⟩
abbrev S128x512 : Shape := ⟨2, ![128, 512]⟩
abbrev S80x256 : Shape := ⟨2, ![80, 256]⟩

abbrev nBuf : Space → Nat
  | .hbm => 9
  | .vmem => 15
  | .smem => 0
  | _ => 0

abbrev bufTy : (tb : Table) → Fin (tcTables nBuf tb) → BufTy
  | .hbm, ⟨0, _⟩ => ⟨S72x7168, .f32⟩
  | .hbm, ⟨1, _⟩ => ⟨S72x8192, .f32⟩
  | .hbm, ⟨2, _⟩ => ⟨S896x8192, .i32⟩
  | .hbm, ⟨3, _⟩ => ⟨S56x8192, .fp8e4m3⟩
  | .hbm, ⟨4, _⟩ => ⟨S8192, .f32⟩
  | .hbm, ⟨5, _⟩ => ⟨S1x8192, .f32⟩
  | .hbm, ⟨6, _⟩ => ⟨S72x8192, .bf16⟩
  | .hbm, ⟨7, _⟩ => ⟨S72x7168, .fp8e4m3⟩
  | .hbm, ⟨8, _⟩ => ⟨S1x72, .f32⟩
  | .local _ .vmem, ⟨0, _⟩ => ⟨S72x7168, .f32⟩
  | .local _ .vmem, ⟨1, _⟩ => ⟨S72x512, .f32⟩
  | .local _ .vmem, ⟨2, _⟩ => ⟨S72x512, .f32⟩
  | .local _ .vmem, ⟨3, _⟩ => ⟨S896x512, .i32⟩
  | .local _ .vmem, ⟨4, _⟩ => ⟨S896x512, .i32⟩
  | .local _ .vmem, ⟨5, _⟩ => ⟨S56x512, .fp8e4m3⟩
  | .local _ .vmem, ⟨6, _⟩ => ⟨S56x512, .fp8e4m3⟩
  | .local _ .vmem, ⟨7, _⟩ => ⟨S1x512, .f32⟩
  | .local _ .vmem, ⟨8, _⟩ => ⟨S1x512, .f32⟩
  | .local _ .vmem, ⟨9, _⟩ => ⟨S72x512, .bf16⟩
  | .local _ .vmem, ⟨10, _⟩ => ⟨S72x512, .bf16⟩
  | .local _ .vmem, ⟨11, _⟩ => ⟨S72x7168, .fp8e4m3⟩
  | .local _ .vmem, ⟨12, _⟩ => ⟨S1x72, .f32⟩
  | .local _ .vmem, ⟨13, _⟩ => ⟨S80x7168, .bf16⟩
  | .local _ .vmem, ⟨14, _⟩ => ⟨S72x128, .f32⟩
  | _, _ => ⟨S72x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S72x7168 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S72x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S896x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S56x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S72x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S72x7168 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x72 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== DownRefIdeal.lean ====
abbrev S72x7168 : Shape := ⟨2, ![72, 7168]⟩
abbrev S72x8192 : Shape := ⟨2, ![72, 8192]⟩
abbrev S896x8192 : Shape := ⟨2, ![896, 8192]⟩
abbrev S56x8192 : Shape := ⟨2, ![56, 8192]⟩
abbrev S8192 : Shape := ⟨1, ![8192]⟩
abbrev S1x72 : Shape := ⟨2, ![1, 72]⟩
abbrev S72 : Shape := ⟨1, ![72]⟩
abbrev S72x1 : Shape := ⟨2, ![72, 1]⟩
abbrev S8x1x1 : Shape := ⟨3, ![8, 1, 1]⟩
abbrev S1x896x8192 : Shape := ⟨3, ![1, 896, 8192]⟩
abbrev S8x896x8192 : Shape := ⟨3, ![8, 896, 8192]⟩
abbrev S56x1x8192 : Shape := ⟨3, ![56, 1, 8192]⟩
abbrev S56x16x8192 : Shape := ⟨3, ![56, 16, 8192]⟩
abbrev S72x896x8 : Shape := ⟨3, ![72, 896, 8]⟩
abbrev S1x8192 : Shape := ⟨2, ![1, 8192]⟩

abbrev nBuf : Space → Nat
  | .hbm => 8
  | .vmem => 8
  | .smem => 0
  | _ => 0

abbrev bufTy : (tb : Table) → Fin (tcTables nBuf tb) → BufTy
  | .hbm, ⟨0, _⟩ => ⟨S72x7168, .f32⟩
  | .hbm, ⟨1, _⟩ => ⟨S72x8192, .f32⟩
  | .hbm, ⟨2, _⟩ => ⟨S896x8192, .i32⟩
  | .hbm, ⟨3, _⟩ => ⟨S56x8192, .fp8e4m3⟩
  | .hbm, ⟨4, _⟩ => ⟨S8192, .f32⟩
  | .hbm, ⟨5, _⟩ => ⟨S72x8192, .bf16⟩
  | .hbm, ⟨6, _⟩ => ⟨S72x7168, .fp8e4m3⟩
  | .hbm, ⟨7, _⟩ => ⟨S1x72, .f32⟩
  | .local _ .vmem, ⟨0, _⟩ => ⟨S72x7168, .f32⟩
  | .local _ .vmem, ⟨1, _⟩ => ⟨S72x8192, .f32⟩
  | .local _ .vmem, ⟨2, _⟩ => ⟨S896x8192, .i32⟩
  | .local _ .vmem, ⟨3, _⟩ => ⟨S56x8192, .fp8e4m3⟩
  | .local _ .vmem, ⟨4, _⟩ => ⟨S8192, .f32⟩
  | .local _ .vmem, ⟨5, _⟩ => ⟨S72x8192, .bf16⟩
  | .local _ .vmem, ⟨6, _⟩ => ⟨S72x7168, .fp8e4m3⟩
  | .local _ .vmem, ⟨7, _⟩ => ⟨S1x72, .f32⟩
  | _, _ => ⟨S72x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S72x7168 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S72x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S896x8192 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S56x8192 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S72x8192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S72x7168 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x72 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Qkv.Runs.lean ====
/- What the three cases of the Qkv kernel's body share: its branch conditions in closed form, the staging and
   scratch memrefs, and the scratch invariant with the scratch buffers as memrefs. -/
module

public import proofs.«01_k».proof.Proof.Gen.QkvIdeal.Launch
public import proofs.«01_k».proof.Proof.Gen.QkvIdeal.Skeleton
public import proofs.«01_k».proof.Proof.Gen.QkvIdeal.Points
public import proofs.«01_k».proof.Proof.Gen.QkvIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.QkvIdeal.Run
open Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 5 = 0 :=
  (fun t => by
    have ht : t.val < 5 := Nat.lt_of_lt_of_eq t.isLt N_0
    have e0 : (grid0.coords t 0).val = t.val / 1 % 5 := Pipeline.Grid.coords_val t 0 (by decide) rfl
    simp only [cond0_0, k0_cond1, e0]
    word_cmp
   : ∀ t : Fin grid0.N, cond0_0 (grid0.coords t) ↔ t.val % 5 = 0)

/-- The condition of the body's `scf.if` 1 (`k0_h2`), from the grid coordinates (the skeleton's scalar
    chain substituted). -/
abbrev cond0_1 (i : grid0.Coords) : Prop := k0_cond2 i = 1#1
/-- It holds at the points before point 4 — decided over the grid. -/
theorem hcond0_1 : ∀ t : Fin cfg0.N, cond0_1 (grid0.coords t) ↔ t.val < 4 :=
  (by decide +kernel : ∀ t : Fin grid0.N, cond0_1 (grid0.coords t) ↔ t.val < 4)

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 5 = 4 :=
  (fun t => by
    have ht : t.val < 5 := Nat.lt_of_lt_of_eq t.isLt N_0
    have e0 : (grid0.coords t 0).val = t.val / 1 % 5 := Pipeline.Grid.coords_val t 0 (by decide) rfl
    simp only [cond0_2, k0_cond3, e0]
    word_cmp
   : ∀ t : Fin grid0.N, cond0_2 (grid0.coords t) ↔ t.val % 5 = 4)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S2 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S2 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S72x8192 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8192 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S72x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S72x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x512 .i32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S64x512 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S72x8192 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x72 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S16x72x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S16x72x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S2x72x128 .fp8e4m3 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S2x72x128 .fp8e4m3 := win0_14.stage (cfg0.slots t 14)
abbrev hs0_14 (t : Fin cfg0.N) : (ms0_14 t).IsWhole := hstage0_14 ((cfg0.slots t 14).cast nbuf0_14)
/-- The scratch operands: whole scoped buffers of the kernel's own, passed beside the windows. -/
abbrev scM0_0 : Memref sig .tc .vmem S80x8192 .bf16 := Memref.whole cc0_scratch0
abbrev scM0_1 : Memref sig .tc .vmem S72x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.QkvIdeal.Run

end
-- ==== Proof.Qkv.Chain.lean ====
/- The values the Qkv kernel's body computes, one definition per value, as functions of the blocks it loads: `c_v…` of the
   product, `b_v…` in its first-point branch, `e_v…` in its last-point branch. -/
module

public import proofs.«01_k».proof.Proof.Qkv.Runs
public import Idealize.ShloMosaic.Lib.Pipeline.Value
public import Idealize.ShloMosaic.Lib.ValueIdxCore

@[expose] public section

set_option maxRecDepth 16384

noncomputable section

namespace Cert.QkvIdeal.Run
open Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offset of a whole load or store. -/
theorem off0 : (![0, 0] : Fin 2 → Nat) = fun _ => 0 := by funext a; match a with | ⟨0, _⟩ => rfl | ⟨1, _⟩ => rfl
/-- What the product and the rotation read: the two angle tables, the words, the group scales, the column scales, and the
    two scratch buffers. -/
structure Ops (F : FTy → Type) where
  cos : Vec F S72x128 .f32
  sin : Vec F S72x128 .f32
  w : Vec F S1024x512 .i32
  g : Vec F S64x512 .fp8e4m3
  cs : Vec F S1x512 .f32
  a : Vec F S80x8192 .bf16
  sc : Vec F S72x128 .f32
def c_v3 (o : Ops F) : Vec F S64x512 .fp8e4m3 := View.ld o.g (Rect.unit (s := S64x512) ![0, 0] S64x512.size inb_S64x512_S64x512_0_0)
def c_v6 (o : Ops F) : Vec F S32x512 .i32 := View.ld o.w (Rect.unit (s := S1024x512) ![0, 0] S32x512.size inb_S1024x512_S32x512_0_0)
def c_v27 (o : Ops F) : Vec F S80x256 .bf16 := View.ld o.a (Rect.unit (s := S80x8192) ![0, 0] S80x256.size inb_S80x8192_S80x256_0_0)
def c_v30 (o : Ops F) : Vec F S32x512 .i32 := View.ld o.w (Rect.unit (s := S1024x512) ![32, 0] S32x512.size inb_S1024x512_S32x512_32_0)
def c_v4 (o : Ops F) : FVec F S64x512 .f32 := k0_pay49 (c_v3 o)
def c_v29 (o : Ops F) : FVec F S80x512 .f32 := k0_pay50 (c_v3 o) (c_v6 o) (c_v27 o)
def c_v39 (o : Ops F) : IVec S256x512 4 := k0_pay51 (c_v30 o)
def c_v43 (o : Ops F) : FVec F S128x512 .bf16 := k0_pay52 (c_v3 o)
def c_v51 (o : Ops F) : Vec F S80x256 .bf16 := View.ld o.a (Rect.unit (s := S80x8192) ![0, 256] S80x256.size inb_S80x8192_S80x256_0_256)
def c_v54 (o : Ops F) : Vec F S32x512 .i32 := View.ld o.w (Rect.unit (s := S1024x512) ![64, 0] S32x512.size inb_S1024x512_S32x512_64_0)
def c_v75 (o : Ops F) : Vec F S80x256 .bf16 := View.ld o.a (Rect.unit (s := S80x8192) ![0, 512] S80x256.size inb_S80x8192_S80x256_0_512)
def c_v78 (o : Ops F) : Vec F S32x512 .i32 := View.ld o.w (Rect.unit (s := S1024x512) ![96, 0] S32x512.size inb_S1024x512_S32x512_96_0)
def c_v77 (o : Ops F) : FVec F S80x512 .f32 := k0_pay53 (c_v4 o) (c_v29 o) (c_v39 o) (c_v43 o) (c_v51 o) (c_v54 o) (c_v75 o)
def c_v87 (o : Ops F) : IVec S256x512 4 := k0_pay54 (c_v78 o)
def c_v91 (o : Ops F) : FVec F S128x512 .bf16 := k0_pay55 (c_v4 o)
def c_v99 (o : Ops F) : Vec F S80x256 .bf16 := View.ld o.a (Rect.unit (s := S80x8192) ![0, 768] S80x256.size inb_S80x8192_S80x256_0_768)
def c_v102 (o : Ops F) : Vec F S32x512 .i32 := View.ld o.w (Rect.unit (s := S1024x512) ![128, 0] S32x512.size inb_S1024x512_S32x512_128_0)
def c_v123 (o : Ops F) : Vec F S80x256 .bf16 := View.ld o.a (Rect.unit (s := S80x8192) ![0, 1024] S80x256.size inb_S80x8192_S80x256_0_1024)
def c_v126 (o : Ops F) : Vec F S32x512 .i32 := View.ld o.w (Rect.unit (s := S1024x512) ![160, 0] S32x512.size inb_S1024x512_S32x512_160_0)
def c_v125 (o : Ops F) : FVec F S80x512 .f32 := k0_pay56 (c_v4 o) (c_v77 o) (c_v87 o) (c_v91 o) (c_v99 o) (c_v102 o) (c_v123 o)
def c_v135 (o : Ops F) : IVec S256x512 4 := k0_pay57 (c_v126 o)
def c_v139 (o : Ops F) : FVec F S128x512 .bf16 := k0_pay58 (c_v4 o)
def c_v147 (o : Ops F) : Vec F S80x256 .bf16 := View.ld o.a (Rect.unit (s := S80x8192) ![0, 1280] S80x256.size inb_S80x8192_S80x256_0_1280)
def c_v150 (o : Ops F) : Vec F S32x512 .i32 := View.ld o.w (Rect.unit (s := S1024x512) ![192, 0] S32x512.size inb_S1024x512_S32x512_192_0)
def c_v171 (o : Ops F) : Vec F S80x256 .bf16 := View.ld o.a (Rect.unit (s := S80x8192) ![0, 1536] S80x256.size inb_S80x8192_S80x256_0_1536)
def c_v174 (o : Ops F) : Vec F S32x512 .i32 := View.ld o.w (Rect.unit (s := S1024x512) ![224, 0] S32x512.size inb_S1024x512_S32x512_224_0)
def c_v173 (o : Ops F) : FVec F S80x512 .f32 := k0_pay59 (c_v4 o) (c_v125 o) (c_v135 o) (c_v139 o) (c_v147 o) (c_v150 o) (c_v171 o)
def c_v183 (o : Ops F) : IVec S256x512 4 := k0_pay60 (c_v174 o)
def c_v187 (o : Ops F) : FVec F S128x512 .bf16 := k0_pay61 (c_v4 o)
def c_v195 (o : Ops F) : Vec F S80x256 .bf16 := View.ld o.a (Rect.unit (s := S80x8192) ![0, 1792] S80x256.size inb_S80x8192_S80x256_0_1792)
def c_v198 (o : Ops F) : Vec F S32x512 .i32 := View.ld o.w (Rect.unit (s := S1024x512) ![256, 0] S32x512.size inb_S1024x512_S32x512_256_0)
def c_v219 (o : Ops F) : Vec F S80x256 .bf16 := View.ld o.a (Rect.unit (s := S80x8192) ![0, 2048] S80x256.size inb_S80x8192_S80x256_0_2048)
def c_v222 (o : Ops F) : Vec F S32x512 .i32 := View.ld o.w (Rect.unit (s := S1024x512) ![288, 0] S32x512.size inb_S1024x512_S32x512_288_0)
def c_v221 (o : Ops F) : FVec F S80x512 .f32 := k0_pay62 (c_v4 o) (c_v173 o) (c_v183 o) (c_v187 o) (c_v195 o) (c_v198 o) (c_v219 o)
def c_v231 (o : Ops F) : IVec S256x512 4 := k0_pay63 (c_v222 o)
def c_v235 (o : Ops F) : FVec F S128x512 .bf16 := k0_pay64 (c_v4 o)
def c_v243 (o : Ops F) : Vec F S80x256 .bf16 := View.ld o.a (Rect.unit (s := S80x8192) ![0, 2304] S80x256.size inb_S80x8192_S80x256_0_2304)
def c_v246 (o : Ops F) : Vec F S32x512 .i32 := View.ld o.w (Rect.unit (s := S1024x512) ![320, 0] S32x512.size inb_S1024x512_S32x512_320_0)
def c_v267 (o : Ops F) : Vec F S80x256 .bf16 := View.ld o.a (Rect.unit (s := S80x8192) ![0, 2560] S80x256.size inb_S80x8192_S80x256_0_2560)
def c_v270 (o : Ops F) : Vec F S32x512 .i32 := View.ld o.w (Rect.unit (s := S1024x512) ![352, 0] S32x512.size inb_S1024x512_S32x512_352_0)
def c_v269 (o : Ops F) : FVec F S80x512 .f32 := k0_pay65 (c_v4 o) (c_v221 o) (c_v231 o) (c_v235 o) (c_v243 o) (c_v246 o) (c_v267 o)
def c_v279 (o : Ops F) : IVec S256x512 4 := k0_pay66 (c_v270 o)
def c_v283 (o : Ops F) : FVec F S128x512 .bf16 := k0_pay67 (c_v4 o)
def c_v291 (o : Ops F) : Vec F S80x256 .bf16 := View.ld o.a (Rect.unit (s := S80x8192) ![0, 2816] S80x256.size inb_S80x8192_S80x256_0_2816)
def c_v294 (o : Ops F) : Vec F S32x512 .i32 := View.ld o.w (Rect.unit (s := S1024x512) ![384, 0] S32x512.size inb_S1024x512_S32x512_384_0)
def c_v315 (o : Ops F) : Vec F S80x256 .bf16 := View.ld o.a (Rect.unit (s := S80x8192) ![0, 3072] S80x256.size inb_S80x8192_S80x256_0_3072)
def c_v318 (o : Ops F) : Vec F S32x512 .i32 := View.ld o.w (Rect.unit (s := S1024x512) ![416, 0] S32x512.size inb_S1024x512_S32x512_416_0)
def c_v317 (o : Ops F) : FVec F S80x512 .f32 := k0_pay68 (c_v4 o) (c_v269 o) (c_v279 o) (c_v283 o) (c_v291 o) (c_v294 o) (c_v315 o)
def c_v327 (o : Ops F) : IVec S256x512 4 := k0_pay69 (c_v318 o)
def c_v331 (o : Ops F) : FVec F S128x512 .bf16 := k0_pay70 (c_v4 o)
def c_v339 (o : Ops F) : Vec F S80x256 .bf16 := View.ld o.a (Rect.unit (s := S80x8192) ![0, 3328] S80x256.size inb_S80x8192_S80x256_0_3328)
def c_v342 (o : Ops F) : Vec F S32x512 .i32 := View.ld o.w (Rect.unit (s := S1024x512) ![448, 0] S32x512.size inb_S1024x512_S32x512_448_0)
def c_v363 (o : Ops F) : Vec F S80x256 .bf16 := View.ld o.a (Rect.unit (s := S80x8192) ![0, 3584] S80x256.size inb_S80x8192_S80x256_0_3584)
def c_v366 (o : Ops F) : Vec F S32x512 .i32 := View.ld o.w (Rect.unit (s := S1024x512) ![480, 0] S32x512.size inb_S1024x512_S32x512_480_0)
def c_v365 (o : Ops F) : FVec F S80x512 .f32 := k0_pay71 (c_v4 o) (c_v317 o) (c_v327 o) (c_v331 o) (c_v339 o) (c_v342 o) (c_v363 o)
def c_v375 (o : Ops F) : IVec S256x512 4 := k0_pay72 (c_v366 o)
def c_v379 (o : Ops F) : FVec F S128x512 .bf16 := k0_pay73 (c_v4 o)
def c_v387 (o : Ops F) : Vec F S80x256 .bf16 := View.ld o.a (Rect.unit (s := S80x8192) ![0, 3840] S80x256.size inb_S80x8192_S80x256_0_3840)
def c_v390 (o : Ops F) : Vec F S32x512 .i32 := View.ld o.w (Rect.unit (s := S1024x512) ![512, 0] S32x512.size inb_S1024x512_S32x512_512_0)
def c_v411 (o : Ops F) : Vec F S80x256 .bf16 := View.ld o.a (Rect.unit (s := S80x8192) ![0, 4096] S80x256.size inb_S80x8192_S80x256_0_4096)
def c_v414 (o : Ops F) : Vec F S32x512 .i32 := View.ld o.w (Rect.unit (s := S1024x512) ![544, 0] S32x512.size inb_S1024x512_S32x512_544_0)
def c_v413 (o : Ops F) : FVec F S80x512 .f32 := k0_pay74 (c_v4 o) (c_v365 o) (c_v375 o) (c_v379 o) (c_v387 o) (c_v390 o) (c_v411 o)
def c_v423 (o : Ops F) : IVec S256x512 4 := k0_pay75 (c_v414 o)
def c_v427 (o : Ops F) : FVec F S128x512 .bf16 := k0_pay76 (c_v4 o)
def c_v435 (o : Ops F) : Vec F S80x256 .bf16 := View.ld o.a (Rect.unit (s := S80x8192) ![0, 4352] S80x256.size inb_S80x8192_S80x256_0_4352)
def c_v438 (o : Ops F) : Vec F S32x512 .i32 := View.ld o.w (Rect.unit (s := S1024x512) ![576, 0] S32x512.size inb_S1024x512_S32x512_576_0)
def c_v459 (o : Ops F) : Vec F S80x256 .bf16 := View.ld o.a (Rect.unit (s := S80x8192) ![0, 4608] S80x256.size inb_S80x8192_S80x256_0_4608)
def c_v462 (o : Ops F) : Vec F S32x512 .i32 := View.ld o.w (Rect.unit (s := S1024x512) ![608, 0] S32x512.size inb_S1024x512_S32x512_608_0)
def c_v461 (o : Ops F) : FVec F S80x512 .f32 := k0_pay77 (c_v4 o) (c_v413 o) (c_v423 o) (c_v427 o) (c_v435 o) (c_v438 o) (c_v459 o)
def c_v471 (o : Ops F) : IVec S256x512 4 := k0_pay78 (c_v462 o)
def c_v475 (o : Ops F) : FVec F S128x512 .bf16 := k0_pay79 (c_v4 o)
def c_v483 (o : Ops F) : Vec F S80x256 .bf16 := View.ld o.a (Rect.unit (s := S80x8192) ![0, 4864] S80x256.size inb_S80x8192_S80x256_0_4864)
def c_v486 (o : Ops F) : Vec F S32x512 .i32 := View.ld o.w (Rect.unit (s := S1024x512) ![640, 0] S32x512.size inb_S1024x512_S32x512_640_0)
def c_v507 (o : Ops F) : Vec F S80x256 .bf16 := View.ld o.a (Rect.unit (s := S80x8192) ![0, 5120] S80x256.size inb_S80x8192_S80x256_0_5120)
def c_v510 (o : Ops F) : Vec F S32x512 .i32 := View.ld o.w (Rect.unit (s := S1024x512) ![672, 0] S32x512.size inb_S1024x512_S32x512_672_0)
def c_v509 (o : Ops F) : FVec F S80x512 .f32 := k0_pay80 (c_v4 o) (c_v461 o) (c_v471 o) (c_v475 o) (c_v483 o) (c_v486 o) (c_v507 o)
def c_v519 (o : Ops F) : IVec S256x512 4 := k0_pay81 (c_v510 o)
def c_v523 (o : Ops F) : FVec F S128x512 .bf16 := k0_pay82 (c_v4 o)
def c_v531 (o : Ops F) : Vec F S80x256 .bf16 := View.ld o.a (Rect.unit (s := S80x8192) ![0, 5376] S80x256.size inb_S80x8192_S80x256_0_5376)
def c_v534 (o : Ops F) : Vec F S32x512 .i32 := View.ld o.w (Rect.unit (s := S1024x512) ![704, 0] S32x512.size inb_S1024x512_S32x512_704_0)
def c_v555 (o : Ops F) : Vec F S80x256 .bf16 := View.ld o.a (Rect.unit (s := S80x8192) ![0, 5632] S80x256.size inb_S80x8192_S80x256_0_5632)
def c_v558 (o : Ops F) : Vec F S32x512 .i32 := View.ld o.w (Rect.unit (s := S1024x512) ![736, 0] S32x512.size inb_S1024x512_S32x512_736_0)
def c_v557 (o : Ops F) : FVec F S80x512 .f32 := k0_pay83 (c_v4 o) (c_v509 o) (c_v519 o) (c_v523 o) (c_v531 o) (c_v534 o) (c_v555 o)
def c_v567 (o : Ops F) : IVec S256x512 4 := k0_pay84 (c_v558 o)
def c_v571 (o : Ops F) : FVec F S128x512 .bf16 := k0_pay85 (c_v4 o)
def c_v579 (o : Ops F) : Vec F S80x256 .bf16 := View.ld o.a (Rect.unit (s := S80x8192) ![0, 5888] S80x256.size inb_S80x8192_S80x256_0_5888)
def c_v582 (o : Ops F) : Vec F S32x512 .i32 := View.ld o.w (Rect.unit (s := S1024x512) ![768, 0] S32x512.size inb_S1024x512_S32x512_768_0)
def c_v603 (o : Ops F) : Vec F S80x256 .bf16 := View.ld o.a (Rect.unit (s := S80x8192) ![0, 6144] S80x256.size inb_S80x8192_S80x256_0_6144)
def c_v606 (o : Ops F) : Vec F S32x512 .i32 := View.ld o.w (Rect.unit (s := S1024x512) ![800, 0] S32x512.size inb_S1024x512_S32x512_800_0)
def c_v605 (o : Ops F) : FVec F S80x512 .f32 := k0_pay86 (c_v4 o) (c_v557 o) (c_v567 o) (c_v571 o) (c_v579 o) (c_v582 o) (c_v603 o)
def c_v615 (o : Ops F) : IVec S256x512 4 := k0_pay87 (c_v606 o)
def c_v619 (o : Ops F) : FVec F S128x512 .bf16 := k0_pay88 (c_v4 o)
def c_v627 (o : Ops F) : Vec F S80x256 .bf16 := View.ld o.a (Rect.unit (s := S80x8192) ![0, 6400] S80x256.size inb_S80x8192_S80x256_0_6400)
def c_v630 (o : Ops F) : Vec F S32x512 .i32 := View.ld o.w (Rect.unit (s := S1024x512) ![832, 0] S32x512.size inb_S1024x512_S32x512_832_0)
def c_v651 (o : Ops F) : Vec F S80x256 .bf16 := View.ld o.a (Rect.unit (s := S80x8192) ![0, 6656] S80x256.size inb_S80x8192_S80x256_0_6656)
def c_v654 (o : Ops F) : Vec F S32x512 .i32 := View.ld o.w (Rect.unit (s := S1024x512) ![864, 0] S32x512.size inb_S1024x512_S32x512_864_0)
def c_v653 (o : Ops F) : FVec F S80x512 .f32 := k0_pay89 (c_v4 o) (c_v605 o) (c_v615 o) (c_v619 o) (c_v627 o) (c_v630 o) (c_v651 o)
def c_v663 (o : Ops F) : IVec S256x512 4 := k0_pay90 (c_v654 o)
def c_v667 (o : Ops F) : FVec F S128x512 .bf16 := k0_pay91 (c_v4 o)
def c_v675 (o : Ops F) : Vec F S80x256 .bf16 := View.ld o.a (Rect.unit (s := S80x8192) ![0, 6912] S80x256.size inb_S80x8192_S80x256_0_6912)
def c_v678 (o : Ops F) : Vec F S32x512 .i32 := View.ld o.w (Rect.unit (s := S1024x512) ![896, 0] S32x512.size inb_S1024x512_S32x512_896_0)
def c_v699 (o : Ops F) : Vec F S80x256 .bf16 := View.ld o.a (Rect.unit (s := S80x8192) ![0, 7168] S80x256.size inb_S80x8192_S80x256_0_7168)
def c_v702 (o : Ops F) : Vec F S32x512 .i32 := View.ld o.w (Rect.unit (s := S1024x512) ![928, 0] S32x512.size inb_S1024x512_S32x512_928_0)
def c_v701 (o : Ops F) : FVec F S80x512 .f32 := k0_pay92 (c_v4 o) (c_v653 o) (c_v663 o) (c_v667 o) (c_v675 o) (c_v678 o) (c_v699 o)
def c_v711 (o : Ops F) : IVec S256x512 4 := k0_pay93 (c_v702 o)
def c_v715 (o : Ops F) : FVec F S128x512 .bf16 := k0_pay94 (c_v4 o)
def c_v723 (o : Ops F) : Vec F S80x256 .bf16 := View.ld o.a (Rect.unit (s := S80x8192) ![0, 7424] S80x256.size inb_S80x8192_S80x256_0_7424)
def c_v726 (o : Ops F) : Vec F S32x512 .i32 := View.ld o.w (Rect.unit (s := S1024x512) ![960, 0] S32x512.size inb_S1024x512_S32x512_960_0)
def c_v747 (o : Ops F) : Vec F S80x256 .bf16 := View.ld o.a (Rect.unit (s := S80x8192) ![0, 7680] S80x256.size inb_S80x8192_S80x256_0_7680)
def c_v750 (o : Ops F) : Vec F S32x512 .i32 := View.ld o.w (Rect.unit (s := S1024x512) ![992, 0] S32x512.size inb_S1024x512_S32x512_992_0)
def c_v749 (o : Ops F) : FVec F S80x512 .f32 := k0_pay95 (c_v4 o) (c_v701 o) (c_v711 o) (c_v715 o) (c_v723 o) (c_v726 o) (c_v747 o)
def c_v759 (o : Ops F) : IVec S256x512 4 := k0_pay96 (c_v750 o)
def c_v763 (o : Ops F) : FVec F S128x512 .bf16 := k0_pay97 (c_v4 o)
def c_v771 (o : Ops F) : Vec F S80x256 .bf16 := View.ld o.a (Rect.unit (s := S80x8192) ![0, 7936] S80x256.size inb_S80x8192_S80x256_0_7936)
def c_v775 (o : Ops F) : Vec F S72x1 .f32 := View.ld o.sc (Rect.unit (s := S72x128) ![0, 0] S72x1.size inb_S72x128_S72x1_0_0)
def c_v778 (o : Ops F) : Vec F S1x512 .f32 := View.ld o.cs (Rect.unit (s := S1x512) ![0, 0] S1x512.size inb_S1x512_S1x512_0_0)
def c_v786 (o : Ops F) : Vec F S72x128 .f32 := View.ld o.cos (Rect.unit (s := S72x128) ![0, 0] S72x128.size inb_S72x128_S72x128_0_0)
def c_v788 (o : Ops F) : Vec F S72x128 .f32 := View.ld o.sin (Rect.unit (s := S72x128) ![0, 0] S72x128.size inb_S72x128_S72x128_0_0)
def c_v782 (o : Ops F) : FVec F S72x128 .f32 := k0_pay99 (c_v4 o) (c_v749 o) (c_v759 o) (c_v763 o) (c_v771 o) (c_v775 o) (c_v778 o)
def c_v783 (o : Ops F) : FVec F S72x128 .f32 := k0_pay100 (c_v4 o) (c_v749 o) (c_v759 o) (c_v763 o) (c_v771 o) (c_v775 o) (c_v778 o)
def c_v784 (o : Ops F) : FVec F S72x128 .f32 := k0_pay101 (c_v4 o) (c_v749 o) (c_v759 o) (c_v763 o) (c_v771 o) (c_v775 o) (c_v778 o)
def c_v785 (o : Ops F) : FVec F S72x128 .f32 := k0_pay102 (c_v4 o) (c_v749 o) (c_v759 o) (c_v763 o) (c_v771 o) (c_v775 o) (c_v778 o)
def c_v787 (o : Ops F) : FVec F S72x128 .f32 := k0_pay103 (c_v786 o)
def c_v789 (o : Ops F) : FVec F S72x128 .f32 := k0_pay104 (c_v788 o)
def b_v796 (x2 : Vec F S72x8192 .bf16) (x3 : Vec F S1x8192 .f32) : Vec F S72x8192 .bf16 := View.ld x2 (Rect.unit (s := S72x8192) ![0, 0] S72x8192.size inb_S72x8192_S72x8192_0_0)
def b_v799 (x2 : Vec F S72x8192 .bf16) (x3 : Vec F S1x8192 .f32) : Vec F S1x8192 .f32 := View.ld x3 (Rect.unit (s := S1x8192) ![0, 0] S1x8192.size inb_S1x8192_S1x8192_0_0)
def b_v821 (x2 : Vec F S72x8192 .bf16) (x3 : Vec F S1x8192 .f32) : FVec F S72x1 .f32 := k0_pay3 (b_v796 x2 x3) (b_v799 x2 x3)
def b_v834 (x2 : Vec F S72x8192 .bf16) (x3 : Vec F S1x8192 .f32) : FVec F S8x8192 .bf16 := k0_pay6 (F := F)
/-- What the first point leaves in `arg10`. -/
def q_c (x2 : Vec F S72x8192 .bf16) (x3 : Vec F S1x8192 .f32) : Vec F S72x8192 .fp8e4m3 := View.canon [⟨Rect.unit (s := S72x8192) ![0, 0] S72x8192.size inb_S72x8192_S72x8192_0_0, k0_pay4 (b_v796 x2 x3) (b_v799 x2 x3)⟩]
/-- The stores of the first point into `arg10` cover it. -/
theorem cover_c (p0 : Vec F S72x8192 .fp8e4m3) (y : S72x8192.Idx) :
    ∃ pc ∈ ([⟨Rect.unit (s := S72x8192) ![0, 0] S72x8192.size inb_S72x8192_S72x8192_0_0, p0⟩] : List (View.Piece (Elt F) S72x8192 .fp8e4m3)), y ∈ pc.1.set :=
  View.cover_of_tiled [⟨Rect.unit (s := S72x8192) ![0, 0] S72x8192.size inb_S72x8192_S72x8192_0_0, p0⟩] S72x8192.size (by rfl) y
/-- What the first point leaves in `arg11`. -/
def q_s (x2 : Vec F S72x8192 .bf16) (x3 : Vec F S1x8192 .f32) : Vec F S1x72 .f32 := View.canon [⟨Rect.unit (s := S1x72) ![0, 0] S1x72.size inb_S1x72_S1x72_0_0, k0_pay48 (b_v821 x2 x3)⟩]
/-- The stores of the first point into `arg11` cover it. -/
theorem cover_s (p0 : Vec F S1x72 .f32) (y : S1x72.Idx) :
    ∃ pc ∈ ([⟨Rect.unit (s := S1x72) ![0, 0] S1x72.size inb_S1x72_S1x72_0_0, p0⟩] : List (View.Piece (Elt F) S1x72 .f32)), y ∈ pc.1.set :=
  View.cover_of_tiled [⟨Rect.unit (s := S1x72) ![0, 0] S1x72.size inb_S1x72_S1x72_0_0, p0⟩] S1x72.size (by rfl) y
/-- What the first point leaves in `arg16`. -/
def q_a (x2 : Vec F S72x8192 .bf16) (x3 : Vec F S1x8192 .f32) : Vec F S80x8192 .bf16 := View.canon [⟨Rect.unit (s := S80x8192) ![72, 0] S8x8192.size inb_S80x8192_S8x8192_72_0, k0_pay45 (b_v834 x2 x3)⟩, ⟨Rect.unit (s := S80x8192) ![0, 0] S72x8192.size inb_S80x8192_S72x8192_0_0, k0_pay5 (b_v796 x2 x3) (b_v799 x2 x3)⟩]
/-- The stores of the first point into `arg16` cover it. -/
theorem cover_a (p0 : Vec F S8x8192 .bf16) (p1 : Vec F S72x8192 .bf16) (y : S80x8192.Idx) :
    ∃ pc ∈ ([⟨Rect.unit (s := S80x8192) ![72, 0] S8x8192.size inb_S80x8192_S8x8192_72_0, p0⟩, ⟨Rect.unit (s := S80x8192) ![0, 0] S72x8192.size inb_S80x8192_S72x8192_0_0, p1⟩] : List (View.Piece (Elt F) S80x8192 .bf16)), y ∈ pc.1.set :=
  by
  by_cases h : (y 0).val < 72
  · refine ⟨_, List.mem_cons_of_mem _ (List.mem_singleton_self _), ?_⟩
    refine (Rect.mem_set_unit (inb := inb_S80x8192_S72x8192_0_0)).mpr fun a => ?_
    match a with
    | ⟨0, _⟩ => exact ⟨Nat.zero_le _, by show (y 0).val < 0 + 72; omega⟩
    | ⟨1, _⟩ => exact ⟨Nat.zero_le _, Nat.lt_of_lt_of_eq (y 1).isLt (Nat.zero_add _).symm⟩
  · refine ⟨_, List.mem_cons_self .., ?_⟩
    refine (Rect.mem_set_unit (inb := inb_S80x8192_S8x8192_72_0)).mpr fun a => ?_
    match a with
    | ⟨0, _⟩ => exact ⟨by show 72 ≤ (y 0).val; omega, by have : (y 0).val < 80 := (y 0).isLt; show (y 0).val < 72 + 8; omega⟩
    | ⟨1, _⟩ => exact ⟨Nat.zero_le _, Nat.lt_of_lt_of_eq (y 1).isLt (Nat.zero_add _).symm⟩
/-- What the first point leaves in `arg17`. -/
def q_sc (x2 : Vec F S72x8192 .bf16) (x3 : Vec F S1x8192 .f32) : Vec F S72x128 .f32 := View.canon [⟨Rect.unit (s := S72x128) ![0, 0] S72x128.size inb_S72x128_S72x128_0_0, k0_pay47 (b_v821 x2 x3)⟩]
/-- The stores of the first point into `arg17` cover it. -/
theorem cover_sc (p0 : Vec F S72x128 .f32) (y : S72x128.Idx) :
    ∃ pc ∈ ([⟨Rect.unit (s := S72x128) ![0, 0] S72x128.size inb_S72x128_S72x128_0_0, p0⟩] : List (View.Piece (Elt F) S72x128 .f32)), y ∈ pc.1.set :=
  View.cover_of_tiled [⟨Rect.unit (s := S72x128) ![0, 0] S72x128.size inb_S72x128_S72x128_0_0, p0⟩] S72x128.size (by rfl) y
/-- The rotated head `k` of the block, as the body stores it. -/
def qp (o : Ops F) (k : ℕ) : Vec F S1x72x128 .f32 :=
  match k with
  | 0 => k0_pay7 (c_v782 o) (c_v787 o) (c_v789 o)
  | 1 => k0_pay8 (c_v783 o) (c_v787 o) (c_v789 o)
  | 2 => k0_pay9 (c_v784 o) (c_v787 o) (c_v789 o)
  | _ => k0_pay105 (k0_pay10 (c_v785 o) (c_v787 o) (c_v789 o))
/-- The queries after a point's four heads are stored: those four from `p`, the others as they were. -/
def qNext (i : grid0.Coords) (p : ℕ → Vec F S1x72x128 .f32) (d : Vec F S16x72x128 .f32) : Vec F S16x72x128 .f32 :=
  fun y => if (y 0).val / 4 = (i 0).val then p ((y 0).val % 4) (ValueIdx.ix3 0 (y 1) (y 2)) else d y
/-- Element 0 of a pair of scales. -/
def sm0 (x : Vec F S2 .f32) : Elt F .f32 := View.ld x (Rect.unit (s := S2) ![0] S1.size inb_S2_S1_0) (Shape.Idx.first (numel1_S1.symm ▸ Nat.one_pos))
/-- Element 1 of a pair of scales. -/
def sm1 (x : Vec F S2 .f32) : Elt F .f32 := View.ld x (Rect.unit (s := S2) ![1] S1.size inb_S2_S1_1) (Shape.Idx.first (numel1_S1.symm ▸ Nat.one_pos))
def e_v823 (o : Ops F) (x0 x1 : Vec F S2 .f32) (q : Vec F S16x72x128 .f32) : Vec F S1x72x128 .f32 := View.ld q (Rect.unit (s := S16x72x128) ![0, 0, 0] S1x72x128.size inb_S16x72x128_S1x72x128_0_0_0)
def e_v822 (o : Ops F) (x0 x1 : Vec F S2 .f32) (q : Vec F S16x72x128 .f32) : FVec F S72x128 .f32 := k0_pay14 (c_v782 o) (c_v787 o) (c_v789 o) (sm0 x0)
def e_v833 (o : Ops F) (x0 x1 : Vec F S2 .f32) (q : Vec F S16x72x128 .f32) : FVec F S72x1 .f32 := k0_pay15 (c_v782 o) (c_v787 o) (c_v789 o) (sm0 x0) (e_v823 o x0 x1 q) (sm0 x0)
def e_v841 (o : Ops F) (x0 x1 : Vec F S2 .f32) (q : Vec F S16x72x128 .f32) : Vec F S1x72x128 .f32 := View.ld q (Rect.unit (s := S16x72x128) ![1, 0, 0] S1x72x128.size inb_S16x72x128_S1x72x128_1_0_0)
def e_v859 (o : Ops F) (x0 x1 : Vec F S2 .f32) (q : Vec F S16x72x128 .f32) : Vec F S1x72x128 .f32 := View.ld q (Rect.unit (s := S16x72x128) ![2, 0, 0] S1x72x128.size inb_S16x72x128_S1x72x128_2_0_0)
def e_v871 (o : Ops F) (x0 x1 : Vec F S2 .f32) (q : Vec F S16x72x128 .f32) : FVec F S72x1 .f32 := k0_pay18 (e_v822 o x0 x1 q) (e_v859 o x0 x1 q) (sm0 x0)
def e_v877 (o : Ops F) (x0 x1 : Vec F S2 .f32) (q : Vec F S16x72x128 .f32) : Vec F S1x72x128 .f32 := View.ld q (Rect.unit (s := S16x72x128) ![3, 0, 0] S1x72x128.size inb_S16x72x128_S1x72x128_3_0_0)
def e_v895 (o : Ops F) (x0 x1 : Vec F S2 .f32) (q : Vec F S16x72x128 .f32) : Vec F S1x72x128 .f32 := View.ld q (Rect.unit (s := S16x72x128) ![4, 0, 0] S1x72x128.size inb_S16x72x128_S1x72x128_4_0_0)
def e_v909 (o : Ops F) (x0 x1 : Vec F S2 .f32) (q : Vec F S16x72x128 .f32) : FVec F S72x128 .f32 := k0_pay21 (e_v822 o x0 x1 q) (e_v895 o x0 x1 q) (sm0 x0)
def e_v913 (o : Ops F) (x0 x1 : Vec F S2 .f32) (q : Vec F S16x72x128 .f32) : Vec F S1x72x128 .f32 := View.ld q (Rect.unit (s := S16x72x128) ![5, 0, 0] S1x72x128.size inb_S16x72x128_S1x72x128_5_0_0)
def e_v931 (o : Ops F) (x0 x1 : Vec F S2 .f32) (q : Vec F S16x72x128 .f32) : Vec F S1x72x128 .f32 := View.ld q (Rect.unit (s := S16x72x128) ![6, 0, 0] S1x72x128.size inb_S16x72x128_S1x72x128_6_0_0)
def e_v945 (o : Ops F) (x0 x1 : Vec F S2 .f32) (q : Vec F S16x72x128 .f32) : FVec F S72x128 .f32 := k0_pay24 (e_v822 o x0 x1 q) (e_v931 o x0 x1 q) (sm0 x0)
def e_v949 (o : Ops F) (x0 x1 : Vec F S2 .f32) (q : Vec F S16x72x128 .f32) : Vec F S1x72x128 .f32 := View.ld q (Rect.unit (s := S16x72x128) ![7, 0, 0] S1x72x128.size inb_S16x72x128_S1x72x128_7_0_0)
def e_v978 (o : Ops F) (x0 x1 : Vec F S2 .f32) (q : Vec F S16x72x128 .f32) : FVec F S72x128 .fp8e4m3 := k0_pay27 (c_v783 o) (c_v787 o) (c_v789 o) (sm1 x0)
def e_v983 (o : Ops F) (x0 x1 : Vec F S2 .f32) (q : Vec F S16x72x128 .f32) : FVec F S72x128 .f32 := k0_pay29 (sm1 x1)
def e_v994 (o : Ops F) (x0 x1 : Vec F S2 .f32) (q : Vec F S16x72x128 .f32) : Vec F S1x72x128 .f32 := View.ld q (Rect.unit (s := S16x72x128) ![8, 0, 0] S1x72x128.size inb_S16x72x128_S1x72x128_8_0_0)
def e_v1012 (o : Ops F) (x0 x1 : Vec F S2 .f32) (q : Vec F S16x72x128 .f32) : Vec F S1x72x128 .f32 := View.ld q (Rect.unit (s := S16x72x128) ![9, 0, 0] S1x72x128.size inb_S16x72x128_S1x72x128_9_0_0)
def e_v993 (o : Ops F) (x0 x1 : Vec F S2 .f32) (q : Vec F S16x72x128 .f32) : FVec F S72x128 .f32 := k0_pay31 (e_v978 o x0 x1 q)
def e_v1018 (o : Ops F) (x0 x1 : Vec F S2 .f32) (q : Vec F S16x72x128 .f32) : FVec F S72x1 .f32 := k0_pay33 (e_v978 o x0 x1 q) (e_v1012 o x0 x1 q)
def e_v1020 (o : Ops F) (x0 x1 : Vec F S2 .f32) (q : Vec F S16x72x128 .f32) : F .f32 := k0_pay34 (sm1 x0)
def e_v1030 (o : Ops F) (x0 x1 : Vec F S2 .f32) (q : Vec F S16x72x128 .f32) : Vec F S1x72x128 .f32 := View.ld q (Rect.unit (s := S16x72x128) ![10, 0, 0] S1x72x128.size inb_S16x72x128_S1x72x128_10_0_0)
def e_v1048 (o : Ops F) (x0 x1 : Vec F S2 .f32) (q : Vec F S16x72x128 .f32) : Vec F S1x72x128 .f32 := View.ld q (Rect.unit (s := S16x72x128) ![11, 0, 0] S1x72x128.size inb_S16x72x128_S1x72x128_11_0_0)
def e_v1058 (o : Ops F) (x0 x1 : Vec F S2 .f32) (q : Vec F S16x72x128 .f32) : FVec F S72x1 .f32 := k0_pay37 (e_v993 o x0 x1 q) (e_v1048 o x0 x1 q) (sm1 x0)
def e_v1066 (o : Ops F) (x0 x1 : Vec F S2 .f32) (q : Vec F S16x72x128 .f32) : Vec F S1x72x128 .f32 := View.ld q (Rect.unit (s := S16x72x128) ![12, 0, 0] S1x72x128.size inb_S16x72x128_S1x72x128_12_0_0)
def e_v1084 (o : Ops F) (x0 x1 : Vec F S2 .f32) (q : Vec F S16x72x128 .f32) : Vec F S1x72x128 .f32 := View.ld q (Rect.unit (s := S16x72x128) ![13, 0, 0] S1x72x128.size inb_S16x72x128_S1x72x128_13_0_0)
def e_v1094 (o : Ops F) (x0 x1 : Vec F S2 .f32) (q : Vec F S16x72x128 .f32) : FVec F S72x1 .f32 := k0_pay40 (e_v993 o x0 x1 q) (e_v1084 o x0 x1 q) (sm1 x0)
def e_v1095 (o : Ops F) (x0 x1 : Vec F S2 .f32) (q : Vec F S16x72x128 .f32) : FVec F S72x1 .f32 := k0_pay41 (F := F)
def e_v1102 (o : Ops F) (x0 x1 : Vec F S2 .f32) (q : Vec F S16x72x128 .f32) : Vec F S1x72x128 .f32 := View.ld q (Rect.unit (s := S16x72x128) ![14, 0, 0] S1x72x128.size inb_S16x72x128_S1x72x128_14_0_0)
def e_v1120 (o : Ops F) (x0 x1 : Vec F S2 .f32) (q : Vec F S16x72x128 .f32) : Vec F S1x72x128 .f32 := View.ld q (Rect.unit (s := S16x72x128) ![15, 0, 0] S1x72x128.size inb_S16x72x128_S1x72x128_15_0_0)
def e_v1133 (o : Ops F) (x0 x1 : Vec F S2 .f32) (q : Vec F S16x72x128 .f32) : FVec F S72x1 .f32 := k0_pay44 (e_v993 o x0 x1 q) (e_v1120 o x0 x1 q) (sm1 x0)
/-- What the last point leaves in `arg13`. -/
def q_sn (o : Ops F) (x0 x1 : Vec F S2 .f32) (q : Vec F S16x72x128 .f32) : Vec F S16x72x128 .f32 := View.canon [⟨Rect.unit (s := S16x72x128) ![15, 0, 0] S1x72x128.size inb_S16x72x128_S1x72x128_15_0_0, k0_pay1 (e_v1133 o x0 x1 q)⟩,
  ⟨Rect.unit (s := S16x72x128) ![14, 0, 0] S1x72x128.size inb_S16x72x128_S1x72x128_14_0_0, k0_pay43 (e_v993 o x0 x1 q) (e_v1102 o x0 x1 q) (sm1 x0)⟩,
  ⟨Rect.unit (s := S16x72x128) ![13, 0, 0] S1x72x128.size inb_S16x72x128_S1x72x128_13_0_0, k0_pay42 (e_v1094 o x0 x1 q) (e_v1095 o x0 x1 q)⟩,
  ⟨Rect.unit (s := S16x72x128) ![12, 0, 0] S1x72x128.size inb_S16x72x128_S1x72x128_12_0_0, k0_pay39 (e_v993 o x0 x1 q) (e_v1066 o x0 x1 q) (sm1 x0)⟩,
  ⟨Rect.unit (s := S16x72x128) ![11, 0, 0] S1x72x128.size inb_S16x72x128_S1x72x128_11_0_0, k0_pay38 (e_v1058 o x0 x1 q)⟩,
  ⟨Rect.unit (s := S16x72x128) ![10, 0, 0] S1x72x128.size inb_S16x72x128_S1x72x128_10_0_0, k0_pay36 (e_v993 o x0 x1 q) (e_v1030 o x0 x1 q) (sm1 x0)⟩,
  ⟨Rect.unit (s := S16x72x128) ![9, 0, 0] S1x72x128.size inb_S16x72x128_S1x72x128_9_0_0, k0_pay35 (e_v1018 o x0 x1 q) (e_v1020 o x0 x1 q)⟩,
  ⟨Rect.unit (s := S16x72x128) ![8, 0, 0] S1x72x128.size inb_S16x72x128_S1x72x128_8_0_0, k0_pay32 (e_v978 o x0 x1 q) (e_v994 o x0 x1 q) (sm1 x0)⟩,
  ⟨Rect.unit (s := S16x72x128) ![7, 0, 0] S1x72x128.size inb_S16x72x128_S1x72x128_7_0_0, k0_pay26 (e_v822 o x0 x1 q) (e_v949 o x0 x1 q) (sm0 x0)⟩,
  ⟨Rect.unit (s := S16x72x128) ![6, 0, 0] S1x72x128.size inb_S16x72x128_S1x72x128_6_0_0, k0_pay25 (e_v945 o x0 x1 q)⟩,
  ⟨Rect.unit (s := S16x72x128) ![5, 0, 0] S1x72x128.size inb_S16x72x128_S1x72x128_5_0_0, k0_pay23 (e_v822 o x0 x1 q) (e_v913 o x0 x1 q) (sm0 x0)⟩,
  ⟨Rect.unit (s := S16x72x128) ![4, 0, 0] S1x72x128.size inb_S16x72x128_S1x72x128_4_0_0, k0_pay22 (e_v909 o x0 x1 q)⟩,
  ⟨Rect.unit (s := S16x72x128) ![3, 0, 0] S1x72x128.size inb_S16x72x128_S1x72x128_3_0_0, k0_pay20 (e_v822 o x0 x1 q) (e_v877 o x0 x1 q) (sm0 x0)⟩,
  ⟨Rect.unit (s := S16x72x128) ![2, 0, 0] S1x72x128.size inb_S16x72x128_S1x72x128_2_0_0, k0_pay19 (e_v871 o x0 x1 q)⟩,
  ⟨Rect.unit (s := S16x72x128) ![1, 0, 0] S1x72x128.size inb_S16x72x128_S1x72x128_1_0_0, k0_pay17 (e_v822 o x0 x1 q) (e_v841 o x0 x1 q) (sm0 x0)⟩,
  ⟨Rect.unit (s := S16x72x128) ![0, 0, 0] S1x72x128.size inb_S16x72x128_S1x72x128_0_0_0, k0_pay16 (e_v833 o x0 x1 q) (Scalar.ofBits .f32 0x3FB8AA3B#32)⟩]
/-- The stores of the last point into `arg13` cover it. -/
theorem cover_sn (p0 p1 p2 p3 p4 p5 p6 p7 p8 p9 p10 p11 p12 p13 p14 p15 : Vec F S1x72x128 .f32) (y : S16x72x128.Idx) :
    ∃ pc ∈ ([⟨Rect.unit (s := S16x72x128) ![15, 0, 0] S1x72x128.size inb_S16x72x128_S1x72x128_15_0_0, p0⟩,
  ⟨Rect.unit (s := S16x72x128) ![14, 0, 0] S1x72x128.size inb_S16x72x128_S1x72x128_14_0_0, p1⟩,
  ⟨Rect.unit (s := S16x72x128) ![13, 0, 0] S1x72x128.size inb_S16x72x128_S1x72x128_13_0_0, p2⟩,
  ⟨Rect.unit (s := S16x72x128) ![12, 0, 0] S1x72x128.size inb_S16x72x128_S1x72x128_12_0_0, p3⟩,
  ⟨Rect.unit (s := S16x72x128) ![11, 0, 0] S1x72x128.size inb_S16x72x128_S1x72x128_11_0_0, p4⟩,
  ⟨Rect.unit (s := S16x72x128) ![10, 0, 0] S1x72x128.size inb_S16x72x128_S1x72x128_10_0_0, p5⟩,
  ⟨Rect.unit (s := S16x72x128) ![9, 0, 0] S1x72x128.size inb_S16x72x128_S1x72x128_9_0_0, p6⟩,
  ⟨Rect.unit (s := S16x72x128) ![8, 0, 0] S1x72x128.size inb_S16x72x128_S1x72x128_8_0_0, p7⟩,
  ⟨Rect.unit (s := S16x72x128) ![7, 0, 0] S1x72x128.size inb_S16x72x128_S1x72x128_7_0_0, p8⟩,
  ⟨Rect.unit (s := S16x72x128) ![6, 0, 0] S1x72x128.size inb_S16x72x128_S1x72x128_6_0_0, p9⟩,
  ⟨Rect.unit (s := S16x72x128) ![5, 0, 0] S1x72x128.size inb_S16x72x128_S1x72x128_5_0_0, p10⟩,
  ⟨Rect.unit (s := S16x72x128) ![4, 0, 0] S1x72x128.size inb_S16x72x128_S1x72x128_4_0_0, p11⟩,
  ⟨Rect.unit (s := S16x72x128) ![3, 0, 0] S1x72x128.size inb_S16x72x128_S1x72x128_3_0_0, p12⟩,
  ⟨Rect.unit (s := S16x72x128) ![2, 0, 0] S1x72x128.size inb_S16x72x128_S1x72x128_2_0_0, p13⟩,
  ⟨Rect.unit (s := S16x72x128) ![1, 0, 0] S1x72x128.size inb_S16x72x128_S1x72x128_1_0_0, p14⟩,
  ⟨Rect.unit (s := S16x72x128) ![0, 0, 0] S1x72x128.size inb_S16x72x128_S1x72x128_0_0_0, p15⟩] : List (View.Piece (Elt F) S16x72x128 .f32)), y ∈ pc.1.set :=
  View.cover_of_tiled [⟨Rect.unit (s := S16x72x128) ![15, 0, 0] S1x72x128.size inb_S16x72x128_S1x72x128_15_0_0, p0⟩,
  ⟨Rect.unit (s := S16x72x128) ![14, 0, 0] S1x72x128.size inb_S16x72x128_S1x72x128_14_0_0, p1⟩,
  ⟨Rect.unit (s := S16x72x128) ![13, 0, 0] S1x72x128.size inb_S16x72x128_S1x72x128_13_0_0, p2⟩,
  ⟨Rect.unit (s := S16x72x128) ![12, 0, 0] S1x72x128.size inb_S16x72x128_S1x72x128_12_0_0, p3⟩,
  ⟨Rect.unit (s := S16x72x128) ![11, 0, 0] S1x72x128.size inb_S16x72x128_S1x72x128_11_0_0, p4⟩,
  ⟨Rect.unit (s := S16x72x128) ![10, 0, 0] S1x72x128.size inb_S16x72x128_S1x72x128_10_0_0, p5⟩,
  ⟨Rect.unit (s := S16x72x128) ![9, 0, 0] S1x72x128.size inb_S16x72x128_S1x72x128_9_0_0, p6⟩,
  ⟨Rect.unit (s := S16x72x128) ![8, 0, 0] S1x72x128.size inb_S16x72x128_S1x72x128_8_0_0, p7⟩,
  ⟨Rect.unit (s := S16x72x128) ![7, 0, 0] S1x72x128.size inb_S16x72x128_S1x72x128_7_0_0, p8⟩,
  ⟨Rect.unit (s := S16x72x128) ![6, 0, 0] S1x72x128.size inb_S16x72x128_S1x72x128_6_0_0, p9⟩,
  ⟨Rect.unit (s := S16x72x128) ![5, 0, 0] S1x72x128.size inb_S16x72x128_S1x72x128_5_0_0, p10⟩,
  ⟨Rect.unit (s := S16x72x128) ![4, 0, 0] S1x72x128.size inb_S16x72x128_S1x72x128_4_0_0, p11⟩,
  ⟨Rect.unit (s := S16x72x128) ![3, 0, 0] S1x72x128.size inb_S16x72x128_S1x72x128_3_0_0, p12⟩,
  ⟨Rect.unit (s := S16x72x128) ![2, 0, 0] S1x72x128.size inb_S16x72x128_S1x72x128_2_0_0, p13⟩,
  ⟨Rect.unit (s := S16x72x128) ![1, 0, 0] S1x72x128.size inb_S16x72x128_S1x72x128_1_0_0, p14⟩,
  ⟨Rect.unit (s := S16x72x128) ![0, 0, 0] S1x72x128.size inb_S16x72x128_S1x72x128_0_0_0, p15⟩] S1x72x128.size (by rfl) y
/-- What the last point leaves in `arg14`. -/
def q_kc (o : Ops F) (x0 x1 : Vec F S2 .f32) (q : Vec F S16x72x128 .f32) : Vec F S2x72x128 .fp8e4m3 := View.canon [⟨Rect.unit (s := S2x72x128) ![1, 0, 0] S1x72x128.size inb_S2x72x128_S1x72x128_1_0_0, k0_pay28 (c_v783 o) (c_v787 o) (c_v789 o) (sm1 x0)⟩,
  ⟨Rect.unit (s := S2x72x128) ![0, 0, 0] S1x72x128.size inb_S2x72x128_S1x72x128_0_0_0, k0_pay12 (c_v782 o) (c_v787 o) (c_v789 o) (sm0 x0)⟩]
/-- The stores of the last point into `arg14` cover it. -/
theorem cover_kc (p0 p1 : Vec F S1x72x128 .fp8e4m3) (y : S2x72x128.Idx) :
    ∃ pc ∈ ([⟨Rect.unit (s := S2x72x128) ![1, 0, 0] S1x72x128.size inb_S2x72x128_S1x72x128_1_0_0, p0⟩,
  ⟨Rect.unit (s := S2x72x128) ![0, 0, 0] S1x72x128.size inb_S2x72x128_S1x72x128_0_0_0, p1⟩] : List (View.Piece (Elt F) S2x72x128 .fp8e4m3)), y ∈ pc.1.set :=
  View.cover_of_tiled [⟨Rect.unit (s := S2x72x128) ![1, 0, 0] S1x72x128.size inb_S2x72x128_S1x72x128_1_0_0, p0⟩,
  ⟨Rect.unit (s := S2x72x128) ![0, 0, 0] S1x72x128.size inb_S2x72x128_S1x72x128_0_0_0, p1⟩] S1x72x128.size (by rfl) y
/-- What the last point leaves in `arg15`. -/
def q_vc (o : Ops F) (x0 x1 : Vec F S2 .f32) (q : Vec F S16x72x128 .f32) : Vec F S2x72x128 .fp8e4m3 := View.canon [⟨Rect.unit (s := S2x72x128) ![1, 0, 0] S1x72x128.size inb_S2x72x128_S1x72x128_1_0_0, k0_pay30 (c_v785 o) (e_v983 o x0 x1 q)⟩,
  ⟨Rect.unit (s := S2x72x128) ![0, 0, 0] S1x72x128.size inb_S2x72x128_S1x72x128_0_0_0, k0_pay13 (c_v784 o) (sm0 x1)⟩]
/-- The stores of the last point into `arg15` cover it. -/
theorem cover_vc (p0 p1 : Vec F S1x72x128 .fp8e4m3) (y : S2x72x128.Idx) :
    ∃ pc ∈ ([⟨Rect.unit (s := S2x72x128) ![1, 0, 0] S1x72x128.size inb_S2x72x128_S1x72x128_1_0_0, p0⟩,
  ⟨Rect.unit (s := S2x72x128) ![0, 0, 0] S1x72x128.size inb_S2x72x128_S1x72x128_0_0_0, p1⟩] : List (View.Piece (Elt F) S2x72x128 .fp8e4m3)), y ∈ pc.1.set :=
  View.cover_of_tiled [⟨Rect.unit (s := S2x72x128) ![1, 0, 0] S1x72x128.size inb_S2x72x128_S1x72x128_1_0_0, p0⟩,
  ⟨Rect.unit (s := S2x72x128) ![0, 0, 0] S1x72x128.size inb_S2x72x128_S1x72x128_0_0_0, p1⟩] S1x72x128.size (by rfl) y

end Cert.QkvIdeal.Run

end
-- ==== Proof.Qkv.Step.lean ====
/- One point's four stores of rotated heads, as one function of the prior contents. -/
module

public import proofs.«01_k».proof.Proof.Qkv.Chain

@[expose] public section

set_option maxRecDepth 16384

noncomputable section

namespace Cert.QkvIdeal.Run
open Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Where a point stores its heads. -/
theorem off1_eq (i : grid0.Coords) (k : Fin 4) : k0_off1 i (BitVec.ofNat 32 k.val) = ![4 * (i 0).val + k.val, 0, 0] := by
  have hi : (i 0).val < 5 := (i 0).isLt
  unfold k0_off1
  generalize (i 0).val = n at hi
  have hk := k.isLt
  generalize k.val = m at hk
  interval_cases n <;> interval_cases m <;> rfl

/-- The new contents at a stored head. -/
theorem q_at (i : grid0.Coords) (k : Fin 4) (inb) (p : ℕ → Vec F S1x72x128 .f32) (d : Vec F S16x72x128 .f32) (x : S1x72x128.Idx) :
    qNext i p d ((Rect.unit (s := S16x72x128) (k0_off1 i (BitVec.ofNat 32 k.val)) S1x72x128.size inb).emb x) = p k.val x := by
  have e (a : Fin 3) : (((Rect.unit (s := S16x72x128) (k0_off1 i (BitVec.ofNat 32 k.val)) S1x72x128.size inb).emb x) a).val
      = (![4 * (i 0).val + k.val, 0, 0] : Fin 3 → ℕ) a + 1 * (x a).val := by
    rw [← off1_eq i k]; rfl
  have e0 := e 0
  have e1 := e 1
  have e2 := e 2
  have h0 : (x 0).val = 0 := Nat.lt_one_iff.mp (x 0).isLt
  have hk := k.isLt
  simp only [Matrix.cons_val_zero, Matrix.cons_val_one, Matrix.cons_val] at e0 e1 e2
  unfold qNext
  rw [if_pos (by rw [e0]; omega)]
  refine congrArg₂ p (by rw [e0]; omega) ?_
  funext a
  match a with
  | ⟨0, _⟩ => exact Fin.ext (by show 0 = (x 0).val; omega)
  | ⟨1, _⟩ => exact Fin.ext (e1.trans (show 0 + 1 * (x 1).val = (x 1).val by omega))
  | ⟨2, _⟩ => exact Fin.ext (e2.trans (show 0 + 1 * (x 2).val = (x 2).val by omega))

/-- A point's four stores leave those four heads, and the others as they were. -/
theorem q_step (i : grid0.Coords) (hc : cond0_1 i) (v : View sig .tc .vmem S16x72x128 .f32) (f : v.ty.Contents (Elt F)) (p : ℕ → Vec F S1x72x128 .f32) :
    v.read (Elt F) (v.writes (Elt F) f [⟨Rect.unit (s := S16x72x128) (k0_off1 i 3#32) S1x72x128.size (k0_off1_inb i hc 3), p 3⟩, ⟨Rect.unit (s := S16x72x128) (k0_off1 i 2#32) S1x72x128.size (k0_off1_inb i hc 2), p 2⟩, ⟨Rect.unit (s := S16x72x128) (k0_off1 i 1#32) S1x72x128.size (k0_off1_inb i hc 1), p 1⟩, ⟨Rect.unit (s := S16x72x128) (k0_off1 i 0#32) S1x72x128.size (k0_off1_inb i hc 0), p 0⟩])
      = qNext i p (v.read (Elt F) f) := by
  funext y
  have hmem (k : Fin 4) (inb) : y ∈ (Rect.unit (s := S16x72x128) (k0_off1 i (BitVec.ofNat 32 k.val)) S1x72x128.size inb).set ↔ (y 0).val = 4 * (i 0).val + k.val := by
    rw [Rect.mem_set_unit]
    have h1 := (y 1).isLt
    have h2 := (y 2).isLt
    constructor
    · intro h
      have := h 0
      rw [off1_eq] at this
      have t : 4 * (i 0).val + k.val ≤ (y 0).val ∧ (y 0).val < 4 * (i 0).val + k.val + 1 := this
      omega
    · intro h a
      rw [off1_eq]
      match a with
      | ⟨0, _⟩ => exact ⟨h.ge, by show (y 0).val < 4 * (i 0).val + k.val + 1; omega⟩
      | ⟨1, _⟩ => exact ⟨Nat.zero_le _, Nat.lt_of_lt_of_eq (y 1).isLt (Nat.zero_add _).symm⟩
      | ⟨2, _⟩ => exact ⟨Nat.zero_le _, Nat.lt_of_lt_of_eq (y 2).isLt (Nat.zero_add _).symm⟩
  by_cases h : (y 0).val / 4 = (i 0).val
  · refine View.read_writes_apply_of_pieces v f _ _ ?_ y ?_
    · intro pc hpc x
      simp only [List.mem_cons, List.not_mem_nil, _root_.or_false] at hpc
      rcases hpc with rfl | rfl | rfl | rfl
      · exact (q_at i 3 (k0_off1_inb i hc 3) p _ x).symm
      · exact (q_at i 2 (k0_off1_inb i hc 2) p _ x).symm
      · exact (q_at i 1 (k0_off1_inb i hc 1) p _ x).symm
      · exact (q_at i 0 (k0_off1_inb i hc 0) p _ x).symm
    · have : (y 0).val % 4 < 4 := Nat.mod_lt _ (by decide)
      have e : (y 0).val = 4 * (i 0).val + (y 0).val % 4 := by omega
      generalize (y 0).val % 4 = m at this e
      interval_cases m
      · exact ⟨_, List.mem_cons_of_mem _ (List.mem_cons_of_mem _ (List.mem_cons_of_mem _ (List.mem_singleton_self _))), (hmem 0 (k0_off1_inb i hc 0)).mpr e⟩
      · exact ⟨_, List.mem_cons_of_mem _ (List.mem_cons_of_mem _ (List.mem_cons_self ..)), (hmem 1 (k0_off1_inb i hc 1)).mpr e⟩
      · exact ⟨_, List.mem_cons_of_mem _ (List.mem_cons_self ..), (hmem 2 (k0_off1_inb i hc 2)).mpr e⟩
      · exact ⟨_, List.mem_cons_self .., (hmem 3 (k0_off1_inb i hc 3)).mpr e⟩
  · rw [View.read_writes_apply_of_forall_not_mem]
    · unfold qNext
      rw [if_neg h]
    · intro pc hpc
      simp only [List.mem_cons, List.not_mem_nil, _root_.or_false] at hpc
      rcases hpc with rfl | rfl | rfl | rfl
      · intro hm
        have t : (y 0).val = 4 * (i 0).val + 3 := (hmem 3 (k0_off1_inb i hc 3)).mp hm
        omega
      · intro hm
        have t : (y 0).val = 4 * (i 0).val + 2 := (hmem 2 (k0_off1_inb i hc 2)).mp hm
        omega
      · intro hm
        have t : (y 0).val = 4 * (i 0).val + 1 := (hmem 1 (k0_off1_inb i hc 1)).mp hm
        omega
      · intro hm
        have t : (y 0).val = 4 * (i 0).val + 0 := (hmem 0 (k0_off1_inb i hc 0)).mp hm
        omega

end Cert.QkvIdeal.Run

end
-- ==== Proof.Qkv.RunB.lean ====
/- The Qkv kernel's body at the next three points. -/
module

public import proofs.«01_k».proof.Proof.Qkv.Step

@[expose] public section

set_option maxRecDepth 16384

noncomputable section

namespace Cert.QkvIdeal.Run
open Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at one of the next three points: the scratch, the codes and the scales are kept, and four more heads are rotated and
    stored. -/
theorem kernelRun0_B (c : Dev nD) (i : grid0.Coords) (arg1 : Memref sig .tc .smem S2 .f32) (harg1 : arg1.IsWhole) (arg2 : Memref sig .tc .smem S2 .f32) (harg2 : arg2.IsWhole) (arg3 : Memref sig .tc .vmem S72x8192 .bf16) (harg3 : arg3.IsWhole) (arg4 : Memref sig .tc .vmem S1x8192 .f32) (harg4 : arg4.IsWhole) (arg5 : Memref sig .tc .vmem S72x128 .f32) (harg5 : arg5.IsWhole) (arg6 : Memref sig .tc .vmem S72x128 .f32) (harg6 : arg6.IsWhole) (arg7 : Memref sig .tc .vmem S1024x512 .i32) (harg7 : arg7.IsWhole) (arg8 : Memref sig .tc .vmem S64x512 .fp8e4m3) (harg8 : arg8.IsWhole) (arg9 : Memref sig .tc .vmem S1x512 .f32) (harg9 : arg9.IsWhole) (arg10 : Memref sig .tc .vmem S72x8192 .fp8e4m3) (harg10 : arg10.IsWhole) (arg11 : Memref sig .tc .vmem S1x72 .f32) (harg11 : arg11.IsWhole) (arg12 : Memref sig .tc .vmem S16x72x128 .f32) (harg12 : arg12.IsWhole) (arg13 : Memref sig .tc .vmem S16x72x128 .f32) (harg13 : arg13.IsWhole) (arg14 : Memref sig .tc .vmem S2x72x128 .fp8e4m3) (harg14 : arg14.IsWhole) (arg15 : Memref sig .tc .vmem S2x72x128 .fp8e4m3) (harg15 : arg15.IsWhole) (arg16 : Memref sig .tc .vmem S80x8192 .bf16) (harg16 : arg16.IsWhole) (arg17 : Memref sig .tc .vmem S72x128 .f32) (harg17 : arg17.IsWhole) (hc0 : ¬cond0_0 i) (hc1 : cond0_1 i) (hc2 : ¬cond0_2 i)
    (x0 : Vec F S2 .f32) (x1 : Vec F S2 .f32) (x2 : Vec F S72x8192 .bf16) (x3 : Vec F S1x8192 .f32) (x4 : Vec F S72x128 .f32) (x5 : Vec F S72x128 .f32) (x6 : Vec F S1024x512 .i32) (x7 : Vec F S64x512 .fp8e4m3) (x8 : Vec F S1x512 .f32) (ca : Vec F S72x8192 .fp8e4m3) (sa : Vec F S1x72 .f32) (q : Vec F S16x72x128 .f32) (a : Vec F S80x8192 .bf16) (sc : Vec F S72x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare ca ∗ owns (c : Thread nD τ) arg11 fullShare sa ∗ owns (c : Thread nD τ) arg12 fullShare q ∗ (∃ d, owns (c : Thread nD τ) arg13 fullShare d) ∗ (∃ d, owns (c : Thread nD τ) arg14 fullShare d) ∗ (∃ d, owns (c : Thread nD τ) arg15 fullShare d) ∗ owns (c : Thread nD τ) arg16 fullShare a ∗ owns (c : Thread nD τ) arg17 fullShare sc
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare ca ∗ owns (c : Thread nD τ) arg11 fullShare sa ∗ owns (c : Thread nD τ) arg12 fullShare (qNext i (qp ⟨x4, x5, x6, x7, x8, a, sc⟩) q) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare a ∗ owns (c : Thread nD τ) arg17 fullShare sc) -∗ K ⟨⟩))
          ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    intro E K
    simp only [cc0_qkv_eq_skeleton]; unfold cc0_qkv_skel
    simp only [k0_part28_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%fs0, %hfs0, HS0⟩, ⟨%fs1, %hfs1, HS1⟩, Hk⟩
    subst hf0 hf1 hf2 hf3 hf4 hf5 hf6 hf7 hf8 hf11 hf9 hf10 hfs0 hfs1
    sl_exec (disch := first | sl_exact hc0 | sl_exact hc1 | sl_exact hc2)
    sl_step
    iapply Hk
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; rfl
    isplitl [H10]
    · iexists _; isplitr; swap; · iexact H10
      ipureintro; rfl
    isplitl [H11]
    · iexists _; isplitr; swap; · iexact H11
      ipureintro; exact q_step i hc1 _ _ (qp ⟨(View.read (Elt F) arg5.view f4), (View.read (Elt F) arg6.view f5), (View.read (Elt F) arg7.view f6), (View.read (Elt F) arg8.view f7), (View.read (Elt F) arg9.view f8), View.read (Elt F) arg16.view fs0, View.read (Elt F) arg17.view fs1⟩)
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [HS0]
    · iexists _; isplitr; swap; · iexact HS0
      ipureintro; rfl
    iexists _; isplitr; swap; · iexact HS1
    ipureintro; rfl

end Cert.QkvIdeal.Run

end
-- ==== Proof.Qkv.RunA.lean ====
/- The Qkv kernel's body at the first point. -/
module

public import proofs.«01_k».proof.Proof.Qkv.RunB

@[expose] public section

set_option maxRecDepth 16384

noncomputable section

namespace Cert.QkvIdeal.Run
open Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first point: it stores the codes and the scales, fills the scratch, and rotates and stores the first four
    heads. -/
theorem kernelRun0_A (c : Dev nD) (i : grid0.Coords) (arg1 : Memref sig .tc .smem S2 .f32) (harg1 : arg1.IsWhole) (arg2 : Memref sig .tc .smem S2 .f32) (harg2 : arg2.IsWhole) (arg3 : Memref sig .tc .vmem S72x8192 .bf16) (harg3 : arg3.IsWhole) (arg4 : Memref sig .tc .vmem S1x8192 .f32) (harg4 : arg4.IsWhole) (arg5 : Memref sig .tc .vmem S72x128 .f32) (harg5 : arg5.IsWhole) (arg6 : Memref sig .tc .vmem S72x128 .f32) (harg6 : arg6.IsWhole) (arg7 : Memref sig .tc .vmem S1024x512 .i32) (harg7 : arg7.IsWhole) (arg8 : Memref sig .tc .vmem S64x512 .fp8e4m3) (harg8 : arg8.IsWhole) (arg9 : Memref sig .tc .vmem S1x512 .f32) (harg9 : arg9.IsWhole) (arg10 : Memref sig .tc .vmem S72x8192 .fp8e4m3) (harg10 : arg10.IsWhole) (arg11 : Memref sig .tc .vmem S1x72 .f32) (harg11 : arg11.IsWhole) (arg12 : Memref sig .tc .vmem S16x72x128 .f32) (harg12 : arg12.IsWhole) (arg13 : Memref sig .tc .vmem S16x72x128 .f32) (harg13 : arg13.IsWhole) (arg14 : Memref sig .tc .vmem S2x72x128 .fp8e4m3) (harg14 : arg14.IsWhole) (arg15 : Memref sig .tc .vmem S2x72x128 .fp8e4m3) (harg15 : arg15.IsWhole) (arg16 : Memref sig .tc .vmem S80x8192 .bf16) (harg16 : arg16.IsWhole) (arg17 : Memref sig .tc .vmem S72x128 .f32) (harg17 : arg17.IsWhole) (hc0 : cond0_0 i) (hc1 : cond0_1 i) (hc2 : ¬cond0_2 i)
    (x0 : Vec F S2 .f32) (x1 : Vec F S2 .f32) (x2 : Vec F S72x8192 .bf16) (x3 : Vec F S1x8192 .f32) (x4 : Vec F S72x128 .f32) (x5 : Vec F S72x128 .f32) (x6 : Vec F S1024x512 .i32) (x7 : Vec F S64x512 .fp8e4m3) (x8 : Vec F S1x512 .f32) (q : Vec F S16x72x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ owns (c : Thread nD τ) arg12 fullShare q ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (q_c x2 x3) ∗ owns (c : Thread nD τ) arg11 fullShare (q_s x2 x3) ∗ owns (c : Thread nD τ) arg12 fullShare (qNext i (qp ⟨x4, x5, x6, x7, x8, q_a x2 x3, q_sc x2 x3⟩) q) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare (q_a x2 x3) ∗ owns (c : Thread nD τ) arg17 fullShare (q_sc x2 x3)) -∗ K ⟨⟩))
          ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    intro E K
    simp only [cc0_qkv_eq_skeleton]; unfold cc0_qkv_skel
    simp only [k0_part28_eq_skeleton, k0_part12_eq_skeleton, k0_part1_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, ⟨%d12, %f12, -, H12⟩, ⟨%d13, %f13, -, H13⟩, ⟨%d14, %f14, -, H14⟩, ⟨%ds0, %fs0, -, HS0⟩, ⟨%ds1, %fs1, -, HS1⟩, Hk⟩
    subst hf0 hf1 hf2 hf3 hf4 hf5 hf6 hf7 hf8 hf11
    sl_exec (disch := first | sl_exact hc0 | sl_exact hc1 | sl_exact hc2)
    sl_step
    iapply Hk
    obtain ⟨A, hA⟩ : ∃ A, A = q_a (View.read (Elt F) arg3.view f2) (View.read (Elt F) arg4.view f3) := ⟨_, rfl⟩
    obtain ⟨S, hS⟩ : ∃ S, S = q_sc (View.read (Elt F) arg3.view f2) (View.read (Elt F) arg4.view f3) := ⟨_, rfl⟩
    have h_v123 : kernelRun0_A.sl.v123 c arg3 arg4 arg16 f2 f3 = View.ld A (Rect.unit (s := S80x8192) ![0, 1024] S80x256.size inb_S80x8192_S80x256_0_1024) := by
      rw [hA]; delta kernelRun0_A.sl.v123 kernelRun0_A.sl.HS0_2 kernelRun0_A.sl.HS1_1; rw [View.readCov_eq_canon']; delta View.ld q_a; rfl
    have h_v147 : kernelRun0_A.sl.v147 c arg3 arg4 arg16 f2 f3 = View.ld A (Rect.unit (s := S80x8192) ![0, 1280] S80x256.size inb_S80x8192_S80x256_0_1280) := by
      rw [hA]; delta kernelRun0_A.sl.v147 kernelRun0_A.sl.HS0_2 kernelRun0_A.sl.HS1_1; rw [View.readCov_eq_canon']; delta View.ld q_a; rfl
    have h_v171 : kernelRun0_A.sl.v171 c arg3 arg4 arg16 f2 f3 = View.ld A (Rect.unit (s := S80x8192) ![0, 1536] S80x256.size inb_S80x8192_S80x256_0_1536) := by
      rw [hA]; delta kernelRun0_A.sl.v171 kernelRun0_A.sl.HS0_2 kernelRun0_A.sl.HS1_1; rw [View.readCov_eq_canon']; delta View.ld q_a; rfl
    have h_v195 : kernelRun0_A.sl.v195 c arg3 arg4 arg16 f2 f3 = View.ld A (Rect.unit (s := S80x8192) ![0, 1792] S80x256.size inb_S80x8192_S80x256_0_1792) := by
      rw [hA]; delta kernelRun0_A.sl.v195 kernelRun0_A.sl.HS0_2 kernelRun0_A.sl.HS1_1; rw [View.readCov_eq_canon']; delta View.ld q_a; rfl
    have h_v219 : kernelRun0_A.sl.v219 c arg3 arg4 arg16 f2 f3 = View.ld A (Rect.unit (s := S80x8192) ![0, 2048] S80x256.size inb_S80x8192_S80x256_0_2048) := by
      rw [hA]; delta kernelRun0_A.sl.v219 kernelRun0_A.sl.HS0_2 kernelRun0_A.sl.HS1_1; rw [View.readCov_eq_canon']; delta View.ld q_a; rfl
    have h_v243 : kernelRun0_A.sl.v243 c arg3 arg4 arg16 f2 f3 = View.ld A (Rect.unit (s := S80x8192) ![0, 2304] S80x256.size inb_S80x8192_S80x256_0_2304) := by
      rw [hA]; delta kernelRun0_A.sl.v243 kernelRun0_A.sl.HS0_2 kernelRun0_A.sl.HS1_1; rw [View.readCov_eq_canon']; delta View.ld q_a; rfl
    have h_v267 : kernelRun0_A.sl.v267 c arg3 arg4 arg16 f2 f3 = View.ld A (Rect.unit (s := S80x8192) ![0, 2560] S80x256.size inb_S80x8192_S80x256_0_2560) := by
      rw [hA]; delta kernelRun0_A.sl.v267 kernelRun0_A.sl.HS0_2 kernelRun0_A.sl.HS1_1; rw [View.readCov_eq_canon']; delta View.ld q_a; rfl
    have h_v27 : kernelRun0_A.sl.v27 c arg3 arg4 arg16 f2 f3 = View.ld A (Rect.unit (s := S80x8192) ![0, 0] S80x256.size inb_S80x8192_S80x256_0_0) := by
      rw [hA]; delta kernelRun0_A.sl.v27 kernelRun0_A.sl.HS0_2 kernelRun0_A.sl.HS1_1; rw [View.readCov_eq_canon']; delta View.ld q_a; rfl
    have h_v291 : kernelRun0_A.sl.v291 c arg3 arg4 arg16 f2 f3 = View.ld A (Rect.unit (s := S80x8192) ![0, 2816] S80x256.size inb_S80x8192_S80x256_0_2816) := by
      rw [hA]; delta kernelRun0_A.sl.v291 kernelRun0_A.sl.HS0_2 kernelRun0_A.sl.HS1_1; rw [View.readCov_eq_canon']; delta View.ld q_a; rfl
    have h_v315 : kernelRun0_A.sl.v315 c arg3 arg4 arg16 f2 f3 = View.ld A (Rect.unit (s := S80x8192) ![0, 3072] S80x256.size inb_S80x8192_S80x256_0_3072) := by
      rw [hA]; delta kernelRun0_A.sl.v315 kernelRun0_A.sl.HS0_2 kernelRun0_A.sl.HS1_1; rw [View.readCov_eq_canon']; delta View.ld q_a; rfl
    have h_v339 : kernelRun0_A.sl.v339 c arg3 arg4 arg16 f2 f3 = View.ld A (Rect.unit (s := S80x8192) ![0, 3328] S80x256.size inb_S80x8192_S80x256_0_3328) := by
      rw [hA]; delta kernelRun0_A.sl.v339 kernelRun0_A.sl.HS0_2 kernelRun0_A.sl.HS1_1; rw [View.readCov_eq_canon']; delta View.ld q_a; rfl
    have h_v363 : kernelRun0_A.sl.v363 c arg3 arg4 arg16 f2 f3 = View.ld A (Rect.unit (s := S80x8192) ![0, 3584] S80x256.size inb_S80x8192_S80x256_0_3584) := by
      rw [hA]; delta kernelRun0_A.sl.v363 kernelRun0_A.sl.HS0_2 kernelRun0_A.sl.HS1_1; rw [View.readCov_eq_canon']; delta View.ld q_a; rfl
    have h_v387 : kernelRun0_A.sl.v387 c arg3 arg4 arg16 f2 f3 = View.ld A (Rect.unit (s := S80x8192) ![0, 3840] S80x256.size inb_S80x8192_S80x256_0_3840) := by
      rw [hA]; delta kernelRun0_A.sl.v387 kernelRun0_A.sl.HS0_2 kernelRun0_A.sl.HS1_1; rw [View.readCov_eq_canon']; delta View.ld q_a; rfl
    have h_v411 : kernelRun0_A.sl.v411 c arg3 arg4 arg16 f2 f3 = View.ld A (Rect.unit (s := S80x8192) ![0, 4096] S80x256.size inb_S80x8192_S80x256_0_4096) := by
      rw [hA]; delta kernelRun0_A.sl.v411 kernelRun0_A.sl.HS0_2 kernelRun0_A.sl.HS1_1; rw [View.readCov_eq_canon']; delta View.ld q_a; rfl
    have h_v435 : kernelRun0_A.sl.v435 c arg3 arg4 arg16 f2 f3 = View.ld A (Rect.unit (s := S80x8192) ![0, 4352] S80x256.size inb_S80x8192_S80x256_0_4352) := by
      rw [hA]; delta kernelRun0_A.sl.v435 kernelRun0_A.sl.HS0_2 kernelRun0_A.sl.HS1_1; rw [View.readCov_eq_canon']; delta View.ld q_a; rfl
    have h_v459 : kernelRun0_A.sl.v459 c arg3 arg4 arg16 f2 f3 = View.ld A (Rect.unit (s := S80x8192) ![0, 4608] S80x256.size inb_S80x8192_S80x256_0_4608) := by
      rw [hA]; delta kernelRun0_A.sl.v459 kernelRun0_A.sl.HS0_2 kernelRun0_A.sl.HS1_1; rw [View.readCov_eq_canon']; delta View.ld q_a; rfl
    have h_v483 : kernelRun0_A.sl.v483 c arg3 arg4 arg16 f2 f3 = View.ld A (Rect.unit (s := S80x8192) ![0, 4864] S80x256.size inb_S80x8192_S80x256_0_4864) := by
      rw [hA]; delta kernelRun0_A.sl.v483 kernelRun0_A.sl.HS0_2 kernelRun0_A.sl.HS1_1; rw [View.readCov_eq_canon']; delta View.ld q_a; rfl
    have h_v507 : kernelRun0_A.sl.v507 c arg3 arg4 arg16 f2 f3 = View.ld A (Rect.unit (s := S80x8192) ![0, 5120] S80x256.size inb_S80x8192_S80x256_0_5120) := by
      rw [hA]; delta kernelRun0_A.sl.v507 kernelRun0_A.sl.HS0_2 kernelRun0_A.sl.HS1_1; rw [View.readCov_eq_canon']; delta View.ld q_a; rfl
    have h_v51 : kernelRun0_A.sl.v51 c arg3 arg4 arg16 f2 f3 = View.ld A (Rect.unit (s := S80x8192) ![0, 256] S80x256.size inb_S80x8192_S80x256_0_256) := by
      rw [hA]; delta kernelRun0_A.sl.v51 kernelRun0_A.sl.HS0_2 kernelRun0_A.sl.HS1_1; rw [View.readCov_eq_canon']; delta View.ld q_a; rfl
    have h_v531 : kernelRun0_A.sl.v531 c arg3 arg4 arg16 f2 f3 = View.ld A (Rect.unit (s := S80x8192) ![0, 5376] S80x256.size inb_S80x8192_S80x256_0_5376) := by
      rw [hA]; delta kernelRun0_A.sl.v531 kernelRun0_A.sl.HS0_2 kernelRun0_A.sl.HS1_1; rw [View.readCov_eq_canon']; delta View.ld q_a; rfl
    have h_v555 : kernelRun0_A.sl.v555 c arg3 arg4 arg16 f2 f3 = View.ld A (Rect.unit (s := S80x8192) ![0, 5632] S80x256.size inb_S80x8192_S80x256_0_5632) := by
      rw [hA]; delta kernelRun0_A.sl.v555 kernelRun0_A.sl.HS0_2 kernelRun0_A.sl.HS1_1; rw [View.readCov_eq_canon']; delta View.ld q_a; rfl
    have h_v579 : kernelRun0_A.sl.v579 c arg3 arg4 arg16 f2 f3 = View.ld A (Rect.unit (s := S80x8192) ![0, 5888] S80x256.size inb_S80x8192_S80x256_0_5888) := by
      rw [hA]; delta kernelRun0_A.sl.v579 kernelRun0_A.sl.HS0_2 kernelRun0_A.sl.HS1_1; rw [View.readCov_eq_canon']; delta View.ld q_a; rfl
    have h_v603 : kernelRun0_A.sl.v603 c arg3 arg4 arg16 f2 f3 = View.ld A (Rect.unit (s := S80x8192) ![0, 6144] S80x256.size inb_S80x8192_S80x256_0_6144) := by
      rw [hA]; delta kernelRun0_A.sl.v603 kernelRun0_A.sl.HS0_2 kernelRun0_A.sl.HS1_1; rw [View.readCov_eq_canon']; delta View.ld q_a; rfl
    have h_v627 : kernelRun0_A.sl.v627 c arg3 arg4 arg16 f2 f3 = View.ld A (Rect.unit (s := S80x8192) ![0, 6400] S80x256.size inb_S80x8192_S80x256_0_6400) := by
      rw [hA]; delta kernelRun0_A.sl.v627 kernelRun0_A.sl.HS0_2 kernelRun0_A.sl.HS1_1; rw [View.readCov_eq_canon']; delta View.ld q_a; rfl
    have h_v651 : kernelRun0_A.sl.v651 c arg3 arg4 arg16 f2 f3 = View.ld A (Rect.unit (s := S80x8192) ![0, 6656] S80x256.size inb_S80x8192_S80x256_0_6656) := by
      rw [hA]; delta kernelRun0_A.sl.v651 kernelRun0_A.sl.HS0_2 kernelRun0_A.sl.HS1_1; rw [View.readCov_eq_canon']; delta View.ld q_a; rfl
    have h_v675 : kernelRun0_A.sl.v675 c arg3 arg4 arg16 f2 f3 = View.ld A (Rect.unit (s := S80x8192) ![0, 6912] S80x256.size inb_S80x8192_S80x256_0_6912) := by
      rw [hA]; delta kernelRun0_A.sl.v675 kernelRun0_A.sl.HS0_2 kernelRun0_A.sl.HS1_1; rw [View.readCov_eq_canon']; delta View.ld q_a; rfl
    have h_v699 : kernelRun0_A.sl.v699 c arg3 arg4 arg16 f2 f3 = View.ld A (Rect.unit (s := S80x8192) ![0, 7168] S80x256.size inb_S80x8192_S80x256_0_7168) := by
      rw [hA]; delta kernelRun0_A.sl.v699 kernelRun0_A.sl.HS0_2 kernelRun0_A.sl.HS1_1; rw [View.readCov_eq_canon']; delta View.ld q_a; rfl
    have h_v723 : kernelRun0_A.sl.v723 c arg3 arg4 arg16 f2 f3 = View.ld A (Rect.unit (s := S80x8192) ![0, 7424] S80x256.size inb_S80x8192_S80x256_0_7424) := by
      rw [hA]; delta kernelRun0_A.sl.v723 kernelRun0_A.sl.HS0_2 kernelRun0_A.sl.HS1_1; rw [View.readCov_eq_canon']; delta View.ld q_a; rfl
    have h_v747 : kernelRun0_A.sl.v747 c arg3 arg4 arg16 f2 f3 = View.ld A (Rect.unit (s := S80x8192) ![0, 7680] S80x256.size inb_S80x8192_S80x256_0_7680) := by
      rw [hA]; delta kernelRun0_A.sl.v747 kernelRun0_A.sl.HS0_2 kernelRun0_A.sl.HS1_1; rw [View.readCov_eq_canon']; delta View.ld q_a; rfl
    have h_v75 : kernelRun0_A.sl.v75 c arg3 arg4 arg16 f2 f3 = View.ld A (Rect.unit (s := S80x8192) ![0, 512] S80x256.size inb_S80x8192_S80x256_0_512) := by
      rw [hA]; delta kernelRun0_A.sl.v75 kernelRun0_A.sl.HS0_2 kernelRun0_A.sl.HS1_1; rw [View.readCov_eq_canon']; delta View.ld q_a; rfl
    have h_v771 : kernelRun0_A.sl.v771 c arg3 arg4 arg16 f2 f3 = View.ld A (Rect.unit (s := S80x8192) ![0, 7936] S80x256.size inb_S80x8192_S80x256_0_7936) := by
      rw [hA]; delta kernelRun0_A.sl.v771 kernelRun0_A.sl.HS0_2 kernelRun0_A.sl.HS1_1; rw [View.readCov_eq_canon']; delta View.ld q_a; rfl
    have h_v775 : kernelRun0_A.sl.v775 c arg3 arg4 arg17 f2 f3 = View.ld S (Rect.unit (s := S72x128) ![0, 0] S72x1.size inb_S72x128_S72x1_0_0) := by
      rw [hS]; delta kernelRun0_A.sl.v775 kernelRun0_A.sl.HS0_2 kernelRun0_A.sl.HS1_1; rw [View.readCov_eq_canon']; delta View.ld q_sc; rfl
    have h_v99 : kernelRun0_A.sl.v99 c arg3 arg4 arg16 f2 f3 = View.ld A (Rect.unit (s := S80x8192) ![0, 768] S80x256.size inb_S80x8192_S80x256_0_768) := by
      rw [hA]; delta kernelRun0_A.sl.v99 kernelRun0_A.sl.HS0_2 kernelRun0_A.sl.HS1_1; rw [View.readCov_eq_canon']; delta View.ld q_a; rfl
    have h_r1 : kernelRun0_A.sl.r_1 c arg8 f7 = c_v4 ⟨View.read (Elt F) arg5.view f4, View.read (Elt F) arg6.view f5, View.read (Elt F) arg7.view f6, View.read (Elt F) arg8.view f7, View.read (Elt F) arg9.view f8, A, S⟩ := by
      delta kernelRun0_A.sl.r_1; rfl
    have h_r2 : kernelRun0_A.sl.r_2 c arg3 arg4 arg7 arg8 arg16 f2 f3 f6 f7 = c_v29 ⟨View.read (Elt F) arg5.view f4, View.read (Elt F) arg6.view f5, View.read (Elt F) arg7.view f6, View.read (Elt F) arg8.view f7, View.read (Elt F) arg9.view f8, A, S⟩ := by
      delta kernelRun0_A.sl.r_2; rw [h_v27]; rfl
    have h_r3 : kernelRun0_A.sl.r_3 c arg7 f6 = c_v39 ⟨View.read (Elt F) arg5.view f4, View.read (Elt F) arg6.view f5, View.read (Elt F) arg7.view f6, View.read (Elt F) arg8.view f7, View.read (Elt F) arg9.view f8, A, S⟩ := by
      delta kernelRun0_A.sl.r_3; rfl
    have h_r4 : kernelRun0_A.sl.r_4 c arg8 f7 = c_v43 ⟨View.read (Elt F) arg5.view f4, View.read (Elt F) arg6.view f5, View.read (Elt F) arg7.view f6, View.read (Elt F) arg8.view f7, View.read (Elt F) arg9.view f8, A, S⟩ := by
      delta kernelRun0_A.sl.r_4; rfl
    have h_r5 : kernelRun0_A.sl.r_5 c arg3 arg4 arg7 arg8 arg16 f2 f3 f6 f7 = c_v77 ⟨View.read (Elt F) arg5.view f4, View.read (Elt F) arg6.view f5, View.read (Elt F) arg7.view f6, View.read (Elt F) arg8.view f7, View.read (Elt F) arg9.view f8, A, S⟩ := by
      delta kernelRun0_A.sl.r_5; rw [h_r1, h_r2, h_r3, h_r4, h_v51, h_v75]; rfl
    have h_r6 : kernelRun0_A.sl.r_6 c arg7 f6 = c_v87 ⟨View.read (Elt F) arg5.view f4, View.read (Elt F) arg6.view f5, View.read (Elt F) arg7.view f6, View.read (Elt F) arg8.view f7, View.read (Elt F) arg9.view f8, A, S⟩ := by
      delta kernelRun0_A.sl.r_6; rfl
    have h_r7 : kernelRun0_A.sl.r_7 c arg8 f7 = c_v91 ⟨View.read (Elt F) arg5.view f4, View.read (Elt F) arg6.view f5, View.read (Elt F) arg7.view f6, View.read (Elt F) arg8.view f7, View.read (Elt F) arg9.view f8, A, S⟩ := by
      delta kernelRun0_A.sl.r_7; rw [h_r1]; rfl
    have h_r8 : kernelRun0_A.sl.r_8 c arg3 arg4 arg7 arg8 arg16 f2 f3 f6 f7 = c_v125 ⟨View.read (Elt F) arg5.view f4, View.read (Elt F) arg6.view f5, View.read (Elt F) arg7.view f6, View.read (Elt F) arg8.view f7, View.read (Elt F) arg9.view f8, A, S⟩ := by
      delta kernelRun0_A.sl.r_8; rw [h_r1, h_r5, h_r6, h_r7, h_v99, h_v123]; rfl
    have h_r9 : kernelRun0_A.sl.r_9 c arg7 f6 = c_v135 ⟨View.read (Elt F) arg5.view f4, View.read (Elt F) arg6.view f5, View.read (Elt F) arg7.view f6, View.read (Elt F) arg8.view f7, View.read (Elt F) arg9.view f8, A, S⟩ := by
      delta kernelRun0_A.sl.r_9; rfl
    have h_r10 : kernelRun0_A.sl.r_10 c arg8 f7 = c_v139 ⟨View.read (Elt F) arg5.view f4, View.read (Elt F) arg6.view f5, View.read (Elt F) arg7.view f6, View.read (Elt F) arg8.view f7, View.read (Elt F) arg9.view f8, A, S⟩ := by
      delta kernelRun0_A.sl.r_10; rw [h_r1]; rfl
    have h_r11 : kernelRun0_A.sl.r_11 c arg3 arg4 arg7 arg8 arg16 f2 f3 f6 f7 = c_v173 ⟨View.read (Elt F) arg5.view f4, View.read (Elt F) arg6.view f5, View.read (Elt F) arg7.view f6, View.read (Elt F) arg8.view f7, View.read (Elt F) arg9.view f8, A, S⟩ := by
      delta kernelRun0_A.sl.r_11; rw [h_r1, h_r8, h_r9, h_r10, h_v147, h_v171]; rfl
    have h_r12 : kernelRun0_A.sl.r_12 c arg7 f6 = c_v183 ⟨View.read (Elt F) arg5.view f4, View.read (Elt F) arg6.view f5, View.read (Elt F) arg7.view f6, View.read (Elt F) arg8.view f7, View.read (Elt F) arg9.view f8, A, S⟩ := by
      delta kernelRun0_A.sl.r_12; rfl
    have h_r13 : kernelRun0_A.sl.r_13 c arg8 f7 = c_v187 ⟨View.read (Elt F) arg5.view f4, View.read (Elt F) arg6.view f5, View.read (Elt F) arg7.view f6, View.read (Elt F) arg8.view f7, View.read (Elt F) arg9.view f8, A, S⟩ := by
      delta kernelRun0_A.sl.r_13; rw [h_r1]; rfl
    have h_r14 : kernelRun0_A.sl.r_14 c arg3 arg4 arg7 arg8 arg16 f2 f3 f6 f7 = c_v221 ⟨View.read (Elt F) arg5.view f4, View.read (Elt F) arg6.view f5, View.read (Elt F) arg7.view f6, View.read (Elt F) arg8.view f7, View.read (Elt F) arg9.view f8, A, S⟩ := by
      delta kernelRun0_A.sl.r_14; rw [h_r1, h_r11, h_r12, h_r13, h_v195, h_v219]; rfl
    have h_r15 : kernelRun0_A.sl.r_15 c arg7 f6 = c_v231 ⟨View.read (Elt F) arg5.view f4, View.read (Elt F) arg6.view f5, View.read (Elt F) arg7.view f6, View.read (Elt F) arg8.view f7, View.read (Elt F) arg9.view f8, A, S⟩ := by
      delta kernelRun0_A.sl.r_15; rfl
    have h_r16 : kernelRun0_A.sl.r_16 c arg8 f7 = c_v235 ⟨View.read (Elt F) arg5.view f4, View.read (Elt F) arg6.view f5, View.read (Elt F) arg7.view f6, View.read (Elt F) arg8.view f7, View.read (Elt F) arg9.view f8, A, S⟩ := by
      delta kernelRun0_A.sl.r_16; rw [h_r1]; rfl
    have h_r17 : kernelRun0_A.sl.r_17 c arg3 arg4 arg7 arg8 arg16 f2 f3 f6 f7 = c_v269 ⟨View.read (Elt F) arg5.view f4, View.read (Elt F) arg6.view f5, View.read (Elt F) arg7.view f6, View.read (Elt F) arg8.view f7, View.read (Elt F) arg9.view f8, A, S⟩ := by
      delta kernelRun0_A.sl.r_17; rw [h_r1, h_r14, h_r15, h_r16, h_v243, h_v267]; rfl
    have h_r18 : kernelRun0_A.sl.r_18 c arg7 f6 = c_v279 ⟨View.read (Elt F) arg5.view f4, View.read (Elt F) arg6.view f5, View.read (Elt F) arg7.view f6, View.read (Elt F) arg8.view f7, View.read (Elt F) arg9.view f8, A, S⟩ := by
      delta kernelRun0_A.sl.r_18; rfl
    have h_r19 : kernelRun0_A.sl.r_19 c arg8 f7 = c_v283 ⟨View.read (Elt F) arg5.view f4, View.read (Elt F) arg6.view f5, View.read (Elt F) arg7.view f6, View.read (Elt F) arg8.view f7, View.read (Elt F) arg9.view f8, A, S⟩ := by
      delta kernelRun0_A.sl.r_19; rw [h_r1]; rfl
    have h_r20 : kernelRun0_A.sl.r_20 c arg3 arg4 arg7 arg8 arg16 f2 f3 f6 f7 = c_v317 ⟨View.read (Elt F) arg5.view f4, View.read (Elt F) arg6.view f5, View.read (Elt F) arg7.view f6, View.read (Elt F) arg8.view f7, View.read (Elt F) arg9.view f8, A, S⟩ := by
      delta kernelRun0_A.sl.r_20; rw [h_r1, h_r17, h_r18, h_r19, h_v291, h_v315]; rfl
    have h_r21 : kernelRun0_A.sl.r_21 c arg7 f6 = c_v327 ⟨View.read (Elt F) arg5.view f4, View.read (Elt F) arg6.view f5, View.read (Elt F) arg7.view f6, View.read (Elt F) arg8.view f7, View.read (Elt F) arg9.view f8, A, S⟩ := by
      delta kernelRun0_A.sl.r_21; rfl
    have h_r22 : kernelRun0_A.sl.r_22 c arg8 f7 = c_v331 ⟨View.read (Elt F) arg5.view f4, View.read (Elt F) arg6.view f5, View.read (Elt F) arg7.view f6, View.read (Elt F) arg8.view f7, View.read (Elt F) arg9.view f8, A, S⟩ := by
      delta kernelRun0_A.sl.r_22; rw [h_r1]; rfl
    have h_r23 : kernelRun0_A.sl.r_23 c arg3 arg4 arg7 arg8 arg16 f2 f3 f6 f7 = c_v365 ⟨View.read (Elt F) arg5.view f4, View.read (Elt F) arg6.view f5, View.read (Elt F) arg7.view f6, View.read (Elt F) arg8.view f7, View.read (Elt F) arg9.view f8, A, S⟩ := by
      delta kernelRun0_A.sl.r_23; rw [h_r1, h_r20, h_r21, h_r22, h_v339, h_v363]; rfl
    have h_r24 : kernelRun0_A.sl.r_24 c arg7 f6 = c_v375 ⟨View.read (Elt F) arg5.view f4, View.read (Elt F) arg6.view f5, View.read (Elt F) arg7.view f6, View.read (Elt F) arg8.view f7, View.read (Elt F) arg9.view f8, A, S⟩ := by
      delta kernelRun0_A.sl.r_24; rfl
    have h_r25 : kernelRun0_A.sl.r_25 c arg8 f7 = c_v379 ⟨View.read (Elt F) arg5.view f4, View.read (Elt F) arg6.view f5, View.read (Elt F) arg7.view f6, View.read (Elt F) arg8.view f7, View.read (Elt F) arg9.view f8, A, S⟩ := by
      delta kernelRun0_A.sl.r_25; rw [h_r1]; rfl
    have h_r26 : kernelRun0_A.sl.r_26 c arg3 arg4 arg7 arg8 arg16 f2 f3 f6 f7 = c_v413 ⟨View.read (Elt F) arg5.view f4, View.read (Elt F) arg6.view f5, View.read (Elt F) arg7.view f6, View.read (Elt F) arg8.view f7, View.read (Elt F) arg9.view f8, A, S⟩ := by
      delta kernelRun0_A.sl.r_26; rw [h_r1, h_r23, h_r24, h_r25, h_v387, h_v411]; rfl
    have h_r27 : kernelRun0_A.sl.r_27 c arg7 f6 = c_v423 ⟨View.read (Elt F) arg5.view f4, View.read (Elt F) arg6.view f5, View.read (Elt F) arg7.view f6, View.read (Elt F) arg8.view f7, View.read (Elt F) arg9.view f8, A, S⟩ := by
      delta kernelRun0_A.sl.r_27; rfl
    have h_r28 : kernelRun0_A.sl.r_28 c arg8 f7 = c_v427 ⟨View.read (Elt F) arg5.view f4, View.read (Elt F) arg6.view f5, View.read (Elt F) arg7.view f6, View.read (Elt F) arg8.view f7, View.read (Elt F) arg9.view f8, A, S⟩ := by
      delta kernelRun0_A.sl.r_28; rw [h_r1]; rfl
    have h_r29 : kernelRun0_A.sl.r_29 c arg3 arg4 arg7 arg8 arg16 f2 f3 f6 f7 = c_v461 ⟨View.read (Elt F) arg5.view f4, View.read (Elt F) arg6.view f5, View.read (Elt F) arg7.view f6, View.read (Elt F) arg8.view f7, View.read (Elt F) arg9.view f8, A, S⟩ := by
      delta kernelRun0_A.sl.r_29; rw [h_r1, h_r26, h_r27, h_r28, h_v435, h_v459]; rfl
    have h_r30 : kernelRun0_A.sl.r_30 c arg7 f6 = c_v471 ⟨View.read (Elt F) arg5.view f4, View.read (Elt F) arg6.view f5, View.read (Elt F) arg7.view f6, View.read (Elt F) arg8.view f7, View.read (Elt F) arg9.view f8, A, S⟩ := by
      delta kernelRun0_A.sl.r_30; rfl
    have h_r31 : kernelRun0_A.sl.r_31 c arg8 f7 = c_v475 ⟨View.read (Elt F) arg5.view f4, View.read (Elt F) arg6.view f5, View.read (Elt F) arg7.view f6, View.read (Elt F) arg8.view f7, View.read (Elt F) arg9.view f8, A, S⟩ := by
      delta kernelRun0_A.sl.r_31; rw [h_r1]; rfl
    have h_r32 : kernelRun0_A.sl.r_32 c arg3 arg4 arg7 arg8 arg16 f2 f3 f6 f7 = c_v509 ⟨View.read (Elt F) arg5.view f4, View.read (Elt F) arg6.view f5, View.read (Elt F) arg7.view f6, View.read (Elt F) arg8.view f7, View.read (Elt F) arg9.view f8, A, S⟩ := by
      delta kernelRun0_A.sl.r_32; rw [h_r1, h_r29, h_r30, h_r31, h_v483, h_v507]; rfl
    have h_r33 : kernelRun0_A.sl.r_33 c arg7 f6 = c_v519 ⟨View.read (Elt F) arg5.view f4, View.read (Elt F) arg6.view f5, View.read (Elt F) arg7.view f6, View.read (Elt F) arg8.view f7, View.read (Elt F) arg9.view f8, A, S⟩ := by
      delta kernelRun0_A.sl.r_33; rfl
    have h_r34 : kernelRun0_A.sl.r_34 c arg8 f7 = c_v523 ⟨View.read (Elt F) arg5.view f4, View.read (Elt F) arg6.view f5, View.read (Elt F) arg7.view f6, View.read (Elt F) arg8.view f7, View.read (Elt F) arg9.view f8, A, S⟩ := by
      delta kernelRun0_A.sl.r_34; rw [h_r1]; rfl
    have h_r35 : kernelRun0_A.sl.r_35 c arg3 arg4 arg7 arg8 arg16 f2 f3 f6 f7 = c_v557 ⟨View.read (Elt F) arg5.view f4, View.read (Elt F) arg6.view f5, View.read (Elt F) arg7.view f6, View.read (Elt F) arg8.view f7, View.read (Elt F) arg9.view f8, A, S⟩ := by
      delta kernelRun0_A.sl.r_35; rw [h_r1, h_r32, h_r33, h_r34, h_v531, h_v555]; rfl
    have h_r36 : kernelRun0_A.sl.r_36 c arg7 f6 = c_v567 ⟨View.read (Elt F) arg5.view f4, View.read (Elt F) arg6.view f5, View.read (Elt F) arg7.view f6, View.read (Elt F) arg8.view f7, View.read (Elt F) arg9.view f8, A, S⟩ := by
      delta kernelRun0_A.sl.r_36; rfl
    have h_r37 : kernelRun0_A.sl.r_37 c arg8 f7 = c_v571 ⟨View.read (Elt F) arg5.view f4, View.read (Elt F) arg6.view f5, View.read (Elt F) arg7.view f6, View.read (Elt F) arg8.view f7, View.read (Elt F) arg9.view f8, A, S⟩ := by
      delta kernelRun0_A.sl.r_37; rw [h_r1]; rfl
    have h_r38 : kernelRun0_A.sl.r_38 c arg3 arg4 arg7 arg8 arg16 f2 f3 f6 f7 = c_v605 ⟨View.read (Elt F) arg5.view f4, View.read (Elt F) arg6.view f5, View.read (Elt F) arg7.view f6, View.read (Elt F) arg8.view f7, View.read (Elt F) arg9.view f8, A, S⟩ := by
      delta kernelRun0_A.sl.r_38; rw [h_r1, h_r35, h_r36, h_r37, h_v579, h_v603]; rfl
    have h_r39 : kernelRun0_A.sl.r_39 c arg7 f6 = c_v615 ⟨View.read (Elt F) arg5.view f4, View.read (Elt F) arg6.view f5, View.read (Elt F) arg7.view f6, View.read (Elt F) arg8.view f7, View.read (Elt F) arg9.view f8, A, S⟩ := by
      delta kernelRun0_A.sl.r_39; rfl
    have h_r40 : kernelRun0_A.sl.r_40 c arg8 f7 = c_v619 ⟨View.read (Elt F) arg5.view f4, View.read (Elt F) arg6.view f5, View.read (Elt F) arg7.view f6, View.read (Elt F) arg8.view f7, View.read (Elt F) arg9.view f8, A, S⟩ := by
      delta kernelRun0_A.sl.r_40; rw [h_r1]; rfl
    have h_r41 : kernelRun0_A.sl.r_41 c arg3 arg4 arg7 arg8 arg16 f2 f3 f6 f7 = c_v653 ⟨View.read (Elt F) arg5.view f4, View.read (Elt F) arg6.view f5, View.read (Elt F) arg7.view f6, View.read (Elt F) arg8.view f7, View.read (Elt F) arg9.view f8, A, S⟩ := by
      delta kernelRun0_A.sl.r_41; rw [h_r1, h_r38, h_r39, h_r40, h_v627, h_v651]; rfl
    have h_r42 : kernelRun0_A.sl.r_42 c arg7 f6 = c_v663 ⟨View.read (Elt F) arg5.view f4, View.read (Elt F) arg6.view f5, View.read (Elt F) arg7.view f6, View.read (Elt F) arg8.view f7, View.read (Elt F) arg9.view f8, A, S⟩ := by
      delta kernelRun0_A.sl.r_42; rfl
    have h_r43 : kernelRun0_A.sl.r_43 c arg8 f7 = c_v667 ⟨View.read (Elt F) arg5.view f4, View.read (Elt F) arg6.view f5, View.read (Elt F) arg7.view f6, View.read (Elt F) arg8.view f7, View.read (Elt F) arg9.view f8, A, S⟩ := by
      delta kernelRun0_A.sl.r_43; rw [h_r1]; rfl
    have h_r44 : kernelRun0_A.sl.r_44 c arg3 arg4 arg7 arg8 arg16 f2 f3 f6 f7 = c_v701 ⟨View.read (Elt F) arg5.view f4, View.read (Elt F) arg6.view f5, View.read (Elt F) arg7.view f6, View.read (Elt F) arg8.view f7, View.read (Elt F) arg9.view f8, A, S⟩ := by
      delta kernelRun0_A.sl.r_44; rw [h_r1, h_r41, h_r42, h_r43, h_v675, h_v699]; rfl
    have h_r45 : kernelRun0_A.sl.r_45 c arg7 f6 = c_v711 ⟨View.read (Elt F) arg5.view f4, View.read (Elt F) arg6.view f5, View.read (Elt F) arg7.view f6, View.read (Elt F) arg8.view f7, View.read (Elt F) arg9.view f8, A, S⟩ := by
      delta kernelRun0_A.sl.r_45; rfl
    have h_r46 : kernelRun0_A.sl.r_46 c arg8 f7 = c_v715 ⟨View.read (Elt F) arg5.view f4, View.read (Elt F) arg6.view f5, View.read (Elt F) arg7.view f6, View.read (Elt F) arg8.view f7, View.read (Elt F) arg9.view f8, A, S⟩ := by
      delta kernelRun0_A.sl.r_46; rw [h_r1]; rfl
    have h_r47 : kernelRun0_A.sl.r_47 c arg3 arg4 arg7 arg8 arg16 f2 f3 f6 f7 = c_v749 ⟨View.read (Elt F) arg5.view f4, View.read (Elt F) arg6.view f5, View.read (Elt F) arg7.view f6, View.read (Elt F) arg8.view f7, View.read (Elt F) arg9.view f8, A, S⟩ := by
      delta kernelRun0_A.sl.r_47; rw [h_r1, h_r44, h_r45, h_r46, h_v723, h_v747]; rfl
    have h_r48 : kernelRun0_A.sl.r_48 c arg7 f6 = c_v759 ⟨View.read (Elt F) arg5.view f4, View.read (Elt F) arg6.view f5, View.read (Elt F) arg7.view f6, View.read (Elt F) arg8.view f7, View.read (Elt F) arg9.view f8, A, S⟩ := by
      delta kernelRun0_A.sl.r_48; rfl
    have h_r49 : kernelRun0_A.sl.r_49 c arg8 f7 = c_v763 ⟨View.read (Elt F) arg5.view f4, View.read (Elt F) arg6.view f5, View.read (Elt F) arg7.view f6, View.read (Elt F) arg8.view f7, View.read (Elt F) arg9.view f8, A, S⟩ := by
      delta kernelRun0_A.sl.r_49; rw [h_r1]; rfl
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; exact View.read_writes_eq_canon _ _ _ (fun y => cover_c _ y)
    isplitl [H10]
    · iexists _; isplitr; swap; · iexact H10
      ipureintro; exact View.read_writes_eq_canon _ _ _ (fun y => cover_s _ y)
    isplitl [H11]
    · iexists _; isplitr; swap; · iexact H11
      ipureintro
      delta kernelRun0_A.sl.r_50
      rw [h_r1, h_r47, h_r48, h_r49, h_v771, h_v775]
      refine (q_step i hc1 _ _ (qp ⟨View.read (Elt F) arg5.view f4, View.read (Elt F) arg6.view f5, View.read (Elt F) arg7.view f6, View.read (Elt F) arg8.view f7, View.read (Elt F) arg9.view f8, A, S⟩)).trans ?_
      rw [hA, hS]
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [HS0]
    · iexists _; isplitr; swap; · iexact HS0
      ipureintro; exact View.read_writes_eq_canon _ _ _ (fun y => cover_a _ _ y)
    iexists _; isplitr; swap; · iexact HS1
    ipureintro; exact View.read_writes_eq_canon _ _ _ (fun y => cover_sc _ y)

end Cert.QkvIdeal.Run

end
-- ==== Proof.Qkv.RunC.lean ====
/- The Qkv kernel's body at the last point. -/
module

public import proofs.«01_k».proof.Proof.Qkv.RunB

@[expose] public section

set_option maxRecDepth 16384

noncomputable section

namespace Cert.QkvIdeal.Run
open Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last point: everything stored before is kept; the two keys and values are quantised, and the row sums of
    the products of the queries with the keys are stored. -/
theorem kernelRun0_C (c : Dev nD) (i : grid0.Coords) (arg1 : Memref sig .tc .smem S2 .f32) (harg1 : arg1.IsWhole) (arg2 : Memref sig .tc .smem S2 .f32) (harg2 : arg2.IsWhole) (arg3 : Memref sig .tc .vmem S72x8192 .bf16) (harg3 : arg3.IsWhole) (arg4 : Memref sig .tc .vmem S1x8192 .f32) (harg4 : arg4.IsWhole) (arg5 : Memref sig .tc .vmem S72x128 .f32) (harg5 : arg5.IsWhole) (arg6 : Memref sig .tc .vmem S72x128 .f32) (harg6 : arg6.IsWhole) (arg7 : Memref sig .tc .vmem S1024x512 .i32) (harg7 : arg7.IsWhole) (arg8 : Memref sig .tc .vmem S64x512 .fp8e4m3) (harg8 : arg8.IsWhole) (arg9 : Memref sig .tc .vmem S1x512 .f32) (harg9 : arg9.IsWhole) (arg10 : Memref sig .tc .vmem S72x8192 .fp8e4m3) (harg10 : arg10.IsWhole) (arg11 : Memref sig .tc .vmem S1x72 .f32) (harg11 : arg11.IsWhole) (arg12 : Memref sig .tc .vmem S16x72x128 .f32) (harg12 : arg12.IsWhole) (arg13 : Memref sig .tc .vmem S16x72x128 .f32) (harg13 : arg13.IsWhole) (arg14 : Memref sig .tc .vmem S2x72x128 .fp8e4m3) (harg14 : arg14.IsWhole) (arg15 : Memref sig .tc .vmem S2x72x128 .fp8e4m3) (harg15 : arg15.IsWhole) (arg16 : Memref sig .tc .vmem S80x8192 .bf16) (harg16 : arg16.IsWhole) (arg17 : Memref sig .tc .vmem S72x128 .f32) (harg17 : arg17.IsWhole) (hc0 : ¬cond0_0 i) (hc1 : ¬cond0_1 i) (hc2 : cond0_2 i)
    (x0 : Vec F S2 .f32) (x1 : Vec F S2 .f32) (x2 : Vec F S72x8192 .bf16) (x3 : Vec F S1x8192 .f32) (x4 : Vec F S72x128 .f32) (x5 : Vec F S72x128 .f32) (x6 : Vec F S1024x512 .i32) (x7 : Vec F S64x512 .fp8e4m3) (x8 : Vec F S1x512 .f32) (ca : Vec F S72x8192 .fp8e4m3) (sa : Vec F S1x72 .f32) (q : Vec F S16x72x128 .f32) (a : Vec F S80x8192 .bf16) (sc : Vec F S72x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare ca ∗ owns (c : Thread nD τ) arg11 fullShare sa ∗ owns (c : Thread nD τ) arg12 fullShare q ∗ (∃ d, owns (c : Thread nD τ) arg13 fullShare d) ∗ (∃ d, owns (c : Thread nD τ) arg14 fullShare d) ∗ (∃ d, owns (c : Thread nD τ) arg15 fullShare d) ∗ owns (c : Thread nD τ) arg16 fullShare a ∗ owns (c : Thread nD τ) arg17 fullShare sc
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare ca ∗ owns (c : Thread nD τ) arg11 fullShare sa ∗ owns (c : Thread nD τ) arg12 fullShare q ∗ owns (c : Thread nD τ) arg13 fullShare (q_sn ⟨x4, x5, x6, x7, x8, a, sc⟩ x0 x1 q) ∗ owns (c : Thread nD τ) arg14 fullShare (q_kc ⟨x4, x5, x6, x7, x8, a, sc⟩ x0 x1 q) ∗ owns (c : Thread nD τ) arg15 fullShare (q_vc ⟨x4, x5, x6, x7, x8, a, sc⟩ x0 x1 q) ∗ owns (c : Thread nD τ) arg16 fullShare a ∗ owns (c : Thread nD τ) arg17 fullShare sc) -∗ K ⟨⟩))
          ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    intro E K
    simp only [cc0_qkv_eq_skeleton]; unfold cc0_qkv_skel
    simp only [k0_part28_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%fs0, %hfs0, HS0⟩, ⟨%fs1, %hfs1, HS1⟩, Hk⟩
    subst hf0 hf1 hf2 hf3 hf4 hf5 hf6 hf7 hf8 hf11 hf9 hf10 hfs0 hfs1
    sl_exec (disch := first | sl_exact hc0 | sl_exact hc1 | sl_exact hc2)
    sl_step
    iapply Hk
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; rfl
    isplitl [H10]
    · iexists _; isplitr; swap; · iexact H10
      ipureintro; rfl
    isplitl [H11]
    · iexists _; isplitr; swap; · iexact H11
      ipureintro; rfl
    isplitl [H12]
    · iexists _; isplitr; swap; · iexact H12
      ipureintro; exact View.read_writes_eq_canon _ _ _ (fun y => cover_sn _ _ _ _ _ _ _ _ _ _ _ _ _ _ _ _ y)
    isplitl [H13]
    · iexists _; isplitr; swap; · iexact H13
      ipureintro; exact View.read_writes_eq_canon _ _ _ (fun y => cover_kc _ _ y)
    isplitl [H14]
    · iexists _; isplitr; swap; · iexact H14
      ipureintro; exact View.read_writes_eq_canon _ _ _ (fun y => cover_vc _ _ y)
    isplitl [HS0]
    · iexists _; isplitr; swap; · iexact HS0
      ipureintro; rfl
    iexists _; isplitr; swap; · iexact HS1
    ipureintro; rfl

end Cert.QkvIdeal.Run

end
-- ==== Proof.Qkv.Frame.lean ====
/- The frame of the Qkv kernel with its outputs named: what each point leaves in its buffers, the body obligation, the
   launch and the frame claim. The queries are filled four heads a point, so what is known of their buffer after a point
   is a relation: the heads stored so far are the final ones. -/
module

public import proofs.«01_k».proof.Proof.Qkv.RunA
public import proofs.«01_k».proof.Proof.Qkv.RunB
public import proofs.«01_k».proof.Proof.Qkv.RunC
public import Idealize.ShloMosaic.Lib.Claim
public import Idealize.ShloMosaic.Lib.Pipeline.DatRel
public import Idealize.ShloMosaic.Lib.Pipeline.ArrRel

@[expose] public section

set_option maxRecDepth 16384

noncomputable section

namespace Cert.QkvIdeal.Run
open Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The grid's first point. -/
def t0 : Fin cfg0.N := ⟨0, by rw [show cfg0.N = 5 from N_0]; decide⟩

/-- The grid's last point. -/
def t4 : Fin cfg0.N := ⟨4, by rw [show cfg0.N = 5 from N_0]; decide⟩

/-- What the body multiplies and rotates with at point `t`. -/
def ops (c : Dev nD) (t : Fin cfg0.N) : Ops F :=
  ⟨iblk m c 4 t, iblk m c 5 t, iblk m c 6 t, iblk m c 7 t, iblk m c 8 t, q_a (iblk m c 2 t0) (iblk m c 3 t0), q_sc (iblk m c 2 t0) (iblk m c 3 t0)⟩

/-- The point that stores the head of a query. -/
def headPt (y : S16x72x128.Idx) : Fin cfg0.N :=
  ⟨(y 0).val / 4, by rw [show cfg0.N = 5 from N_0]; have : (y 0).val < 16 := (y 0).isLt; omega⟩

/-- The queries once all heads are stored. -/
def qAll (c : Dev nD) : Vec F S16x72x128 .f32 :=
  fun y => qp (ops m c (headPt y)) ((y 0).val % 4) (ValueIdx.ix3 0 (y 1) (y 2))

/-- The scores of the new token as the last point stores them. -/
def snAll (c : Dev nD) : Vec F S16x72x128 .f32 := q_sn (ops m c t4) (iblk m c 0 t4) (iblk m c 1 t4) (qAll m c)

/-- The codes of the new keys. -/
def kcAll (c : Dev nD) : Vec F S2x72x128 .fp8e4m3 := q_kc (ops m c t4) (iblk m c 0 t4) (iblk m c 1 t4) (qAll m c)

/-- The codes of the new values. -/
def vcAll (c : Dev nD) : Vec F S2x72x128 .fp8e4m3 := q_vc (ops m c t4) (iblk m c 0 t4) (iblk m c 1 t4) (qAll m c)

/-- What the region keeps between points: before the first point nothing, afterwards the two scratch buffers at what
    the first point leaves in them. -/
def Phi (c : Dev nD) (t : Fin (cfg0.N + 1)) : sProp 𝕄 :=
  if t.val = 0 then Pipeline.ΦA spec0 c
  else iprop(iprop(owns (c : Thread nD τ) scM0_0 fullShare (q_a (iblk m c 2 t0) (iblk m c 3 t0)) ∗ owns (c : Thread nD τ) scM0_1 fullShare (q_sc (iblk m c 2 t0) (iblk m c 3 t0))) ∗ (∃ r, prngReg c r))

/-- The proof data of the one pipeline on core `c`: each input's buffer at its block, each output's at what it ends at. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => q_c (iblk m c 2 t0) (iblk m c 3 t0)
    | ⟨10, _⟩ => q_s (iblk m c 2 t0) (iblk m c 3 t0)
    | ⟨11, _⟩ => qAll m c
    | ⟨12, _⟩ => snAll m c
    | ⟨13, _⟩ => kcAll m c
    | ⟨14, _⟩ => vcAll m c
  Φ := Phi m c
  q _ := fullShare
  owed _ := 0

/-- The outputs, held to a relation. -/
def fgt (w : Fin cfg0.W) : Bool := match w with
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => true
  | ⟨10, _⟩ => true
  | ⟨11, _⟩ => true
  | ⟨12, _⟩ => true
  | ⟨13, _⟩ => true
  | ⟨14, _⟩ => true

/-- What is known of an output's buffer after point `t`: the codes and the scales are stored, of the queries the heads of
    this point and of those before it, and at the last point the other three. -/
def Rl (c : Dev nD) (w : Fin cfg0.W) (t : Fin cfg0.N) : ((cfg0.win w).block.Idx → Elt F (cfg0.win w).elt) → Prop := match w with
  | ⟨0, _⟩ => fun _ => True
  | ⟨1, _⟩ => fun _ => True
  | ⟨2, _⟩ => fun _ => True
  | ⟨3, _⟩ => fun _ => True
  | ⟨4, _⟩ => fun _ => True
  | ⟨5, _⟩ => fun _ => True
  | ⟨6, _⟩ => fun _ => True
  | ⟨7, _⟩ => fun _ => True
  | ⟨8, _⟩ => fun _ => True
  | ⟨9, _⟩ => fun X => X = q_c (iblk m c 2 t0) (iblk m c 3 t0)
  | ⟨10, _⟩ => fun X => X = q_s (iblk m c 2 t0) (iblk m c 3 t0)
  | ⟨11, _⟩ => fun X => ∀ y : S16x72x128.Idx, (y 0).val / 4 ≤ t.val → X y = qAll m c y
  | ⟨12, _⟩ => fun X => t.val = 4 → X = snAll m c
  | ⟨13, _⟩ => fun X => t.val = 4 → X = kcAll m c
  | ⟨14, _⟩ => fun X => t.val = 4 → X = vcAll m c

/-- The data with the outputs held to the relation. -/
def rdats (c : Dev nD) : RDat τ (Elt F) Unit ℕ (UR sig nD τ) ℕ cfg0 c := (dats m 0 c).toRRel fgt (Rl m c)

/-- The proof data's arrays are the region-entry contents. -/
theorem A_eq (c : Dev nD) (w : Fin cfg0.W) : (dats m 0 c).A w = V m c (Pipeline.arrRef spec0 w) := by
  dsimp only [dats]

/-- What the body leaves in each input. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- An output's buffer is found as the point before left it. -/
theorem found (c : Dev nD) (w : Fin cfg0.W) (t : Fin cfg0.N) (hw : fgt w = true) (ho : (cfg0.win w).isOut = true) (ht : t.val ≠ 0)
    (hf : (cfg0.win w).flush ⟨t.val - 1, Nat.lt_of_le_of_lt (Nat.sub_le _ _) t.isLt⟩ = false) (Y) (hY : (rdats m c).Finds w t Y) :
    Rl m c w ⟨t.val - 1, Nat.lt_of_le_of_lt (Nat.sub_le _ _) t.isLt⟩ Y := by
  rcases ((rdats m c).finds_of_pos ((cfg0.win w).fetch_out ho t) ht Y).mp hY with h | h
  · rw [hf] at h; exact absurd h Bool.false_ne_true
  · exact (dats m 0 c).toRRel_leaves hw h

/-- The grid has one axis. -/
theorem coord0 (t : Fin cfg0.N) : (grid0.coords t 0).val = t.val := by
  have ht : t.val < 5 := Nat.lt_of_lt_of_eq t.isLt N_0
  have e0 : (grid0.coords t 0).val = t.val / 1 % 5 := Pipeline.Grid.coords_val t 0 (by decide) rfl
  omega

/-- A point that stores heads extends the relation on the queries. -/
theorem next_ok (c : Dev nD) (t : Fin cfg0.N) (Y : Vec F S16x72x128 .f32) (h : ∀ y, (y 0).val / 4 < t.val → Y y = qAll m c y) (y : S16x72x128.Idx)
    (hy : (y 0).val / 4 ≤ t.val) : qNext (grid0.coords t) (qp (ops m c t)) Y y = qAll m c y := by
  unfold qNext
  by_cases e : (y 0).val / 4 = t.val
  · rw [if_pos (by rw [coord0, e])]
    have : headPt y = t := Fin.ext e
    unfold qAll; rw [this]
  · rw [if_neg (by rw [coord0]; exact e)]
    exact h y (by omega)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ Y, ⌜(rdats m c).Finds 9 t Y⌝ ∗ owns (c : Thread nD τ) (ms0_9 t) fullShare Y)
    ∗ (∃ Y, ⌜(rdats m c).Finds 10 t Y⌝ ∗ owns (c : Thread nD τ) (ms0_10 t) fullShare Y)
    ∗ (∃ Y, ⌜(rdats m c).Finds 11 t Y⌝ ∗ owns (c : Thread nD τ) (ms0_11 t) fullShare Y)
    ∗ (∃ Y, ⌜(rdats m c).Finds 12 t Y⌝ ∗ owns (c : Thread nD τ) (ms0_12 t) fullShare Y)
    ∗ (∃ Y, ⌜(rdats m c).Finds 13 t Y⌝ ∗ owns (c : Thread nD τ) (ms0_13 t) fullShare Y)
    ∗ (∃ Y, ⌜(rdats m c).Finds 14 t Y⌝ ∗ owns (c : Thread nD τ) (ms0_14 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ (∃ X, ⌜Rl m c 9 t X⌝ ∗ owns (c : Thread nD τ) (ms0_9 t) fullShare X)
    ∗ (∃ X, ⌜Rl m c 10 t X⌝ ∗ owns (c : Thread nD τ) (ms0_10 t) fullShare X)
    ∗ (∃ X, ⌜Rl m c 11 t X⌝ ∗ owns (c : Thread nD τ) (ms0_11 t) fullShare X)
    ∗ (∃ X, ⌜Rl m c 12 t X⌝ ∗ owns (c : Thread nD τ) (ms0_12 t) fullShare X)
    ∗ (∃ X, ⌜Rl m c 13 t X⌝ ∗ owns (c : Thread nD τ) (ms0_13 t) fullShare X)
    ∗ (∃ X, ⌜Rl m c 14 t X⌝ ∗ owns (c : Thread nD τ) (ms0_14 t) fullShare X))

set_option maxHeartbeats 3200000 in
/-- The body at any point: the first point fills the scratch, the codes and the scales, the points before the last store four
    heads each, the last point reads them all. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, after0_0, after0_1, after0_2, after0_3, after0_4, after0_5, after0_6, after0_7, after0_8]
  rw [show (dats m 0 c).owesAt () t.succ = (dats m 0 c).owesAt () t.castSucc from rfl]
  rw [show (dats m 0 c).Φ t.succ = Phi m c t.succ from rfl, show (dats m 0 c).Φ t.castSucc = Phi m c t.castSucc from rfl]
  have hN : t.val < 5 := lt_of_lt_of_eq t.isLt (show cfg0.N = 5 from N_0)
  rw [show Phi m c t.succ = _ from if_neg (Nat.succ_ne_zero t.val)]
  by_cases h0 : t.val % 5 = 0
  · obtain rfl : t = t0 := Fin.ext (by have : t0.val = 0 := rfl; omega)
    rw [show Phi m c (t0 : Fin cfg0.N).castSucc = _ from if_pos rfl, PhiA0_eq]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%Y9, %hY9, H9⟩, ⟨%Y10, %hY10, H10⟩, ⟨%Y11, %hY11, H11⟩, ⟨%Y12, %hY12, H12⟩, ⟨%Y13, %hY13, H13⟩, ⟨%Y14, %hY14, H14⟩⟩
    iapply ((kernelRun0_A c (grid0.coords t0) _ _ _ _ _ _ _ _ _ _ _ _ _ _ _ _ _ _ _ _ _ _ _ _ _ _ _ _ _ _ _ _ _ _ ((hcond0_0 t0).mpr h0) ((hcond0_1 t0).mpr (by show 0 < 4; decide)) (fun h => by have := (hcond0_2 t0).mp h; omega) (iblk m c 0 t0) (iblk m c 1 t0) (iblk m c 2 t0) (iblk m c 3 t0) (iblk m c 4 t0) (iblk m c 5 t0) (iblk m c 6 t0) (iblk m c 7 t0) (iblk m c 8 t0) Y11) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexact H11
    isplitl [H12]; · iexists _; iexact H12
    isplitl [H13]; · iexists _; iexact H13
    isplitl [H14]; · iexists _; iexact H14
    isplitl [HS0]; · iexact HS0
    isplitl [HS1]; · iexact HS1
    iintro ⟨H0, H1, H2, H3, H4, H5, H6, H7, H8, H9, H10, H11, H12, H13, H14, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · iexists _; isplitr; swap; · iexact H9
      ipureintro; exact rfl
    isplitl [H10]
    · iexists _; isplitr; swap; · iexact H10
      ipureintro; exact rfl
    isplitl [H11]
    · iexists _; isplitr; swap; · iexact H11
      ipureintro; exact next_ok m c t0 Y11 (fun y h => absurd h (Nat.not_lt_zero _))
    isplitl [H12]
    · icases H12 with ⟨%e12, H12⟩
      iexists e12; isplitr; swap; · iexact H12
      ipureintro; exact fun h => absurd h (by show ¬ (0 = 4); decide)
    isplitl [H13]
    · icases H13 with ⟨%e13, H13⟩
      iexists e13; isplitr; swap; · iexact H13
      ipureintro; exact fun h => absurd h (by show ¬ (0 = 4); decide)
    icases H14 with ⟨%e14, H14⟩
    iexists e14; isplitr; swap; · iexact H14
    ipureintro; exact fun h => absurd h (by show ¬ (0 = 4); decide)
  · have ht : t.val ≠ 0 := by omega
    rw [show Phi m c t.castSucc = _ from if_neg ht]
    have nf : ∀ p : Prop, (p ↔ (t.val - 1) % 5 = 4) → ¬ p := fun p h hp => by have := h.mp hp; omega
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%Y9, %hY9, H9⟩, ⟨%Y10, %hY10, H10⟩, ⟨%Y11, %hY11, H11⟩, ⟨%Y12, %hY12, H12⟩, ⟨%Y13, %hY13, H13⟩, ⟨%Y14, %hY14, H14⟩⟩
    have r9 : Y9 = q_c (iblk m c 2 t0) (iblk m c 3 t0) := found m c 9 t rfl rfl ht (Bool.eq_false_iff.mpr (nf _ (flush0_9 _))) Y9 hY9
    have r10 : Y10 = q_s (iblk m c 2 t0) (iblk m c 3 t0) := found m c 10 t rfl rfl ht (Bool.eq_false_iff.mpr (nf _ (flush0_10 _))) Y10 hY10
    have r11 : ∀ y : S16x72x128.Idx, (y 0).val / 4 ≤ t.val - 1 → Y11 y = qAll m c y := found m c 11 t rfl rfl ht (Bool.eq_false_iff.mpr (nf _ (flush0_11 _))) Y11 hY11
    by_cases h4 : t.val < 4
    · iapply ((kernelRun0_B c (grid0.coords t) _ _ _ _ _ _ _ _ _ _ _ _ _ _ _ _ _ _ _ _ _ _ _ _ _ _ _ _ _ _ _ _ _ _ (fun h => h0 ((hcond0_0 t).mp h)) ((hcond0_1 t).mpr h4) (fun h => by have := (hcond0_2 t).mp h; omega) (iblk m c 0 t) (iblk m c 1 t) (iblk m c 2 t) (iblk m c 3 t) (iblk m c 4 t) (iblk m c 5 t) (iblk m c 6 t) (iblk m c 7 t) (iblk m c 8 t) Y9 Y10 Y11 (q_a (iblk m c 2 t0) (iblk m c 3 t0)) (q_sc (iblk m c 2 t0) (iblk m c 3 t0))) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexists _; iexact H14
      isplitl [HS0]; · iexact HS0
      isplitl [HS1]; · iexact HS1
      iintro ⟨H0, H1, H2, H3, H4, H5, H6, H7, H8, H9, H10, H11, H12, H13, H14, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · iexists _; isplitr; swap; · iexact H9
        ipureintro; exact r9
      isplitl [H10]
      · iexists _; isplitr; swap; · iexact H10
        ipureintro; exact r10
      isplitl [H11]
      · iexists _; isplitr; swap; · iexact H11
        ipureintro; exact next_ok m c t Y11 (fun y h => r11 y (by omega))
      isplitl [H12]
      · icases H12 with ⟨%e12, H12⟩
        iexists e12; isplitr; swap; · iexact H12
        ipureintro; exact fun h => absurd h (Nat.ne_of_lt h4)
      isplitl [H13]
      · icases H13 with ⟨%e13, H13⟩
        iexists e13; isplitr; swap; · iexact H13
        ipureintro; exact fun h => absurd h (Nat.ne_of_lt h4)
      icases H14 with ⟨%e14, H14⟩
      iexists e14; isplitr; swap; · iexact H14
      ipureintro; exact fun h => absurd h (Nat.ne_of_lt h4)
    · obtain rfl : t = t4 := Fin.ext (by have : t4.val = 4 := rfl; omega)
      obtain rfl : Y11 = qAll m c := funext fun y => r11 y (by have : (y 0).val < 16 := (y 0).isLt; show (y 0).val / 4 ≤ 4 - 1; omega)
      iapply ((kernelRun0_C c (grid0.coords t4) _ _ _ _ _ _ _ _ _ _ _ _ _ _ _ _ _ _ _ _ _ _ _ _ _ _ _ _ _ _ _ _ _ _ (fun h => h0 ((hcond0_0 t4).mp h)) (fun h => h4 ((hcond0_1 t4).mp h)) ((hcond0_2 t4).mpr rfl) (iblk m c 0 t4) (iblk m c 1 t4) (iblk m c 2 t4) (iblk m c 3 t4) (iblk m c 4 t4) (iblk m c 5 t4) (iblk m c 6 t4) (iblk m c 7 t4) (iblk m c 8 t4) Y9 Y10 (qAll m c) (q_a (iblk m c 2 t0) (iblk m c 3 t0)) (q_sc (iblk m c 2 t0) (iblk m c 3 t0))) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexists _; iexact H14
      isplitl [HS0]; · iexact HS0
      isplitl [HS1]; · iexact HS1
      iintro ⟨H0, H1, H2, H3, H4, H5, H6, H7, H8, H9, H10, H11, H12, H13, H14, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · iexists _; isplitr; swap; · iexact H9
        ipureintro; exact r9
      isplitl [H10]
      · iexists _; isplitr; swap; · iexact H10
        ipureintro; exact r10
      isplitl [H11]
      · iexists _; isplitr; swap; · iexact H11
        ipureintro; exact fun _ _ => rfl
      isplitl [H12]
      · iexists _; isplitr; swap; · iexact H12
        ipureintro; exact fun _ => rfl
      isplitl [H13]
      · iexists _; isplitr; swap; · iexact H13
        ipureintro; exact fun _ => rfl
      iexists _; isplitr; swap; · iexact H14
      ipureintro; exact fun _ => rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligationRel (dats (F := F) m 0 c) (defs₀ (F := F)) Variants.none () Set.univ fgt (Rl m c) := fun t => by
  rw [bigSep_W0, bigSep_W0, defs₀_row]
  exact triple_restated (sound_body m c t) rfl .rfl fun _ => .rfl

/-! ## The run and the frame -/

/-- Before the first point the region holds its scratch at some contents. -/
theorem Phi_in (c : Dev nD) : (Pipeline.ΦA spec0 c : sProp 𝕄) ⊢ (rdats m c).Φ 0 :=
  Entails.of_eq (show Phi m c 0 = _ from if_pos rfl).symm

/-- After the last point the contents of the scratch are forgotten. -/
theorem Phi_out (c : Dev nD) : (rdats m c).Φ (Fin.last cfg0.N) ⊢ (Pipeline.ΦA spec0 c : sProp 𝕄) := by
  rw [show (rdats m c).Φ (Fin.last cfg0.N) = Phi m c (Fin.last cfg0.N) from rfl,
    show Phi m c (Fin.last cfg0.N) = _ from if_neg (by show cfg0.N ≠ 0; rw [show cfg0.N = 5 from N_0]; decide), PhiA0_eq]
  iintro ⟨⟨HS0, HS1⟩, Hg⟩
  isplitl [HS0 HS1]
  · isplitl [HS0]
    · iexists _; iexact HS0
    iexists _; iexact HS1
  iexact Hg

set_option backward.isDefEq.respectTransparency.types false in
set_option maxHeartbeats 800000 in
/-- The launch: every array of the pipeline ends at something the proof data allow, and every counter at zero. -/
theorem run_main_quiescent : θ_run defs (onTc (τ := τ) (main (F := F))) (s₀ m ρ) (fun r => Pipeline.RDat.FramePost cfg0 (rdats m) (V m) r ∧ r.2.sem = fun _ => 0) :=
  Pipeline.RDat.θ_run_frame_track (Q' := _) cfgs (0 : Fin 1) launch0 defs₀ Variants.none (rdats m) m ρ main
    (hbody := fun c => (body_obligation m c).toRRel) (hshare := fun c => (rdats m c).share_full fun _ => rfl)
    (howed := fun _ _ => rfl) (V := V m) (hmain := hmain m Variants.none) (hA := A_eq m) (hin := Phi_in m) (hout := Phi_out m)

/-- The run without the counters. -/
theorem run_main : θ_run defs (onTc (τ := τ) (main (F := F))) (s₀ m ρ) (Pipeline.RDat.FramePost cfg0 (rdats m) (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      (h.arr_in c 0 rfl).trans (V_main_arg4 m c),
      (h.arr_in c 1 rfl).trans (V_main_arg5 m c),
      (h.arr_in c 6 rfl).trans (V_main_arg6 m c),
      (h.arr_in c 7 rfl).trans (V_main_arg7 m c),
      ((h c).2 main_arg8 (Pipeline.mem_restRefs_of main_arg8 (by decide) (by decide))).trans (V_main_arg8 m c)⟩) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

/-- What an output's array ends at is what the last point may have left. -/
theorem leaves_last (c : Dev nD) (w : Fin cfg0.W) (hw : fgt w = true) (X) (h : (rdats m c).Leaves w t4 X) : Rl m c w t4 X :=
  (dats m 0 c).toRRel_leaves hw h

end Cert.QkvIdeal.Run

end
-- ==== Proof.Qkv.Bits.lean ====
/- The frame of the Qkv program over machine words: its text is the other program's, so the frame proved for any floats is its own. -/
module

public import proofs.«01_k».proof.Defs
public import proofs.«01_k».proof.Proof.Qkv.Frame
public import proofs.«01_k».proof.Proof.Gen.Qkv

@[expose] public section

set_option maxRecDepth 65536

noncomputable section

namespace Cert.QkvIdeal.Run

open Idealize.ShloMosaic Idealize.ShloMosaic.TcCoe Idealize.SL.Sem

/-- The two programs' bodies are one. -/
theorem body_bits : letI := Cert.Qkv.Gen.facts; letI := Cert.QkvIdeal.Gen.facts; @Cert.Qkv.cc0_qkv Bits _ _ = @Cert.QkvIdeal.cc0_qkv Bits _ _ := rfl

theorem defs₀_bits : letI := Cert.Qkv.Gen.facts; letI := Cert.QkvIdeal.Gen.facts; @Cert.Qkv.defs₀ Bits _ _ = @Cert.QkvIdeal.defs₀ Bits _ _ := by
  unfold Cert.Qkv.defs₀ Cert.QkvIdeal.defs₀
  refine congrArg Defs.onTc (funext fun l => funext fun a => ?_)
  match l, a with
  | 0, (t, s) => exact rfl
  | ⟨_ + 1, h⟩, _ => exact absurd h (Nat.not_lt.2 (Nat.le_add_left _ _))

theorem defs_bits : letI := Cert.Qkv.Gen.facts; letI := Cert.QkvIdeal.Gen.facts; @Cert.Qkv.defs Bits _ _ = @Cert.QkvIdeal.defs Bits _ _ :=
  congrArg (Pipeline.defs Cert.QkvIdeal.pcfgs) defs₀_bits

set_option maxHeartbeats 4000000 in
/-- The frame over machine words. -/
theorem frame_bits : letI := Cert.Qkv.Gen.facts; Cert.quiescent_Qkv := by
  intro m g _
  rw [defs_bits]
  exact frame (F := Bits) m g

end Cert.QkvIdeal.Run

end
-- ==== Proof.Oproj.Runs.lean ====
/- What the two cases of the Oproj kernel's body share: its branch condition in closed form, the staging and
   scratch memrefs, and the scratch invariant with the scratch buffers as memrefs. -/
module

public import proofs.«01_k».proof.Proof.Gen.OprojIdeal.Launch
public import proofs.«01_k».proof.Proof.Gen.OprojIdeal.Skeleton
public import proofs.«01_k».proof.Proof.Gen.OprojIdeal.Points
public import proofs.«01_k».proof.Proof.Gen.OprojIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.OprojIdeal.Run
open Cert.OprojIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, k0_cond1, e0]
    word_cmp
   : ∀ t : Fin grid0.N, cond0_0 (grid0.coords t) ↔ t.val % 8 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1152x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S72x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1024 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x1024 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S72x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S72x2048 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x72 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S80x2048 .bf16 := Memref.whole cc0_scratch0
abbrev scM0_1 : Memref sig .tc .vmem S72x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.OprojIdeal.Run

end
-- ==== Proof.Oproj.Chain.lean ====
/- The values the Oproj kernel's body computes, one definition per value, as functions of the blocks it loads: `c_v…`
   after its first-point branch (over the two scratch buffers as well), `b_v…` inside it. -/
module

public import proofs.«01_k».proof.Proof.Oproj.Runs
public import Idealize.ShloMosaic.Lib.Pipeline.Value

@[expose] public section

set_option maxRecDepth 16384

noncomputable section

namespace Cert.OprojIdeal.Run
open Cert.OprojIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offset of a whole load or store. -/
theorem off0 : (![0, 0] : Fin 2 → Nat) = fun _ => 0 := by funext a; match a with | ⟨0, _⟩ => rfl | ⟨1, _⟩ => rfl
def c_v3 (x1 : Vec F S72x1024 .bf16) (x2 : Vec F S256x1024 .i32) (x3 : Vec F S16x1024 .fp8e4m3) (x4 : Vec F S1x1024 .f32) (a : Vec F S80x2048 .bf16) (sc : Vec F S72x128 .f32) : Vec F S16x1024 .fp8e4m3 := View.ld x3 (Rect.unit (s := S16x1024) ![0, 0] S16x1024.size inb_S16x1024_S16x1024_0_0)
def c_v6 (x1 : Vec F S72x1024 .bf16) (x2 : Vec F S256x1024 .i32) (x3 : Vec F S16x1024 .fp8e4m3) (x4 : Vec F S1x1024 .f32) (a : Vec F S80x2048 .bf16) (sc : Vec F S72x128 .f32) : Vec F S32x1024 .i32 := View.ld x2 (Rect.unit (s := S256x1024) ![0, 0] S32x1024.size inb_S256x1024_S32x1024_0_0)
def c_v27 (x1 : Vec F S72x1024 .bf16) (x2 : Vec F S256x1024 .i32) (x3 : Vec F S16x1024 .fp8e4m3) (x4 : Vec F S1x1024 .f32) (a : Vec F S80x2048 .bf16) (sc : Vec F S72x128 .f32) : Vec F S80x256 .bf16 := View.ld a (Rect.unit (s := S80x2048) ![0, 0] S80x256.size inb_S80x2048_S80x256_0_0)
def c_v30 (x1 : Vec F S72x1024 .bf16) (x2 : Vec F S256x1024 .i32) (x3 : Vec F S16x1024 .fp8e4m3) (x4 : Vec F S1x1024 .f32) (a : Vec F S80x2048 .bf16) (sc : Vec F S72x128 .f32) : Vec F S32x1024 .i32 := View.ld x2 (Rect.unit (s := S256x1024) ![32, 0] S32x1024.size inb_S256x1024_S32x1024_32_0)
def c_v4 (x1 : Vec F S72x1024 .bf16) (x2 : Vec F S256x1024 .i32) (x3 : Vec F S16x1024 .fp8e4m3) (x4 : Vec F S1x1024 .f32) (a : Vec F S80x2048 .bf16) (sc : Vec F S72x128 .f32) : FVec F S16x1024 .f32 := k0_pay25 (c_v3 x1 x2 x3 x4 a sc)
def c_v29 (x1 : Vec F S72x1024 .bf16) (x2 : Vec F S256x1024 .i32) (x3 : Vec F S16x1024 .fp8e4m3) (x4 : Vec F S1x1024 .f32) (a : Vec F S80x2048 .bf16) (sc : Vec F S72x128 .f32) : FVec F S80x1024 .f32 := k0_pay26 (c_v3 x1 x2 x3 x4 a sc) (c_v6 x1 x2 x3 x4 a sc) (c_v27 x1 x2 x3 x4 a sc)
def c_v39 (x1 : Vec F S72x1024 .bf16) (x2 : Vec F S256x1024 .i32) (x3 : Vec F S16x1024 .fp8e4m3) (x4 : Vec F S1x1024 .f32) (a : Vec F S80x2048 .bf16) (sc : Vec F S72x128 .f32) : IVec S256x1024 4 := k0_pay27 (c_v30 x1 x2 x3 x4 a sc)
def c_v43 (x1 : Vec F S72x1024 .bf16) (x2 : Vec F S256x1024 .i32) (x3 : Vec F S16x1024 .fp8e4m3) (x4 : Vec F S1x1024 .f32) (a : Vec F S80x2048 .bf16) (sc : Vec F S72x128 .f32) : FVec F S128x1024 .bf16 := k0_pay28 (c_v3 x1 x2 x3 x4 a sc)
def c_v51 (x1 : Vec F S72x1024 .bf16) (x2 : Vec F S256x1024 .i32) (x3 : Vec F S16x1024 .fp8e4m3) (x4 : Vec F S1x1024 .f32) (a : Vec F S80x2048 .bf16) (sc : Vec F S72x128 .f32) : Vec F S80x256 .bf16 := View.ld a (Rect.unit (s := S80x2048) ![0, 256] S80x256.size inb_S80x2048_S80x256_0_256)
def c_v54 (x1 : Vec F S72x1024 .bf16) (x2 : Vec F S256x1024 .i32) (x3 : Vec F S16x1024 .fp8e4m3) (x4 : Vec F S1x1024 .f32) (a : Vec F S80x2048 .bf16) (sc : Vec F S72x128 .f32) : Vec F S32x1024 .i32 := View.ld x2 (Rect.unit (s := S256x1024) ![64, 0] S32x1024.size inb_S256x1024_S32x1024_64_0)
def c_v75 (x1 : Vec F S72x1024 .bf16) (x2 : Vec F S256x1024 .i32) (x3 : Vec F S16x1024 .fp8e4m3) (x4 : Vec F S1x1024 .f32) (a : Vec F S80x2048 .bf16) (sc : Vec F S72x128 .f32) : Vec F S80x256 .bf16 := View.ld a (Rect.unit (s := S80x2048) ![0, 512] S80x256.size inb_S80x2048_S80x256_0_512)
def c_v78 (x1 : Vec F S72x1024 .bf16) (x2 : Vec F S256x1024 .i32) (x3 : Vec F S16x1024 .fp8e4m3) (x4 : Vec F S1x1024 .f32) (a : Vec F S80x2048 .bf16) (sc : Vec F S72x128 .f32) : Vec F S32x1024 .i32 := View.ld x2 (Rect.unit (s := S256x1024) ![96, 0] S32x1024.size inb_S256x1024_S32x1024_96_0)
def c_v77 (x1 : Vec F S72x1024 .bf16) (x2 : Vec F S256x1024 .i32) (x3 : Vec F S16x1024 .fp8e4m3) (x4 : Vec F S1x1024 .f32) (a : Vec F S80x2048 .bf16) (sc : Vec F S72x128 .f32) : FVec F S80x1024 .f32 := k0_pay29 (c_v4 x1 x2 x3 x4 a sc) (c_v29 x1 x2 x3 x4 a sc) (c_v39 x1 x2 x3 x4 a sc) (c_v43 x1 x2 x3 x4 a sc) (c_v51 x1 x2 x3 x4 a sc) (c_v54 x1 x2 x3 x4 a sc) (c_v75 x1 x2 x3 x4 a sc)
def c_v87 (x1 : Vec F S72x1024 .bf16) (x2 : Vec F S256x1024 .i32) (x3 : Vec F S16x1024 .fp8e4m3) (x4 : Vec F S1x1024 .f32) (a : Vec F S80x2048 .bf16) (sc : Vec F S72x128 .f32) : IVec S256x1024 4 := k0_pay30 (c_v78 x1 x2 x3 x4 a sc)
def c_v91 (x1 : Vec F S72x1024 .bf16) (x2 : Vec F S256x1024 .i32) (x3 : Vec F S16x1024 .fp8e4m3) (x4 : Vec F S1x1024 .f32) (a : Vec F S80x2048 .bf16) (sc : Vec F S72x128 .f32) : FVec F S128x1024 .bf16 := k0_pay31 (c_v4 x1 x2 x3 x4 a sc)
def c_v99 (x1 : Vec F S72x1024 .bf16) (x2 : Vec F S256x1024 .i32) (x3 : Vec F S16x1024 .fp8e4m3) (x4 : Vec F S1x1024 .f32) (a : Vec F S80x2048 .bf16) (sc : Vec F S72x128 .f32) : Vec F S80x256 .bf16 := View.ld a (Rect.unit (s := S80x2048) ![0, 768] S80x256.size inb_S80x2048_S80x256_0_768)
def c_v102 (x1 : Vec F S72x1024 .bf16) (x2 : Vec F S256x1024 .i32) (x3 : Vec F S16x1024 .fp8e4m3) (x4 : Vec F S1x1024 .f32) (a : Vec F S80x2048 .bf16) (sc : Vec F S72x128 .f32) : Vec F S32x1024 .i32 := View.ld x2 (Rect.unit (s := S256x1024) ![128, 0] S32x1024.size inb_S256x1024_S32x1024_128_0)
def c_v123 (x1 : Vec F S72x1024 .bf16) (x2 : Vec F S256x1024 .i32) (x3 : Vec F S16x1024 .fp8e4m3) (x4 : Vec F S1x1024 .f32) (a : Vec F S80x2048 .bf16) (sc : Vec F S72x128 .f32) : Vec F S80x256 .bf16 := View.ld a (Rect.unit (s := S80x2048) ![0, 1024] S80x256.size inb_S80x2048_S80x256_0_1024)
def c_v126 (x1 : Vec F S72x1024 .bf16) (x2 : Vec F S256x1024 .i32) (x3 : Vec F S16x1024 .fp8e4m3) (x4 : Vec F S1x1024 .f32) (a : Vec F S80x2048 .bf16) (sc : Vec F S72x128 .f32) : Vec F S32x1024 .i32 := View.ld x2 (Rect.unit (s := S256x1024) ![160, 0] S32x1024.size inb_S256x1024_S32x1024_160_0)
def c_v125 (x1 : Vec F S72x1024 .bf16) (x2 : Vec F S256x1024 .i32) (x3 : Vec F S16x1024 .fp8e4m3) (x4 : Vec F S1x1024 .f32) (a : Vec F S80x2048 .bf16) (sc : Vec F S72x128 .f32) : FVec F S80x1024 .f32 := k0_pay32 (c_v4 x1 x2 x3 x4 a sc) (c_v77 x1 x2 x3 x4 a sc) (c_v87 x1 x2 x3 x4 a sc) (c_v91 x1 x2 x3 x4 a sc) (c_v99 x1 x2 x3 x4 a sc) (c_v102 x1 x2 x3 x4 a sc) (c_v123 x1 x2 x3 x4 a sc)
def c_v135 (x1 : Vec F S72x1024 .bf16) (x2 : Vec F S256x1024 .i32) (x3 : Vec F S16x1024 .fp8e4m3) (x4 : Vec F S1x1024 .f32) (a : Vec F S80x2048 .bf16) (sc : Vec F S72x128 .f32) : IVec S256x1024 4 := k0_pay33 (c_v126 x1 x2 x3 x4 a sc)
def c_v139 (x1 : Vec F S72x1024 .bf16) (x2 : Vec F S256x1024 .i32) (x3 : Vec F S16x1024 .fp8e4m3) (x4 : Vec F S1x1024 .f32) (a : Vec F S80x2048 .bf16) (sc : Vec F S72x128 .f32) : FVec F S128x1024 .bf16 := k0_pay34 (c_v4 x1 x2 x3 x4 a sc)
def c_v147 (x1 : Vec F S72x1024 .bf16) (x2 : Vec F S256x1024 .i32) (x3 : Vec F S16x1024 .fp8e4m3) (x4 : Vec F S1x1024 .f32) (a : Vec F S80x2048 .bf16) (sc : Vec F S72x128 .f32) : Vec F S80x256 .bf16 := View.ld a (Rect.unit (s := S80x2048) ![0, 1280] S80x256.size inb_S80x2048_S80x256_0_1280)
def c_v150 (x1 : Vec F S72x1024 .bf16) (x2 : Vec F S256x1024 .i32) (x3 : Vec F S16x1024 .fp8e4m3) (x4 : Vec F S1x1024 .f32) (a : Vec F S80x2048 .bf16) (sc : Vec F S72x128 .f32) : Vec F S32x1024 .i32 := View.ld x2 (Rect.unit (s := S256x1024) ![192, 0] S32x1024.size inb_S256x1024_S32x1024_192_0)
def c_v171 (x1 : Vec F S72x1024 .bf16) (x2 : Vec F S256x1024 .i32) (x3 : Vec F S16x1024 .fp8e4m3) (x4 : Vec F S1x1024 .f32) (a : Vec F S80x2048 .bf16) (sc : Vec F S72x128 .f32) : Vec F S80x256 .bf16 := View.ld a (Rect.unit (s := S80x2048) ![0, 1536] S80x256.size inb_S80x2048_S80x256_0_1536)
def c_v174 (x1 : Vec F S72x1024 .bf16) (x2 : Vec F S256x1024 .i32) (x3 : Vec F S16x1024 .fp8e4m3) (x4 : Vec F S1x1024 .f32) (a : Vec F S80x2048 .bf16) (sc : Vec F S72x128 .f32) : Vec F S32x1024 .i32 := View.ld x2 (Rect.unit (s := S256x1024) ![224, 0] S32x1024.size inb_S256x1024_S32x1024_224_0)
def c_v173 (x1 : Vec F S72x1024 .bf16) (x2 : Vec F S256x1024 .i32) (x3 : Vec F S16x1024 .fp8e4m3) (x4 : Vec F S1x1024 .f32) (a : Vec F S80x2048 .bf16) (sc : Vec F S72x128 .f32) : FVec F S80x1024 .f32 := k0_pay35 (c_v4 x1 x2 x3 x4 a sc) (c_v125 x1 x2 x3 x4 a sc) (c_v135 x1 x2 x3 x4 a sc) (c_v139 x1 x2 x3 x4 a sc) (c_v147 x1 x2 x3 x4 a sc) (c_v150 x1 x2 x3 x4 a sc) (c_v171 x1 x2 x3 x4 a sc)
def c_v183 (x1 : Vec F S72x1024 .bf16) (x2 : Vec F S256x1024 .i32) (x3 : Vec F S16x1024 .fp8e4m3) (x4 : Vec F S1x1024 .f32) (a : Vec F S80x2048 .bf16) (sc : Vec F S72x128 .f32) : IVec S256x1024 4 := k0_pay36 (c_v174 x1 x2 x3 x4 a sc)
def c_v187 (x1 : Vec F S72x1024 .bf16) (x2 : Vec F S256x1024 .i32) (x3 : Vec F S16x1024 .fp8e4m3) (x4 : Vec F S1x1024 .f32) (a : Vec F S80x2048 .bf16) (sc : Vec F S72x128 .f32) : FVec F S128x1024 .bf16 := k0_pay37 (c_v4 x1 x2 x3 x4 a sc)
def c_v195 (x1 : Vec F S72x1024 .bf16) (x2 : Vec F S256x1024 .i32) (x3 : Vec F S16x1024 .fp8e4m3) (x4 : Vec F S1x1024 .f32) (a : Vec F S80x2048 .bf16) (sc : Vec F S72x128 .f32) : Vec F S80x256 .bf16 := View.ld a (Rect.unit (s := S80x2048) ![0, 1792] S80x256.size inb_S80x2048_S80x256_0_1792)
def c_v199 (x1 : Vec F S72x1024 .bf16) (x2 : Vec F S256x1024 .i32) (x3 : Vec F S16x1024 .fp8e4m3) (x4 : Vec F S1x1024 .f32) (a : Vec F S80x2048 .bf16) (sc : Vec F S72x128 .f32) : Vec F S72x1024 .bf16 := View.ld x1 (Rect.unit (s := S72x1024) ![0, 0] S72x1024.size inb_S72x1024_S72x1024_0_0)
def c_v202 (x1 : Vec F S72x1024 .bf16) (x2 : Vec F S256x1024 .i32) (x3 : Vec F S16x1024 .fp8e4m3) (x4 : Vec F S1x1024 .f32) (a : Vec F S80x2048 .bf16) (sc : Vec F S72x128 .f32) : Vec F S72x1 .f32 := View.ld sc (Rect.unit (s := S72x128) ![0, 0] S72x1.size inb_S72x128_S72x1_0_0)
def c_v205 (x1 : Vec F S72x1024 .bf16) (x2 : Vec F S256x1024 .i32) (x3 : Vec F S16x1024 .fp8e4m3) (x4 : Vec F S1x1024 .f32) (a : Vec F S80x2048 .bf16) (sc : Vec F S72x128 .f32) : Vec F S1x1024 .f32 := View.ld x4 (Rect.unit (s := S1x1024) ![0, 0] S1x1024.size inb_S1x1024_S1x1024_0_0)
/-- The block of the result the body stores, from the blocks it reads and the two scratch buffers. -/
def yB (x1 : Vec F S72x1024 .bf16) (x2 : Vec F S256x1024 .i32) (x3 : Vec F S16x1024 .fp8e4m3) (x4 : Vec F S1x1024 .f32) (a : Vec F S80x2048 .bf16) (sc : Vec F S72x128 .f32) : Vec F S72x1024 .f32 := k0_pay1 (c_v4 x1 x2 x3 x4 a sc) (c_v173 x1 x2 x3 x4 a sc) (c_v183 x1 x2 x3 x4 a sc) (c_v187 x1 x2 x3 x4 a sc) (c_v195 x1 x2 x3 x4 a sc) (c_v199 x1 x2 x3 x4 a sc) (c_v202 x1 x2 x3 x4 a sc) (c_v205 x1 x2 x3 x4 a sc)
/-- The one store of the result block covers it. -/
theorem cover_y (p : Vec F S72x1024 .f32) (y : S72x1024.Idx) :
    ∃ pc ∈ ([⟨Rect.unit (s := S72x1024) ![0, 0] S72x1024.size inb_S72x1024_S72x1024_0_0, p⟩] : List (View.Piece (Elt F) S72x1024 .f32)), y ∈ pc.1.set :=
  View.cover_of_tiled [⟨Rect.unit (s := S72x1024) ![0, 0] S72x1024.size inb_S72x1024_S72x1024_0_0, p⟩] S72x1024.size (by rfl) y
def b_v211 (x0 : Vec F S1152x128 .f32) : Vec F S72x128 .f32 := fun x => x0 ((⟨![0, 0], S72x128.size, ![16, 1], inb_S1152x128_S72x128_0_0_s_16_1⟩ : LoadRect S1152x128).idx x)
def b_v213 (x0 : Vec F S1152x128 .f32) : Vec F S72x128 .f32 := fun x => x0 ((⟨![1, 0], S72x128.size, ![16, 1], inb_S1152x128_S72x128_1_0_s_16_1⟩ : LoadRect S1152x128).idx x)
def b_v215 (x0 : Vec F S1152x128 .f32) : Vec F S72x128 .f32 := fun x => x0 ((⟨![2, 0], S72x128.size, ![16, 1], inb_S1152x128_S72x128_2_0_s_16_1⟩ : LoadRect S1152x128).idx x)
def b_v217 (x0 : Vec F S1152x128 .f32) : Vec F S72x128 .f32 := fun x => x0 ((⟨![3, 0], S72x128.size, ![16, 1], inb_S1152x128_S72x128_3_0_s_16_1⟩ : LoadRect S1152x128).idx x)
def b_v219 (x0 : Vec F S1152x128 .f32) : Vec F S72x128 .f32 := fun x => x0 ((⟨![4, 0], S72x128.size, ![16, 1], inb_S1152x128_S72x128_4_0_s_16_1⟩ : LoadRect S1152x128).idx x)
def b_v221 (x0 : Vec F S1152x128 .f32) : Vec F S72x128 .f32 := fun x => x0 ((⟨![5, 0], S72x128.size, ![16, 1], inb_S1152x128_S72x128_5_0_s_16_1⟩ : LoadRect S1152x128).idx x)
def b_v223 (x0 : Vec F S1152x128 .f32) : Vec F S72x128 .f32 := fun x => x0 ((⟨![6, 0], S72x128.size, ![16, 1], inb_S1152x128_S72x128_6_0_s_16_1⟩ : LoadRect S1152x128).idx x)
def b_v225 (x0 : Vec F S1152x128 .f32) : Vec F S72x128 .f32 := fun x => x0 ((⟨![7, 0], S72x128.size, ![16, 1], inb_S1152x128_S72x128_7_0_s_16_1⟩ : LoadRect S1152x128).idx x)
def b_v227 (x0 : Vec F S1152x128 .f32) : Vec F S72x128 .f32 := fun x => x0 ((⟨![8, 0], S72x128.size, ![16, 1], inb_S1152x128_S72x128_8_0_s_16_1⟩ : LoadRect S1152x128).idx x)
def b_v229 (x0 : Vec F S1152x128 .f32) : Vec F S72x128 .f32 := fun x => x0 ((⟨![9, 0], S72x128.size, ![16, 1], inb_S1152x128_S72x128_9_0_s_16_1⟩ : LoadRect S1152x128).idx x)
def b_v231 (x0 : Vec F S1152x128 .f32) : Vec F S72x128 .f32 := fun x => x0 ((⟨![10, 0], S72x128.size, ![16, 1], inb_S1152x128_S72x128_10_0_s_16_1⟩ : LoadRect S1152x128).idx x)
def b_v233 (x0 : Vec F S1152x128 .f32) : Vec F S72x128 .f32 := fun x => x0 ((⟨![11, 0], S72x128.size, ![16, 1], inb_S1152x128_S72x128_11_0_s_16_1⟩ : LoadRect S1152x128).idx x)
def b_v235 (x0 : Vec F S1152x128 .f32) : Vec F S72x128 .f32 := fun x => x0 ((⟨![12, 0], S72x128.size, ![16, 1], inb_S1152x128_S72x128_12_0_s_16_1⟩ : LoadRect S1152x128).idx x)
def b_v237 (x0 : Vec F S1152x128 .f32) : Vec F S72x128 .f32 := fun x => x0 ((⟨![13, 0], S72x128.size, ![16, 1], inb_S1152x128_S72x128_13_0_s_16_1⟩ : LoadRect S1152x128).idx x)
def b_v239 (x0 : Vec F S1152x128 .f32) : Vec F S72x128 .f32 := fun x => x0 ((⟨![14, 0], S72x128.size, ![16, 1], inb_S1152x128_S72x128_14_0_s_16_1⟩ : LoadRect S1152x128).idx x)
def b_v212 (x0 : Vec F S1152x128 .f32) : FVec F S72x128 .f32 := k0_pay2 (b_v211 x0)
def b_v214 (x0 : Vec F S1152x128 .f32) : FVec F S72x128 .f32 := k0_pay3 (b_v213 x0)
def b_v216 (x0 : Vec F S1152x128 .f32) : FVec F S72x128 .f32 := k0_pay4 (b_v215 x0)
def b_v218 (x0 : Vec F S1152x128 .f32) : FVec F S72x128 .f32 := k0_pay5 (b_v217 x0)
def b_v220 (x0 : Vec F S1152x128 .f32) : FVec F S72x128 .f32 := k0_pay6 (b_v219 x0)
def b_v222 (x0 : Vec F S1152x128 .f32) : FVec F S72x128 .f32 := k0_pay7 (b_v221 x0)
def b_v224 (x0 : Vec F S1152x128 .f32) : FVec F S72x128 .f32 := k0_pay8 (b_v223 x0)
def b_v226 (x0 : Vec F S1152x128 .f32) : FVec F S72x128 .f32 := k0_pay9 (b_v225 x0)
def b_v228 (x0 : Vec F S1152x128 .f32) : FVec F S72x128 .f32 := k0_pay10 (b_v227 x0)
def b_v230 (x0 : Vec F S1152x128 .f32) : FVec F S72x128 .f32 := k0_pay11 (b_v229 x0)
def b_v232 (x0 : Vec F S1152x128 .f32) : FVec F S72x128 .f32 := k0_pay12 (b_v231 x0)
def b_v234 (x0 : Vec F S1152x128 .f32) : FVec F S72x128 .f32 := k0_pay13 (b_v233 x0)
def b_v236 (x0 : Vec F S1152x128 .f32) : FVec F S72x128 .f32 := k0_pay14 (b_v235 x0)
def b_v238 (x0 : Vec F S1152x128 .f32) : FVec F S72x128 .f32 := k0_pay15 (b_v237 x0)
def b_v240 (x0 : Vec F S1152x128 .f32) : FVec F S72x128 .f32 := k0_pay16 (b_v239 x0)
def b_v241 (x0 : Vec F S1152x128 .f32) : Vec F S72x128 .f32 := fun x => x0 ((⟨![15, 0], S72x128.size, ![16, 1], inb_S1152x128_S72x128_15_0_s_16_1⟩ : LoadRect S1152x128).idx x)
/-- What the first point leaves in `arg7`. -/
def q_ca (x0 : Vec F S1152x128 .f32) : Vec F S72x2048 .fp8e4m3 := View.canon [⟨Rect.unit (s := S72x2048) ![0, 0] S72x2048.size inb_S72x2048_S72x2048_0_0, k0_pay19 (b_v212 x0) (b_v214 x0) (b_v216 x0) (b_v218 x0) (b_v220 x0) (b_v222 x0) (b_v224 x0) (b_v226 x0) (b_v228 x0) (b_v230 x0) (b_v232 x0) (b_v234 x0) (b_v236 x0) (b_v238 x0) (b_v240 x0) (b_v241 x0)⟩]
/-- The stores of the first point into `arg7` cover it. -/
theorem cover_ca (p0 : Vec F S72x2048 .fp8e4m3) (y : S72x2048.Idx) :
    ∃ pc ∈ ([⟨Rect.unit (s := S72x2048) ![0, 0] S72x2048.size inb_S72x2048_S72x2048_0_0, p0⟩] : List (View.Piece (Elt F) S72x2048 .fp8e4m3)), y ∈ pc.1.set :=
  View.cover_of_tiled [⟨Rect.unit (s := S72x2048) ![0, 0] S72x2048.size inb_S72x2048_S72x2048_0_0, p0⟩] S72x2048.size (by rfl) y
/-- What the first point leaves in `arg8`. -/
def q_sa (x0 : Vec F S1152x128 .f32) : Vec F S1x72 .f32 := View.canon [⟨Rect.unit (s := S1x72) ![0, 0] S1x72.size inb_S1x72_S1x72_0_0, k0_pay24 (b_v212 x0) (b_v214 x0) (b_v216 x0) (b_v218 x0) (b_v220 x0) (b_v222 x0) (b_v224 x0) (b_v226 x0) (b_v228 x0) (b_v230 x0) (b_v232 x0) (b_v234 x0) (b_v236 x0) (b_v238 x0) (b_v240 x0) (b_v241 x0)⟩]
/-- The stores of the first point into `arg8` cover it. -/
theorem cover_sa (p0 : Vec F S1x72 .f32) (y : S1x72.Idx) :
    ∃ pc ∈ ([⟨Rect.unit (s := S1x72) ![0, 0] S1x72.size inb_S1x72_S1x72_0_0, p0⟩] : List (View.Piece (Elt F) S1x72 .f32)), y ∈ pc.1.set :=
  View.cover_of_tiled [⟨Rect.unit (s := S1x72) ![0, 0] S1x72.size inb_S1x72_S1x72_0_0, p0⟩] S1x72.size (by rfl) y
/-- What the first point leaves in `arg9`. -/
def q_a (x0 : Vec F S1152x128 .f32) : Vec F S80x2048 .bf16 := View.canon [⟨Rect.unit (s := S80x2048) ![72, 0] S8x2048.size inb_S80x2048_S8x2048_72_0, k0_pay21 (F := F)⟩, ⟨Rect.unit (s := S80x2048) ![0, 0] S72x2048.size inb_S80x2048_S72x2048_0_0, k0_pay20 (b_v212 x0) (b_v214 x0) (b_v216 x0) (b_v218 x0) (b_v220 x0) (b_v222 x0) (b_v224 x0) (b_v226 x0) (b_v228 x0) (b_v230 x0) (b_v232 x0) (b_v234 x0) (b_v236 x0) (b_v238 x0) (b_v240 x0) (b_v241 x0)⟩]
/-- The stores of the first point into `arg9` cover it. -/
theorem cover_a (p0 : Vec F S8x2048 .bf16) (p1 : Vec F S72x2048 .bf16) (y : S80x2048.Idx) :
    ∃ pc ∈ ([⟨Rect.unit (s := S80x2048) ![72, 0] S8x2048.size inb_S80x2048_S8x2048_72_0, p0⟩, ⟨Rect.unit (s := S80x2048) ![0, 0] S72x2048.size inb_S80x2048_S72x2048_0_0, p1⟩] : List (View.Piece (Elt F) S80x2048 .bf16)), y ∈ pc.1.set :=
  by
  by_cases h : (y 0).val < 72
  · refine ⟨_, List.mem_cons_of_mem _ (List.mem_singleton_self _), ?_⟩
    refine (Rect.mem_set_unit (inb := inb_S80x2048_S72x2048_0_0)).mpr fun a => ?_
    match a with
    | ⟨0, _⟩ => exact ⟨Nat.zero_le _, by show (y 0).val < 0 + 72; omega⟩
    | ⟨1, _⟩ => exact ⟨Nat.zero_le _, Nat.lt_of_lt_of_eq (y 1).isLt (Nat.zero_add _).symm⟩
  · refine ⟨_, List.mem_cons_self .., ?_⟩
    refine (Rect.mem_set_unit (inb := inb_S80x2048_S8x2048_72_0)).mpr fun a => ?_
    match a with
    | ⟨0, _⟩ => exact ⟨by show 72 ≤ (y 0).val; omega, by have : (y 0).val < 80 := (y 0).isLt; show (y 0).val < 72 + 8; omega⟩
    | ⟨1, _⟩ => exact ⟨Nat.zero_le _, Nat.lt_of_lt_of_eq (y 1).isLt (Nat.zero_add _).symm⟩
/-- What the first point leaves in `arg10`. -/
def q_sc (x0 : Vec F S1152x128 .f32) : Vec F S72x128 .f32 := View.canon [⟨Rect.unit (s := S72x128) ![0, 0] S72x128.size inb_S72x128_S72x128_0_0, k0_pay23 (b_v212 x0) (b_v214 x0) (b_v216 x0) (b_v218 x0) (b_v220 x0) (b_v222 x0) (b_v224 x0) (b_v226 x0) (b_v228 x0) (b_v230 x0) (b_v232 x0) (b_v234 x0) (b_v236 x0) (b_v238 x0) (b_v240 x0) (b_v241 x0)⟩]
/-- The stores of the first point into `arg10` cover it. -/
theorem cover_sc (p0 : Vec F S72x128 .f32) (y : S72x128.Idx) :
    ∃ pc ∈ ([⟨Rect.unit (s := S72x128) ![0, 0] S72x128.size inb_S72x128_S72x128_0_0, p0⟩] : List (View.Piece (Elt F) S72x128 .f32)), y ∈ pc.1.set :=
  View.cover_of_tiled [⟨Rect.unit (s := S72x128) ![0, 0] S72x128.size inb_S72x128_S72x128_0_0, p0⟩] S72x128.size (by rfl) y

end Cert.OprojIdeal.Run

end
-- ==== Proof.Oproj.RunB.lean ====
/- The Oproj kernel's body at a later point. -/
module

public import proofs.«01_k».proof.Proof.Oproj.Chain

@[expose] public section

set_option maxRecDepth 16384

noncomputable section

namespace Cert.OprojIdeal.Run
open Cert.OprojIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a later point: the scratch, the codes and the scales are kept, and the block of the result is
    computed from the scratch. -/
theorem kernelRun0_B (c : Dev nD) (i : grid0.Coords) (arg1 : Memref sig .tc .vmem S1152x128 .f32) (harg1 : arg1.IsWhole) (arg2 : Memref sig .tc .vmem S72x1024 .bf16) (harg2 : arg2.IsWhole) (arg3 : Memref sig .tc .vmem S256x1024 .i32) (harg3 : arg3.IsWhole) (arg4 : Memref sig .tc .vmem S16x1024 .fp8e4m3) (harg4 : arg4.IsWhole) (arg5 : Memref sig .tc .vmem S1x1024 .f32) (harg5 : arg5.IsWhole) (arg6 : Memref sig .tc .vmem S72x1024 .f32) (harg6 : arg6.IsWhole) (arg7 : Memref sig .tc .vmem S72x2048 .fp8e4m3) (harg7 : arg7.IsWhole) (arg8 : Memref sig .tc .vmem S1x72 .f32) (harg8 : arg8.IsWhole) (arg9 : Memref sig .tc .vmem S80x2048 .bf16) (harg9 : arg9.IsWhole) (arg10 : Memref sig .tc .vmem S72x128 .f32) (harg10 : arg10.IsWhole) (hc0 : ¬cond0_0 i)
    (x0 : Vec F S1152x128 .f32) (x1 : Vec F S72x1024 .bf16) (x2 : Vec F S256x1024 .i32) (x3 : Vec F S16x1024 .fp8e4m3) (x4 : Vec F S1x1024 .f32) (ca : Vec F S72x2048 .fp8e4m3) (sa : Vec F S1x72 .f32) (a : Vec F S80x2048 .bf16) (sc : Vec F S72x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare ca ∗ owns (c : Thread nD τ) arg8 fullShare sa ∗ owns (c : Thread nD τ) arg9 fullShare a ∗ owns (c : Thread nD τ) arg10 fullShare sc
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (yB x1 x2 x3 x4 a sc) ∗ owns (c : Thread nD τ) arg7 fullShare ca ∗ owns (c : Thread nD τ) arg8 fullShare sa ∗ owns (c : Thread nD τ) arg9 fullShare a ∗ owns (c : Thread nD τ) arg10 fullShare sc) -∗ K ⟨⟩))
          ⊢ wp frame (wpE (defs₀ (F := F)) Variants.none c none) E (cc0_oproj i arg1 harg1 arg2 harg2 arg3 harg3 arg4 harg4 arg5 harg5 arg6 harg6 arg7 harg7 arg8 harg8 arg9 harg9 arg10 harg10) K := by
    intro E K
    simp only [cc0_oproj_eq_skeleton]; unfold cc0_oproj_skel
    simp only [k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, ⟨%fs1, %hfs1, HS1⟩, Hk⟩
    subst hf0 hf1 hf2 hf3 hf4 hf6 hf7 hfs0 hfs1
    sl_exec (disch := first | sl_exact hc0)
    sl_step
    iapply Hk
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; exact (View.read_writes_eq_canon _ _ _ (cover_y _)).trans (View.canon_unit_zero off0 _ _)
    isplitl [H6]
    · iexists _; isplitr; swap; · iexact H6
      ipureintro; rfl
    isplitl [H7]
    · iexists _; isplitr; swap; · iexact H7
      ipureintro; rfl
    isplitl [HS0]
    · iexists _; isplitr; swap; · iexact HS0
      ipureintro; rfl
    iexists _; isplitr; swap; · iexact HS1
    ipureintro; rfl

end Cert.OprojIdeal.Run

end
-- ==== Proof.Oproj.RunA.lean ====
/- The Oproj kernel's body at the first point. -/
module

public import proofs.«01_k».proof.Proof.Oproj.RunB

@[expose] public section

set_option maxRecDepth 16384

noncomputable section

namespace Cert.OprojIdeal.Run
open Cert.OprojIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the first point: it stores the codes and the scales, fills the scratch, and computes the block of
    the result from it. -/
theorem kernelRun0_A (c : Dev nD) (i : grid0.Coords) (arg1 : Memref sig .tc .vmem S1152x128 .f32) (harg1 : arg1.IsWhole) (arg2 : Memref sig .tc .vmem S72x1024 .bf16) (harg2 : arg2.IsWhole) (arg3 : Memref sig .tc .vmem S256x1024 .i32) (harg3 : arg3.IsWhole) (arg4 : Memref sig .tc .vmem S16x1024 .fp8e4m3) (harg4 : arg4.IsWhole) (arg5 : Memref sig .tc .vmem S1x1024 .f32) (harg5 : arg5.IsWhole) (arg6 : Memref sig .tc .vmem S72x1024 .f32) (harg6 : arg6.IsWhole) (arg7 : Memref sig .tc .vmem S72x2048 .fp8e4m3) (harg7 : arg7.IsWhole) (arg8 : Memref sig .tc .vmem S1x72 .f32) (harg8 : arg8.IsWhole) (arg9 : Memref sig .tc .vmem S80x2048 .bf16) (harg9 : arg9.IsWhole) (arg10 : Memref sig .tc .vmem S72x128 .f32) (harg10 : arg10.IsWhole) (hc0 : cond0_0 i)
    (x0 : Vec F S1152x128 .f32) (x1 : Vec F S72x1024 .bf16) (x2 : Vec F S256x1024 .i32) (x3 : Vec F S16x1024 .fp8e4m3) (x4 : Vec F S1x1024 .f32)  :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (yB x1 x2 x3 x4 (q_a x0) (q_sc x0)) ∗ owns (c : Thread nD τ) arg7 fullShare (q_ca x0) ∗ owns (c : Thread nD τ) arg8 fullShare (q_sa x0) ∗ owns (c : Thread nD τ) arg9 fullShare (q_a x0) ∗ owns (c : Thread nD τ) arg10 fullShare (q_sc x0)) -∗ K ⟨⟩))
          ⊢ wp frame (wpE (defs₀ (F := F)) Variants.none c none) E (cc0_oproj i arg1 harg1 arg2 harg2 arg3 harg3 arg4 harg4 arg5 harg5 arg6 harg6 arg7 harg7 arg8 harg8 arg9 harg9 arg10 harg10) K := by
    intro E K
    simp only [cc0_oproj_eq_skeleton]; unfold cc0_oproj_skel
    simp only [k0_part3_eq_skeleton, k0_part1_eq_skeleton, k0_part2_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, Hk⟩
    subst hf0 hf1 hf2 hf3 hf4
    sl_exec (disch := first | sl_exact hc0)
    sl_step
    iapply Hk
    have h_v123 : kernelRun0_A.sl.v123 c arg1 arg9 f0 = c_v123 (View.read (Elt F) arg2.view f1) (View.read (Elt F) arg3.view f2) (View.read (Elt F) arg4.view f3) (View.read (Elt F) arg5.view f4) (q_a (View.read (Elt F) arg1.view f0)) (q_sc (View.read (Elt F) arg1.view f0)) := by
      delta kernelRun0_A.sl.v123 kernelRun0_A.sl.HS0_2 kernelRun0_A.sl.HS1_1 kernelRun0_A.sl.v147 kernelRun0_A.sl.v171 kernelRun0_A.sl.v195 kernelRun0_A.sl.v202 kernelRun0_A.sl.v212 kernelRun0_A.sl.v214 kernelRun0_A.sl.v216 kernelRun0_A.sl.v218 kernelRun0_A.sl.v220 kernelRun0_A.sl.v222 kernelRun0_A.sl.v224 kernelRun0_A.sl.v226 kernelRun0_A.sl.v228 kernelRun0_A.sl.v230 kernelRun0_A.sl.v232 kernelRun0_A.sl.v234 kernelRun0_A.sl.v236 kernelRun0_A.sl.v238 kernelRun0_A.sl.v240 kernelRun0_A.sl.v27 kernelRun0_A.sl.v51 kernelRun0_A.sl.v75 kernelRun0_A.sl.v99; rw [View.readCov_eq_canon']; delta c_v123 View.ld q_a; rfl
    have h_v147 : kernelRun0_A.sl.v147 c arg1 arg9 f0 = c_v147 (View.read (Elt F) arg2.view f1) (View.read (Elt F) arg3.view f2) (View.read (Elt F) arg4.view f3) (View.read (Elt F) arg5.view f4) (q_a (View.read (Elt F) arg1.view f0)) (q_sc (View.read (Elt F) arg1.view f0)) := by
      delta kernelRun0_A.sl.v147 kernelRun0_A.sl.HS0_2 kernelRun0_A.sl.HS1_1 kernelRun0_A.sl.v171 kernelRun0_A.sl.v195 kernelRun0_A.sl.v202 kernelRun0_A.sl.v212 kernelRun0_A.sl.v214 kernelRun0_A.sl.v216 kernelRun0_A.sl.v218 kernelRun0_A.sl.v220 kernelRun0_A.sl.v222 kernelRun0_A.sl.v224 kernelRun0_A.sl.v226 kernelRun0_A.sl.v228 kernelRun0_A.sl.v230 kernelRun0_A.sl.v232 kernelRun0_A.sl.v234 kernelRun0_A.sl.v236 kernelRun0_A.sl.v238 kernelRun0_A.sl.v240 kernelRun0_A.sl.v27 kernelRun0_A.sl.v51 kernelRun0_A.sl.v75 kernelRun0_A.sl.v99; rw [View.readCov_eq_canon']; delta c_v147 View.ld q_a; rfl
    have h_v171 : kernelRun0_A.sl.v171 c arg1 arg9 f0 = c_v171 (View.read (Elt F) arg2.view f1) (View.read (Elt F) arg3.view f2) (View.read (Elt F) arg4.view f3) (View.read (Elt F) arg5.view f4) (q_a (View.read (Elt F) arg1.view f0)) (q_sc (View.read (Elt F) arg1.view f0)) := by
      delta kernelRun0_A.sl.v171 kernelRun0_A.sl.HS0_2 kernelRun0_A.sl.HS1_1 kernelRun0_A.sl.v195 kernelRun0_A.sl.v202 kernelRun0_A.sl.v212 kernelRun0_A.sl.v214 kernelRun0_A.sl.v216 kernelRun0_A.sl.v218 kernelRun0_A.sl.v220 kernelRun0_A.sl.v222 kernelRun0_A.sl.v224 kernelRun0_A.sl.v226 kernelRun0_A.sl.v228 kernelRun0_A.sl.v230 kernelRun0_A.sl.v232 kernelRun0_A.sl.v234 kernelRun0_A.sl.v236 kernelRun0_A.sl.v238 kernelRun0_A.sl.v240 kernelRun0_A.sl.v27 kernelRun0_A.sl.v51 kernelRun0_A.sl.v75 kernelRun0_A.sl.v99; rw [View.readCov_eq_canon']; delta c_v171 View.ld q_a; rfl
    have h_v195 : kernelRun0_A.sl.v195 c arg1 arg9 f0 = c_v195 (View.read (Elt F) arg2.view f1) (View.read (Elt F) arg3.view f2) (View.read (Elt F) arg4.view f3) (View.read (Elt F) arg5.view f4) (q_a (View.read (Elt F) arg1.view f0)) (q_sc (View.read (Elt F) arg1.view f0)) := by
      delta kernelRun0_A.sl.v195 kernelRun0_A.sl.HS0_2 kernelRun0_A.sl.HS1_1 kernelRun0_A.sl.v202 kernelRun0_A.sl.v212 kernelRun0_A.sl.v214 kernelRun0_A.sl.v216 kernelRun0_A.sl.v218 kernelRun0_A.sl.v220 kernelRun0_A.sl.v222 kernelRun0_A.sl.v224 kernelRun0_A.sl.v226 kernelRun0_A.sl.v228 kernelRun0_A.sl.v230 kernelRun0_A.sl.v232 kernelRun0_A.sl.v234 kernelRun0_A.sl.v236 kernelRun0_A.sl.v238 kernelRun0_A.sl.v240 kernelRun0_A.sl.v27 kernelRun0_A.sl.v51 kernelRun0_A.sl.v75 kernelRun0_A.sl.v99; rw [View.readCov_eq_canon']; delta c_v195 View.ld q_a; rfl
    have h_v202 : kernelRun0_A.sl.v202 c arg1 arg10 f0 = c_v202 (View.read (Elt F) arg2.view f1) (View.read (Elt F) arg3.view f2) (View.read (Elt F) arg4.view f3) (View.read (Elt F) arg5.view f4) (q_a (View.read (Elt F) arg1.view f0)) (q_sc (View.read (Elt F) arg1.view f0)) := by
      delta kernelRun0_A.sl.v202 kernelRun0_A.sl.HS0_2 kernelRun0_A.sl.HS1_1 kernelRun0_A.sl.v212 kernelRun0_A.sl.v214 kernelRun0_A.sl.v216 kernelRun0_A.sl.v218 kernelRun0_A.sl.v220 kernelRun0_A.sl.v222 kernelRun0_A.sl.v224 kernelRun0_A.sl.v226 kernelRun0_A.sl.v228 kernelRun0_A.sl.v230 kernelRun0_A.sl.v232 kernelRun0_A.sl.v234 kernelRun0_A.sl.v236 kernelRun0_A.sl.v238 kernelRun0_A.sl.v240 kernelRun0_A.sl.v27 kernelRun0_A.sl.v51 kernelRun0_A.sl.v75 kernelRun0_A.sl.v99; rw [View.readCov_eq_canon']; delta c_v202 View.ld q_sc; rfl
    have h_v27 : kernelRun0_A.sl.v27 c arg1 arg9 f0 = c_v27 (View.read (Elt F) arg2.view f1) (View.read (Elt F) arg3.view f2) (View.read (Elt F) arg4.view f3) (View.read (Elt F) arg5.view f4) (q_a (View.read (Elt F) arg1.view f0)) (q_sc (View.read (Elt F) arg1.view f0)) := by
      delta kernelRun0_A.sl.v27 kernelRun0_A.sl.HS0_2 kernelRun0_A.sl.HS1_1 kernelRun0_A.sl.v212 kernelRun0_A.sl.v214 kernelRun0_A.sl.v216 kernelRun0_A.sl.v218 kernelRun0_A.sl.v220 kernelRun0_A.sl.v222 kernelRun0_A.sl.v224 kernelRun0_A.sl.v226 kernelRun0_A.sl.v228 kernelRun0_A.sl.v230 kernelRun0_A.sl.v232 kernelRun0_A.sl.v234 kernelRun0_A.sl.v236 kernelRun0_A.sl.v238 kernelRun0_A.sl.v240 kernelRun0_A.sl.v51 kernelRun0_A.sl.v75 kernelRun0_A.sl.v99; rw [View.readCov_eq_canon']; delta c_v27 View.ld q_a; rfl
    have h_v51 : kernelRun0_A.sl.v51 c arg1 arg9 f0 = c_v51 (View.read (Elt F) arg2.view f1) (View.read (Elt F) arg3.view f2) (View.read (Elt F) arg4.view f3) (View.read (Elt F) arg5.view f4) (q_a (View.read (Elt F) arg1.view f0)) (q_sc (View.read (Elt F) arg1.view f0)) := by
      delta kernelRun0_A.sl.v51 kernelRun0_A.sl.HS0_2 kernelRun0_A.sl.HS1_1 kernelRun0_A.sl.v212 kernelRun0_A.sl.v214 kernelRun0_A.sl.v216 kernelRun0_A.sl.v218 kernelRun0_A.sl.v220 kernelRun0_A.sl.v222 kernelRun0_A.sl.v224 kernelRun0_A.sl.v226 kernelRun0_A.sl.v228 kernelRun0_A.sl.v230 kernelRun0_A.sl.v232 kernelRun0_A.sl.v234 kernelRun0_A.sl.v236 kernelRun0_A.sl.v238 kernelRun0_A.sl.v240 kernelRun0_A.sl.v75 kernelRun0_A.sl.v99; rw [View.readCov_eq_canon']; delta c_v51 View.ld q_a; rfl
    have h_v75 : kernelRun0_A.sl.v75 c arg1 arg9 f0 = c_v75 (View.read (Elt F) arg2.view f1) (View.read (Elt F) arg3.view f2) (View.read (Elt F) arg4.view f3) (View.read (Elt F) arg5.view f4) (q_a (View.read (Elt F) arg1.view f0)) (q_sc (View.read (Elt F) arg1.view f0)) := by
      delta kernelRun0_A.sl.v75 kernelRun0_A.sl.HS0_2 kernelRun0_A.sl.HS1_1 kernelRun0_A.sl.v212 kernelRun0_A.sl.v214 kernelRun0_A.sl.v216 kernelRun0_A.sl.v218 kernelRun0_A.sl.v220 kernelRun0_A.sl.v222 kernelRun0_A.sl.v224 kernelRun0_A.sl.v226 kernelRun0_A.sl.v228 kernelRun0_A.sl.v230 kernelRun0_A.sl.v232 kernelRun0_A.sl.v234 kernelRun0_A.sl.v236 kernelRun0_A.sl.v238 kernelRun0_A.sl.v240 kernelRun0_A.sl.v99; rw [View.readCov_eq_canon']; delta c_v75 View.ld q_a; rfl
    have h_v99 : kernelRun0_A.sl.v99 c arg1 arg9 f0 = c_v99 (View.read (Elt F) arg2.view f1) (View.read (Elt F) arg3.view f2) (View.read (Elt F) arg4.view f3) (View.read (Elt F) arg5.view f4) (q_a (View.read (Elt F) arg1.view f0)) (q_sc (View.read (Elt F) arg1.view f0)) := by
      delta kernelRun0_A.sl.v99 kernelRun0_A.sl.HS0_2 kernelRun0_A.sl.HS1_1 kernelRun0_A.sl.v212 kernelRun0_A.sl.v214 kernelRun0_A.sl.v216 kernelRun0_A.sl.v218 kernelRun0_A.sl.v220 kernelRun0_A.sl.v222 kernelRun0_A.sl.v224 kernelRun0_A.sl.v226 kernelRun0_A.sl.v228 kernelRun0_A.sl.v230 kernelRun0_A.sl.v232 kernelRun0_A.sl.v234 kernelRun0_A.sl.v236 kernelRun0_A.sl.v238 kernelRun0_A.sl.v240; rw [View.readCov_eq_canon']; delta c_v99 View.ld q_a; rfl
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; (refine (View.read_writes_eq_canon _ _ _ (cover_y _)).trans ((View.canon_unit_zero off0 _ _).trans ?_); delta kernelRun0_A.sl.r kernelRun0_A.sl.r_1 kernelRun0_A.sl.r_10 kernelRun0_A.sl.r_11 kernelRun0_A.sl.r_12 kernelRun0_A.sl.r_2 kernelRun0_A.sl.r_3 kernelRun0_A.sl.r_4 kernelRun0_A.sl.r_5 kernelRun0_A.sl.r_6 kernelRun0_A.sl.r_7 kernelRun0_A.sl.r_8 kernelRun0_A.sl.r_9; rw [h_v123, h_v147, h_v171, h_v195, h_v202, h_v27, h_v51, h_v75, h_v99]; rfl)
    isplitl [H6]
    · iexists _; isplitr; swap; · iexact H6
      ipureintro; exact View.read_writes_eq_canon _ _ _ (fun y => cover_ca _ y)
    isplitl [H7]
    · iexists _; isplitr; swap; · iexact H7
      ipureintro; exact View.read_writes_eq_canon _ _ _ (fun y => cover_sa _ y)
    isplitl [HS0]
    · iexists _; isplitr; swap; · iexact HS0
      ipureintro; exact View.read_writes_eq_canon _ _ _ (fun y => cover_a _ _ y)
    iexists _; isplitr; swap; · iexact HS1
    ipureintro; exact View.read_writes_eq_canon _ _ _ (fun y => cover_sc _ y)

end Cert.OprojIdeal.Run

end
-- ==== Proof.Common.Kept.lean ====
/- An output block that only the grid's first point stores: what its staging buffer holds at every later point. -/
module

public import Idealize.ShloMosaic.Lib.Pipeline.FrameBody

@[expose] public section

noncomputable section

namespace Idealize.ShloMosaic.Pipeline
open Idealize.SL
open Idealize.SL.BI (sProp bigSep bigSep_map)
open scoped Idealize.SL.BI
open Idealize.SL.BI.BIBase Idealize.SL.BI.Laws Idealize.SL.Sem Idealize.SL.ProofMode
open Idealize.SL.RA
open TcCoe
open Idealize.ShloMosaic.Rounds

variable {nD : Nat} {τ : Topo} {sig : RefSig} {Val : EltTy → Type}
variable {Ix : Type} [DecidableEq Ix] {Name : Type} [DecidableEq Name] {U : Type} [URA U] {Lvl : Type}
variable {Λ₀ : SL.Sem.Labels} {cfg : Cfg sig Λ₀} {c : Dev nD} (dat : Dat τ Val Ix Name U Lvl cfg c)

local notation "𝕄" => MT nD τ sig Ix Val Name U Lvl

/-- An output block not written back before the last point, live at the first, and left at `Q` by every point that
    states it: at every later point its buffer holds `Q`. -/
theorem Dat.before_first (w : Fin cfg.W) (hw : (cfg.win w).isOut = true) (Q : (cfg.win w).block.Idx → Val (cfg.win w).elt)
    (h0 : ∀ t : Fin cfg.N, t.val = 0 → cfg.idle w (cfg.grid.coords t) = false)
    (hclip : ∀ (i : cfg.grid.Coords) a, (cfg.win w).clip i a = none) (hafter : ∀ t, dat.after w t = Q)
    (hfl : ∀ t : Fin cfg.N, t.val + 1 < cfg.N → (cfg.win w).flush t = false) :
    ∀ (n : ℕ) (h : n < cfg.N), n ≠ 0 → ∀ d, dat.before w ⟨n, h⟩ d = Q := by
  intro n
  induction n with
  | zero => intro _ hn; exact absurd rfl hn
  | succ n ih =>
    intro h _ d
    have hn : n < cfg.N := Nat.lt_of_succ_lt h
    rw [dat.before_of_pos w ⟨n + 1, h⟩ (Nat.succ_ne_zero n) ((cfg.win w).fetch_out hw _)]
    show (if (cfg.win w).flush ⟨n, hn⟩ = true then d else dat.left w ⟨n, hn⟩ d) = Q
    rw [hfl ⟨n, hn⟩ h, if_neg Bool.false_ne_true]
    unfold Dat.left
    cases hi : cfg.idle w (cfg.grid.coords ⟨n, hn⟩) with
    | true =>
      refine ih hn (fun hz => ?_) d
      rw [h0 ⟨n, hn⟩ hz] at hi; exact Bool.false_ne_true hi
    | false =>
      show dat.kept w ⟨n, hn⟩ d = Q
      unfold Dat.kept
      rw [fill_of_clip_none w _ (hclip _) d (dat.after w _), Window.fill_cut, hafter]

/-- A body that hands such a buffer back at `Q` leaves it as its obligation asks. -/
theorem Dat.leaves_first (w : Fin cfg.W) (Q : (cfg.win w).block.Idx → Val (cfg.win w).elt) (t : Fin cfg.N)
    (hafter : dat.after w t = Q) (d : (cfg.win w).block.Idx → Val (cfg.win w).elt) (hb : dat.before w t d = Q) :
    (owns (c : Thread nD τ) ((cfg.win w).stage (cfg.slots t w)) fullShare Q : sProp 𝕄) ⊢ dat.leavesExact w t := by
  unfold Dat.leavesExact
  cases cfg.idle w (cfg.grid.coords t) with
  | true =>
    cases (cfg.win w).flush t with
    | false =>
      show _ ⊢ iprop(∃ d, owns (c : Thread nD τ) ((cfg.win w).stage (cfg.slots t w)) fullShare (dat.before w t d))
      rw [← hb]
      iintro H; iexists d; iexact H
    | true => rw [← hafter]
  | false => rw [← hafter]

end Idealize.ShloMosaic.Pipeline

end
-- ==== Proof.Oproj.Frame.lean ====
/- The frame of the Oproj kernel with its outputs named: what each point leaves in its buffers, the body obligation, the
   launch and the frame claim. -/
module

public import proofs.«01_k».proof.Proof.Oproj.RunA
public import proofs.«01_k».proof.Proof.Common.Kept
public import Idealize.ShloMosaic.Lib.Claim

@[expose] public section

set_option maxRecDepth 16384

noncomputable section

namespace Cert.OprojIdeal.Run
open Cert.OprojIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The grid's first point. -/
def t0 : Fin cfg0.N := ⟨0, by rw [show cfg0.N = 8 from N_0]; decide⟩

/-- The block of the result point `t` leaves. -/
def yAt (c : Dev nD) (t : Fin cfg0.N) := yB (iblk m c 1 t) (iblk m c 2 t) (iblk m c 3 t) (iblk m c 4 t) (q_a (iblk m c 0 t0)) (q_sc (iblk m c 0 t0))

/-- What the region keeps between points: before the first point nothing, afterwards the two scratch buffers at what
    the first point leaves in them. -/
def Phi (c : Dev nD) (t : Fin (cfg0.N + 1)) : sProp 𝕄 :=
  if t.val = 0 then Pipeline.ΦA spec0 c
  else iprop(iprop(owns (c : Thread nD τ) scM0_0 fullShare (q_a (iblk m c 0 t0)) ∗ owns (c : Thread nD τ) scM0_1 fullShare (q_sc (iblk m c 0 t0))) ∗ (∃ r, prngReg c r))

/-- The proof data of the one pipeline on core `c`: each input's buffer at its block, the result's at the block point `t`
    computes, the codes and the scales at what the first point stores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => yAt m c t
    | ⟨6, _⟩ => q_ca (iblk m c 0 t0)
    | ⟨7, _⟩ => q_sa (iblk m c 0 t0)
  Φ := Phi m c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = yAt m c t := by dsimp only [dats]
theorem after0_6 (c : Dev nD) (t : Fin cfg0.N) : (dats m 0 c).after 6 t = q_ca (iblk m c 0 t0) := by dsimp only [dats]
theorem after0_7 (c : Dev nD) (t : Fin cfg0.N) : (dats m 0 c).after 7 t = q_sa (iblk m c 0 t0) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The first point stores window 6. -/
theorem live0_6 (t : Fin cfg0.N) (h : t.val = 0) : cfg0.idle 6 (cfg0.grid.coords t) = false := by
  have e : k0_cond1 (grid0.coords t) = 1#1 := (hcond0_0 t).mpr (by rw [h])
  show (!(k0_cond1 (grid0.coords t) == 1#1)) = false
  rw [e]; rfl

/-- At a later point the buffer of window 6 still holds what the first point left. -/
theorem before0_6 (c : Dev nD) (t : Fin cfg0.N) (ht : t.val ≠ 0) (d) : (dats m 0 c).before 6 t d = q_ca (iblk m c 0 t0) := by
  refine (dats m 0 c).before_first 6 rfl _ live0_6 (fun _ _ => rfl) (after0_6 m c) (fun t h => ?_) t.val t.isLt ht d
  have hN : cfg0.N = 8 := N_0
  exact Bool.eq_false_iff.mpr fun hf => by have := (flush0_6 t).mp hf; omega

/-- The first point stores window 7. -/
theorem live0_7 (t : Fin cfg0.N) (h : t.val = 0) : cfg0.idle 7 (cfg0.grid.coords t) = false := by
  have e : k0_cond1 (grid0.coords t) = 1#1 := (hcond0_0 t).mpr (by rw [h])
  show (!(k0_cond1 (grid0.coords t) == 1#1)) = false
  rw [e]; rfl

/-- At a later point the buffer of window 7 still holds what the first point left. -/
theorem before0_7 (c : Dev nD) (t : Fin cfg0.N) (ht : t.val ≠ 0) (d) : (dats m 0 c).before 7 t d = q_sa (iblk m c 0 t0) := by
  refine (dats m 0 c).before_first 7 rfl _ live0_7 (fun _ _ => rfl) (after0_7 m c) (fun t h => ?_) t.val t.isLt ht d
  have hN : cfg0.N = 8 := N_0
  exact Bool.eq_false_iff.mpr fun hf => by have := (flush0_7 t).mp hf; omega

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 1600000 in
/-- The body at any point: the first point fills the scratch, the codes and the scales, a later one finds them there. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = Phi m c t.succ from rfl, show (dats m 0 c).Φ t.castSucc = Phi m c t.castSucc from rfl]
  have hN : t.val < 8 := lt_of_lt_of_eq t.isLt (show cfg0.N = 8 from N_0)
  rw [show Phi m c t.succ = _ from if_neg (Nat.succ_ne_zero t.val)]
  rw [show (dats m 0 c).leavesExact 0 t = owns (c : Thread nD τ) (ms0_0 t) fullShare ((dats m 0 c).after 0 t) from by
      unfold Dat.leavesExact; rw [show cfg0.idle 0 _ = false from rfl], after0_0]
  rw [show (dats m 0 c).leavesExact 1 t = owns (c : Thread nD τ) (ms0_1 t) fullShare ((dats m 0 c).after 1 t) from by
      unfold Dat.leavesExact; rw [show cfg0.idle 1 _ = false from rfl], after0_1]
  rw [show (dats m 0 c).leavesExact 2 t = owns (c : Thread nD τ) (ms0_2 t) fullShare ((dats m 0 c).after 2 t) from by
      unfold Dat.leavesExact; rw [show cfg0.idle 2 _ = false from rfl], after0_2]
  rw [show (dats m 0 c).leavesExact 3 t = owns (c : Thread nD τ) (ms0_3 t) fullShare ((dats m 0 c).after 3 t) from by
      unfold Dat.leavesExact; rw [show cfg0.idle 3 _ = false from rfl], after0_3]
  rw [show (dats m 0 c).leavesExact 4 t = owns (c : Thread nD τ) (ms0_4 t) fullShare ((dats m 0 c).after 4 t) from by
      unfold Dat.leavesExact; rw [show cfg0.idle 4 _ = false from rfl], after0_4]
  rw [show (dats m 0 c).leavesExact 5 t = owns (c : Thread nD τ) (ms0_5 t) fullShare ((dats m 0 c).after 5 t) from by
      unfold Dat.leavesExact; rw [show cfg0.idle 5 _ = false from rfl], after0_5]
  by_cases h0 : t.val % 8 = 0
  · obtain rfl : t = t0 := Fin.ext (by have : t0.val = 0 := rfl; omega)
    rw [show (dats m 0 c).leavesExact 6 t0 = owns (c : Thread nD τ) (ms0_6 t0) fullShare ((dats m 0 c).after 6 t0) from by
      unfold Dat.leavesExact; rw [live0_6 t0 rfl], after0_6]
    rw [show (dats m 0 c).leavesExact 7 t0 = owns (c : Thread nD τ) (ms0_7 t0) fullShare ((dats m 0 c).after 7 t0) from by
      unfold Dat.leavesExact; rw [live0_7 t0 rfl], after0_7]
    rw [show Phi m c (t0 : Fin cfg0.N).castSucc = _ from if_pos rfl, PhiA0_eq]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t0) _ _ _ _ _ _ _ _ _ _ _ _ _ _ _ _ _ _ _ _ ((hcond0_0 t0).mpr h0) (iblk m c 0 t0) (iblk m c 1 t0) (iblk m c 2 t0) (iblk m c 3 t0) (iblk m c 4 t0)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have ht : t.val ≠ 0 := by omega
    rw [show Phi m c t.castSucc = _ from if_neg ht]
    simp only [before0_6 m c t ht, before0_7 m c t ht]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ _ _ _ _ (fun h => h0 ((hcond0_0 t).mp h)) (iblk m c 0 t) (iblk m c 1 t) (iblk m c 2 t) (iblk m c 3 t) (iblk m c 4 t) (q_ca (iblk m c 0 t0)) (q_sa (iblk m c 0 t0)) (q_a (iblk m c 0 t0)) (q_sc (iblk m c 0 t0))) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    isplitl [HS1]; · iexact HS1
    iintro ⟨H0, H1, H2, H3, H4, H5, H6, H7, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply ((dats m 0 c).leaves_first 6 _ t (after0_6 m c t) d6 (before0_6 m c t ht d6)); iexact H6
    iapply ((dats m 0 c).leaves_first 7 _ t (after0_7 m c t) d7 (before0_7 m c t ht d7)); iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- Before the first point the region holds its scratch at some contents. -/
theorem Phi_in (c : Dev nD) : (Pipeline.ΦA spec0 c : sProp 𝕄) ⊢ (dats m 0 c).Φ 0 :=
  Entails.of_eq (show Phi m c 0 = _ from if_pos rfl).symm

/-- After the last point the contents of the scratch are forgotten. -/
theorem Phi_out (c : Dev nD) : (dats m 0 c).Φ (Fin.last cfg0.N) ⊢ (Pipeline.ΦA spec0 c : sProp 𝕄) := by
  rw [show (dats m 0 c).Φ (Fin.last cfg0.N) = Phi m c (Fin.last cfg0.N) from rfl,
    show Phi m c (Fin.last cfg0.N) = _ from if_neg (by show cfg0.N ≠ 0; rw [show cfg0.N = 8 from N_0]; decide), PhiA0_eq]
  iintro ⟨⟨HS0, HS1⟩, Hg⟩
  isplitl [HS0 HS1]
  · isplitl [HS0]
    · iexists _; iexact HS0
    iexists _; iexact HS1
  iexact Hg

set_option backward.isDefEq.respectTransparency.types false in
set_option maxHeartbeats 800000 in
/-- The launch: every array of the pipeline ends at what the library computes from the proof data, and every counter at zero. -/
theorem run_main_quiescent : θ_run defs (onTc (τ := τ) (main (F := F))) (s₀ m ρ) (fun r => Pipeline.FramePost cfgs (dats m) (0 : Fin 1) (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := Phi_in m) (hout := Phi_out m)

/-- The run without the counters. -/
theorem run_main : θ_run defs (onTc (τ := τ) (main (F := F))) (s₀ m ρ) (Pipeline.FramePost cfgs (dats m) (0 : Fin 1) (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.OprojIdeal.Run

end
-- ==== Proof.Oproj.Bits.lean ====
/- The frame of the Oproj program over machine words: its text is the other program's, so the frame proved for any floats is its own. -/
module

public import proofs.«01_k».proof.Defs
public import proofs.«01_k».proof.Proof.Oproj.Frame
public import proofs.«01_k».proof.Proof.Gen.Oproj

@[expose] public section

set_option maxRecDepth 65536

noncomputable section

namespace Cert.OprojIdeal.Run

open Idealize.ShloMosaic Idealize.ShloMosaic.TcCoe Idealize.SL.Sem

/-- The two programs' bodies are one. -/
theorem body_bits : letI := Cert.Oproj.Gen.facts; letI := Cert.OprojIdeal.Gen.facts; @Cert.Oproj.cc0_oproj Bits _ _ = @Cert.OprojIdeal.cc0_oproj Bits _ _ := rfl

theorem defs₀_bits : letI := Cert.Oproj.Gen.facts; letI := Cert.OprojIdeal.Gen.facts; @Cert.Oproj.defs₀ Bits _ _ = @Cert.OprojIdeal.defs₀ Bits _ _ := by
  unfold Cert.Oproj.defs₀ Cert.OprojIdeal.defs₀
  refine congrArg Defs.onTc (funext fun l => funext fun a => ?_)
  match l, a with
  | 0, (t, s) => exact rfl
  | ⟨_ + 1, h⟩, _ => exact absurd h (Nat.not_lt.2 (Nat.le_add_left _ _))

theorem defs_bits : letI := Cert.Oproj.Gen.facts; letI := Cert.OprojIdeal.Gen.facts; @Cert.Oproj.defs Bits _ _ = @Cert.OprojIdeal.defs Bits _ _ :=
  congrArg (Pipeline.defs Cert.OprojIdeal.pcfgs) defs₀_bits

/-- The frame over machine words. -/
theorem frame_bits : letI := Cert.Oproj.Gen.facts; Cert.quiescent_Oproj := by
  intro m g _
  rw [defs_bits]
  exact frame (F := Bits) m g

end Cert.OprojIdeal.Run

end
-- ==== Proof.Gu.Runs.lean ====
/- What the two cases of the Gu kernel's body share: its branch condition in closed form, the staging and
   scratch memrefs, and the scratch invariant with the scratch buffers as memrefs. -/
module

public import proofs.«01_k».proof.Proof.Gen.GuIdeal.Launch
public import proofs.«01_k».proof.Proof.Gen.GuIdeal.Skeleton
public import proofs.«01_k».proof.Proof.Gen.GuIdeal.Points
public import proofs.«01_k».proof.Proof.Gen.GuIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.GuIdeal.Run
open Cert.GuIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 14 = 0 :=
  (fun t => by
    have ht : t.val < 14 := Nat.lt_of_lt_of_eq t.isLt N_0
    have e0 : (grid0.coords t 0).val = t.val / 1 % 14 := Pipeline.Grid.coords_val t 0 (by decide) rfl
    simp only [cond0_0, k0_cond1, e0]
    word_cmp
   : ∀ t : Fin grid0.N, cond0_0 (grid0.coords t) ↔ t.val % 14 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S72x8192 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x512 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x512 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x512 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x512 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S72x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S72x8192 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x72 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S80x8192 .bf16 := Memref.whole cc0_scratch0
abbrev scM0_1 : Memref sig .tc .vmem S72x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.GuIdeal.Run

end
-- ==== Proof.Gu.Chain.lean ====
/- The values the Gu kernel's body computes, one definition per value, as functions of the blocks it loads: `c_v…`
   after its first-point branch (over the two scratch buffers as well), `b_v…` inside it. -/
module

public import proofs.«01_k».proof.Proof.Gu.Runs
public import Idealize.ShloMosaic.Lib.Pipeline.Value

@[expose] public section

set_option maxRecDepth 16384

noncomputable section

namespace Cert.GuIdeal.Run
open Cert.GuIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offset of a whole load or store. -/
theorem off0 : (![0, 0] : Fin 2 → Nat) = fun _ => 0 := by funext a; match a with | ⟨0, _⟩ => rfl | ⟨1, _⟩ => rfl
def c_v3 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S72x1 .f32 := View.ld sc (Rect.unit (s := S72x128) ![0, 0] S72x1.size inb_S72x128_S72x1_0_0)
def c_v4 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S64x512 .fp8e4m3 := View.ld x4 (Rect.unit (s := S64x512) ![0, 0] S64x512.size inb_S64x512_S64x512_0_0)
def c_v7 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S32x512 .i32 := View.ld x2 (Rect.unit (s := S1024x512) ![0, 0] S32x512.size inb_S1024x512_S32x512_0_0)
def c_v28 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S80x256 .bf16 := View.ld a (Rect.unit (s := S80x8192) ![0, 0] S80x256.size inb_S80x8192_S80x256_0_0)
def c_v31 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S32x512 .i32 := View.ld x2 (Rect.unit (s := S1024x512) ![32, 0] S32x512.size inb_S1024x512_S32x512_32_0)
def c_v5 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : FVec F S64x512 .f32 := k0_pay11 (c_v4 x2 x3 x4 x5 x6 x7 a sc)
def c_v30 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : FVec F S80x512 .f32 := k0_pay12 (c_v4 x2 x3 x4 x5 x6 x7 a sc) (c_v7 x2 x3 x4 x5 x6 x7 a sc) (c_v28 x2 x3 x4 x5 x6 x7 a sc)
def c_v40 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : IVec S256x512 4 := k0_pay13 (c_v31 x2 x3 x4 x5 x6 x7 a sc)
def c_v41 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : FVec F S1x512 .f32 := k0_pay14 (c_v4 x2 x3 x4 x5 x6 x7 a sc)
def c_v52 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S80x256 .bf16 := View.ld a (Rect.unit (s := S80x8192) ![0, 256] S80x256.size inb_S80x8192_S80x256_0_256)
def c_v55 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S32x512 .i32 := View.ld x2 (Rect.unit (s := S1024x512) ![64, 0] S32x512.size inb_S1024x512_S32x512_64_0)
def c_v76 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S80x256 .bf16 := View.ld a (Rect.unit (s := S80x8192) ![0, 512] S80x256.size inb_S80x8192_S80x256_0_512)
def c_v79 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S32x512 .i32 := View.ld x2 (Rect.unit (s := S1024x512) ![96, 0] S32x512.size inb_S1024x512_S32x512_96_0)
def c_v78 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : FVec F S80x512 .f32 := k0_pay15 (c_v5 x2 x3 x4 x5 x6 x7 a sc) (c_v30 x2 x3 x4 x5 x6 x7 a sc) (c_v40 x2 x3 x4 x5 x6 x7 a sc) (c_v41 x2 x3 x4 x5 x6 x7 a sc) (c_v52 x2 x3 x4 x5 x6 x7 a sc) (c_v55 x2 x3 x4 x5 x6 x7 a sc) (c_v76 x2 x3 x4 x5 x6 x7 a sc)
def c_v88 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : IVec S256x512 4 := k0_pay16 (c_v79 x2 x3 x4 x5 x6 x7 a sc)
def c_v89 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : FVec F S1x512 .f32 := k0_pay17 (c_v5 x2 x3 x4 x5 x6 x7 a sc)
def c_v100 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S80x256 .bf16 := View.ld a (Rect.unit (s := S80x8192) ![0, 768] S80x256.size inb_S80x8192_S80x256_0_768)
def c_v103 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S32x512 .i32 := View.ld x2 (Rect.unit (s := S1024x512) ![128, 0] S32x512.size inb_S1024x512_S32x512_128_0)
def c_v124 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S80x256 .bf16 := View.ld a (Rect.unit (s := S80x8192) ![0, 1024] S80x256.size inb_S80x8192_S80x256_0_1024)
def c_v127 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S32x512 .i32 := View.ld x2 (Rect.unit (s := S1024x512) ![160, 0] S32x512.size inb_S1024x512_S32x512_160_0)
def c_v126 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : FVec F S80x512 .f32 := k0_pay18 (c_v5 x2 x3 x4 x5 x6 x7 a sc) (c_v78 x2 x3 x4 x5 x6 x7 a sc) (c_v88 x2 x3 x4 x5 x6 x7 a sc) (c_v89 x2 x3 x4 x5 x6 x7 a sc) (c_v100 x2 x3 x4 x5 x6 x7 a sc) (c_v103 x2 x3 x4 x5 x6 x7 a sc) (c_v124 x2 x3 x4 x5 x6 x7 a sc)
def c_v136 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : IVec S256x512 4 := k0_pay19 (c_v127 x2 x3 x4 x5 x6 x7 a sc)
def c_v137 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : FVec F S1x512 .f32 := k0_pay20 (c_v5 x2 x3 x4 x5 x6 x7 a sc)
def c_v148 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S80x256 .bf16 := View.ld a (Rect.unit (s := S80x8192) ![0, 1280] S80x256.size inb_S80x8192_S80x256_0_1280)
def c_v151 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S32x512 .i32 := View.ld x2 (Rect.unit (s := S1024x512) ![192, 0] S32x512.size inb_S1024x512_S32x512_192_0)
def c_v172 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S80x256 .bf16 := View.ld a (Rect.unit (s := S80x8192) ![0, 1536] S80x256.size inb_S80x8192_S80x256_0_1536)
def c_v175 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S32x512 .i32 := View.ld x2 (Rect.unit (s := S1024x512) ![224, 0] S32x512.size inb_S1024x512_S32x512_224_0)
def c_v174 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : FVec F S80x512 .f32 := k0_pay21 (c_v5 x2 x3 x4 x5 x6 x7 a sc) (c_v126 x2 x3 x4 x5 x6 x7 a sc) (c_v136 x2 x3 x4 x5 x6 x7 a sc) (c_v137 x2 x3 x4 x5 x6 x7 a sc) (c_v148 x2 x3 x4 x5 x6 x7 a sc) (c_v151 x2 x3 x4 x5 x6 x7 a sc) (c_v172 x2 x3 x4 x5 x6 x7 a sc)
def c_v184 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : IVec S256x512 4 := k0_pay22 (c_v175 x2 x3 x4 x5 x6 x7 a sc)
def c_v185 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : FVec F S1x512 .f32 := k0_pay23 (c_v5 x2 x3 x4 x5 x6 x7 a sc)
def c_v196 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S80x256 .bf16 := View.ld a (Rect.unit (s := S80x8192) ![0, 1792] S80x256.size inb_S80x8192_S80x256_0_1792)
def c_v199 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S32x512 .i32 := View.ld x2 (Rect.unit (s := S1024x512) ![256, 0] S32x512.size inb_S1024x512_S32x512_256_0)
def c_v220 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S80x256 .bf16 := View.ld a (Rect.unit (s := S80x8192) ![0, 2048] S80x256.size inb_S80x8192_S80x256_0_2048)
def c_v223 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S32x512 .i32 := View.ld x2 (Rect.unit (s := S1024x512) ![288, 0] S32x512.size inb_S1024x512_S32x512_288_0)
def c_v222 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : FVec F S80x512 .f32 := k0_pay24 (c_v5 x2 x3 x4 x5 x6 x7 a sc) (c_v174 x2 x3 x4 x5 x6 x7 a sc) (c_v184 x2 x3 x4 x5 x6 x7 a sc) (c_v185 x2 x3 x4 x5 x6 x7 a sc) (c_v196 x2 x3 x4 x5 x6 x7 a sc) (c_v199 x2 x3 x4 x5 x6 x7 a sc) (c_v220 x2 x3 x4 x5 x6 x7 a sc)
def c_v232 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : IVec S256x512 4 := k0_pay25 (c_v223 x2 x3 x4 x5 x6 x7 a sc)
def c_v233 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : FVec F S1x512 .f32 := k0_pay26 (c_v5 x2 x3 x4 x5 x6 x7 a sc)
def c_v244 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S80x256 .bf16 := View.ld a (Rect.unit (s := S80x8192) ![0, 2304] S80x256.size inb_S80x8192_S80x256_0_2304)
def c_v247 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S32x512 .i32 := View.ld x2 (Rect.unit (s := S1024x512) ![320, 0] S32x512.size inb_S1024x512_S32x512_320_0)
def c_v268 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S80x256 .bf16 := View.ld a (Rect.unit (s := S80x8192) ![0, 2560] S80x256.size inb_S80x8192_S80x256_0_2560)
def c_v271 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S32x512 .i32 := View.ld x2 (Rect.unit (s := S1024x512) ![352, 0] S32x512.size inb_S1024x512_S32x512_352_0)
def c_v270 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : FVec F S80x512 .f32 := k0_pay27 (c_v5 x2 x3 x4 x5 x6 x7 a sc) (c_v222 x2 x3 x4 x5 x6 x7 a sc) (c_v232 x2 x3 x4 x5 x6 x7 a sc) (c_v233 x2 x3 x4 x5 x6 x7 a sc) (c_v244 x2 x3 x4 x5 x6 x7 a sc) (c_v247 x2 x3 x4 x5 x6 x7 a sc) (c_v268 x2 x3 x4 x5 x6 x7 a sc)
def c_v280 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : IVec S256x512 4 := k0_pay28 (c_v271 x2 x3 x4 x5 x6 x7 a sc)
def c_v281 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : FVec F S1x512 .f32 := k0_pay29 (c_v5 x2 x3 x4 x5 x6 x7 a sc)
def c_v292 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S80x256 .bf16 := View.ld a (Rect.unit (s := S80x8192) ![0, 2816] S80x256.size inb_S80x8192_S80x256_0_2816)
def c_v295 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S32x512 .i32 := View.ld x2 (Rect.unit (s := S1024x512) ![384, 0] S32x512.size inb_S1024x512_S32x512_384_0)
def c_v316 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S80x256 .bf16 := View.ld a (Rect.unit (s := S80x8192) ![0, 3072] S80x256.size inb_S80x8192_S80x256_0_3072)
def c_v319 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S32x512 .i32 := View.ld x2 (Rect.unit (s := S1024x512) ![416, 0] S32x512.size inb_S1024x512_S32x512_416_0)
def c_v318 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : FVec F S80x512 .f32 := k0_pay30 (c_v5 x2 x3 x4 x5 x6 x7 a sc) (c_v270 x2 x3 x4 x5 x6 x7 a sc) (c_v280 x2 x3 x4 x5 x6 x7 a sc) (c_v281 x2 x3 x4 x5 x6 x7 a sc) (c_v292 x2 x3 x4 x5 x6 x7 a sc) (c_v295 x2 x3 x4 x5 x6 x7 a sc) (c_v316 x2 x3 x4 x5 x6 x7 a sc)
def c_v328 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : IVec S256x512 4 := k0_pay31 (c_v319 x2 x3 x4 x5 x6 x7 a sc)
def c_v329 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : FVec F S1x512 .f32 := k0_pay32 (c_v5 x2 x3 x4 x5 x6 x7 a sc)
def c_v340 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S80x256 .bf16 := View.ld a (Rect.unit (s := S80x8192) ![0, 3328] S80x256.size inb_S80x8192_S80x256_0_3328)
def c_v343 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S32x512 .i32 := View.ld x2 (Rect.unit (s := S1024x512) ![448, 0] S32x512.size inb_S1024x512_S32x512_448_0)
def c_v364 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S80x256 .bf16 := View.ld a (Rect.unit (s := S80x8192) ![0, 3584] S80x256.size inb_S80x8192_S80x256_0_3584)
def c_v367 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S32x512 .i32 := View.ld x2 (Rect.unit (s := S1024x512) ![480, 0] S32x512.size inb_S1024x512_S32x512_480_0)
def c_v366 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : FVec F S80x512 .f32 := k0_pay33 (c_v5 x2 x3 x4 x5 x6 x7 a sc) (c_v318 x2 x3 x4 x5 x6 x7 a sc) (c_v328 x2 x3 x4 x5 x6 x7 a sc) (c_v329 x2 x3 x4 x5 x6 x7 a sc) (c_v340 x2 x3 x4 x5 x6 x7 a sc) (c_v343 x2 x3 x4 x5 x6 x7 a sc) (c_v364 x2 x3 x4 x5 x6 x7 a sc)
def c_v376 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : IVec S256x512 4 := k0_pay34 (c_v367 x2 x3 x4 x5 x6 x7 a sc)
def c_v377 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : FVec F S1x512 .f32 := k0_pay35 (c_v5 x2 x3 x4 x5 x6 x7 a sc)
def c_v388 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S80x256 .bf16 := View.ld a (Rect.unit (s := S80x8192) ![0, 3840] S80x256.size inb_S80x8192_S80x256_0_3840)
def c_v391 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S32x512 .i32 := View.ld x2 (Rect.unit (s := S1024x512) ![512, 0] S32x512.size inb_S1024x512_S32x512_512_0)
def c_v412 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S80x256 .bf16 := View.ld a (Rect.unit (s := S80x8192) ![0, 4096] S80x256.size inb_S80x8192_S80x256_0_4096)
def c_v415 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S32x512 .i32 := View.ld x2 (Rect.unit (s := S1024x512) ![544, 0] S32x512.size inb_S1024x512_S32x512_544_0)
def c_v414 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : FVec F S80x512 .f32 := k0_pay36 (c_v5 x2 x3 x4 x5 x6 x7 a sc) (c_v366 x2 x3 x4 x5 x6 x7 a sc) (c_v376 x2 x3 x4 x5 x6 x7 a sc) (c_v377 x2 x3 x4 x5 x6 x7 a sc) (c_v388 x2 x3 x4 x5 x6 x7 a sc) (c_v391 x2 x3 x4 x5 x6 x7 a sc) (c_v412 x2 x3 x4 x5 x6 x7 a sc)
def c_v424 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : IVec S256x512 4 := k0_pay37 (c_v415 x2 x3 x4 x5 x6 x7 a sc)
def c_v425 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : FVec F S1x512 .f32 := k0_pay38 (c_v5 x2 x3 x4 x5 x6 x7 a sc)
def c_v436 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S80x256 .bf16 := View.ld a (Rect.unit (s := S80x8192) ![0, 4352] S80x256.size inb_S80x8192_S80x256_0_4352)
def c_v439 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S32x512 .i32 := View.ld x2 (Rect.unit (s := S1024x512) ![576, 0] S32x512.size inb_S1024x512_S32x512_576_0)
def c_v460 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S80x256 .bf16 := View.ld a (Rect.unit (s := S80x8192) ![0, 4608] S80x256.size inb_S80x8192_S80x256_0_4608)
def c_v463 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S32x512 .i32 := View.ld x2 (Rect.unit (s := S1024x512) ![608, 0] S32x512.size inb_S1024x512_S32x512_608_0)
def c_v462 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : FVec F S80x512 .f32 := k0_pay39 (c_v5 x2 x3 x4 x5 x6 x7 a sc) (c_v414 x2 x3 x4 x5 x6 x7 a sc) (c_v424 x2 x3 x4 x5 x6 x7 a sc) (c_v425 x2 x3 x4 x5 x6 x7 a sc) (c_v436 x2 x3 x4 x5 x6 x7 a sc) (c_v439 x2 x3 x4 x5 x6 x7 a sc) (c_v460 x2 x3 x4 x5 x6 x7 a sc)
def c_v472 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : IVec S256x512 4 := k0_pay40 (c_v463 x2 x3 x4 x5 x6 x7 a sc)
def c_v473 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : FVec F S1x512 .f32 := k0_pay41 (c_v5 x2 x3 x4 x5 x6 x7 a sc)
def c_v484 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S80x256 .bf16 := View.ld a (Rect.unit (s := S80x8192) ![0, 4864] S80x256.size inb_S80x8192_S80x256_0_4864)
def c_v487 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S32x512 .i32 := View.ld x2 (Rect.unit (s := S1024x512) ![640, 0] S32x512.size inb_S1024x512_S32x512_640_0)
def c_v508 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S80x256 .bf16 := View.ld a (Rect.unit (s := S80x8192) ![0, 5120] S80x256.size inb_S80x8192_S80x256_0_5120)
def c_v511 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S32x512 .i32 := View.ld x2 (Rect.unit (s := S1024x512) ![672, 0] S32x512.size inb_S1024x512_S32x512_672_0)
def c_v510 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : FVec F S80x512 .f32 := k0_pay42 (c_v5 x2 x3 x4 x5 x6 x7 a sc) (c_v462 x2 x3 x4 x5 x6 x7 a sc) (c_v472 x2 x3 x4 x5 x6 x7 a sc) (c_v473 x2 x3 x4 x5 x6 x7 a sc) (c_v484 x2 x3 x4 x5 x6 x7 a sc) (c_v487 x2 x3 x4 x5 x6 x7 a sc) (c_v508 x2 x3 x4 x5 x6 x7 a sc)
def c_v520 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : IVec S256x512 4 := k0_pay43 (c_v511 x2 x3 x4 x5 x6 x7 a sc)
def c_v521 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : FVec F S1x512 .f32 := k0_pay44 (c_v5 x2 x3 x4 x5 x6 x7 a sc)
def c_v532 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S80x256 .bf16 := View.ld a (Rect.unit (s := S80x8192) ![0, 5376] S80x256.size inb_S80x8192_S80x256_0_5376)
def c_v535 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S32x512 .i32 := View.ld x2 (Rect.unit (s := S1024x512) ![704, 0] S32x512.size inb_S1024x512_S32x512_704_0)
def c_v556 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S80x256 .bf16 := View.ld a (Rect.unit (s := S80x8192) ![0, 5632] S80x256.size inb_S80x8192_S80x256_0_5632)
def c_v559 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S32x512 .i32 := View.ld x2 (Rect.unit (s := S1024x512) ![736, 0] S32x512.size inb_S1024x512_S32x512_736_0)
def c_v558 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : FVec F S80x512 .f32 := k0_pay45 (c_v5 x2 x3 x4 x5 x6 x7 a sc) (c_v510 x2 x3 x4 x5 x6 x7 a sc) (c_v520 x2 x3 x4 x5 x6 x7 a sc) (c_v521 x2 x3 x4 x5 x6 x7 a sc) (c_v532 x2 x3 x4 x5 x6 x7 a sc) (c_v535 x2 x3 x4 x5 x6 x7 a sc) (c_v556 x2 x3 x4 x5 x6 x7 a sc)
def c_v568 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : IVec S256x512 4 := k0_pay46 (c_v559 x2 x3 x4 x5 x6 x7 a sc)
def c_v569 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : FVec F S1x512 .f32 := k0_pay47 (c_v5 x2 x3 x4 x5 x6 x7 a sc)
def c_v580 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S80x256 .bf16 := View.ld a (Rect.unit (s := S80x8192) ![0, 5888] S80x256.size inb_S80x8192_S80x256_0_5888)
def c_v583 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S32x512 .i32 := View.ld x2 (Rect.unit (s := S1024x512) ![768, 0] S32x512.size inb_S1024x512_S32x512_768_0)
def c_v604 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S80x256 .bf16 := View.ld a (Rect.unit (s := S80x8192) ![0, 6144] S80x256.size inb_S80x8192_S80x256_0_6144)
def c_v607 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S32x512 .i32 := View.ld x2 (Rect.unit (s := S1024x512) ![800, 0] S32x512.size inb_S1024x512_S32x512_800_0)
def c_v606 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : FVec F S80x512 .f32 := k0_pay48 (c_v5 x2 x3 x4 x5 x6 x7 a sc) (c_v558 x2 x3 x4 x5 x6 x7 a sc) (c_v568 x2 x3 x4 x5 x6 x7 a sc) (c_v569 x2 x3 x4 x5 x6 x7 a sc) (c_v580 x2 x3 x4 x5 x6 x7 a sc) (c_v583 x2 x3 x4 x5 x6 x7 a sc) (c_v604 x2 x3 x4 x5 x6 x7 a sc)
def c_v616 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : IVec S256x512 4 := k0_pay49 (c_v607 x2 x3 x4 x5 x6 x7 a sc)
def c_v617 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : FVec F S1x512 .f32 := k0_pay50 (c_v5 x2 x3 x4 x5 x6 x7 a sc)
def c_v628 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S80x256 .bf16 := View.ld a (Rect.unit (s := S80x8192) ![0, 6400] S80x256.size inb_S80x8192_S80x256_0_6400)
def c_v631 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S32x512 .i32 := View.ld x2 (Rect.unit (s := S1024x512) ![832, 0] S32x512.size inb_S1024x512_S32x512_832_0)
def c_v652 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S80x256 .bf16 := View.ld a (Rect.unit (s := S80x8192) ![0, 6656] S80x256.size inb_S80x8192_S80x256_0_6656)
def c_v655 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S32x512 .i32 := View.ld x2 (Rect.unit (s := S1024x512) ![864, 0] S32x512.size inb_S1024x512_S32x512_864_0)
def c_v654 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : FVec F S80x512 .f32 := k0_pay51 (c_v5 x2 x3 x4 x5 x6 x7 a sc) (c_v606 x2 x3 x4 x5 x6 x7 a sc) (c_v616 x2 x3 x4 x5 x6 x7 a sc) (c_v617 x2 x3 x4 x5 x6 x7 a sc) (c_v628 x2 x3 x4 x5 x6 x7 a sc) (c_v631 x2 x3 x4 x5 x6 x7 a sc) (c_v652 x2 x3 x4 x5 x6 x7 a sc)
def c_v664 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : IVec S256x512 4 := k0_pay52 (c_v655 x2 x3 x4 x5 x6 x7 a sc)
def c_v665 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : FVec F S1x512 .f32 := k0_pay53 (c_v5 x2 x3 x4 x5 x6 x7 a sc)
def c_v676 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S80x256 .bf16 := View.ld a (Rect.unit (s := S80x8192) ![0, 6912] S80x256.size inb_S80x8192_S80x256_0_6912)
def c_v679 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S32x512 .i32 := View.ld x2 (Rect.unit (s := S1024x512) ![896, 0] S32x512.size inb_S1024x512_S32x512_896_0)
def c_v700 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S80x256 .bf16 := View.ld a (Rect.unit (s := S80x8192) ![0, 7168] S80x256.size inb_S80x8192_S80x256_0_7168)
def c_v703 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S32x512 .i32 := View.ld x2 (Rect.unit (s := S1024x512) ![928, 0] S32x512.size inb_S1024x512_S32x512_928_0)
def c_v702 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : FVec F S80x512 .f32 := k0_pay54 (c_v5 x2 x3 x4 x5 x6 x7 a sc) (c_v654 x2 x3 x4 x5 x6 x7 a sc) (c_v664 x2 x3 x4 x5 x6 x7 a sc) (c_v665 x2 x3 x4 x5 x6 x7 a sc) (c_v676 x2 x3 x4 x5 x6 x7 a sc) (c_v679 x2 x3 x4 x5 x6 x7 a sc) (c_v700 x2 x3 x4 x5 x6 x7 a sc)
def c_v712 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : IVec S256x512 4 := k0_pay55 (c_v703 x2 x3 x4 x5 x6 x7 a sc)
def c_v713 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : FVec F S1x512 .f32 := k0_pay56 (c_v5 x2 x3 x4 x5 x6 x7 a sc)
def c_v724 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S80x256 .bf16 := View.ld a (Rect.unit (s := S80x8192) ![0, 7424] S80x256.size inb_S80x8192_S80x256_0_7424)
def c_v727 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S32x512 .i32 := View.ld x2 (Rect.unit (s := S1024x512) ![960, 0] S32x512.size inb_S1024x512_S32x512_960_0)
def c_v748 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S80x256 .bf16 := View.ld a (Rect.unit (s := S80x8192) ![0, 7680] S80x256.size inb_S80x8192_S80x256_0_7680)
def c_v751 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S32x512 .i32 := View.ld x2 (Rect.unit (s := S1024x512) ![992, 0] S32x512.size inb_S1024x512_S32x512_992_0)
def c_v750 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : FVec F S80x512 .f32 := k0_pay57 (c_v5 x2 x3 x4 x5 x6 x7 a sc) (c_v702 x2 x3 x4 x5 x6 x7 a sc) (c_v712 x2 x3 x4 x5 x6 x7 a sc) (c_v713 x2 x3 x4 x5 x6 x7 a sc) (c_v724 x2 x3 x4 x5 x6 x7 a sc) (c_v727 x2 x3 x4 x5 x6 x7 a sc) (c_v748 x2 x3 x4 x5 x6 x7 a sc)
def c_v760 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : IVec S256x512 4 := k0_pay58 (c_v751 x2 x3 x4 x5 x6 x7 a sc)
def c_v761 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : FVec F S1x512 .f32 := k0_pay59 (c_v5 x2 x3 x4 x5 x6 x7 a sc)
def c_v772 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S80x256 .bf16 := View.ld a (Rect.unit (s := S80x8192) ![0, 7936] S80x256.size inb_S80x8192_S80x256_0_7936)
def c_v778 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S1x512 .f32 := View.ld x6 (Rect.unit (s := S1x512) ![0, 0] S1x512.size inb_S1x512_S1x512_0_0)
def c_v782 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S64x512 .fp8e4m3 := View.ld x5 (Rect.unit (s := S64x512) ![0, 0] S64x512.size inb_S64x512_S64x512_0_0)
def c_v785 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S32x512 .i32 := View.ld x3 (Rect.unit (s := S1024x512) ![0, 0] S32x512.size inb_S1024x512_S32x512_0_0)
def c_v806 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S80x256 .bf16 := View.ld a (Rect.unit (s := S80x8192) ![0, 0] S80x256.size inb_S80x8192_S80x256_0_0)
def c_v781 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : FVec F S72x512 .f32 := k0_pay60 (c_v3 x2 x3 x4 x5 x6 x7 a sc) (c_v5 x2 x3 x4 x5 x6 x7 a sc) (c_v750 x2 x3 x4 x5 x6 x7 a sc) (c_v760 x2 x3 x4 x5 x6 x7 a sc) (c_v761 x2 x3 x4 x5 x6 x7 a sc) (c_v772 x2 x3 x4 x5 x6 x7 a sc) (c_v778 x2 x3 x4 x5 x6 x7 a sc)
def c_v783 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : FVec F S64x512 .f32 := k0_pay61 (c_v782 x2 x3 x4 x5 x6 x7 a sc)
def c_v784 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : FVec F S80x512 .f32 := k0_pay62 (F := F)
def c_v807 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : FVec F S80x512 .f32 := k0_pay63 (c_v782 x2 x3 x4 x5 x6 x7 a sc) (c_v785 x2 x3 x4 x5 x6 x7 a sc) (c_v806 x2 x3 x4 x5 x6 x7 a sc)
def c_v809 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S32x512 .i32 := View.ld x3 (Rect.unit (s := S1024x512) ![32, 0] S32x512.size inb_S1024x512_S32x512_32_0)
def c_v830 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S80x256 .bf16 := View.ld a (Rect.unit (s := S80x8192) ![0, 256] S80x256.size inb_S80x8192_S80x256_0_256)
def c_v833 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S32x512 .i32 := View.ld x3 (Rect.unit (s := S1024x512) ![64, 0] S32x512.size inb_S1024x512_S32x512_64_0)
def c_v854 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S80x256 .bf16 := View.ld a (Rect.unit (s := S80x8192) ![0, 512] S80x256.size inb_S80x8192_S80x256_0_512)
def c_v832 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : FVec F S80x512 .f32 := k0_pay64 (c_v783 x2 x3 x4 x5 x6 x7 a sc) (c_v784 x2 x3 x4 x5 x6 x7 a sc) (c_v807 x2 x3 x4 x5 x6 x7 a sc) (c_v809 x2 x3 x4 x5 x6 x7 a sc) (c_v830 x2 x3 x4 x5 x6 x7 a sc)
def c_v855 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : FVec F S80x512 .f32 := k0_pay65 (c_v783 x2 x3 x4 x5 x6 x7 a sc) (c_v833 x2 x3 x4 x5 x6 x7 a sc) (c_v854 x2 x3 x4 x5 x6 x7 a sc)
def c_v857 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S32x512 .i32 := View.ld x3 (Rect.unit (s := S1024x512) ![96, 0] S32x512.size inb_S1024x512_S32x512_96_0)
def c_v878 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S80x256 .bf16 := View.ld a (Rect.unit (s := S80x8192) ![0, 768] S80x256.size inb_S80x8192_S80x256_0_768)
def c_v881 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S32x512 .i32 := View.ld x3 (Rect.unit (s := S1024x512) ![128, 0] S32x512.size inb_S1024x512_S32x512_128_0)
def c_v902 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S80x256 .bf16 := View.ld a (Rect.unit (s := S80x8192) ![0, 1024] S80x256.size inb_S80x8192_S80x256_0_1024)
def c_v880 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : FVec F S80x512 .f32 := k0_pay66 (c_v783 x2 x3 x4 x5 x6 x7 a sc) (c_v832 x2 x3 x4 x5 x6 x7 a sc) (c_v855 x2 x3 x4 x5 x6 x7 a sc) (c_v857 x2 x3 x4 x5 x6 x7 a sc) (c_v878 x2 x3 x4 x5 x6 x7 a sc)
def c_v903 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : FVec F S80x512 .f32 := k0_pay67 (c_v783 x2 x3 x4 x5 x6 x7 a sc) (c_v881 x2 x3 x4 x5 x6 x7 a sc) (c_v902 x2 x3 x4 x5 x6 x7 a sc)
def c_v905 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S32x512 .i32 := View.ld x3 (Rect.unit (s := S1024x512) ![160, 0] S32x512.size inb_S1024x512_S32x512_160_0)
def c_v926 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S80x256 .bf16 := View.ld a (Rect.unit (s := S80x8192) ![0, 1280] S80x256.size inb_S80x8192_S80x256_0_1280)
def c_v929 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S32x512 .i32 := View.ld x3 (Rect.unit (s := S1024x512) ![192, 0] S32x512.size inb_S1024x512_S32x512_192_0)
def c_v950 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S80x256 .bf16 := View.ld a (Rect.unit (s := S80x8192) ![0, 1536] S80x256.size inb_S80x8192_S80x256_0_1536)
def c_v928 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : FVec F S80x512 .f32 := k0_pay68 (c_v783 x2 x3 x4 x5 x6 x7 a sc) (c_v880 x2 x3 x4 x5 x6 x7 a sc) (c_v903 x2 x3 x4 x5 x6 x7 a sc) (c_v905 x2 x3 x4 x5 x6 x7 a sc) (c_v926 x2 x3 x4 x5 x6 x7 a sc)
def c_v951 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : FVec F S80x512 .f32 := k0_pay69 (c_v783 x2 x3 x4 x5 x6 x7 a sc) (c_v929 x2 x3 x4 x5 x6 x7 a sc) (c_v950 x2 x3 x4 x5 x6 x7 a sc)
def c_v953 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S32x512 .i32 := View.ld x3 (Rect.unit (s := S1024x512) ![224, 0] S32x512.size inb_S1024x512_S32x512_224_0)
def c_v974 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S80x256 .bf16 := View.ld a (Rect.unit (s := S80x8192) ![0, 1792] S80x256.size inb_S80x8192_S80x256_0_1792)
def c_v977 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S32x512 .i32 := View.ld x3 (Rect.unit (s := S1024x512) ![256, 0] S32x512.size inb_S1024x512_S32x512_256_0)
def c_v998 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S80x256 .bf16 := View.ld a (Rect.unit (s := S80x8192) ![0, 2048] S80x256.size inb_S80x8192_S80x256_0_2048)
def c_v976 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : FVec F S80x512 .f32 := k0_pay70 (c_v783 x2 x3 x4 x5 x6 x7 a sc) (c_v928 x2 x3 x4 x5 x6 x7 a sc) (c_v951 x2 x3 x4 x5 x6 x7 a sc) (c_v953 x2 x3 x4 x5 x6 x7 a sc) (c_v974 x2 x3 x4 x5 x6 x7 a sc)
def c_v999 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : FVec F S80x512 .f32 := k0_pay71 (c_v783 x2 x3 x4 x5 x6 x7 a sc) (c_v977 x2 x3 x4 x5 x6 x7 a sc) (c_v998 x2 x3 x4 x5 x6 x7 a sc)
def c_v1001 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S32x512 .i32 := View.ld x3 (Rect.unit (s := S1024x512) ![288, 0] S32x512.size inb_S1024x512_S32x512_288_0)
def c_v1022 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S80x256 .bf16 := View.ld a (Rect.unit (s := S80x8192) ![0, 2304] S80x256.size inb_S80x8192_S80x256_0_2304)
def c_v1025 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S32x512 .i32 := View.ld x3 (Rect.unit (s := S1024x512) ![320, 0] S32x512.size inb_S1024x512_S32x512_320_0)
def c_v1046 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S80x256 .bf16 := View.ld a (Rect.unit (s := S80x8192) ![0, 2560] S80x256.size inb_S80x8192_S80x256_0_2560)
def c_v1024 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : FVec F S80x512 .f32 := k0_pay72 (c_v783 x2 x3 x4 x5 x6 x7 a sc) (c_v976 x2 x3 x4 x5 x6 x7 a sc) (c_v999 x2 x3 x4 x5 x6 x7 a sc) (c_v1001 x2 x3 x4 x5 x6 x7 a sc) (c_v1022 x2 x3 x4 x5 x6 x7 a sc)
def c_v1047 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : FVec F S80x512 .f32 := k0_pay73 (c_v783 x2 x3 x4 x5 x6 x7 a sc) (c_v1025 x2 x3 x4 x5 x6 x7 a sc) (c_v1046 x2 x3 x4 x5 x6 x7 a sc)
def c_v1049 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S32x512 .i32 := View.ld x3 (Rect.unit (s := S1024x512) ![352, 0] S32x512.size inb_S1024x512_S32x512_352_0)
def c_v1070 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S80x256 .bf16 := View.ld a (Rect.unit (s := S80x8192) ![0, 2816] S80x256.size inb_S80x8192_S80x256_0_2816)
def c_v1073 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S32x512 .i32 := View.ld x3 (Rect.unit (s := S1024x512) ![384, 0] S32x512.size inb_S1024x512_S32x512_384_0)
def c_v1094 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S80x256 .bf16 := View.ld a (Rect.unit (s := S80x8192) ![0, 3072] S80x256.size inb_S80x8192_S80x256_0_3072)
def c_v1072 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : FVec F S80x512 .f32 := k0_pay74 (c_v783 x2 x3 x4 x5 x6 x7 a sc) (c_v1024 x2 x3 x4 x5 x6 x7 a sc) (c_v1047 x2 x3 x4 x5 x6 x7 a sc) (c_v1049 x2 x3 x4 x5 x6 x7 a sc) (c_v1070 x2 x3 x4 x5 x6 x7 a sc)
def c_v1095 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : FVec F S80x512 .f32 := k0_pay75 (c_v783 x2 x3 x4 x5 x6 x7 a sc) (c_v1073 x2 x3 x4 x5 x6 x7 a sc) (c_v1094 x2 x3 x4 x5 x6 x7 a sc)
def c_v1097 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S32x512 .i32 := View.ld x3 (Rect.unit (s := S1024x512) ![416, 0] S32x512.size inb_S1024x512_S32x512_416_0)
def c_v1118 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S80x256 .bf16 := View.ld a (Rect.unit (s := S80x8192) ![0, 3328] S80x256.size inb_S80x8192_S80x256_0_3328)
def c_v1121 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S32x512 .i32 := View.ld x3 (Rect.unit (s := S1024x512) ![448, 0] S32x512.size inb_S1024x512_S32x512_448_0)
def c_v1142 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S80x256 .bf16 := View.ld a (Rect.unit (s := S80x8192) ![0, 3584] S80x256.size inb_S80x8192_S80x256_0_3584)
def c_v1120 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : FVec F S80x512 .f32 := k0_pay76 (c_v783 x2 x3 x4 x5 x6 x7 a sc) (c_v1072 x2 x3 x4 x5 x6 x7 a sc) (c_v1095 x2 x3 x4 x5 x6 x7 a sc) (c_v1097 x2 x3 x4 x5 x6 x7 a sc) (c_v1118 x2 x3 x4 x5 x6 x7 a sc)
def c_v1143 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : FVec F S80x512 .f32 := k0_pay77 (c_v783 x2 x3 x4 x5 x6 x7 a sc) (c_v1121 x2 x3 x4 x5 x6 x7 a sc) (c_v1142 x2 x3 x4 x5 x6 x7 a sc)
def c_v1145 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S32x512 .i32 := View.ld x3 (Rect.unit (s := S1024x512) ![480, 0] S32x512.size inb_S1024x512_S32x512_480_0)
def c_v1166 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S80x256 .bf16 := View.ld a (Rect.unit (s := S80x8192) ![0, 3840] S80x256.size inb_S80x8192_S80x256_0_3840)
def c_v1169 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S32x512 .i32 := View.ld x3 (Rect.unit (s := S1024x512) ![512, 0] S32x512.size inb_S1024x512_S32x512_512_0)
def c_v1190 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S80x256 .bf16 := View.ld a (Rect.unit (s := S80x8192) ![0, 4096] S80x256.size inb_S80x8192_S80x256_0_4096)
def c_v1168 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : FVec F S80x512 .f32 := k0_pay78 (c_v783 x2 x3 x4 x5 x6 x7 a sc) (c_v1120 x2 x3 x4 x5 x6 x7 a sc) (c_v1143 x2 x3 x4 x5 x6 x7 a sc) (c_v1145 x2 x3 x4 x5 x6 x7 a sc) (c_v1166 x2 x3 x4 x5 x6 x7 a sc)
def c_v1191 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : FVec F S80x512 .f32 := k0_pay79 (c_v783 x2 x3 x4 x5 x6 x7 a sc) (c_v1169 x2 x3 x4 x5 x6 x7 a sc) (c_v1190 x2 x3 x4 x5 x6 x7 a sc)
def c_v1193 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S32x512 .i32 := View.ld x3 (Rect.unit (s := S1024x512) ![544, 0] S32x512.size inb_S1024x512_S32x512_544_0)
def c_v1214 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S80x256 .bf16 := View.ld a (Rect.unit (s := S80x8192) ![0, 4352] S80x256.size inb_S80x8192_S80x256_0_4352)
def c_v1217 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S32x512 .i32 := View.ld x3 (Rect.unit (s := S1024x512) ![576, 0] S32x512.size inb_S1024x512_S32x512_576_0)
def c_v1238 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S80x256 .bf16 := View.ld a (Rect.unit (s := S80x8192) ![0, 4608] S80x256.size inb_S80x8192_S80x256_0_4608)
def c_v1216 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : FVec F S80x512 .f32 := k0_pay80 (c_v783 x2 x3 x4 x5 x6 x7 a sc) (c_v1168 x2 x3 x4 x5 x6 x7 a sc) (c_v1191 x2 x3 x4 x5 x6 x7 a sc) (c_v1193 x2 x3 x4 x5 x6 x7 a sc) (c_v1214 x2 x3 x4 x5 x6 x7 a sc)
def c_v1239 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : FVec F S80x512 .f32 := k0_pay81 (c_v783 x2 x3 x4 x5 x6 x7 a sc) (c_v1217 x2 x3 x4 x5 x6 x7 a sc) (c_v1238 x2 x3 x4 x5 x6 x7 a sc)
def c_v1241 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S32x512 .i32 := View.ld x3 (Rect.unit (s := S1024x512) ![608, 0] S32x512.size inb_S1024x512_S32x512_608_0)
def c_v1262 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S80x256 .bf16 := View.ld a (Rect.unit (s := S80x8192) ![0, 4864] S80x256.size inb_S80x8192_S80x256_0_4864)
def c_v1265 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S32x512 .i32 := View.ld x3 (Rect.unit (s := S1024x512) ![640, 0] S32x512.size inb_S1024x512_S32x512_640_0)
def c_v1286 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S80x256 .bf16 := View.ld a (Rect.unit (s := S80x8192) ![0, 5120] S80x256.size inb_S80x8192_S80x256_0_5120)
def c_v1264 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : FVec F S80x512 .f32 := k0_pay82 (c_v783 x2 x3 x4 x5 x6 x7 a sc) (c_v1216 x2 x3 x4 x5 x6 x7 a sc) (c_v1239 x2 x3 x4 x5 x6 x7 a sc) (c_v1241 x2 x3 x4 x5 x6 x7 a sc) (c_v1262 x2 x3 x4 x5 x6 x7 a sc)
def c_v1287 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : FVec F S80x512 .f32 := k0_pay83 (c_v783 x2 x3 x4 x5 x6 x7 a sc) (c_v1265 x2 x3 x4 x5 x6 x7 a sc) (c_v1286 x2 x3 x4 x5 x6 x7 a sc)
def c_v1289 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S32x512 .i32 := View.ld x3 (Rect.unit (s := S1024x512) ![672, 0] S32x512.size inb_S1024x512_S32x512_672_0)
def c_v1310 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S80x256 .bf16 := View.ld a (Rect.unit (s := S80x8192) ![0, 5376] S80x256.size inb_S80x8192_S80x256_0_5376)
def c_v1313 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S32x512 .i32 := View.ld x3 (Rect.unit (s := S1024x512) ![704, 0] S32x512.size inb_S1024x512_S32x512_704_0)
def c_v1334 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S80x256 .bf16 := View.ld a (Rect.unit (s := S80x8192) ![0, 5632] S80x256.size inb_S80x8192_S80x256_0_5632)
def c_v1312 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : FVec F S80x512 .f32 := k0_pay84 (c_v783 x2 x3 x4 x5 x6 x7 a sc) (c_v1264 x2 x3 x4 x5 x6 x7 a sc) (c_v1287 x2 x3 x4 x5 x6 x7 a sc) (c_v1289 x2 x3 x4 x5 x6 x7 a sc) (c_v1310 x2 x3 x4 x5 x6 x7 a sc)
def c_v1335 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : FVec F S80x512 .f32 := k0_pay85 (c_v783 x2 x3 x4 x5 x6 x7 a sc) (c_v1313 x2 x3 x4 x5 x6 x7 a sc) (c_v1334 x2 x3 x4 x5 x6 x7 a sc)
def c_v1337 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S32x512 .i32 := View.ld x3 (Rect.unit (s := S1024x512) ![736, 0] S32x512.size inb_S1024x512_S32x512_736_0)
def c_v1358 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S80x256 .bf16 := View.ld a (Rect.unit (s := S80x8192) ![0, 5888] S80x256.size inb_S80x8192_S80x256_0_5888)
def c_v1361 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S32x512 .i32 := View.ld x3 (Rect.unit (s := S1024x512) ![768, 0] S32x512.size inb_S1024x512_S32x512_768_0)
def c_v1382 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S80x256 .bf16 := View.ld a (Rect.unit (s := S80x8192) ![0, 6144] S80x256.size inb_S80x8192_S80x256_0_6144)
def c_v1360 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : FVec F S80x512 .f32 := k0_pay86 (c_v783 x2 x3 x4 x5 x6 x7 a sc) (c_v1312 x2 x3 x4 x5 x6 x7 a sc) (c_v1335 x2 x3 x4 x5 x6 x7 a sc) (c_v1337 x2 x3 x4 x5 x6 x7 a sc) (c_v1358 x2 x3 x4 x5 x6 x7 a sc)
def c_v1383 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : FVec F S80x512 .f32 := k0_pay87 (c_v783 x2 x3 x4 x5 x6 x7 a sc) (c_v1361 x2 x3 x4 x5 x6 x7 a sc) (c_v1382 x2 x3 x4 x5 x6 x7 a sc)
def c_v1385 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S32x512 .i32 := View.ld x3 (Rect.unit (s := S1024x512) ![800, 0] S32x512.size inb_S1024x512_S32x512_800_0)
def c_v1406 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S80x256 .bf16 := View.ld a (Rect.unit (s := S80x8192) ![0, 6400] S80x256.size inb_S80x8192_S80x256_0_6400)
def c_v1409 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S32x512 .i32 := View.ld x3 (Rect.unit (s := S1024x512) ![832, 0] S32x512.size inb_S1024x512_S32x512_832_0)
def c_v1430 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S80x256 .bf16 := View.ld a (Rect.unit (s := S80x8192) ![0, 6656] S80x256.size inb_S80x8192_S80x256_0_6656)
def c_v1408 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : FVec F S80x512 .f32 := k0_pay88 (c_v783 x2 x3 x4 x5 x6 x7 a sc) (c_v1360 x2 x3 x4 x5 x6 x7 a sc) (c_v1383 x2 x3 x4 x5 x6 x7 a sc) (c_v1385 x2 x3 x4 x5 x6 x7 a sc) (c_v1406 x2 x3 x4 x5 x6 x7 a sc)
def c_v1431 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : FVec F S80x512 .f32 := k0_pay89 (c_v783 x2 x3 x4 x5 x6 x7 a sc) (c_v1409 x2 x3 x4 x5 x6 x7 a sc) (c_v1430 x2 x3 x4 x5 x6 x7 a sc)
def c_v1433 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S32x512 .i32 := View.ld x3 (Rect.unit (s := S1024x512) ![864, 0] S32x512.size inb_S1024x512_S32x512_864_0)
def c_v1454 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S80x256 .bf16 := View.ld a (Rect.unit (s := S80x8192) ![0, 6912] S80x256.size inb_S80x8192_S80x256_0_6912)
def c_v1457 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S32x512 .i32 := View.ld x3 (Rect.unit (s := S1024x512) ![896, 0] S32x512.size inb_S1024x512_S32x512_896_0)
def c_v1478 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S80x256 .bf16 := View.ld a (Rect.unit (s := S80x8192) ![0, 7168] S80x256.size inb_S80x8192_S80x256_0_7168)
def c_v1456 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : FVec F S80x512 .f32 := k0_pay90 (c_v783 x2 x3 x4 x5 x6 x7 a sc) (c_v1408 x2 x3 x4 x5 x6 x7 a sc) (c_v1431 x2 x3 x4 x5 x6 x7 a sc) (c_v1433 x2 x3 x4 x5 x6 x7 a sc) (c_v1454 x2 x3 x4 x5 x6 x7 a sc)
def c_v1479 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : FVec F S80x512 .f32 := k0_pay91 (c_v783 x2 x3 x4 x5 x6 x7 a sc) (c_v1457 x2 x3 x4 x5 x6 x7 a sc) (c_v1478 x2 x3 x4 x5 x6 x7 a sc)
def c_v1481 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S32x512 .i32 := View.ld x3 (Rect.unit (s := S1024x512) ![928, 0] S32x512.size inb_S1024x512_S32x512_928_0)
def c_v1502 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S80x256 .bf16 := View.ld a (Rect.unit (s := S80x8192) ![0, 7424] S80x256.size inb_S80x8192_S80x256_0_7424)
def c_v1505 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S32x512 .i32 := View.ld x3 (Rect.unit (s := S1024x512) ![960, 0] S32x512.size inb_S1024x512_S32x512_960_0)
def c_v1526 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S80x256 .bf16 := View.ld a (Rect.unit (s := S80x8192) ![0, 7680] S80x256.size inb_S80x8192_S80x256_0_7680)
def c_v1504 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : FVec F S80x512 .f32 := k0_pay92 (c_v783 x2 x3 x4 x5 x6 x7 a sc) (c_v1456 x2 x3 x4 x5 x6 x7 a sc) (c_v1479 x2 x3 x4 x5 x6 x7 a sc) (c_v1481 x2 x3 x4 x5 x6 x7 a sc) (c_v1502 x2 x3 x4 x5 x6 x7 a sc)
def c_v1527 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : FVec F S80x512 .f32 := k0_pay93 (c_v783 x2 x3 x4 x5 x6 x7 a sc) (c_v1505 x2 x3 x4 x5 x6 x7 a sc) (c_v1526 x2 x3 x4 x5 x6 x7 a sc)
def c_v1529 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S32x512 .i32 := View.ld x3 (Rect.unit (s := S1024x512) ![992, 0] S32x512.size inb_S1024x512_S32x512_992_0)
def c_v1550 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S80x256 .bf16 := View.ld a (Rect.unit (s := S80x8192) ![0, 7936] S80x256.size inb_S80x8192_S80x256_0_7936)
def c_v1528 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : FVec F S80x512 .f32 := k0_pay94 (c_v1504 x2 x3 x4 x5 x6 x7 a sc) (c_v1527 x2 x3 x4 x5 x6 x7 a sc)
def c_v1549 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : FVec F S256x512 .bf16 := k0_pay95 (c_v783 x2 x3 x4 x5 x6 x7 a sc) (c_v1529 x2 x3 x4 x5 x6 x7 a sc)
def c_v1556 (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S1x512 .f32 := View.ld x7 (Rect.unit (s := S1x512) ![0, 0] S1x512.size inb_S1x512_S1x512_0_0)
/-- The block of the result the body stores, from the blocks it reads and the two scratch buffers. -/
def yB (x2 : Vec F S1024x512 .i32) (x3 : Vec F S1024x512 .i32) (x4 : Vec F S64x512 .fp8e4m3) (x5 : Vec F S64x512 .fp8e4m3) (x6 : Vec F S1x512 .f32) (x7 : Vec F S1x512 .f32) (a : Vec F S80x8192 .bf16) (sc : Vec F S72x128 .f32) : Vec F S72x512 .f32 := k0_pay1 (c_v3 x2 x3 x4 x5 x6 x7 a sc) (c_v781 x2 x3 x4 x5 x6 x7 a sc) (c_v1528 x2 x3 x4 x5 x6 x7 a sc) (c_v1549 x2 x3 x4 x5 x6 x7 a sc) (c_v1550 x2 x3 x4 x5 x6 x7 a sc) (c_v1556 x2 x3 x4 x5 x6 x7 a sc)
/-- The one store of the result block covers it. -/
theorem cover_y (p : Vec F S72x512 .f32) (y : S72x512.Idx) :
    ∃ pc ∈ ([⟨Rect.unit (s := S72x512) ![0, 0] S72x512.size inb_S72x512_S72x512_0_0, p⟩] : List (View.Piece (Elt F) S72x512 .f32)), y ∈ pc.1.set :=
  View.cover_of_tiled [⟨Rect.unit (s := S72x512) ![0, 0] S72x512.size inb_S72x512_S72x512_0_0, p⟩] S72x512.size (by rfl) y
def b_v1564 (x0 : Vec F S72x8192 .f32) (x1 : Vec F S1x8192 .f32) : Vec F S72x8192 .f32 := View.ld x0 (Rect.unit (s := S72x8192) ![0, 0] S72x8192.size inb_S72x8192_S72x8192_0_0)
def b_v1565 (x0 : Vec F S72x8192 .f32) (x1 : Vec F S1x8192 .f32) : Vec F S1x8192 .f32 := View.ld x1 (Rect.unit (s := S1x8192) ![0, 0] S1x8192.size inb_S1x8192_S1x8192_0_0)
def b_v1587 (x0 : Vec F S72x8192 .f32) (x1 : Vec F S1x8192 .f32) : FVec F S72x1 .f32 := k0_pay3 (b_v1564 x0 x1) (b_v1565 x0 x1)
def b_v1600 (x0 : Vec F S72x8192 .f32) (x1 : Vec F S1x8192 .f32) : FVec F S8x8192 .bf16 := k0_pay6 (F := F)
/-- What the first point leaves in `arg10`. -/
def q_c2 (x0 : Vec F S72x8192 .f32) (x1 : Vec F S1x8192 .f32) : Vec F S72x8192 .fp8e4m3 := View.canon [⟨Rect.unit (s := S72x8192) ![0, 0] S72x8192.size inb_S72x8192_S72x8192_0_0, k0_pay4 (b_v1564 x0 x1) (b_v1565 x0 x1)⟩]
/-- The stores of the first point into `arg10` cover it. -/
theorem cover_c2 (p0 : Vec F S72x8192 .fp8e4m3) (y : S72x8192.Idx) :
    ∃ pc ∈ ([⟨Rect.unit (s := S72x8192) ![0, 0] S72x8192.size inb_S72x8192_S72x8192_0_0, p0⟩] : List (View.Piece (Elt F) S72x8192 .fp8e4m3)), y ∈ pc.1.set :=
  View.cover_of_tiled [⟨Rect.unit (s := S72x8192) ![0, 0] S72x8192.size inb_S72x8192_S72x8192_0_0, p0⟩] S72x8192.size (by rfl) y
/-- What the first point leaves in `arg11`. -/
def q_s2 (x0 : Vec F S72x8192 .f32) (x1 : Vec F S1x8192 .f32) : Vec F S1x72 .f32 := View.canon [⟨Rect.unit (s := S1x72) ![0, 0] S1x72.size inb_S1x72_S1x72_0_0, k0_pay10 (b_v1587 x0 x1)⟩]
/-- The stores of the first point into `arg11` cover it. -/
theorem cover_s2 (p0 : Vec F S1x72 .f32) (y : S1x72.Idx) :
    ∃ pc ∈ ([⟨Rect.unit (s := S1x72) ![0, 0] S1x72.size inb_S1x72_S1x72_0_0, p0⟩] : List (View.Piece (Elt F) S1x72 .f32)), y ∈ pc.1.set :=
  View.cover_of_tiled [⟨Rect.unit (s := S1x72) ![0, 0] S1x72.size inb_S1x72_S1x72_0_0, p0⟩] S1x72.size (by rfl) y
/-- What the first point leaves in `arg12`. -/
def q_a (x0 : Vec F S72x8192 .f32) (x1 : Vec F S1x8192 .f32) : Vec F S80x8192 .bf16 := View.canon [⟨Rect.unit (s := S80x8192) ![72, 0] S8x8192.size inb_S80x8192_S8x8192_72_0, k0_pay7 (b_v1600 x0 x1)⟩, ⟨Rect.unit (s := S80x8192) ![0, 0] S72x8192.size inb_S80x8192_S72x8192_0_0, k0_pay5 (b_v1564 x0 x1) (b_v1565 x0 x1)⟩]
/-- The stores of the first point into `arg12` cover it. -/
theorem cover_a (p0 : Vec F S8x8192 .bf16) (p1 : Vec F S72x8192 .bf16) (y : S80x8192.Idx) :
    ∃ pc ∈ ([⟨Rect.unit (s := S80x8192) ![72, 0] S8x8192.size inb_S80x8192_S8x8192_72_0, p0⟩, ⟨Rect.unit (s := S80x8192) ![0, 0] S72x8192.size inb_S80x8192_S72x8192_0_0, p1⟩] : List (View.Piece (Elt F) S80x8192 .bf16)), y ∈ pc.1.set :=
  by
  by_cases h : (y 0).val < 72
  · refine ⟨_, List.mem_cons_of_mem _ (List.mem_singleton_self _), ?_⟩
    refine (Rect.mem_set_unit (inb := inb_S80x8192_S72x8192_0_0)).mpr fun a => ?_
    match a with
    | ⟨0, _⟩ => exact ⟨Nat.zero_le _, by show (y 0).val < 0 + 72; omega⟩
    | ⟨1, _⟩ => exact ⟨Nat.zero_le _, Nat.lt_of_lt_of_eq (y 1).isLt (Nat.zero_add _).symm⟩
  · refine ⟨_, List.mem_cons_self .., ?_⟩
    refine (Rect.mem_set_unit (inb := inb_S80x8192_S8x8192_72_0)).mpr fun a => ?_
    match a with
    | ⟨0, _⟩ => exact ⟨by show 72 ≤ (y 0).val; omega, by have : (y 0).val < 80 := (y 0).isLt; show (y 0).val < 72 + 8; omega⟩
    | ⟨1, _⟩ => exact ⟨Nat.zero_le _, Nat.lt_of_lt_of_eq (y 1).isLt (Nat.zero_add _).symm⟩
/-- What the first point leaves in `arg13`. -/
def q_sc (x0 : Vec F S72x8192 .f32) (x1 : Vec F S1x8192 .f32) : Vec F S72x128 .f32 := View.canon [⟨Rect.unit (s := S72x128) ![0, 0] S72x128.size inb_S72x128_S72x128_0_0, k0_pay9 (b_v1587 x0 x1)⟩]
/-- The stores of the first point into `arg13` cover it. -/
theorem cover_sc (p0 : Vec F S72x128 .f32) (y : S72x128.Idx) :
    ∃ pc ∈ ([⟨Rect.unit (s := S72x128) ![0, 0] S72x128.size inb_S72x128_S72x128_0_0, p0⟩] : List (View.Piece (Elt F) S72x128 .f32)), y ∈ pc.1.set :=
  View.cover_of_tiled [⟨Rect.unit (s := S72x128) ![0, 0] S72x128.size inb_S72x128_S72x128_0_0, p0⟩] S72x128.size (by rfl) y

end Cert.GuIdeal.Run

end
-- ==== Proof.Gu.RunB.lean ====
/- The Gu kernel's body at a later point. -/
module

public import proofs.«01_k».proof.Proof.Gu.Chain

@[expose] public section

set_option maxRecDepth 16384

noncomputable section

namespace Cert.GuIdeal.Run
open Cert.GuIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a later point: the scratch, the codes and the scales are kept, and the block of the result is
    computed from the scratch. -/
theorem kernelRun0_B (c : Dev nD) (i : grid0.Coords) (arg1 : Memref sig .tc .vmem S72x8192 .f32) (harg1 : arg1.IsWhole) (arg2 : Memref sig .tc .vmem S1x8192 .f32) (harg2 : arg2.IsWhole) (arg3 : Memref sig .tc .vmem S1024x512 .i32) (harg3 : arg3.IsWhole) (arg4 : Memref sig .tc .vmem S1024x512 .i32) (harg4 : arg4.IsWhole) (arg5 : Memref sig .tc .vmem S64x512 .fp8e4m3) (harg5 : arg5.IsWhole) (arg6 : Memref sig .tc .vmem S64x512 .fp8e4m3) (harg6 : arg6.IsWhole) (arg7 : Memref sig .tc .vmem S1x512 .f32) (harg7 : arg7.IsWhole) (arg8 : Memref sig .tc .vmem S1x512 .f32) (harg8 : arg8.IsWhole) (arg9 : Memref sig .tc .vmem S72x512 .f32) (harg9 : arg9.IsWhole) (arg10 : Memref sig .tc .vmem S72x8192 .fp8e4m3) (harg10 : arg10.IsWhole) (arg11 : Memref sig .tc .vmem S1x72 .f32) (harg11 : arg11.IsWhole) (arg12 : Memref sig .tc .vmem S80x8192 .bf16) (harg12 : arg12.IsWhole) (arg13 : Memref sig .tc .vmem S72x128 .f32) (harg13 : arg13.IsWhole) (hc0 : ¬cond0_0 i)
    (x0 : Vec F S72x8192 .f32) (x1 : Vec F S1x8192 .f32) (x2 : Vec F S1024x512 .i32) (x3 : Vec F S1024x512 .i32) (x4 : Vec F S64x512 .fp8e4m3) (x5 : Vec F S64x512 .fp8e4m3) (x6 : Vec F S1x512 .f32) (x7 : Vec F S1x512 .f32) (c2 : Vec F S72x8192 .fp8e4m3) (s2 : Vec F S1x72 .f32) (a : Vec F S80x8192 .bf16) (sc : Vec F S72x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare c2 ∗ owns (c : Thread nD τ) arg11 fullShare s2 ∗ owns (c : Thread nD τ) arg12 fullShare a ∗ owns (c : Thread nD τ) arg13 fullShare sc
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (yB x2 x3 x4 x5 x6 x7 a sc) ∗ owns (c : Thread nD τ) arg10 fullShare c2 ∗ owns (c : Thread nD τ) arg11 fullShare s2 ∗ owns (c : Thread nD τ) arg12 fullShare a ∗ owns (c : Thread nD τ) arg13 fullShare sc) -∗ K ⟨⟩))
          ⊢ wp frame (wpE (defs₀ (F := F)) Variants.none c none) E (cc0_gu i arg1 harg1 arg2 harg2 arg3 harg3 arg4 harg4 arg5 harg5 arg6 harg6 arg7 harg7 arg8 harg8 arg9 harg9 arg10 harg10 arg11 harg11 arg12 harg12 arg13 harg13) K := by
    intro E K
    simp only [cc0_gu_eq_skeleton]; unfold cc0_gu_skel
    simp only [k0_part34_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%fs0, %hfs0, HS0⟩, ⟨%fs1, %hfs1, HS1⟩, Hk⟩
    subst hf0 hf1 hf2 hf3 hf4 hf5 hf6 hf7 hf9 hf10 hfs0 hfs1
    sl_exec (disch := first | sl_exact hc0)
    sl_step
    iapply Hk
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; exact (View.read_writes_eq_canon _ _ _ (cover_y _)).trans (View.canon_unit_zero off0 _ _)
    isplitl [H9]
    · iexists _; isplitr; swap; · iexact H9
      ipureintro; rfl
    isplitl [H10]
    · iexists _; isplitr; swap; · iexact H10
      ipureintro; rfl
    isplitl [HS0]
    · iexists _; isplitr; swap; · iexact HS0
      ipureintro; rfl
    iexists _; isplitr; swap; · iexact HS1
    ipureintro; rfl

end Cert.GuIdeal.Run

end
-- ==== Proof.Gu.RunA.lean ====
/- The Gu kernel's body at the first point. -/
module

public import proofs.«01_k».proof.Proof.Gu.RunB

@[expose] public section

set_option maxRecDepth 16384

noncomputable section

namespace Cert.GuIdeal.Run
open Cert.GuIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the first point: it stores the codes and the scales, fills the scratch, and computes the block of
    the result from it. -/
theorem kernelRun0_A (c : Dev nD) (i : grid0.Coords) (arg1 : Memref sig .tc .vmem S72x8192 .f32) (harg1 : arg1.IsWhole) (arg2 : Memref sig .tc .vmem S1x8192 .f32) (harg2 : arg2.IsWhole) (arg3 : Memref sig .tc .vmem S1024x512 .i32) (harg3 : arg3.IsWhole) (arg4 : Memref sig .tc .vmem S1024x512 .i32) (harg4 : arg4.IsWhole) (arg5 : Memref sig .tc .vmem S64x512 .fp8e4m3) (harg5 : arg5.IsWhole) (arg6 : Memref sig .tc .vmem S64x512 .fp8e4m3) (harg6 : arg6.IsWhole) (arg7 : Memref sig .tc .vmem S1x512 .f32) (harg7 : arg7.IsWhole) (arg8 : Memref sig .tc .vmem S1x512 .f32) (harg8 : arg8.IsWhole) (arg9 : Memref sig .tc .vmem S72x512 .f32) (harg9 : arg9.IsWhole) (arg10 : Memref sig .tc .vmem S72x8192 .fp8e4m3) (harg10 : arg10.IsWhole) (arg11 : Memref sig .tc .vmem S1x72 .f32) (harg11 : arg11.IsWhole) (arg12 : Memref sig .tc .vmem S80x8192 .bf16) (harg12 : arg12.IsWhole) (arg13 : Memref sig .tc .vmem S72x128 .f32) (harg13 : arg13.IsWhole) (hc0 : cond0_0 i)
    (x0 : Vec F S72x8192 .f32) (x1 : Vec F S1x8192 .f32) (x2 : Vec F S1024x512 .i32) (x3 : Vec F S1024x512 .i32) (x4 : Vec F S64x512 .fp8e4m3) (x5 : Vec F S64x512 .fp8e4m3) (x6 : Vec F S1x512 .f32) (x7 : Vec F S1x512 .f32)  :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (yB x2 x3 x4 x5 x6 x7 (q_a x0 x1) (q_sc x0 x1)) ∗ owns (c : Thread nD τ) arg10 fullShare (q_c2 x0 x1) ∗ owns (c : Thread nD τ) arg11 fullShare (q_s2 x0 x1) ∗ owns (c : Thread nD τ) arg12 fullShare (q_a x0 x1) ∗ owns (c : Thread nD τ) arg13 fullShare (q_sc x0 x1)) -∗ K ⟨⟩))
          ⊢ wp frame (wpE (defs₀ (F := F)) Variants.none c none) E (cc0_gu i arg1 harg1 arg2 harg2 arg3 harg3 arg4 harg4 arg5 harg5 arg6 harg6 arg7 harg7 arg8 harg8 arg9 harg9 arg10 harg10 arg11 harg11 arg12 harg12 arg13 harg13) K := by
    intro E K
    simp only [cc0_gu_eq_skeleton]; unfold cc0_gu_skel
    simp only [k0_part34_eq_skeleton, k0_part2_eq_skeleton, k0_part1_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%ds0, %fs0, -, HS0⟩, ⟨%ds1, %fs1, -, HS1⟩, Hk⟩
    subst hf0 hf1 hf2 hf3 hf4 hf5 hf6 hf7
    sl_exec (disch := first | sl_exact hc0)
    sl_step
    iapply Hk
    have h_v100 : kernelRun0_A.sl.v100 c arg1 arg2 arg12 f0 f1 = c_v100 (View.read (Elt F) arg3.view f2) (View.read (Elt F) arg4.view f3) (View.read (Elt F) arg5.view f4) (View.read (Elt F) arg6.view f5) (View.read (Elt F) arg7.view f6) (View.read (Elt F) arg8.view f7) (q_a (View.read (Elt F) arg1.view f0) (View.read (Elt F) arg2.view f1)) (q_sc (View.read (Elt F) arg1.view f0) (View.read (Elt F) arg2.view f1)) := by
      delta kernelRun0_A.sl.v100 kernelRun0_A.sl.HS0_2 kernelRun0_A.sl.HS1_1 kernelRun0_A.sl.v124 kernelRun0_A.sl.v148 kernelRun0_A.sl.v1601 kernelRun0_A.sl.v172 kernelRun0_A.sl.v196 kernelRun0_A.sl.v220 kernelRun0_A.sl.v244 kernelRun0_A.sl.v268 kernelRun0_A.sl.v28 kernelRun0_A.sl.v292 kernelRun0_A.sl.v3 kernelRun0_A.sl.v316 kernelRun0_A.sl.v340 kernelRun0_A.sl.v364 kernelRun0_A.sl.v388 kernelRun0_A.sl.v412 kernelRun0_A.sl.v436 kernelRun0_A.sl.v460 kernelRun0_A.sl.v484 kernelRun0_A.sl.v508 kernelRun0_A.sl.v52 kernelRun0_A.sl.v532 kernelRun0_A.sl.v556 kernelRun0_A.sl.v580 kernelRun0_A.sl.v604 kernelRun0_A.sl.v628 kernelRun0_A.sl.v652 kernelRun0_A.sl.v676 kernelRun0_A.sl.v700 kernelRun0_A.sl.v724 kernelRun0_A.sl.v748 kernelRun0_A.sl.v76 kernelRun0_A.sl.v772; rw [View.readCov_eq_canon']; delta c_v100 View.ld q_a; rfl
    have h_v124 : kernelRun0_A.sl.v124 c arg1 arg2 arg12 f0 f1 = c_v124 (View.read (Elt F) arg3.view f2) (View.read (Elt F) arg4.view f3) (View.read (Elt F) arg5.view f4) (View.read (Elt F) arg6.view f5) (View.read (Elt F) arg7.view f6) (View.read (Elt F) arg8.view f7) (q_a (View.read (Elt F) arg1.view f0) (View.read (Elt F) arg2.view f1)) (q_sc (View.read (Elt F) arg1.view f0) (View.read (Elt F) arg2.view f1)) := by
      delta kernelRun0_A.sl.v124 kernelRun0_A.sl.HS0_2 kernelRun0_A.sl.HS1_1 kernelRun0_A.sl.v148 kernelRun0_A.sl.v1601 kernelRun0_A.sl.v172 kernelRun0_A.sl.v196 kernelRun0_A.sl.v220 kernelRun0_A.sl.v244 kernelRun0_A.sl.v268 kernelRun0_A.sl.v28 kernelRun0_A.sl.v292 kernelRun0_A.sl.v3 kernelRun0_A.sl.v316 kernelRun0_A.sl.v340 kernelRun0_A.sl.v364 kernelRun0_A.sl.v388 kernelRun0_A.sl.v412 kernelRun0_A.sl.v436 kernelRun0_A.sl.v460 kernelRun0_A.sl.v484 kernelRun0_A.sl.v508 kernelRun0_A.sl.v52 kernelRun0_A.sl.v532 kernelRun0_A.sl.v556 kernelRun0_A.sl.v580 kernelRun0_A.sl.v604 kernelRun0_A.sl.v628 kernelRun0_A.sl.v652 kernelRun0_A.sl.v676 kernelRun0_A.sl.v700 kernelRun0_A.sl.v724 kernelRun0_A.sl.v748 kernelRun0_A.sl.v76 kernelRun0_A.sl.v772; rw [View.readCov_eq_canon']; delta c_v124 View.ld q_a; rfl
    have h_v148 : kernelRun0_A.sl.v148 c arg1 arg2 arg12 f0 f1 = c_v148 (View.read (Elt F) arg3.view f2) (View.read (Elt F) arg4.view f3) (View.read (Elt F) arg5.view f4) (View.read (Elt F) arg6.view f5) (View.read (Elt F) arg7.view f6) (View.read (Elt F) arg8.view f7) (q_a (View.read (Elt F) arg1.view f0) (View.read (Elt F) arg2.view f1)) (q_sc (View.read (Elt F) arg1.view f0) (View.read (Elt F) arg2.view f1)) := by
      delta kernelRun0_A.sl.v148 kernelRun0_A.sl.HS0_2 kernelRun0_A.sl.HS1_1 kernelRun0_A.sl.v1601 kernelRun0_A.sl.v172 kernelRun0_A.sl.v196 kernelRun0_A.sl.v220 kernelRun0_A.sl.v244 kernelRun0_A.sl.v268 kernelRun0_A.sl.v28 kernelRun0_A.sl.v292 kernelRun0_A.sl.v3 kernelRun0_A.sl.v316 kernelRun0_A.sl.v340 kernelRun0_A.sl.v364 kernelRun0_A.sl.v388 kernelRun0_A.sl.v412 kernelRun0_A.sl.v436 kernelRun0_A.sl.v460 kernelRun0_A.sl.v484 kernelRun0_A.sl.v508 kernelRun0_A.sl.v52 kernelRun0_A.sl.v532 kernelRun0_A.sl.v556 kernelRun0_A.sl.v580 kernelRun0_A.sl.v604 kernelRun0_A.sl.v628 kernelRun0_A.sl.v652 kernelRun0_A.sl.v676 kernelRun0_A.sl.v700 kernelRun0_A.sl.v724 kernelRun0_A.sl.v748 kernelRun0_A.sl.v76 kernelRun0_A.sl.v772; rw [View.readCov_eq_canon']; delta c_v148 View.ld q_a; rfl
    have h_v172 : kernelRun0_A.sl.v172 c arg1 arg2 arg12 f0 f1 = c_v172 (View.read (Elt F) arg3.view f2) (View.read (Elt F) arg4.view f3) (View.read (Elt F) arg5.view f4) (View.read (Elt F) arg6.view f5) (View.read (Elt F) arg7.view f6) (View.read (Elt F) arg8.view f7) (q_a (View.read (Elt F) arg1.view f0) (View.read (Elt F) arg2.view f1)) (q_sc (View.read (Elt F) arg1.view f0) (View.read (Elt F) arg2.view f1)) := by
      delta kernelRun0_A.sl.v172 kernelRun0_A.sl.HS0_2 kernelRun0_A.sl.HS1_1 kernelRun0_A.sl.v1601 kernelRun0_A.sl.v196 kernelRun0_A.sl.v220 kernelRun0_A.sl.v244 kernelRun0_A.sl.v268 kernelRun0_A.sl.v28 kernelRun0_A.sl.v292 kernelRun0_A.sl.v3 kernelRun0_A.sl.v316 kernelRun0_A.sl.v340 kernelRun0_A.sl.v364 kernelRun0_A.sl.v388 kernelRun0_A.sl.v412 kernelRun0_A.sl.v436 kernelRun0_A.sl.v460 kernelRun0_A.sl.v484 kernelRun0_A.sl.v508 kernelRun0_A.sl.v52 kernelRun0_A.sl.v532 kernelRun0_A.sl.v556 kernelRun0_A.sl.v580 kernelRun0_A.sl.v604 kernelRun0_A.sl.v628 kernelRun0_A.sl.v652 kernelRun0_A.sl.v676 kernelRun0_A.sl.v700 kernelRun0_A.sl.v724 kernelRun0_A.sl.v748 kernelRun0_A.sl.v76 kernelRun0_A.sl.v772; rw [View.readCov_eq_canon']; delta c_v172 View.ld q_a; rfl
    have h_v196 : kernelRun0_A.sl.v196 c arg1 arg2 arg12 f0 f1 = c_v196 (View.read (Elt F) arg3.view f2) (View.read (Elt F) arg4.view f3) (View.read (Elt F) arg5.view f4) (View.read (Elt F) arg6.view f5) (View.read (Elt F) arg7.view f6) (View.read (Elt F) arg8.view f7) (q_a (View.read (Elt F) arg1.view f0) (View.read (Elt F) arg2.view f1)) (q_sc (View.read (Elt F) arg1.view f0) (View.read (Elt F) arg2.view f1)) := by
      delta kernelRun0_A.sl.v196 kernelRun0_A.sl.HS0_2 kernelRun0_A.sl.HS1_1 kernelRun0_A.sl.v1601 kernelRun0_A.sl.v220 kernelRun0_A.sl.v244 kernelRun0_A.sl.v268 kernelRun0_A.sl.v28 kernelRun0_A.sl.v292 kernelRun0_A.sl.v3 kernelRun0_A.sl.v316 kernelRun0_A.sl.v340 kernelRun0_A.sl.v364 kernelRun0_A.sl.v388 kernelRun0_A.sl.v412 kernelRun0_A.sl.v436 kernelRun0_A.sl.v460 kernelRun0_A.sl.v484 kernelRun0_A.sl.v508 kernelRun0_A.sl.v52 kernelRun0_A.sl.v532 kernelRun0_A.sl.v556 kernelRun0_A.sl.v580 kernelRun0_A.sl.v604 kernelRun0_A.sl.v628 kernelRun0_A.sl.v652 kernelRun0_A.sl.v676 kernelRun0_A.sl.v700 kernelRun0_A.sl.v724 kernelRun0_A.sl.v748 kernelRun0_A.sl.v76 kernelRun0_A.sl.v772; rw [View.readCov_eq_canon']; delta c_v196 View.ld q_a; rfl
    have h_v220 : kernelRun0_A.sl.v220 c arg1 arg2 arg12 f0 f1 = c_v220 (View.read (Elt F) arg3.view f2) (View.read (Elt F) arg4.view f3) (View.read (Elt F) arg5.view f4) (View.read (Elt F) arg6.view f5) (View.read (Elt F) arg7.view f6) (View.read (Elt F) arg8.view f7) (q_a (View.read (Elt F) arg1.view f0) (View.read (Elt F) arg2.view f1)) (q_sc (View.read (Elt F) arg1.view f0) (View.read (Elt F) arg2.view f1)) := by
      delta kernelRun0_A.sl.v220 kernelRun0_A.sl.HS0_2 kernelRun0_A.sl.HS1_1 kernelRun0_A.sl.v1601 kernelRun0_A.sl.v244 kernelRun0_A.sl.v268 kernelRun0_A.sl.v28 kernelRun0_A.sl.v292 kernelRun0_A.sl.v3 kernelRun0_A.sl.v316 kernelRun0_A.sl.v340 kernelRun0_A.sl.v364 kernelRun0_A.sl.v388 kernelRun0_A.sl.v412 kernelRun0_A.sl.v436 kernelRun0_A.sl.v460 kernelRun0_A.sl.v484 kernelRun0_A.sl.v508 kernelRun0_A.sl.v52 kernelRun0_A.sl.v532 kernelRun0_A.sl.v556 kernelRun0_A.sl.v580 kernelRun0_A.sl.v604 kernelRun0_A.sl.v628 kernelRun0_A.sl.v652 kernelRun0_A.sl.v676 kernelRun0_A.sl.v700 kernelRun0_A.sl.v724 kernelRun0_A.sl.v748 kernelRun0_A.sl.v76 kernelRun0_A.sl.v772; rw [View.readCov_eq_canon']; delta c_v220 View.ld q_a; rfl
    have h_v244 : kernelRun0_A.sl.v244 c arg1 arg2 arg12 f0 f1 = c_v244 (View.read (Elt F) arg3.view f2) (View.read (Elt F) arg4.view f3) (View.read (Elt F) arg5.view f4) (View.read (Elt F) arg6.view f5) (View.read (Elt F) arg7.view f6) (View.read (Elt F) arg8.view f7) (q_a (View.read (Elt F) arg1.view f0) (View.read (Elt F) arg2.view f1)) (q_sc (View.read (Elt F) arg1.view f0) (View.read (Elt F) arg2.view f1)) := by
      delta kernelRun0_A.sl.v244 kernelRun0_A.sl.HS0_2 kernelRun0_A.sl.HS1_1 kernelRun0_A.sl.v1601 kernelRun0_A.sl.v268 kernelRun0_A.sl.v28 kernelRun0_A.sl.v292 kernelRun0_A.sl.v3 kernelRun0_A.sl.v316 kernelRun0_A.sl.v340 kernelRun0_A.sl.v364 kernelRun0_A.sl.v388 kernelRun0_A.sl.v412 kernelRun0_A.sl.v436 kernelRun0_A.sl.v460 kernelRun0_A.sl.v484 kernelRun0_A.sl.v508 kernelRun0_A.sl.v52 kernelRun0_A.sl.v532 kernelRun0_A.sl.v556 kernelRun0_A.sl.v580 kernelRun0_A.sl.v604 kernelRun0_A.sl.v628 kernelRun0_A.sl.v652 kernelRun0_A.sl.v676 kernelRun0_A.sl.v700 kernelRun0_A.sl.v724 kernelRun0_A.sl.v748 kernelRun0_A.sl.v76 kernelRun0_A.sl.v772; rw [View.readCov_eq_canon']; delta c_v244 View.ld q_a; rfl
    have h_v268 : kernelRun0_A.sl.v268 c arg1 arg2 arg12 f0 f1 = c_v268 (View.read (Elt F) arg3.view f2) (View.read (Elt F) arg4.view f3) (View.read (Elt F) arg5.view f4) (View.read (Elt F) arg6.view f5) (View.read (Elt F) arg7.view f6) (View.read (Elt F) arg8.view f7) (q_a (View.read (Elt F) arg1.view f0) (View.read (Elt F) arg2.view f1)) (q_sc (View.read (Elt F) arg1.view f0) (View.read (Elt F) arg2.view f1)) := by
      delta kernelRun0_A.sl.v268 kernelRun0_A.sl.HS0_2 kernelRun0_A.sl.HS1_1 kernelRun0_A.sl.v1601 kernelRun0_A.sl.v28 kernelRun0_A.sl.v292 kernelRun0_A.sl.v3 kernelRun0_A.sl.v316 kernelRun0_A.sl.v340 kernelRun0_A.sl.v364 kernelRun0_A.sl.v388 kernelRun0_A.sl.v412 kernelRun0_A.sl.v436 kernelRun0_A.sl.v460 kernelRun0_A.sl.v484 kernelRun0_A.sl.v508 kernelRun0_A.sl.v52 kernelRun0_A.sl.v532 kernelRun0_A.sl.v556 kernelRun0_A.sl.v580 kernelRun0_A.sl.v604 kernelRun0_A.sl.v628 kernelRun0_A.sl.v652 kernelRun0_A.sl.v676 kernelRun0_A.sl.v700 kernelRun0_A.sl.v724 kernelRun0_A.sl.v748 kernelRun0_A.sl.v76 kernelRun0_A.sl.v772; rw [View.readCov_eq_canon']; delta c_v268 View.ld q_a; rfl
    have h_v28 : kernelRun0_A.sl.v28 c arg1 arg2 arg12 f0 f1 = c_v28 (View.read (Elt F) arg3.view f2) (View.read (Elt F) arg4.view f3) (View.read (Elt F) arg5.view f4) (View.read (Elt F) arg6.view f5) (View.read (Elt F) arg7.view f6) (View.read (Elt F) arg8.view f7) (q_a (View.read (Elt F) arg1.view f0) (View.read (Elt F) arg2.view f1)) (q_sc (View.read (Elt F) arg1.view f0) (View.read (Elt F) arg2.view f1)) := by
      delta kernelRun0_A.sl.v28 kernelRun0_A.sl.HS0_2 kernelRun0_A.sl.HS1_1 kernelRun0_A.sl.v1601 kernelRun0_A.sl.v292 kernelRun0_A.sl.v3 kernelRun0_A.sl.v316 kernelRun0_A.sl.v340 kernelRun0_A.sl.v364 kernelRun0_A.sl.v388 kernelRun0_A.sl.v412 kernelRun0_A.sl.v436 kernelRun0_A.sl.v460 kernelRun0_A.sl.v484 kernelRun0_A.sl.v508 kernelRun0_A.sl.v52 kernelRun0_A.sl.v532 kernelRun0_A.sl.v556 kernelRun0_A.sl.v580 kernelRun0_A.sl.v604 kernelRun0_A.sl.v628 kernelRun0_A.sl.v652 kernelRun0_A.sl.v676 kernelRun0_A.sl.v700 kernelRun0_A.sl.v724 kernelRun0_A.sl.v748 kernelRun0_A.sl.v76 kernelRun0_A.sl.v772; rw [View.readCov_eq_canon']; delta c_v28 View.ld q_a; rfl
    have h_v292 : kernelRun0_A.sl.v292 c arg1 arg2 arg12 f0 f1 = c_v292 (View.read (Elt F) arg3.view f2) (View.read (Elt F) arg4.view f3) (View.read (Elt F) arg5.view f4) (View.read (Elt F) arg6.view f5) (View.read (Elt F) arg7.view f6) (View.read (Elt F) arg8.view f7) (q_a (View.read (Elt F) arg1.view f0) (View.read (Elt F) arg2.view f1)) (q_sc (View.read (Elt F) arg1.view f0) (View.read (Elt F) arg2.view f1)) := by
      delta kernelRun0_A.sl.v292 kernelRun0_A.sl.HS0_2 kernelRun0_A.sl.HS1_1 kernelRun0_A.sl.v1601 kernelRun0_A.sl.v3 kernelRun0_A.sl.v316 kernelRun0_A.sl.v340 kernelRun0_A.sl.v364 kernelRun0_A.sl.v388 kernelRun0_A.sl.v412 kernelRun0_A.sl.v436 kernelRun0_A.sl.v460 kernelRun0_A.sl.v484 kernelRun0_A.sl.v508 kernelRun0_A.sl.v52 kernelRun0_A.sl.v532 kernelRun0_A.sl.v556 kernelRun0_A.sl.v580 kernelRun0_A.sl.v604 kernelRun0_A.sl.v628 kernelRun0_A.sl.v652 kernelRun0_A.sl.v676 kernelRun0_A.sl.v700 kernelRun0_A.sl.v724 kernelRun0_A.sl.v748 kernelRun0_A.sl.v76 kernelRun0_A.sl.v772; rw [View.readCov_eq_canon']; delta c_v292 View.ld q_a; rfl
    have h_v3 : kernelRun0_A.sl.v3 c arg1 arg2 arg13 f0 f1 = c_v3 (View.read (Elt F) arg3.view f2) (View.read (Elt F) arg4.view f3) (View.read (Elt F) arg5.view f4) (View.read (Elt F) arg6.view f5) (View.read (Elt F) arg7.view f6) (View.read (Elt F) arg8.view f7) (q_a (View.read (Elt F) arg1.view f0) (View.read (Elt F) arg2.view f1)) (q_sc (View.read (Elt F) arg1.view f0) (View.read (Elt F) arg2.view f1)) := by
      delta kernelRun0_A.sl.v3 kernelRun0_A.sl.HS0_2 kernelRun0_A.sl.HS1_1 kernelRun0_A.sl.v1601 kernelRun0_A.sl.v316 kernelRun0_A.sl.v340 kernelRun0_A.sl.v364 kernelRun0_A.sl.v388 kernelRun0_A.sl.v412 kernelRun0_A.sl.v436 kernelRun0_A.sl.v460 kernelRun0_A.sl.v484 kernelRun0_A.sl.v508 kernelRun0_A.sl.v52 kernelRun0_A.sl.v532 kernelRun0_A.sl.v556 kernelRun0_A.sl.v580 kernelRun0_A.sl.v604 kernelRun0_A.sl.v628 kernelRun0_A.sl.v652 kernelRun0_A.sl.v676 kernelRun0_A.sl.v700 kernelRun0_A.sl.v724 kernelRun0_A.sl.v748 kernelRun0_A.sl.v76 kernelRun0_A.sl.v772; rw [View.readCov_eq_canon']; delta c_v3 View.ld q_sc; rfl
    have h_v316 : kernelRun0_A.sl.v316 c arg1 arg2 arg12 f0 f1 = c_v316 (View.read (Elt F) arg3.view f2) (View.read (Elt F) arg4.view f3) (View.read (Elt F) arg5.view f4) (View.read (Elt F) arg6.view f5) (View.read (Elt F) arg7.view f6) (View.read (Elt F) arg8.view f7) (q_a (View.read (Elt F) arg1.view f0) (View.read (Elt F) arg2.view f1)) (q_sc (View.read (Elt F) arg1.view f0) (View.read (Elt F) arg2.view f1)) := by
      delta kernelRun0_A.sl.v316 kernelRun0_A.sl.HS0_2 kernelRun0_A.sl.HS1_1 kernelRun0_A.sl.v1601 kernelRun0_A.sl.v340 kernelRun0_A.sl.v364 kernelRun0_A.sl.v388 kernelRun0_A.sl.v412 kernelRun0_A.sl.v436 kernelRun0_A.sl.v460 kernelRun0_A.sl.v484 kernelRun0_A.sl.v508 kernelRun0_A.sl.v52 kernelRun0_A.sl.v532 kernelRun0_A.sl.v556 kernelRun0_A.sl.v580 kernelRun0_A.sl.v604 kernelRun0_A.sl.v628 kernelRun0_A.sl.v652 kernelRun0_A.sl.v676 kernelRun0_A.sl.v700 kernelRun0_A.sl.v724 kernelRun0_A.sl.v748 kernelRun0_A.sl.v76 kernelRun0_A.sl.v772; rw [View.readCov_eq_canon']; delta c_v316 View.ld q_a; rfl
    have h_v340 : kernelRun0_A.sl.v340 c arg1 arg2 arg12 f0 f1 = c_v340 (View.read (Elt F) arg3.view f2) (View.read (Elt F) arg4.view f3) (View.read (Elt F) arg5.view f4) (View.read (Elt F) arg6.view f5) (View.read (Elt F) arg7.view f6) (View.read (Elt F) arg8.view f7) (q_a (View.read (Elt F) arg1.view f0) (View.read (Elt F) arg2.view f1)) (q_sc (View.read (Elt F) arg1.view f0) (View.read (Elt F) arg2.view f1)) := by
      delta kernelRun0_A.sl.v340 kernelRun0_A.sl.HS0_2 kernelRun0_A.sl.HS1_1 kernelRun0_A.sl.v1601 kernelRun0_A.sl.v364 kernelRun0_A.sl.v388 kernelRun0_A.sl.v412 kernelRun0_A.sl.v436 kernelRun0_A.sl.v460 kernelRun0_A.sl.v484 kernelRun0_A.sl.v508 kernelRun0_A.sl.v52 kernelRun0_A.sl.v532 kernelRun0_A.sl.v556 kernelRun0_A.sl.v580 kernelRun0_A.sl.v604 kernelRun0_A.sl.v628 kernelRun0_A.sl.v652 kernelRun0_A.sl.v676 kernelRun0_A.sl.v700 kernelRun0_A.sl.v724 kernelRun0_A.sl.v748 kernelRun0_A.sl.v76 kernelRun0_A.sl.v772; rw [View.readCov_eq_canon']; delta c_v340 View.ld q_a; rfl
    have h_v364 : kernelRun0_A.sl.v364 c arg1 arg2 arg12 f0 f1 = c_v364 (View.read (Elt F) arg3.view f2) (View.read (Elt F) arg4.view f3) (View.read (Elt F) arg5.view f4) (View.read (Elt F) arg6.view f5) (View.read (Elt F) arg7.view f6) (View.read (Elt F) arg8.view f7) (q_a (View.read (Elt F) arg1.view f0) (View.read (Elt F) arg2.view f1)) (q_sc (View.read (Elt F) arg1.view f0) (View.read (Elt F) arg2.view f1)) := by
      delta kernelRun0_A.sl.v364 kernelRun0_A.sl.HS0_2 kernelRun0_A.sl.HS1_1 kernelRun0_A.sl.v1601 kernelRun0_A.sl.v388 kernelRun0_A.sl.v412 kernelRun0_A.sl.v436 kernelRun0_A.sl.v460 kernelRun0_A.sl.v484 kernelRun0_A.sl.v508 kernelRun0_A.sl.v52 kernelRun0_A.sl.v532 kernelRun0_A.sl.v556 kernelRun0_A.sl.v580 kernelRun0_A.sl.v604 kernelRun0_A.sl.v628 kernelRun0_A.sl.v652 kernelRun0_A.sl.v676 kernelRun0_A.sl.v700 kernelRun0_A.sl.v724 kernelRun0_A.sl.v748 kernelRun0_A.sl.v76 kernelRun0_A.sl.v772; rw [View.readCov_eq_canon']; delta c_v364 View.ld q_a; rfl
    have h_v388 : kernelRun0_A.sl.v388 c arg1 arg2 arg12 f0 f1 = c_v388 (View.read (Elt F) arg3.view f2) (View.read (Elt F) arg4.view f3) (View.read (Elt F) arg5.view f4) (View.read (Elt F) arg6.view f5) (View.read (Elt F) arg7.view f6) (View.read (Elt F) arg8.view f7) (q_a (View.read (Elt F) arg1.view f0) (View.read (Elt F) arg2.view f1)) (q_sc (View.read (Elt F) arg1.view f0) (View.read (Elt F) arg2.view f1)) := by
      delta kernelRun0_A.sl.v388 kernelRun0_A.sl.HS0_2 kernelRun0_A.sl.HS1_1 kernelRun0_A.sl.v1601 kernelRun0_A.sl.v412 kernelRun0_A.sl.v436 kernelRun0_A.sl.v460 kernelRun0_A.sl.v484 kernelRun0_A.sl.v508 kernelRun0_A.sl.v52 kernelRun0_A.sl.v532 kernelRun0_A.sl.v556 kernelRun0_A.sl.v580 kernelRun0_A.sl.v604 kernelRun0_A.sl.v628 kernelRun0_A.sl.v652 kernelRun0_A.sl.v676 kernelRun0_A.sl.v700 kernelRun0_A.sl.v724 kernelRun0_A.sl.v748 kernelRun0_A.sl.v76 kernelRun0_A.sl.v772; rw [View.readCov_eq_canon']; delta c_v388 View.ld q_a; rfl
    have h_v412 : kernelRun0_A.sl.v412 c arg1 arg2 arg12 f0 f1 = c_v412 (View.read (Elt F) arg3.view f2) (View.read (Elt F) arg4.view f3) (View.read (Elt F) arg5.view f4) (View.read (Elt F) arg6.view f5) (View.read (Elt F) arg7.view f6) (View.read (Elt F) arg8.view f7) (q_a (View.read (Elt F) arg1.view f0) (View.read (Elt F) arg2.view f1)) (q_sc (View.read (Elt F) arg1.view f0) (View.read (Elt F) arg2.view f1)) := by
      delta kernelRun0_A.sl.v412 kernelRun0_A.sl.HS0_2 kernelRun0_A.sl.HS1_1 kernelRun0_A.sl.v1601 kernelRun0_A.sl.v436 kernelRun0_A.sl.v460 kernelRun0_A.sl.v484 kernelRun0_A.sl.v508 kernelRun0_A.sl.v52 kernelRun0_A.sl.v532 kernelRun0_A.sl.v556 kernelRun0_A.sl.v580 kernelRun0_A.sl.v604 kernelRun0_A.sl.v628 kernelRun0_A.sl.v652 kernelRun0_A.sl.v676 kernelRun0_A.sl.v700 kernelRun0_A.sl.v724 kernelRun0_A.sl.v748 kernelRun0_A.sl.v76 kernelRun0_A.sl.v772; rw [View.readCov_eq_canon']; delta c_v412 View.ld q_a; rfl
    have h_v436 : kernelRun0_A.sl.v436 c arg1 arg2 arg12 f0 f1 = c_v436 (View.read (Elt F) arg3.view f2) (View.read (Elt F) arg4.view f3) (View.read (Elt F) arg5.view f4) (View.read (Elt F) arg6.view f5) (View.read (Elt F) arg7.view f6) (View.read (Elt F) arg8.view f7) (q_a (View.read (Elt F) arg1.view f0) (View.read (Elt F) arg2.view f1)) (q_sc (View.read (Elt F) arg1.view f0) (View.read (Elt F) arg2.view f1)) := by
      delta kernelRun0_A.sl.v436 kernelRun0_A.sl.HS0_2 kernelRun0_A.sl.HS1_1 kernelRun0_A.sl.v1601 kernelRun0_A.sl.v460 kernelRun0_A.sl.v484 kernelRun0_A.sl.v508 kernelRun0_A.sl.v52 kernelRun0_A.sl.v532 kernelRun0_A.sl.v556 kernelRun0_A.sl.v580 kernelRun0_A.sl.v604 kernelRun0_A.sl.v628 kernelRun0_A.sl.v652 kernelRun0_A.sl.v676 kernelRun0_A.sl.v700 kernelRun0_A.sl.v724 kernelRun0_A.sl.v748 kernelRun0_A.sl.v76 kernelRun0_A.sl.v772; rw [View.readCov_eq_canon']; delta c_v436 View.ld q_a; rfl
    have h_v460 : kernelRun0_A.sl.v460 c arg1 arg2 arg12 f0 f1 = c_v460 (View.read (Elt F) arg3.view f2) (View.read (Elt F) arg4.view f3) (View.read (Elt F) arg5.view f4) (View.read (Elt F) arg6.view f5) (View.read (Elt F) arg7.view f6) (View.read (Elt F) arg8.view f7) (q_a (View.read (Elt F) arg1.view f0) (View.read (Elt F) arg2.view f1)) (q_sc (View.read (Elt F) arg1.view f0) (View.read (Elt F) arg2.view f1)) := by
      delta kernelRun0_A.sl.v460 kernelRun0_A.sl.HS0_2 kernelRun0_A.sl.HS1_1 kernelRun0_A.sl.v1601 kernelRun0_A.sl.v484 kernelRun0_A.sl.v508 kernelRun0_A.sl.v52 kernelRun0_A.sl.v532 kernelRun0_A.sl.v556 kernelRun0_A.sl.v580 kernelRun0_A.sl.v604 kernelRun0_A.sl.v628 kernelRun0_A.sl.v652 kernelRun0_A.sl.v676 kernelRun0_A.sl.v700 kernelRun0_A.sl.v724 kernelRun0_A.sl.v748 kernelRun0_A.sl.v76 kernelRun0_A.sl.v772; rw [View.readCov_eq_canon']; delta c_v460 View.ld q_a; rfl
    have h_v484 : kernelRun0_A.sl.v484 c arg1 arg2 arg12 f0 f1 = c_v484 (View.read (Elt F) arg3.view f2) (View.read (Elt F) arg4.view f3) (View.read (Elt F) arg5.view f4) (View.read (Elt F) arg6.view f5) (View.read (Elt F) arg7.view f6) (View.read (Elt F) arg8.view f7) (q_a (View.read (Elt F) arg1.view f0) (View.read (Elt F) arg2.view f1)) (q_sc (View.read (Elt F) arg1.view f0) (View.read (Elt F) arg2.view f1)) := by
      delta kernelRun0_A.sl.v484 kernelRun0_A.sl.HS0_2 kernelRun0_A.sl.HS1_1 kernelRun0_A.sl.v1601 kernelRun0_A.sl.v508 kernelRun0_A.sl.v52 kernelRun0_A.sl.v532 kernelRun0_A.sl.v556 kernelRun0_A.sl.v580 kernelRun0_A.sl.v604 kernelRun0_A.sl.v628 kernelRun0_A.sl.v652 kernelRun0_A.sl.v676 kernelRun0_A.sl.v700 kernelRun0_A.sl.v724 kernelRun0_A.sl.v748 kernelRun0_A.sl.v76 kernelRun0_A.sl.v772; rw [View.readCov_eq_canon']; delta c_v484 View.ld q_a; rfl
    have h_v508 : kernelRun0_A.sl.v508 c arg1 arg2 arg12 f0 f1 = c_v508 (View.read (Elt F) arg3.view f2) (View.read (Elt F) arg4.view f3) (View.read (Elt F) arg5.view f4) (View.read (Elt F) arg6.view f5) (View.read (Elt F) arg7.view f6) (View.read (Elt F) arg8.view f7) (q_a (View.read (Elt F) arg1.view f0) (View.read (Elt F) arg2.view f1)) (q_sc (View.read (Elt F) arg1.view f0) (View.read (Elt F) arg2.view f1)) := by
      delta kernelRun0_A.sl.v508 kernelRun0_A.sl.HS0_2 kernelRun0_A.sl.HS1_1 kernelRun0_A.sl.v1601 kernelRun0_A.sl.v52 kernelRun0_A.sl.v532 kernelRun0_A.sl.v556 kernelRun0_A.sl.v580 kernelRun0_A.sl.v604 kernelRun0_A.sl.v628 kernelRun0_A.sl.v652 kernelRun0_A.sl.v676 kernelRun0_A.sl.v700 kernelRun0_A.sl.v724 kernelRun0_A.sl.v748 kernelRun0_A.sl.v76 kernelRun0_A.sl.v772; rw [View.readCov_eq_canon']; delta c_v508 View.ld q_a; rfl
    have h_v52 : kernelRun0_A.sl.v52 c arg1 arg2 arg12 f0 f1 = c_v52 (View.read (Elt F) arg3.view f2) (View.read (Elt F) arg4.view f3) (View.read (Elt F) arg5.view f4) (View.read (Elt F) arg6.view f5) (View.read (Elt F) arg7.view f6) (View.read (Elt F) arg8.view f7) (q_a (View.read (Elt F) arg1.view f0) (View.read (Elt F) arg2.view f1)) (q_sc (View.read (Elt F) arg1.view f0) (View.read (Elt F) arg2.view f1)) := by
      delta kernelRun0_A.sl.v52 kernelRun0_A.sl.HS0_2 kernelRun0_A.sl.HS1_1 kernelRun0_A.sl.v1601 kernelRun0_A.sl.v532 kernelRun0_A.sl.v556 kernelRun0_A.sl.v580 kernelRun0_A.sl.v604 kernelRun0_A.sl.v628 kernelRun0_A.sl.v652 kernelRun0_A.sl.v676 kernelRun0_A.sl.v700 kernelRun0_A.sl.v724 kernelRun0_A.sl.v748 kernelRun0_A.sl.v76 kernelRun0_A.sl.v772; rw [View.readCov_eq_canon']; delta c_v52 View.ld q_a; rfl
    have h_v532 : kernelRun0_A.sl.v532 c arg1 arg2 arg12 f0 f1 = c_v532 (View.read (Elt F) arg3.view f2) (View.read (Elt F) arg4.view f3) (View.read (Elt F) arg5.view f4) (View.read (Elt F) arg6.view f5) (View.read (Elt F) arg7.view f6) (View.read (Elt F) arg8.view f7) (q_a (View.read (Elt F) arg1.view f0) (View.read (Elt F) arg2.view f1)) (q_sc (View.read (Elt F) arg1.view f0) (View.read (Elt F) arg2.view f1)) := by
      delta kernelRun0_A.sl.v532 kernelRun0_A.sl.HS0_2 kernelRun0_A.sl.HS1_1 kernelRun0_A.sl.v1601 kernelRun0_A.sl.v556 kernelRun0_A.sl.v580 kernelRun0_A.sl.v604 kernelRun0_A.sl.v628 kernelRun0_A.sl.v652 kernelRun0_A.sl.v676 kernelRun0_A.sl.v700 kernelRun0_A.sl.v724 kernelRun0_A.sl.v748 kernelRun0_A.sl.v76 kernelRun0_A.sl.v772; rw [View.readCov_eq_canon']; delta c_v532 View.ld q_a; rfl
    have h_v556 : kernelRun0_A.sl.v556 c arg1 arg2 arg12 f0 f1 = c_v556 (View.read (Elt F) arg3.view f2) (View.read (Elt F) arg4.view f3) (View.read (Elt F) arg5.view f4) (View.read (Elt F) arg6.view f5) (View.read (Elt F) arg7.view f6) (View.read (Elt F) arg8.view f7) (q_a (View.read (Elt F) arg1.view f0) (View.read (Elt F) arg2.view f1)) (q_sc (View.read (Elt F) arg1.view f0) (View.read (Elt F) arg2.view f1)) := by
      delta kernelRun0_A.sl.v556 kernelRun0_A.sl.HS0_2 kernelRun0_A.sl.HS1_1 kernelRun0_A.sl.v1601 kernelRun0_A.sl.v580 kernelRun0_A.sl.v604 kernelRun0_A.sl.v628 kernelRun0_A.sl.v652 kernelRun0_A.sl.v676 kernelRun0_A.sl.v700 kernelRun0_A.sl.v724 kernelRun0_A.sl.v748 kernelRun0_A.sl.v76 kernelRun0_A.sl.v772; rw [View.readCov_eq_canon']; delta c_v556 View.ld q_a; rfl
    have h_v580 : kernelRun0_A.sl.v580 c arg1 arg2 arg12 f0 f1 = c_v580 (View.read (Elt F) arg3.view f2) (View.read (Elt F) arg4.view f3) (View.read (Elt F) arg5.view f4) (View.read (Elt F) arg6.view f5) (View.read (Elt F) arg7.view f6) (View.read (Elt F) arg8.view f7) (q_a (View.read (Elt F) arg1.view f0) (View.read (Elt F) arg2.view f1)) (q_sc (View.read (Elt F) arg1.view f0) (View.read (Elt F) arg2.view f1)) := by
      delta kernelRun0_A.sl.v580 kernelRun0_A.sl.HS0_2 kernelRun0_A.sl.HS1_1 kernelRun0_A.sl.v1601 kernelRun0_A.sl.v604 kernelRun0_A.sl.v628 kernelRun0_A.sl.v652 kernelRun0_A.sl.v676 kernelRun0_A.sl.v700 kernelRun0_A.sl.v724 kernelRun0_A.sl.v748 kernelRun0_A.sl.v76 kernelRun0_A.sl.v772; rw [View.readCov_eq_canon']; delta c_v580 View.ld q_a; rfl
    have h_v604 : kernelRun0_A.sl.v604 c arg1 arg2 arg12 f0 f1 = c_v604 (View.read (Elt F) arg3.view f2) (View.read (Elt F) arg4.view f3) (View.read (Elt F) arg5.view f4) (View.read (Elt F) arg6.view f5) (View.read (Elt F) arg7.view f6) (View.read (Elt F) arg8.view f7) (q_a (View.read (Elt F) arg1.view f0) (View.read (Elt F) arg2.view f1)) (q_sc (View.read (Elt F) arg1.view f0) (View.read (Elt F) arg2.view f1)) := by
      delta kernelRun0_A.sl.v604 kernelRun0_A.sl.HS0_2 kernelRun0_A.sl.HS1_1 kernelRun0_A.sl.v1601 kernelRun0_A.sl.v628 kernelRun0_A.sl.v652 kernelRun0_A.sl.v676 kernelRun0_A.sl.v700 kernelRun0_A.sl.v724 kernelRun0_A.sl.v748 kernelRun0_A.sl.v76 kernelRun0_A.sl.v772; rw [View.readCov_eq_canon']; delta c_v604 View.ld q_a; rfl
    have h_v628 : kernelRun0_A.sl.v628 c arg1 arg2 arg12 f0 f1 = c_v628 (View.read (Elt F) arg3.view f2) (View.read (Elt F) arg4.view f3) (View.read (Elt F) arg5.view f4) (View.read (Elt F) arg6.view f5) (View.read (Elt F) arg7.view f6) (View.read (Elt F) arg8.view f7) (q_a (View.read (Elt F) arg1.view f0) (View.read (Elt F) arg2.view f1)) (q_sc (View.read (Elt F) arg1.view f0) (View.read (Elt F) arg2.view f1)) := by
      delta kernelRun0_A.sl.v628 kernelRun0_A.sl.HS0_2 kernelRun0_A.sl.HS1_1 kernelRun0_A.sl.v1601 kernelRun0_A.sl.v652 kernelRun0_A.sl.v676 kernelRun0_A.sl.v700 kernelRun0_A.sl.v724 kernelRun0_A.sl.v748 kernelRun0_A.sl.v76 kernelRun0_A.sl.v772; rw [View.readCov_eq_canon']; delta c_v628 View.ld q_a; rfl
    have h_v652 : kernelRun0_A.sl.v652 c arg1 arg2 arg12 f0 f1 = c_v652 (View.read (Elt F) arg3.view f2) (View.read (Elt F) arg4.view f3) (View.read (Elt F) arg5.view f4) (View.read (Elt F) arg6.view f5) (View.read (Elt F) arg7.view f6) (View.read (Elt F) arg8.view f7) (q_a (View.read (Elt F) arg1.view f0) (View.read (Elt F) arg2.view f1)) (q_sc (View.read (Elt F) arg1.view f0) (View.read (Elt F) arg2.view f1)) := by
      delta kernelRun0_A.sl.v652 kernelRun0_A.sl.HS0_2 kernelRun0_A.sl.HS1_1 kernelRun0_A.sl.v1601 kernelRun0_A.sl.v676 kernelRun0_A.sl.v700 kernelRun0_A.sl.v724 kernelRun0_A.sl.v748 kernelRun0_A.sl.v76 kernelRun0_A.sl.v772; rw [View.readCov_eq_canon']; delta c_v652 View.ld q_a; rfl
    have h_v676 : kernelRun0_A.sl.v676 c arg1 arg2 arg12 f0 f1 = c_v676 (View.read (Elt F) arg3.view f2) (View.read (Elt F) arg4.view f3) (View.read (Elt F) arg5.view f4) (View.read (Elt F) arg6.view f5) (View.read (Elt F) arg7.view f6) (View.read (Elt F) arg8.view f7) (q_a (View.read (Elt F) arg1.view f0) (View.read (Elt F) arg2.view f1)) (q_sc (View.read (Elt F) arg1.view f0) (View.read (Elt F) arg2.view f1)) := by
      delta kernelRun0_A.sl.v676 kernelRun0_A.sl.HS0_2 kernelRun0_A.sl.HS1_1 kernelRun0_A.sl.v1601 kernelRun0_A.sl.v700 kernelRun0_A.sl.v724 kernelRun0_A.sl.v748 kernelRun0_A.sl.v76 kernelRun0_A.sl.v772; rw [View.readCov_eq_canon']; delta c_v676 View.ld q_a; rfl
    have h_v700 : kernelRun0_A.sl.v700 c arg1 arg2 arg12 f0 f1 = c_v700 (View.read (Elt F) arg3.view f2) (View.read (Elt F) arg4.view f3) (View.read (Elt F) arg5.view f4) (View.read (Elt F) arg6.view f5) (View.read (Elt F) arg7.view f6) (View.read (Elt F) arg8.view f7) (q_a (View.read (Elt F) arg1.view f0) (View.read (Elt F) arg2.view f1)) (q_sc (View.read (Elt F) arg1.view f0) (View.read (Elt F) arg2.view f1)) := by
      delta kernelRun0_A.sl.v700 kernelRun0_A.sl.HS0_2 kernelRun0_A.sl.HS1_1 kernelRun0_A.sl.v1601 kernelRun0_A.sl.v724 kernelRun0_A.sl.v748 kernelRun0_A.sl.v76 kernelRun0_A.sl.v772; rw [View.readCov_eq_canon']; delta c_v700 View.ld q_a; rfl
    have h_v724 : kernelRun0_A.sl.v724 c arg1 arg2 arg12 f0 f1 = c_v724 (View.read (Elt F) arg3.view f2) (View.read (Elt F) arg4.view f3) (View.read (Elt F) arg5.view f4) (View.read (Elt F) arg6.view f5) (View.read (Elt F) arg7.view f6) (View.read (Elt F) arg8.view f7) (q_a (View.read (Elt F) arg1.view f0) (View.read (Elt F) arg2.view f1)) (q_sc (View.read (Elt F) arg1.view f0) (View.read (Elt F) arg2.view f1)) := by
      delta kernelRun0_A.sl.v724 kernelRun0_A.sl.HS0_2 kernelRun0_A.sl.HS1_1 kernelRun0_A.sl.v1601 kernelRun0_A.sl.v748 kernelRun0_A.sl.v76 kernelRun0_A.sl.v772; rw [View.readCov_eq_canon']; delta c_v724 View.ld q_a; rfl
    have h_v748 : kernelRun0_A.sl.v748 c arg1 arg2 arg12 f0 f1 = c_v748 (View.read (Elt F) arg3.view f2) (View.read (Elt F) arg4.view f3) (View.read (Elt F) arg5.view f4) (View.read (Elt F) arg6.view f5) (View.read (Elt F) arg7.view f6) (View.read (Elt F) arg8.view f7) (q_a (View.read (Elt F) arg1.view f0) (View.read (Elt F) arg2.view f1)) (q_sc (View.read (Elt F) arg1.view f0) (View.read (Elt F) arg2.view f1)) := by
      delta kernelRun0_A.sl.v748 kernelRun0_A.sl.HS0_2 kernelRun0_A.sl.HS1_1 kernelRun0_A.sl.v1601 kernelRun0_A.sl.v76 kernelRun0_A.sl.v772; rw [View.readCov_eq_canon']; delta c_v748 View.ld q_a; rfl
    have h_v76 : kernelRun0_A.sl.v76 c arg1 arg2 arg12 f0 f1 = c_v76 (View.read (Elt F) arg3.view f2) (View.read (Elt F) arg4.view f3) (View.read (Elt F) arg5.view f4) (View.read (Elt F) arg6.view f5) (View.read (Elt F) arg7.view f6) (View.read (Elt F) arg8.view f7) (q_a (View.read (Elt F) arg1.view f0) (View.read (Elt F) arg2.view f1)) (q_sc (View.read (Elt F) arg1.view f0) (View.read (Elt F) arg2.view f1)) := by
      delta kernelRun0_A.sl.v76 kernelRun0_A.sl.HS0_2 kernelRun0_A.sl.HS1_1 kernelRun0_A.sl.v1601 kernelRun0_A.sl.v772; rw [View.readCov_eq_canon']; delta c_v76 View.ld q_a; rfl
    have h_v772 : kernelRun0_A.sl.v772 c arg1 arg2 arg12 f0 f1 = c_v772 (View.read (Elt F) arg3.view f2) (View.read (Elt F) arg4.view f3) (View.read (Elt F) arg5.view f4) (View.read (Elt F) arg6.view f5) (View.read (Elt F) arg7.view f6) (View.read (Elt F) arg8.view f7) (q_a (View.read (Elt F) arg1.view f0) (View.read (Elt F) arg2.view f1)) (q_sc (View.read (Elt F) arg1.view f0) (View.read (Elt F) arg2.view f1)) := by
      delta kernelRun0_A.sl.v772 kernelRun0_A.sl.HS0_2 kernelRun0_A.sl.HS1_1 kernelRun0_A.sl.v1601; rw [View.readCov_eq_canon']; delta c_v772 View.ld q_a; rfl
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; (refine (View.read_writes_eq_canon _ _ _ (cover_y _)).trans ((View.canon_unit_zero off0 _ _).trans ?_); delta kernelRun0_A.sl.r kernelRun0_A.sl.r_1 kernelRun0_A.sl.r_10 kernelRun0_A.sl.r_11 kernelRun0_A.sl.r_12 kernelRun0_A.sl.r_13 kernelRun0_A.sl.r_14 kernelRun0_A.sl.r_15 kernelRun0_A.sl.r_16 kernelRun0_A.sl.r_17 kernelRun0_A.sl.r_18 kernelRun0_A.sl.r_19 kernelRun0_A.sl.r_2 kernelRun0_A.sl.r_20 kernelRun0_A.sl.r_21 kernelRun0_A.sl.r_22 kernelRun0_A.sl.r_23 kernelRun0_A.sl.r_24 kernelRun0_A.sl.r_25 kernelRun0_A.sl.r_26 kernelRun0_A.sl.r_27 kernelRun0_A.sl.r_28 kernelRun0_A.sl.r_29 kernelRun0_A.sl.r_3 kernelRun0_A.sl.r_30 kernelRun0_A.sl.r_31 kernelRun0_A.sl.r_32 kernelRun0_A.sl.r_33 kernelRun0_A.sl.r_34 kernelRun0_A.sl.r_35 kernelRun0_A.sl.r_36 kernelRun0_A.sl.r_37 kernelRun0_A.sl.r_38 kernelRun0_A.sl.r_39 kernelRun0_A.sl.r_4 kernelRun0_A.sl.r_40 kernelRun0_A.sl.r_41 kernelRun0_A.sl.r_42 kernelRun0_A.sl.r_43 kernelRun0_A.sl.r_44 kernelRun0_A.sl.r_45 kernelRun0_A.sl.r_46 kernelRun0_A.sl.r_47 kernelRun0_A.sl.r_48 kernelRun0_A.sl.r_49 kernelRun0_A.sl.r_5 kernelRun0_A.sl.r_50 kernelRun0_A.sl.r_51 kernelRun0_A.sl.r_52 kernelRun0_A.sl.r_53 kernelRun0_A.sl.r_54 kernelRun0_A.sl.r_55 kernelRun0_A.sl.r_56 kernelRun0_A.sl.r_57 kernelRun0_A.sl.r_58 kernelRun0_A.sl.r_59 kernelRun0_A.sl.r_6 kernelRun0_A.sl.r_60 kernelRun0_A.sl.r_61 kernelRun0_A.sl.r_62 kernelRun0_A.sl.r_63 kernelRun0_A.sl.r_64 kernelRun0_A.sl.r_65 kernelRun0_A.sl.r_66 kernelRun0_A.sl.r_67 kernelRun0_A.sl.r_68 kernelRun0_A.sl.r_69 kernelRun0_A.sl.r_7 kernelRun0_A.sl.r_70 kernelRun0_A.sl.r_71 kernelRun0_A.sl.r_72 kernelRun0_A.sl.r_73 kernelRun0_A.sl.r_74 kernelRun0_A.sl.r_75 kernelRun0_A.sl.r_76 kernelRun0_A.sl.r_77 kernelRun0_A.sl.r_78 kernelRun0_A.sl.r_79 kernelRun0_A.sl.r_8 kernelRun0_A.sl.r_80 kernelRun0_A.sl.r_81 kernelRun0_A.sl.r_82 kernelRun0_A.sl.r_83 kernelRun0_A.sl.r_84 kernelRun0_A.sl.r_9; rw [h_v100, h_v124, h_v148, h_v172, h_v196, h_v220, h_v244, h_v268, h_v28, h_v292, h_v3, h_v316, h_v340, h_v364, h_v388, h_v412, h_v436, h_v460, h_v484, h_v508, h_v52, h_v532, h_v556, h_v580, h_v604, h_v628, h_v652, h_v676, h_v700, h_v724, h_v748, h_v76, h_v772]; rfl)
    isplitl [H9]
    · iexists _; isplitr; swap; · iexact H9
      ipureintro; exact View.read_writes_eq_canon _ _ _ (fun y => cover_c2 _ y)
    isplitl [H10]
    · iexists _; isplitr; swap; · iexact H10
      ipureintro; exact View.read_writes_eq_canon _ _ _ (fun y => cover_s2 _ y)
    isplitl [HS0]
    · iexists _; isplitr; swap; · iexact HS0
      ipureintro; exact View.read_writes_eq_canon _ _ _ (fun y => cover_a _ _ y)
    iexists _; isplitr; swap; · iexact HS1
    ipureintro; exact View.read_writes_eq_canon _ _ _ (fun y => cover_sc _ y)

end Cert.GuIdeal.Run

end
-- ==== Proof.Gu.Frame.lean ====
/- The frame of the Gu kernel with its outputs named: what each point leaves in its buffers, the body obligation, the
   launch and the frame claim. -/
module

public import proofs.«01_k».proof.Proof.Gu.RunA
public import proofs.«01_k».proof.Proof.Common.Kept
public import Idealize.ShloMosaic.Lib.Claim

@[expose] public section

set_option maxRecDepth 16384

noncomputable section

namespace Cert.GuIdeal.Run
open Cert.GuIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The grid's first point. -/
def t0 : Fin cfg0.N := ⟨0, by rw [show cfg0.N = 14 from N_0]; decide⟩

/-- The block of the result point `t` leaves. -/
def yAt (c : Dev nD) (t : Fin cfg0.N) := yB (iblk m c 2 t) (iblk m c 3 t) (iblk m c 4 t) (iblk m c 5 t) (iblk m c 6 t) (iblk m c 7 t) (q_a (iblk m c 0 t0) (iblk m c 1 t0)) (q_sc (iblk m c 0 t0) (iblk m c 1 t0))

/-- What the region keeps between points: before the first point nothing, afterwards the two scratch buffers at what
    the first point leaves in them. -/
def Phi (c : Dev nD) (t : Fin (cfg0.N + 1)) : sProp 𝕄 :=
  if t.val = 0 then Pipeline.ΦA spec0 c
  else iprop(iprop(owns (c : Thread nD τ) scM0_0 fullShare (q_a (iblk m c 0 t0) (iblk m c 1 t0)) ∗ owns (c : Thread nD τ) scM0_1 fullShare (q_sc (iblk m c 0 t0) (iblk m c 1 t0))) ∗ (∃ r, prngReg c r))

/-- The proof data of the one pipeline on core `c`: each input's buffer at its block, the result's at the block point `t`
    computes, the codes and the scales at what the first point stores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => yAt m c t
    | ⟨9, _⟩ => q_c2 (iblk m c 0 t0) (iblk m c 1 t0)
    | ⟨10, _⟩ => q_s2 (iblk m c 0 t0) (iblk m c 1 t0)
  Φ := Phi m c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = yAt m c t := by dsimp only [dats]
theorem after0_9 (c : Dev nD) (t : Fin cfg0.N) : (dats m 0 c).after 9 t = q_c2 (iblk m c 0 t0) (iblk m c 1 t0) := by dsimp only [dats]
theorem after0_10 (c : Dev nD) (t : Fin cfg0.N) : (dats m 0 c).after 10 t = q_s2 (iblk m c 0 t0) (iblk m c 1 t0) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- The first point stores window 9. -/
theorem live0_9 (t : Fin cfg0.N) (h : t.val = 0) : cfg0.idle 9 (cfg0.grid.coords t) = false := by
  have e : k0_cond1 (grid0.coords t) = 1#1 := (hcond0_0 t).mpr (by rw [h])
  show (!(k0_cond1 (grid0.coords t) == 1#1)) = false
  rw [e]; rfl

/-- At a later point the buffer of window 9 still holds what the first point left. -/
theorem before0_9 (c : Dev nD) (t : Fin cfg0.N) (ht : t.val ≠ 0) (d) : (dats m 0 c).before 9 t d = q_c2 (iblk m c 0 t0) (iblk m c 1 t0) := by
  refine (dats m 0 c).before_first 9 rfl _ live0_9 (fun _ _ => rfl) (after0_9 m c) (fun t h => ?_) t.val t.isLt ht d
  have hN : cfg0.N = 14 := N_0
  exact Bool.eq_false_iff.mpr fun hf => by have := (flush0_9 t).mp hf; omega

/-- The first point stores window 10. -/
theorem live0_10 (t : Fin cfg0.N) (h : t.val = 0) : cfg0.idle 10 (cfg0.grid.coords t) = false := by
  have e : k0_cond1 (grid0.coords t) = 1#1 := (hcond0_0 t).mpr (by rw [h])
  show (!(k0_cond1 (grid0.coords t) == 1#1)) = false
  rw [e]; rfl

/-- At a later point the buffer of window 10 still holds what the first point left. -/
theorem before0_10 (c : Dev nD) (t : Fin cfg0.N) (ht : t.val ≠ 0) (d) : (dats m 0 c).before 10 t d = q_s2 (iblk m c 0 t0) (iblk m c 1 t0) := by
  refine (dats m 0 c).before_first 10 rfl _ live0_10 (fun _ _ => rfl) (after0_10 m c) (fun t h => ?_) t.val t.isLt ht d
  have hN : cfg0.N = 14 := N_0
  exact Bool.eq_false_iff.mpr fun hf => by have := (flush0_10 t).mp hf; omega

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 2400000 in
/-- The body at any point: the first point fills the scratch, the codes and the scales, a later one finds them there. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = Phi m c t.succ from rfl, show (dats m 0 c).Φ t.castSucc = Phi m c t.castSucc from rfl]
  have hN : t.val < 14 := lt_of_lt_of_eq t.isLt (show cfg0.N = 14 from N_0)
  rw [show Phi m c t.succ = _ from if_neg (Nat.succ_ne_zero t.val)]
  rw [show (dats m 0 c).leavesExact 0 t = owns (c : Thread nD τ) (ms0_0 t) fullShare ((dats m 0 c).after 0 t) from by
      unfold Dat.leavesExact; rw [show cfg0.idle 0 _ = false from rfl], after0_0]
  rw [show (dats m 0 c).leavesExact 1 t = owns (c : Thread nD τ) (ms0_1 t) fullShare ((dats m 0 c).after 1 t) from by
      unfold Dat.leavesExact; rw [show cfg0.idle 1 _ = false from rfl], after0_1]
  rw [show (dats m 0 c).leavesExact 2 t = owns (c : Thread nD τ) (ms0_2 t) fullShare ((dats m 0 c).after 2 t) from by
      unfold Dat.leavesExact; rw [show cfg0.idle 2 _ = false from rfl], after0_2]
  rw [show (dats m 0 c).leavesExact 3 t = owns (c : Thread nD τ) (ms0_3 t) fullShare ((dats m 0 c).after 3 t) from by
      unfold Dat.leavesExact; rw [show cfg0.idle 3 _ = false from rfl], after0_3]
  rw [show (dats m 0 c).leavesExact 4 t = owns (c : Thread nD τ) (ms0_4 t) fullShare ((dats m 0 c).after 4 t) from by
      unfold Dat.leavesExact; rw [show cfg0.idle 4 _ = false from rfl], after0_4]
  rw [show (dats m 0 c).leavesExact 5 t = owns (c : Thread nD τ) (ms0_5 t) fullShare ((dats m 0 c).after 5 t) from by
      unfold Dat.leavesExact; rw [show cfg0.idle 5 _ = false from rfl], after0_5]
  rw [show (dats m 0 c).leavesExact 6 t = owns (c : Thread nD τ) (ms0_6 t) fullShare ((dats m 0 c).after 6 t) from by
      unfold Dat.leavesExact; rw [show cfg0.idle 6 _ = false from rfl], after0_6]
  rw [show (dats m 0 c).leavesExact 7 t = owns (c : Thread nD τ) (ms0_7 t) fullShare ((dats m 0 c).after 7 t) from by
      unfold Dat.leavesExact; rw [show cfg0.idle 7 _ = false from rfl], after0_7]
  rw [show (dats m 0 c).leavesExact 8 t = owns (c : Thread nD τ) (ms0_8 t) fullShare ((dats m 0 c).after 8 t) from by
      unfold Dat.leavesExact; rw [show cfg0.idle 8 _ = false from rfl], after0_8]
  by_cases h0 : t.val % 14 = 0
  · obtain rfl : t = t0 := Fin.ext (by have : t0.val = 0 := rfl; omega)
    rw [show (dats m 0 c).leavesExact 9 t0 = owns (c : Thread nD τ) (ms0_9 t0) fullShare ((dats m 0 c).after 9 t0) from by
      unfold Dat.leavesExact; rw [live0_9 t0 rfl], after0_9]
    rw [show (dats m 0 c).leavesExact 10 t0 = owns (c : Thread nD τ) (ms0_10 t0) fullShare ((dats m 0 c).after 10 t0) from by
      unfold Dat.leavesExact; rw [live0_10 t0 rfl], after0_10]
    rw [show Phi m c (t0 : Fin cfg0.N).castSucc = _ from if_pos rfl, PhiA0_eq]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun0_A c (grid0.coords t0) _ _ _ _ _ _ _ _ _ _ _ _ _ _ _ _ _ _ _ _ _ _ _ _ _ _ ((hcond0_0 t0).mpr h0) (iblk m c 0 t0) (iblk m c 1 t0) (iblk m c 2 t0) (iblk m c 3 t0) (iblk m c 4 t0) (iblk m c 5 t0) (iblk m c 6 t0) (iblk m c 7 t0)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [HS0]; · iexact HS0
    isplitl [HS1]; · iexact HS1
    iintro ⟨H0, H1, H2, H3, H4, H5, H6, H7, H8, H9, H10, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · have ht : t.val ≠ 0 := by omega
    rw [show Phi m c t.castSucc = _ from if_neg ht]
    simp only [before0_9 m c t ht, before0_10 m c t ht]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun0_B c (grid0.coords t) _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (q_c2 (iblk m c 0 t0) (iblk m c 1 t0)) (q_s2 (iblk m c 0 t0) (iblk m c 1 t0)) (q_a (iblk m c 0 t0) (iblk m c 1 t0)) (q_sc (iblk m c 0 t0) (iblk m c 1 t0))) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [H10]; · iexact H10
    isplitl [HS0]; · iexact HS0
    isplitl [HS1]; · iexact HS1
    iintro ⟨H0, H1, H2, H3, H4, H5, H6, H7, H8, H9, H10, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iapply ((dats m 0 c).leaves_first 9 _ t (after0_9 m c t) d9 (before0_9 m c t ht d9)); iexact H9
    iapply ((dats m 0 c).leaves_first 10 _ t (after0_10 m c t) d10 (before0_10 m c t ht d10)); iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- Before the first point the region holds its scratch at some contents. -/
theorem Phi_in (c : Dev nD) : (Pipeline.ΦA spec0 c : sProp 𝕄) ⊢ (dats m 0 c).Φ 0 :=
  Entails.of_eq (show Phi m c 0 = _ from if_pos rfl).symm

/-- After the last point the contents of the scratch are forgotten. -/
theorem Phi_out (c : Dev nD) : (dats m 0 c).Φ (Fin.last cfg0.N) ⊢ (Pipeline.ΦA spec0 c : sProp 𝕄) := by
  rw [show (dats m 0 c).Φ (Fin.last cfg0.N) = Phi m c (Fin.last cfg0.N) from rfl,
    show Phi m c (Fin.last cfg0.N) = _ from if_neg (by show cfg0.N ≠ 0; rw [show cfg0.N = 14 from N_0]; decide), PhiA0_eq]
  iintro ⟨⟨HS0, HS1⟩, Hg⟩
  isplitl [HS0 HS1]
  · isplitl [HS0]
    · iexists _; iexact HS0
    iexists _; iexact HS1
  iexact Hg

set_option backward.isDefEq.respectTransparency.types false in
set_option maxHeartbeats 800000 in
/-- The launch: every array of the pipeline ends at what the library computes from the proof data, and every counter at zero. -/
theorem run_main_quiescent : θ_run defs (onTc (τ := τ) (main (F := F))) (s₀ m ρ) (fun r => Pipeline.FramePost cfgs (dats m) (0 : Fin 1) (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := Phi_in m) (hout := Phi_out m)

/-- The run without the counters. -/
theorem run_main : θ_run defs (onTc (τ := τ) (main (F := F))) (s₀ m ρ) (Pipeline.FramePost cfgs (dats m) (0 : Fin 1) (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.GuIdeal.Run

end
-- ==== Proof.Gu.Bits.lean ====
/- The frame of the Gu program over machine words: its text is the other program's, so the frame proved for any floats is its own. -/
module

public import proofs.«01_k».proof.Defs
public import proofs.«01_k».proof.Proof.Gu.Frame
public import proofs.«01_k».proof.Proof.Gen.Gu

@[expose] public section

set_option maxRecDepth 65536

noncomputable section

namespace Cert.GuIdeal.Run

open Idealize.ShloMosaic Idealize.ShloMosaic.TcCoe Idealize.SL.Sem

/-- The two programs' bodies are one. -/
theorem body_bits : letI := Cert.Gu.Gen.facts; letI := Cert.GuIdeal.Gen.facts; @Cert.Gu.cc0_gu Bits _ _ = @Cert.GuIdeal.cc0_gu Bits _ _ := rfl

theorem defs₀_bits : letI := Cert.Gu.Gen.facts; letI := Cert.GuIdeal.Gen.facts; @Cert.Gu.defs₀ Bits _ _ = @Cert.GuIdeal.defs₀ Bits _ _ := by
  unfold Cert.Gu.defs₀ Cert.GuIdeal.defs₀
  refine congrArg Defs.onTc (funext fun l => funext fun a => ?_)
  match l, a with
  | 0, (t, s) => exact rfl
  | ⟨_ + 1, h⟩, _ => exact absurd h (Nat.not_lt.2 (Nat.le_add_left _ _))

theorem defs_bits : letI := Cert.Gu.Gen.facts; letI := Cert.GuIdeal.Gen.facts; @Cert.Gu.defs Bits _ _ = @Cert.GuIdeal.defs Bits _ _ :=
  congrArg (Pipeline.defs Cert.GuIdeal.pcfgs) defs₀_bits

/-- The frame over machine words. -/
theorem frame_bits : letI := Cert.Gu.Gen.facts; Cert.quiescent_Gu := by
  intro m g _
  rw [defs_bits]
  exact frame (F := Bits) m g

end Cert.GuIdeal.Run

end
-- ==== Proof.Down.Runs.lean ====
/- What the two cases of the Down kernel's body share: its branch condition in closed form, the staging and
   scratch memrefs, and the scratch invariant with the scratch buffers as memrefs. -/
module

public import proofs.«01_k».proof.Proof.Gen.DownIdeal.Launch
public import proofs.«01_k».proof.Proof.Gen.DownIdeal.Skeleton
public import proofs.«01_k».proof.Proof.Gen.DownIdeal.Points
public import proofs.«01_k».proof.Proof.Gen.DownIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.DownIdeal.Run
open Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, k0_cond1, e0]
    word_cmp
   : ∀ t : Fin grid0.N, cond0_0 (grid0.coords t) ↔ t.val % 16 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S72x7168 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S72x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S896x512 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S56x512 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S72x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S72x7168 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x72 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S80x7168 .bf16 := Memref.whole cc0_scratch0
abbrev scM0_1 : Memref sig .tc .vmem S72x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.DownIdeal.Run

end
-- ==== Proof.Down.Chain.lean ====
/- The values the Down kernel's body computes, one definition per value, as functions of the blocks it loads: `c_v…`
   after its first-point branch (over the two scratch buffers as well), `b_v…` inside it. -/
module

public import proofs.«01_k».proof.Proof.Down.Runs
public import Idealize.ShloMosaic.Lib.Pipeline.Value

@[expose] public section

set_option maxRecDepth 16384

noncomputable section

namespace Cert.DownIdeal.Run
open Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offset of a whole load or store. -/
theorem off0 : (![0, 0] : Fin 2 → Nat) = fun _ => 0 := by funext a; match a with | ⟨0, _⟩ => rfl | ⟨1, _⟩ => rfl
def c_v3 (x1 : Vec F S72x512 .f32) (x2 : Vec F S896x512 .i32) (x3 : Vec F S56x512 .fp8e4m3) (x4 : Vec F S1x512 .f32) (a : Vec F S80x7168 .bf16) (sc : Vec F S72x128 .f32) : Vec F S56x512 .fp8e4m3 := View.ld x3 (Rect.unit (s := S56x512) ![0, 0] S56x512.size inb_S56x512_S56x512_0_0)
def c_v6 (x1 : Vec F S72x512 .f32) (x2 : Vec F S896x512 .i32) (x3 : Vec F S56x512 .fp8e4m3) (x4 : Vec F S1x512 .f32) (a : Vec F S80x7168 .bf16) (sc : Vec F S72x128 .f32) : Vec F S32x512 .i32 := View.ld x2 (Rect.unit (s := S896x512) ![0, 0] S32x512.size inb_S896x512_S32x512_0_0)
def c_v27 (x1 : Vec F S72x512 .f32) (x2 : Vec F S896x512 .i32) (x3 : Vec F S56x512 .fp8e4m3) (x4 : Vec F S1x512 .f32) (a : Vec F S80x7168 .bf16) (sc : Vec F S72x128 .f32) : Vec F S80x256 .bf16 := View.ld a (Rect.unit (s := S80x7168) ![0, 0] S80x256.size inb_S80x7168_S80x256_0_0)
def c_v30 (x1 : Vec F S72x512 .f32) (x2 : Vec F S896x512 .i32) (x3 : Vec F S56x512 .fp8e4m3) (x4 : Vec F S1x512 .f32) (a : Vec F S80x7168 .bf16) (sc : Vec F S72x128 .f32) : Vec F S32x512 .i32 := View.ld x2 (Rect.unit (s := S896x512) ![32, 0] S32x512.size inb_S896x512_S32x512_32_0)
def c_v4 (x1 : Vec F S72x512 .f32) (x2 : Vec F S896x512 .i32) (x3 : Vec F S56x512 .fp8e4m3) (x4 : Vec F S1x512 .f32) (a : Vec F S80x7168 .bf16) (sc : Vec F S72x128 .f32) : FVec F S56x512 .f32 := k0_pay9 (c_v3 x1 x2 x3 x4 a sc)
def c_v29 (x1 : Vec F S72x512 .f32) (x2 : Vec F S896x512 .i32) (x3 : Vec F S56x512 .fp8e4m3) (x4 : Vec F S1x512 .f32) (a : Vec F S80x7168 .bf16) (sc : Vec F S72x128 .f32) : FVec F S80x512 .f32 := k0_pay10 (c_v3 x1 x2 x3 x4 a sc) (c_v6 x1 x2 x3 x4 a sc) (c_v27 x1 x2 x3 x4 a sc)
def c_v39 (x1 : Vec F S72x512 .f32) (x2 : Vec F S896x512 .i32) (x3 : Vec F S56x512 .fp8e4m3) (x4 : Vec F S1x512 .f32) (a : Vec F S80x7168 .bf16) (sc : Vec F S72x128 .f32) : IVec S256x512 4 := k0_pay11 (c_v30 x1 x2 x3 x4 a sc)
def c_v43 (x1 : Vec F S72x512 .f32) (x2 : Vec F S896x512 .i32) (x3 : Vec F S56x512 .fp8e4m3) (x4 : Vec F S1x512 .f32) (a : Vec F S80x7168 .bf16) (sc : Vec F S72x128 .f32) : FVec F S128x512 .bf16 := k0_pay12 (c_v3 x1 x2 x3 x4 a sc)
def c_v51 (x1 : Vec F S72x512 .f32) (x2 : Vec F S896x512 .i32) (x3 : Vec F S56x512 .fp8e4m3) (x4 : Vec F S1x512 .f32) (a : Vec F S80x7168 .bf16) (sc : Vec F S72x128 .f32) : Vec F S80x256 .bf16 := View.ld a (Rect.unit (s := S80x7168) ![0, 256] S80x256.size inb_S80x7168_S80x256_0_256)
def c_v54 (x1 : Vec F S72x512 .f32) (x2 : Vec F S896x512 .i32) (x3 : Vec F S56x512 .fp8e4m3) (x4 : Vec F S1x512 .f32) (a : Vec F S80x7168 .bf16) (sc : Vec F S72x128 .f32) : Vec F S32x512 .i32 := View.ld x2 (Rect.unit (s := S896x512) ![64, 0] S32x512.size inb_S896x512_S32x512_64_0)
def c_v75 (x1 : Vec F S72x512 .f32) (x2 : Vec F S896x512 .i32) (x3 : Vec F S56x512 .fp8e4m3) (x4 : Vec F S1x512 .f32) (a : Vec F S80x7168 .bf16) (sc : Vec F S72x128 .f32) : Vec F S80x256 .bf16 := View.ld a (Rect.unit (s := S80x7168) ![0, 512] S80x256.size inb_S80x7168_S80x256_0_512)
def c_v78 (x1 : Vec F S72x512 .f32) (x2 : Vec F S896x512 .i32) (x3 : Vec F S56x512 .fp8e4m3) (x4 : Vec F S1x512 .f32) (a : Vec F S80x7168 .bf16) (sc : Vec F S72x128 .f32) : Vec F S32x512 .i32 := View.ld x2 (Rect.unit (s := S896x512) ![96, 0] S32x512.size inb_S896x512_S32x512_96_0)
def c_v77 (x1 : Vec F S72x512 .f32) (x2 : Vec F S896x512 .i32) (x3 : Vec F S56x512 .fp8e4m3) (x4 : Vec F S1x512 .f32) (a : Vec F S80x7168 .bf16) (sc : Vec F S72x128 .f32) : FVec F S80x512 .f32 := k0_pay13 (c_v4 x1 x2 x3 x4 a sc) (c_v29 x1 x2 x3 x4 a sc) (c_v39 x1 x2 x3 x4 a sc) (c_v43 x1 x2 x3 x4 a sc) (c_v51 x1 x2 x3 x4 a sc) (c_v54 x1 x2 x3 x4 a sc) (c_v75 x1 x2 x3 x4 a sc)
def c_v87 (x1 : Vec F S72x512 .f32) (x2 : Vec F S896x512 .i32) (x3 : Vec F S56x512 .fp8e4m3) (x4 : Vec F S1x512 .f32) (a : Vec F S80x7168 .bf16) (sc : Vec F S72x128 .f32) : IVec S256x512 4 := k0_pay14 (c_v78 x1 x2 x3 x4 a sc)
def c_v91 (x1 : Vec F S72x512 .f32) (x2 : Vec F S896x512 .i32) (x3 : Vec F S56x512 .fp8e4m3) (x4 : Vec F S1x512 .f32) (a : Vec F S80x7168 .bf16) (sc : Vec F S72x128 .f32) : FVec F S128x512 .bf16 := k0_pay15 (c_v4 x1 x2 x3 x4 a sc)
def c_v99 (x1 : Vec F S72x512 .f32) (x2 : Vec F S896x512 .i32) (x3 : Vec F S56x512 .fp8e4m3) (x4 : Vec F S1x512 .f32) (a : Vec F S80x7168 .bf16) (sc : Vec F S72x128 .f32) : Vec F S80x256 .bf16 := View.ld a (Rect.unit (s := S80x7168) ![0, 768] S80x256.size inb_S80x7168_S80x256_0_768)
def c_v102 (x1 : Vec F S72x512 .f32) (x2 : Vec F S896x512 .i32) (x3 : Vec F S56x512 .fp8e4m3) (x4 : Vec F S1x512 .f32) (a : Vec F S80x7168 .bf16) (sc : Vec F S72x128 .f32) : Vec F S32x512 .i32 := View.ld x2 (Rect.unit (s := S896x512) ![128, 0] S32x512.size inb_S896x512_S32x512_128_0)
def c_v123 (x1 : Vec F S72x512 .f32) (x2 : Vec F S896x512 .i32) (x3 : Vec F S56x512 .fp8e4m3) (x4 : Vec F S1x512 .f32) (a : Vec F S80x7168 .bf16) (sc : Vec F S72x128 .f32) : Vec F S80x256 .bf16 := View.ld a (Rect.unit (s := S80x7168) ![0, 1024] S80x256.size inb_S80x7168_S80x256_0_1024)
def c_v126 (x1 : Vec F S72x512 .f32) (x2 : Vec F S896x512 .i32) (x3 : Vec F S56x512 .fp8e4m3) (x4 : Vec F S1x512 .f32) (a : Vec F S80x7168 .bf16) (sc : Vec F S72x128 .f32) : Vec F S32x512 .i32 := View.ld x2 (Rect.unit (s := S896x512) ![160, 0] S32x512.size inb_S896x512_S32x512_160_0)
def c_v125 (x1 : Vec F S72x512 .f32) (x2 : Vec F S896x512 .i32) (x3 : Vec F S56x512 .fp8e4m3) (x4 : Vec F S1x512 .f32) (a : Vec F S80x7168 .bf16) (sc : Vec F S72x128 .f32) : FVec F S80x512 .f32 := k0_pay16 (c_v4 x1 x2 x3 x4 a sc) (c_v77 x1 x2 x3 x4 a sc) (c_v87 x1 x2 x3 x4 a sc) (c_v91 x1 x2 x3 x4 a sc) (c_v99 x1 x2 x3 x4 a sc) (c_v102 x1 x2 x3 x4 a sc) (c_v123 x1 x2 x3 x4 a sc)
def c_v135 (x1 : Vec F S72x512 .f32) (x2 : Vec F S896x512 .i32) (x3 : Vec F S56x512 .fp8e4m3) (x4 : Vec F S1x512 .f32) (a : Vec F S80x7168 .bf16) (sc : Vec F S72x128 .f32) : IVec S256x512 4 := k0_pay17 (c_v126 x1 x2 x3 x4 a sc)
def c_v139 (x1 : Vec F S72x512 .f32) (x2 : Vec F S896x512 .i32) (x3 : Vec F S56x512 .fp8e4m3) (x4 : Vec F S1x512 .f32) (a : Vec F S80x7168 .bf16) (sc : Vec F S72x128 .f32) : FVec F S128x512 .bf16 := k0_pay18 (c_v4 x1 x2 x3 x4 a sc)
def c_v147 (x1 : Vec F S72x512 .f32) (x2 : Vec F S896x512 .i32) (x3 : Vec F S56x512 .fp8e4m3) (x4 : Vec F S1x512 .f32) (a : Vec F S80x7168 .bf16) (sc : Vec F S72x128 .f32) : Vec F S80x256 .bf16 := View.ld a (Rect.unit (s := S80x7168) ![0, 1280] S80x256.size inb_S80x7168_S80x256_0_1280)
def c_v150 (x1 : Vec F S72x512 .f32) (x2 : Vec F S896x512 .i32) (x3 : Vec F S56x512 .fp8e4m3) (x4 : Vec F S1x512 .f32) (a : Vec F S80x7168 .bf16) (sc : Vec F S72x128 .f32) : Vec F S32x512 .i32 := View.ld x2 (Rect.unit (s := S896x512) ![192, 0] S32x512.size inb_S896x512_S32x512_192_0)
def c_v171 (x1 : Vec F S72x512 .f32) (x2 : Vec F S896x512 .i32) (x3 : Vec F S56x512 .fp8e4m3) (x4 : Vec F S1x512 .f32) (a : Vec F S80x7168 .bf16) (sc : Vec F S72x128 .f32) : Vec F S80x256 .bf16 := View.ld a (Rect.unit (s := S80x7168) ![0, 1536] S80x256.size inb_S80x7168_S80x256_0_1536)
def c_v174 (x1 : Vec F S72x512 .f32) (x2 : Vec F S896x512 .i32) (x3 : Vec F S56x512 .fp8e4m3) (x4 : Vec F S1x512 .f32) (a : Vec F S80x7168 .bf16) (sc : Vec F S72x128 .f32) : Vec F S32x512 .i32 := View.ld x2 (Rect.unit (s := S896x512) ![224, 0] S32x512.size inb_S896x512_S32x512_224_0)
def c_v173 (x1 : Vec F S72x512 .f32) (x2 : Vec F S896x512 .i32) (x3 : Vec F S56x512 .fp8e4m3) (x4 : Vec F S1x512 .f32) (a : Vec F S80x7168 .bf16) (sc : Vec F S72x128 .f32) : FVec F S80x512 .f32 := k0_pay19 (c_v4 x1 x2 x3 x4 a sc) (c_v125 x1 x2 x3 x4 a sc) (c_v135 x1 x2 x3 x4 a sc) (c_v139 x1 x2 x3 x4 a sc) (c_v147 x1 x2 x3 x4 a sc) (c_v150 x1 x2 x3 x4 a sc) (c_v171 x1 x2 x3 x4 a sc)
def c_v183 (x1 : Vec F S72x512 .f32) (x2 : Vec F S896x512 .i32) (x3 : Vec F S56x512 .fp8e4m3) (x4 : Vec F S1x512 .f32) (a : Vec F S80x7168 .bf16) (sc : Vec F S72x128 .f32) : IVec S256x512 4 := k0_pay20 (c_v174 x1 x2 x3 x4 a sc)
def c_v187 (x1 : Vec F S72x512 .f32) (x2 : Vec F S896x512 .i32) (x3 : Vec F S56x512 .fp8e4m3) (x4 : Vec F S1x512 .f32) (a : Vec F S80x7168 .bf16) (sc : Vec F S72x128 .f32) : FVec F S128x512 .bf16 := k0_pay21 (c_v4 x1 x2 x3 x4 a sc)
def c_v195 (x1 : Vec F S72x512 .f32) (x2 : Vec F S896x512 .i32) (x3 : Vec F S56x512 .fp8e4m3) (x4 : Vec F S1x512 .f32) (a : Vec F S80x7168 .bf16) (sc : Vec F S72x128 .f32) : Vec F S80x256 .bf16 := View.ld a (Rect.unit (s := S80x7168) ![0, 1792] S80x256.size inb_S80x7168_S80x256_0_1792)
def c_v198 (x1 : Vec F S72x512 .f32) (x2 : Vec F S896x512 .i32) (x3 : Vec F S56x512 .fp8e4m3) (x4 : Vec F S1x512 .f32) (a : Vec F S80x7168 .bf16) (sc : Vec F S72x128 .f32) : Vec F S32x512 .i32 := View.ld x2 (Rect.unit (s := S896x512) ![256, 0] S32x512.size inb_S896x512_S32x512_256_0)
def c_v219 (x1 : Vec F S72x512 .f32) (x2 : Vec F S896x512 .i32) (x3 : Vec F S56x512 .fp8e4m3) (x4 : Vec F S1x512 .f32) (a : Vec F S80x7168 .bf16) (sc : Vec F S72x128 .f32) : Vec F S80x256 .bf16 := View.ld a (Rect.unit (s := S80x7168) ![0, 2048] S80x256.size inb_S80x7168_S80x256_0_2048)
def c_v222 (x1 : Vec F S72x512 .f32) (x2 : Vec F S896x512 .i32) (x3 : Vec F S56x512 .fp8e4m3) (x4 : Vec F S1x512 .f32) (a : Vec F S80x7168 .bf16) (sc : Vec F S72x128 .f32) : Vec F S32x512 .i32 := View.ld x2 (Rect.unit (s := S896x512) ![288, 0] S32x512.size inb_S896x512_S32x512_288_0)
def c_v221 (x1 : Vec F S72x512 .f32) (x2 : Vec F S896x512 .i32) (x3 : Vec F S56x512 .fp8e4m3) (x4 : Vec F S1x512 .f32) (a : Vec F S80x7168 .bf16) (sc : Vec F S72x128 .f32) : FVec F S80x512 .f32 := k0_pay22 (c_v4 x1 x2 x3 x4 a sc) (c_v173 x1 x2 x3 x4 a sc) (c_v183 x1 x2 x3 x4 a sc) (c_v187 x1 x2 x3 x4 a sc) (c_v195 x1 x2 x3 x4 a sc) (c_v198 x1 x2 x3 x4 a sc) (c_v219 x1 x2 x3 x4 a sc)
def c_v231 (x1 : Vec F S72x512 .f32) (x2 : Vec F S896x512 .i32) (x3 : Vec F S56x512 .fp8e4m3) (x4 : Vec F S1x512 .f32) (a : Vec F S80x7168 .bf16) (sc : Vec F S72x128 .f32) : IVec S256x512 4 := k0_pay23 (c_v222 x1 x2 x3 x4 a sc)
def c_v235 (x1 : Vec F S72x512 .f32) (x2 : Vec F S896x512 .i32) (x3 : Vec F S56x512 .fp8e4m3) (x4 : Vec F S1x512 .f32) (a : Vec F S80x7168 .bf16) (sc : Vec F S72x128 .f32) : FVec F S128x512 .bf16 := k0_pay24 (c_v4 x1 x2 x3 x4 a sc)
def c_v243 (x1 : Vec F S72x512 .f32) (x2 : Vec F S896x512 .i32) (x3 : Vec F S56x512 .fp8e4m3) (x4 : Vec F S1x512 .f32) (a : Vec F S80x7168 .bf16) (sc : Vec F S72x128 .f32) : Vec F S80x256 .bf16 := View.ld a (Rect.unit (s := S80x7168) ![0, 2304] S80x256.size inb_S80x7168_S80x256_0_2304)
def c_v246 (x1 : Vec F S72x512 .f32) (x2 : Vec F S896x512 .i32) (x3 : Vec F S56x512 .fp8e4m3) (x4 : Vec F S1x512 .f32) (a : Vec F S80x7168 .bf16) (sc : Vec F S72x128 .f32) : Vec F S32x512 .i32 := View.ld x2 (Rect.unit (s := S896x512) ![320, 0] S32x512.size inb_S896x512_S32x512_320_0)
def c_v267 (x1 : Vec F S72x512 .f32) (x2 : Vec F S896x512 .i32) (x3 : Vec F S56x512 .fp8e4m3) (x4 : Vec F S1x512 .f32) (a : Vec F S80x7168 .bf16) (sc : Vec F S72x128 .f32) : Vec F S80x256 .bf16 := View.ld a (Rect.unit (s := S80x7168) ![0, 2560] S80x256.size inb_S80x7168_S80x256_0_2560)
def c_v270 (x1 : Vec F S72x512 .f32) (x2 : Vec F S896x512 .i32) (x3 : Vec F S56x512 .fp8e4m3) (x4 : Vec F S1x512 .f32) (a : Vec F S80x7168 .bf16) (sc : Vec F S72x128 .f32) : Vec F S32x512 .i32 := View.ld x2 (Rect.unit (s := S896x512) ![352, 0] S32x512.size inb_S896x512_S32x512_352_0)
def c_v269 (x1 : Vec F S72x512 .f32) (x2 : Vec F S896x512 .i32) (x3 : Vec F S56x512 .fp8e4m3) (x4 : Vec F S1x512 .f32) (a : Vec F S80x7168 .bf16) (sc : Vec F S72x128 .f32) : FVec F S80x512 .f32 := k0_pay25 (c_v4 x1 x2 x3 x4 a sc) (c_v221 x1 x2 x3 x4 a sc) (c_v231 x1 x2 x3 x4 a sc) (c_v235 x1 x2 x3 x4 a sc) (c_v243 x1 x2 x3 x4 a sc) (c_v246 x1 x2 x3 x4 a sc) (c_v267 x1 x2 x3 x4 a sc)
def c_v279 (x1 : Vec F S72x512 .f32) (x2 : Vec F S896x512 .i32) (x3 : Vec F S56x512 .fp8e4m3) (x4 : Vec F S1x512 .f32) (a : Vec F S80x7168 .bf16) (sc : Vec F S72x128 .f32) : IVec S256x512 4 := k0_pay26 (c_v270 x1 x2 x3 x4 a sc)
def c_v283 (x1 : Vec F S72x512 .f32) (x2 : Vec F S896x512 .i32) (x3 : Vec F S56x512 .fp8e4m3) (x4 : Vec F S1x512 .f32) (a : Vec F S80x7168 .bf16) (sc : Vec F S72x128 .f32) : FVec F S128x512 .bf16 := k0_pay27 (c_v4 x1 x2 x3 x4 a sc)
def c_v291 (x1 : Vec F S72x512 .f32) (x2 : Vec F S896x512 .i32) (x3 : Vec F S56x512 .fp8e4m3) (x4 : Vec F S1x512 .f32) (a : Vec F S80x7168 .bf16) (sc : Vec F S72x128 .f32) : Vec F S80x256 .bf16 := View.ld a (Rect.unit (s := S80x7168) ![0, 2816] S80x256.size inb_S80x7168_S80x256_0_2816)
def c_v294 (x1 : Vec F S72x512 .f32) (x2 : Vec F S896x512 .i32) (x3 : Vec F S56x512 .fp8e4m3) (x4 : Vec F S1x512 .f32) (a : Vec F S80x7168 .bf16) (sc : Vec F S72x128 .f32) : Vec F S32x512 .i32 := View.ld x2 (Rect.unit (s := S896x512) ![384, 0] S32x512.size inb_S896x512_S32x512_384_0)
def c_v315 (x1 : Vec F S72x512 .f32) (x2 : Vec F S896x512 .i32) (x3 : Vec F S56x512 .fp8e4m3) (x4 : Vec F S1x512 .f32) (a : Vec F S80x7168 .bf16) (sc : Vec F S72x128 .f32) : Vec F S80x256 .bf16 := View.ld a (Rect.unit (s := S80x7168) ![0, 3072] S80x256.size inb_S80x7168_S80x256_0_3072)
def c_v318 (x1 : Vec F S72x512 .f32) (x2 : Vec F S896x512 .i32) (x3 : Vec F S56x512 .fp8e4m3) (x4 : Vec F S1x512 .f32) (a : Vec F S80x7168 .bf16) (sc : Vec F S72x128 .f32) : Vec F S32x512 .i32 := View.ld x2 (Rect.unit (s := S896x512) ![416, 0] S32x512.size inb_S896x512_S32x512_416_0)
def c_v317 (x1 : Vec F S72x512 .f32) (x2 : Vec F S896x512 .i32) (x3 : Vec F S56x512 .fp8e4m3) (x4 : Vec F S1x512 .f32) (a : Vec F S80x7168 .bf16) (sc : Vec F S72x128 .f32) : FVec F S80x512 .f32 := k0_pay28 (c_v4 x1 x2 x3 x4 a sc) (c_v269 x1 x2 x3 x4 a sc) (c_v279 x1 x2 x3 x4 a sc) (c_v283 x1 x2 x3 x4 a sc) (c_v291 x1 x2 x3 x4 a sc) (c_v294 x1 x2 x3 x4 a sc) (c_v315 x1 x2 x3 x4 a sc)
def c_v327 (x1 : Vec F S72x512 .f32) (x2 : Vec F S896x512 .i32) (x3 : Vec F S56x512 .fp8e4m3) (x4 : Vec F S1x512 .f32) (a : Vec F S80x7168 .bf16) (sc : Vec F S72x128 .f32) : IVec S256x512 4 := k0_pay29 (c_v318 x1 x2 x3 x4 a sc)
def c_v331 (x1 : Vec F S72x512 .f32) (x2 : Vec F S896x512 .i32) (x3 : Vec F S56x512 .fp8e4m3) (x4 : Vec F S1x512 .f32) (a : Vec F S80x7168 .bf16) (sc : Vec F S72x128 .f32) : FVec F S128x512 .bf16 := k0_pay30 (c_v4 x1 x2 x3 x4 a sc)
def c_v339 (x1 : Vec F S72x512 .f32) (x2 : Vec F S896x512 .i32) (x3 : Vec F S56x512 .fp8e4m3) (x4 : Vec F S1x512 .f32) (a : Vec F S80x7168 .bf16) (sc : Vec F S72x128 .f32) : Vec F S80x256 .bf16 := View.ld a (Rect.unit (s := S80x7168) ![0, 3328] S80x256.size inb_S80x7168_S80x256_0_3328)
def c_v342 (x1 : Vec F S72x512 .f32) (x2 : Vec F S896x512 .i32) (x3 : Vec F S56x512 .fp8e4m3) (x4 : Vec F S1x512 .f32) (a : Vec F S80x7168 .bf16) (sc : Vec F S72x128 .f32) : Vec F S32x512 .i32 := View.ld x2 (Rect.unit (s := S896x512) ![448, 0] S32x512.size inb_S896x512_S32x512_448_0)
def c_v363 (x1 : Vec F S72x512 .f32) (x2 : Vec F S896x512 .i32) (x3 : Vec F S56x512 .fp8e4m3) (x4 : Vec F S1x512 .f32) (a : Vec F S80x7168 .bf16) (sc : Vec F S72x128 .f32) : Vec F S80x256 .bf16 := View.ld a (Rect.unit (s := S80x7168) ![0, 3584] S80x256.size inb_S80x7168_S80x256_0_3584)
def c_v366 (x1 : Vec F S72x512 .f32) (x2 : Vec F S896x512 .i32) (x3 : Vec F S56x512 .fp8e4m3) (x4 : Vec F S1x512 .f32) (a : Vec F S80x7168 .bf16) (sc : Vec F S72x128 .f32) : Vec F S32x512 .i32 := View.ld x2 (Rect.unit (s := S896x512) ![480, 0] S32x512.size inb_S896x512_S32x512_480_0)
def c_v365 (x1 : Vec F S72x512 .f32) (x2 : Vec F S896x512 .i32) (x3 : Vec F S56x512 .fp8e4m3) (x4 : Vec F S1x512 .f32) (a : Vec F S80x7168 .bf16) (sc : Vec F S72x128 .f32) : FVec F S80x512 .f32 := k0_pay31 (c_v4 x1 x2 x3 x4 a sc) (c_v317 x1 x2 x3 x4 a sc) (c_v327 x1 x2 x3 x4 a sc) (c_v331 x1 x2 x3 x4 a sc) (c_v339 x1 x2 x3 x4 a sc) (c_v342 x1 x2 x3 x4 a sc) (c_v363 x1 x2 x3 x4 a sc)
def c_v375 (x1 : Vec F S72x512 .f32) (x2 : Vec F S896x512 .i32) (x3 : Vec F S56x512 .fp8e4m3) (x4 : Vec F S1x512 .f32) (a : Vec F S80x7168 .bf16) (sc : Vec F S72x128 .f32) : IVec S256x512 4 := k0_pay32 (c_v366 x1 x2 x3 x4 a sc)
def c_v379 (x1 : Vec F S72x512 .f32) (x2 : Vec F S896x512 .i32) (x3 : Vec F S56x512 .fp8e4m3) (x4 : Vec F S1x512 .f32) (a : Vec F S80x7168 .bf16) (sc : Vec F S72x128 .f32) : FVec F S128x512 .bf16 := k0_pay33 (c_v4 x1 x2 x3 x4 a sc)
def c_v387 (x1 : Vec F S72x512 .f32) (x2 : Vec F S896x512 .i32) (x3 : Vec F S56x512 .fp8e4m3) (x4 : Vec F S1x512 .f32) (a : Vec F S80x7168 .bf16) (sc : Vec F S72x128 .f32) : Vec F S80x256 .bf16 := View.ld a (Rect.unit (s := S80x7168) ![0, 3840] S80x256.size inb_S80x7168_S80x256_0_3840)
def c_v390 (x1 : Vec F S72x512 .f32) (x2 : Vec F S896x512 .i32) (x3 : Vec F S56x512 .fp8e4m3) (x4 : Vec F S1x512 .f32) (a : Vec F S80x7168 .bf16) (sc : Vec F S72x128 .f32) : Vec F S32x512 .i32 := View.ld x2 (Rect.unit (s := S896x512) ![512, 0] S32x512.size inb_S896x512_S32x512_512_0)
def c_v411 (x1 : Vec F S72x512 .f32) (x2 : Vec F S896x512 .i32) (x3 : Vec F S56x512 .fp8e4m3) (x4 : Vec F S1x512 .f32) (a : Vec F S80x7168 .bf16) (sc : Vec F S72x128 .f32) : Vec F S80x256 .bf16 := View.ld a (Rect.unit (s := S80x7168) ![0, 4096] S80x256.size inb_S80x7168_S80x256_0_4096)
def c_v414 (x1 : Vec F S72x512 .f32) (x2 : Vec F S896x512 .i32) (x3 : Vec F S56x512 .fp8e4m3) (x4 : Vec F S1x512 .f32) (a : Vec F S80x7168 .bf16) (sc : Vec F S72x128 .f32) : Vec F S32x512 .i32 := View.ld x2 (Rect.unit (s := S896x512) ![544, 0] S32x512.size inb_S896x512_S32x512_544_0)
def c_v413 (x1 : Vec F S72x512 .f32) (x2 : Vec F S896x512 .i32) (x3 : Vec F S56x512 .fp8e4m3) (x4 : Vec F S1x512 .f32) (a : Vec F S80x7168 .bf16) (sc : Vec F S72x128 .f32) : FVec F S80x512 .f32 := k0_pay34 (c_v4 x1 x2 x3 x4 a sc) (c_v365 x1 x2 x3 x4 a sc) (c_v375 x1 x2 x3 x4 a sc) (c_v379 x1 x2 x3 x4 a sc) (c_v387 x1 x2 x3 x4 a sc) (c_v390 x1 x2 x3 x4 a sc) (c_v411 x1 x2 x3 x4 a sc)
def c_v423 (x1 : Vec F S72x512 .f32) (x2 : Vec F S896x512 .i32) (x3 : Vec F S56x512 .fp8e4m3) (x4 : Vec F S1x512 .f32) (a : Vec F S80x7168 .bf16) (sc : Vec F S72x128 .f32) : IVec S256x512 4 := k0_pay35 (c_v414 x1 x2 x3 x4 a sc)
def c_v427 (x1 : Vec F S72x512 .f32) (x2 : Vec F S896x512 .i32) (x3 : Vec F S56x512 .fp8e4m3) (x4 : Vec F S1x512 .f32) (a : Vec F S80x7168 .bf16) (sc : Vec F S72x128 .f32) : FVec F S128x512 .bf16 := k0_pay36 (c_v4 x1 x2 x3 x4 a sc)
def c_v435 (x1 : Vec F S72x512 .f32) (x2 : Vec F S896x512 .i32) (x3 : Vec F S56x512 .fp8e4m3) (x4 : Vec F S1x512 .f32) (a : Vec F S80x7168 .bf16) (sc : Vec F S72x128 .f32) : Vec F S80x256 .bf16 := View.ld a (Rect.unit (s := S80x7168) ![0, 4352] S80x256.size inb_S80x7168_S80x256_0_4352)
def c_v438 (x1 : Vec F S72x512 .f32) (x2 : Vec F S896x512 .i32) (x3 : Vec F S56x512 .fp8e4m3) (x4 : Vec F S1x512 .f32) (a : Vec F S80x7168 .bf16) (sc : Vec F S72x128 .f32) : Vec F S32x512 .i32 := View.ld x2 (Rect.unit (s := S896x512) ![576, 0] S32x512.size inb_S896x512_S32x512_576_0)
def c_v459 (x1 : Vec F S72x512 .f32) (x2 : Vec F S896x512 .i32) (x3 : Vec F S56x512 .fp8e4m3) (x4 : Vec F S1x512 .f32) (a : Vec F S80x7168 .bf16) (sc : Vec F S72x128 .f32) : Vec F S80x256 .bf16 := View.ld a (Rect.unit (s := S80x7168) ![0, 4608] S80x256.size inb_S80x7168_S80x256_0_4608)
def c_v462 (x1 : Vec F S72x512 .f32) (x2 : Vec F S896x512 .i32) (x3 : Vec F S56x512 .fp8e4m3) (x4 : Vec F S1x512 .f32) (a : Vec F S80x7168 .bf16) (sc : Vec F S72x128 .f32) : Vec F S32x512 .i32 := View.ld x2 (Rect.unit (s := S896x512) ![608, 0] S32x512.size inb_S896x512_S32x512_608_0)
def c_v461 (x1 : Vec F S72x512 .f32) (x2 : Vec F S896x512 .i32) (x3 : Vec F S56x512 .fp8e4m3) (x4 : Vec F S1x512 .f32) (a : Vec F S80x7168 .bf16) (sc : Vec F S72x128 .f32) : FVec F S80x512 .f32 := k0_pay37 (c_v4 x1 x2 x3 x4 a sc) (c_v413 x1 x2 x3 x4 a sc) (c_v423 x1 x2 x3 x4 a sc) (c_v427 x1 x2 x3 x4 a sc) (c_v435 x1 x2 x3 x4 a sc) (c_v438 x1 x2 x3 x4 a sc) (c_v459 x1 x2 x3 x4 a sc)
def c_v471 (x1 : Vec F S72x512 .f32) (x2 : Vec F S896x512 .i32) (x3 : Vec F S56x512 .fp8e4m3) (x4 : Vec F S1x512 .f32) (a : Vec F S80x7168 .bf16) (sc : Vec F S72x128 .f32) : IVec S256x512 4 := k0_pay38 (c_v462 x1 x2 x3 x4 a sc)
def c_v475 (x1 : Vec F S72x512 .f32) (x2 : Vec F S896x512 .i32) (x3 : Vec F S56x512 .fp8e4m3) (x4 : Vec F S1x512 .f32) (a : Vec F S80x7168 .bf16) (sc : Vec F S72x128 .f32) : FVec F S128x512 .bf16 := k0_pay39 (c_v4 x1 x2 x3 x4 a sc)
def c_v483 (x1 : Vec F S72x512 .f32) (x2 : Vec F S896x512 .i32) (x3 : Vec F S56x512 .fp8e4m3) (x4 : Vec F S1x512 .f32) (a : Vec F S80x7168 .bf16) (sc : Vec F S72x128 .f32) : Vec F S80x256 .bf16 := View.ld a (Rect.unit (s := S80x7168) ![0, 4864] S80x256.size inb_S80x7168_S80x256_0_4864)
def c_v486 (x1 : Vec F S72x512 .f32) (x2 : Vec F S896x512 .i32) (x3 : Vec F S56x512 .fp8e4m3) (x4 : Vec F S1x512 .f32) (a : Vec F S80x7168 .bf16) (sc : Vec F S72x128 .f32) : Vec F S32x512 .i32 := View.ld x2 (Rect.unit (s := S896x512) ![640, 0] S32x512.size inb_S896x512_S32x512_640_0)
def c_v507 (x1 : Vec F S72x512 .f32) (x2 : Vec F S896x512 .i32) (x3 : Vec F S56x512 .fp8e4m3) (x4 : Vec F S1x512 .f32) (a : Vec F S80x7168 .bf16) (sc : Vec F S72x128 .f32) : Vec F S80x256 .bf16 := View.ld a (Rect.unit (s := S80x7168) ![0, 5120] S80x256.size inb_S80x7168_S80x256_0_5120)
def c_v510 (x1 : Vec F S72x512 .f32) (x2 : Vec F S896x512 .i32) (x3 : Vec F S56x512 .fp8e4m3) (x4 : Vec F S1x512 .f32) (a : Vec F S80x7168 .bf16) (sc : Vec F S72x128 .f32) : Vec F S32x512 .i32 := View.ld x2 (Rect.unit (s := S896x512) ![672, 0] S32x512.size inb_S896x512_S32x512_672_0)
def c_v509 (x1 : Vec F S72x512 .f32) (x2 : Vec F S896x512 .i32) (x3 : Vec F S56x512 .fp8e4m3) (x4 : Vec F S1x512 .f32) (a : Vec F S80x7168 .bf16) (sc : Vec F S72x128 .f32) : FVec F S80x512 .f32 := k0_pay40 (c_v4 x1 x2 x3 x4 a sc) (c_v461 x1 x2 x3 x4 a sc) (c_v471 x1 x2 x3 x4 a sc) (c_v475 x1 x2 x3 x4 a sc) (c_v483 x1 x2 x3 x4 a sc) (c_v486 x1 x2 x3 x4 a sc) (c_v507 x1 x2 x3 x4 a sc)
def c_v519 (x1 : Vec F S72x512 .f32) (x2 : Vec F S896x512 .i32) (x3 : Vec F S56x512 .fp8e4m3) (x4 : Vec F S1x512 .f32) (a : Vec F S80x7168 .bf16) (sc : Vec F S72x128 .f32) : IVec S256x512 4 := k0_pay41 (c_v510 x1 x2 x3 x4 a sc)
def c_v523 (x1 : Vec F S72x512 .f32) (x2 : Vec F S896x512 .i32) (x3 : Vec F S56x512 .fp8e4m3) (x4 : Vec F S1x512 .f32) (a : Vec F S80x7168 .bf16) (sc : Vec F S72x128 .f32) : FVec F S128x512 .bf16 := k0_pay42 (c_v4 x1 x2 x3 x4 a sc)
def c_v531 (x1 : Vec F S72x512 .f32) (x2 : Vec F S896x512 .i32) (x3 : Vec F S56x512 .fp8e4m3) (x4 : Vec F S1x512 .f32) (a : Vec F S80x7168 .bf16) (sc : Vec F S72x128 .f32) : Vec F S80x256 .bf16 := View.ld a (Rect.unit (s := S80x7168) ![0, 5376] S80x256.size inb_S80x7168_S80x256_0_5376)
def c_v534 (x1 : Vec F S72x512 .f32) (x2 : Vec F S896x512 .i32) (x3 : Vec F S56x512 .fp8e4m3) (x4 : Vec F S1x512 .f32) (a : Vec F S80x7168 .bf16) (sc : Vec F S72x128 .f32) : Vec F S32x512 .i32 := View.ld x2 (Rect.unit (s := S896x512) ![704, 0] S32x512.size inb_S896x512_S32x512_704_0)
def c_v555 (x1 : Vec F S72x512 .f32) (x2 : Vec F S896x512 .i32) (x3 : Vec F S56x512 .fp8e4m3) (x4 : Vec F S1x512 .f32) (a : Vec F S80x7168 .bf16) (sc : Vec F S72x128 .f32) : Vec F S80x256 .bf16 := View.ld a (Rect.unit (s := S80x7168) ![0, 5632] S80x256.size inb_S80x7168_S80x256_0_5632)
def c_v558 (x1 : Vec F S72x512 .f32) (x2 : Vec F S896x512 .i32) (x3 : Vec F S56x512 .fp8e4m3) (x4 : Vec F S1x512 .f32) (a : Vec F S80x7168 .bf16) (sc : Vec F S72x128 .f32) : Vec F S32x512 .i32 := View.ld x2 (Rect.unit (s := S896x512) ![736, 0] S32x512.size inb_S896x512_S32x512_736_0)
def c_v557 (x1 : Vec F S72x512 .f32) (x2 : Vec F S896x512 .i32) (x3 : Vec F S56x512 .fp8e4m3) (x4 : Vec F S1x512 .f32) (a : Vec F S80x7168 .bf16) (sc : Vec F S72x128 .f32) : FVec F S80x512 .f32 := k0_pay43 (c_v4 x1 x2 x3 x4 a sc) (c_v509 x1 x2 x3 x4 a sc) (c_v519 x1 x2 x3 x4 a sc) (c_v523 x1 x2 x3 x4 a sc) (c_v531 x1 x2 x3 x4 a sc) (c_v534 x1 x2 x3 x4 a sc) (c_v555 x1 x2 x3 x4 a sc)
def c_v567 (x1 : Vec F S72x512 .f32) (x2 : Vec F S896x512 .i32) (x3 : Vec F S56x512 .fp8e4m3) (x4 : Vec F S1x512 .f32) (a : Vec F S80x7168 .bf16) (sc : Vec F S72x128 .f32) : IVec S256x512 4 := k0_pay44 (c_v558 x1 x2 x3 x4 a sc)
def c_v571 (x1 : Vec F S72x512 .f32) (x2 : Vec F S896x512 .i32) (x3 : Vec F S56x512 .fp8e4m3) (x4 : Vec F S1x512 .f32) (a : Vec F S80x7168 .bf16) (sc : Vec F S72x128 .f32) : FVec F S128x512 .bf16 := k0_pay45 (c_v4 x1 x2 x3 x4 a sc)
def c_v579 (x1 : Vec F S72x512 .f32) (x2 : Vec F S896x512 .i32) (x3 : Vec F S56x512 .fp8e4m3) (x4 : Vec F S1x512 .f32) (a : Vec F S80x7168 .bf16) (sc : Vec F S72x128 .f32) : Vec F S80x256 .bf16 := View.ld a (Rect.unit (s := S80x7168) ![0, 5888] S80x256.size inb_S80x7168_S80x256_0_5888)
def c_v582 (x1 : Vec F S72x512 .f32) (x2 : Vec F S896x512 .i32) (x3 : Vec F S56x512 .fp8e4m3) (x4 : Vec F S1x512 .f32) (a : Vec F S80x7168 .bf16) (sc : Vec F S72x128 .f32) : Vec F S32x512 .i32 := View.ld x2 (Rect.unit (s := S896x512) ![768, 0] S32x512.size inb_S896x512_S32x512_768_0)
def c_v603 (x1 : Vec F S72x512 .f32) (x2 : Vec F S896x512 .i32) (x3 : Vec F S56x512 .fp8e4m3) (x4 : Vec F S1x512 .f32) (a : Vec F S80x7168 .bf16) (sc : Vec F S72x128 .f32) : Vec F S80x256 .bf16 := View.ld a (Rect.unit (s := S80x7168) ![0, 6144] S80x256.size inb_S80x7168_S80x256_0_6144)
def c_v606 (x1 : Vec F S72x512 .f32) (x2 : Vec F S896x512 .i32) (x3 : Vec F S56x512 .fp8e4m3) (x4 : Vec F S1x512 .f32) (a : Vec F S80x7168 .bf16) (sc : Vec F S72x128 .f32) : Vec F S32x512 .i32 := View.ld x2 (Rect.unit (s := S896x512) ![800, 0] S32x512.size inb_S896x512_S32x512_800_0)
def c_v605 (x1 : Vec F S72x512 .f32) (x2 : Vec F S896x512 .i32) (x3 : Vec F S56x512 .fp8e4m3) (x4 : Vec F S1x512 .f32) (a : Vec F S80x7168 .bf16) (sc : Vec F S72x128 .f32) : FVec F S80x512 .f32 := k0_pay46 (c_v4 x1 x2 x3 x4 a sc) (c_v557 x1 x2 x3 x4 a sc) (c_v567 x1 x2 x3 x4 a sc) (c_v571 x1 x2 x3 x4 a sc) (c_v579 x1 x2 x3 x4 a sc) (c_v582 x1 x2 x3 x4 a sc) (c_v603 x1 x2 x3 x4 a sc)
def c_v615 (x1 : Vec F S72x512 .f32) (x2 : Vec F S896x512 .i32) (x3 : Vec F S56x512 .fp8e4m3) (x4 : Vec F S1x512 .f32) (a : Vec F S80x7168 .bf16) (sc : Vec F S72x128 .f32) : IVec S256x512 4 := k0_pay47 (c_v606 x1 x2 x3 x4 a sc)
def c_v619 (x1 : Vec F S72x512 .f32) (x2 : Vec F S896x512 .i32) (x3 : Vec F S56x512 .fp8e4m3) (x4 : Vec F S1x512 .f32) (a : Vec F S80x7168 .bf16) (sc : Vec F S72x128 .f32) : FVec F S128x512 .bf16 := k0_pay48 (c_v4 x1 x2 x3 x4 a sc)
def c_v627 (x1 : Vec F S72x512 .f32) (x2 : Vec F S896x512 .i32) (x3 : Vec F S56x512 .fp8e4m3) (x4 : Vec F S1x512 .f32) (a : Vec F S80x7168 .bf16) (sc : Vec F S72x128 .f32) : Vec F S80x256 .bf16 := View.ld a (Rect.unit (s := S80x7168) ![0, 6400] S80x256.size inb_S80x7168_S80x256_0_6400)
def c_v630 (x1 : Vec F S72x512 .f32) (x2 : Vec F S896x512 .i32) (x3 : Vec F S56x512 .fp8e4m3) (x4 : Vec F S1x512 .f32) (a : Vec F S80x7168 .bf16) (sc : Vec F S72x128 .f32) : Vec F S32x512 .i32 := View.ld x2 (Rect.unit (s := S896x512) ![832, 0] S32x512.size inb_S896x512_S32x512_832_0)
def c_v651 (x1 : Vec F S72x512 .f32) (x2 : Vec F S896x512 .i32) (x3 : Vec F S56x512 .fp8e4m3) (x4 : Vec F S1x512 .f32) (a : Vec F S80x7168 .bf16) (sc : Vec F S72x128 .f32) : Vec F S80x256 .bf16 := View.ld a (Rect.unit (s := S80x7168) ![0, 6656] S80x256.size inb_S80x7168_S80x256_0_6656)
def c_v654 (x1 : Vec F S72x512 .f32) (x2 : Vec F S896x512 .i32) (x3 : Vec F S56x512 .fp8e4m3) (x4 : Vec F S1x512 .f32) (a : Vec F S80x7168 .bf16) (sc : Vec F S72x128 .f32) : Vec F S32x512 .i32 := View.ld x2 (Rect.unit (s := S896x512) ![864, 0] S32x512.size inb_S896x512_S32x512_864_0)
def c_v653 (x1 : Vec F S72x512 .f32) (x2 : Vec F S896x512 .i32) (x3 : Vec F S56x512 .fp8e4m3) (x4 : Vec F S1x512 .f32) (a : Vec F S80x7168 .bf16) (sc : Vec F S72x128 .f32) : FVec F S80x512 .f32 := k0_pay49 (c_v4 x1 x2 x3 x4 a sc) (c_v605 x1 x2 x3 x4 a sc) (c_v615 x1 x2 x3 x4 a sc) (c_v619 x1 x2 x3 x4 a sc) (c_v627 x1 x2 x3 x4 a sc) (c_v630 x1 x2 x3 x4 a sc) (c_v651 x1 x2 x3 x4 a sc)
def c_v663 (x1 : Vec F S72x512 .f32) (x2 : Vec F S896x512 .i32) (x3 : Vec F S56x512 .fp8e4m3) (x4 : Vec F S1x512 .f32) (a : Vec F S80x7168 .bf16) (sc : Vec F S72x128 .f32) : IVec S256x512 4 := k0_pay50 (c_v654 x1 x2 x3 x4 a sc)
def c_v667 (x1 : Vec F S72x512 .f32) (x2 : Vec F S896x512 .i32) (x3 : Vec F S56x512 .fp8e4m3) (x4 : Vec F S1x512 .f32) (a : Vec F S80x7168 .bf16) (sc : Vec F S72x128 .f32) : FVec F S128x512 .bf16 := k0_pay51 (c_v4 x1 x2 x3 x4 a sc)
def c_v675 (x1 : Vec F S72x512 .f32) (x2 : Vec F S896x512 .i32) (x3 : Vec F S56x512 .fp8e4m3) (x4 : Vec F S1x512 .f32) (a : Vec F S80x7168 .bf16) (sc : Vec F S72x128 .f32) : Vec F S80x256 .bf16 := View.ld a (Rect.unit (s := S80x7168) ![0, 6912] S80x256.size inb_S80x7168_S80x256_0_6912)
def c_v679 (x1 : Vec F S72x512 .f32) (x2 : Vec F S896x512 .i32) (x3 : Vec F S56x512 .fp8e4m3) (x4 : Vec F S1x512 .f32) (a : Vec F S80x7168 .bf16) (sc : Vec F S72x128 .f32) : Vec F S72x512 .f32 := View.ld x1 (Rect.unit (s := S72x512) ![0, 0] S72x512.size inb_S72x512_S72x512_0_0)
def c_v680 (x1 : Vec F S72x512 .f32) (x2 : Vec F S896x512 .i32) (x3 : Vec F S56x512 .fp8e4m3) (x4 : Vec F S1x512 .f32) (a : Vec F S80x7168 .bf16) (sc : Vec F S72x128 .f32) : Vec F S72x1 .f32 := View.ld sc (Rect.unit (s := S72x128) ![0, 0] S72x1.size inb_S72x128_S72x1_0_0)
def c_v683 (x1 : Vec F S72x512 .f32) (x2 : Vec F S896x512 .i32) (x3 : Vec F S56x512 .fp8e4m3) (x4 : Vec F S1x512 .f32) (a : Vec F S80x7168 .bf16) (sc : Vec F S72x128 .f32) : Vec F S1x512 .f32 := View.ld x4 (Rect.unit (s := S1x512) ![0, 0] S1x512.size inb_S1x512_S1x512_0_0)
/-- The block of the result the body stores, from the blocks it reads and the two scratch buffers. -/
def yB (x1 : Vec F S72x512 .f32) (x2 : Vec F S896x512 .i32) (x3 : Vec F S56x512 .fp8e4m3) (x4 : Vec F S1x512 .f32) (a : Vec F S80x7168 .bf16) (sc : Vec F S72x128 .f32) : Vec F S72x512 .bf16 := k0_pay1 (c_v4 x1 x2 x3 x4 a sc) (c_v653 x1 x2 x3 x4 a sc) (c_v663 x1 x2 x3 x4 a sc) (c_v667 x1 x2 x3 x4 a sc) (c_v675 x1 x2 x3 x4 a sc) (c_v679 x1 x2 x3 x4 a sc) (c_v680 x1 x2 x3 x4 a sc) (c_v683 x1 x2 x3 x4 a sc)
/-- The one store of the result block covers it. -/
theorem cover_y (p : Vec F S72x512 .bf16) (y : S72x512.Idx) :
    ∃ pc ∈ ([⟨Rect.unit (s := S72x512) ![0, 0] S72x512.size inb_S72x512_S72x512_0_0, p⟩] : List (View.Piece (Elt F) S72x512 .bf16)), y ∈ pc.1.set :=
  View.cover_of_tiled [⟨Rect.unit (s := S72x512) ![0, 0] S72x512.size inb_S72x512_S72x512_0_0, p⟩] S72x512.size (by rfl) y
def b_v690 (x0 : Vec F S72x7168 .f32) : Vec F S72x7168 .f32 := View.ld x0 (Rect.unit (s := S72x7168) ![0, 0] S72x7168.size inb_S72x7168_S72x7168_0_0)
/-- What the first point leaves in `arg7`. -/
def q_c3 (x0 : Vec F S72x7168 .f32) : Vec F S72x7168 .fp8e4m3 := View.canon [⟨Rect.unit (s := S72x7168) ![0, 0] S72x7168.size inb_S72x7168_S72x7168_0_0, k0_pay3 (b_v690 x0)⟩]
/-- The stores of the first point into `arg7` cover it. -/
theorem cover_c3 (p0 : Vec F S72x7168 .fp8e4m3) (y : S72x7168.Idx) :
    ∃ pc ∈ ([⟨Rect.unit (s := S72x7168) ![0, 0] S72x7168.size inb_S72x7168_S72x7168_0_0, p0⟩] : List (View.Piece (Elt F) S72x7168 .fp8e4m3)), y ∈ pc.1.set :=
  View.cover_of_tiled [⟨Rect.unit (s := S72x7168) ![0, 0] S72x7168.size inb_S72x7168_S72x7168_0_0, p0⟩] S72x7168.size (by rfl) y
/-- What the first point leaves in `arg8`. -/
def q_s3 (x0 : Vec F S72x7168 .f32) : Vec F S1x72 .f32 := View.canon [⟨Rect.unit (s := S1x72) ![0, 0] S1x72.size inb_S1x72_S1x72_0_0, k0_pay8 (b_v690 x0)⟩]
/-- The stores of the first point into `arg8` cover it. -/
theorem cover_s3 (p0 : Vec F S1x72 .f32) (y : S1x72.Idx) :
    ∃ pc ∈ ([⟨Rect.unit (s := S1x72) ![0, 0] S1x72.size inb_S1x72_S1x72_0_0, p0⟩] : List (View.Piece (Elt F) S1x72 .f32)), y ∈ pc.1.set :=
  View.cover_of_tiled [⟨Rect.unit (s := S1x72) ![0, 0] S1x72.size inb_S1x72_S1x72_0_0, p0⟩] S1x72.size (by rfl) y
/-- What the first point leaves in `arg9`. -/
def q_a (x0 : Vec F S72x7168 .f32) : Vec F S80x7168 .bf16 := View.canon [⟨Rect.unit (s := S80x7168) ![72, 0] S8x7168.size inb_S80x7168_S8x7168_72_0, k0_pay5 (F := F)⟩, ⟨Rect.unit (s := S80x7168) ![0, 0] S72x7168.size inb_S80x7168_S72x7168_0_0, k0_pay4 (b_v690 x0)⟩]
/-- The stores of the first point into `arg9` cover it. -/
theorem cover_a (p0 : Vec F S8x7168 .bf16) (p1 : Vec F S72x7168 .bf16) (y : S80x7168.Idx) :
    ∃ pc ∈ ([⟨Rect.unit (s := S80x7168) ![72, 0] S8x7168.size inb_S80x7168_S8x7168_72_0, p0⟩, ⟨Rect.unit (s := S80x7168) ![0, 0] S72x7168.size inb_S80x7168_S72x7168_0_0, p1⟩] : List (View.Piece (Elt F) S80x7168 .bf16)), y ∈ pc.1.set :=
  by
  by_cases h : (y 0).val < 72
  · refine ⟨_, List.mem_cons_of_mem _ (List.mem_singleton_self _), ?_⟩
    refine (Rect.mem_set_unit (inb := inb_S80x7168_S72x7168_0_0)).mpr fun a => ?_
    match a with
    | ⟨0, _⟩ => exact ⟨Nat.zero_le _, by show (y 0).val < 0 + 72; omega⟩
    | ⟨1, _⟩ => exact ⟨Nat.zero_le _, Nat.lt_of_lt_of_eq (y 1).isLt (Nat.zero_add _).symm⟩
  · refine ⟨_, List.mem_cons_self .., ?_⟩
    refine (Rect.mem_set_unit (inb := inb_S80x7168_S8x7168_72_0)).mpr fun a => ?_
    match a with
    | ⟨0, _⟩ => exact ⟨by show 72 ≤ (y 0).val; omega, by have : (y 0).val < 80 := (y 0).isLt; show (y 0).val < 72 + 8; omega⟩
    | ⟨1, _⟩ => exact ⟨Nat.zero_le _, Nat.lt_of_lt_of_eq (y 1).isLt (Nat.zero_add _).symm⟩
/-- What the first point leaves in `arg10`. -/
def q_sc (x0 : Vec F S72x7168 .f32) : Vec F S72x128 .f32 := View.canon [⟨Rect.unit (s := S72x128) ![0, 0] S72x128.size inb_S72x128_S72x128_0_0, k0_pay7 (b_v690 x0)⟩]
/-- The stores of the first point into `arg10` cover it. -/
theorem cover_sc (p0 : Vec F S72x128 .f32) (y : S72x128.Idx) :
    ∃ pc ∈ ([⟨Rect.unit (s := S72x128) ![0, 0] S72x128.size inb_S72x128_S72x128_0_0, p0⟩] : List (View.Piece (Elt F) S72x128 .f32)), y ∈ pc.1.set :=
  View.cover_of_tiled [⟨Rect.unit (s := S72x128) ![0, 0] S72x128.size inb_S72x128_S72x128_0_0, p0⟩] S72x128.size (by rfl) y

end Cert.DownIdeal.Run

end
-- ==== Proof.Down.RunB.lean ====
/- The Down kernel's body at a later point. -/
module

public import proofs.«01_k».proof.Proof.Down.Chain

@[expose] public section

set_option maxRecDepth 16384

noncomputable section

namespace Cert.DownIdeal.Run
open Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a later point: the scratch, the codes and the scales are kept, and the block of the result is
    computed from the scratch. -/
theorem kernelRun0_B (c : Dev nD) (i : grid0.Coords) (arg1 : Memref sig .tc .vmem S72x7168 .f32) (harg1 : arg1.IsWhole) (arg2 : Memref sig .tc .vmem S72x512 .f32) (harg2 : arg2.IsWhole) (arg3 : Memref sig .tc .vmem S896x512 .i32) (harg3 : arg3.IsWhole) (arg4 : Memref sig .tc .vmem S56x512 .fp8e4m3) (harg4 : arg4.IsWhole) (arg5 : Memref sig .tc .vmem S1x512 .f32) (harg5 : arg5.IsWhole) (arg6 : Memref sig .tc .vmem S72x512 .bf16) (harg6 : arg6.IsWhole) (arg7 : Memref sig .tc .vmem S72x7168 .fp8e4m3) (harg7 : arg7.IsWhole) (arg8 : Memref sig .tc .vmem S1x72 .f32) (harg8 : arg8.IsWhole) (arg9 : Memref sig .tc .vmem S80x7168 .bf16) (harg9 : arg9.IsWhole) (arg10 : Memref sig .tc .vmem S72x128 .f32) (harg10 : arg10.IsWhole) (hc0 : ¬cond0_0 i)
    (x0 : Vec F S72x7168 .f32) (x1 : Vec F S72x512 .f32) (x2 : Vec F S896x512 .i32) (x3 : Vec F S56x512 .fp8e4m3) (x4 : Vec F S1x512 .f32) (c3 : Vec F S72x7168 .fp8e4m3) (s3 : Vec F S1x72 .f32) (a : Vec F S80x7168 .bf16) (sc : Vec F S72x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare c3 ∗ owns (c : Thread nD τ) arg8 fullShare s3 ∗ owns (c : Thread nD τ) arg9 fullShare a ∗ owns (c : Thread nD τ) arg10 fullShare sc
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (yB x1 x2 x3 x4 a sc) ∗ owns (c : Thread nD τ) arg7 fullShare c3 ∗ owns (c : Thread nD τ) arg8 fullShare s3 ∗ owns (c : Thread nD τ) arg9 fullShare a ∗ owns (c : Thread nD τ) arg10 fullShare sc) -∗ K ⟨⟩))
          ⊢ wp frame (wpE (defs₀ (F := F)) Variants.none c none) E (cc0_down i arg1 harg1 arg2 harg2 arg3 harg3 arg4 harg4 arg5 harg5 arg6 harg6 arg7 harg7 arg8 harg8 arg9 harg9 arg10 harg10) K := by
    intro E K
    simp only [cc0_down_eq_skeleton]; unfold cc0_down_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, ⟨%fs1, %hfs1, HS1⟩, Hk⟩
    subst hf0 hf1 hf2 hf3 hf4 hf6 hf7 hfs0 hfs1
    sl_exec (disch := first | sl_exact hc0)
    sl_step
    iapply Hk
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; exact (View.read_writes_eq_canon _ _ _ (cover_y _)).trans (View.canon_unit_zero off0 _ _)
    isplitl [H6]
    · iexists _; isplitr; swap; · iexact H6
      ipureintro; rfl
    isplitl [H7]
    · iexists _; isplitr; swap; · iexact H7
      ipureintro; rfl
    isplitl [HS0]
    · iexists _; isplitr; swap; · iexact HS0
      ipureintro; rfl
    iexists _; isplitr; swap; · iexact HS1
    ipureintro; rfl

end Cert.DownIdeal.Run

end
-- ==== Proof.Down.RunA.lean ====
/- The Down kernel's body at the first point. -/
module

public import proofs.«01_k».proof.Proof.Down.RunB

@[expose] public section

set_option maxRecDepth 16384

noncomputable section

namespace Cert.DownIdeal.Run
open Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the first point: it stores the codes and the scales, fills the scratch, and computes the block of
    the result from it. -/
theorem kernelRun0_A (c : Dev nD) (i : grid0.Coords) (arg1 : Memref sig .tc .vmem S72x7168 .f32) (harg1 : arg1.IsWhole) (arg2 : Memref sig .tc .vmem S72x512 .f32) (harg2 : arg2.IsWhole) (arg3 : Memref sig .tc .vmem S896x512 .i32) (harg3 : arg3.IsWhole) (arg4 : Memref sig .tc .vmem S56x512 .fp8e4m3) (harg4 : arg4.IsWhole) (arg5 : Memref sig .tc .vmem S1x512 .f32) (harg5 : arg5.IsWhole) (arg6 : Memref sig .tc .vmem S72x512 .bf16) (harg6 : arg6.IsWhole) (arg7 : Memref sig .tc .vmem S72x7168 .fp8e4m3) (harg7 : arg7.IsWhole) (arg8 : Memref sig .tc .vmem S1x72 .f32) (harg8 : arg8.IsWhole) (arg9 : Memref sig .tc .vmem S80x7168 .bf16) (harg9 : arg9.IsWhole) (arg10 : Memref sig .tc .vmem S72x128 .f32) (harg10 : arg10.IsWhole) (hc0 : cond0_0 i)
    (x0 : Vec F S72x7168 .f32) (x1 : Vec F S72x512 .f32) (x2 : Vec F S896x512 .i32) (x3 : Vec F S56x512 .fp8e4m3) (x4 : Vec F S1x512 .f32)  :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (yB x1 x2 x3 x4 (q_a x0) (q_sc x0)) ∗ owns (c : Thread nD τ) arg7 fullShare (q_c3 x0) ∗ owns (c : Thread nD τ) arg8 fullShare (q_s3 x0) ∗ owns (c : Thread nD τ) arg9 fullShare (q_a x0) ∗ owns (c : Thread nD τ) arg10 fullShare (q_sc x0)) -∗ K ⟨⟩))
          ⊢ wp frame (wpE (defs₀ (F := F)) Variants.none c none) E (cc0_down i arg1 harg1 arg2 harg2 arg3 harg3 arg4 harg4 arg5 harg5 arg6 harg6 arg7 harg7 arg8 harg8 arg9 harg9 arg10 harg10) K := by
    intro E K
    simp only [cc0_down_eq_skeleton]; unfold cc0_down_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, Hk⟩
    subst hf0 hf1 hf2 hf3 hf4
    sl_exec (disch := first | sl_exact hc0)
    sl_step
    iapply Hk
    have h_v123 : kernelRun0_A.sl.v123 c arg1 arg9 f0 = c_v123 (View.read (Elt F) arg2.view f1) (View.read (Elt F) arg3.view f2) (View.read (Elt F) arg4.view f3) (View.read (Elt F) arg5.view f4) (q_a (View.read (Elt F) arg1.view f0)) (q_sc (View.read (Elt F) arg1.view f0)) := by
      delta kernelRun0_A.sl.v123 kernelRun0_A.sl.HS0_2 kernelRun0_A.sl.HS1_1 kernelRun0_A.sl.v147 kernelRun0_A.sl.v171 kernelRun0_A.sl.v195 kernelRun0_A.sl.v219 kernelRun0_A.sl.v243 kernelRun0_A.sl.v267 kernelRun0_A.sl.v27 kernelRun0_A.sl.v291 kernelRun0_A.sl.v315 kernelRun0_A.sl.v339 kernelRun0_A.sl.v363 kernelRun0_A.sl.v387 kernelRun0_A.sl.v411 kernelRun0_A.sl.v435 kernelRun0_A.sl.v459 kernelRun0_A.sl.v483 kernelRun0_A.sl.v507 kernelRun0_A.sl.v51 kernelRun0_A.sl.v531 kernelRun0_A.sl.v555 kernelRun0_A.sl.v579 kernelRun0_A.sl.v603 kernelRun0_A.sl.v627 kernelRun0_A.sl.v651 kernelRun0_A.sl.v675 kernelRun0_A.sl.v680 kernelRun0_A.sl.v75 kernelRun0_A.sl.v99; rw [View.readCov_eq_canon']; delta c_v123 View.ld q_a; rfl
    have h_v147 : kernelRun0_A.sl.v147 c arg1 arg9 f0 = c_v147 (View.read (Elt F) arg2.view f1) (View.read (Elt F) arg3.view f2) (View.read (Elt F) arg4.view f3) (View.read (Elt F) arg5.view f4) (q_a (View.read (Elt F) arg1.view f0)) (q_sc (View.read (Elt F) arg1.view f0)) := by
      delta kernelRun0_A.sl.v147 kernelRun0_A.sl.HS0_2 kernelRun0_A.sl.HS1_1 kernelRun0_A.sl.v171 kernelRun0_A.sl.v195 kernelRun0_A.sl.v219 kernelRun0_A.sl.v243 kernelRun0_A.sl.v267 kernelRun0_A.sl.v27 kernelRun0_A.sl.v291 kernelRun0_A.sl.v315 kernelRun0_A.sl.v339 kernelRun0_A.sl.v363 kernelRun0_A.sl.v387 kernelRun0_A.sl.v411 kernelRun0_A.sl.v435 kernelRun0_A.sl.v459 kernelRun0_A.sl.v483 kernelRun0_A.sl.v507 kernelRun0_A.sl.v51 kernelRun0_A.sl.v531 kernelRun0_A.sl.v555 kernelRun0_A.sl.v579 kernelRun0_A.sl.v603 kernelRun0_A.sl.v627 kernelRun0_A.sl.v651 kernelRun0_A.sl.v675 kernelRun0_A.sl.v680 kernelRun0_A.sl.v75 kernelRun0_A.sl.v99; rw [View.readCov_eq_canon']; delta c_v147 View.ld q_a; rfl
    have h_v171 : kernelRun0_A.sl.v171 c arg1 arg9 f0 = c_v171 (View.read (Elt F) arg2.view f1) (View.read (Elt F) arg3.view f2) (View.read (Elt F) arg4.view f3) (View.read (Elt F) arg5.view f4) (q_a (View.read (Elt F) arg1.view f0)) (q_sc (View.read (Elt F) arg1.view f0)) := by
      delta kernelRun0_A.sl.v171 kernelRun0_A.sl.HS0_2 kernelRun0_A.sl.HS1_1 kernelRun0_A.sl.v195 kernelRun0_A.sl.v219 kernelRun0_A.sl.v243 kernelRun0_A.sl.v267 kernelRun0_A.sl.v27 kernelRun0_A.sl.v291 kernelRun0_A.sl.v315 kernelRun0_A.sl.v339 kernelRun0_A.sl.v363 kernelRun0_A.sl.v387 kernelRun0_A.sl.v411 kernelRun0_A.sl.v435 kernelRun0_A.sl.v459 kernelRun0_A.sl.v483 kernelRun0_A.sl.v507 kernelRun0_A.sl.v51 kernelRun0_A.sl.v531 kernelRun0_A.sl.v555 kernelRun0_A.sl.v579 kernelRun0_A.sl.v603 kernelRun0_A.sl.v627 kernelRun0_A.sl.v651 kernelRun0_A.sl.v675 kernelRun0_A.sl.v680 kernelRun0_A.sl.v75 kernelRun0_A.sl.v99; rw [View.readCov_eq_canon']; delta c_v171 View.ld q_a; rfl
    have h_v195 : kernelRun0_A.sl.v195 c arg1 arg9 f0 = c_v195 (View.read (Elt F) arg2.view f1) (View.read (Elt F) arg3.view f2) (View.read (Elt F) arg4.view f3) (View.read (Elt F) arg5.view f4) (q_a (View.read (Elt F) arg1.view f0)) (q_sc (View.read (Elt F) arg1.view f0)) := by
      delta kernelRun0_A.sl.v195 kernelRun0_A.sl.HS0_2 kernelRun0_A.sl.HS1_1 kernelRun0_A.sl.v219 kernelRun0_A.sl.v243 kernelRun0_A.sl.v267 kernelRun0_A.sl.v27 kernelRun0_A.sl.v291 kernelRun0_A.sl.v315 kernelRun0_A.sl.v339 kernelRun0_A.sl.v363 kernelRun0_A.sl.v387 kernelRun0_A.sl.v411 kernelRun0_A.sl.v435 kernelRun0_A.sl.v459 kernelRun0_A.sl.v483 kernelRun0_A.sl.v507 kernelRun0_A.sl.v51 kernelRun0_A.sl.v531 kernelRun0_A.sl.v555 kernelRun0_A.sl.v579 kernelRun0_A.sl.v603 kernelRun0_A.sl.v627 kernelRun0_A.sl.v651 kernelRun0_A.sl.v675 kernelRun0_A.sl.v680 kernelRun0_A.sl.v75 kernelRun0_A.sl.v99; rw [View.readCov_eq_canon']; delta c_v195 View.ld q_a; rfl
    have h_v219 : kernelRun0_A.sl.v219 c arg1 arg9 f0 = c_v219 (View.read (Elt F) arg2.view f1) (View.read (Elt F) arg3.view f2) (View.read (Elt F) arg4.view f3) (View.read (Elt F) arg5.view f4) (q_a (View.read (Elt F) arg1.view f0)) (q_sc (View.read (Elt F) arg1.view f0)) := by
      delta kernelRun0_A.sl.v219 kernelRun0_A.sl.HS0_2 kernelRun0_A.sl.HS1_1 kernelRun0_A.sl.v243 kernelRun0_A.sl.v267 kernelRun0_A.sl.v27 kernelRun0_A.sl.v291 kernelRun0_A.sl.v315 kernelRun0_A.sl.v339 kernelRun0_A.sl.v363 kernelRun0_A.sl.v387 kernelRun0_A.sl.v411 kernelRun0_A.sl.v435 kernelRun0_A.sl.v459 kernelRun0_A.sl.v483 kernelRun0_A.sl.v507 kernelRun0_A.sl.v51 kernelRun0_A.sl.v531 kernelRun0_A.sl.v555 kernelRun0_A.sl.v579 kernelRun0_A.sl.v603 kernelRun0_A.sl.v627 kernelRun0_A.sl.v651 kernelRun0_A.sl.v675 kernelRun0_A.sl.v680 kernelRun0_A.sl.v75 kernelRun0_A.sl.v99; rw [View.readCov_eq_canon']; delta c_v219 View.ld q_a; rfl
    have h_v243 : kernelRun0_A.sl.v243 c arg1 arg9 f0 = c_v243 (View.read (Elt F) arg2.view f1) (View.read (Elt F) arg3.view f2) (View.read (Elt F) arg4.view f3) (View.read (Elt F) arg5.view f4) (q_a (View.read (Elt F) arg1.view f0)) (q_sc (View.read (Elt F) arg1.view f0)) := by
      delta kernelRun0_A.sl.v243 kernelRun0_A.sl.HS0_2 kernelRun0_A.sl.HS1_1 kernelRun0_A.sl.v267 kernelRun0_A.sl.v27 kernelRun0_A.sl.v291 kernelRun0_A.sl.v315 kernelRun0_A.sl.v339 kernelRun0_A.sl.v363 kernelRun0_A.sl.v387 kernelRun0_A.sl.v411 kernelRun0_A.sl.v435 kernelRun0_A.sl.v459 kernelRun0_A.sl.v483 kernelRun0_A.sl.v507 kernelRun0_A.sl.v51 kernelRun0_A.sl.v531 kernelRun0_A.sl.v555 kernelRun0_A.sl.v579 kernelRun0_A.sl.v603 kernelRun0_A.sl.v627 kernelRun0_A.sl.v651 kernelRun0_A.sl.v675 kernelRun0_A.sl.v680 kernelRun0_A.sl.v75 kernelRun0_A.sl.v99; rw [View.readCov_eq_canon']; delta c_v243 View.ld q_a; rfl
    have h_v267 : kernelRun0_A.sl.v267 c arg1 arg9 f0 = c_v267 (View.read (Elt F) arg2.view f1) (View.read (Elt F) arg3.view f2) (View.read (Elt F) arg4.view f3) (View.read (Elt F) arg5.view f4) (q_a (View.read (Elt F) arg1.view f0)) (q_sc (View.read (Elt F) arg1.view f0)) := by
      delta kernelRun0_A.sl.v267 kernelRun0_A.sl.HS0_2 kernelRun0_A.sl.HS1_1 kernelRun0_A.sl.v27 kernelRun0_A.sl.v291 kernelRun0_A.sl.v315 kernelRun0_A.sl.v339 kernelRun0_A.sl.v363 kernelRun0_A.sl.v387 kernelRun0_A.sl.v411 kernelRun0_A.sl.v435 kernelRun0_A.sl.v459 kernelRun0_A.sl.v483 kernelRun0_A.sl.v507 kernelRun0_A.sl.v51 kernelRun0_A.sl.v531 kernelRun0_A.sl.v555 kernelRun0_A.sl.v579 kernelRun0_A.sl.v603 kernelRun0_A.sl.v627 kernelRun0_A.sl.v651 kernelRun0_A.sl.v675 kernelRun0_A.sl.v680 kernelRun0_A.sl.v75 kernelRun0_A.sl.v99; rw [View.readCov_eq_canon']; delta c_v267 View.ld q_a; rfl
    have h_v27 : kernelRun0_A.sl.v27 c arg1 arg9 f0 = c_v27 (View.read (Elt F) arg2.view f1) (View.read (Elt F) arg3.view f2) (View.read (Elt F) arg4.view f3) (View.read (Elt F) arg5.view f4) (q_a (View.read (Elt F) arg1.view f0)) (q_sc (View.read (Elt F) arg1.view f0)) := by
      delta kernelRun0_A.sl.v27 kernelRun0_A.sl.HS0_2 kernelRun0_A.sl.HS1_1 kernelRun0_A.sl.v291 kernelRun0_A.sl.v315 kernelRun0_A.sl.v339 kernelRun0_A.sl.v363 kernelRun0_A.sl.v387 kernelRun0_A.sl.v411 kernelRun0_A.sl.v435 kernelRun0_A.sl.v459 kernelRun0_A.sl.v483 kernelRun0_A.sl.v507 kernelRun0_A.sl.v51 kernelRun0_A.sl.v531 kernelRun0_A.sl.v555 kernelRun0_A.sl.v579 kernelRun0_A.sl.v603 kernelRun0_A.sl.v627 kernelRun0_A.sl.v651 kernelRun0_A.sl.v675 kernelRun0_A.sl.v680 kernelRun0_A.sl.v75 kernelRun0_A.sl.v99; rw [View.readCov_eq_canon']; delta c_v27 View.ld q_a; rfl
    have h_v291 : kernelRun0_A.sl.v291 c arg1 arg9 f0 = c_v291 (View.read (Elt F) arg2.view f1) (View.read (Elt F) arg3.view f2) (View.read (Elt F) arg4.view f3) (View.read (Elt F) arg5.view f4) (q_a (View.read (Elt F) arg1.view f0)) (q_sc (View.read (Elt F) arg1.view f0)) := by
      delta kernelRun0_A.sl.v291 kernelRun0_A.sl.HS0_2 kernelRun0_A.sl.HS1_1 kernelRun0_A.sl.v315 kernelRun0_A.sl.v339 kernelRun0_A.sl.v363 kernelRun0_A.sl.v387 kernelRun0_A.sl.v411 kernelRun0_A.sl.v435 kernelRun0_A.sl.v459 kernelRun0_A.sl.v483 kernelRun0_A.sl.v507 kernelRun0_A.sl.v51 kernelRun0_A.sl.v531 kernelRun0_A.sl.v555 kernelRun0_A.sl.v579 kernelRun0_A.sl.v603 kernelRun0_A.sl.v627 kernelRun0_A.sl.v651 kernelRun0_A.sl.v675 kernelRun0_A.sl.v680 kernelRun0_A.sl.v75 kernelRun0_A.sl.v99; rw [View.readCov_eq_canon']; delta c_v291 View.ld q_a; rfl
    have h_v315 : kernelRun0_A.sl.v315 c arg1 arg9 f0 = c_v315 (View.read (Elt F) arg2.view f1) (View.read (Elt F) arg3.view f2) (View.read (Elt F) arg4.view f3) (View.read (Elt F) arg5.view f4) (q_a (View.read (Elt F) arg1.view f0)) (q_sc (View.read (Elt F) arg1.view f0)) := by
      delta kernelRun0_A.sl.v315 kernelRun0_A.sl.HS0_2 kernelRun0_A.sl.HS1_1 kernelRun0_A.sl.v339 kernelRun0_A.sl.v363 kernelRun0_A.sl.v387 kernelRun0_A.sl.v411 kernelRun0_A.sl.v435 kernelRun0_A.sl.v459 kernelRun0_A.sl.v483 kernelRun0_A.sl.v507 kernelRun0_A.sl.v51 kernelRun0_A.sl.v531 kernelRun0_A.sl.v555 kernelRun0_A.sl.v579 kernelRun0_A.sl.v603 kernelRun0_A.sl.v627 kernelRun0_A.sl.v651 kernelRun0_A.sl.v675 kernelRun0_A.sl.v680 kernelRun0_A.sl.v75 kernelRun0_A.sl.v99; rw [View.readCov_eq_canon']; delta c_v315 View.ld q_a; rfl
    have h_v339 : kernelRun0_A.sl.v339 c arg1 arg9 f0 = c_v339 (View.read (Elt F) arg2.view f1) (View.read (Elt F) arg3.view f2) (View.read (Elt F) arg4.view f3) (View.read (Elt F) arg5.view f4) (q_a (View.read (Elt F) arg1.view f0)) (q_sc (View.read (Elt F) arg1.view f0)) := by
      delta kernelRun0_A.sl.v339 kernelRun0_A.sl.HS0_2 kernelRun0_A.sl.HS1_1 kernelRun0_A.sl.v363 kernelRun0_A.sl.v387 kernelRun0_A.sl.v411 kernelRun0_A.sl.v435 kernelRun0_A.sl.v459 kernelRun0_A.sl.v483 kernelRun0_A.sl.v507 kernelRun0_A.sl.v51 kernelRun0_A.sl.v531 kernelRun0_A.sl.v555 kernelRun0_A.sl.v579 kernelRun0_A.sl.v603 kernelRun0_A.sl.v627 kernelRun0_A.sl.v651 kernelRun0_A.sl.v675 kernelRun0_A.sl.v680 kernelRun0_A.sl.v75 kernelRun0_A.sl.v99; rw [View.readCov_eq_canon']; delta c_v339 View.ld q_a; rfl
    have h_v363 : kernelRun0_A.sl.v363 c arg1 arg9 f0 = c_v363 (View.read (Elt F) arg2.view f1) (View.read (Elt F) arg3.view f2) (View.read (Elt F) arg4.view f3) (View.read (Elt F) arg5.view f4) (q_a (View.read (Elt F) arg1.view f0)) (q_sc (View.read (Elt F) arg1.view f0)) := by
      delta kernelRun0_A.sl.v363 kernelRun0_A.sl.HS0_2 kernelRun0_A.sl.HS1_1 kernelRun0_A.sl.v387 kernelRun0_A.sl.v411 kernelRun0_A.sl.v435 kernelRun0_A.sl.v459 kernelRun0_A.sl.v483 kernelRun0_A.sl.v507 kernelRun0_A.sl.v51 kernelRun0_A.sl.v531 kernelRun0_A.sl.v555 kernelRun0_A.sl.v579 kernelRun0_A.sl.v603 kernelRun0_A.sl.v627 kernelRun0_A.sl.v651 kernelRun0_A.sl.v675 kernelRun0_A.sl.v680 kernelRun0_A.sl.v75 kernelRun0_A.sl.v99; rw [View.readCov_eq_canon']; delta c_v363 View.ld q_a; rfl
    have h_v387 : kernelRun0_A.sl.v387 c arg1 arg9 f0 = c_v387 (View.read (Elt F) arg2.view f1) (View.read (Elt F) arg3.view f2) (View.read (Elt F) arg4.view f3) (View.read (Elt F) arg5.view f4) (q_a (View.read (Elt F) arg1.view f0)) (q_sc (View.read (Elt F) arg1.view f0)) := by
      delta kernelRun0_A.sl.v387 kernelRun0_A.sl.HS0_2 kernelRun0_A.sl.HS1_1 kernelRun0_A.sl.v411 kernelRun0_A.sl.v435 kernelRun0_A.sl.v459 kernelRun0_A.sl.v483 kernelRun0_A.sl.v507 kernelRun0_A.sl.v51 kernelRun0_A.sl.v531 kernelRun0_A.sl.v555 kernelRun0_A.sl.v579 kernelRun0_A.sl.v603 kernelRun0_A.sl.v627 kernelRun0_A.sl.v651 kernelRun0_A.sl.v675 kernelRun0_A.sl.v680 kernelRun0_A.sl.v75 kernelRun0_A.sl.v99; rw [View.readCov_eq_canon']; delta c_v387 View.ld q_a; rfl
    have h_v411 : kernelRun0_A.sl.v411 c arg1 arg9 f0 = c_v411 (View.read (Elt F) arg2.view f1) (View.read (Elt F) arg3.view f2) (View.read (Elt F) arg4.view f3) (View.read (Elt F) arg5.view f4) (q_a (View.read (Elt F) arg1.view f0)) (q_sc (View.read (Elt F) arg1.view f0)) := by
      delta kernelRun0_A.sl.v411 kernelRun0_A.sl.HS0_2 kernelRun0_A.sl.HS1_1 kernelRun0_A.sl.v435 kernelRun0_A.sl.v459 kernelRun0_A.sl.v483 kernelRun0_A.sl.v507 kernelRun0_A.sl.v51 kernelRun0_A.sl.v531 kernelRun0_A.sl.v555 kernelRun0_A.sl.v579 kernelRun0_A.sl.v603 kernelRun0_A.sl.v627 kernelRun0_A.sl.v651 kernelRun0_A.sl.v675 kernelRun0_A.sl.v680 kernelRun0_A.sl.v75 kernelRun0_A.sl.v99; rw [View.readCov_eq_canon']; delta c_v411 View.ld q_a; rfl
    have h_v435 : kernelRun0_A.sl.v435 c arg1 arg9 f0 = c_v435 (View.read (Elt F) arg2.view f1) (View.read (Elt F) arg3.view f2) (View.read (Elt F) arg4.view f3) (View.read (Elt F) arg5.view f4) (q_a (View.read (Elt F) arg1.view f0)) (q_sc (View.read (Elt F) arg1.view f0)) := by
      delta kernelRun0_A.sl.v435 kernelRun0_A.sl.HS0_2 kernelRun0_A.sl.HS1_1 kernelRun0_A.sl.v459 kernelRun0_A.sl.v483 kernelRun0_A.sl.v507 kernelRun0_A.sl.v51 kernelRun0_A.sl.v531 kernelRun0_A.sl.v555 kernelRun0_A.sl.v579 kernelRun0_A.sl.v603 kernelRun0_A.sl.v627 kernelRun0_A.sl.v651 kernelRun0_A.sl.v675 kernelRun0_A.sl.v680 kernelRun0_A.sl.v75 kernelRun0_A.sl.v99; rw [View.readCov_eq_canon']; delta c_v435 View.ld q_a; rfl
    have h_v459 : kernelRun0_A.sl.v459 c arg1 arg9 f0 = c_v459 (View.read (Elt F) arg2.view f1) (View.read (Elt F) arg3.view f2) (View.read (Elt F) arg4.view f3) (View.read (Elt F) arg5.view f4) (q_a (View.read (Elt F) arg1.view f0)) (q_sc (View.read (Elt F) arg1.view f0)) := by
      delta kernelRun0_A.sl.v459 kernelRun0_A.sl.HS0_2 kernelRun0_A.sl.HS1_1 kernelRun0_A.sl.v483 kernelRun0_A.sl.v507 kernelRun0_A.sl.v51 kernelRun0_A.sl.v531 kernelRun0_A.sl.v555 kernelRun0_A.sl.v579 kernelRun0_A.sl.v603 kernelRun0_A.sl.v627 kernelRun0_A.sl.v651 kernelRun0_A.sl.v675 kernelRun0_A.sl.v680 kernelRun0_A.sl.v75 kernelRun0_A.sl.v99; rw [View.readCov_eq_canon']; delta c_v459 View.ld q_a; rfl
    have h_v483 : kernelRun0_A.sl.v483 c arg1 arg9 f0 = c_v483 (View.read (Elt F) arg2.view f1) (View.read (Elt F) arg3.view f2) (View.read (Elt F) arg4.view f3) (View.read (Elt F) arg5.view f4) (q_a (View.read (Elt F) arg1.view f0)) (q_sc (View.read (Elt F) arg1.view f0)) := by
      delta kernelRun0_A.sl.v483 kernelRun0_A.sl.HS0_2 kernelRun0_A.sl.HS1_1 kernelRun0_A.sl.v507 kernelRun0_A.sl.v51 kernelRun0_A.sl.v531 kernelRun0_A.sl.v555 kernelRun0_A.sl.v579 kernelRun0_A.sl.v603 kernelRun0_A.sl.v627 kernelRun0_A.sl.v651 kernelRun0_A.sl.v675 kernelRun0_A.sl.v680 kernelRun0_A.sl.v75 kernelRun0_A.sl.v99; rw [View.readCov_eq_canon']; delta c_v483 View.ld q_a; rfl
    have h_v507 : kernelRun0_A.sl.v507 c arg1 arg9 f0 = c_v507 (View.read (Elt F) arg2.view f1) (View.read (Elt F) arg3.view f2) (View.read (Elt F) arg4.view f3) (View.read (Elt F) arg5.view f4) (q_a (View.read (Elt F) arg1.view f0)) (q_sc (View.read (Elt F) arg1.view f0)) := by
      delta kernelRun0_A.sl.v507 kernelRun0_A.sl.HS0_2 kernelRun0_A.sl.HS1_1 kernelRun0_A.sl.v51 kernelRun0_A.sl.v531 kernelRun0_A.sl.v555 kernelRun0_A.sl.v579 kernelRun0_A.sl.v603 kernelRun0_A.sl.v627 kernelRun0_A.sl.v651 kernelRun0_A.sl.v675 kernelRun0_A.sl.v680 kernelRun0_A.sl.v75 kernelRun0_A.sl.v99; rw [View.readCov_eq_canon']; delta c_v507 View.ld q_a; rfl
    have h_v51 : kernelRun0_A.sl.v51 c arg1 arg9 f0 = c_v51 (View.read (Elt F) arg2.view f1) (View.read (Elt F) arg3.view f2) (View.read (Elt F) arg4.view f3) (View.read (Elt F) arg5.view f4) (q_a (View.read (Elt F) arg1.view f0)) (q_sc (View.read (Elt F) arg1.view f0)) := by
      delta kernelRun0_A.sl.v51 kernelRun0_A.sl.HS0_2 kernelRun0_A.sl.HS1_1 kernelRun0_A.sl.v531 kernelRun0_A.sl.v555 kernelRun0_A.sl.v579 kernelRun0_A.sl.v603 kernelRun0_A.sl.v627 kernelRun0_A.sl.v651 kernelRun0_A.sl.v675 kernelRun0_A.sl.v680 kernelRun0_A.sl.v75 kernelRun0_A.sl.v99; rw [View.readCov_eq_canon']; delta c_v51 View.ld q_a; rfl
    have h_v531 : kernelRun0_A.sl.v531 c arg1 arg9 f0 = c_v531 (View.read (Elt F) arg2.view f1) (View.read (Elt F) arg3.view f2) (View.read (Elt F) arg4.view f3) (View.read (Elt F) arg5.view f4) (q_a (View.read (Elt F) arg1.view f0)) (q_sc (View.read (Elt F) arg1.view f0)) := by
      delta kernelRun0_A.sl.v531 kernelRun0_A.sl.HS0_2 kernelRun0_A.sl.HS1_1 kernelRun0_A.sl.v555 kernelRun0_A.sl.v579 kernelRun0_A.sl.v603 kernelRun0_A.sl.v627 kernelRun0_A.sl.v651 kernelRun0_A.sl.v675 kernelRun0_A.sl.v680 kernelRun0_A.sl.v75 kernelRun0_A.sl.v99; rw [View.readCov_eq_canon']; delta c_v531 View.ld q_a; rfl
    have h_v555 : kernelRun0_A.sl.v555 c arg1 arg9 f0 = c_v555 (View.read (Elt F) arg2.view f1) (View.read (Elt F) arg3.view f2) (View.read (Elt F) arg4.view f3) (View.read (Elt F) arg5.view f4) (q_a (View.read (Elt F) arg1.view f0)) (q_sc (View.read (Elt F) arg1.view f0)) := by
      delta kernelRun0_A.sl.v555 kernelRun0_A.sl.HS0_2 kernelRun0_A.sl.HS1_1 kernelRun0_A.sl.v579 kernelRun0_A.sl.v603 kernelRun0_A.sl.v627 kernelRun0_A.sl.v651 kernelRun0_A.sl.v675 kernelRun0_A.sl.v680 kernelRun0_A.sl.v75 kernelRun0_A.sl.v99; rw [View.readCov_eq_canon']; delta c_v555 View.ld q_a; rfl
    have h_v579 : kernelRun0_A.sl.v579 c arg1 arg9 f0 = c_v579 (View.read (Elt F) arg2.view f1) (View.read (Elt F) arg3.view f2) (View.read (Elt F) arg4.view f3) (View.read (Elt F) arg5.view f4) (q_a (View.read (Elt F) arg1.view f0)) (q_sc (View.read (Elt F) arg1.view f0)) := by
      delta kernelRun0_A.sl.v579 kernelRun0_A.sl.HS0_2 kernelRun0_A.sl.HS1_1 kernelRun0_A.sl.v603 kernelRun0_A.sl.v627 kernelRun0_A.sl.v651 kernelRun0_A.sl.v675 kernelRun0_A.sl.v680 kernelRun0_A.sl.v75 kernelRun0_A.sl.v99; rw [View.readCov_eq_canon']; delta c_v579 View.ld q_a; rfl
    have h_v603 : kernelRun0_A.sl.v603 c arg1 arg9 f0 = c_v603 (View.read (Elt F) arg2.view f1) (View.read (Elt F) arg3.view f2) (View.read (Elt F) arg4.view f3) (View.read (Elt F) arg5.view f4) (q_a (View.read (Elt F) arg1.view f0)) (q_sc (View.read (Elt F) arg1.view f0)) := by
      delta kernelRun0_A.sl.v603 kernelRun0_A.sl.HS0_2 kernelRun0_A.sl.HS1_1 kernelRun0_A.sl.v627 kernelRun0_A.sl.v651 kernelRun0_A.sl.v675 kernelRun0_A.sl.v680 kernelRun0_A.sl.v75 kernelRun0_A.sl.v99; rw [View.readCov_eq_canon']; delta c_v603 View.ld q_a; rfl
    have h_v627 : kernelRun0_A.sl.v627 c arg1 arg9 f0 = c_v627 (View.read (Elt F) arg2.view f1) (View.read (Elt F) arg3.view f2) (View.read (Elt F) arg4.view f3) (View.read (Elt F) arg5.view f4) (q_a (View.read (Elt F) arg1.view f0)) (q_sc (View.read (Elt F) arg1.view f0)) := by
      delta kernelRun0_A.sl.v627 kernelRun0_A.sl.HS0_2 kernelRun0_A.sl.HS1_1 kernelRun0_A.sl.v651 kernelRun0_A.sl.v675 kernelRun0_A.sl.v680 kernelRun0_A.sl.v75 kernelRun0_A.sl.v99; rw [View.readCov_eq_canon']; delta c_v627 View.ld q_a; rfl
    have h_v651 : kernelRun0_A.sl.v651 c arg1 arg9 f0 = c_v651 (View.read (Elt F) arg2.view f1) (View.read (Elt F) arg3.view f2) (View.read (Elt F) arg4.view f3) (View.read (Elt F) arg5.view f4) (q_a (View.read (Elt F) arg1.view f0)) (q_sc (View.read (Elt F) arg1.view f0)) := by
      delta kernelRun0_A.sl.v651 kernelRun0_A.sl.HS0_2 kernelRun0_A.sl.HS1_1 kernelRun0_A.sl.v675 kernelRun0_A.sl.v680 kernelRun0_A.sl.v75 kernelRun0_A.sl.v99; rw [View.readCov_eq_canon']; delta c_v651 View.ld q_a; rfl
    have h_v675 : kernelRun0_A.sl.v675 c arg1 arg9 f0 = c_v675 (View.read (Elt F) arg2.view f1) (View.read (Elt F) arg3.view f2) (View.read (Elt F) arg4.view f3) (View.read (Elt F) arg5.view f4) (q_a (View.read (Elt F) arg1.view f0)) (q_sc (View.read (Elt F) arg1.view f0)) := by
      delta kernelRun0_A.sl.v675 kernelRun0_A.sl.HS0_2 kernelRun0_A.sl.HS1_1 kernelRun0_A.sl.v680 kernelRun0_A.sl.v75 kernelRun0_A.sl.v99; rw [View.readCov_eq_canon']; delta c_v675 View.ld q_a; rfl
    have h_v680 : kernelRun0_A.sl.v680 c arg1 arg10 f0 = c_v680 (View.read (Elt F) arg2.view f1) (View.read (Elt F) arg3.view f2) (View.read (Elt F) arg4.view f3) (View.read (Elt F) arg5.view f4) (q_a (View.read (Elt F) arg1.view f0)) (q_sc (View.read (Elt F) arg1.view f0)) := by
      delta kernelRun0_A.sl.v680 kernelRun0_A.sl.HS0_2 kernelRun0_A.sl.HS1_1 kernelRun0_A.sl.v75 kernelRun0_A.sl.v99; rw [View.readCov_eq_canon']; delta c_v680 View.ld q_sc; rfl
    have h_v75 : kernelRun0_A.sl.v75 c arg1 arg9 f0 = c_v75 (View.read (Elt F) arg2.view f1) (View.read (Elt F) arg3.view f2) (View.read (Elt F) arg4.view f3) (View.read (Elt F) arg5.view f4) (q_a (View.read (Elt F) arg1.view f0)) (q_sc (View.read (Elt F) arg1.view f0)) := by
      delta kernelRun0_A.sl.v75 kernelRun0_A.sl.HS0_2 kernelRun0_A.sl.HS1_1 kernelRun0_A.sl.v99; rw [View.readCov_eq_canon']; delta c_v75 View.ld q_a; rfl
    have h_v99 : kernelRun0_A.sl.v99 c arg1 arg9 f0 = c_v99 (View.read (Elt F) arg2.view f1) (View.read (Elt F) arg3.view f2) (View.read (Elt F) arg4.view f3) (View.read (Elt F) arg5.view f4) (q_a (View.read (Elt F) arg1.view f0)) (q_sc (View.read (Elt F) arg1.view f0)) := by
      delta kernelRun0_A.sl.v99 kernelRun0_A.sl.HS0_2 kernelRun0_A.sl.HS1_1 ; rw [View.readCov_eq_canon']; delta c_v99 View.ld q_a; rfl
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; (refine (View.read_writes_eq_canon _ _ _ (cover_y _)).trans ((View.canon_unit_zero off0 _ _).trans ?_); delta kernelRun0_A.sl.r kernelRun0_A.sl.r_1 kernelRun0_A.sl.r_10 kernelRun0_A.sl.r_11 kernelRun0_A.sl.r_12 kernelRun0_A.sl.r_13 kernelRun0_A.sl.r_14 kernelRun0_A.sl.r_15 kernelRun0_A.sl.r_16 kernelRun0_A.sl.r_17 kernelRun0_A.sl.r_18 kernelRun0_A.sl.r_19 kernelRun0_A.sl.r_2 kernelRun0_A.sl.r_20 kernelRun0_A.sl.r_21 kernelRun0_A.sl.r_22 kernelRun0_A.sl.r_23 kernelRun0_A.sl.r_24 kernelRun0_A.sl.r_25 kernelRun0_A.sl.r_26 kernelRun0_A.sl.r_27 kernelRun0_A.sl.r_28 kernelRun0_A.sl.r_29 kernelRun0_A.sl.r_3 kernelRun0_A.sl.r_30 kernelRun0_A.sl.r_31 kernelRun0_A.sl.r_32 kernelRun0_A.sl.r_33 kernelRun0_A.sl.r_34 kernelRun0_A.sl.r_35 kernelRun0_A.sl.r_36 kernelRun0_A.sl.r_37 kernelRun0_A.sl.r_38 kernelRun0_A.sl.r_39 kernelRun0_A.sl.r_4 kernelRun0_A.sl.r_40 kernelRun0_A.sl.r_41 kernelRun0_A.sl.r_42 kernelRun0_A.sl.r_5 kernelRun0_A.sl.r_6 kernelRun0_A.sl.r_7 kernelRun0_A.sl.r_8 kernelRun0_A.sl.r_9; rw [h_v123, h_v147, h_v171, h_v195, h_v219, h_v243, h_v267, h_v27, h_v291, h_v315, h_v339, h_v363, h_v387, h_v411, h_v435, h_v459, h_v483, h_v507, h_v51, h_v531, h_v555, h_v579, h_v603, h_v627, h_v651, h_v675, h_v680, h_v75, h_v99]; rfl)
    isplitl [H6]
    · iexists _; isplitr; swap; · iexact H6
      ipureintro; exact View.read_writes_eq_canon _ _ _ (fun y => cover_c3 _ y)
    isplitl [H7]
    · iexists _; isplitr; swap; · iexact H7
      ipureintro; exact View.read_writes_eq_canon _ _ _ (fun y => cover_s3 _ y)
    isplitl [HS0]
    · iexists _; isplitr; swap; · iexact HS0
      ipureintro; exact View.read_writes_eq_canon _ _ _ (fun y => cover_a _ _ y)
    iexists _; isplitr; swap; · iexact HS1
    ipureintro; exact View.read_writes_eq_canon _ _ _ (fun y => cover_sc _ y)

end Cert.DownIdeal.Run

end
-- ==== Proof.Down.Frame.lean ====
/- The frame of the Down kernel with its outputs named: what each point leaves in its buffers, the body obligation, the
   launch and the frame claim. -/
module

public import proofs.«01_k».proof.Proof.Down.RunA
public import proofs.«01_k».proof.Proof.Common.Kept
public import Idealize.ShloMosaic.Lib.Claim

@[expose] public section

set_option maxRecDepth 16384

noncomputable section

namespace Cert.DownIdeal.Run
open Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The grid's first point. -/
def t0 : Fin cfg0.N := ⟨0, by rw [show cfg0.N = 16 from N_0]; decide⟩

/-- The block of the result point `t` leaves. -/
def yAt (c : Dev nD) (t : Fin cfg0.N) := yB (iblk m c 1 t) (iblk m c 2 t) (iblk m c 3 t) (iblk m c 4 t) (q_a (iblk m c 0 t0)) (q_sc (iblk m c 0 t0))

/-- What the region keeps between points: before the first point nothing, afterwards the two scratch buffers at what
    the first point leaves in them. -/
def Phi (c : Dev nD) (t : Fin (cfg0.N + 1)) : sProp 𝕄 :=
  if t.val = 0 then Pipeline.ΦA spec0 c
  else iprop(iprop(owns (c : Thread nD τ) scM0_0 fullShare (q_a (iblk m c 0 t0)) ∗ owns (c : Thread nD τ) scM0_1 fullShare (q_sc (iblk m c 0 t0))) ∗ (∃ r, prngReg c r))

/-- The proof data of the one pipeline on core `c`: each input's buffer at its block, the result's at the block point `t`
    computes, the codes and the scales at what the first point stores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => yAt m c t
    | ⟨6, _⟩ => q_c3 (iblk m c 0 t0)
    | ⟨7, _⟩ => q_s3 (iblk m c 0 t0)
  Φ := Phi m c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = yAt m c t := by dsimp only [dats]
theorem after0_6 (c : Dev nD) (t : Fin cfg0.N) : (dats m 0 c).after 6 t = q_c3 (iblk m c 0 t0) := by dsimp only [dats]
theorem after0_7 (c : Dev nD) (t : Fin cfg0.N) : (dats m 0 c).after 7 t = q_s3 (iblk m c 0 t0) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The first point stores window 6. -/
theorem live0_6 (t : Fin cfg0.N) (h : t.val = 0) : cfg0.idle 6 (cfg0.grid.coords t) = false := by
  have e : k0_cond1 (grid0.coords t) = 1#1 := (hcond0_0 t).mpr (by rw [h])
  show (!(k0_cond1 (grid0.coords t) == 1#1)) = false
  rw [e]; rfl

/-- At a later point the buffer of window 6 still holds what the first point left. -/
theorem before0_6 (c : Dev nD) (t : Fin cfg0.N) (ht : t.val ≠ 0) (d) : (dats m 0 c).before 6 t d = q_c3 (iblk m c 0 t0) := by
  refine (dats m 0 c).before_first 6 rfl _ live0_6 (fun _ _ => rfl) (after0_6 m c) (fun t h => ?_) t.val t.isLt ht d
  have hN : cfg0.N = 16 := N_0
  exact Bool.eq_false_iff.mpr fun hf => by have := (flush0_6 t).mp hf; omega

/-- The first point stores window 7. -/
theorem live0_7 (t : Fin cfg0.N) (h : t.val = 0) : cfg0.idle 7 (cfg0.grid.coords t) = false := by
  have e : k0_cond1 (grid0.coords t) = 1#1 := (hcond0_0 t).mpr (by rw [h])
  show (!(k0_cond1 (grid0.coords t) == 1#1)) = false
  rw [e]; rfl

/-- At a later point the buffer of window 7 still holds what the first point left. -/
theorem before0_7 (c : Dev nD) (t : Fin cfg0.N) (ht : t.val ≠ 0) (d) : (dats m 0 c).before 7 t d = q_s3 (iblk m c 0 t0) := by
  refine (dats m 0 c).before_first 7 rfl _ live0_7 (fun _ _ => rfl) (after0_7 m c) (fun t h => ?_) t.val t.isLt ht d
  have hN : cfg0.N = 16 := N_0
  exact Bool.eq_false_iff.mpr fun hf => by have := (flush0_7 t).mp hf; omega

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 1600000 in
/-- The body at any point: the first point fills the scratch, the codes and the scales, a later one finds them there. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = Phi m c t.succ from rfl, show (dats m 0 c).Φ t.castSucc = Phi m c t.castSucc from rfl]
  have hN : t.val < 16 := lt_of_lt_of_eq t.isLt (show cfg0.N = 16 from N_0)
  rw [show Phi m c t.succ = _ from if_neg (Nat.succ_ne_zero t.val)]
  rw [show (dats m 0 c).leavesExact 0 t = owns (c : Thread nD τ) (ms0_0 t) fullShare ((dats m 0 c).after 0 t) from by
      unfold Dat.leavesExact; rw [show cfg0.idle 0 _ = false from rfl], after0_0]
  rw [show (dats m 0 c).leavesExact 1 t = owns (c : Thread nD τ) (ms0_1 t) fullShare ((dats m 0 c).after 1 t) from by
      unfold Dat.leavesExact; rw [show cfg0.idle 1 _ = false from rfl], after0_1]
  rw [show (dats m 0 c).leavesExact 2 t = owns (c : Thread nD τ) (ms0_2 t) fullShare ((dats m 0 c).after 2 t) from by
      unfold Dat.leavesExact; rw [show cfg0.idle 2 _ = false from rfl], after0_2]
  rw [show (dats m 0 c).leavesExact 3 t = owns (c : Thread nD τ) (ms0_3 t) fullShare ((dats m 0 c).after 3 t) from by
      unfold Dat.leavesExact; rw [show cfg0.idle 3 _ = false from rfl], after0_3]
  rw [show (dats m 0 c).leavesExact 4 t = owns (c : Thread nD τ) (ms0_4 t) fullShare ((dats m 0 c).after 4 t) from by
      unfold Dat.leavesExact; rw [show cfg0.idle 4 _ = false from rfl], after0_4]
  rw [show (dats m 0 c).leavesExact 5 t = owns (c : Thread nD τ) (ms0_5 t) fullShare ((dats m 0 c).after 5 t) from by
      unfold Dat.leavesExact; rw [show cfg0.idle 5 _ = false from rfl], after0_5]
  by_cases h0 : t.val % 16 = 0
  · obtain rfl : t = t0 := Fin.ext (by have : t0.val = 0 := rfl; omega)
    rw [show (dats m 0 c).leavesExact 6 t0 = owns (c : Thread nD τ) (ms0_6 t0) fullShare ((dats m 0 c).after 6 t0) from by
      unfold Dat.leavesExact; rw [live0_6 t0 rfl], after0_6]
    rw [show (dats m 0 c).leavesExact 7 t0 = owns (c : Thread nD τ) (ms0_7 t0) fullShare ((dats m 0 c).after 7 t0) from by
      unfold Dat.leavesExact; rw [live0_7 t0 rfl], after0_7]
    rw [show Phi m c (t0 : Fin cfg0.N).castSucc = _ from if_pos rfl, PhiA0_eq]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t0) _ _ _ _ _ _ _ _ _ _ _ _ _ _ _ _ _ _ _ _ ((hcond0_0 t0).mpr h0) (iblk m c 0 t0) (iblk m c 1 t0) (iblk m c 2 t0) (iblk m c 3 t0) (iblk m c 4 t0)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have ht : t.val ≠ 0 := by omega
    rw [show Phi m c t.castSucc = _ from if_neg ht]
    simp only [before0_6 m c t ht, before0_7 m c t ht]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ _ _ _ _ (fun h => h0 ((hcond0_0 t).mp h)) (iblk m c 0 t) (iblk m c 1 t) (iblk m c 2 t) (iblk m c 3 t) (iblk m c 4 t) (q_c3 (iblk m c 0 t0)) (q_s3 (iblk m c 0 t0)) (q_a (iblk m c 0 t0)) (q_sc (iblk m c 0 t0))) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    isplitl [HS1]; · iexact HS1
    iintro ⟨H0, H1, H2, H3, H4, H5, H6, H7, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply ((dats m 0 c).leaves_first 6 _ t (after0_6 m c t) d6 (before0_6 m c t ht d6)); iexact H6
    iapply ((dats m 0 c).leaves_first 7 _ t (after0_7 m c t) d7 (before0_7 m c t ht d7)); iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- Before the first point the region holds its scratch at some contents. -/
theorem Phi_in (c : Dev nD) : (Pipeline.ΦA spec0 c : sProp 𝕄) ⊢ (dats m 0 c).Φ 0 :=
  Entails.of_eq (show Phi m c 0 = _ from if_pos rfl).symm

/-- After the last point the contents of the scratch are forgotten. -/
theorem Phi_out (c : Dev nD) : (dats m 0 c).Φ (Fin.last cfg0.N) ⊢ (Pipeline.ΦA spec0 c : sProp 𝕄) := by
  rw [show (dats m 0 c).Φ (Fin.last cfg0.N) = Phi m c (Fin.last cfg0.N) from rfl,
    show Phi m c (Fin.last cfg0.N) = _ from if_neg (by show cfg0.N ≠ 0; rw [show cfg0.N = 16 from N_0]; decide), PhiA0_eq]
  iintro ⟨⟨HS0, HS1⟩, Hg⟩
  isplitl [HS0 HS1]
  · isplitl [HS0]
    · iexists _; iexact HS0
    iexists _; iexact HS1
  iexact Hg

set_option backward.isDefEq.respectTransparency.types false in
set_option maxHeartbeats 800000 in
/-- The launch: every array of the pipeline ends at what the library computes from the proof data, and every counter at zero. -/
theorem run_main_quiescent : θ_run defs (onTc (τ := τ) (main (F := F))) (s₀ m ρ) (fun r => Pipeline.FramePost cfgs (dats m) (0 : Fin 1) (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := Phi_in m) (hout := Phi_out m)

/-- The run without the counters. -/
theorem run_main : θ_run defs (onTc (τ := τ) (main (F := F))) (s₀ m ρ) (Pipeline.FramePost cfgs (dats m) (0 : Fin 1) (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.DownIdeal.Run

end
-- ==== Proof.Down.Bits.lean ====
/- The frame of the Down program over machine words: its text is the other program's, so the frame proved for any floats is its own. -/
module

public import proofs.«01_k».proof.Defs
public import proofs.«01_k».proof.Proof.Down.Frame
public import proofs.«01_k».proof.Proof.Gen.Down

@[expose] public section

set_option maxRecDepth 65536

noncomputable section

namespace Cert.DownIdeal.Run

open Idealize.ShloMosaic Idealize.ShloMosaic.TcCoe Idealize.SL.Sem

/-- The two programs' bodies are one. -/
theorem body_bits : letI := Cert.Down.Gen.facts; letI := Cert.DownIdeal.Gen.facts; @Cert.Down.cc0_down Bits _ _ = @Cert.DownIdeal.cc0_down Bits _ _ := rfl

theorem defs₀_bits : letI := Cert.Down.Gen.facts; letI := Cert.DownIdeal.Gen.facts; @Cert.Down.defs₀ Bits _ _ = @Cert.DownIdeal.defs₀ Bits _ _ := by
  unfold Cert.Down.defs₀ Cert.DownIdeal.defs₀
  refine congrArg Defs.onTc (funext fun l => funext fun a => ?_)
  match l, a with
  | 0, (t, s) => exact rfl
  | ⟨_ + 1, h⟩, _ => exact absurd h (Nat.not_lt.2 (Nat.le_add_left _ _))

theorem defs_bits : letI := Cert.Down.Gen.facts; letI := Cert.DownIdeal.Gen.facts; @Cert.Down.defs Bits _ _ = @Cert.DownIdeal.defs Bits _ _ :=
  congrArg (Pipeline.defs Cert.DownIdeal.pcfgs) defs₀_bits

/-- The frame over machine words. -/
theorem frame_bits : letI := Cert.Down.Gen.facts; Cert.quiescent_Down := by
  intro m g _
  rw [defs_bits]
  exact frame (F := Bits) m g

end Cert.DownIdeal.Run

end
-- ==== Proof.Common.Linear.lean ====
/- One 256-row step of a product of codes with packed 4-bit weights, read over the extended reals, for any number of
   columns: what a nibble of a packed word is, what one row of group scales spread over 128 rows is, and what a step adds
   to the running sum. The steps of a whole product, one after the other, are one sum over the contracted axis. -/
module

public import Idealize.ShloMosaic.Lib.MatmulPlain
public import Idealize.ShloMosaic.Lib.Pipeline.ValueKit

@[expose] public section

set_option maxRecDepth 16384

noncomputable section

namespace Cert.Linear

open Idealize.ShloMosaic

/-- The `j`-th 4-bit field of a word, as a signed integer read over the extended reals. -/
def nib (w : BitVec 32) (j : ℕ) : EReal := ((((w.sshiftRight (4 * j)).setWidth 4).toInt : ℝ) : EReal)

/-- Reading a field by masking and subtracting sixteen where it is at least eight gives the same signed number. -/
theorem mask_eq (y : BitVec 32) :
    ((if (8#32).sle (y &&& 15#32) then (y &&& 15#32) - 16#32 else y &&& 15#32).setWidth 8).toInt = (y.setWidth 4).toInt := by
  have h : y &&& 15#32 = (y.setWidth 4).setWidth 32 := by
    apply BitVec.eq_of_toNat_eq
    have : (15 : ℕ) = 2 ^ 4 - 1 := rfl
    rw [BitVec.toNat_and, BitVec.toNat_setWidth, BitVec.toNat_setWidth]
    show y.toNat &&& 15 = _
    rw [this, Nat.and_two_pow_sub_one_eq_mod]
    have : y.toNat % 2 ^ 4 < 2 ^ 4 := Nat.mod_lt _ (by decide)
    omega
  rw [h]
  generalize y.setWidth 4 = z
  revert z
  decide

/-- The shift by four times a coordinate below eight is the arithmetic shift. -/
theorem shift_eq (w : BitVec 32) (j : ℕ) (h : j < 8) :
    IntOp.shrsi .vector w (IntOp.muli 4#32 (BitVec.ofNat 32 j)) = w.sshiftRight (4 * j) := by
  have e : (4#32 * BitVec.ofNat 32 j).toNat = 4 * j := by
    rw [BitVec.toNat_mul, BitVec.toNat_ofNat, BitVec.toNat_ofNat]
    omega
  show (if (4#32 * BitVec.ofNat 32 j).toNat < 32 then w.sshiftRight' (4#32 * BitVec.ofNat 32 j) else _) = _
  rw [if_pos (by omega)]
  show w.sshiftRight (4#32 * BitVec.ofNat 32 j).toNat = _
  rw [e]

section
variable {n : ℕ}

/-- The nibbles of 32 rows of words, laid out as 256 rows. -/
def nibV (w : IVec ⟨2, ![32, n]⟩ 32)
    (h1 : (⟨2, ![32, n]⟩ : Shape).ShapeCasts ⟨3, ![32, 1, n]⟩) (h2 : (⟨3, ![32, 1, n]⟩ : Shape).ShapeCasts ⟨3, ![32, 1, n]⟩)
    (h3 : (⟨3, ![32, 1, n]⟩ : Shape).Broadcasts ⟨3, ![32, 8, n]⟩) (h4 : (⟨3, ![32, 8, n]⟩ : Shape).Iotas .tc 32 [1])
    (h5 : (⟨3, ![32, 8, n]⟩ : Shape).ShapeCasts ⟨2, ![256, n]⟩) : IVec ⟨2, ![256, n]⟩ 4 :=
  shapeCast ⟨2, ![256, n]⟩ (trunci 4 (shrsi (broadcastTo ⟨3, ![32, 8, n]⟩ (shapeCast ⟨3, ![32, 1, n]⟩ (shapeCast ⟨3, ![32, 1, n]⟩ w h1) h2) h3)
    (muli (broadcast ⟨3, ![32, 8, n]⟩ 4#32) (iota .tc ⟨3, ![32, 8, n]⟩ 32 [1] h4)))) h5

theorem nibV_apply (w : IVec ⟨2, ![32, n]⟩ 32) (h1 h2 h3 h4 h5) (k : Fin 256) (c : Fin n) :
    ((((nibV w h1 h2 h3 h4 h5 (ValueIdx.ix2 k c)).toInt : ℝ) : EReal)) = nib (w (ValueIdx.ix2 ⟨k.val / 8, by omega⟩ c)) (k.val % 8) := by
  have hk := k.isLt
  have hk8 : k.val % 8 < 8 := Nat.mod_lt _ (by decide)
  have e1 : ∀ y : IVec ⟨3, ![32, 8, n]⟩ 4, shapeCast ⟨2, ![256, n]⟩ y h5 (ValueIdx.ix2 k c) = y (ValueIdx.ix3 ⟨k.val / 8, by omega⟩ ⟨k.val % 8, hk8⟩ c) := by
    intro y
    refine shapeCast_apply y h5 _ _ ?_
    rw [Shape.rowMajor_val_three, Shape.rowMajor_val_two]
    show (k.val / 8 * 8 + k.val % 8) * n + c.val = k.val * n + c.val
    rw [Nat.div_add_mod']
  have e2 : ∀ y : IVec ⟨3, ![32, 1, n]⟩ 32, broadcastTo ⟨3, ![32, 8, n]⟩ y h3 (ValueIdx.ix3 ⟨k.val / 8, by omega⟩ ⟨k.val % 8, hk8⟩ c)
      = y (ValueIdx.ix3 ⟨k.val / 8, by omega⟩ 0 c) := by
    intro y
    refine broadcastTo_apply y h3 _ _ fun a => ?_
    match a with
    | ⟨0, _⟩ => rfl
    | ⟨1, _⟩ => rfl
    | ⟨2, _⟩ =>
      show c.val = if n = 1 then 0 else c.val
      have := c.isLt
      split <;> omega
  have e3 : ∀ y : IVec ⟨3, ![32, 1, n]⟩ 32, shapeCast ⟨3, ![32, 1, n]⟩ y h2 (ValueIdx.ix3 ⟨k.val / 8, by omega⟩ 0 c) = y (ValueIdx.ix3 ⟨k.val / 8, by omega⟩ 0 c) :=
    fun y => shapeCast_apply y h2 _ _ rfl
  have e4 : shapeCast ⟨3, ![32, 1, n]⟩ w h1 (ValueIdx.ix3 ⟨k.val / 8, by omega⟩ 0 c) = w (ValueIdx.ix2 ⟨k.val / 8, by omega⟩ c) := by
    refine shapeCast_apply w h1 _ _ ?_
    rw [Shape.rowMajor_val_three, Shape.rowMajor_val_two]
    show k.val / 8 * n + c.val = (k.val / 8 * 1 + 0) * n + c.val
    rw [Nat.mul_one, Nat.add_zero]
  unfold nibV nib
  rw [e1]
  show ((((((IntOp.shrsi .vector (broadcastTo ⟨3, ![32, 8, n]⟩ (shapeCast ⟨3, ![32, 1, n]⟩ (shapeCast ⟨3, ![32, 1, n]⟩ w h1) h2) h3 _)
    (IntOp.muli 4#32 (BitVec.ofNat 32 (0 * 8 + k.val % 8)))).setWidth 4).toInt : ℤ)) : ℝ) : EReal) = _
  rw [e2, e3, e4, Nat.zero_mul, Nat.zero_add, shift_eq _ _ hk8]

/-- One row of group scales, spread over the 128 rows of its group. -/
def sclV {G : ℕ} (i : ℕ) (g : FVec Ideal ⟨2, ![G, n]⟩ .f32) (h1 : (⟨2, ![G, n]⟩ : Shape).Slices ![i, 0] ⟨2, ![1, n]⟩)
    (h2 : (⟨2, ![1, n]⟩ : Shape).ShapeCasts ⟨2, ![1, n]⟩) (h3 : (⟨2, ![1, n]⟩ : Shape).Broadcasts ⟨2, ![128, n]⟩)
    (h4 : FTy.bf16.bits < FTy.f32.bits) : FVec Ideal ⟨2, ![128, n]⟩ .bf16 :=
  truncf .bf16 (broadcastTo ⟨2, ![128, n]⟩ (shapeCast ⟨2, ![1, n]⟩ (extractStridedSlice ⟨2, ![1, n]⟩ ![i, 0] g h1) h2) h3) h4

theorem sclV_apply {G : ℕ} (i : ℕ) (hi : i < G) (g : FVec Ideal ⟨2, ![G, n]⟩ .f32) (h1 h2 h3 h4) (p : Fin 128) (c : Fin n) :
    sclV i g h1 h2 h3 h4 (ValueIdx.ix2 p c) = g (ValueIdx.ix2 ⟨i, hi⟩ c) := by
  unfold sclV
  show broadcastTo ⟨2, ![128, n]⟩ (shapeCast ⟨2, ![1, n]⟩ (extractStridedSlice ⟨2, ![1, n]⟩ ![i, 0] g h1) h2) h3 (ValueIdx.ix2 p c) = _
  rw [broadcastTo_apply _ h3 (ValueIdx.ix2 p c) (ValueIdx.ix2 0 c) ?_, shapeCast_apply _ h2 (ValueIdx.ix2 0 c) (ValueIdx.ix2 0 c) rfl,
    extractStridedSlice_apply ![i, 0] g h1 (ValueIdx.ix2 0 c) (ValueIdx.ix2 ⟨i, hi⟩ c) ?_]
  · intro a
    match a with
    | ⟨0, _⟩ => rfl
    | ⟨1, _⟩ =>
      show c.val = 0 + c.val
      omega
  · intro a
    match a with
    | ⟨0, _⟩ => rfl
    | ⟨1, _⟩ =>
      show c.val = if n = 1 then 0 else c.val
      have := c.isLt
      split <;> omega

/-- One step: 256 columns of codes times 256 rows of scaled nibbles, added to the running sum. -/
def stepV (acc : FVec Ideal ⟨2, ![80, n]⟩ .f32) (a : FVec Ideal ⟨2, ![80, 256]⟩ .bf16) (q : IVec ⟨2, ![256, n]⟩ 4)
    (s0 s1 : FVec Ideal ⟨2, ![128, n]⟩ .bf16)
    (hc : Shape.Concatenates [⟨2, ![128, n]⟩, ⟨2, ![128, n]⟩] ⟨2, ![256, n]⟩ 0) : FVec Ideal ⟨2, ![80, n]⟩ .f32 :=
  addf acc (matmul (DotDims.plain 80 256 n) none a
    (mulf (sitofp .bf16 q) (concatenate ⟨2, ![256, n]⟩ 0 [⟨⟨2, ![128, n]⟩, s0⟩, ⟨⟨2, ![128, n]⟩, s1⟩] hc))
    (constant ⟨2, ![80, n]⟩ .f32 0x00000000#32))

/-- The `k`-th term of one element of the product: code times nibble times group scale. -/
def term (A : ℕ → ℕ → EReal) (W : ℕ → ℕ → BitVec 32) (G : ℕ → ℕ → EReal) (r c k : ℕ) : EReal :=
  A r k * (nib (W (k / 8) c) (k % 8) * G (k / 128) c)

/-- The running sum after `s` steps, element by element. -/
def Sums (A : ℕ → ℕ → EReal) (W : ℕ → ℕ → BitVec 32) (G : ℕ → ℕ → EReal) (s : ℕ) (acc : FVec Ideal ⟨2, ![80, n]⟩ .f32) : Prop :=
  ∀ (r : Fin 80) (c : Fin n), acc (ValueIdx.ix2 r c) = ∑ k ∈ Finset.range (256 * s), term A W G r.val c.val k

theorem Sums.zero (A : ℕ → ℕ → EReal) (W : ℕ → ℕ → BitVec 32) (G : ℕ → ℕ → EReal) :
    Sums A W G 0 (broadcast (⟨2, ![80, n]⟩ : Shape) (Scalar.ofBits (F := Ideal) .f32 0x00000000#32)) := by
  intro r c
  show Scalar.ofBits (F := Ideal) .f32 0x00000000#32 = _
  simp

theorem Sums.step {A : ℕ → ℕ → EReal} {W : ℕ → ℕ → BitVec 32} {G : ℕ → ℕ → EReal} (s : ℕ) {acc : FVec Ideal ⟨2, ![80, n]⟩ .f32}
    {a : FVec Ideal ⟨2, ![80, 256]⟩ .bf16} {q : IVec ⟨2, ![256, n]⟩ 4} {s0 s1 : FVec Ideal ⟨2, ![128, n]⟩ .bf16}
    (hc : Shape.Concatenates [⟨2, ![128, n]⟩, ⟨2, ![128, n]⟩] ⟨2, ![256, n]⟩ 0)
    (hacc : Sums A W G s acc)
    (ha : ∀ (r : Fin 80) (k : Fin 256), a (ValueIdx.ix2 r k) = A r.val (256 * s + k.val))
    (hq : ∀ (k : Fin 256) (c : Fin n), ((((q (ValueIdx.ix2 k c)).toInt : ℝ) : EReal)) = nib (W (32 * s + k.val / 8) c.val) (k.val % 8))
    (h0 : ∀ (p : Fin 128) (c : Fin n), s0 (ValueIdx.ix2 p c) = G (2 * s) c.val)
    (h1 : ∀ (p : Fin 128) (c : Fin n), s1 (ValueIdx.ix2 p c) = G (2 * s + 1) c.val) :
    Sums A W G (s + 1) (stepV acc a q s0 s1 hc) := by
  intro r c
  have e : stepV acc a q s0 s1 hc (ValueIdx.ix2 r c) = acc (ValueIdx.ix2 r c) + ∑ k : Fin 256, a (ValueIdx.ix2 r k) *
      (((((q (ValueIdx.ix2 k c)).toInt : ℝ) : EReal)) * concatenate ⟨2, ![256, n]⟩ 0 [⟨⟨2, ![128, n]⟩, s0⟩, ⟨⟨2, ![128, n]⟩, s1⟩] hc (ValueIdx.ix2 k c)) := by
    unfold stepV
    show acc (ValueIdx.ix2 r c) + FloatOps.matmul (DotDims.plain 80 256 n) none a _ _ (ValueIdx.ix2 r c) = _
    rw [Ideal.matmul_plain_apply]
    show acc (ValueIdx.ix2 r c) + (Scalar.ofBits (F := Ideal) .f32 0x00000000#32 + ∑ k : Fin 256, a (ValueIdx.ix2 r k) *
      (((((q (ValueIdx.ix2 k c)).toInt : ℝ) : EReal)) * concatenate ⟨2, ![256, n]⟩ 0 [⟨⟨2, ![128, n]⟩, s0⟩, ⟨⟨2, ![128, n]⟩, s1⟩] hc (ValueIdx.ix2 k c))) = _
    simp
  rw [e, hacc r c, Nat.mul_add, Nat.mul_one, Finset.sum_range_add, ← Fin.sum_univ_eq_sum_range (fun k => term A W G r.val c.val (256 * s + k)) 256]
  refine congrArg (_ + ·) (Finset.sum_congr rfl fun k _ => ?_)
  have hk := k.isLt
  unfold term
  rw [ha, hq]
  have a1 : (256 * s + k.val) / 8 = 32 * s + k.val / 8 := by omega
  have a2 : (256 * s + k.val) % 8 = k.val % 8 := by omega
  rw [a1, a2]
  by_cases hlt : k.val < 128
  · have a3 : (256 * s + k.val) / 128 = 2 * s := by omega
    rw [a3, concatenate_pair_apply_left 0 s0 s1 hc (ValueIdx.ix2 k c) rfl (ValueIdx.ix2 ⟨k.val, hlt⟩ c) (fun b => by match b with | ⟨0, _⟩ => rfl | ⟨1, _⟩ => rfl), h0]
  · have a3 : (256 * s + k.val) / 128 = 2 * s + 1 := by omega
    rw [a3, concatenate_pair_apply_right 0 s0 s1 hc (ValueIdx.ix2 k c) rfl rfl (ValueIdx.ix2 ⟨k.val - 128, by omega⟩ c)
      (fun b hb => by
        match b with
        | ⟨0, _⟩ => exact absurd rfl hb
        | ⟨1, _⟩ => rfl)
      (by show k.val - 128 + 128 = k.val; omega), h1]

end

/-- An array of two axes read at two numbers, the default outside it. -/
def at2 {α : Type} [Inhabited α] {m n : ℕ} (x : (⟨2, ![m, n]⟩ : Shape).Idx → α) (i j : ℕ) : α :=
  if h : i < m ∧ j < n then x (ValueIdx.ix2 ⟨i, h.1⟩ ⟨j, h.2⟩) else default

theorem at2_ix2 {α : Type} [Inhabited α] {m n : ℕ} (x : (⟨2, ![m, n]⟩ : Shape).Idx → α) (i : Fin m) (j : Fin n) :
    at2 x i.val j.val = x (ValueIdx.ix2 i j) := dif_pos ⟨i.isLt, j.isLt⟩

theorem at2_eq {α : Type} [Inhabited α] {m n : ℕ} (x : (⟨2, ![m, n]⟩ : Shape).Idx → α) (i j : ℕ) (hi : i < m) (hj : j < n) :
    at2 x i j = x (ValueIdx.ix2 ⟨i, hi⟩ ⟨j, hj⟩) := dif_pos ⟨hi, hj⟩

/-- A load of one rectangle of an array of two axes reads the array at the rectangle's offsets plus the coordinates. -/
theorem ld_ix2 {F : FTy → Type} {e : EltTy} {m n p q : ℕ} (x : Vec F ⟨2, ![m, n]⟩ e) (i j : ℕ) (inb) (r : Fin p) (c : Fin q)
    (hi : i + r.val < m) (hj : j + c.val < n) :
    View.ld x (Rect.unit (s := ⟨2, ![m, n]⟩) ![i, j] ![p, q] inb) (ValueIdx.ix2 r c) = x (ValueIdx.ix2 ⟨i + r.val, hi⟩ ⟨j + c.val, hj⟩) := by
  refine View.ld_unit_apply_of x ![i, j] ![p, q] inb _ _ fun a => ?_
  match a with
  | ⟨0, _⟩ => rfl
  | ⟨1, _⟩ => rfl

/-- One step of a kernel's product, its operands loaded from the blocks: after step `s` the running sum has `256 (s + 1)`
    terms. -/
theorem Sums.step_ld {n K R Q : ℕ} (a : Vec Ideal ⟨2, ![80, K]⟩ .bf16) (w : Vec Ideal ⟨2, ![R, n]⟩ .i32)
    (g : FVec Ideal ⟨2, ![Q, n]⟩ .f32) (s : ℕ) {acc : FVec Ideal ⟨2, ![80, n]⟩ .f32}
    (oa ow i0 i1 : ℕ) (hoa : oa = 256 * s) (how : ow = 32 * s) (hi0 : i0 = 2 * s) (hi1 : i1 = 2 * s + 1) (hQ : i1 < Q)
    (ia) (iw) (h1 h2 h3 h4 h5) (f0 f1 g2 g3 g4 hc)
    (hacc : Sums (at2 (α := EReal) a) (at2 (α := BitVec 32) w) (at2 (α := EReal) g) s acc) :
    Sums (at2 (α := EReal) a) (at2 (α := BitVec 32) w) (at2 (α := EReal) g) (s + 1)
      (stepV acc (View.ld a (Rect.unit (s := ⟨2, ![80, K]⟩) ![0, oa] ![80, 256] ia))
        (nibV (View.ld w (Rect.unit (s := ⟨2, ![R, n]⟩) ![ow, 0] ![32, n] iw)) h1 h2 h3 h4 h5)
        (sclV i0 g f0 g2 g3 g4) (sclV i1 g f1 g2 g3 g4) hc) := by
  subst hoa how hi0 hi1
  refine Sums.step s hc hacc (fun r k => ?_) (fun k c => ?_) (fun p c => ?_) (fun p c => ?_)
  · have b0 : 0 + 80 ≤ 80 := ia 0
    have b1 : 256 * s + 256 ≤ K := ia 1
    have hr := r.isLt
    have hk := k.isLt
    rw [ld_ix2 (F := Ideal) a 0 (256 * s) ia r k (by omega) (by omega), at2_eq _ _ _ hr (by omega)]
    congr 2
    exact Fin.ext (Nat.zero_add _)
  · have b0 : 32 * s + 32 ≤ R := iw 0
    have hk := k.isLt
    have hcn := c.isLt
    rw [nibV_apply, ld_ix2 (F := Ideal) w (32 * s) 0 iw _ c (by show 32 * s + k.val / 8 < R; omega) (by omega),
      at2_eq _ _ _ (by omega) hcn]
    congr 3
    exact Fin.ext (Nat.zero_add _)
  · rw [sclV_apply _ (by omega), at2_eq]
  · rw [sclV_apply _ (by omega), at2_eq]

end Cert.Linear
-- ==== Proof.Qkv.Sums.lean ====
/- The Qkv kernel's product over the extended reals: every running sum its body computes is the sum of its terms so far. -/
module

public import proofs.«01_k».proof.Proof.Qkv.Chain
public import proofs.«01_k».proof.Proof.Common.Linear

@[expose] public section

set_option maxRecDepth 16384

noncomputable section

namespace Cert.QkvIdeal.Run
open Cert.QkvIdeal.Gen Cert.Linear

open Idealize.ShloMosaic Idealize.ShloMosaic.TcCoe

/-- The zeros the running sum starts from. -/
def zeroV : FVec Ideal S80x512 .f32 := broadcast S80x512 (Scalar.ofBits (F := Ideal) .f32 0x00000000#32)

/-- The block's group scales. -/
def gD (g : Vec Ideal S64x512 .fp8e4m3) : FVec Ideal S64x512 .f32 :=
  extf .f32 (View.ld g (Rect.unit (s := S64x512) ![0, 0] S64x512.size inb_S64x512_S64x512_0_0)) bitsLt_fp8e4m3_f32

theorem gD_eq (g : Vec Ideal S64x512 .fp8e4m3) : gD g = g := by
  unfold gD
  rw [View.ld_unit_lit]
  · rfl
  · decide

/-- The nibbles of 32 loaded rows. -/
abbrev nibD (w : IVec S32x512 32) : IVec S256x512 4 :=
  nibV w shapeCasts_S32x512_S32x1x512 shapeCasts_S32x1x512_S32x1x512 broadcasts_S32x1x512_S32x8x512 iota_S32x8x512_d1_w32 shapeCasts_S32x8x512_S256x512

/-- One row of group scales over its 128 rows. -/
abbrev sclD (i : ℕ) (g : FVec Ideal S64x512 .f32) (f : (S64x512 : Shape).Slices ![i, 0] S1x512) : FVec Ideal S128x512 .bf16 :=
  sclV i g f shapeCasts_S1x512_S1x512 broadcasts_S1x512_S128x512 bitsLt_bf16_f32

/-- One step of the product. -/
abbrev stepD (acc : FVec Ideal S80x512 .f32) (a : FVec Ideal S80x256 .bf16) (q : IVec S256x512 4) (s0 s1 : FVec Ideal S128x512 .bf16) :
    FVec Ideal S80x512 .f32 :=
  stepV acc a q s0 s1 concatenates_S128x512_S128x512_S256x512_d0

/-- The running sum of a block's product after `s` steps. -/
abbrev SumsD (o : Ops Ideal) (s : ℕ) (acc : FVec Ideal S80x512 .f32) : Prop :=
  Sums (at2 (α := EReal) o.a) (at2 (α := BitVec 32) o.w) (at2 (α := EReal) (gD o.g)) s acc

/-- One step on loaded operands extends the running sum by 256 terms. -/
theorem stepD_sums (o : Ops Ideal) (s : ℕ)
    {acc : FVec Ideal S80x512 .f32} (oa ow i0 i1 : ℕ) (hoa : oa = 256 * s) (how : ow = 32 * s) (hi0 : i0 = 2 * s) (hi1 : i1 = 2 * s + 1)
    (hQ : i1 < 64) (ia iw f0 f1) (hacc : SumsD o s acc) :
    SumsD o (s + 1) (stepD acc (View.ld o.a (Rect.unit (s := S80x8192) ![0, oa] S80x256.size ia)) (nibD (View.ld o.w (Rect.unit (s := S1024x512) ![ow, 0] S32x512.size iw)))
        (sclD i0 (gD o.g) f0) (sclD i1 (gD o.g) f1)) :=
  Sums.step_ld o.a o.w (gD o.g) s oa ow i0 i1 hoa how hi0 hi1 hQ ia iw _ _ _ _ _ f0 f1 _ _ _ _ hacc

/-- The running sum after 1 steps. -/
theorem sum_v29 (o : Ops Ideal) : SumsD o 1 (c_v29 o) := by
  have e : c_v29 o = (stepD zeroV (c_v27 o) (nibD (c_v6 o)) (sclD 0 (gD o.g) slices_S64x512_o0_0_S1x512) (sclD 1 (gD o.g) slices_S64x512_o1_0_S1x512)) := rfl
  rw [e]
  exact (stepD_sums o 0 0 0 0 1 rfl rfl rfl rfl (by decide) inb_S80x8192_S80x256_0_0 inb_S1024x512_S32x512_0_0 slices_S64x512_o0_0_S1x512 slices_S64x512_o1_0_S1x512 (Sums.zero _ _ _))

/-- The running sum after 3 steps. -/
theorem sum_v77 (o : Ops Ideal) : SumsD o 3 (c_v77 o) := by
  have e : c_v77 o = (stepD (stepD (c_v29 o) (c_v51 o) (nibD (c_v30 o)) (sclD 2 (gD o.g) slices_S64x512_o2_0_S1x512) (sclD 3 (gD o.g) slices_S64x512_o3_0_S1x512)) (c_v75 o) (nibD (c_v54 o)) (sclD 4 (gD o.g) slices_S64x512_o4_0_S1x512) (sclD 5 (gD o.g) slices_S64x512_o5_0_S1x512)) := rfl
  rw [e]
  exact (stepD_sums o 2 512 64 4 5 rfl rfl rfl rfl (by decide) inb_S80x8192_S80x256_0_512 inb_S1024x512_S32x512_64_0 slices_S64x512_o4_0_S1x512 slices_S64x512_o5_0_S1x512 (stepD_sums o 1 256 32 2 3 rfl rfl rfl rfl (by decide) inb_S80x8192_S80x256_0_256 inb_S1024x512_S32x512_32_0 slices_S64x512_o2_0_S1x512 slices_S64x512_o3_0_S1x512 (sum_v29 o)))

/-- The running sum after 5 steps. -/
theorem sum_v125 (o : Ops Ideal) : SumsD o 5 (c_v125 o) := by
  have e : c_v125 o = (stepD (stepD (c_v77 o) (c_v99 o) (nibD (c_v78 o)) (sclD 6 (gD o.g) slices_S64x512_o6_0_S1x512) (sclD 7 (gD o.g) slices_S64x512_o7_0_S1x512)) (c_v123 o) (nibD (c_v102 o)) (sclD 8 (gD o.g) slices_S64x512_o8_0_S1x512) (sclD 9 (gD o.g) slices_S64x512_o9_0_S1x512)) := rfl
  rw [e]
  exact (stepD_sums o 4 1024 128 8 9 rfl rfl rfl rfl (by decide) inb_S80x8192_S80x256_0_1024 inb_S1024x512_S32x512_128_0 slices_S64x512_o8_0_S1x512 slices_S64x512_o9_0_S1x512 (stepD_sums o 3 768 96 6 7 rfl rfl rfl rfl (by decide) inb_S80x8192_S80x256_0_768 inb_S1024x512_S32x512_96_0 slices_S64x512_o6_0_S1x512 slices_S64x512_o7_0_S1x512 (sum_v77 o)))

/-- The running sum after 7 steps. -/
theorem sum_v173 (o : Ops Ideal) : SumsD o 7 (c_v173 o) := by
  have e : c_v173 o = (stepD (stepD (c_v125 o) (c_v147 o) (nibD (c_v126 o)) (sclD 10 (gD o.g) slices_S64x512_o10_0_S1x512) (sclD 11 (gD o.g) slices_S64x512_o11_0_S1x512)) (c_v171 o) (nibD (c_v150 o)) (sclD 12 (gD o.g) slices_S64x512_o12_0_S1x512) (sclD 13 (gD o.g) slices_S64x512_o13_0_S1x512)) := rfl
  rw [e]
  exact (stepD_sums o 6 1536 192 12 13 rfl rfl rfl rfl (by decide) inb_S80x8192_S80x256_0_1536 inb_S1024x512_S32x512_192_0 slices_S64x512_o12_0_S1x512 slices_S64x512_o13_0_S1x512 (stepD_sums o 5 1280 160 10 11 rfl rfl rfl rfl (by decide) inb_S80x8192_S80x256_0_1280 inb_S1024x512_S32x512_160_0 slices_S64x512_o10_0_S1x512 slices_S64x512_o11_0_S1x512 (sum_v125 o)))

/-- The running sum after 9 steps. -/
theorem sum_v221 (o : Ops Ideal) : SumsD o 9 (c_v221 o) := by
  have e : c_v221 o = (stepD (stepD (c_v173 o) (c_v195 o) (nibD (c_v174 o)) (sclD 14 (gD o.g) slices_S64x512_o14_0_S1x512) (sclD 15 (gD o.g) slices_S64x512_o15_0_S1x512)) (c_v219 o) (nibD (c_v198 o)) (sclD 16 (gD o.g) slices_S64x512_o16_0_S1x512) (sclD 17 (gD o.g) slices_S64x512_o17_0_S1x512)) := rfl
  rw [e]
  exact (stepD_sums o 8 2048 256 16 17 rfl rfl rfl rfl (by decide) inb_S80x8192_S80x256_0_2048 inb_S1024x512_S32x512_256_0 slices_S64x512_o16_0_S1x512 slices_S64x512_o17_0_S1x512 (stepD_sums o 7 1792 224 14 15 rfl rfl rfl rfl (by decide) inb_S80x8192_S80x256_0_1792 inb_S1024x512_S32x512_224_0 slices_S64x512_o14_0_S1x512 slices_S64x512_o15_0_S1x512 (sum_v173 o)))

/-- The running sum after 11 steps. -/
theorem sum_v269 (o : Ops Ideal) : SumsD o 11 (c_v269 o) := by
  have e : c_v269 o = (stepD (stepD (c_v221 o) (c_v243 o) (nibD (c_v222 o)) (sclD 18 (gD o.g) slices_S64x512_o18_0_S1x512) (sclD 19 (gD o.g) slices_S64x512_o19_0_S1x512)) (c_v267 o) (nibD (c_v246 o)) (sclD 20 (gD o.g) slices_S64x512_o20_0_S1x512) (sclD 21 (gD o.g) slices_S64x512_o21_0_S1x512)) := rfl
  rw [e]
  exact (stepD_sums o 10 2560 320 20 21 rfl rfl rfl rfl (by decide) inb_S80x8192_S80x256_0_2560 inb_S1024x512_S32x512_320_0 slices_S64x512_o20_0_S1x512 slices_S64x512_o21_0_S1x512 (stepD_sums o 9 2304 288 18 19 rfl rfl rfl rfl (by decide) inb_S80x8192_S80x256_0_2304 inb_S1024x512_S32x512_288_0 slices_S64x512_o18_0_S1x512 slices_S64x512_o19_0_S1x512 (sum_v221 o)))

/-- The running sum after 13 steps. -/
theorem sum_v317 (o : Ops Ideal) : SumsD o 13 (c_v317 o) := by
  have e : c_v317 o = (stepD (stepD (c_v269 o) (c_v291 o) (nibD (c_v270 o)) (sclD 22 (gD o.g) slices_S64x512_o22_0_S1x512) (sclD 23 (gD o.g) slices_S64x512_o23_0_S1x512)) (c_v315 o) (nibD (c_v294 o)) (sclD 24 (gD o.g) slices_S64x512_o24_0_S1x512) (sclD 25 (gD o.g) slices_S64x512_o25_0_S1x512)) := rfl
  rw [e]
  exact (stepD_sums o 12 3072 384 24 25 rfl rfl rfl rfl (by decide) inb_S80x8192_S80x256_0_3072 inb_S1024x512_S32x512_384_0 slices_S64x512_o24_0_S1x512 slices_S64x512_o25_0_S1x512 (stepD_sums o 11 2816 352 22 23 rfl rfl rfl rfl (by decide) inb_S80x8192_S80x256_0_2816 inb_S1024x512_S32x512_352_0 slices_S64x512_o22_0_S1x512 slices_S64x512_o23_0_S1x512 (sum_v269 o)))

/-- The running sum after 15 steps. -/
theorem sum_v365 (o : Ops Ideal) : SumsD o 15 (c_v365 o) := by
  have e : c_v365 o = (stepD (stepD (c_v317 o) (c_v339 o) (nibD (c_v318 o)) (sclD 26 (gD o.g) slices_S64x512_o26_0_S1x512) (sclD 27 (gD o.g) slices_S64x512_o27_0_S1x512)) (c_v363 o) (nibD (c_v342 o)) (sclD 28 (gD o.g) slices_S64x512_o28_0_S1x512) (sclD 29 (gD o.g) slices_S64x512_o29_0_S1x512)) := rfl
  rw [e]
  exact (stepD_sums o 14 3584 448 28 29 rfl rfl rfl rfl (by decide) inb_S80x8192_S80x256_0_3584 inb_S1024x512_S32x512_448_0 slices_S64x512_o28_0_S1x512 slices_S64x512_o29_0_S1x512 (stepD_sums o 13 3328 416 26 27 rfl rfl rfl rfl (by decide) inb_S80x8192_S80x256_0_3328 inb_S1024x512_S32x512_416_0 slices_S64x512_o26_0_S1x512 slices_S64x512_o27_0_S1x512 (sum_v317 o)))

/-- The running sum after 17 steps. -/
theorem sum_v413 (o : Ops Ideal) : SumsD o 17 (c_v413 o) := by
  have e : c_v413 o = (stepD (stepD (c_v365 o) (c_v387 o) (nibD (c_v366 o)) (sclD 30 (gD o.g) slices_S64x512_o30_0_S1x512) (sclD 31 (gD o.g) slices_S64x512_o31_0_S1x512)) (c_v411 o) (nibD (c_v390 o)) (sclD 32 (gD o.g) slices_S64x512_o32_0_S1x512) (sclD 33 (gD o.g) slices_S64x512_o33_0_S1x512)) := rfl
  rw [e]
  exact (stepD_sums o 16 4096 512 32 33 rfl rfl rfl rfl (by decide) inb_S80x8192_S80x256_0_4096 inb_S1024x512_S32x512_512_0 slices_S64x512_o32_0_S1x512 slices_S64x512_o33_0_S1x512 (stepD_sums o 15 3840 480 30 31 rfl rfl rfl rfl (by decide) inb_S80x8192_S80x256_0_3840 inb_S1024x512_S32x512_480_0 slices_S64x512_o30_0_S1x512 slices_S64x512_o31_0_S1x512 (sum_v365 o)))

/-- The running sum after 19 steps. -/
theorem sum_v461 (o : Ops Ideal) : SumsD o 19 (c_v461 o) := by
  have e : c_v461 o = (stepD (stepD (c_v413 o) (c_v435 o) (nibD (c_v414 o)) (sclD 34 (gD o.g) slices_S64x512_o34_0_S1x512) (sclD 35 (gD o.g) slices_S64x512_o35_0_S1x512)) (c_v459 o) (nibD (c_v438 o)) (sclD 36 (gD o.g) slices_S64x512_o36_0_S1x512) (sclD 37 (gD o.g) slices_S64x512_o37_0_S1x512)) := rfl
  rw [e]
  exact (stepD_sums o 18 4608 576 36 37 rfl rfl rfl rfl (by decide) inb_S80x8192_S80x256_0_4608 inb_S1024x512_S32x512_576_0 slices_S64x512_o36_0_S1x512 slices_S64x512_o37_0_S1x512 (stepD_sums o 17 4352 544 34 35 rfl rfl rfl rfl (by decide) inb_S80x8192_S80x256_0_4352 inb_S1024x512_S32x512_544_0 slices_S64x512_o34_0_S1x512 slices_S64x512_o35_0_S1x512 (sum_v413 o)))

/-- The running sum after 21 steps. -/
theorem sum_v509 (o : Ops Ideal) : SumsD o 21 (c_v509 o) := by
  have e : c_v509 o = (stepD (stepD (c_v461 o) (c_v483 o) (nibD (c_v462 o)) (sclD 38 (gD o.g) slices_S64x512_o38_0_S1x512) (sclD 39 (gD o.g) slices_S64x512_o39_0_S1x512)) (c_v507 o) (nibD (c_v486 o)) (sclD 40 (gD o.g) slices_S64x512_o40_0_S1x512) (sclD 41 (gD o.g) slices_S64x512_o41_0_S1x512)) := rfl
  rw [e]
  exact (stepD_sums o 20 5120 640 40 41 rfl rfl rfl rfl (by decide) inb_S80x8192_S80x256_0_5120 inb_S1024x512_S32x512_640_0 slices_S64x512_o40_0_S1x512 slices_S64x512_o41_0_S1x512 (stepD_sums o 19 4864 608 38 39 rfl rfl rfl rfl (by decide) inb_S80x8192_S80x256_0_4864 inb_S1024x512_S32x512_608_0 slices_S64x512_o38_0_S1x512 slices_S64x512_o39_0_S1x512 (sum_v461 o)))

/-- The running sum after 23 steps. -/
theorem sum_v557 (o : Ops Ideal) : SumsD o 23 (c_v557 o) := by
  have e : c_v557 o = (stepD (stepD (c_v509 o) (c_v531 o) (nibD (c_v510 o)) (sclD 42 (gD o.g) slices_S64x512_o42_0_S1x512) (sclD 43 (gD o.g) slices_S64x512_o43_0_S1x512)) (c_v555 o) (nibD (c_v534 o)) (sclD 44 (gD o.g) slices_S64x512_o44_0_S1x512) (sclD 45 (gD o.g) slices_S64x512_o45_0_S1x512)) := rfl
  rw [e]
  exact (stepD_sums o 22 5632 704 44 45 rfl rfl rfl rfl (by decide) inb_S80x8192_S80x256_0_5632 inb_S1024x512_S32x512_704_0 slices_S64x512_o44_0_S1x512 slices_S64x512_o45_0_S1x512 (stepD_sums o 21 5376 672 42 43 rfl rfl rfl rfl (by decide) inb_S80x8192_S80x256_0_5376 inb_S1024x512_S32x512_672_0 slices_S64x512_o42_0_S1x512 slices_S64x512_o43_0_S1x512 (sum_v509 o)))

/-- The running sum after 25 steps. -/
theorem sum_v605 (o : Ops Ideal) : SumsD o 25 (c_v605 o) := by
  have e : c_v605 o = (stepD (stepD (c_v557 o) (c_v579 o) (nibD (c_v558 o)) (sclD 46 (gD o.g) slices_S64x512_o46_0_S1x512) (sclD 47 (gD o.g) slices_S64x512_o47_0_S1x512)) (c_v603 o) (nibD (c_v582 o)) (sclD 48 (gD o.g) slices_S64x512_o48_0_S1x512) (sclD 49 (gD o.g) slices_S64x512_o49_0_S1x512)) := rfl
  rw [e]
  exact (stepD_sums o 24 6144 768 48 49 rfl rfl rfl rfl (by decide) inb_S80x8192_S80x256_0_6144 inb_S1024x512_S32x512_768_0 slices_S64x512_o48_0_S1x512 slices_S64x512_o49_0_S1x512 (stepD_sums o 23 5888 736 46 47 rfl rfl rfl rfl (by decide) inb_S80x8192_S80x256_0_5888 inb_S1024x512_S32x512_736_0 slices_S64x512_o46_0_S1x512 slices_S64x512_o47_0_S1x512 (sum_v557 o)))

/-- The running sum after 27 steps. -/
theorem sum_v653 (o : Ops Ideal) : SumsD o 27 (c_v653 o) := by
  have e : c_v653 o = (stepD (stepD (c_v605 o) (c_v627 o) (nibD (c_v606 o)) (sclD 50 (gD o.g) slices_S64x512_o50_0_S1x512) (sclD 51 (gD o.g) slices_S64x512_o51_0_S1x512)) (c_v651 o) (nibD (c_v630 o)) (sclD 52 (gD o.g) slices_S64x512_o52_0_S1x512) (sclD 53 (gD o.g) slices_S64x512_o53_0_S1x512)) := rfl
  rw [e]
  exact (stepD_sums o 26 6656 832 52 53 rfl rfl rfl rfl (by decide) inb_S80x8192_S80x256_0_6656 inb_S1024x512_S32x512_832_0 slices_S64x512_o52_0_S1x512 slices_S64x512_o53_0_S1x512 (stepD_sums o 25 6400 800 50 51 rfl rfl rfl rfl (by decide) inb_S80x8192_S80x256_0_6400 inb_S1024x512_S32x512_800_0 slices_S64x512_o50_0_S1x512 slices_S64x512_o51_0_S1x512 (sum_v605 o)))

/-- The running sum after 29 steps. -/
theorem sum_v701 (o : Ops Ideal) : SumsD o 29 (c_v701 o) := by
  have e : c_v701 o = (stepD (stepD (c_v653 o) (c_v675 o) (nibD (c_v654 o)) (sclD 54 (gD o.g) slices_S64x512_o54_0_S1x512) (sclD 55 (gD o.g) slices_S64x512_o55_0_S1x512)) (c_v699 o) (nibD (c_v678 o)) (sclD 56 (gD o.g) slices_S64x512_o56_0_S1x512) (sclD 57 (gD o.g) slices_S64x512_o57_0_S1x512)) := rfl
  rw [e]
  exact (stepD_sums o 28 7168 896 56 57 rfl rfl rfl rfl (by decide) inb_S80x8192_S80x256_0_7168 inb_S1024x512_S32x512_896_0 slices_S64x512_o56_0_S1x512 slices_S64x512_o57_0_S1x512 (stepD_sums o 27 6912 864 54 55 rfl rfl rfl rfl (by decide) inb_S80x8192_S80x256_0_6912 inb_S1024x512_S32x512_864_0 slices_S64x512_o54_0_S1x512 slices_S64x512_o55_0_S1x512 (sum_v653 o)))

/-- The running sum after 31 steps. -/
theorem sum_v749 (o : Ops Ideal) : SumsD o 31 (c_v749 o) := by
  have e : c_v749 o = (stepD (stepD (c_v701 o) (c_v723 o) (nibD (c_v702 o)) (sclD 58 (gD o.g) slices_S64x512_o58_0_S1x512) (sclD 59 (gD o.g) slices_S64x512_o59_0_S1x512)) (c_v747 o) (nibD (c_v726 o)) (sclD 60 (gD o.g) slices_S64x512_o60_0_S1x512) (sclD 61 (gD o.g) slices_S64x512_o61_0_S1x512)) := rfl
  rw [e]
  exact (stepD_sums o 30 7680 960 60 61 rfl rfl rfl rfl (by decide) inb_S80x8192_S80x256_0_7680 inb_S1024x512_S32x512_960_0 slices_S64x512_o60_0_S1x512 slices_S64x512_o61_0_S1x512 (stepD_sums o 29 7424 928 58 59 rfl rfl rfl rfl (by decide) inb_S80x8192_S80x256_0_7424 inb_S1024x512_S32x512_928_0 slices_S64x512_o58_0_S1x512 slices_S64x512_o59_0_S1x512 (sum_v701 o)))

/-- The whole product, 32 steps. -/
def coreV (o : Ops Ideal) : FVec Ideal S80x512 .f32 :=
  (stepD (c_v749 o) (c_v771 o) (nibD (c_v750 o)) (sclD 62 (gD o.g) slices_S64x512_o62_0_S1x512) (sclD 63 (gD o.g) slices_S64x512_o63_0_S1x512))

theorem coreV_sums (o : Ops Ideal) : SumsD o 32 (coreV o) :=
  (stepD_sums o 31 7936 992 62 63 rfl rfl rfl rfl (by decide) inb_S80x8192_S80x256_0_7936 inb_S1024x512_S32x512_992_0 slices_S64x512_o62_0_S1x512 slices_S64x512_o63_0_S1x512 (sum_v749 o))

end Cert.QkvIdeal.Run

end
-- ==== Proof.Qkv.RefRun.lean ====
/- The reference of the Qkv kernel, run: each output array as one function of the arguments, the arguments unchanged. -/
module

public import proofs.«01_k».proof.Proof.Gen.QkvRefIdeal.Frame
public import Idealize.ShloMosaic.Lib.Pipeline.Value

@[expose] public section

noncomputable section

namespace Cert.QkvRefIdeal.Value

open Cert.QkvRefIdeal Cert.QkvRefIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v0_0) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v0_1) = (dats m 0 c).arrAt 10 cfg0.N :=
  (h c).1 10

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v0_2) = (dats m 0 c).arrAt 11 cfg0.N :=
  (h c).1 11

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v0_3) = (dats m 0 c).arrAt 12 cfg0.N :=
  (h c).1 12

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v0_4) = (dats m 0 c).arrAt 13 cfg0.N :=
  (h c).1 13

/-- After the frame run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v0_5) = (dats m 0 c).arrAt 14 cfg0.N :=
  (h c).1 14

/-! ## Closed form at one grid point: every window's block is its array -/

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S72x1x8192.Idx) : ((cfg0.win 0).blk t).view.emb j = j := by
  obtain ⟨e0, e1, e2⟩ := idx_zero0 t
  funext a; apply Fin.ext
  match a with
  | ⟨0, _⟩ => show win0_0.index t (0 : Fin 3) * 72 + 1 * (j 0).val = (j 0).val; omega
  | ⟨1, _⟩ => show win0_0.index t (1 : Fin 3) * 1 + 1 * (j 1).val = (j 1).val; omega
  | ⟨2, _⟩ => show win0_0.index t (2 : Fin 3) * 8192 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0] : Fin 1 → Nat) = fun _ => 0 := funext fun a => by fin_cases a <;> rfl

/-- Window 1's block index at the one point is zero on every axis. -/
theorem idx_zero1 : ∀ t : Fin cfg0.N, win0_1.index t (0 : Fin 1) = 0 :=
  (by decide +kernel : ∀ t : Fin grid0.N, _)

/-- An index of window 1's block is the same index of its array. -/
theorem emb1 (t : Fin cfg0.N) (j : S8192.Idx) : ((cfg0.win 1).blk t).view.emb j = j := by
  have e0 := idx_zero1 t
  funext a; apply Fin.ext
  match a with
  | ⟨0, _⟩ => show win0_1.index t (0 : Fin 1) * 8192 + 1 * (j 0).val = (j 0).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0, 0] : Fin 3 → Nat) = fun _ => 0 := funext fun a => by fin_cases a <;> rfl

/-- Window 2's block index at the one point is zero on every axis. -/
theorem idx_zero2 : ∀ t : Fin cfg0.N, win0_2.index t (0 : Fin 3) = 0 ∧ win0_2.index t (1 : Fin 3) = 0 ∧ win0_2.index t (2 : Fin 3) = 0 :=
  (by decide +kernel : ∀ t : Fin grid0.N, _)

/-- An index of window 2's block is the same index of its array. -/
theorem emb2 (t : Fin cfg0.N) (j : S72x1x64.Idx) : ((cfg0.win 2).blk t).view.emb j = j := by
  obtain ⟨e0, e1, e2⟩ := idx_zero2 t
  funext a; apply Fin.ext
  match a with
  | ⟨0, _⟩ => show win0_2.index t (0 : Fin 3) * 72 + 1 * (j 0).val = (j 0).val; omega
  | ⟨1, _⟩ => show win0_2.index t (1 : Fin 3) * 1 + 1 * (j 1).val = (j 1).val; omega
  | ⟨2, _⟩ => show win0_2.index t (2 : Fin 3) * 64 + 1 * (j 2).val = (j 2).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0, 0] : Fin 3 → Nat) = fun _ => 0 := funext fun a => by fin_cases a <;> rfl

/-- Window 3's block index at the one point is zero on every axis. -/
theorem idx_zero3 : ∀ t : Fin cfg0.N, win0_3.index t (0 : Fin 3) = 0 ∧ win0_3.index t (1 : Fin 3) = 0 ∧ win0_3.index t (2 : Fin 3) = 0 :=
  (by decide +kernel : ∀ t : Fin grid0.N, _)

/-- An index of window 3's block is the same index of its array. -/
theorem emb3 (t : Fin cfg0.N) (j : S72x1x64.Idx) : ((cfg0.win 3).blk t).view.emb j = j := by
  obtain ⟨e0, e1, e2⟩ := idx_zero3 t
  funext a; apply Fin.ext
  match a with
  | ⟨0, _⟩ => show win0_3.index t (0 : Fin 3) * 72 + 1 * (j 0).val = (j 0).val; omega
  | ⟨1, _⟩ => show win0_3.index t (1 : Fin 3) * 1 + 1 * (j 1).val = (j 1).val; omega
  | ⟨2, _⟩ => show win0_3.index t (2 : Fin 3) * 64 + 1 * (j 2).val = (j 2).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0] : Fin 1 → Nat) = fun _ => 0 := funext fun a => by fin_cases a <;> rfl

/-- Window 4's block index at the one point is zero on every axis. -/
theorem idx_zero4 : ∀ t : Fin cfg0.N, win0_4.index t (0 : Fin 1) = 0 :=
  (by decide +kernel : ∀ t : Fin grid0.N, _)

/-- An index of window 4's block is the same index of its array. -/
theorem emb4 (t : Fin cfg0.N) (j : S2.Idx) : ((cfg0.win 4).blk t).view.emb j = j := by
  have e0 := idx_zero4 t
  funext a; apply Fin.ext
  match a with
  | ⟨0, _⟩ => show win0_4.index t (0 : Fin 1) * 2 + 1 * (j 0).val = (j 0).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

theorem hz5 : (![0] : Fin 1 → Nat) = fun _ => 0 := funext fun a => by fin_cases a <;> rfl

/-- Window 5's block index at the one point is zero on every axis. -/
theorem idx_zero5 : ∀ t : Fin cfg0.N, win0_5.index t (0 : Fin 1) = 0 :=
  (by decide +kernel : ∀ t : Fin grid0.N, _)

/-- An index of window 5's block is the same index of its array. -/
theorem emb5 (t : Fin cfg0.N) (j : S2.Idx) : ((cfg0.win 5).blk t).view.emb j = j := by
  have e0 := idx_zero5 t
  funext a; apply Fin.ext
  match a with
  | ⟨0, _⟩ => show win0_5.index t (0 : Fin 1) * 2 + 1 * (j 0).val = (j 0).val; omega

/-- Input window 5's block at the point is its array as the region finds it. -/
theorem iblk5_eq (c : Dev nD) (t : Fin cfg0.N) : iblk m c 5 t = V m c main_arg5 := by
  funext j; show V m c main_arg5 (((cfg0.win 5).blk t).view.emb j) = V m c main_arg5 j; rw [emb5]

theorem hz6 : (![0, 0] : Fin 2 → Nat) = fun _ => 0 := funext fun a => by fin_cases a <;> rfl

/-- Window 6's block index at the one point is zero on every axis. -/
theorem idx_zero6 : ∀ t : Fin cfg0.N, win0_6.index t (0 : Fin 2) = 0 ∧ win0_6.index t (1 : Fin 2) = 0 :=
  (by decide +kernel : ∀ t : Fin grid0.N, _)

/-- An index of window 6's block is the same index of its array. -/
theorem emb6 (t : Fin cfg0.N) (j : S1024x2560.Idx) : ((cfg0.win 6).blk t).view.emb j = j := by
  obtain ⟨e0, e1⟩ := idx_zero6 t
  funext a; apply Fin.ext
  match a with
  | ⟨0, _⟩ => show win0_6.index t (0 : Fin 2) * 1024 + 1 * (j 0).val = (j 0).val; omega
  | ⟨1, _⟩ => show win0_6.index t (1 : Fin 2) * 2560 + 1 * (j 1).val = (j 1).val; omega

/-- Input window 6's block at the point is its array as the region finds it. -/
theorem iblk6_eq (c : Dev nD) (t : Fin cfg0.N) : iblk m c 6 t = V m c main_arg6 := by
  funext j; show V m c main_arg6 (((cfg0.win 6).blk t).view.emb j) = V m c main_arg6 j; rw [emb6]

theorem hz7 : (![0, 0] : Fin 2 → Nat) = fun _ => 0 := funext fun a => by fin_cases a <;> rfl

/-- Window 7's block index at the one point is zero on every axis. -/
theorem idx_zero7 : ∀ t : Fin cfg0.N, win0_7.index t (0 : Fin 2) = 0 ∧ win0_7.index t (1 : Fin 2) = 0 :=
  (by decide +kernel : ∀ t : Fin grid0.N, _)

/-- An index of window 7's block is the same index of its array. -/
theorem emb7 (t : Fin cfg0.N) (j : S64x2560.Idx) : ((cfg0.win 7).blk t).view.emb j = j := by
  obtain ⟨e0, e1⟩ := idx_zero7 t
  funext a; apply Fin.ext
  match a with
  | ⟨0, _⟩ => show win0_7.index t (0 : Fin 2) * 64 + 1 * (j 0).val = (j 0).val; omega
  | ⟨1, _⟩ => show win0_7.index t (1 : Fin 2) * 2560 + 1 * (j 1).val = (j 1).val; omega

/-- Input window 7's block at the point is its array as the region finds it. -/
theorem iblk7_eq (c : Dev nD) (t : Fin cfg0.N) : iblk m c 7 t = V m c main_arg7 := by
  funext j; show V m c main_arg7 (((cfg0.win 7).blk t).view.emb j) = V m c main_arg7 j; rw [emb7]

theorem hz8 : (![0] : Fin 1 → Nat) = fun _ => 0 := funext fun a => by fin_cases a <;> rfl

/-- Window 8's block index at the one point is zero on every axis. -/
theorem idx_zero8 : ∀ t : Fin cfg0.N, win0_8.index t (0 : Fin 1) = 0 :=
  (by decide +kernel : ∀ t : Fin grid0.N, _)

/-- An index of window 8's block is the same index of its array. -/
theorem emb8 (t : Fin cfg0.N) (j : S2560.Idx) : ((cfg0.win 8).blk t).view.emb j = j := by
  have e0 := idx_zero8 t
  funext a; apply Fin.ext
  match a with
  | ⟨0, _⟩ => show win0_8.index t (0 : Fin 1) * 2560 + 1 * (j 0).val = (j 0).val; omega

/-- Input window 8's block at the point is its array as the region finds it. -/
theorem iblk8_eq (c : Dev nD) (t : Fin cfg0.N) : iblk m c 8 t = V m c main_arg8 := by
  funext j; show V m c main_arg8 (((cfg0.win 8).blk t).view.emb j) = V m c main_arg8 j; rw [emb8]

theorem hz9 : (![0, 0] : Fin 2 → Nat) = fun _ => 0 := funext fun a => by fin_cases a <;> rfl

/-- Window 9's block index at the one point is zero on every axis. -/
theorem idx_zero9 : ∀ t : Fin cfg0.N, win0_9.index t (0 : Fin 2) = 0 ∧ win0_9.index t (1 : Fin 2) = 0 :=
  (by decide +kernel : ∀ t : Fin grid0.N, _)

/-- An index of window 9's block is the same index of its array. -/
theorem emb9 (t : Fin cfg0.N) (j : S72x8192.Idx) : ((cfg0.win 9).blk t).view.emb j = j := by
  obtain ⟨e0, e1⟩ := idx_zero9 t
  funext a; apply Fin.ext
  match a with
  | ⟨0, _⟩ => show win0_9.index t (0 : Fin 2) * 72 + 1 * (j 0).val = (j 0).val; omega
  | ⟨1, _⟩ => show win0_9.index t (1 : Fin 2) * 8192 + 1 * (j 1).val = (j 1).val; omega

theorem hz10 : (![0, 0] : Fin 2 → Nat) = fun _ => 0 := funext fun a => by fin_cases a <;> rfl

/-- Window 10's block index at the one point is zero on every axis. -/
theorem idx_zero10 : ∀ t : Fin cfg0.N, win0_10.index t (0 : Fin 2) = 0 ∧ win0_10.index t (1 : Fin 2) = 0 :=
  (by decide +kernel : ∀ t : Fin grid0.N, _)

/-- An index of window 10's block is the same index of its array. -/
theorem emb10 (t : Fin cfg0.N) (j : S1x72.Idx) : ((cfg0.win 10).blk t).view.emb j = j := by
  obtain ⟨e0, e1⟩ := idx_zero10 t
  funext a; apply Fin.ext
  match a with
  | ⟨0, _⟩ => show win0_10.index t (0 : Fin 2) * 1 + 1 * (j 0).val = (j 0).val; omega
  | ⟨1, _⟩ => show win0_10.index t (1 : Fin 2) * 72 + 1 * (j 1).val = (j 1).val; omega

theorem hz11 : (![0, 0, 0] : Fin 3 → Nat) = fun _ => 0 := funext fun a => by fin_cases a <;> rfl

/-- Window 11's block index at the one point is zero on every axis. -/
theorem idx_zero11 : ∀ t : Fin cfg0.N, win0_11.index t (0 : Fin 3) = 0 ∧ win0_11.index t (1 : Fin 3) = 0 ∧ win0_11.index t (2 : Fin 3) = 0 :=
  (by decide +kernel : ∀ t : Fin grid0.N, _)

/-- An index of window 11's block is the same index of its array. -/
theorem emb11 (t : Fin cfg0.N) (j : S16x72x128.Idx) : ((cfg0.win 11).blk t).view.emb j = j := by
  obtain ⟨e0, e1, e2⟩ := idx_zero11 t
  funext a; apply Fin.ext
  match a with
  | ⟨0, _⟩ => show win0_11.index t (0 : Fin 3) * 16 + 1 * (j 0).val = (j 0).val; omega
  | ⟨1, _⟩ => show win0_11.index t (1 : Fin 3) * 72 + 1 * (j 1).val = (j 1).val; omega
  | ⟨2, _⟩ => show win0_11.index t (2 : Fin 3) * 128 + 1 * (j 2).val = (j 2).val; omega

theorem hz12 : (![0, 0, 0] : Fin 3 → Nat) = fun _ => 0 := funext fun a => by fin_cases a <;> rfl

/-- Window 12's block index at the one point is zero on every axis. -/
theorem idx_zero12 : ∀ t : Fin cfg0.N, win0_12.index t (0 : Fin 3) = 0 ∧ win0_12.index t (1 : Fin 3) = 0 ∧ win0_12.index t (2 : Fin 3) = 0 :=
  (by decide +kernel : ∀ t : Fin grid0.N, _)

/-- An index of window 12's block is the same index of its array. -/
theorem emb12 (t : Fin cfg0.N) (j : S16x72x128.Idx) : ((cfg0.win 12).blk t).view.emb j = j := by
  obtain ⟨e0, e1, e2⟩ := idx_zero12 t
  funext a; apply Fin.ext
  match a with
  | ⟨0, _⟩ => show win0_12.index t (0 : Fin 3) * 16 + 1 * (j 0).val = (j 0).val; omega
  | ⟨1, _⟩ => show win0_12.index t (1 : Fin 3) * 72 + 1 * (j 1).val = (j 1).val; omega
  | ⟨2, _⟩ => show win0_12.index t (2 : Fin 3) * 128 + 1 * (j 2).val = (j 2).val; omega

theorem hz13 : (![0, 0, 0] : Fin 3 → Nat) = fun _ => 0 := funext fun a => by fin_cases a <;> rfl

/-- Window 13's block index at the one point is zero on every axis. -/
theorem idx_zero13 : ∀ t : Fin cfg0.N, win0_13.index t (0 : Fin 3) = 0 ∧ win0_13.index t (1 : Fin 3) = 0 ∧ win0_13.index t (2 : Fin 3) = 0 :=
  (by decide +kernel : ∀ t : Fin grid0.N, _)

/-- An index of window 13's block is the same index of its array. -/
theorem emb13 (t : Fin cfg0.N) (j : S2x72x128.Idx) : ((cfg0.win 13).blk t).view.emb j = j := by
  obtain ⟨e0, e1, e2⟩ := idx_zero13 t
  funext a; apply Fin.ext
  match a with
  | ⟨0, _⟩ => show win0_13.index t (0 : Fin 3) * 2 + 1 * (j 0).val = (j 0).val; omega
  | ⟨1, _⟩ => show win0_13.index t (1 : Fin 3) * 72 + 1 * (j 1).val = (j 1).val; omega
  | ⟨2, _⟩ => show win0_13.index t (2 : Fin 3) * 128 + 1 * (j 2).val = (j 2).val; omega

theorem hz14 : (![0, 0, 0] : Fin 3 → Nat) = fun _ => 0 := funext fun a => by fin_cases a <;> rfl

/-- Window 14's block index at the one point is zero on every axis. -/
theorem idx_zero14 : ∀ t : Fin cfg0.N, win0_14.index t (0 : Fin 3) = 0 ∧ win0_14.index t (1 : Fin 3) = 0 ∧ win0_14.index t (2 : Fin 3) = 0 :=
  (by decide +kernel : ∀ t : Fin grid0.N, _)

/-- An index of window 14's block is the same index of its array. -/
theorem emb14 (t : Fin cfg0.N) (j : S2x72x128.Idx) : ((cfg0.win 14).blk t).view.emb j = j := by
  obtain ⟨e0, e1, e2⟩ := idx_zero14 t
  funext a; apply Fin.ext
  match a with
  | ⟨0, _⟩ => show win0_14.index t (0 : Fin 3) * 2 + 1 * (j 0).val = (j 0).val; omega
  | ⟨1, _⟩ => show win0_14.index t (1 : Fin 3) * 72 + 1 * (j 1).val = (j 1).val; omega
  | ⟨2, _⟩ => show win0_14.index t (2 : Fin 3) * 128 + 1 * (j 2).val = (j 2).val; omega

/-! ### Output window 9: the array after the run -/

/-- What the window's array ends holding: `out0_9` applied to the argument arrays in place of the input blocks (a value that the
    frame states apart, `kK_payN a…`, keeps its loads inside its own definition). -/
abbrev G9 (a0 : Vec F S72x1x8192 .bf16) (a1 : Vec F S8192 .f32) (a2 : Vec F S72x1x64 .f32) (a3 : Vec F S72x1x64 .f32) (a4 : Vec F S2 .f32) (a5 : Vec F S2 .f32) (a6 : Vec F S1024x2560 .i32) (a7 : Vec F S64x2560 .fp8e4m3) (a8 : Vec F S2560 .f32) : Vec F S72x8192 .fp8e4m3 :=
  k0_pay24 a0 a1 a2 a3 a4 a5 a6 a7 a8

/-- The one store through the whole rectangle leaves its payload. -/
theorem out9_eq (a0 : Vec F S72x1x8192 .bf16) (a1 : Vec F S8192 .f32) (a2 : Vec F S72x1x64 .f32) (a3 : Vec F S72x1x64 .f32) (a4 : Vec F S2 .f32) (a5 : Vec F S2 .f32) (a6 : Vec F S1024x2560 .i32) (a7 : Vec F S64x2560 .fp8e4m3) (a8 : Vec F S2560 .f32) : out0_9 (F := F) a0 a1 a2 a3 a4 a5 a6 a7 a8 = G9 a0 a1 a2 a3 a4 a5 a6 a7 a8 := by
  unfold out0_9
  rw [View.canon_unit_zero hz9]

/-- Cutting the point's block out of `X` and reading `X` through the block's view give the same. -/
theorem cut9_eq (t : Fin cfg0.N) (X : Vec F S72x8192 .fp8e4m3) :
    (cfg0.win 9).cut (grid0.coords t) X = ((cfg0.win 9).blk t).view.read (Elt F) X := by
  funext j
  show X j = X (((cfg0.win 9).blk t).view.emb j)
  rw [emb9]

/-- WHAT THE POINT WRITES BACK is its block of `G9` of the argument arrays as the region finds them. -/
theorem flushed9_eq (c : Dev nD) (t : Fin cfg0.N) :
    (dats m 0 c).flushed 9 t = ((cfg0.win 9).blk t).view.read (Elt F) (G9 (V m c main_arg0) (V m c main_arg1) (V m c main_arg2) (V m c main_arg3) (V m c main_arg4) (V m c main_arg5) (V m c main_arg6) (V m c main_arg7) (V m c main_arg8)) := by
  show (cfg0.win 9).cut (grid0.coords t) ((dats m 0 c).after 9 t) = _
  rw [after0_9, out9_eq, iblk0_eq, iblk1_eq, iblk2_eq, iblk3_eq, iblk4_eq, iblk5_eq, iblk6_eq, iblk7_eq, iblk8_eq]
  exact cut9_eq t _

/-- Every index of the array is in the point's block. -/
theorem covered9 (i : S72x8192.Idx) :
    ∃ t : Fin cfg0.N, (cfg0.win 9).flush t = true ∧ i ∈ ((cfg0.win 9).blk t).view.set :=
  ⟨(⟨0, by decide⟩ : Fin cfg0.N), flush0_9 _, by have h := ((cfg0.win 9).blk (⟨0, by decide⟩ : Fin cfg0.N)).view.emb_mem_set i; rwa [emb9] at h⟩

/-- THE ARRAY after the run: `G9` of the argument arrays as launched. -/
theorem final9 (c : Dev nD) : (dats m 0 c).arrAt 9 cfg0.N = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  ((dats m 0 c).arrAt_eq_of_cover 9 (G9 (V m c main_arg0) (V m c main_arg1) (V m c main_arg2) (V m c main_arg3) (V m c main_arg4) (V m c main_arg5) (V m c main_arg6) (V m c main_arg7) (V m c main_arg8)) (fun t _ => flushed9_eq m c t) covered9).trans (by rw [V_main_arg0, V_main_arg1, V_main_arg2, V_main_arg3, V_main_arg4, V_main_arg5, V_main_arg6, V_main_arg7, V_main_arg8])

/-! ### Output window 10: the array after the run -/

/-- What the window's array ends holding: `out0_10` applied to the argument arrays in place of the input blocks (a value that the
    frame states apart, `kK_payN a…`, keeps its loads inside its own definition). -/
abbrev G10 (a0 : Vec F S72x1x8192 .bf16) (a1 : Vec F S8192 .f32) (a2 : Vec F S72x1x64 .f32) (a3 : Vec F S72x1x64 .f32) (a4 : Vec F S2 .f32) (a5 : Vec F S2 .f32) (a6 : Vec F S1024x2560 .i32) (a7 : Vec F S64x2560 .fp8e4m3) (a8 : Vec F S2560 .f32) : Vec F S1x72 .f32 :=
  k0_pay10 (k0_pay23 a0 a1 a2 a3 a4 a5 a6 a7 a8)

/-- The one store through the whole rectangle leaves its payload. -/
theorem out10_eq (a0 : Vec F S72x1x8192 .bf16) (a1 : Vec F S8192 .f32) (a2 : Vec F S72x1x64 .f32) (a3 : Vec F S72x1x64 .f32) (a4 : Vec F S2 .f32) (a5 : Vec F S2 .f32) (a6 : Vec F S1024x2560 .i32) (a7 : Vec F S64x2560 .fp8e4m3) (a8 : Vec F S2560 .f32) : out0_10 (F := F) a0 a1 a2 a3 a4 a5 a6 a7 a8 = G10 a0 a1 a2 a3 a4 a5 a6 a7 a8 := by
  unfold out0_10
  rw [View.canon_unit_zero hz10]

/-- Cutting the point's block out of `X` and reading `X` through the block's view give the same. -/
theorem cut10_eq (t : Fin cfg0.N) (X : Vec F S1x72 .f32) :
    (cfg0.win 10).cut (grid0.coords t) X = ((cfg0.win 10).blk t).view.read (Elt F) X := by
  funext j
  show X j = X (((cfg0.win 10).blk t).view.emb j)
  rw [emb10]

/-- WHAT THE POINT WRITES BACK is its block of `G10` of the argument arrays as the region finds them. -/
theorem flushed10_eq (c : Dev nD) (t : Fin cfg0.N) :
    (dats m 0 c).flushed 10 t = ((cfg0.win 10).blk t).view.read (Elt F) (G10 (V m c main_arg0) (V m c main_arg1) (V m c main_arg2) (V m c main_arg3) (V m c main_arg4) (V m c main_arg5) (V m c main_arg6) (V m c main_arg7) (V m c main_arg8)) := by
  show (cfg0.win 10).cut (grid0.coords t) ((dats m 0 c).after 10 t) = _
  rw [after0_10, out10_eq, iblk0_eq, iblk1_eq, iblk2_eq, iblk3_eq, iblk4_eq, iblk5_eq, iblk6_eq, iblk7_eq, iblk8_eq]
  exact cut10_eq t _

/-- Every index of the array is in the point's block. -/
theorem covered10 (i : S1x72.Idx) :
    ∃ t : Fin cfg0.N, (cfg0.win 10).flush t = true ∧ i ∈ ((cfg0.win 10).blk t).view.set :=
  ⟨(⟨0, by decide⟩ : Fin cfg0.N), flush0_10 _, by have h := ((cfg0.win 10).blk (⟨0, by decide⟩ : Fin cfg0.N)).view.emb_mem_set i; rwa [emb10] at h⟩

/-- THE ARRAY after the run: `G10` of the argument arrays as launched. -/
theorem final10 (c : Dev nD) : (dats m 0 c).arrAt 10 cfg0.N = G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  ((dats m 0 c).arrAt_eq_of_cover 10 (G10 (V m c main_arg0) (V m c main_arg1) (V m c main_arg2) (V m c main_arg3) (V m c main_arg4) (V m c main_arg5) (V m c main_arg6) (V m c main_arg7) (V m c main_arg8)) (fun t _ => flushed10_eq m c t) covered10).trans (by rw [V_main_arg0, V_main_arg1, V_main_arg2, V_main_arg3, V_main_arg4, V_main_arg5, V_main_arg6, V_main_arg7, V_main_arg8])

/-! ### Output window 11: the array after the run -/

/-- What the window's array ends holding: `out0_11` applied to the argument arrays in place of the input blocks (a value that the
    frame states apart, `kK_payN a…`, keeps its loads inside its own definition). -/
abbrev G11 (a0 : Vec F S72x1x8192 .bf16) (a1 : Vec F S8192 .f32) (a2 : Vec F S72x1x64 .f32) (a3 : Vec F S72x1x64 .f32) (a4 : Vec F S2 .f32) (a5 : Vec F S2 .f32) (a6 : Vec F S1024x2560 .i32) (a7 : Vec F S64x2560 .fp8e4m3) (a8 : Vec F S2560 .f32) : Vec F S16x72x128 .f32 :=
  k0_pay1 (k0_pay15 (k0_pay21 a0 a1 a2 a3 a4 a5 a6 a7 a8) (k0_pay22 a0 a1 a2 a3 a4 a5 a6 a7 a8) (k0_pay25 a0 a1 a2 a3 a4 a5 a6 a7 a8))

/-- The one store through the whole rectangle leaves its payload. -/
theorem out11_eq (a0 : Vec F S72x1x8192 .bf16) (a1 : Vec F S8192 .f32) (a2 : Vec F S72x1x64 .f32) (a3 : Vec F S72x1x64 .f32) (a4 : Vec F S2 .f32) (a5 : Vec F S2 .f32) (a6 : Vec F S1024x2560 .i32) (a7 : Vec F S64x2560 .fp8e4m3) (a8 : Vec F S2560 .f32) : out0_11 (F := F) a0 a1 a2 a3 a4 a5 a6 a7 a8 = G11 a0 a1 a2 a3 a4 a5 a6 a7 a8 := by
  unfold out0_11
  rw [View.canon_unit_zero hz11]

/-- Cutting the point's block out of `X` and reading `X` through the block's view give the same. -/
theorem cut11_eq (t : Fin cfg0.N) (X : Vec F S16x72x128 .f32) :
    (cfg0.win 11).cut (grid0.coords t) X = ((cfg0.win 11).blk t).view.read (Elt F) X := by
  funext j
  show X j = X (((cfg0.win 11).blk t).view.emb j)
  rw [emb11]

/-- WHAT THE POINT WRITES BACK is its block of `G11` of the argument arrays as the region finds them. -/
theorem flushed11_eq (c : Dev nD) (t : Fin cfg0.N) :
    (dats m 0 c).flushed 11 t = ((cfg0.win 11).blk t).view.read (Elt F) (G11 (V m c main_arg0) (V m c main_arg1) (V m c main_arg2) (V m c main_arg3) (V m c main_arg4) (V m c main_arg5) (V m c main_arg6) (V m c main_arg7) (V m c main_arg8)) := by
  show (cfg0.win 11).cut (grid0.coords t) ((dats m 0 c).after 11 t) = _
  rw [after0_11, out11_eq, iblk0_eq, iblk1_eq, iblk2_eq, iblk3_eq, iblk4_eq, iblk5_eq, iblk6_eq, iblk7_eq, iblk8_eq]
  exact cut11_eq t _

/-- Every index of the array is in the point's block. -/
theorem covered11 (i : S16x72x128.Idx) :
    ∃ t : Fin cfg0.N, (cfg0.win 11).flush t = true ∧ i ∈ ((cfg0.win 11).blk t).view.set :=
  ⟨(⟨0, by decide⟩ : Fin cfg0.N), flush0_11 _, by have h := ((cfg0.win 11).blk (⟨0, by decide⟩ : Fin cfg0.N)).view.emb_mem_set i; rwa [emb11] at h⟩

/-- THE ARRAY after the run: `G11` of the argument arrays as launched. -/
theorem final11 (c : Dev nD) : (dats m 0 c).arrAt 11 cfg0.N = G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  ((dats m 0 c).arrAt_eq_of_cover 11 (G11 (V m c main_arg0) (V m c main_arg1) (V m c main_arg2) (V m c main_arg3) (V m c main_arg4) (V m c main_arg5) (V m c main_arg6) (V m c main_arg7) (V m c main_arg8)) (fun t _ => flushed11_eq m c t) covered11).trans (by rw [V_main_arg0, V_main_arg1, V_main_arg2, V_main_arg3, V_main_arg4, V_main_arg5, V_main_arg6, V_main_arg7, V_main_arg8])

/-! ### Output window 12: the array after the run -/

/-- What the window's array ends holding: `out0_12` applied to the argument arrays in place of the input blocks (a value that the
    frame states apart, `kK_payN a…`, keeps its loads inside its own definition). -/
abbrev G12 (a0 : Vec F S72x1x8192 .bf16) (a1 : Vec F S8192 .f32) (a2 : Vec F S72x1x64 .f32) (a3 : Vec F S72x1x64 .f32) (a4 : Vec F S2 .f32) (a5 : Vec F S2 .f32) (a6 : Vec F S1024x2560 .i32) (a7 : Vec F S64x2560 .fp8e4m3) (a8 : Vec F S2560 .f32) : Vec F S16x72x128 .f32 :=
  k0_pay2 (k0_pay18 (k0_pay21 a0 a1 a2 a3 a4 a5 a6 a7 a8) (k0_pay22 a0 a1 a2 a3 a4 a5 a6 a7 a8) a4 (k0_pay26 a0 a1 a2 a3 a4 a5 a6 a7 a8)) (k0_pay19 (k0_pay21 a0 a1 a2 a3 a4 a5 a6 a7 a8) (k0_pay22 a0 a1 a2 a3 a4 a5 a6 a7 a8) (k0_pay25 a0 a1 a2 a3 a4 a5 a6 a7 a8)) (k0_pay20 a4) (constant S72x2x8 .f32 0x00000000#32)

/-- A load of the whole of a block reads the block, and the one store through the whole rectangle leaves its payload. -/
theorem out12_eq (a0 : Vec F S72x1x8192 .bf16) (a1 : Vec F S8192 .f32) (a2 : Vec F S72x1x64 .f32) (a3 : Vec F S72x1x64 .f32) (a4 : Vec F S2 .f32) (a5 : Vec F S2 .f32) (a6 : Vec F S1024x2560 .i32) (a7 : Vec F S64x2560 .fp8e4m3) (a8 : Vec F S2560 .f32) : out0_12 (F := F) a0 a1 a2 a3 a4 a5 a6 a7 a8 = G12 a0 a1 a2 a3 a4 a5 a6 a7 a8 := by
  unfold out0_12
  rw [View.canon_unit_zero hz12, View.ld_unit_zero (S := S2) hz4 _ a4]

/-- Cutting the point's block out of `X` and reading `X` through the block's view give the same. -/
theorem cut12_eq (t : Fin cfg0.N) (X : Vec F S16x72x128 .f32) :
    (cfg0.win 12).cut (grid0.coords t) X = ((cfg0.win 12).blk t).view.read (Elt F) X := by
  funext j
  show X j = X (((cfg0.win 12).blk t).view.emb j)
  rw [emb12]

/-- WHAT THE POINT WRITES BACK is its block of `G12` of the argument arrays as the region finds them. -/
theorem flushed12_eq (c : Dev nD) (t : Fin cfg0.N) :
    (dats m 0 c).flushed 12 t = ((cfg0.win 12).blk t).view.read (Elt F) (G12 (V m c main_arg0) (V m c main_arg1) (V m c main_arg2) (V m c main_arg3) (V m c main_arg4) (V m c main_arg5) (V m c main_arg6) (V m c main_arg7) (V m c main_arg8)) := by
  show (cfg0.win 12).cut (grid0.coords t) ((dats m 0 c).after 12 t) = _
  rw [after0_12, out12_eq, iblk0_eq, iblk1_eq, iblk2_eq, iblk3_eq, iblk4_eq, iblk5_eq, iblk6_eq, iblk7_eq, iblk8_eq]
  exact cut12_eq t _

/-- Every index of the array is in the point's block. -/
theorem covered12 (i : S16x72x128.Idx) :
    ∃ t : Fin cfg0.N, (cfg0.win 12).flush t = true ∧ i ∈ ((cfg0.win 12).blk t).view.set :=
  ⟨(⟨0, by decide⟩ : Fin cfg0.N), flush0_12 _, by have h := ((cfg0.win 12).blk (⟨0, by decide⟩ : Fin cfg0.N)).view.emb_mem_set i; rwa [emb12] at h⟩

/-- THE ARRAY after the run: `G12` of the argument arrays as launched. -/
theorem final12 (c : Dev nD) : (dats m 0 c).arrAt 12 cfg0.N = G12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  ((dats m 0 c).arrAt_eq_of_cover 12 (G12 (V m c main_arg0) (V m c main_arg1) (V m c main_arg2) (V m c main_arg3) (V m c main_arg4) (V m c main_arg5) (V m c main_arg6) (V m c main_arg7) (V m c main_arg8)) (fun t _ => flushed12_eq m c t) covered12).trans (by rw [V_main_arg0, V_main_arg1, V_main_arg2, V_main_arg3, V_main_arg4, V_main_arg5, V_main_arg6, V_main_arg7, V_main_arg8])

/-! ### Output window 13: the array after the run -/

/-- What the window's array ends holding: `out0_13` applied to the argument arrays in place of the input blocks (a value that the
    frame states apart, `kK_payN a…`, keeps its loads inside its own definition). -/
abbrev G13 (a0 : Vec F S72x1x8192 .bf16) (a1 : Vec F S8192 .f32) (a2 : Vec F S72x1x64 .f32) (a3 : Vec F S72x1x64 .f32) (a4 : Vec F S2 .f32) (a5 : Vec F S2 .f32) (a6 : Vec F S1024x2560 .i32) (a7 : Vec F S64x2560 .fp8e4m3) (a8 : Vec F S2560 .f32) : Vec F S2x72x128 .fp8e4m3 :=
  k0_pay3 (k0_pay16 (k0_pay21 a0 a1 a2 a3 a4 a5 a6 a7 a8) (k0_pay22 a0 a1 a2 a3 a4 a5 a6 a7 a8) a4 (k0_pay26 a0 a1 a2 a3 a4 a5 a6 a7 a8))

/-- A load of the whole of a block reads the block, and the one store through the whole rectangle leaves its payload. -/
theorem out13_eq (a0 : Vec F S72x1x8192 .bf16) (a1 : Vec F S8192 .f32) (a2 : Vec F S72x1x64 .f32) (a3 : Vec F S72x1x64 .f32) (a4 : Vec F S2 .f32) (a5 : Vec F S2 .f32) (a6 : Vec F S1024x2560 .i32) (a7 : Vec F S64x2560 .fp8e4m3) (a8 : Vec F S2560 .f32) : out0_13 (F := F) a0 a1 a2 a3 a4 a5 a6 a7 a8 = G13 a0 a1 a2 a3 a4 a5 a6 a7 a8 := by
  unfold out0_13
  rw [View.canon_unit_zero hz13, View.ld_unit_zero (S := S2) hz4 _ a4]

/-- Cutting the point's block out of `X` and reading `X` through the block's view give the same. -/
theorem cut13_eq (t : Fin cfg0.N) (X : Vec F S2x72x128 .fp8e4m3) :
    (cfg0.win 13).cut (grid0.coords t) X = ((cfg0.win 13).blk t).view.read (Elt F) X := by
  funext j
  show X j = X (((cfg0.win 13).blk t).view.emb j)
  rw [emb13]

/-- WHAT THE POINT WRITES BACK is its block of `G13` of the argument arrays as the region finds them. -/
theorem flushed13_eq (c : Dev nD) (t : Fin cfg0.N) :
    (dats m 0 c).flushed 13 t = ((cfg0.win 13).blk t).view.read (Elt F) (G13 (V m c main_arg0) (V m c main_arg1) (V m c main_arg2) (V m c main_arg3) (V m c main_arg4) (V m c main_arg5) (V m c main_arg6) (V m c main_arg7) (V m c main_arg8)) := by
  show (cfg0.win 13).cut (grid0.coords t) ((dats m 0 c).after 13 t) = _
  rw [after0_13, out13_eq, iblk0_eq, iblk1_eq, iblk2_eq, iblk3_eq, iblk4_eq, iblk5_eq, iblk6_eq, iblk7_eq, iblk8_eq]
  exact cut13_eq t _

/-- Every index of the array is in the point's block. -/
theorem covered13 (i : S2x72x128.Idx) :
    ∃ t : Fin cfg0.N, (cfg0.win 13).flush t = true ∧ i ∈ ((cfg0.win 13).blk t).view.set :=
  ⟨(⟨0, by decide⟩ : Fin cfg0.N), flush0_13 _, by have h := ((cfg0.win 13).blk (⟨0, by decide⟩ : Fin cfg0.N)).view.emb_mem_set i; rwa [emb13] at h⟩

/-- THE ARRAY after the run: `G13` of the argument arrays as launched. -/
theorem final13 (c : Dev nD) : (dats m 0 c).arrAt 13 cfg0.N = G13 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  ((dats m 0 c).arrAt_eq_of_cover 13 (G13 (V m c main_arg0) (V m c main_arg1) (V m c main_arg2) (V m c main_arg3) (V m c main_arg4) (V m c main_arg5) (V m c main_arg6) (V m c main_arg7) (V m c main_arg8)) (fun t _ => flushed13_eq m c t) covered13).trans (by rw [V_main_arg0, V_main_arg1, V_main_arg2, V_main_arg3, V_main_arg4, V_main_arg5, V_main_arg6, V_main_arg7, V_main_arg8])

/-! ### Output window 14: the array after the run -/

/-- What the window's array ends holding: `out0_14` applied to the argument arrays in place of the input blocks (a value that the
    frame states apart, `kK_payN a…`, keeps its loads inside its own definition). -/
abbrev G14 (a0 : Vec F S72x1x8192 .bf16) (a1 : Vec F S8192 .f32) (a2 : Vec F S72x1x64 .f32) (a3 : Vec F S72x1x64 .f32) (a4 : Vec F S2 .f32) (a5 : Vec F S2 .f32) (a6 : Vec F S1024x2560 .i32) (a7 : Vec F S64x2560 .fp8e4m3) (a8 : Vec F S2560 .f32) : Vec F S2x72x128 .fp8e4m3 :=
  k0_pay4 (k0_pay17 a5 (k0_pay14 (k0_pay23 a0 a1 a2 a3 a4 a5 a6 a7 a8) (k0_pay24 a0 a1 a2 a3 a4 a5 a6 a7 a8) a6 a7 a8))

/-- A load of the whole of a block reads the block, and the one store through the whole rectangle leaves its payload. -/
theorem out14_eq (a0 : Vec F S72x1x8192 .bf16) (a1 : Vec F S8192 .f32) (a2 : Vec F S72x1x64 .f32) (a3 : Vec F S72x1x64 .f32) (a4 : Vec F S2 .f32) (a5 : Vec F S2 .f32) (a6 : Vec F S1024x2560 .i32) (a7 : Vec F S64x2560 .fp8e4m3) (a8 : Vec F S2560 .f32) : out0_14 (F := F) a0 a1 a2 a3 a4 a5 a6 a7 a8 = G14 a0 a1 a2 a3 a4 a5 a6 a7 a8 := by
  unfold out0_14
  rw [View.canon_unit_zero hz14, View.ld_unit_zero (S := S2) hz5 _ a5, View.ld_unit_zero (S := S1024x2560) hz6 _ a6, View.ld_unit_zero (S := S64x2560) hz7 _ a7, View.ld_unit_zero (S := S2560) hz8 _ a8]

/-- Cutting the point's block out of `X` and reading `X` through the block's view give the same. -/
theorem cut14_eq (t : Fin cfg0.N) (X : Vec F S2x72x128 .fp8e4m3) :
    (cfg0.win 14).cut (grid0.coords t) X = ((cfg0.win 14).blk t).view.read (Elt F) X := by
  funext j
  show X j = X (((cfg0.win 14).blk t).view.emb j)
  rw [emb14]

/-- WHAT THE POINT WRITES BACK is its block of `G14` of the argument arrays as the region finds them. -/
theorem flushed14_eq (c : Dev nD) (t : Fin cfg0.N) :
    (dats m 0 c).flushed 14 t = ((cfg0.win 14).blk t).view.read (Elt F) (G14 (V m c main_arg0) (V m c main_arg1) (V m c main_arg2) (V m c main_arg3) (V m c main_arg4) (V m c main_arg5) (V m c main_arg6) (V m c main_arg7) (V m c main_arg8)) := by
  show (cfg0.win 14).cut (grid0.coords t) ((dats m 0 c).after 14 t) = _
  rw [after0_14, out14_eq, iblk0_eq, iblk1_eq, iblk2_eq, iblk3_eq, iblk4_eq, iblk5_eq, iblk6_eq, iblk7_eq, iblk8_eq]
  exact cut14_eq t _

/-- Every index of the array is in the point's block. -/
theorem covered14 (i : S2x72x128.Idx) :
    ∃ t : Fin cfg0.N, (cfg0.win 14).flush t = true ∧ i ∈ ((cfg0.win 14).blk t).view.set :=
  ⟨(⟨0, by decide⟩ : Fin cfg0.N), flush0_14 _, by have h := ((cfg0.win 14).blk (⟨0, by decide⟩ : Fin cfg0.N)).view.emb_mem_set i; rwa [emb14] at h⟩

/-- THE ARRAY after the run: `G14` of the argument arrays as launched. -/
theorem final14 (c : Dev nD) : (dats m 0 c).arrAt 14 cfg0.N = G14 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  ((dats m 0 c).arrAt_eq_of_cover 14 (G14 (V m c main_arg0) (V m c main_arg1) (V m c main_arg2) (V m c main_arg3) (V m c main_arg4) (V m c main_arg5) (V m c main_arg6) (V m c main_arg7) (V m c main_arg8)) (fun t _ => flushed14_eq m c t) covered14).trans (by rw [V_main_arg0, V_main_arg1, V_main_arg2, V_main_arg3, V_main_arg4, V_main_arg5, V_main_arg6, V_main_arg7, V_main_arg8])

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- After the frame run, argument `main_arg7` is as launched: input window 7 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

/-- After the frame run, argument `main_arg8` is as launched: input window 8 stages it and never writes it back. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 8).trans (((dats m 0 c).arrAt_in 8 rfl _).trans ((A_eq m c 8).trans (V_main_arg8 m c)))

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_v0_1) = G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_v0_2) = G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_v0_3) = G12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_v0_4) = G13 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_v0_5) = G14 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(post9 m r h c).trans (final9 m c),
      (post10 m r h c).trans (final10 m c),
      (post11 m r h c).trans (final11 m c),
      (post12 m r h c).trans (final12 m c),
      (post13 m r h c).trans (final13 m c),
      (post14 m r h c).trans (final14 m c),
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c⟩)
    (run_main m ρ)

end Cert.QkvRefIdeal.Value

end
-- ==== Proof.Common.Plain.lean ====
/- The reference's product, read over the extended reals, for any number of rows of packed words and of columns: the
   nibbles by mask and subtraction, the group scales repeated over their rows, and the contraction over words and fields,
   as one sum over the contracted axis. -/
module

public import proofs.«01_k».proof.Proof.Common.Linear

@[expose] public section

set_option maxRecDepth 16384

noncomputable section

namespace Cert.Linear

open Idealize.ShloMosaic

/-- Eight terms per word, word after word, are the terms one after another. -/
theorem sum_words (f : ℕ → EReal) (J : ℕ) :
    ∑ i : Fin J, ∑ j : Fin 8, f (8 * i.val + j.val) = ∑ k ∈ Finset.range (8 * J), f k := by
  rw [Fin.sum_univ_eq_sum_range (fun i => ∑ j : Fin 8, f (8 * i + j.val)) J]
  induction J with
  | zero => rfl
  | succ J ih =>
    rw [Finset.sum_range_succ, ih, Nat.mul_add, Nat.mul_one, Finset.sum_range_add, Fin.sum_univ_eq_sum_range (fun j => f (8 * J + j)) 8]

section
variable {J N Q K : ℕ}

/-- The words' fields masked to four bits. -/
def maskV (w : IVec ⟨2, ![J, N]⟩ 32) (h1 : (⟨2, ![J, N]⟩ : Shape).ShapeCasts ⟨3, ![1, J, N]⟩)
    (h2 : (⟨3, ![1, J, N]⟩ : Shape).Broadcasts ⟨3, ![8, J, N]⟩) (h3 : (⟨3, ![8, 1, 1]⟩ : Shape).Iotas .tc 32 [0])
    (h4 : (⟨3, ![8, 1, 1]⟩ : Shape).Broadcasts ⟨3, ![8, J, N]⟩) : IVec ⟨3, ![8, J, N]⟩ 32 :=
  andi (shrsi (broadcastTo ⟨3, ![8, J, N]⟩ (shapeCast ⟨3, ![1, J, N]⟩ w h1) h2)
    (broadcastTo ⟨3, ![8, J, N]⟩ (muli (broadcast ⟨3, ![8, 1, 1]⟩ 4#32) (iota .tc ⟨3, ![8, 1, 1]⟩ 32 [0] h3)) h4))
    (broadcast ⟨3, ![8, J, N]⟩ 15#32)

/-- The masked fields read as signed numbers. -/
def signV (q : IVec ⟨3, ![8, J, N]⟩ 32) (h : 8 < 32) : IVec ⟨3, ![8, J, N]⟩ 8 :=
  trunci 8 (select (cmpi .sge q (broadcast ⟨3, ![8, J, N]⟩ 8#32)) (subi q (broadcast ⟨3, ![8, J, N]⟩ 16#32)) q) h

theorem signV_apply (w : IVec ⟨2, ![J, N]⟩ 32) (h1 h2 h3 h4 h) (j : Fin 8) (i : Fin J) (c : Fin N) :
    ((((signV (maskV w h1 h2 h3 h4) h (ValueIdx.ix3 j i c)).toInt : ℝ) : EReal)) = nib (w (ValueIdx.ix2 i c)) j.val := by
  have hj := j.isLt
  have e1 : broadcastTo ⟨3, ![8, J, N]⟩ (shapeCast ⟨3, ![1, J, N]⟩ w h1) h2 (ValueIdx.ix3 j i c) = w (ValueIdx.ix2 i c) := by
    rw [broadcastTo_apply _ h2 (ValueIdx.ix3 j i c) (ValueIdx.ix3 0 i c) ?_, shapeCast_apply w h1 (ValueIdx.ix3 0 i c) (ValueIdx.ix2 i c) ?_]
    · rw [Shape.rowMajor_val_three, Shape.rowMajor_val_two]
      show i.val * N + c.val = (0 * J + i.val) * N + c.val
      rw [Nat.zero_mul, Nat.zero_add]
    · intro a
      match a with
      | ⟨0, _⟩ => rfl
      | ⟨1, _⟩ =>
        show i.val = if J = 1 then 0 else i.val
        have := i.isLt
        split <;> omega
      | ⟨2, _⟩ =>
        show c.val = if N = 1 then 0 else c.val
        have := c.isLt
        split <;> omega
  have e2 : ∀ y : IVec ⟨3, ![8, 1, 1]⟩ 32, broadcastTo ⟨3, ![8, J, N]⟩ y h4 (ValueIdx.ix3 j i c) = y (ValueIdx.ix3 j 0 0) := by
    intro y
    refine broadcastTo_apply y h4 _ _ fun a => ?_
    match a with
    | ⟨0, _⟩ => rfl
    | ⟨1, _⟩ => rfl
    | ⟨2, _⟩ => rfl
  have e3 : maskV w h1 h2 h3 h4 (ValueIdx.ix3 j i c) = (w (ValueIdx.ix2 i c)).sshiftRight (4 * j.val) &&& 15#32 := by
    unfold maskV
    show IntOp.shrsi .vector (broadcastTo ⟨3, ![8, J, N]⟩ (shapeCast ⟨3, ![1, J, N]⟩ w h1) h2 (ValueIdx.ix3 j i c))
      (broadcastTo ⟨3, ![8, J, N]⟩ _ h4 (ValueIdx.ix3 j i c)) &&& 15#32 = _
    rw [e1, e2]
    show IntOp.shrsi .vector (w (ValueIdx.ix2 i c)) (IntOp.muli 4#32 (BitVec.ofNat 32 (0 * 8 + j.val))) &&& 15#32 = _
    rw [Nat.zero_mul, Nat.zero_add, shift_eq _ _ hj]
  have e4 : signV (maskV w h1 h2 h3 h4) h (ValueIdx.ix3 j i c)
      = (if (8#32).sle (maskV w h1 h2 h3 h4 (ValueIdx.ix3 j i c)) then maskV w h1 h2 h3 h4 (ValueIdx.ix3 j i c) - 16#32
          else maskV w h1 h2 h3 h4 (ValueIdx.ix3 j i c)).setWidth 8 := by
    unfold signV
    generalize maskV w h1 h2 h3 h4 = q
    show (if (BitVec.ofBool ((8#32).sle (q (ValueIdx.ix3 j i c)))) = 1#1 then q (ValueIdx.ix3 j i c) - 16#32 else q (ValueIdx.ix3 j i c)).setWidth 8 = _
    cases (8#32).sle (q (ValueIdx.ix3 j i c)) <;> rfl
  rw [e4, e3, mask_eq]
  rfl

/-- The group scales repeated over the sixteen words of a group. -/
def spreadV (g : FVec Ideal ⟨2, ![Q, N]⟩ .bf16) (h1 : (⟨2, ![Q, N]⟩ : Shape).ShapeCasts ⟨3, ![Q, 1, N]⟩)
    (h2 : (⟨3, ![Q, 1, N]⟩ : Shape).Broadcasts ⟨3, ![Q, 16, N]⟩) (h3 : (⟨3, ![Q, 16, N]⟩ : Shape).ShapeCasts ⟨2, ![J, N]⟩)
    (h4 : (⟨2, ![J, N]⟩ : Shape).ShapeCasts ⟨3, ![1, J, N]⟩) (h5 : (⟨3, ![1, J, N]⟩ : Shape).Broadcasts ⟨3, ![8, J, N]⟩) :
    FVec Ideal ⟨3, ![8, J, N]⟩ .bf16 :=
  broadcastTo ⟨3, ![8, J, N]⟩ (shapeCast ⟨3, ![1, J, N]⟩ (shapeCast ⟨2, ![J, N]⟩ (broadcastTo ⟨3, ![Q, 16, N]⟩ (shapeCast ⟨3, ![Q, 1, N]⟩ g h1) h2) h3) h4) h5

theorem spreadV_apply (hJ : J = 16 * Q) (g : FVec Ideal ⟨2, ![Q, N]⟩ .bf16) (h1 h2 h3 h4 h5) (j : Fin 8) (i : Fin J) (c : Fin N) :
    spreadV g h1 h2 h3 h4 h5 (ValueIdx.ix3 j i c) = g (ValueIdx.ix2 ⟨i.val / 16, by have := i.isLt; omega⟩ c) := by
  have hi := i.isLt
  have hc := c.isLt
  have hq : i.val / 16 < Q := by omega
  unfold spreadV
  rw [broadcastTo_apply _ h5 (ValueIdx.ix3 j i c) (ValueIdx.ix3 0 i c) ?_, shapeCast_apply _ h4 (ValueIdx.ix3 0 i c) (ValueIdx.ix2 i c) ?_,
    shapeCast_apply _ h3 (ValueIdx.ix2 i c) (ValueIdx.ix3 ⟨i.val / 16, hq⟩ ⟨i.val % 16, Nat.mod_lt _ (by decide)⟩ c) ?_,
    broadcastTo_apply _ h2 _ (ValueIdx.ix3 ⟨i.val / 16, hq⟩ 0 c) ?_, shapeCast_apply g h1 _ (ValueIdx.ix2 ⟨i.val / 16, hq⟩ c) ?_]
  · rw [Shape.rowMajor_val_three, Shape.rowMajor_val_two]
    show i.val / 16 * N + c.val = (i.val / 16 * 1 + 0) * N + c.val
    rw [Nat.mul_one, Nat.add_zero]
  · intro a
    match a with
    | ⟨0, _⟩ =>
      show i.val / 16 = if Q = 1 then 0 else i.val / 16
      split <;> omega
    | ⟨1, _⟩ => rfl
    | ⟨2, _⟩ =>
      show c.val = if N = 1 then 0 else c.val
      split <;> omega
  · rw [Shape.rowMajor_val_three, Shape.rowMajor_val_two]
    show (i.val / 16 * 16 + i.val % 16) * N + c.val = i.val * N + c.val
    rw [Nat.div_add_mod']
  · rw [Shape.rowMajor_val_three, Shape.rowMajor_val_two]
    show i.val * N + c.val = (0 * J + i.val) * N + c.val
    rw [Nat.zero_mul, Nat.zero_add]
  · intro a
    match a with
    | ⟨0, _⟩ => rfl
    | ⟨1, _⟩ =>
      show i.val = if J = 1 then 0 else i.val
      split <;> omega
    | ⟨2, _⟩ =>
      show c.val = if N = 1 then 0 else c.val
      split <;> omega

/-- The reference's product of codes with the dequantised weights. -/
def prodV (d : DotDims ⟨3, ![72, J, 8]⟩ ⟨3, ![8, J, N]⟩ ⟨2, ![72, N]⟩) (x : FVec Ideal ⟨2, ![72, K]⟩ .bf16) (q : IVec ⟨3, ![8, J, N]⟩ 8)
    (s : FVec Ideal ⟨3, ![8, J, N]⟩ .bf16) (h : (⟨2, ![72, K]⟩ : Shape).ShapeCasts ⟨3, ![72, J, 8]⟩) : FVec Ideal ⟨2, ![72, N]⟩ .f32 :=
  matmul d none (shapeCast ⟨3, ![72, J, 8]⟩ x h) (mulf (sitofp .bf16 q) s) (constant ⟨2, ![72, N]⟩ .f32 0x00000000#32)

/-- What it takes of the dimension numbers: a contraction over words and over the eight fields of a word. -/
def Words (d : DotDims ⟨3, ![72, J, 8]⟩ ⟨3, ![8, J, N]⟩ ⟨2, ![72, N]⟩) : Prop :=
  ∀ (L : (⟨3, ![72, J, 8]⟩ : Shape).Idx → EReal) (R : (⟨3, ![8, J, N]⟩ : Shape).Idx → EReal) (acc : (⟨2, ![72, N]⟩ : Shape).Idx → EReal)
    (r : Fin 72) (c : Fin N), Ideal.matmul d L R acc (ValueIdx.ix2 r c) = acc (ValueIdx.ix2 r c)
      + ∑ i : Fin J, ∑ j : Fin 8, L (ValueIdx.ix3 r i j) * R (ValueIdx.ix3 j i c)

/-- Each element of the reference's product is the sum of its terms. -/
theorem prodV_apply (hJ : J = 16 * Q) (hK : K = 8 * J) (d : DotDims ⟨3, ![72, J, 8]⟩ ⟨3, ![8, J, N]⟩ ⟨2, ![72, N]⟩) (hd : Words d)
    (x : FVec Ideal ⟨2, ![72, K]⟩ .bf16) (w : IVec ⟨2, ![J, N]⟩ 32) (g : FVec Ideal ⟨2, ![Q, N]⟩ .bf16)
    (h1 h2 h3 h4 h h1' h2' h3' h4' h5' hx) (r : Fin 72) (c : Fin N) :
    prodV d x (signV (maskV w h1 h2 h3 h4) h) (spreadV g h1' h2' h3' h4' h5') hx (ValueIdx.ix2 r c)
      = ∑ k ∈ Finset.range K, term (at2 (α := EReal) x) (at2 w) (at2 (α := EReal) g) r.val c.val k := by
  have e : prodV d x (signV (maskV w h1 h2 h3 h4) h) (spreadV g h1' h2' h3' h4' h5') hx (ValueIdx.ix2 r c)
      = ∑ i : Fin J, ∑ j : Fin 8, shapeCast ⟨3, ![72, J, 8]⟩ x hx (ValueIdx.ix3 r i j)
        * (((((signV (maskV w h1 h2 h3 h4) h (ValueIdx.ix3 j i c)).toInt : ℝ) : EReal)) * spreadV g h1' h2' h3' h4' h5' (ValueIdx.ix3 j i c)) := by
    unfold prodV
    show Ideal.matmul d _ _ _ (ValueIdx.ix2 r c) = _
    rw [hd]
    show Scalar.ofBits (F := Ideal) .f32 0x00000000#32 + ∑ i : Fin J, ∑ j : Fin 8, shapeCast ⟨3, ![72, J, 8]⟩ x hx (ValueIdx.ix3 r i j)
        * (((((signV (maskV w h1 h2 h3 h4) h (ValueIdx.ix3 j i c)).toInt : ℝ) : EReal)) * spreadV g h1' h2' h3' h4' h5' (ValueIdx.ix3 j i c)) = _
    simp
  rw [e]
  refine Eq.trans ?_ ((sum_words (fun k => term (at2 (α := EReal) x) (at2 w) (at2 (α := EReal) g) r.val c.val k) J).trans
    (congrArg (fun M => ∑ k ∈ Finset.range M, term (at2 (α := EReal) x) (at2 w) (at2 (α := EReal) g) r.val c.val k) hK.symm))
  refine Finset.sum_congr rfl fun i _ => Finset.sum_congr rfl fun j _ => ?_
  have hi := i.isLt
  have hj := j.isLt
  have hk : 8 * i.val + j.val < K := by omega
  rw [signV_apply, spreadV_apply hJ, shapeCast_apply x hx _ (ValueIdx.ix2 r ⟨8 * i.val + j.val, hk⟩) ?_]
  · unfold term
    have a1 : (8 * i.val + j.val) / 8 = i.val := by omega
    have a2 : (8 * i.val + j.val) % 8 = j.val := by omega
    have a3 : (8 * i.val + j.val) / 128 = i.val / 16 := by omega
    rw [a1, a2, a3, at2_eq x _ _ r.isLt hk, at2_ix2, at2_eq g _ _ (by omega) c.isLt]
  · rw [Shape.rowMajor_val_three, Shape.rowMajor_val_two]
    show r.val * K + (8 * i.val + j.val) = (r.val * J + i.val) * 8 + j.val
    have : r.val * K = r.val * J * 8 := by rw [hK, Nat.mul_comm 8 J, Nat.mul_assoc]
    omega

end

end Cert.Linear
-- ==== Proof.Common.Layout.lean ====
/- The last operations of a product, and how a row scale is laid out, read element by element: the kernel keeps the scales as
   a column spread over 128 columns and writes them as one row, the reference keeps them as a vector. -/
module

public import proofs.«01_k».proof.Proof.Common.Plain

@[expose] public section

set_option maxRecDepth 16384

noncomputable section

namespace Cert.Linear

open Idealize.ShloMosaic

section
variable {n : ℕ}

/-- A kernel's last operations on a product: its first 72 rows times the row scales times the column scales. -/
def finV (core : FVec Ideal ⟨2, ![80, n]⟩ .f32) (s : FVec Ideal ⟨2, ![72, 1]⟩ .f32) (cs : FVec Ideal ⟨2, ![1, n]⟩ .f32)
    (h1 : (⟨2, ![80, n]⟩ : Shape).Slices ![0, 0] ⟨2, ![72, n]⟩) (h2 : (⟨2, ![72, 1]⟩ : Shape).Broadcasts ⟨2, ![72, n]⟩)
    (h3 : (⟨2, ![1, n]⟩ : Shape).ShapeCasts ⟨2, ![1, n]⟩) (h4 : (⟨2, ![1, n]⟩ : Shape).Broadcasts ⟨2, ![72, n]⟩) :
    FVec Ideal ⟨2, ![72, n]⟩ .f32 :=
  mulf (mulf (extractStridedSlice ⟨2, ![72, n]⟩ ![0, 0] core h1) (broadcastTo ⟨2, ![72, n]⟩ s h2))
    (broadcastTo ⟨2, ![72, n]⟩ (shapeCast ⟨2, ![1, n]⟩ cs h3) h4)

theorem finV_apply (core : FVec Ideal ⟨2, ![80, n]⟩ .f32) (s : FVec Ideal ⟨2, ![72, 1]⟩ .f32) (cs : FVec Ideal ⟨2, ![1, n]⟩ .f32)
    (h1 h2 h3 h4) (r : Fin 72) (c : Fin n) :
    finV core s cs h1 h2 h3 h4 (ValueIdx.ix2 r c)
      = core (ValueIdx.ix2 ⟨r.val, Nat.lt_trans r.isLt (by decide)⟩ c) * s (ValueIdx.ix2 r 0) * cs (ValueIdx.ix2 0 c) := by
  have e1 : extractStridedSlice ⟨2, ![72, n]⟩ ![0, 0] core h1 (ValueIdx.ix2 r c) = core (ValueIdx.ix2 ⟨r.val, Nat.lt_trans r.isLt (by decide)⟩ c) := by
    refine extractStridedSlice_apply ![0, 0] core h1 _ _ fun a => ?_
    match a with
    | ⟨0, _⟩ => exact (Nat.zero_add _).symm
    | ⟨1, _⟩ => exact (Nat.zero_add _).symm
  have e2 : broadcastTo ⟨2, ![72, n]⟩ s h2 (ValueIdx.ix2 r c) = s (ValueIdx.ix2 r 0) := by
    refine broadcastTo_apply s h2 _ _ fun a => ?_
    match a with
    | ⟨0, _⟩ => rfl
    | ⟨1, _⟩ => rfl
  have e3 : broadcastTo ⟨2, ![72, n]⟩ (shapeCast ⟨2, ![1, n]⟩ cs h3) h4 (ValueIdx.ix2 r c) = cs (ValueIdx.ix2 0 c) := by
    rw [broadcastTo_apply _ h4 (ValueIdx.ix2 r c) (ValueIdx.ix2 0 c) ?_, shapeCast_apply cs h3 _ (ValueIdx.ix2 0 c) rfl]
    intro a
    match a with
    | ⟨0, _⟩ => rfl
    | ⟨1, _⟩ =>
      show c.val = if n = 1 then 0 else c.val
      have := c.isLt
      split <;> omega
  show extractStridedSlice ⟨2, ![72, n]⟩ ![0, 0] core h1 (ValueIdx.ix2 r c) * broadcastTo ⟨2, ![72, n]⟩ s h2 (ValueIdx.ix2 r c)
    * broadcastTo ⟨2, ![72, n]⟩ (shapeCast ⟨2, ![1, n]⟩ cs h3) h4 (ValueIdx.ix2 r c) = _
  rw [e1, e2, e3]

/-- The reference's last operations on a product. -/
def scaleV (p : FVec Ideal ⟨2, ![72, n]⟩ .f32) (s : FVec Ideal ⟨1, ![72]⟩ .f32) (cs : FVec Ideal ⟨1, ![n]⟩ .f32)
    (h1 : (⟨1, ![72]⟩ : Shape).ShapeCasts ⟨2, ![72, 1]⟩) (h2 : (⟨2, ![72, 1]⟩ : Shape).Broadcasts ⟨2, ![72, n]⟩)
    (h3 : (⟨1, ![n]⟩ : Shape).ShapeCasts ⟨2, ![1, n]⟩) (h4 : (⟨2, ![1, n]⟩ : Shape).Broadcasts ⟨2, ![72, n]⟩) :
    FVec Ideal ⟨2, ![72, n]⟩ .f32 :=
  mulf (mulf p (broadcastTo ⟨2, ![72, n]⟩ (shapeCast ⟨2, ![72, 1]⟩ s h1) h2)) (broadcastTo ⟨2, ![72, n]⟩ (shapeCast ⟨2, ![1, n]⟩ cs h3) h4)

/-- A vector as a column, read at a row. -/
theorem col_apply (s : FVec Ideal ⟨1, ![72]⟩ .f32) (h : (⟨1, ![72]⟩ : Shape).ShapeCasts ⟨2, ![72, 1]⟩) (r : Fin 72) :
    shapeCast ⟨2, ![72, 1]⟩ s h (ValueIdx.ix2 r 0) = s (ValueIdx.ix1 r) := by
  refine shapeCast_apply s h _ _ ?_
  rw [Shape.rowMajor_val_two, Shape.rowMajor_val_one]
  show r.val = r.val * 1 + 0
  omega

/-- A vector as a row, read at a column. -/
theorem row_apply (cs : FVec Ideal ⟨1, ![n]⟩ .f32) (h : (⟨1, ![n]⟩ : Shape).ShapeCasts ⟨2, ![1, n]⟩) (c : Fin n) :
    shapeCast ⟨2, ![1, n]⟩ cs h (ValueIdx.ix2 0 c) = cs (ValueIdx.ix1 c) := by
  refine shapeCast_apply cs h _ _ ?_
  rw [Shape.rowMajor_val_two, Shape.rowMajor_val_one]
  show c.val = 0 * n + c.val
  omega

theorem scaleV_apply (p : FVec Ideal ⟨2, ![72, n]⟩ .f32) (s : FVec Ideal ⟨1, ![72]⟩ .f32) (cs : FVec Ideal ⟨1, ![n]⟩ .f32)
    (h1 h2 h3 h4) (r : Fin 72) (c : Fin n) :
    scaleV p s cs h1 h2 h3 h4 (ValueIdx.ix2 r c) = p (ValueIdx.ix2 r c) * s (ValueIdx.ix1 r) * cs (ValueIdx.ix1 c) := by
  have e2 : broadcastTo ⟨2, ![72, n]⟩ (shapeCast ⟨2, ![72, 1]⟩ s h1) h2 (ValueIdx.ix2 r c) = s (ValueIdx.ix1 r) := by
    rw [broadcastTo_apply _ h2 (ValueIdx.ix2 r c) (ValueIdx.ix2 r 0) ?_, col_apply]
    intro a
    match a with
    | ⟨0, _⟩ => rfl
    | ⟨1, _⟩ => rfl
  have e3 : broadcastTo ⟨2, ![72, n]⟩ (shapeCast ⟨2, ![1, n]⟩ cs h3) h4 (ValueIdx.ix2 r c) = cs (ValueIdx.ix1 c) := by
    rw [broadcastTo_apply _ h4 (ValueIdx.ix2 r c) (ValueIdx.ix2 0 c) ?_, row_apply]
    intro a
    match a with
    | ⟨0, _⟩ => rfl
    | ⟨1, _⟩ =>
      show c.val = if n = 1 then 0 else c.val
      have := c.isLt
      split <;> omega
  show p (ValueIdx.ix2 r c) * broadcastTo ⟨2, ![72, n]⟩ (shapeCast ⟨2, ![72, 1]⟩ s h1) h2 (ValueIdx.ix2 r c)
    * broadcastTo ⟨2, ![72, n]⟩ (shapeCast ⟨2, ![1, n]⟩ cs h3) h4 (ValueIdx.ix2 r c) = _
  rw [e2, e3]

/-- A column spread over 128 columns. -/
def wideV (s : FVec Ideal ⟨2, ![72, 1]⟩ .f32) (h1 : (⟨2, ![72, 1]⟩ : Shape).ShapeCasts ⟨2, ![72, 1]⟩)
    (h2 : (⟨2, ![72, 1]⟩ : Shape).Broadcasts ⟨2, ![72, 128]⟩) : FVec Ideal ⟨2, ![72, 128]⟩ .f32 :=
  broadcastTo ⟨2, ![72, 128]⟩ (shapeCast ⟨2, ![72, 1]⟩ s h1) h2

theorem wideV_apply (s : FVec Ideal ⟨2, ![72, 1]⟩ .f32) (h1 h2) (r : Fin 72) (c : Fin 128) :
    wideV s h1 h2 (ValueIdx.ix2 r c) = s (ValueIdx.ix2 r 0) := by
  unfold wideV
  rw [broadcastTo_apply _ h2 (ValueIdx.ix2 r c) (ValueIdx.ix2 r 0) ?_, shapeCast_apply s h1 _ _ rfl]
  intro a
  match a with
  | ⟨0, _⟩ => rfl
  | ⟨1, _⟩ => rfl

/-- The spread column written as one row is the vector written as one row. -/
theorem wide_row (v : FVec Ideal ⟨1, ![72]⟩ .f32) (h0 : (⟨1, ![72]⟩ : Shape).ShapeCasts ⟨2, ![72, 1]⟩) (h1 h2)
    (h3 : (⟨2, ![72, 128]⟩ : Shape).Transposes [1, 0] ⟨2, ![128, 72]⟩) (h4 : (⟨2, ![128, 72]⟩ : Shape).Slices ![0, 0] ⟨2, ![1, 72]⟩)
    (h5 : (⟨1, ![72]⟩ : Shape).ShapeCasts ⟨2, ![1, 72]⟩) :
    extractStridedSlice ⟨2, ![1, 72]⟩ ![0, 0] (transpose ⟨2, ![128, 72]⟩ [1, 0] (wideV (shapeCast ⟨2, ![72, 1]⟩ v h0) h1 h2) h3) h4
      = shapeCast ⟨2, ![1, 72]⟩ v h5 := by
  funext j
  obtain ⟨a, c, rfl⟩ : ∃ (a : Fin 1) (c : Fin 72), j = ValueIdx.ix2 a c := ⟨j 0, j 1, ValueIdx.eq_ix2 j⟩
  obtain rfl : a = 0 := Subsingleton.elim _ _
  rw [row_apply, extractStridedSlice_apply ![0, 0] _ h4 _ (ValueIdx.ix2 (0 : Fin 128) c) ?_,
    transpose_apply [1, 0] _ h3 _ (ValueIdx.ix2 c (0 : Fin 128)) ?_, wideV_apply, col_apply]
  · intro b
    match b with
    | ⟨0, _⟩ => rfl
    | ⟨1, _⟩ => rfl
  · intro b
    match b with
    | ⟨0, _⟩ => rfl
    | ⟨1, _⟩ => exact (Nat.zero_add _).symm

/-- The codes' buffer: its first 72 rows are the first store's, whatever the last eight are. -/
theorem pad_apply {K : ℕ} (p : Vec Ideal ⟨2, ![8, K]⟩ .bf16) (x : Vec Ideal ⟨2, ![72, K]⟩ .bf16) (i1) (i2) (r : Fin 72) (k : Fin K) :
    View.canon (Val := Elt Ideal) (e := .bf16) [⟨Rect.unit (s := ⟨2, ![80, K]⟩) ![72, 0] ![8, K] i1, p⟩, ⟨Rect.unit (s := ⟨2, ![80, K]⟩) ![0, 0] ![72, K] i2, x⟩]
      (ValueIdx.ix2 ⟨r.val, Nat.lt_trans r.isLt (by decide)⟩ k) = x (ValueIdx.ix2 r k) := by
  refine View.canon_eq_of_allAt _ _ _ ⟨_, List.mem_cons_of_mem _ (List.mem_singleton_self _), ?_⟩ fun pc hpc y hy => ?_
  · refine (Rect.mem_set_unit (inb := i2)).mpr fun a => ?_
    match a with
    | ⟨0, _⟩ => exact ⟨Nat.zero_le _, by show r.val < 0 + 72; have := r.isLt; omega⟩
    | ⟨1, _⟩ => exact ⟨Nat.zero_le _, Nat.lt_of_lt_of_eq k.isLt (Nat.zero_add _).symm⟩
  · rcases List.mem_cons.mp hpc with rfl | hpc
    · have h := congrArg (fun z => (z 0).val) hy
      have h' : 72 + 1 * (y 0).val = r.val := h
      have := r.isLt
      omega
    · obtain rfl := List.mem_singleton.mp hpc
      have h0 : 0 + 1 * (y 0).val = r.val := congrArg (fun z => (z 0).val) hy
      have h1 : 0 + 1 * (y 1).val = k.val := congrArg (fun z => (z 1).val) hy
      refine congrArg x ?_
      funext a
      match a with
      | ⟨0, _⟩ => exact Fin.ext (by show (y 0).val = r.val; omega)
      | ⟨1, _⟩ => exact Fin.ext (by show (y 1).val = k.val; omega)

end

end Cert.Linear
-- ==== Proof.Common.Match.lean ====
/- A kernel's scaled product over one block of columns is the reference's at the block's place, given that the two read the
   same codes, words and scales there. -/
module

public import proofs.«01_k».proof.Proof.Common.Layout

@[expose] public section

set_option maxRecDepth 16384

noncomputable section

namespace Cert.Linear

open Idealize.ShloMosaic

/-- The terms of the two products agree where their operands do. -/
theorem term_match {K J Q n N : ℕ} (hJ : J = 16 * Q) (hK : K = 8 * J) (a : (⟨2, ![80, K]⟩ : Shape).Idx → EReal) (x : (⟨2, ![72, K]⟩ : Shape).Idx → EReal)
    (w : (⟨2, ![J, n]⟩ : Shape).Idx → BitVec 32) (w' : (⟨2, ![J, N]⟩ : Shape).Idx → BitVec 32)
    (g : (⟨2, ![Q, n]⟩ : Shape).Idx → EReal) (g' : (⟨2, ![Q, N]⟩ : Shape).Idx → EReal) (r : Fin 72) (c : Fin n) (c' : Fin N)
    (ha : ∀ k : Fin K, a (ValueIdx.ix2 ⟨r.val, Nat.lt_trans r.isLt (by decide)⟩ k) = x (ValueIdx.ix2 r k))
    (hw : ∀ i : Fin J, w (ValueIdx.ix2 i c) = w' (ValueIdx.ix2 i c')) (hg : ∀ i : Fin Q, g (ValueIdx.ix2 i c) = g' (ValueIdx.ix2 i c'))
    (k : ℕ) (hk : k < K) :
    term (at2 a) (at2 w) (at2 g) r.val c.val k = term (at2 x) (at2 w') (at2 g') r.val c'.val k := by
  unfold term
  rw [at2_eq a r.val k (Nat.lt_trans r.isLt (by decide)) hk, at2_eq x r.val k r.isLt hk, at2_eq w (k / 8) c.val (by omega) c.isLt,
    at2_eq w' (k / 8) c'.val (by omega) c'.isLt, at2_eq g (k / 128) c.val (by omega) c.isLt, at2_eq g' (k / 128) c'.val (by omega) c'.isLt]
  rw [ha ⟨k, hk⟩, hw ⟨k / 8, by omega⟩, hg ⟨k / 128, by omega⟩]

/-- The scaled products agree where their operands do. -/
theorem scaled_match {K J Q n N s : ℕ} (hJ : J = 16 * Q) (hK : K = 8 * J) (hs : 256 * s = K)
    (a : (⟨2, ![80, K]⟩ : Shape).Idx → EReal) (x : FVec Ideal ⟨2, ![72, K]⟩ .bf16)
    (w : (⟨2, ![J, n]⟩ : Shape).Idx → BitVec 32) (w' : IVec ⟨2, ![J, N]⟩ 32)
    (g : (⟨2, ![Q, n]⟩ : Shape).Idx → EReal) (g' : FVec Ideal ⟨2, ![Q, N]⟩ .bf16) (r : Fin 72) (c : Fin n) (c' : Fin N)
    (ha : ∀ k : Fin K, a (ValueIdx.ix2 ⟨r.val, Nat.lt_trans r.isLt (by decide)⟩ k) = x (ValueIdx.ix2 r k))
    (hw : ∀ i : Fin J, w (ValueIdx.ix2 i c) = w' (ValueIdx.ix2 i c')) (hg : ∀ i : Fin Q, g (ValueIdx.ix2 i c) = g' (ValueIdx.ix2 i c'))
    (core : FVec Ideal ⟨2, ![80, n]⟩ .f32) (hcore : Sums (at2 a) (at2 w) (at2 g) s core)
    (sK : FVec Ideal ⟨2, ![72, 1]⟩ .f32) (cK : FVec Ideal ⟨2, ![1, n]⟩ .f32) (k1 k2 k3 k4)
    (d : DotDims ⟨3, ![72, J, 8]⟩ ⟨3, ![8, J, N]⟩ ⟨2, ![72, N]⟩) (hd : Words d) (h1 h2 h3 h4 h h1' h2' h3' h4' h5' hx)
    (sR : FVec Ideal ⟨1, ![72]⟩ .f32) (cR : FVec Ideal ⟨1, ![N]⟩ .f32) (l1 l2 l3 l4)
    (hsc : sK (ValueIdx.ix2 r 0) = sR (ValueIdx.ix1 r)) (hcs : cK (ValueIdx.ix2 0 c) = cR (ValueIdx.ix1 c')) :
    finV core sK cK k1 k2 k3 k4 (ValueIdx.ix2 r c)
      = scaleV (prodV d x (signV (maskV w' h1 h2 h3 h4) h) (spreadV g' h1' h2' h3' h4' h5') hx) sR cR l1 l2 l3 l4 (ValueIdx.ix2 r c') := by
  rw [finV_apply, scaleV_apply, prodV_apply hJ hK d hd, hcore, hsc, hcs, hs]
  refine congrArg (fun z => z * sR (ValueIdx.ix1 r) * cR (ValueIdx.ix1 c')) ?_
  exact Finset.sum_congr rfl fun k hk => term_match hJ hK a x w w' g g' r c c' ha hw hg k (Finset.mem_range.mp hk)

end Cert.Linear
-- ==== Proof.Common.Rotate.lean ====
/- Turning the two halves of a head by a pair of angles, dividing and clamping into codes, and scoring a query against a
   key: what the two programs write differently, at one place. -/
module

public import proofs.«01_k».proof.Proof.Common.Layout
public import Idealize.ShloMosaic.Lib.Pointwise
public import Idealize.ShloMosaic.Lib.KernelVsHost

@[expose] public section

set_option maxRecDepth 16384

noncomputable section

namespace Cert.Linear

open Idealize.ShloMosaic Idealize.ShloMosaic.TcCoe Idealize.ShloMosaic.Tactic

/-- Lane `e` of the first half. -/
def lo (e : Fin 64) : Fin 128 := ⟨e.val, by have := e.isLt; omega⟩

/-- Lane `e` of the second half. -/
def hi (e : Fin 64) : Fin 128 := ⟨e.val + 64, by have := e.isLt; omega⟩

/-- A lane is in the first half or in the second. -/
theorem lo_or_hi (d : Fin 128) : (∃ e, d = lo e) ∨ ∃ e, d = hi e := by
  by_cases h : d.val < 64
  · exact .inl ⟨⟨d.val, h⟩, rfl⟩
  · exact .inr ⟨⟨d.val - 64, by have := d.isLt; omega⟩, Fin.ext (by show d.val = d.val - 64 + 64; omega)⟩

/-- A head turned: halves `a` and `b` become `a·c − b·s` and `b·c + a·s`. -/
def turned (v : Fin 128 → EReal) (c s : Fin 64 → EReal) (d : Fin 128) : EReal :=
  if h : d.val < 64 then v (lo ⟨d.val, h⟩) * c ⟨d.val, h⟩ - v (hi ⟨d.val, h⟩) * s ⟨d.val, h⟩
  else v (hi ⟨d.val - 64, by have := d.isLt; omega⟩) * c ⟨d.val - 64, by have := d.isLt; omega⟩
    + v (lo ⟨d.val - 64, by have := d.isLt; omega⟩) * s ⟨d.val - 64, by have := d.isLt; omega⟩

theorem turned_lo (v : Fin 128 → EReal) (c s : Fin 64 → EReal) (e : Fin 64) :
    turned v c s (lo e) = v (lo e) * c e - v (hi e) * s e :=
  dif_pos e.isLt

theorem turned_hi (v : Fin 128 → EReal) (c s : Fin 64 → EReal) (e : Fin 64) :
    turned v c s (hi e) = v (hi e) * c e + v (lo e) * s e := by
  have h : ¬ (hi e).val < 64 := by show ¬ e.val + 64 < 64; omega
  have k : (⟨(hi e).val - 64, by have := (hi e).isLt; omega⟩ : Fin 64) = e := Fin.ext (by show e.val + 64 - 64 = e.val; omega)
  unfold turned
  rw [dif_neg h, k]

/-- A head turned by adding its rotation by half, times the angles laid out over both halves. -/
def turnV (v C S : FVec Ideal ⟨2, ![72, 128]⟩ .f32) (h : (⟨2, ![72, 128]⟩ : Shape).Rotates 1 none) : FVec Ideal ⟨2, ![72, 128]⟩ .f32 :=
  addf (mulf v C) (mulf (dynamicRotate 1 64#32 none v h) S)

theorem turnV_apply (v C S : FVec Ideal ⟨2, ![72, 128]⟩ .f32) (h) (r : Fin 72) (c s : Fin 64 → EReal)
    (hc : ∀ e, C (ValueIdx.ix2 r (lo e)) = c e) (hc' : ∀ e, C (ValueIdx.ix2 r (hi e)) = c e)
    (hs : ∀ e, S (ValueIdx.ix2 r (lo e)) = -(s e)) (hs' : ∀ e, S (ValueIdx.ix2 r (hi e)) = s e) (d : Fin 128) :
    turnV v C S h (ValueIdx.ix2 r d) = turned (fun k => v (ValueIdx.ix2 r k)) c s d := by
  have rot (d k : Fin 128) (e : k.val = (d.val + 128 - 64 % 128) % 128) : dynamicRotate 1 64#32 none v h (ValueIdx.ix2 r d) = v (ValueIdx.ix2 r k) := by
    refine dynamicRotate_apply 1 64#32 v h _ _ fun b => ?_
    match b with
    | ⟨0, _⟩ => rfl
    | ⟨1, _⟩ => exact e
  show v (ValueIdx.ix2 r d) * C (ValueIdx.ix2 r d) + dynamicRotate 1 64#32 none v h (ValueIdx.ix2 r d) * S (ValueIdx.ix2 r d) = _
  obtain ⟨e, rfl⟩ | ⟨e, rfl⟩ := lo_or_hi d
  · rw [rot (lo e) (hi e) (by have := e.isLt; show e.val + 64 = (e.val + 128 - 64 % 128) % 128; omega), turned_lo, hc, hs, mul_neg, sub_eq_add_neg]
  · rw [rot (hi e) (lo e) (by have := e.isLt; show e.val = (e.val + 64 + 128 - 64 % 128) % 128; omega), turned_hi, hc', hs']

section
variable {H : ℕ}

/-- Heads side by side turned by joining the two new halves. -/
def ropeV (v : FVec Ideal ⟨3, ![72, H, 128]⟩ .f32) (c s : FVec Ideal ⟨2, ![72, 64]⟩ .f32)
    (h1 : (⟨2, ![72, 64]⟩ : Shape).ShapeCasts ⟨3, ![72, 1, 64]⟩) (h2 : (⟨3, ![72, H, 128]⟩ : Shape).Slices ![0, 0, 0] ⟨3, ![72, H, 64]⟩)
    (h3 : (⟨3, ![72, H, 128]⟩ : Shape).Slices ![0, 0, 64] ⟨3, ![72, H, 64]⟩) (h4 : (⟨3, ![72, 1, 64]⟩ : Shape).Broadcasts ⟨3, ![72, H, 64]⟩)
    (h5 : Shape.Concatenates [⟨3, ![72, H, 64]⟩, ⟨3, ![72, H, 64]⟩] ⟨3, ![72, H, 128]⟩ 2) : FVec Ideal ⟨3, ![72, H, 128]⟩ .f32 :=
  concatenate ⟨3, ![72, H, 128]⟩ 2
    [⟨⟨3, ![72, H, 64]⟩, subf (mulf (extractStridedSlice ⟨3, ![72, H, 64]⟩ ![0, 0, 0] v h2) (broadcastTo ⟨3, ![72, H, 64]⟩ (shapeCast ⟨3, ![72, 1, 64]⟩ c h1) h4))
        (mulf (extractStridedSlice ⟨3, ![72, H, 64]⟩ ![0, 0, 64] v h3) (broadcastTo ⟨3, ![72, H, 64]⟩ (shapeCast ⟨3, ![72, 1, 64]⟩ s h1) h4))⟩,
     ⟨⟨3, ![72, H, 64]⟩, addf (mulf (extractStridedSlice ⟨3, ![72, H, 64]⟩ ![0, 0, 64] v h3) (broadcastTo ⟨3, ![72, H, 64]⟩ (shapeCast ⟨3, ![72, 1, 64]⟩ c h1) h4))
        (mulf (extractStridedSlice ⟨3, ![72, H, 64]⟩ ![0, 0, 0] v h2) (broadcastTo ⟨3, ![72, H, 64]⟩ (shapeCast ⟨3, ![72, 1, 64]⟩ s h1) h4))⟩] h5

theorem ropeV_apply (v : FVec Ideal ⟨3, ![72, H, 128]⟩ .f32) (c s : FVec Ideal ⟨2, ![72, 64]⟩ .f32) (h1 h2 h3 h4 h5) (r : Fin 72) (h : Fin H) (d : Fin 128) :
    ropeV v c s h1 h2 h3 h4 h5 (ValueIdx.ix3 r h d) = turned (fun k => v (ValueIdx.ix3 r h k)) (fun e => c (ValueIdx.ix2 r e)) (fun e => s (ValueIdx.ix2 r e)) d := by
  have sa (e : Fin 64) : extractStridedSlice ⟨3, ![72, H, 64]⟩ ![0, 0, 0] v h2 (ValueIdx.ix3 r h e) = v (ValueIdx.ix3 r h (lo e)) := by
    refine extractStridedSlice_apply _ v h2 _ _ fun a => ?_
    match a with
    | ⟨0, _⟩ => exact (Nat.zero_add _).symm
    | ⟨1, _⟩ => exact (Nat.zero_add _).symm
    | ⟨2, _⟩ => exact (Nat.zero_add _).symm
  have sb (e : Fin 64) : extractStridedSlice ⟨3, ![72, H, 64]⟩ ![0, 0, 64] v h3 (ValueIdx.ix3 r h e) = v (ValueIdx.ix3 r h (hi e)) := by
    refine extractStridedSlice_apply _ v h3 _ _ fun a => ?_
    match a with
    | ⟨0, _⟩ => exact (Nat.zero_add _).symm
    | ⟨1, _⟩ => exact (Nat.zero_add _).symm
    | ⟨2, _⟩ => exact Nat.add_comm _ _
  have bc (c : FVec Ideal ⟨2, ![72, 64]⟩ .f32) (e : Fin 64) : broadcastTo ⟨3, ![72, H, 64]⟩ (shapeCast ⟨3, ![72, 1, 64]⟩ c h1) h4 (ValueIdx.ix3 r h e) = c (ValueIdx.ix2 r e) := by
    refine (broadcastTo_apply _ h4 (ValueIdx.ix3 r h e) (ValueIdx.ix3 r 0 e) fun a => ?_).trans (shapeCast_apply _ _ _ _ ?_)
    · match a with
      | ⟨0, _⟩ => rfl
      | ⟨1, _⟩ => rfl
      | ⟨2, _⟩ => rfl
    · refine (Shape.rowMajor_val_two _).trans (Eq.trans ?_ (Shape.rowMajor_val_three _).symm)
      show r.val * 64 + e.val = (r.val * 1 + 0) * 64 + e.val
      omega
  obtain ⟨e, rfl⟩ | ⟨e, rfl⟩ := lo_or_hi d
  · rw [turned_lo]
    unfold ropeV
    refine (concatenate_pair_apply_left 2 _ _ h5 (ValueIdx.ix3 r h (lo e)) rfl (ValueIdx.ix3 r h e) fun b => ?_).trans ?_
    · match b with
      | ⟨0, _⟩ => rfl
      | ⟨1, _⟩ => rfl
      | ⟨2, _⟩ => rfl
    · show _ * _ - _ * _ = _
      rw [sa, sb, bc, bc]
  · rw [turned_hi]
    unfold ropeV
    refine (concatenate_pair_apply_right 2 _ _ h5 (ValueIdx.ix3 r h (hi e)) rfl rfl (ValueIdx.ix3 r h e) (fun b hb => ?_) ?_).trans ?_
    · match b, hb with
      | ⟨0, _⟩, _ => rfl
      | ⟨1, _⟩, _ => rfl
      | ⟨2, _⟩, hb => exact absurd rfl hb
    · rfl
    · show _ * _ + _ * _ = _
      rw [sa, sb, bc, bc]

end

/-- Codes: divided by their scale, clamped to the largest code. -/
def quantV {s : Shape} (v b : FVec Ideal s .f32) : FVec Ideal s .fp8e4m3 :=
  truncf .fp8e4m3 (minimumf (broadcast s (Scalar.ofBits .f32 0x43E00000#32)) (maximumf (broadcast s (Scalar.ofBits .f32 0xC3E00000#32)) (divf v b)))
    (by decide)

theorem quantV_congr {s s' : Shape} (v b : FVec Ideal s .f32) (v' b' : FVec Ideal s' .f32) (i : s.Idx) (i' : s'.Idx) (hv : v i = v' i') (hb : b i = b' i') :
    quantV v b i = quantV v' b' i' := by
  unfold quantV
  simp only [ValueIdx.truncf_apply, ValueIdx.minimumf_apply, ValueIdx.maximumf_apply, ValueIdx.divf_apply, ValueIdx.broadcast_apply, hv, hb]

/-- A query scored against a key's codes: their product, times the codes' scale and the two constants. -/
def score (q k : Fin 128 → EReal) (s : EReal) : EReal :=
  (∑ d, q d * k d) * (s * (Scalar.ofBits (F := Ideal) .f32 0x3DB504F3#32 : EReal)) * (Scalar.ofBits (F := Ideal) .f32 0x3FB8AA3B#32 : EReal)

end Cert.Linear

end
-- ==== Proof.Qkv.Heads.lean ====
/- The Qkv kernel's heads, codes and scores against the reference's, as functions of what a point reads. -/
module

public import proofs.«01_k».proof.Proof.Qkv.Sums
public import proofs.«01_k».proof.Proof.Qkv.RefRun
public import proofs.«01_k».proof.Proof.Common.Match
public import proofs.«01_k».proof.Proof.Common.Rotate

@[expose] public section

set_option maxRecDepth 16384

noncomputable section

namespace Cert.QkvIdeal.Run
open Cert.QkvIdeal.Gen Cert.Linear

open Idealize.ShloMosaic Idealize.ShloMosaic.TcCoe Idealize.ShloMosaic.Tactic

/-! ## The normalised rows, their scales and the codes -/

/-- The rows without their axis of one. -/
def rowX (x : Vec Ideal QkvRefIdeal.S72x1x8192 .bf16) : Vec Ideal S72x8192 .bf16 := shapeCast S72x8192 x QkvRefIdeal.Gen.shapeCasts_S72x1x8192_S72x8192

/-- The weights of the norm as one row. -/
def rowG (g : Vec Ideal QkvRefIdeal.S8192 .f32) : Vec Ideal S1x8192 .f32 := shapeCast S1x8192 g QkvRefIdeal.Gen.shapeCasts_S8192_S1x8192

/-- The normalised rows are the reference's. -/
theorem norm_eq (x : Vec Ideal QkvRefIdeal.S72x1x8192 .bf16) (g : Vec Ideal QkvRefIdeal.S8192 .f32) :
    k0_pay2 (rowX x) (rowG g) = QkvRefIdeal.Gen.k0_pay7 x g := by
  have e : shapeCast S1x8192 (rowG g) shapeCasts_S1x8192_S1x8192 = rowG g := by
    funext j
    exact shapeCast_apply _ _ j j rfl
  have e' : shapeCast S72x8192 (rowX x) shapeCasts_S72x8192_S72x8192 = rowX x := by
    funext j
    exact shapeCast_apply _ _ j j rfl
  unfold k0_pay2
  rw [e, e']
  rfl

/-- The kernel's column of row scales is the reference's vector of them, as a column. -/
theorem scale_eq (x : Vec Ideal QkvRefIdeal.S72x1x8192 .bf16) (g : Vec Ideal QkvRefIdeal.S8192 .f32) :
    k0_pay3 (rowX x) (rowG g) = shapeCast S72x1 (QkvRefIdeal.Gen.k0_pay8 x g) QkvRefIdeal.Gen.shapeCasts_S72_S72x1 := by
  unfold k0_pay3
  rw [norm_eq]
  funext j
  rfl

/-- The codes are the reference's. -/
theorem codes_eq (x : Vec Ideal QkvRefIdeal.S72x1x8192 .bf16) (g : Vec Ideal QkvRefIdeal.S8192 .f32) : k0_pay4 (rowX x) (rowG g) = QkvRefIdeal.Gen.k0_pay9 x g := by
  unfold k0_pay4
  rw [scale_eq, norm_eq]
  rfl

theorem b_v796_eq (x : Vec Ideal S72x8192 .bf16) (y : Vec Ideal S1x8192 .f32) : b_v796 x y = x := by
  unfold b_v796
  rw [View.ld_unit_lit]
  decide

theorem b_v799_eq (x : Vec Ideal S72x8192 .bf16) (y : Vec Ideal S1x8192 .f32) : b_v799 x y = y := by
  unfold b_v799
  rw [View.ld_unit_lit]
  decide

theorem q_c_eq (x : Vec Ideal QkvRefIdeal.S72x1x8192 .bf16) (g : Vec Ideal QkvRefIdeal.S8192 .f32) : q_c (rowX x) (rowG g) = QkvRefIdeal.Gen.k0_pay9 x g := by
  unfold q_c
  rw [View.canon_cons_unit_lit, b_v796_eq, b_v799_eq, codes_eq]
  decide

theorem q_s_eq (x : Vec Ideal QkvRefIdeal.S72x1x8192 .bf16) (g : Vec Ideal QkvRefIdeal.S8192 .f32) : q_s (rowX x) (rowG g) = QkvRefIdeal.Gen.k0_pay10 (QkvRefIdeal.Gen.k0_pay8 x g) := by
  unfold q_s b_v821
  rw [View.canon_cons_unit_lit, b_v796_eq, b_v799_eq]
  · unfold k0_pay48 k0_pay46
    rw [scale_eq]
    exact wide_row _ _ _ _ _ _ _
  · decide

theorem q_sc_apply (x : Vec Ideal QkvRefIdeal.S72x1x8192 .bf16) (g : Vec Ideal QkvRefIdeal.S8192 .f32) (r : Fin 72) (c : Fin 128) :
    q_sc (rowX x) (rowG g) (ValueIdx.ix2 r c) = QkvRefIdeal.Gen.k0_pay8 x g (ValueIdx.ix1 r) := by
  unfold q_sc b_v821
  rw [View.canon_cons_unit_lit, b_v796_eq, b_v799_eq]
  · have e : k0_pay47 (k0_pay3 (rowX x) (rowG g)) = wideV (k0_pay3 (rowX x) (rowG g)) shapeCasts_S72x1_S72x1 broadcasts_S72x1_S72x128 := by
      unfold k0_pay47
      funext j
      rw [shapeCast_apply _ _ j j rfl]
      rfl
    rw [e, wideV_apply, scale_eq, col_apply]
  · decide

theorem q_a_apply (x : Vec Ideal QkvRefIdeal.S72x1x8192 .bf16) (g : Vec Ideal QkvRefIdeal.S8192 .f32) (r : Fin 72) (k : Fin 8192) :
    q_a (rowX x) (rowG g) (ValueIdx.ix2 ⟨r.val, Nat.lt_trans r.isLt (by decide)⟩ k) = QkvRefIdeal.Gen.k0_pay9 x g (ValueIdx.ix2 r k) := by
  unfold q_a
  rw [b_v796_eq, b_v799_eq]
  refine (pad_apply _ _ _ _ r k).trans ?_
  unfold k0_pay5
  rw [shapeCast_apply _ _ _ _ rfl, codes_eq]
  rfl

/-! ## The product -/

theorem ix3_eq {p q s : ℕ} (a : Fin p) (b : Fin q) (c : Fin s) : ix3 a b c = ValueIdx.ix3 a b c := by
  funext x
  match x with
  | ⟨0, _⟩ => rfl
  | ⟨1, _⟩ => rfl
  | ⟨2, _⟩ => rfl

/-- The reference's contraction runs over words and fields. -/
theorem words : Words QkvRefIdeal.dot_S72x1024x8_S8x1024x2560_S72x2560_12_10_0_2_n_n := by
  intro L R acc r c
  simp only [matmulApply]
  refine congrArg (acc (ValueIdx.ix2 r c) + ·) (Finset.sum_congr rfl fun i _ => Finset.sum_congr rfl fun j _ => ?_)
  exact congrArg₂ (· * ·) (congrArg L (ix3_eq _ _ _)) (congrArg R (ix3_eq _ _ _))

section
variable (x : Vec Ideal QkvRefIdeal.S72x1x8192 .bf16) (g : Vec Ideal QkvRefIdeal.S8192 .f32) (cos sin : Vec Ideal QkvRefIdeal.S72x1x64 .f32)
  (ks vs : Vec Ideal QkvRefIdeal.S2 .f32) (w : Vec Ideal QkvRefIdeal.S1024x2560 .i32) (gs : Vec Ideal QkvRefIdeal.S64x2560 .fp8e4m3) (cs : Vec Ideal QkvRefIdeal.S2560 .f32)

/-- The reference's scaled product. -/
def refV : FVec Ideal QkvRefIdeal.S72x2560 .f32 :=
  QkvRefIdeal.Gen.k0_pay11 (QkvRefIdeal.Gen.k0_pay8 x g) (QkvRefIdeal.Gen.k0_pay9 x g) w gs cs

/-- Its parts. -/
theorem refV_eq : refV x g w gs cs = scaleV (prodV QkvRefIdeal.dot_S72x1024x8_S8x1024x2560_S72x2560_12_10_0_2_n_n
      (extf .bf16 (QkvRefIdeal.Gen.k0_pay9 x g) bitsLt_fp8e4m3_bf16) (signV (maskV w QkvRefIdeal.Gen.shapeCasts_S1024x2560_S1x1024x2560 QkvRefIdeal.Gen.broadcasts_S1x1024x2560_S8x1024x2560 QkvRefIdeal.Gen.iota_S8x1x1_d0_w32 QkvRefIdeal.Gen.broadcasts_S8x1x1_S8x1024x2560) QkvRefIdeal.Gen.natLt_8_32)
      (spreadV (extf .bf16 gs bitsLt_fp8e4m3_bf16) QkvRefIdeal.Gen.shapeCasts_S64x2560_S64x1x2560 QkvRefIdeal.Gen.broadcasts_S64x1x2560_S64x16x2560 QkvRefIdeal.Gen.shapeCasts_S64x16x2560_S1024x2560 QkvRefIdeal.Gen.shapeCasts_S1024x2560_S1x1024x2560 QkvRefIdeal.Gen.broadcasts_S1x1024x2560_S8x1024x2560)
      QkvRefIdeal.Gen.shapeCasts_S72x8192_S72x1024x8) (QkvRefIdeal.Gen.k0_pay8 x g) cs QkvRefIdeal.Gen.shapeCasts_S72_S72x1 QkvRefIdeal.Gen.broadcasts_S72x1_S72x2560 QkvRefIdeal.Gen.shapeCasts_S2560_S1x2560 QkvRefIdeal.Gen.broadcasts_S1x2560_S72x2560 := by
  rfl

/-- Lane `d` of head `n` of the scaled product: 16 heads of queries, two of keys, two of values. -/
def headR (n : Fin 20) (r : Fin 72) (d : Fin 128) : EReal :=
  refV x g w gs cs (ValueIdx.ix2 r ⟨128 * n.val + d.val, by have := n.isLt; have := d.isLt; omega⟩)

/-- Column `j` of block `t`. -/
def wCol (t : Fin 5) (j : Fin 512) : Fin 2560 := ⟨512 * t.val + j.val, by have := t.isLt; have := j.isLt; omega⟩

/-- A point's operands are the blocks and the columns of the arguments. -/
structure OpsAt (o : Ops Ideal) (t : Fin 5) : Prop where
  cosLo : ∀ r e, o.cos (ValueIdx.ix2 r (lo e)) = cos (ValueIdx.ix3 r 0 e)
  cosHi : ∀ r e, o.cos (ValueIdx.ix2 r (hi e)) = cos (ValueIdx.ix3 r 0 e)
  sinLo : ∀ r e, o.sin (ValueIdx.ix2 r (lo e)) = -(sin (ValueIdx.ix3 r 0 e) : EReal)
  sinHi : ∀ r e, o.sin (ValueIdx.ix2 r (hi e)) = sin (ValueIdx.ix3 r 0 e)
  w_at : ∀ i j, o.w (ValueIdx.ix2 i j) = w (ValueIdx.ix2 i (wCol t j))
  g_at : ∀ i j, o.g (ValueIdx.ix2 i j) = gs (ValueIdx.ix2 i (wCol t j))
  cs_at : ∀ j, o.cs (ValueIdx.ix2 0 j) = cs (ValueIdx.ix1 (wCol t j))
  a_eq : o.a = q_a (rowX x) (rowG g)
  sc_eq : o.sc = q_sc (rowX x) (rowG g)

end

/-- The block's scaled product. -/
def blockV (o : Ops Ideal) : FVec Ideal S72x512 .f32 :=
  finV (coreV o) (c_v775 o) (c_v778 o) slices_S80x512_o0_0_S72x512 broadcasts_S72x1_S72x512 shapeCasts_S1x512_S1x512 broadcasts_S1x512_S72x512

theorem v782_eq (o : Ops Ideal) : c_v782 o = extractStridedSlice S72x128 ![0, 0] (blockV o) slices_S72x512_o0_0_S72x128 := by rfl
theorem v783_eq (o : Ops Ideal) : c_v783 o = extractStridedSlice S72x128 ![0, 128] (blockV o) slices_S72x512_o0_128_S72x128 := by rfl
theorem v784_eq (o : Ops Ideal) : c_v784 o = extractStridedSlice S72x128 ![0, 256] (blockV o) slices_S72x512_o0_256_S72x128 := by rfl
theorem v785_eq (o : Ops Ideal) : c_v785 o = extractStridedSlice S72x128 ![0, 384] (blockV o) slices_S72x512_o0_384_S72x128 := by rfl

/-- A slice of columns, read at one of them. -/
theorem cols_apply {m n p : ℕ} (v : FVec Ideal ⟨2, ![m, n]⟩ .f32) (o : ℕ) (h : (⟨2, ![m, n]⟩ : Shape).Slices ![0, o] ⟨2, ![m, p]⟩) (r : Fin m) (k : Fin p) (k' : Fin n)
    (e : k'.val = o + k.val) : extractStridedSlice ⟨2, ![m, p]⟩ ![0, o] v h (ValueIdx.ix2 r k) = v (ValueIdx.ix2 r k') := by
  refine extractStridedSlice_apply ![0, o] v h _ _ fun a => ?_
  match a with
  | ⟨0, _⟩ => exact (Nat.zero_add _).symm
  | ⟨1, _⟩ => exact e

/-- Head `k` of the block, four of them. -/
def headK (o : Ops Ideal) : Fin 4 → FVec Ideal S72x128 .f32
  | 0 => c_v782 o
  | 1 => c_v783 o
  | 2 => c_v784 o
  | 3 => c_v785 o

theorem headK_block (o : Ops Ideal) (k : Fin 4) (r : Fin 72) (d : Fin 128) :
    headK o k (ValueIdx.ix2 r d) = blockV o (ValueIdx.ix2 r ⟨128 * k.val + d.val, by have := k.isLt; have := d.isLt; omega⟩) := by
  match k with
  | 0 => exact (congrFun (v782_eq o) _).trans (cols_apply _ 0 _ r d _ rfl)
  | 1 => exact (congrFun (v783_eq o) _).trans (cols_apply _ 128 _ r d _ rfl)
  | 2 => exact (congrFun (v784_eq o) _).trans (cols_apply _ 256 _ r d _ rfl)
  | 3 => exact (congrFun (v785_eq o) _).trans (cols_apply _ 384 _ r d _ rfl)

section
variable {x : Vec Ideal QkvRefIdeal.S72x1x8192 .bf16} {g : Vec Ideal QkvRefIdeal.S8192 .f32} {cos sin : Vec Ideal QkvRefIdeal.S72x1x64 .f32}
  {w : Vec Ideal QkvRefIdeal.S1024x2560 .i32} {gs : Vec Ideal QkvRefIdeal.S64x2560 .fp8e4m3} {cs : Vec Ideal QkvRefIdeal.S2560 .f32}
  {o : Ops Ideal} {t : Fin 5} (H : OpsAt x g cos sin w gs cs o t)
include H

/-- The block's scaled product is the reference's in its columns. -/
theorem block_at (r : Fin 72) (j : Fin 512) : blockV o (ValueIdx.ix2 r j) = refV x g w gs cs (ValueIdx.ix2 r (wCol t j)) := by
  rw [refV_eq]
  unfold blockV
  refine scaled_match (K := 8192) (J := 1024) (Q := 64) (s := 32) rfl rfl rfl o.a _ o.w _ o.g _ r j (wCol t j)
    (fun k => ?_) (fun i => H.w_at i j) (fun i => H.g_at i j) _ ?_ _ _ _ _ _ _ _ words _ _ _ _ _ _ _ _ _ _ _ _ _ _ _ _ _ ?_ ?_
  · rw [H.a_eq]
    exact q_a_apply _ _ r k
  · have h := coreV_sums o
    unfold SumsD at h
    rw [gD_eq] at h
    exact h
  · unfold c_v775
    rw [H.sc_eq]
    exact (ld_ix2 _ 0 0 _ r 0 (by have := r.isLt; omega) (by decide)).trans (by simpa using q_sc_apply _ _ r 0)
  · unfold c_v778
    rw [View.ld_unit_lit]
    · exact H.cs_at j
    · decide

/-- Head `k` of block `t` is the reference's head `4t + k`. -/
theorem head_at (k : Fin 4) (n : Fin 20) (hn : n.val = 4 * t.val + k.val) (r : Fin 72) (d : Fin 128) :
    headK o k (ValueIdx.ix2 r d) = headR x g w gs cs n r d := by
  rw [headK_block, block_at H]
  unfold headR wCol
  refine congrArg (fun z => refV x g w gs cs (ValueIdx.ix2 r z)) (Fin.ext ?_)
  show 512 * t.val + (128 * k.val + d.val) = 128 * n.val + d.val
  omega

/-- The reference's head `n`, turned. -/
theorem turn_at (k : Fin 4) (n : Fin 20) (hn : n.val = 4 * t.val + k.val) (r : Fin 72) (d : Fin 128) :
    turnV (headK o k) (c_v787 o) (c_v789 o) rotates_S72x128_d1 (ValueIdx.ix2 r d)
      = turned (headR x g w gs cs n r) (fun e => cos (ValueIdx.ix3 r 0 e)) (fun e => sin (ValueIdx.ix3 r 0 e)) d := by
  have ec (j) : c_v787 o j = o.cos j := by
    unfold c_v787 c_v786 k0_pay103
    rw [shapeCast_apply _ _ j j rfl, View.ld_unit_lit]
    decide
  have es (j) : c_v789 o j = o.sin j := by
    unfold c_v789 c_v788 k0_pay104
    rw [shapeCast_apply _ _ j j rfl, View.ld_unit_lit]
    decide
  rw [turnV_apply _ _ _ _ r (fun e => cos (ValueIdx.ix3 r 0 e)) (fun e => sin (ValueIdx.ix3 r 0 e))
    (fun e => (ec _).trans (H.cosLo r e)) (fun e => (ec _).trans (H.cosHi r e)) (fun e => (es _).trans (H.sinLo r e)) (fun e => (es _).trans (H.sinHi r e))]
  refine congrArg (fun v => turned v _ _ d) (funext fun d => head_at H k n hn r d)

end

/-- A block given a leading axis of one, read at a row and a lane. -/
theorem lead_apply {α : Type} {m n : ℕ} (v : (⟨2, ![m, n]⟩ : Shape).Idx → α) (h : (⟨2, ![m, n]⟩ : Shape).ShapeCasts ⟨3, ![1, m, n]⟩) (r : Fin m) (d : Fin n) :
    shapeCast ⟨3, ![1, m, n]⟩ v h (ValueIdx.ix3 0 r d) = v (ValueIdx.ix2 r d) := by
  refine shapeCast_apply _ _ _ _ ?_
  refine (Shape.rowMajor_val_two _).trans (Eq.trans ?_ (Shape.rowMajor_val_three _).symm)
  show r.val * n + d.val = (0 * m + r.val) * n + d.val
  rw [Nat.zero_mul, Nat.zero_add]

/-- A block losing its leading axis of one, read at a row and a lane. -/
theorem unlead_apply {α : Type} {m n : ℕ} (v : (⟨3, ![1, m, n]⟩ : Shape).Idx → α) (h : (⟨3, ![1, m, n]⟩ : Shape).ShapeCasts ⟨2, ![m, n]⟩) (r : Fin m) (d : Fin n) :
    shapeCast ⟨2, ![m, n]⟩ v h (ValueIdx.ix2 r d) = v (ValueIdx.ix3 0 r d) := by
  refine shapeCast_apply _ _ _ _ ?_
  refine (Shape.rowMajor_val_three _).trans (Eq.trans ?_ (Shape.rowMajor_val_two _).symm)
  show (0 * m + r.val) * n + d.val = r.val * n + d.val
  rw [Nat.zero_mul, Nat.zero_add]

/-- A stored head is the block's head, turned. -/
theorem qp_apply (o : Ops Ideal) (k : Fin 4) (r : Fin 72) (d : Fin 128) :
    qp o k.val (ValueIdx.ix3 0 r d) = turnV (headK o k) (c_v787 o) (c_v789 o) rotates_S72x128_d1 (ValueIdx.ix2 r d) := by
  match k with
  | 0 => exact lead_apply (turnV (c_v782 o) (c_v787 o) (c_v789 o) rotates_S72x128_d1) shapeCasts_S72x128_S1x72x128 r d
  | 1 => exact lead_apply (turnV (c_v783 o) (c_v787 o) (c_v789 o) rotates_S72x128_d1) shapeCasts_S72x128_S1x72x128 r d
  | 2 => exact lead_apply (turnV (c_v784 o) (c_v787 o) (c_v789 o) rotates_S72x128_d1) shapeCasts_S72x128_S1x72x128 r d
  | 3 => exact lead_apply (turnV (c_v785 o) (c_v787 o) (c_v789 o) rotates_S72x128_d1) shapeCasts_S72x128_S1x72x128 r d

/-! ## Heads of a stack -/

/-- Index `x` of head `n` of a stack. -/
theorem stack_emb {N : ℕ} (n : ℕ) (hn : n < N) (inb) (x : (⟨3, ![1, 72, 128]⟩ : Shape).Idx) :
    (Rect.unit (s := ⟨3, ![N, 72, 128]⟩) ![n, 0, 0] ![1, 72, 128] inb).emb x = ValueIdx.ix3 ⟨n, hn⟩ (x 1) (x 2) := by
  have h0 : (x 0).val < 1 := (x 0).isLt
  funext a
  refine Fin.ext ?_
  match a with
  | ⟨0, _⟩ => show n + 1 * (x 0).val = n; omega
  | ⟨1, _⟩ => show 0 + 1 * (x 1).val = (x 1).val; omega
  | ⟨2, _⟩ => show 0 + 1 * (x 2).val = (x 2).val; omega

/-- A load of head `n` of a stack. -/
theorem stack_ld {N : ℕ} (q : Vec Ideal ⟨3, ![N, 72, 128]⟩ .f32) (n : ℕ) (hn : n < N) (inb) (r : Fin 72) (d : Fin 128) :
    View.ld q (Rect.unit (s := ⟨3, ![N, 72, 128]⟩) ![n, 0, 0] ![1, 72, 128] inb) (ValueIdx.ix3 0 r d) = q (ValueIdx.ix3 ⟨n, hn⟩ r d) :=
  congrArg q (stack_emb n hn inb (ValueIdx.ix3 0 r d))

/-- Element 0 of a pair. -/
theorem sm0_eq (p : Vec Ideal S2 .f32) : sm0 p = p (ValueIdx.ix1 0) := by
  refine congrArg p (funext fun a => Fin.ext ?_)
  match a with
  | ⟨0, _⟩ => rfl

/-- Element 1 of a pair. -/
theorem sm1_eq (p : Vec Ideal S2 .f32) : sm1 p = p (ValueIdx.ix1 1) := by
  refine congrArg p (funext fun a => Fin.ext ?_)
  match a with
  | ⟨0, _⟩ => rfl

/-! ## Scores -/

/-- The kernel's row sum is over the lanes. -/
theorem lanes_sum (v : FVec Ideal S72x128 .f32) (h1 h2 h3) (r : Fin 72) :
    multiReduction .add [1] S72 v 0x00000000#32 h1 h2 h3 (ValueIdx.ix1 r) = ∑ d : Fin 128, v (ValueIdx.ix2 r d) := by
  refine (Ideal.multiReduction_add_single _ _ _ _ _ _).trans ?_
  refine Finset.sum_congr rfl fun d _ => congrArg v (funext fun a => Fin.ext ?_)
  match a with
  | ⟨0, _⟩ => rfl
  | ⟨1, _⟩ => rfl

/-- A head scored against the keys' codes. -/
theorem score_apply (kb : FVec Ideal S72x128 .f32) (q : Vec Ideal S1x72x128 .f32) (s : Elt Ideal .f32) (r : Fin 72) (d : Fin 128) :
    k0_pay17 kb q s (ValueIdx.ix3 0 r d) = score (fun d => q (ValueIdx.ix3 0 r d)) (fun d => kb (ValueIdx.ix2 r d)) s := by
  unfold k0_pay17
  refine (lead_apply _ _ r d).trans ?_
  refine (broadcastTo_apply _ _ (ValueIdx.ix2 r d) (ValueIdx.ix2 r 0) fun a => ?_).trans ?_
  · match a with
    | ⟨0, _⟩ => rfl
    | ⟨1, _⟩ => rfl
  rw [shapeCast_apply _ _ _ _ rfl]
  unfold score
  refine congrArg (fun z : EReal => z * (s * (Scalar.ofBits (F := Ideal) .f32 0x3DB504F3#32 : EReal)) * (Scalar.ofBits (F := Ideal) .f32 0x3FB8AA3B#32 : EReal)) ?_
  refine (col_apply _ _ r).trans ((lanes_sum _ _ _ _ r).trans (Finset.sum_congr rfl fun d _ => ?_))
  exact congrArg (· * kb (ValueIdx.ix2 r d)) (unlead_apply q shapeCasts_S1x72x128_S72x128 r d)

end Cert.QkvIdeal.Run

end
-- ==== Proof.Qkv.Plain.lean ====
/- The Qkv reference's results, one element at a time. -/
module

public import proofs.«01_k».proof.Proof.Qkv.Heads

@[expose] public section

set_option maxRecDepth 16384

noncomputable section

namespace Cert.QkvIdeal.Run
open Cert.QkvIdeal.Gen Cert.Linear

open Idealize.ShloMosaic Idealize.ShloMosaic.TcCoe Idealize.ShloMosaic.Tactic

/-- One code. -/
def code (v b : EReal) : EReal := quantV (s := ⟨1, ![1]⟩) (fun _ => v) (fun _ => b) (ValueIdx.ix1 0)

theorem quantV_apply {s : Shape} (v b : FVec Ideal s .f32) (i : s.Idx) : quantV v b i = code (v i) (b i) :=
  quantV_congr _ _ _ _ _ _ rfl rfl

/-- Columns from `o` on, cut into heads. -/
theorem heads_apply {H P N : ℕ} (v : FVec Ideal ⟨2, ![72, N]⟩ .f32) (o : ℕ) (hP : P = 128 * H) (h : (⟨2, ![72, N]⟩ : Shape).Slices ![0, o] ⟨2, ![72, P]⟩)
    (h' : (⟨2, ![72, P]⟩ : Shape).ShapeCasts ⟨3, ![72, H, 128]⟩) (r : Fin 72) (i : Fin H) (d : Fin 128) (k : Fin N) (e : k.val = o + (128 * i.val + d.val)) :
    shapeCast ⟨3, ![72, H, 128]⟩ (extractStridedSlice ⟨2, ![72, P]⟩ ![0, o] v h) h' (ValueIdx.ix3 r i d) = v (ValueIdx.ix2 r k) := by
  have hb : 128 * i.val + d.val < P := by have := i.isLt; have := d.isLt; omega
  refine (shapeCast_apply _ _ (ValueIdx.ix3 r i d) (ValueIdx.ix2 r ⟨128 * i.val + d.val, hb⟩) ?_).trans (cols_apply v o h r _ k e)
  refine (Shape.rowMajor_val_two _).trans (Eq.trans ?_ (Shape.rowMajor_val_three _).symm)
  show r.val * P + (128 * i.val + d.val) = (r.val * H + i.val) * 128 + d.val
  rw [hP]
  ring

/-- One scale per head, spread over rows and lanes. -/
theorem pair_apply (p : Vec Ideal QkvRefIdeal.S2 .f32) (h1 : QkvRefIdeal.S2.ShapeCasts QkvRefIdeal.S2x1) (h2 : QkvRefIdeal.S2x1.ShapeCasts QkvRefIdeal.S1x2x1)
    (h3 : QkvRefIdeal.S1x2x1.Broadcasts QkvRefIdeal.S72x2x128) (r : Fin 72) (i : Fin 2) (d : Fin 128) :
    broadcastTo QkvRefIdeal.S72x2x128 (shapeCast QkvRefIdeal.S1x2x1 (shapeCast QkvRefIdeal.S2x1 p h1) h2) h3 (ValueIdx.ix3 r i d) = p (ValueIdx.ix1 i) := by
  refine (broadcastTo_apply _ _ (ValueIdx.ix3 r i d) (ValueIdx.ix3 0 i 0) fun a => ?_).trans ?_
  · match a with
    | ⟨0, _⟩ => rfl
    | ⟨1, _⟩ => rfl
    | ⟨2, _⟩ => rfl
  refine (shapeCast_apply _ _ _ (ValueIdx.ix2 i 0) ?_).trans (shapeCast_apply _ _ _ _ ?_)
  · refine (Shape.rowMajor_val_two _).trans (Eq.trans ?_ (Shape.rowMajor_val_three _).symm)
    show i.val * 1 + 0 = (0 * 2 + i.val) * 1 + 0
    omega
  · refine (Shape.rowMajor_val_one _).trans (Eq.trans ?_ (Shape.rowMajor_val_two _).symm)
    show i.val = i.val * 1 + 0
    omega

section
variable (x : Vec Ideal QkvRefIdeal.S72x1x8192 .bf16) (g : Vec Ideal QkvRefIdeal.S8192 .f32) (cos sin : Vec Ideal QkvRefIdeal.S72x1x64 .f32)
  (ks vs : Vec Ideal QkvRefIdeal.S2 .f32) (w : Vec Ideal QkvRefIdeal.S1024x2560 .i32) (gs : Vec Ideal QkvRefIdeal.S64x2560 .fp8e4m3) (cs : Vec Ideal QkvRefIdeal.S2560 .f32)

/-- Lane `d` of the reference's head `n`, turned. -/
def turnR (n : Fin 20) (r : Fin 72) (d : Fin 128) : EReal :=
  turned (headR x g w gs cs n r) (fun e => cos (ValueIdx.ix3 r 0 e)) (fun e => sin (ValueIdx.ix3 r 0 e)) d

/-- The head of query `h`. -/
def qHead (h : Fin 16) : Fin 20 := ⟨h.val, by have := h.isLt; omega⟩
/-- The head of key `i`. -/
def kHead (i : Fin 2) : Fin 20 := ⟨16 + i.val, by have := i.isLt; omega⟩
/-- The head of value `i`. -/
def vHead (i : Fin 2) : Fin 20 := ⟨18 + i.val, by have := i.isLt; omega⟩
/-- The key that query `h` is scored against. -/
def kOf (h : Fin 16) : Fin 2 := ⟨h.val / 8, by have := h.isLt; omega⟩

/-- The reference reads whole arguments. -/
theorem p23_eq : QkvRefIdeal.Gen.k0_pay23 x g cos sin ks vs w gs cs = QkvRefIdeal.Gen.k0_pay8 x g := by
  unfold QkvRefIdeal.Gen.k0_pay23
  rw [View.ld_unit_zero (S := QkvRefIdeal.S72x1x8192) QkvRefIdeal.Value.hz0 _ x, View.ld_unit_zero (S := QkvRefIdeal.S8192) QkvRefIdeal.Value.hz1 _ g]

theorem p24_eq : QkvRefIdeal.Gen.k0_pay24 x g cos sin ks vs w gs cs = QkvRefIdeal.Gen.k0_pay9 x g := by
  unfold QkvRefIdeal.Gen.k0_pay24
  rw [View.ld_unit_zero (S := QkvRefIdeal.S72x1x8192) QkvRefIdeal.Value.hz0 _ x, View.ld_unit_zero (S := QkvRefIdeal.S8192) QkvRefIdeal.Value.hz1 _ g]

theorem angle_apply (a : Vec Ideal QkvRefIdeal.S72x1x64 .f32) (h : QkvRefIdeal.S72x1x64.ShapeCasts QkvRefIdeal.S72x64) (r : Fin 72) (e : Fin 64) :
    shapeCast QkvRefIdeal.S72x64 a h (ValueIdx.ix2 r e) = a (ValueIdx.ix3 r 0 e) := by
  refine shapeCast_apply _ _ _ _ ?_
  refine (Shape.rowMajor_val_three _).trans (Eq.trans ?_ (Shape.rowMajor_val_two _).symm)
  show (r.val * 1 + 0) * 64 + e.val = r.val * 64 + e.val
  omega

theorem p21_apply (r : Fin 72) (e : Fin 64) : QkvRefIdeal.Gen.k0_pay21 x g cos sin ks vs w gs cs (ValueIdx.ix2 r e) = cos (ValueIdx.ix3 r 0 e) := by
  unfold QkvRefIdeal.Gen.k0_pay21
  rw [View.ld_unit_zero (S := QkvRefIdeal.S72x1x64) QkvRefIdeal.Value.hz2 _ cos]
  exact angle_apply cos _ r e

theorem p22_apply (r : Fin 72) (e : Fin 64) : QkvRefIdeal.Gen.k0_pay22 x g cos sin ks vs w gs cs (ValueIdx.ix2 r e) = sin (ValueIdx.ix3 r 0 e) := by
  unfold QkvRefIdeal.Gen.k0_pay22
  rw [View.ld_unit_zero (S := QkvRefIdeal.S72x1x64) QkvRefIdeal.Value.hz2 _ sin]
  exact angle_apply sin _ r e

theorem p25_apply (r : Fin 72) (h : Fin 16) (d : Fin 128) : QkvRefIdeal.Gen.k0_pay25 x g cos sin ks vs w gs cs (ValueIdx.ix3 r h d) = headR x g w gs cs (qHead h) r d := by
  unfold QkvRefIdeal.Gen.k0_pay25
  rw [p23_eq, p24_eq, View.ld_unit_zero (S := QkvRefIdeal.S1024x2560) QkvRefIdeal.Value.hz6 _ w, View.ld_unit_zero (S := QkvRefIdeal.S64x2560) QkvRefIdeal.Value.hz7 _ gs, View.ld_unit_zero (S := QkvRefIdeal.S2560) QkvRefIdeal.Value.hz8 _ cs]
  exact heads_apply (refV x g w gs cs) 0 rfl _ _ r h d _ (by show 128 * h.val + d.val = 0 + (128 * h.val + d.val); omega)

theorem p26_apply (r : Fin 72) (i : Fin 2) (d : Fin 128) : QkvRefIdeal.Gen.k0_pay26 x g cos sin ks vs w gs cs (ValueIdx.ix3 r i d) = headR x g w gs cs (kHead i) r d := by
  unfold QkvRefIdeal.Gen.k0_pay26
  rw [p23_eq, p24_eq, View.ld_unit_zero (S := QkvRefIdeal.S1024x2560) QkvRefIdeal.Value.hz6 _ w, View.ld_unit_zero (S := QkvRefIdeal.S64x2560) QkvRefIdeal.Value.hz7 _ gs, View.ld_unit_zero (S := QkvRefIdeal.S2560) QkvRefIdeal.Value.hz8 _ cs]
  exact heads_apply (refV x g w gs cs) 2048 rfl _ _ r i d _ (by show 128 * (16 + i.val) + d.val = 2048 + (128 * i.val + d.val); omega)

theorem p14_apply (r : Fin 72) (i : Fin 2) (d : Fin 128) :
    QkvRefIdeal.Gen.k0_pay14 (QkvRefIdeal.Gen.k0_pay8 x g) (QkvRefIdeal.Gen.k0_pay9 x g) w gs cs (ValueIdx.ix3 r i d) = headR x g w gs cs (vHead i) r d :=
  heads_apply (refV x g w gs cs) 2304 rfl _ _ r i d _ (by show 128 * (18 + i.val) + d.val = 2304 + (128 * i.val + d.val); omega)

theorem p15_apply (r : Fin 72) (h : Fin 16) (d : Fin 128) :
    QkvRefIdeal.Gen.k0_pay15 (QkvRefIdeal.Gen.k0_pay21 x g cos sin ks vs w gs cs) (QkvRefIdeal.Gen.k0_pay22 x g cos sin ks vs w gs cs) (QkvRefIdeal.Gen.k0_pay25 x g cos sin ks vs w gs cs) (ValueIdx.ix3 r h d)
      = turnR x g cos sin w gs cs (qHead h) r d := by
  refine (ropeV_apply (QkvRefIdeal.Gen.k0_pay25 x g cos sin ks vs w gs cs) (QkvRefIdeal.Gen.k0_pay21 x g cos sin ks vs w gs cs) (QkvRefIdeal.Gen.k0_pay22 x g cos sin ks vs w gs cs) _ _ _ _ _ r h d).trans ?_
  unfold turnR
  rw [funext fun k => p25_apply x g cos sin ks vs w gs cs r h k, funext fun e => p21_apply x g cos sin ks vs w gs cs r e, funext fun e => p22_apply x g cos sin ks vs w gs cs r e]

theorem p16_apply (r : Fin 72) (i : Fin 2) (d : Fin 128) :
    QkvRefIdeal.Gen.k0_pay16 (QkvRefIdeal.Gen.k0_pay21 x g cos sin ks vs w gs cs) (QkvRefIdeal.Gen.k0_pay22 x g cos sin ks vs w gs cs) ks (QkvRefIdeal.Gen.k0_pay26 x g cos sin ks vs w gs cs) (ValueIdx.ix3 r i d)
      = code (turnR x g cos sin w gs cs (kHead i) r d) (ks (ValueIdx.ix1 i)) := by
  refine (quantV_apply (ropeV (QkvRefIdeal.Gen.k0_pay26 x g cos sin ks vs w gs cs) (QkvRefIdeal.Gen.k0_pay21 x g cos sin ks vs w gs cs) (QkvRefIdeal.Gen.k0_pay22 x g cos sin ks vs w gs cs) _ _ _ _ _) _ (ValueIdx.ix3 r i d)).trans ?_
  refine congrArg₂ code ?_ (pair_apply ks _ _ _ r i d)
  refine (ropeV_apply _ _ _ _ _ _ _ _ r i d).trans ?_
  unfold turnR
  rw [funext fun k => p26_apply x g cos sin ks vs w gs cs r i k, funext fun e => p21_apply x g cos sin ks vs w gs cs r e, funext fun e => p22_apply x g cos sin ks vs w gs cs r e]

/-- The first two axes exchanged. -/
theorem swap_apply {H : ℕ} (v : FVec Ideal ⟨3, ![72, H, 128]⟩ .f32) (h : (⟨3, ![72, H, 128]⟩ : Shape).Transposes [1, 0, 2] ⟨3, ![H, 72, 128]⟩) (i : Fin H) (r : Fin 72) (d : Fin 128) :
    transpose ⟨3, ![H, 72, 128]⟩ [1, 0, 2] v h (ValueIdx.ix3 i r d) = v (ValueIdx.ix3 r i d) := by
  refine transpose_apply [1, 0, 2] _ h _ _ fun b => ?_
  match b with
  | ⟨0, _⟩ => rfl
  | ⟨1, _⟩ => rfl
  | ⟨2, _⟩ => rfl

/-- The queries. -/
theorem G11_apply (h : Fin 16) (r : Fin 72) (d : Fin 128) :
    QkvRefIdeal.Value.G11 x g cos sin ks vs w gs cs (ValueIdx.ix3 h r d) = turnR x g cos sin w gs cs (qHead h) r d := by
  exact (swap_apply _ _ h r d).trans (p15_apply x g cos sin ks vs w gs cs r h d)

/-- The keys' codes. -/
theorem G13_apply (i : Fin 2) (r : Fin 72) (d : Fin 128) :
    QkvRefIdeal.Value.G13 x g cos sin ks vs w gs cs (ValueIdx.ix3 i r d) = code (turnR x g cos sin w gs cs (kHead i) r d) (ks (ValueIdx.ix1 i)) := by
  exact (swap_apply _ _ i r d).trans (p16_apply x g cos sin ks vs w gs cs r i d)

/-- The values' codes. -/
theorem G14_apply (i : Fin 2) (r : Fin 72) (d : Fin 128) :
    QkvRefIdeal.Value.G14 x g cos sin ks vs w gs cs (ValueIdx.ix3 i r d) = code (headR x g w gs cs (vHead i) r d) (vs (ValueIdx.ix1 i)) := by
  have e : QkvRefIdeal.Gen.k0_pay17 vs (QkvRefIdeal.Gen.k0_pay14 (QkvRefIdeal.Gen.k0_pay8 x g) (QkvRefIdeal.Gen.k0_pay9 x g) w gs cs) (ValueIdx.ix3 r i d) = code (headR x g w gs cs (vHead i) r d) (vs (ValueIdx.ix1 i)) :=
    (quantV_apply _ _ (ValueIdx.ix3 r i d)).trans (congrArg₂ code (p14_apply x g w gs cs r i d) (pair_apply vs _ _ _ r i d))
  unfold QkvRefIdeal.Value.G14
  rw [p23_eq, p24_eq]
  exact (swap_apply _ _ i r d).trans e

/-- The contraction of the scores runs over the lanes. -/
theorem score_sum (L : FVec Ideal QkvRefIdeal.S72x2x8x128 .bf16) (R : FVec Ideal QkvRefIdeal.S72x2x128 .bf16) (r : Fin 72) (i : Fin 2) (e : Fin 8) :
    matmul QkvRefIdeal.dot_S72x2x8x128_S72x2x128_S72x2x8_3_2_2_n_01_01 none L R (constant QkvRefIdeal.S72x2x8 .f32 0x00000000#32) (ValueIdx.ix3 r i e)
      = ∑ d : Fin 128, L (ValueIdx.ix4 r i e d) * R (ValueIdx.ix3 r i d) := by
  show Ideal.matmul _ L R _ _ = _
  simp only [matmulApply]
  refine Eq.trans (congrArg₂ (· + ·) Ideal.ofBits_zero_f32 (Finset.sum_congr rfl fun d _ => ?_)) (zero_add _)
  refine congrArg₂ (· * ·) (congrArg L ?_) (congrArg R (ix3_eq _ _ _))
  funext a
  match a with
  | ⟨0, _⟩ => rfl
  | ⟨1, _⟩ => rfl
  | ⟨2, _⟩ => rfl
  | ⟨3, _⟩ => rfl

/-- The spread scores at an index. -/
theorem spread_apply (R : FVec Ideal QkvRefIdeal.S72x2x128 .bf16) (L : FVec Ideal QkvRefIdeal.S72x2x8x128 .bf16) (p : FVec Ideal QkvRefIdeal.S1x2x1 .f32)
    (h : Fin 16) (r : Fin 72) (d : Fin 128) (e : Fin 8) (he : h.val = 8 * (kOf h).val + e.val) :
    QkvRefIdeal.Gen.k0_pay2 R L p (constant QkvRefIdeal.S72x2x8 .f32 0x00000000#32) (ValueIdx.ix3 h r d)
      = (∑ k : Fin 128, L (ValueIdx.ix4 r (kOf h) e k) * R (ValueIdx.ix3 r (kOf h) k)) * p (ValueIdx.ix3 0 (kOf h) 0) * (Scalar.ofBits (F := Ideal) .f32 0x3FB8AA3B#32 : EReal) := by
  unfold QkvRefIdeal.Gen.k0_pay2
  refine (broadcastTo_apply _ _ (ValueIdx.ix3 h r d) (ValueIdx.ix3 h r 0) fun a => ?_).trans ?_
  · match a with
    | ⟨0, _⟩ => rfl
    | ⟨1, _⟩ => rfl
    | ⟨2, _⟩ => rfl
  refine (shapeCast_apply _ _ (ValueIdx.ix3 h r 0) (ValueIdx.ix3 h r 0) rfl).trans ?_
  refine (shapeCast_apply _ _ (ValueIdx.ix3 h r 0) (ValueIdx.ix2 h r) ?_).trans ?_
  · refine (Shape.rowMajor_val_two _).trans (Eq.trans ?_ (Shape.rowMajor_val_three _).symm)
    show h.val * 72 + r.val = (h.val * 72 + r.val) * 1 + 0
    omega
  refine (transpose_apply [1, 0] _ _ (ValueIdx.ix2 h r) (ValueIdx.ix2 r h) fun b => ?_).trans ?_
  · match b with
    | ⟨0, _⟩ => rfl
    | ⟨1, _⟩ => rfl
  refine (shapeCast_apply _ _ (ValueIdx.ix2 r h) (ValueIdx.ix3 r (kOf h) e) ?_).trans ?_
  · refine (Shape.rowMajor_val_three _).trans (Eq.trans ?_ (Shape.rowMajor_val_two _).symm)
    show (r.val * 2 + (kOf h).val) * 8 + e.val = r.val * 16 + h.val
    omega
  rw [ValueIdx.mulf_apply, ValueIdx.mulf_apply, ValueIdx.broadcast_apply, score_sum]
  refine congrArg (· * (Scalar.ofBits (F := Ideal) .f32 0x3FB8AA3B#32 : EReal)) (congrArg (_ * ·) ?_)
  refine broadcastTo_apply _ _ _ _ fun a => ?_
  match a with
  | ⟨0, _⟩ => rfl
  | ⟨1, _⟩ => rfl
  | ⟨2, _⟩ => rfl

/-- The scores, one in all lanes of a row. -/
theorem G12_apply (h : Fin 16) (r : Fin 72) (d : Fin 128) :
    QkvRefIdeal.Value.G12 x g cos sin ks vs w gs cs (ValueIdx.ix3 h r d)
      = score (fun k => turnR x g cos sin w gs cs (qHead h) r k) (fun k => code (turnR x g cos sin w gs cs (kHead (kOf h)) r k) (ks (ValueIdx.ix1 (kOf h)))) (ks (ValueIdx.ix1 (kOf h))) := by
  have hh : h.val = 8 * (kOf h).val + h.val % 8 := (Nat.div_add_mod h.val 8).symm
  refine (spread_apply _ _ _ h r d ⟨h.val % 8, Nat.mod_lt _ (by decide)⟩ hh).trans ?_
  unfold score
  refine congrArg (· * (Scalar.ofBits (F := Ideal) .f32 0x3FB8AA3B#32 : EReal)) (congrArg₂ (· * ·) (Finset.sum_congr rfl fun k _ => congrArg₂ (· * ·) ?_ ?_) ?_)
  · refine (shapeCast_apply _ _ _ (ValueIdx.ix3 r h k) ?_).trans (p15_apply x g cos sin ks vs w gs cs r h k)
    refine (Shape.rowMajor_val_three _).trans (Eq.trans ?_ (Shape.rowMajor_val_four _).symm)
    show (r.val * 16 + h.val) * 128 + k.val = ((r.val * 2 + (kOf h).val) * 8 + h.val % 8) * 128 + k.val
    omega
  · exact p16_apply x g cos sin ks vs w gs cs r (kOf h) k
  · unfold QkvRefIdeal.Gen.k0_pay20
    refine (shapeCast_apply _ _ _ (ValueIdx.ix1 (kOf h)) ?_).trans rfl
    refine (Shape.rowMajor_val_one _).trans (Eq.trans ?_ (Shape.rowMajor_val_three _).symm)
    show (kOf h).val = (0 * 2 + (kOf h).val) * 1 + 0
    omega

end

end Cert.QkvIdeal.Run

end
-- ==== Proof.Qkv.Scores.lean ====
/- What the Qkv kernel's points leave: the queries, the scores, the keys and the values. -/
module

public import proofs.«01_k».proof.Proof.Qkv.Plain

@[expose] public section

set_option maxRecDepth 16384

noncomputable section

namespace Cert.QkvIdeal.Run
open Cert.QkvIdeal.Gen Cert.Linear

open Idealize.ShloMosaic Idealize.ShloMosaic.TcCoe Idealize.ShloMosaic.Tactic

/-- A one-head block's index. -/
theorem lead_ix (z : S1x72x128.Idx) : z = ValueIdx.ix3 0 (z 1) (z 2) := by
  have h0 : (z 0).val < 1 := (z 0).isLt
  funext a
  match a with
  | ⟨0, _⟩ => exact Fin.ext (by show (z 0).val = 0; omega)
  | ⟨1, _⟩ => rfl
  | ⟨2, _⟩ => rfl

section
variable {F : FTy → Type} [FloatOps F] (kb v c t : FVec F S72x128 .f32) (e : FVec F S72x128 .fp8e4m3) (q : Vec F S1x72x128 .f32) (s s' : Elt F .f32)

/-! The sixteen stores of scores are one text. -/

theorem store15 : k0_pay1 (k0_pay44 kb q s) = k0_pay17 kb q s := rfl
theorem store14 : k0_pay43 kb q s = k0_pay17 kb q s := rfl
theorem store13 : k0_pay42 (k0_pay40 kb q s) (k0_pay41 (F := F)) = k0_pay17 kb q s := rfl
theorem store12 : k0_pay39 kb q s = k0_pay17 kb q s := rfl
theorem store11 : k0_pay38 (k0_pay37 kb q s) = k0_pay17 kb q s := rfl
theorem store10 : k0_pay36 kb q s = k0_pay17 kb q s := rfl
theorem store9 : k0_pay35 (k0_pay33 e q) (k0_pay34 s) = k0_pay17 (k0_pay31 e) q s := rfl
theorem store8 : k0_pay32 e q s = k0_pay17 (k0_pay31 e) q s := rfl
theorem store7 : k0_pay26 kb q s = k0_pay17 kb q s := rfl
theorem store6 : k0_pay25 (k0_pay24 kb q s) = k0_pay17 kb q s := rfl
theorem store5 : k0_pay23 kb q s = k0_pay17 kb q s := rfl
theorem store4 : k0_pay22 (k0_pay21 kb q s) = k0_pay17 kb q s := rfl
theorem store3 : k0_pay20 kb q s = k0_pay17 kb q s := rfl
theorem store2 : k0_pay19 (k0_pay18 kb q s) = k0_pay17 kb q s := rfl
theorem store1 : k0_pay17 kb q s = k0_pay17 kb q s := rfl
theorem store0 : k0_pay16 (k0_pay15 v c t s' q s) (Scalar.ofBits .f32 0x3FB8AA3B#32) = k0_pay17 (k0_pay14 v c t s') q s := rfl

end

section
variable {x : Vec Ideal QkvRefIdeal.S72x1x8192 .bf16} {g : Vec Ideal QkvRefIdeal.S8192 .f32} {cos sin : Vec Ideal QkvRefIdeal.S72x1x64 .f32}
  (ks vs : Vec Ideal QkvRefIdeal.S2 .f32) {w : Vec Ideal QkvRefIdeal.S1024x2560 .i32} {gs : Vec Ideal QkvRefIdeal.S64x2560 .fp8e4m3} {cs : Vec Ideal QkvRefIdeal.S2560 .f32}
  {o : Ops Ideal}

/-- A point's rotated head is a query of the reference. -/
theorem query_at {t : Fin 5} (H : OpsAt x g cos sin w gs cs o t) (k : Fin 4) (h : Fin 16) (e : h.val = 4 * t.val + k.val) (r : Fin 72) (d : Fin 128) :
    qp o k.val (ValueIdx.ix3 0 r d) = turnR x g cos sin w gs cs (qHead h) r d :=
  (qp_apply o k r d).trans (turn_at H k (qHead h) e r d)

/-- A stored head of codes against the reference's. -/
theorem key_piece (n : ℕ) (hn : n < 2) (inb) (v : FVec Ideal S72x128 .fp8e4m3) (p : Vec Ideal S1x72x128 .fp8e4m3) (hp : p = shapeCast S1x72x128 v shapeCasts_S72x128_S1x72x128)
    (hv : ∀ r d, v (ValueIdx.ix2 r d) = code (turnR x g cos sin w gs cs (kHead ⟨n, hn⟩) r d) (ks (ValueIdx.ix1 ⟨n, hn⟩))) (z : S1x72x128.Idx) :
    p z = QkvRefIdeal.Value.G13 x g cos sin ks vs w gs cs ((Rect.unit (s := S2x72x128) ![n, 0, 0] S1x72x128.size inb).emb z) := by
  refine Eq.trans ?_ (congrArg (QkvRefIdeal.Value.G13 x g cos sin ks vs w gs cs) (stack_emb n hn inb z)).symm
  refine Eq.trans ?_ (G13_apply x g cos sin ks vs w gs cs ⟨n, hn⟩ (z 1) (z 2)).symm
  rw [hp]
  exact (congrArg (shapeCast S1x72x128 v shapeCasts_S72x128_S1x72x128) (lead_ix z)).trans ((lead_apply v _ (z 1) (z 2)).trans (hv (z 1) (z 2)))

/-- A stored head of codes against the reference's. -/
theorem value_piece (n : ℕ) (hn : n < 2) (inb) (v : FVec Ideal S72x128 .fp8e4m3) (p : Vec Ideal S1x72x128 .fp8e4m3) (hp : p = shapeCast S1x72x128 v shapeCasts_S72x128_S1x72x128)
    (hv : ∀ r d, v (ValueIdx.ix2 r d) = code (headR x g w gs cs (vHead ⟨n, hn⟩) r d) (vs (ValueIdx.ix1 ⟨n, hn⟩))) (z : S1x72x128.Idx) :
    p z = QkvRefIdeal.Value.G14 x g cos sin ks vs w gs cs ((Rect.unit (s := S2x72x128) ![n, 0, 0] S1x72x128.size inb).emb z) := by
  refine Eq.trans ?_ (congrArg (QkvRefIdeal.Value.G14 x g cos sin ks vs w gs cs) (stack_emb n hn inb z)).symm
  refine Eq.trans ?_ (G14_apply x g cos sin ks vs w gs cs ⟨n, hn⟩ (z 1) (z 2)).symm
  rw [hp]
  exact (congrArg (shapeCast S1x72x128 v shapeCasts_S72x128_S1x72x128) (lead_ix z)).trans ((lead_apply v _ (z 1) (z 2)).trans (hv (z 1) (z 2)))

variable (H : OpsAt x g cos sin w gs cs o 4)
include H

/-- The first key's codes. -/
theorem key0_at (r : Fin 72) (d : Fin 128) :
    k0_pay11 (c_v782 o) (c_v787 o) (c_v789 o) (sm0 ks) (ValueIdx.ix2 r d) = code (turnR x g cos sin w gs cs (kHead 0) r d) (ks (ValueIdx.ix1 0)) :=
  (quantV_apply (turnV (c_v782 o) (c_v787 o) (c_v789 o) rotates_S72x128_d1) (broadcast S72x128 (sm0 ks)) (ValueIdx.ix2 r d)).trans
    (congrArg₂ code (turn_at H 0 (kHead 0) rfl r d) (sm0_eq ks))

/-- The second key's codes. -/
theorem key1_at (r : Fin 72) (d : Fin 128) :
    k0_pay27 (c_v783 o) (c_v787 o) (c_v789 o) (sm1 ks) (ValueIdx.ix2 r d) = code (turnR x g cos sin w gs cs (kHead 1) r d) (ks (ValueIdx.ix1 1)) :=
  (quantV_apply (turnV (c_v783 o) (c_v787 o) (c_v789 o) rotates_S72x128_d1) (broadcast S72x128 (sm1 ks)) (ValueIdx.ix2 r d)).trans
    (congrArg₂ code (turn_at H 1 (kHead 1) rfl r d) (sm1_eq ks))

/-- The keys' codes are the reference's. -/
theorem keys_eq (q : Vec Ideal S16x72x128 .f32) : q_kc o ks vs q = QkvRefIdeal.Value.G13 x g cos sin ks vs w gs cs := by
  funext y
  unfold q_kc
  refine View.canon_apply_of_pieces (QkvRefIdeal.Value.G13 x g cos sin ks vs w gs cs) _ ?_ y (cover_kc _ _ y)
  intro pc hpc z
  rcases List.mem_cons.mp hpc with rfl | hpc
  · exact key_piece ks vs 1 (by decide) inb_S2x72x128_S1x72x128_1_0_0 (k0_pay27 (c_v783 o) (c_v787 o) (c_v789 o) (sm1 ks)) _ rfl (key1_at ks H) z
  rcases List.mem_cons.mp hpc with rfl | hpc
  · exact key_piece ks vs 0 (by decide) inb_S2x72x128_S1x72x128_0_0_0 (k0_pay11 (c_v782 o) (c_v787 o) (c_v789 o) (sm0 ks)) _ rfl (key0_at ks H) z
  nomatch hpc

/-- The values' codes are the reference's. -/
theorem values_eq (q : Vec Ideal S16x72x128 .f32) : q_vc o ks vs q = QkvRefIdeal.Value.G14 x g cos sin ks vs w gs cs := by
  funext y
  unfold q_vc
  refine View.canon_apply_of_pieces (QkvRefIdeal.Value.G14 x g cos sin ks vs w gs cs) _ ?_ y (cover_vc _ _ y)
  intro pc hpc z
  rcases List.mem_cons.mp hpc with rfl | hpc
  · exact value_piece ks vs 1 (by decide) inb_S2x72x128_S1x72x128_1_0_0 (quantV (c_v785 o) (broadcast S72x128 (sm1 vs))) _ rfl (fun r d => (quantV_apply _ _ _).trans (congrArg₂ code (head_at H 3 (vHead 1) rfl r d) (sm1_eq vs))) z
  rcases List.mem_cons.mp hpc with rfl | hpc
  · exact value_piece ks vs 0 (by decide) inb_S2x72x128_S1x72x128_0_0_0 (quantV (c_v784 o) (broadcast S72x128 (sm0 vs))) _ rfl (fun r d => (quantV_apply _ _ _).trans (congrArg₂ code (head_at H 2 (vHead 0) rfl r d) (sm0_eq vs))) z
  nomatch hpc

variable (q : Vec Ideal S16x72x128 .f32) (hq : ∀ h r d, q (ValueIdx.ix3 h r d) = turnR x g cos sin w gs cs (qHead h) r d)
include hq

/-- The scores of query `h`, as the last point computes them from the stored queries, are the reference's. -/
theorem score_at (n : ℕ) (hn : n < 16) (inb) (kb : FVec Ideal S72x128 .f32) (s : Elt Ideal .f32)
    (hk : ∀ r d, kb (ValueIdx.ix2 r d) = code (turnR x g cos sin w gs cs (kHead (kOf ⟨n, hn⟩)) r d) (ks (ValueIdx.ix1 (kOf ⟨n, hn⟩)))) (hs : s = ks (ValueIdx.ix1 (kOf ⟨n, hn⟩)))
    (p : Vec Ideal S1x72x128 .f32) (hp : p = k0_pay17 kb (View.ld q (Rect.unit (s := S16x72x128) ![n, 0, 0] S1x72x128.size inb)) s) (z : S1x72x128.Idx) :
    p z = QkvRefIdeal.Value.G12 x g cos sin ks vs w gs cs ((Rect.unit (s := S16x72x128) ![n, 0, 0] S1x72x128.size inb).emb z) := by
  refine Eq.trans ?_ (congrArg (QkvRefIdeal.Value.G12 x g cos sin ks vs w gs cs) (stack_emb n hn inb z)).symm
  refine Eq.trans ?_ (G12_apply x g cos sin ks vs w gs cs ⟨n, hn⟩ (z 1) (z 2)).symm
  rw [hp]
  refine (congrArg (k0_pay17 kb (View.ld q (Rect.unit (s := S16x72x128) ![n, 0, 0] S1x72x128.size inb)) s) (lead_ix z)).trans ?_
  refine (score_apply _ _ _ (z 1) (z 2)).trans ?_
  rw [hs]
  refine congrArg₂ (fun a b => score a b _) (funext fun d => ?_) (funext fun d => hk (z 1) d)
  exact (stack_ld q n hn inb (z 1) d).trans (hq ⟨n, hn⟩ (z 1) d)

/-- The scores are the reference's. -/
theorem scores_eq : q_sn o ks vs q = QkvRefIdeal.Value.G12 x g cos sin ks vs w gs cs := by
  have i0 (n : ℕ) (hn : n < 16) (h : n < 8) : kOf ⟨n, hn⟩ = 0 := Fin.ext (by show n / 8 = 0; omega)
  have i1 (n : ℕ) (hn : n < 16) (h : 8 ≤ n) : kOf ⟨n, hn⟩ = 1 := Fin.ext (by show n / 8 = 1; omega)
  have h0 (n : ℕ) (hn : n < 16) (h : n < 8) (r d) : e_v822 o ks vs q (ValueIdx.ix2 r d) = code (turnR x g cos sin w gs cs (kHead (kOf ⟨n, hn⟩)) r d) (ks (ValueIdx.ix1 (kOf ⟨n, hn⟩))) := by
    rw [i0 n hn h]
    exact key0_at ks H r d
  have h1 (n : ℕ) (hn : n < 16) (h : 8 ≤ n) (r d) : e_v993 o ks vs q (ValueIdx.ix2 r d) = code (turnR x g cos sin w gs cs (kHead (kOf ⟨n, hn⟩)) r d) (ks (ValueIdx.ix1 (kOf ⟨n, hn⟩))) := by
    rw [i1 n hn h]
    exact key1_at ks H r d
  have s0 (n : ℕ) (hn : n < 16) (h : n < 8) : sm0 ks = ks (ValueIdx.ix1 (kOf ⟨n, hn⟩)) := by
    rw [i0 n hn h]
    exact sm0_eq ks
  have s1 (n : ℕ) (hn : n < 16) (h : 8 ≤ n) : sm1 ks = ks (ValueIdx.ix1 (kOf ⟨n, hn⟩)) := by
    rw [i1 n hn h]
    exact sm1_eq ks
  funext y
  unfold q_sn
  refine View.canon_apply_of_pieces (QkvRefIdeal.Value.G12 x g cos sin ks vs w gs cs) _ ?_ y (cover_sn _ _ _ _ _ _ _ _ _ _ _ _ _ _ _ _ y)
  intro pc hpc z
  rcases List.mem_cons.mp hpc with rfl | hpc
  · exact score_at ks vs H q hq 15 (by decide) inb_S16x72x128_S1x72x128_15_0_0 (e_v993 o ks vs q) (sm1 ks) (h1 15 _ (by decide)) (s1 15 _ (by decide)) _ (store15 _ _ _) z
  rcases List.mem_cons.mp hpc with rfl | hpc
  · exact score_at ks vs H q hq 14 (by decide) inb_S16x72x128_S1x72x128_14_0_0 (e_v993 o ks vs q) (sm1 ks) (h1 14 _ (by decide)) (s1 14 _ (by decide)) _ (store14 _ _ _) z
  rcases List.mem_cons.mp hpc with rfl | hpc
  · exact score_at ks vs H q hq 13 (by decide) inb_S16x72x128_S1x72x128_13_0_0 (e_v993 o ks vs q) (sm1 ks) (h1 13 _ (by decide)) (s1 13 _ (by decide)) _ (store13 _ _ _) z
  rcases List.mem_cons.mp hpc with rfl | hpc
  · exact score_at ks vs H q hq 12 (by decide) inb_S16x72x128_S1x72x128_12_0_0 (e_v993 o ks vs q) (sm1 ks) (h1 12 _ (by decide)) (s1 12 _ (by decide)) _ (store12 _ _ _) z
  rcases List.mem_cons.mp hpc with rfl | hpc
  · exact score_at ks vs H q hq 11 (by decide) inb_S16x72x128_S1x72x128_11_0_0 (e_v993 o ks vs q) (sm1 ks) (h1 11 _ (by decide)) (s1 11 _ (by decide)) _ (store11 _ _ _) z
  rcases List.mem_cons.mp hpc with rfl | hpc
  · exact score_at ks vs H q hq 10 (by decide) inb_S16x72x128_S1x72x128_10_0_0 (e_v993 o ks vs q) (sm1 ks) (h1 10 _ (by decide)) (s1 10 _ (by decide)) _ (store10 _ _ _) z
  rcases List.mem_cons.mp hpc with rfl | hpc
  · exact score_at ks vs H q hq 9 (by decide) inb_S16x72x128_S1x72x128_9_0_0 (e_v993 o ks vs q) (sm1 ks) (h1 9 _ (by decide)) (s1 9 _ (by decide)) _ (store9 (e_v978 o ks vs q) _ _) z
  rcases List.mem_cons.mp hpc with rfl | hpc
  · exact score_at ks vs H q hq 8 (by decide) inb_S16x72x128_S1x72x128_8_0_0 (e_v993 o ks vs q) (sm1 ks) (h1 8 _ (by decide)) (s1 8 _ (by decide)) _ (store8 (e_v978 o ks vs q) _ _) z
  rcases List.mem_cons.mp hpc with rfl | hpc
  · exact score_at ks vs H q hq 7 (by decide) inb_S16x72x128_S1x72x128_7_0_0 (e_v822 o ks vs q) (sm0 ks) (h0 7 _ (by decide)) (s0 7 _ (by decide)) _ (store7 _ _ _) z
  rcases List.mem_cons.mp hpc with rfl | hpc
  · exact score_at ks vs H q hq 6 (by decide) inb_S16x72x128_S1x72x128_6_0_0 (e_v822 o ks vs q) (sm0 ks) (h0 6 _ (by decide)) (s0 6 _ (by decide)) _ (store6 _ _ _) z
  rcases List.mem_cons.mp hpc with rfl | hpc
  · exact score_at ks vs H q hq 5 (by decide) inb_S16x72x128_S1x72x128_5_0_0 (e_v822 o ks vs q) (sm0 ks) (h0 5 _ (by decide)) (s0 5 _ (by decide)) _ (store5 _ _ _) z
  rcases List.mem_cons.mp hpc with rfl | hpc
  · exact score_at ks vs H q hq 4 (by decide) inb_S16x72x128_S1x72x128_4_0_0 (e_v822 o ks vs q) (sm0 ks) (h0 4 _ (by decide)) (s0 4 _ (by decide)) _ (store4 _ _ _) z
  rcases List.mem_cons.mp hpc with rfl | hpc
  · exact score_at ks vs H q hq 3 (by decide) inb_S16x72x128_S1x72x128_3_0_0 (e_v822 o ks vs q) (sm0 ks) (h0 3 _ (by decide)) (s0 3 _ (by decide)) _ (store3 _ _ _) z
  rcases List.mem_cons.mp hpc with rfl | hpc
  · exact score_at ks vs H q hq 2 (by decide) inb_S16x72x128_S1x72x128_2_0_0 (e_v822 o ks vs q) (sm0 ks) (h0 2 _ (by decide)) (s0 2 _ (by decide)) _ (store2 _ _ _) z
  rcases List.mem_cons.mp hpc with rfl | hpc
  · exact score_at ks vs H q hq 1 (by decide) inb_S16x72x128_S1x72x128_1_0_0 (e_v822 o ks vs q) (sm0 ks) (h0 1 _ (by decide)) (s0 1 _ (by decide)) _ (store1 _ _ _) z
  rcases List.mem_cons.mp hpc with rfl | hpc
  · exact score_at ks vs H q hq 0 (by decide) inb_S16x72x128_S1x72x128_0_0_0 (e_v822 o ks vs q) (sm0 ks) (h0 0 _ (by decide)) (s0 0 _ (by decide)) _ (store0 _ _ _ _ _ _) z
  nomatch hpc

end

end Cert.QkvIdeal.Run

end
-- ==== Proof.Qkv.Blocks.lean ====
/- The blocks that the Qkv kernel's points read, and what a point multiplies and rotates with. -/
module

public import proofs.«01_k».proof.Proof.Qkv.Scores
public import proofs.«01_k».proof.Proof.Gen.QkvIdeal
public import Idealize.ShloMosaic.Lib.Claim
public import Idealize.ShloMosaic.Lib.Pipeline.Value

@[expose] public section

set_option maxRecDepth 16384

noncomputable section

namespace Cert.QkvIdeal.Run
open Cert.QkvIdeal.Gen Cert.Linear

open Idealize.ShloMosaic Idealize.ShloMosaic.TcCoe Idealize.ShloMosaic.Tactic
open Idealize.ShloMosaic.Pipeline (Dat)

variable (m : (ℓ : Loc nD τ sig) → Buf (Elt Ideal) ℓ)

/-- The index maps. -/
theorem idx : ∀ t : Fin cfg0.N, win0_0.index t = ![0] ∧ win0_1.index t = ![0] ∧ win0_2.index t = ![0, 0]
    ∧ win0_3.index t = ![0, 0] ∧ win0_4.index t = ![0, 0] ∧ win0_5.index t = ![0, 0] ∧ win0_6.index t = ![0, t.val]
    ∧ win0_7.index t = ![0, t.val] ∧ win0_8.index t = ![0, t.val] :=
  (by decide +kernel : ∀ t : Fin grid0.N, _)

theorem lt_N (t : Fin cfg0.N) : t.val < 5 := Nat.lt_of_lt_of_eq t.isLt N_0

/-- The point as a number below five. -/
def pt (t : Fin cfg0.N) : Fin 5 := ⟨t.val, lt_N t⟩

theorem blk0 (c : Dev nD) (t : Fin cfg0.N) : iblk m c 0 t = m ((c : Thread nD τ).loc main_arg4) := by
  blk_ext! [iblk, V, idx t]

theorem blk1 (c : Dev nD) (t : Fin cfg0.N) : iblk m c 1 t = m ((c : Thread nD τ).loc main_arg5) := by
  blk_ext! [iblk, V, idx t]

theorem emb2 (t : Fin cfg0.N) (y : S72x8192.Idx) : ((View.whole main_v0).slice (win0_2.rect t)).emb y = y := by
  obtain ⟨r, j, rfl⟩ : ∃ (r : Fin 72) (j : Fin 8192), y = ValueIdx.ix2 r j := ⟨y 0, y 1, ValueIdx.eq_ix2 y⟩
  blk_ext [idx t]

theorem emb4 (t : Fin cfg0.N) (y : S72x128.Idx) : ((View.whole main_v3).slice (win0_4.rect t)).emb y = y := by
  obtain ⟨r, j, rfl⟩ : ∃ (r : Fin 72) (j : Fin 128), y = ValueIdx.ix2 r j := ⟨y 0, y 1, ValueIdx.eq_ix2 y⟩
  blk_ext [idx t]

theorem emb5 (t : Fin cfg0.N) (y : S72x128.Idx) : ((View.whole main_v5).slice (win0_5.rect t)).emb y = y := by
  obtain ⟨r, j, rfl⟩ : ∃ (r : Fin 72) (j : Fin 128), y = ValueIdx.ix2 r j := ⟨y 0, y 1, ValueIdx.eq_ix2 y⟩
  blk_ext [idx t]

theorem blk2 (c : Dev nD) (t : Fin cfg0.N) : iblk m c 2 t = rowX (m ((c : Thread nD τ).loc main_arg0)) := by
  funext y
  obtain ⟨r, j, rfl⟩ : ∃ (r : Fin 72) (j : Fin 8192), y = ValueIdx.ix2 r j := ⟨y 0, y 1, ValueIdx.eq_ix2 y⟩
  blk_simp [iblk]
  entry_read
  exact congrArg (rowX (m ((c : Thread nD τ).loc main_arg0))) (emb2 t _)

theorem blk3 (c : Dev nD) (t : Fin cfg0.N) : iblk m c 3 t = rowG (m ((c : Thread nD τ).loc main_arg1)) := by
  funext y
  obtain ⟨z, j, rfl⟩ : ∃ (z : Fin 1) (j : Fin 8192), y = ValueIdx.ix2 z j := ⟨y 0, y 1, ValueIdx.eq_ix2 y⟩
  obtain rfl : z = 0 := Subsingleton.elim _ _
  refine Eq.trans ?_ (row_apply _ _ j).symm
  blk_simp [iblk]
  entry_read
  refine shapeCast_apply _ _ _ _ ?_
  refine (Shape.rowMajor_val_one (ValueIdx.ix1 j)).trans (Eq.trans ?_ (Shape.rowMajor_val_two _).symm)
  blk_simp [idx t]

theorem blk4_lo (c : Dev nD) (t : Fin cfg0.N) (r : Fin 72) (e : Fin 64) :
    iblk m c 4 t (ValueIdx.ix2 r (lo e)) = m ((c : Thread nD τ).loc main_arg2) (ValueIdx.ix3 r 0 e) := by
  blk_simp [iblk]
  entry_read
  rw [emb4]
  refine (concatenate_pair_apply_left (s₁ := S72x64) (s₂ := S72x64) 1 _ _ _ (ValueIdx.ix2 r (lo e)) rfl (ValueIdx.ix2 r e) fun b => ?_).trans ?_
  · match b with
    | ⟨0, _⟩ => rfl
    | ⟨1, _⟩ => rfl
  exact angle_apply (m ((c : Thread nD τ).loc main_arg2)) _ r e

theorem blk4_hi (c : Dev nD) (t : Fin cfg0.N) (r : Fin 72) (e : Fin 64) :
    iblk m c 4 t (ValueIdx.ix2 r (hi e)) = m ((c : Thread nD τ).loc main_arg2) (ValueIdx.ix3 r 0 e) := by
  blk_simp [iblk]
  entry_read
  rw [emb4]
  refine (concatenate_pair_apply_right (s₁ := S72x64) (s₂ := S72x64) 1 _ _ _ (ValueIdx.ix2 r (hi e)) rfl rfl (ValueIdx.ix2 r e) (fun b hb => ?_) ?_).trans ?_
  · match b, hb with
    | ⟨0, _⟩, _ => rfl
    | ⟨1, _⟩, hb => exact absurd rfl hb
  · rfl
  exact angle_apply (m ((c : Thread nD τ).loc main_arg2)) _ r e

theorem blk5_lo (c : Dev nD) (t : Fin cfg0.N) (r : Fin 72) (e : Fin 64) :
    iblk m c 5 t (ValueIdx.ix2 r (lo e)) = @Neg.neg EReal _ (m ((c : Thread nD τ).loc main_arg3) (ValueIdx.ix3 r 0 e)) := by
  blk_simp [iblk]
  entry_read
  rw [emb5]
  refine (concatenate_pair_apply_left (s₁ := S72x64) (s₂ := S72x64) 1 _ _ _ (ValueIdx.ix2 r (lo e)) rfl (ValueIdx.ix2 r e) fun b => ?_).trans ?_
  · match b with
    | ⟨0, _⟩ => rfl
    | ⟨1, _⟩ => rfl
  exact congrArg (fun z : EReal => -z) (angle_apply (m ((c : Thread nD τ).loc main_arg3)) _ r e)

theorem blk5_hi (c : Dev nD) (t : Fin cfg0.N) (r : Fin 72) (e : Fin 64) :
    iblk m c 5 t (ValueIdx.ix2 r (hi e)) = m ((c : Thread nD τ).loc main_arg3) (ValueIdx.ix3 r 0 e) := by
  blk_simp [iblk]
  entry_read
  rw [emb5]
  refine (concatenate_pair_apply_right (s₁ := S72x64) (s₂ := S72x64) 1 _ _ _ (ValueIdx.ix2 r (hi e)) rfl rfl (ValueIdx.ix2 r e) (fun b hb => ?_) ?_).trans ?_
  · match b, hb with
    | ⟨0, _⟩, _ => rfl
    | ⟨1, _⟩, hb => exact absurd rfl hb
  · rfl
  exact angle_apply (m ((c : Thread nD τ).loc main_arg3)) _ r e

theorem blk6 (c : Dev nD) (t : Fin cfg0.N) (r : Fin 1024) (j : Fin 512) :
    iblk m c 6 t (ValueIdx.ix2 r j) = m ((c : Thread nD τ).loc main_arg6) (ValueIdx.ix2 r (wCol (pt t) j)) := by
  unfold wCol pt
  blk_ext [iblk, V, idx t]
  show t.val * 512 + j.val = 512 * t.val + j.val
  omega

theorem blk7 (c : Dev nD) (t : Fin cfg0.N) (r : Fin 64) (j : Fin 512) :
    iblk m c 7 t (ValueIdx.ix2 r j) = m ((c : Thread nD τ).loc main_arg7) (ValueIdx.ix2 r (wCol (pt t) j)) := by
  unfold wCol pt
  blk_ext [iblk, V, idx t]
  show t.val * 512 + j.val = 512 * t.val + j.val
  omega

theorem blk8 (c : Dev nD) (t : Fin cfg0.N) (j : Fin 512) :
    iblk m c 8 t (ValueIdx.ix2 0 j) = m ((c : Thread nD τ).loc main_arg8) (ValueIdx.ix1 (wCol (pt t) j)) := by
  blk_simp [iblk]
  entry_read
  refine shapeCast_apply _ _ _ _ ?_
  refine (Shape.rowMajor_val_one (ValueIdx.ix1 (wCol (pt t) j))).trans (Eq.trans ?_ (Shape.rowMajor_val_two _).symm)
  unfold wCol pt
  blk_simp [idx t]
  show 512 * t.val + j.val = t.val * 512 + j.val
  omega

end Cert.QkvIdeal.Run

end
-- ==== Proof.Qkv.Value.lean ====
/- The Qkv call's results are the reference's, element by element. -/
module

public import proofs.«01_k».proof.Proof.Qkv.Blocks
public import proofs.«01_k».proof.Proof.Qkv.Frame

@[expose] public section

set_option maxRecDepth 65536

noncomputable section

namespace Cert.QkvIdeal.Run
open Cert.QkvIdeal.Gen Cert.Linear

open Idealize.ShloMosaic Idealize.ShloMosaic.TcCoe Idealize.ShloMosaic.Tactic Idealize.SL.Sem
open Idealize.ShloMosaic.Pipeline (Window)

variable (m : (ℓ : Loc nD τ sig) → Buf (Elt Ideal) ℓ)

/-- Operands of which the entries are known, as the heads use them. -/
theorem opsAt_of {x : Vec Ideal QkvRefIdeal.S72x1x8192 .bf16} {g : Vec Ideal QkvRefIdeal.S8192 .f32} {cos sin : Vec Ideal QkvRefIdeal.S72x1x64 .f32}
    {w : Vec Ideal QkvRefIdeal.S1024x2560 .i32} {gs : Vec Ideal QkvRefIdeal.S64x2560 .fp8e4m3} {cs : Vec Ideal QkvRefIdeal.S2560 .f32}
    {b4 b5 : Vec Ideal S72x128 .f32} {b6 : Vec Ideal S1024x512 .i32} {b7 : Vec Ideal S64x512 .fp8e4m3} {b8 : Vec Ideal S1x512 .f32} {A : Vec Ideal S80x8192 .bf16} {S : Vec Ideal S72x128 .f32} {t : Fin 5}
    (h4 : ∀ r e, b4 (ValueIdx.ix2 r (lo e)) = cos (ValueIdx.ix3 r 0 e)) (h4' : ∀ r e, b4 (ValueIdx.ix2 r (hi e)) = cos (ValueIdx.ix3 r 0 e))
    (h5 : ∀ r e, b5 (ValueIdx.ix2 r (lo e)) = -(sin (ValueIdx.ix3 r 0 e) : EReal)) (h5' : ∀ r e, b5 (ValueIdx.ix2 r (hi e)) = sin (ValueIdx.ix3 r 0 e))
    (h6 : ∀ i j, b6 (ValueIdx.ix2 i j) = w (ValueIdx.ix2 i (wCol t j))) (h7 : ∀ i j, b7 (ValueIdx.ix2 i j) = gs (ValueIdx.ix2 i (wCol t j)))
    (h8 : ∀ j, b8 (ValueIdx.ix2 0 j) = cs (ValueIdx.ix1 (wCol t j))) (hA : A = q_a (rowX x) (rowG g)) (hS : S = q_sc (rowX x) (rowG g)) :
    OpsAt x g cos sin w gs cs ⟨b4, b5, b6, b7, b8, A, S⟩ t :=
  ⟨h4, h4', h5, h5', h6, h7, h8, hA, hS⟩

/-- The scratch's activations are those of the arguments. -/
theorem act_at (c : Dev nD) : q_a (iblk m c 2 t0) (iblk m c 3 t0) = q_a (rowX (m ((c : Thread nD τ).loc main_arg0))) (rowG (m ((c : Thread nD τ).loc main_arg1))) := by
  rw [blk2, blk3]

/-- The scratch's scales are those of the arguments. -/
theorem sc_at (c : Dev nD) : q_sc (iblk m c 2 t0) (iblk m c 3 t0) = q_sc (rowX (m ((c : Thread nD τ).loc main_arg0))) (rowG (m ((c : Thread nD τ).loc main_arg1))) := by
  rw [blk2, blk3]

/-- A point's operands are the blocks of the arguments. -/
theorem opsAt (c : Dev nD) (t : Fin cfg0.N) :
    OpsAt (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (ops m c t) (pt t) := by
  unfold ops
  exact opsAt_of (blk4_lo m c t) (blk4_hi m c t) (blk5_lo m c t) (blk5_hi m c t) (blk6 m c t) (blk7 m c t) (blk8 m c t) (act_at m c) (sc_at m c)

/-- The queries after all points, read at one of them. -/
theorem qAll_apply (c : Dev nD) (h : Fin 16) (r : Fin 72) (d : Fin 128) :
    qAll m c (ValueIdx.ix3 h r d) = turnR (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (qHead h) r d :=
  query_at (opsAt m c (headPt (ValueIdx.ix3 h r d))) ⟨h.val % 4, Nat.mod_lt _ (by decide)⟩ h (Nat.div_add_mod h.val 4).symm r d

theorem qAll_eq (c : Dev nD) : qAll m c = QkvRefIdeal.Value.G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  funext y
  obtain ⟨h, r, d, rfl⟩ : ∃ (h : Fin 16) (r : Fin 72) (d : Fin 128), y = ValueIdx.ix3 h r d := ⟨y 0, y 1, y 2, ValueIdx.eq_ix3 y⟩
  exact (qAll_apply m c h r d).trans (G11_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) h r d).symm

theorem opsAt_last (c : Dev nD) : OpsAt (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (ops m c t4) 4 := opsAt m c t4

theorem snAll_eq (c : Dev nD) : snAll m c = QkvRefIdeal.Value.G12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  unfold snAll
  rw [blk0, blk1]
  exact scores_eq _ _ (opsAt_last m c) (qAll m c) (qAll_apply m c)

theorem kcAll_eq (c : Dev nD) : kcAll m c = QkvRefIdeal.Value.G13 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  unfold kcAll
  rw [blk0, blk1]
  exact keys_eq _ _ (opsAt_last m c) (qAll m c)

theorem vcAll_eq (c : Dev nD) : vcAll m c = QkvRefIdeal.Value.G14 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  unfold vcAll
  rw [blk0, blk1]
  exact values_eq _ _ (opsAt_last m c) (qAll m c)

theorem codes_all (c : Dev nD) : q_c (iblk m c 2 t0) (iblk m c 3 t0) = QkvRefIdeal.Value.G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [blk2, blk3, q_c_eq]
  exact (p24_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))).symm

theorem scales_all (c : Dev nD) : q_s (iblk m c 2 t0) (iblk m c 3 t0) = QkvRefIdeal.Value.G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (congrArg₂ q_s (blk2 m c t0) (blk3 m c t0)).trans ((q_s_eq (m ((c : Thread nD τ).loc main_arg0)) (m ((c : Thread nD τ).loc main_arg1))).trans (congrArg QkvRefIdeal.Gen.k0_pay10 (p23_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))).symm)

/-! ## The arrays after the run -/

theorem final9 (c : Dev nD) (G : Buf (Elt Ideal) ((c : Thread nD τ).loc main_v8_0)) (hG : (rdats m c).ArrAt 9 cfg0.N G) :
    G = QkvRefIdeal.Value.G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  obtain ⟨X, hX, e⟩ := hG.emb_eq_of_wholeAt (t₀ := t4) (by decide +kernel)
  have g : ∀ y, G y = X y := fun y => e y
  have x : X = q_c (iblk m c 2 t0) (iblk m c 3 t0) := leaves_last m c 9 rfl X hX
  refine Eq.trans ?_ (codes_all m c)
  funext y
  exact (g y).trans (congrFun x y)

theorem final10 (c : Dev nD) (G : Buf (Elt Ideal) ((c : Thread nD τ).loc main_v8_1)) (hG : (rdats m c).ArrAt 10 cfg0.N G) :
    G = QkvRefIdeal.Value.G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  obtain ⟨X, hX, e⟩ := hG.emb_eq_of_wholeAt (t₀ := t4) (by decide +kernel)
  have g : ∀ y, G y = X y := fun y => e y
  have x : X = q_s (iblk m c 2 t0) (iblk m c 3 t0) := leaves_last m c 10 rfl X hX
  refine Eq.trans ?_ (scales_all m c)
  funext y
  exact (g y).trans (congrFun x y)

theorem final11 (c : Dev nD) (G : Buf (Elt Ideal) ((c : Thread nD τ).loc main_v8_2)) (hG : (rdats m c).ArrAt 11 cfg0.N G) :
    G = QkvRefIdeal.Value.G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  obtain ⟨X, hX, e⟩ := hG.emb_eq_of_wholeAt (t₀ := t4) (by decide +kernel)
  have g : ∀ y, G y = X y := fun y => e y
  have x : X = qAll m c := funext fun y => leaves_last m c 11 rfl X hX y (by have : (y 0).val < 16 := (y 0).isLt; show (y 0).val / 4 ≤ 4; omega)
  refine Eq.trans ?_ (qAll_eq m c)
  funext y
  exact (g y).trans (congrFun x y)

theorem final12 (c : Dev nD) (G : Buf (Elt Ideal) ((c : Thread nD τ).loc main_v8_3)) (hG : (rdats m c).ArrAt 12 cfg0.N G) :
    G = QkvRefIdeal.Value.G12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  obtain ⟨X, hX, e⟩ := hG.emb_eq_of_wholeAt (t₀ := t4) (by decide +kernel)
  have g : ∀ y, G y = X y := fun y => e y
  have x : X = snAll m c := leaves_last m c 12 rfl X hX rfl
  refine Eq.trans ?_ (snAll_eq m c)
  funext y
  exact (g y).trans (congrFun x y)

theorem final13 (c : Dev nD) (G : Buf (Elt Ideal) ((c : Thread nD τ).loc main_v8_4)) (hG : (rdats m c).ArrAt 13 cfg0.N G) :
    G = QkvRefIdeal.Value.G13 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  obtain ⟨X, hX, e⟩ := hG.emb_eq_of_wholeAt (t₀ := t4) (by decide +kernel)
  have g : ∀ y, G y = X y := fun y => e y
  have x : X = kcAll m c := leaves_last m c 13 rfl X hX rfl
  refine Eq.trans ?_ (kcAll_eq m c)
  funext y
  exact (g y).trans (congrFun x y)

theorem final14 (c : Dev nD) (G : Buf (Elt Ideal) ((c : Thread nD τ).loc main_v8_5)) (hG : (rdats m c).ArrAt 14 cfg0.N G) :
    G = QkvRefIdeal.Value.G14 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  obtain ⟨X, hX, e⟩ := hG.emb_eq_of_wholeAt (t₀ := t4) (by decide +kernel)
  have g : ∀ y, G y = X y := fun y => e y
  have x : X = vcAll m c := leaves_last m c 14 rfl X hX rfl
  refine Eq.trans ?_ (vcAll_eq m c)
  funext y
  exact (g y).trans (congrFun x y)

end Cert.QkvIdeal.Run

end
-- ==== Proof.Oproj.Sums.lean ====
/- The Oproj kernel's product over the extended reals: every running sum its body computes is the sum of its terms so far. -/
module

public import proofs.«01_k».proof.Proof.Oproj.Chain
public import proofs.«01_k».proof.Proof.Common.Linear

@[expose] public section

set_option maxRecDepth 16384

noncomputable section

namespace Cert.OprojIdeal.Run
open Cert.OprojIdeal.Gen Cert.Linear

open Idealize.ShloMosaic Idealize.ShloMosaic.TcCoe

/-- The zeros the running sum starts from. -/
def zeroV : FVec Ideal S80x1024 .f32 := broadcast S80x1024 (Scalar.ofBits (F := Ideal) .f32 0x00000000#32)

/-- The block's group scales. -/
def gD (g : Vec Ideal S16x1024 .fp8e4m3) : FVec Ideal S16x1024 .f32 :=
  extf .f32 (View.ld g (Rect.unit (s := S16x1024) ![0, 0] S16x1024.size inb_S16x1024_S16x1024_0_0)) bitsLt_fp8e4m3_f32

theorem gD_eq (g : Vec Ideal S16x1024 .fp8e4m3) : gD g = g := by
  unfold gD
  rw [View.ld_unit_lit]
  · rfl
  · decide

/-- The nibbles of 32 loaded rows. -/
abbrev nibD (w : IVec S32x1024 32) : IVec S256x1024 4 :=
  nibV w shapeCasts_S32x1024_S32x1x1024 shapeCasts_S32x1x1024_S32x1x1024 broadcasts_S32x1x1024_S32x8x1024 iota_S32x8x1024_d1_w32 shapeCasts_S32x8x1024_S256x1024

/-- One row of group scales over its 128 rows. -/
abbrev sclD (i : ℕ) (g : FVec Ideal S16x1024 .f32) (f : (S16x1024 : Shape).Slices ![i, 0] S1x1024) : FVec Ideal S128x1024 .bf16 :=
  sclV i g f shapeCasts_S1x1024_S1x1024 broadcasts_S1x1024_S128x1024 bitsLt_bf16_f32

/-- One step of the product. -/
abbrev stepD (acc : FVec Ideal S80x1024 .f32) (a : FVec Ideal S80x256 .bf16) (q : IVec S256x1024 4) (s0 s1 : FVec Ideal S128x1024 .bf16) :
    FVec Ideal S80x1024 .f32 :=
  stepV acc a q s0 s1 concatenates_S128x1024_S128x1024_S256x1024_d0

/-- One step on loaded operands extends the running sum by 256 terms. -/
theorem stepD_sums (a : Vec Ideal S80x2048 .bf16) (w : Vec Ideal S256x1024 .i32) (g : FVec Ideal S16x1024 .f32) (s : ℕ)
    {acc : FVec Ideal S80x1024 .f32} (oa ow i0 i1 : ℕ) (hoa : oa = 256 * s) (how : ow = 32 * s) (hi0 : i0 = 2 * s) (hi1 : i1 = 2 * s + 1)
    (hQ : i1 < 16) (ia iw f0 f1) (hacc : Sums (at2 (α := EReal) a) (at2 (α := BitVec 32) w) (at2 (α := EReal) g) s acc) :
    Sums (at2 (α := EReal) a) (at2 (α := BitVec 32) w) (at2 (α := EReal) g) (s + 1)
      (stepD acc (View.ld a (Rect.unit (s := S80x2048) ![0, oa] S80x256.size ia)) (nibD (View.ld w (Rect.unit (s := S256x1024) ![ow, 0] S32x1024.size iw)))
        (sclD i0 g f0) (sclD i1 g f1)) :=
  Sums.step_ld a w g s oa ow i0 i1 hoa how hi0 hi1 hQ ia iw _ _ _ _ _ f0 f1 _ _ _ _ hacc

/-- The running sum after 1 steps. -/
theorem sum_v29 (x1 : Vec Ideal S72x1024 .bf16) (x2 : Vec Ideal S256x1024 .i32) (x3 : Vec Ideal S16x1024 .fp8e4m3) (x4 : Vec Ideal S1x1024 .f32) (a : Vec Ideal S80x2048 .bf16) (sc : Vec Ideal S72x128 .f32) :
    Sums (at2 (α := EReal) a) (at2 (α := BitVec 32) x2) (at2 (α := EReal) (gD x3)) 1 (c_v29 x1 x2 x3 x4 a sc) := by
  have e : (c_v29 x1 x2 x3 x4 a sc) = (stepD zeroV (c_v27 x1 x2 x3 x4 a sc) (nibD (c_v6 x1 x2 x3 x4 a sc)) (sclD 0 (gD x3) slices_S16x1024_o0_0_S1x1024) (sclD 1 (gD x3) slices_S16x1024_o1_0_S1x1024)) := rfl
  rw [e]
  exact (stepD_sums a x2 (gD x3) 0 0 0 0 1 rfl rfl rfl rfl (by decide) inb_S80x2048_S80x256_0_0 inb_S256x1024_S32x1024_0_0 slices_S16x1024_o0_0_S1x1024 slices_S16x1024_o1_0_S1x1024 (Sums.zero _ _ _))

/-- The running sum after 3 steps. -/
theorem sum_v77 (x1 : Vec Ideal S72x1024 .bf16) (x2 : Vec Ideal S256x1024 .i32) (x3 : Vec Ideal S16x1024 .fp8e4m3) (x4 : Vec Ideal S1x1024 .f32) (a : Vec Ideal S80x2048 .bf16) (sc : Vec Ideal S72x128 .f32) :
    Sums (at2 (α := EReal) a) (at2 (α := BitVec 32) x2) (at2 (α := EReal) (gD x3)) 3 (c_v77 x1 x2 x3 x4 a sc) := by
  have e : (c_v77 x1 x2 x3 x4 a sc) = (stepD (stepD (c_v29 x1 x2 x3 x4 a sc) (c_v51 x1 x2 x3 x4 a sc) (nibD (c_v30 x1 x2 x3 x4 a sc)) (sclD 2 (gD x3) slices_S16x1024_o2_0_S1x1024) (sclD 3 (gD x3) slices_S16x1024_o3_0_S1x1024)) (c_v75 x1 x2 x3 x4 a sc) (nibD (c_v54 x1 x2 x3 x4 a sc)) (sclD 4 (gD x3) slices_S16x1024_o4_0_S1x1024) (sclD 5 (gD x3) slices_S16x1024_o5_0_S1x1024)) := rfl
  rw [e]
  exact (stepD_sums a x2 (gD x3) 2 512 64 4 5 rfl rfl rfl rfl (by decide) inb_S80x2048_S80x256_0_512 inb_S256x1024_S32x1024_64_0 slices_S16x1024_o4_0_S1x1024 slices_S16x1024_o5_0_S1x1024 (stepD_sums a x2 (gD x3) 1 256 32 2 3 rfl rfl rfl rfl (by decide) inb_S80x2048_S80x256_0_256 inb_S256x1024_S32x1024_32_0 slices_S16x1024_o2_0_S1x1024 slices_S16x1024_o3_0_S1x1024 (sum_v29 x1 x2 x3 x4 a sc)))

/-- The running sum after 5 steps. -/
theorem sum_v125 (x1 : Vec Ideal S72x1024 .bf16) (x2 : Vec Ideal S256x1024 .i32) (x3 : Vec Ideal S16x1024 .fp8e4m3) (x4 : Vec Ideal S1x1024 .f32) (a : Vec Ideal S80x2048 .bf16) (sc : Vec Ideal S72x128 .f32) :
    Sums (at2 (α := EReal) a) (at2 (α := BitVec 32) x2) (at2 (α := EReal) (gD x3)) 5 (c_v125 x1 x2 x3 x4 a sc) := by
  have e : (c_v125 x1 x2 x3 x4 a sc) = (stepD (stepD (c_v77 x1 x2 x3 x4 a sc) (c_v99 x1 x2 x3 x4 a sc) (nibD (c_v78 x1 x2 x3 x4 a sc)) (sclD 6 (gD x3) slices_S16x1024_o6_0_S1x1024) (sclD 7 (gD x3) slices_S16x1024_o7_0_S1x1024)) (c_v123 x1 x2 x3 x4 a sc) (nibD (c_v102 x1 x2 x3 x4 a sc)) (sclD 8 (gD x3) slices_S16x1024_o8_0_S1x1024) (sclD 9 (gD x3) slices_S16x1024_o9_0_S1x1024)) := rfl
  rw [e]
  exact (stepD_sums a x2 (gD x3) 4 1024 128 8 9 rfl rfl rfl rfl (by decide) inb_S80x2048_S80x256_0_1024 inb_S256x1024_S32x1024_128_0 slices_S16x1024_o8_0_S1x1024 slices_S16x1024_o9_0_S1x1024 (stepD_sums a x2 (gD x3) 3 768 96 6 7 rfl rfl rfl rfl (by decide) inb_S80x2048_S80x256_0_768 inb_S256x1024_S32x1024_96_0 slices_S16x1024_o6_0_S1x1024 slices_S16x1024_o7_0_S1x1024 (sum_v77 x1 x2 x3 x4 a sc)))

/-- The running sum after 7 steps. -/
theorem sum_v173 (x1 : Vec Ideal S72x1024 .bf16) (x2 : Vec Ideal S256x1024 .i32) (x3 : Vec Ideal S16x1024 .fp8e4m3) (x4 : Vec Ideal S1x1024 .f32) (a : Vec Ideal S80x2048 .bf16) (sc : Vec Ideal S72x128 .f32) :
    Sums (at2 (α := EReal) a) (at2 (α := BitVec 32) x2) (at2 (α := EReal) (gD x3)) 7 (c_v173 x1 x2 x3 x4 a sc) := by
  have e : (c_v173 x1 x2 x3 x4 a sc) = (stepD (stepD (c_v125 x1 x2 x3 x4 a sc) (c_v147 x1 x2 x3 x4 a sc) (nibD (c_v126 x1 x2 x3 x4 a sc)) (sclD 10 (gD x3) slices_S16x1024_o10_0_S1x1024) (sclD 11 (gD x3) slices_S16x1024_o11_0_S1x1024)) (c_v171 x1 x2 x3 x4 a sc) (nibD (c_v150 x1 x2 x3 x4 a sc)) (sclD 12 (gD x3) slices_S16x1024_o12_0_S1x1024) (sclD 13 (gD x3) slices_S16x1024_o13_0_S1x1024)) := rfl
  rw [e]
  exact (stepD_sums a x2 (gD x3) 6 1536 192 12 13 rfl rfl rfl rfl (by decide) inb_S80x2048_S80x256_0_1536 inb_S256x1024_S32x1024_192_0 slices_S16x1024_o12_0_S1x1024 slices_S16x1024_o13_0_S1x1024 (stepD_sums a x2 (gD x3) 5 1280 160 10 11 rfl rfl rfl rfl (by decide) inb_S80x2048_S80x256_0_1280 inb_S256x1024_S32x1024_160_0 slices_S16x1024_o10_0_S1x1024 slices_S16x1024_o11_0_S1x1024 (sum_v125 x1 x2 x3 x4 a sc)))

/-- The whole product, 8 steps. -/
def coreV0 (x1 : Vec Ideal S72x1024 .bf16) (x2 : Vec Ideal S256x1024 .i32) (x3 : Vec Ideal S16x1024 .fp8e4m3) (x4 : Vec Ideal S1x1024 .f32) (a : Vec Ideal S80x2048 .bf16) (sc : Vec Ideal S72x128 .f32) : FVec Ideal S80x1024 .f32 :=
  (stepD (c_v173 x1 x2 x3 x4 a sc) (c_v195 x1 x2 x3 x4 a sc) (nibD (c_v174 x1 x2 x3 x4 a sc)) (sclD 14 (gD x3) slices_S16x1024_o14_0_S1x1024) (sclD 15 (gD x3) slices_S16x1024_o15_0_S1x1024))

theorem coreV0_sums (x1 : Vec Ideal S72x1024 .bf16) (x2 : Vec Ideal S256x1024 .i32) (x3 : Vec Ideal S16x1024 .fp8e4m3) (x4 : Vec Ideal S1x1024 .f32) (a : Vec Ideal S80x2048 .bf16) (sc : Vec Ideal S72x128 .f32) :
    Sums (at2 (α := EReal) a) (at2 (α := BitVec 32) x2) (at2 (α := EReal) (gD x3)) 8 (coreV0 x1 x2 x3 x4 a sc) :=
  (stepD_sums a x2 (gD x3) 7 1792 224 14 15 rfl rfl rfl rfl (by decide) inb_S80x2048_S80x256_0_1792 inb_S256x1024_S32x1024_224_0 slices_S16x1024_o14_0_S1x1024 slices_S16x1024_o15_0_S1x1024 (sum_v173 x1 x2 x3 x4 a sc))

end Cert.OprojIdeal.Run

end
-- ==== Proof.Oproj.Value.lean ====
/- What the Oproj kernel leaves in its result arrays: what the reference computes from the same arguments. -/
module

public import proofs.«01_k».proof.Proof.Oproj.Sums
public import proofs.«01_k».proof.Proof.Oproj.Frame
public import proofs.«01_k».proof.Proof.Common.Match
public import proofs.«01_k».proof.Proof.Gen.OprojRefIdeal.Value
public import Idealize.ShloMosaic.Lib.Claim
public import Idealize.ShloMosaic.Lib.Pipeline.Value

@[expose] public section

set_option maxRecDepth 16384

noncomputable section

namespace Cert.OprojIdeal.Run
open Cert.OprojIdeal.Gen Cert.Linear

open Idealize.ShloMosaic Idealize.ShloMosaic.TcCoe Idealize.ShloMosaic.Tactic
open Idealize.ShloMosaic.Pipeline (Dat)

variable (m : (ℓ : Loc nD τ sig) → Buf (Elt Ideal) ℓ)

/-! ## The heads side by side, their scales and the codes -/

/-- The attention's result, one row for each row and head. -/
def attRows (a0 : Vec Ideal OprojRefIdeal.S72x16x128 .f32) : Vec Ideal S1152x128 .f32 := shapeCast S1152x128 a0 shapeCasts_S72x16x128_S1152x128

/-- Head `h` of the 72 rows. -/
def headV (h : Fin 16) (x : Vec Ideal S1152x128 .f32) : Vec Ideal S72x128 .f32 :=
  fun y => x ((⟨![h.val, 0], S72x128.size, ![16, 1], fun a => by
    have := h.isLt
    match a with
    | ⟨0, _⟩ => right; show h.val + 16 * 71 < 1152; omega
    | ⟨1, _⟩ => right; show 0 + 1 * 127 < 128; omega⟩ : LoadRect S1152x128).idx y)

theorem cast_self (v : Vec Ideal S72x128 .f32) (h : S72x128.ShapeCasts S72x128) : shapeCast S72x128 v h = v := by
  funext j
  exact shapeCast_apply _ _ j j rfl

/-- The kernel puts the sixteen heads side by side. -/
theorem heads_eq (x : Vec Ideal S1152x128 .f32) :
    k0_pay17 (b_v212 x) (b_v214 x) (b_v216 x) (b_v218 x) (b_v220 x) (b_v222 x) (b_v224 x) (b_v226 x) (b_v228 x) (b_v230 x) (b_v232 x) (b_v234 x) (b_v236 x) (b_v238 x) (b_v240 x) (b_v241 x)
      = concatenate S72x2048 1 (List.ofFn fun n : Fin 16 => (⟨S72x128, headV n x⟩ : (s : Shape) × (s.Idx → EReal))) concatenates_S72x128_S72x128_S72x128_S72x128_S72x128_S72x128_S72x128_S72x128_S72x128_S72x128_S72x128_S72x128_S72x128_S72x128_S72x128_S72x128_S72x2048_d1 := by
  have h0 : b_v212 x = headV 0 x := cast_self (b_v211 x) shapeCasts_S72x128_S72x128
  have h1 : b_v214 x = headV 1 x := cast_self (b_v213 x) shapeCasts_S72x128_S72x128
  have h2 : b_v216 x = headV 2 x := cast_self (b_v215 x) shapeCasts_S72x128_S72x128
  have h3 : b_v218 x = headV 3 x := cast_self (b_v217 x) shapeCasts_S72x128_S72x128
  have h4 : b_v220 x = headV 4 x := cast_self (b_v219 x) shapeCasts_S72x128_S72x128
  have h5 : b_v222 x = headV 5 x := cast_self (b_v221 x) shapeCasts_S72x128_S72x128
  have h6 : b_v224 x = headV 6 x := cast_self (b_v223 x) shapeCasts_S72x128_S72x128
  have h7 : b_v226 x = headV 7 x := cast_self (b_v225 x) shapeCasts_S72x128_S72x128
  have h8 : b_v228 x = headV 8 x := cast_self (b_v227 x) shapeCasts_S72x128_S72x128
  have h9 : b_v230 x = headV 9 x := cast_self (b_v229 x) shapeCasts_S72x128_S72x128
  have h10 : b_v232 x = headV 10 x := cast_self (b_v231 x) shapeCasts_S72x128_S72x128
  have h11 : b_v234 x = headV 11 x := cast_self (b_v233 x) shapeCasts_S72x128_S72x128
  have h12 : b_v236 x = headV 12 x := cast_self (b_v235 x) shapeCasts_S72x128_S72x128
  have h13 : b_v238 x = headV 13 x := cast_self (b_v237 x) shapeCasts_S72x128_S72x128
  have h14 : b_v240 x = headV 14 x := cast_self (b_v239 x) shapeCasts_S72x128_S72x128
  rw [h0, h1, h2, h3, h4, h5, h6, h7, h8, h9, h10, h11, h12, h13, h14]
  unfold k0_pay17
  have h15 : shapeCast S72x128 (b_v241 x) shapeCasts_S72x128_S72x128 = headV 15 x := cast_self _ _
  rw [h15]
  rfl

/-- That is the reference's reshape. -/
theorem heads_ref (a0 : Vec Ideal OprojRefIdeal.S72x16x128 .f32) :
    k0_pay17 (b_v212 (attRows a0)) (b_v214 (attRows a0)) (b_v216 (attRows a0)) (b_v218 (attRows a0)) (b_v220 (attRows a0)) (b_v222 (attRows a0)) (b_v224 (attRows a0)) (b_v226 (attRows a0)) (b_v228 (attRows a0)) (b_v230 (attRows a0)) (b_v232 (attRows a0)) (b_v234 (attRows a0)) (b_v236 (attRows a0)) (b_v238 (attRows a0)) (b_v240 (attRows a0)) (b_v241 (attRows a0)) = OprojRefIdeal.Gen.k0_pay2 a0 := by
  rw [heads_eq]
  funext y
  obtain ⟨r, k, rfl⟩ : ∃ (r : Fin 72) (k : Fin 2048), y = ValueIdx.ix2 r k := ⟨y 0, y 1, ValueIdx.eq_ix2 y⟩
  have hr := r.isLt
  have hk := k.isLt
  refine (concatenate_ofFn_apply (t := S72x2048) (s₁ := S72x128) 1 (fun n : Fin 16 => headV n (attRows a0)) _ rfl 128 rfl (ValueIdx.ix2 r k) ⟨k.val / 128, by omega⟩ rfl
    (ValueIdx.ix2 r ⟨k.val % 128, Nat.mod_lt _ (by decide)⟩) rfl ?_).trans ?_
  · intro b hb
    match b with
    | ⟨0, _⟩ => rfl
    | ⟨1, _⟩ => exact absurd rfl hb
  · unfold headV attRows OprojRefIdeal.Gen.k0_pay2
    rw [shapeCast_apply _ OprojRefIdeal.Gen.shapeCasts_S72x16x128_S72x2048 (ValueIdx.ix2 r k) (ValueIdx.ix3 r ⟨k.val / 128, by omega⟩ ⟨k.val % 128, Nat.mod_lt _ (by decide)⟩) ?_]
    · refine shapeCast_apply _ _ _ _ ?_
      rw [Shape.rowMajor_val_two, Shape.rowMajor_val_three]
      show (r.val * 16 + k.val / 128) * 128 + k.val % 128 = (k.val / 128 + 16 * r.val) * 128 + (0 + 1 * (k.val % 128))
      omega
    · rw [Shape.rowMajor_val_two, Shape.rowMajor_val_three]
      show (r.val * 16 + k.val / 128) * 128 + k.val % 128 = r.val * 2048 + k.val
      omega

/-- The kernel's column of row scales is the reference's vector of them, as a column. -/
theorem scale_eq (a0 : Vec Ideal OprojRefIdeal.S72x16x128 .f32) :
    k0_pay18 (b_v212 (attRows a0)) (b_v214 (attRows a0)) (b_v216 (attRows a0)) (b_v218 (attRows a0)) (b_v220 (attRows a0)) (b_v222 (attRows a0)) (b_v224 (attRows a0)) (b_v226 (attRows a0)) (b_v228 (attRows a0)) (b_v230 (attRows a0)) (b_v232 (attRows a0)) (b_v234 (attRows a0)) (b_v236 (attRows a0)) (b_v238 (attRows a0)) (b_v240 (attRows a0)) (b_v241 (attRows a0)) = shapeCast S72x1 (OprojRefIdeal.Gen.k0_pay3 a0) OprojRefIdeal.Gen.shapeCasts_S72_S72x1 := by
  unfold k0_pay18
  rw [heads_ref]
  funext j
  rfl

/-- The codes are the reference's. -/
theorem codes_eq (a0 : Vec Ideal OprojRefIdeal.S72x16x128 .f32) : k0_pay19 (b_v212 (attRows a0)) (b_v214 (attRows a0)) (b_v216 (attRows a0)) (b_v218 (attRows a0)) (b_v220 (attRows a0)) (b_v222 (attRows a0)) (b_v224 (attRows a0)) (b_v226 (attRows a0)) (b_v228 (attRows a0)) (b_v230 (attRows a0)) (b_v232 (attRows a0)) (b_v234 (attRows a0)) (b_v236 (attRows a0)) (b_v238 (attRows a0)) (b_v240 (attRows a0)) (b_v241 (attRows a0)) = OprojRefIdeal.Gen.k0_pay4 a0 := by
  unfold k0_pay19
  rw [scale_eq, heads_ref]
  rfl

theorem q_ca_eq (a0 : Vec Ideal OprojRefIdeal.S72x16x128 .f32) : q_ca (attRows a0) = OprojRefIdeal.Gen.k0_pay4 a0 := by
  unfold q_ca
  rw [View.canon_cons_unit_lit, codes_eq]
  decide

theorem q_sa_eq (a0 : Vec Ideal OprojRefIdeal.S72x16x128 .f32) : q_sa (attRows a0) = OprojRefIdeal.Gen.k0_pay5 a0 := by
  unfold q_sa
  rw [View.canon_cons_unit_lit]
  · unfold k0_pay24 k0_pay22
    rw [scale_eq]
    exact wide_row _ _ _ _ _ _ _
  · decide

theorem q_sc_apply (a0 : Vec Ideal OprojRefIdeal.S72x16x128 .f32) (r : Fin 72) (c : Fin 128) :
    q_sc (attRows a0) (ValueIdx.ix2 r c) = OprojRefIdeal.Gen.k0_pay3 a0 (ValueIdx.ix1 r) := by
  unfold q_sc
  rw [View.canon_cons_unit_lit]
  · unfold k0_pay23 k0_pay22
    rw [cast_self, scale_eq]
    exact (wideV_apply _ _ _ r c).trans (col_apply _ _ r)
  · decide

theorem q_a_apply (a0 : Vec Ideal OprojRefIdeal.S72x16x128 .f32) (r : Fin 72) (k : Fin 2048) :
    q_a (attRows a0) (ValueIdx.ix2 ⟨r.val, Nat.lt_trans r.isLt (by decide)⟩ k) = OprojRefIdeal.Gen.k0_pay4 a0 (ValueIdx.ix2 r k) := by
  unfold q_a
  refine (pad_apply _ _ _ _ r k).trans ?_
  unfold k0_pay20
  rw [shapeCast_apply _ _ _ _ rfl, codes_eq]
  rfl

/-! ## The blocks -/

/-- The index maps. -/
theorem idx : ∀ t : Fin cfg0.N, win0_0.index t = ![0, 0] ∧ win0_1.index t = ![0, t.val] ∧ win0_2.index t = ![0, t.val]
    ∧ win0_3.index t = ![0, t.val] ∧ win0_4.index t = ![0, t.val] ∧ win0_5.index t = ![0, t.val] ∧ win0_6.index t = ![0, 0]
    ∧ win0_7.index t = ![0, 0] :=
  (by decide +kernel : ∀ t : Fin grid0.N, _)

theorem lt_N (t : Fin cfg0.N) : t.val < 8 := Nat.lt_of_lt_of_eq t.isLt N_0

/-- Column `c` of block `t`. -/
def colOf (t : Fin cfg0.N) (c : Fin 1024) : Fin 8192 := ⟨1024 * t.val + c.val, by have := lt_N t; have := c.isLt; omega⟩

theorem blk0 (c : Dev nD) (t : Fin cfg0.N) : iblk m c 0 t = attRows (m ((c : Thread nD τ).loc main_arg0)) := by
  funext y
  obtain ⟨p, q, rfl⟩ : ∃ (p : Fin 1152) (q : Fin 128), y = ValueIdx.ix2 p q := ⟨y 0, y 1, ValueIdx.eq_ix2 y⟩
  unfold attRows
  blk_simp [iblk]
  entry_read
  refine congrArg (shapeCast S1152x128 (m ((c : Thread nD τ).loc main_arg0)) shapeCasts_S72x16x128_S1152x128) ?_
  blk_ext [idx t]

theorem blk1 (c : Dev nD) (t : Fin cfg0.N) (r : Fin 72) (j : Fin 1024) :
    iblk m c 1 t (ValueIdx.ix2 r j) = m ((c : Thread nD τ).loc main_arg1) (ValueIdx.ix3 r 0 (colOf t j)) := by
  blk_simp [iblk]
  entry_read
  refine shapeCast_apply _ _ _ _ ?_
  refine (Shape.rowMajor_val_three (ValueIdx.ix3 r 0 (colOf t j))).trans (Eq.trans ?_ (Shape.rowMajor_val_two _).symm)
  blk_simp [idx t]
  unfold colOf
  show r.val * 8192 + (1024 * t.val + j.val) = r.val * 8192 + (t.val * 1024 + j.val)
  omega

theorem blk2 (c : Dev nD) (t : Fin cfg0.N) (r : Fin 256) (j : Fin 1024) :
    iblk m c 2 t (ValueIdx.ix2 r j) = m ((c : Thread nD τ).loc main_arg2) (ValueIdx.ix2 r (colOf t j)) := by
  unfold colOf
  blk_ext [iblk, V, idx t]
  show t.val * 1024 + j.val = 1024 * t.val + j.val
  omega

theorem blk3 (c : Dev nD) (t : Fin cfg0.N) (r : Fin 16) (j : Fin 1024) :
    iblk m c 3 t (ValueIdx.ix2 r j) = m ((c : Thread nD τ).loc main_arg3) (ValueIdx.ix2 r (colOf t j)) := by
  unfold colOf
  blk_ext [iblk, V, idx t]
  show t.val * 1024 + j.val = 1024 * t.val + j.val
  omega

theorem blk4 (c : Dev nD) (t : Fin cfg0.N) (j : Fin 1024) :
    iblk m c 4 t (ValueIdx.ix2 0 j) = m ((c : Thread nD τ).loc main_arg4) (ValueIdx.ix1 (colOf t j)) := by
  blk_simp [iblk]
  entry_read
  refine shapeCast_apply _ _ _ _ ?_
  refine (Shape.rowMajor_val_one (ValueIdx.ix1 (colOf t j))).trans (Eq.trans ?_ (Shape.rowMajor_val_two _).symm)
  blk_simp [idx t]
  unfold colOf
  show 1024 * t.val + j.val = t.val * 1024 + j.val
  omega

/-! ## The product -/

theorem ix3_eq {p q s : ℕ} (a : Fin p) (b : Fin q) (c : Fin s) : ix3 a b c = ValueIdx.ix3 a b c := by
  funext x
  match x with
  | ⟨0, _⟩ => rfl
  | ⟨1, _⟩ => rfl
  | ⟨2, _⟩ => rfl

/-- The reference's contraction runs over words and fields. -/
theorem words : Words OprojRefIdeal.dot_S72x256x8_S8x256x8192_S72x8192_12_10_0_2_n_n := by
  intro L R acc r c
  simp only [matmulApply]
  refine congrArg (acc (ValueIdx.ix2 r c) + ·) (Finset.sum_congr rfl fun i _ => Finset.sum_congr rfl fun j _ => ?_)
  exact congrArg₂ (· * ·) (congrArg L (ix3_eq _ _ _)) (congrArg R (ix3_eq _ _ _))

/-- The result's block as the scaled product added to the residual. -/
theorem yB_eq (x1 : Vec Ideal S72x1024 .bf16) (x2 : Vec Ideal S256x1024 .i32) (x3 : Vec Ideal S16x1024 .fp8e4m3) (x4 : Vec Ideal S1x1024 .f32) (a : Vec Ideal S80x2048 .bf16) (sc : Vec Ideal S72x128 .f32) :
    yB x1 x2 x3 x4 a sc = addf (F := Ideal) (φ := .f32) (extf .f32 (shapeCast S72x1024 (c_v199 x1 x2 x3 x4 a sc) shapeCasts_S72x1024_S72x1024) bitsLt_bf16_f32)
      (finV (coreV0 x1 x2 x3 x4 a sc) (c_v202 x1 x2 x3 x4 a sc) (c_v205 x1 x2 x3 x4 a sc) slices_S80x1024_o0_0_S72x1024 broadcasts_S72x1_S72x1024 shapeCasts_S1x1024_S1x1024 broadcasts_S1x1024_S72x1024) := by
  rfl

/-- The reference's result as the scaled product added to the residual. -/
theorem G5_eq (a0 : Vec Ideal OprojRefIdeal.S72x16x128 .f32) (a1 : Vec Ideal OprojRefIdeal.S72x1x8192 .bf16) (a2 : Vec Ideal OprojRefIdeal.S256x8192 .i32) (a3 : Vec Ideal OprojRefIdeal.S16x8192 .fp8e4m3) (a4 : Vec Ideal OprojRefIdeal.S8192 .f32) :
    OprojRefIdeal.Value.G5 a0 a1 a2 a3 a4 = addf (F := Ideal) (φ := .f32) (OprojRefIdeal.Gen.k0_pay6 a1) (scaleV (prodV OprojRefIdeal.dot_S72x256x8_S8x256x8192_S72x8192_12_10_0_2_n_n
      (extf .bf16 (OprojRefIdeal.Gen.k0_pay4 a0) bitsLt_fp8e4m3_bf16) (signV (maskV a2 OprojRefIdeal.Gen.shapeCasts_S256x8192_S1x256x8192 OprojRefIdeal.Gen.broadcasts_S1x256x8192_S8x256x8192 OprojRefIdeal.Gen.iota_S8x1x1_d0_w32 OprojRefIdeal.Gen.broadcasts_S8x1x1_S8x256x8192) OprojRefIdeal.Gen.natLt_8_32)
      (spreadV (extf .bf16 a3 bitsLt_fp8e4m3_bf16) OprojRefIdeal.Gen.shapeCasts_S16x8192_S16x1x8192 OprojRefIdeal.Gen.broadcasts_S16x1x8192_S16x16x8192 OprojRefIdeal.Gen.shapeCasts_S16x16x8192_S256x8192 OprojRefIdeal.Gen.shapeCasts_S256x8192_S1x256x8192 OprojRefIdeal.Gen.broadcasts_S1x256x8192_S8x256x8192)
      OprojRefIdeal.Gen.shapeCasts_S72x2048_S72x256x8) (OprojRefIdeal.Gen.k0_pay3 a0) a4 OprojRefIdeal.Gen.shapeCasts_S72_S72x1 OprojRefIdeal.Gen.broadcasts_S72x1_S72x8192 OprojRefIdeal.Gen.shapeCasts_S8192_S1x8192 OprojRefIdeal.Gen.broadcasts_S1x8192_S72x8192) := by
  rfl

/-- The residual's block, widened, at a point. -/
theorem resid_eq (x : FVec Ideal S72x1024 .bf16) (h : S72x1024.ShapeCasts S72x1024) (hb) (r : Fin 72) (j : Fin 1024) :
    extf (F := Ideal) (φ := .bf16) .f32 (shapeCast S72x1024 x h) hb (ValueIdx.ix2 r j) = x (ValueIdx.ix2 r j) := by
  show shapeCast S72x1024 x h (ValueIdx.ix2 r j) = _
  exact shapeCast_apply x h _ _ rfl

/-- The reference's residual at a point. -/
theorem pay6_apply (x : Vec Ideal OprojRefIdeal.S72x1x8192 .bf16) (r : Fin 72) (k : Fin 8192) :
    OprojRefIdeal.Gen.k0_pay6 x (ValueIdx.ix2 r k) = x (ValueIdx.ix3 r 0 k) := by
  show shapeCast OprojRefIdeal.S72x8192 x OprojRefIdeal.Gen.shapeCasts_S72x1x8192_S72x8192 (ValueIdx.ix2 r k) = _
  refine shapeCast_apply x _ _ _ ?_
  rw [Shape.rowMajor_val_two, Shape.rowMajor_val_three]
  show (r.val * 1 + 0) * 8192 + k.val = r.val * 8192 + k.val
  omega

/-- The result's block at a point is the reference's result there. -/
theorem y_eq (c : Dev nD) (t : Fin cfg0.N) (r : Fin 72) (j : Fin 1024) :
    yAt m c t (ValueIdx.ix2 r j) = OprojRefIdeal.Value.G5 (m ((c : Thread nD τ).loc main_arg0)) (m ((c : Thread nD τ).loc main_arg1)) (m ((c : Thread nD τ).loc main_arg2)) (m ((c : Thread nD τ).loc main_arg3)) (m ((c : Thread nD τ).loc main_arg4)) (ValueIdx.ix2 r (colOf t j)) := by
  unfold yAt
  rw [yB_eq, G5_eq, blk0]
  refine congrArg₂ (· + ·) ?_ ?_
  · refine (resid_eq _ _ _ r j).trans (Eq.trans ?_ (pay6_apply _ r (colOf t j)).symm)
    unfold c_v199
    rw [View.ld_unit_lit]
    · exact blk1 m c t r j
    · decide
  · refine scaled_match (K := 2048) (J := 256) (Q := 16) (s := 8) rfl rfl rfl (q_a (attRows (m ((c : Thread nD τ).loc main_arg0)))) _ (iblk m c 2 t) _ (iblk m c 3 t) _ r j (colOf t j)
      (fun k => q_a_apply _ r k) (fun i => blk2 m c t i j) (fun i => blk3 m c t i j) _ ?_ _ _ _ _ _ _ _ words _ _ _ _ _ _ _ _ _ _ _ _ _ _ _ _ _ ?_ ?_
    · have h := coreV0_sums (iblk m c 1 t) (iblk m c 2 t) (iblk m c 3 t) (iblk m c 4 t) (q_a (attRows (m ((c : Thread nD τ).loc main_arg0)))) (q_sc (attRows (m ((c : Thread nD τ).loc main_arg0))))
      rw [gD_eq] at h
      exact h
    · unfold c_v202
      exact (ld_ix2 _ 0 0 _ r 0 (by have := r.isLt; omega) (by decide)).trans (by simpa using q_sc_apply _ r 0)
    · unfold c_v205
      rw [View.ld_unit_lit]
      · exact blk4 m c t j
      · decide

/-! ## The arrays after the run -/

theorem final5 (c : Dev nD) : (dats m 0 c).arrAt 5 cfg0.N = OprojRefIdeal.Value.G5 (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  obtain ⟨r, j, rfl⟩ : ∃ (r : Fin 72) (j : Fin 1024), y = ValueIdx.ix2 r j := ⟨y 0, y 1, ValueIdx.eq_ix2 y⟩
  refine (y_eq m c t r j).trans (congrArg _ ?_)
  unfold colOf
  blk_ext [idx t]
  show 1024 * t.val + j.val = t.val * 1024 + j.val
  omega

/-- The last point. -/
def tLast : Fin cfg0.N := ⟨7, by rw [show cfg0.N = 8 from N_0]; decide⟩

theorem final6 (c : Dev nD) : (dats m 0 c).arrAt 6 cfg0.N = OprojRefIdeal.Value.G6 (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_after_last 6 tLast (by decide +kernel) _ fun y => ?_
  blk_simp
  rw [after0_6, blk0, q_ca_eq]

theorem final7 (c : Dev nD) : (dats m 0 c).arrAt 7 cfg0.N = OprojRefIdeal.Value.G7 (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_after_last 7 tLast (by decide +kernel) _ fun y => ?_
  blk_simp
  rw [after0_7, blk0, q_sa_eq]

end Cert.OprojIdeal.Run

end
-- ==== Proof.Gu.Sums.lean ====
/- The Gu kernel's product over the extended reals: every running sum its body computes is the sum of its terms so far. -/
module

public import proofs.«01_k».proof.Proof.Gu.Chain
public import proofs.«01_k».proof.Proof.Common.Linear

@[expose] public section

set_option maxRecDepth 16384

noncomputable section

namespace Cert.GuIdeal.Run
open Cert.GuIdeal.Gen Cert.Linear

open Idealize.ShloMosaic Idealize.ShloMosaic.TcCoe

/-- The zeros the running sum starts from. -/
def zeroV : FVec Ideal S80x512 .f32 := broadcast S80x512 (Scalar.ofBits (F := Ideal) .f32 0x00000000#32)

/-- The block's group scales. -/
def gD (g : Vec Ideal S64x512 .fp8e4m3) : FVec Ideal S64x512 .f32 :=
  extf .f32 (View.ld g (Rect.unit (s := S64x512) ![0, 0] S64x512.size inb_S64x512_S64x512_0_0)) bitsLt_fp8e4m3_f32

theorem gD_eq (g : Vec Ideal S64x512 .fp8e4m3) : gD g = g := by
  unfold gD
  rw [View.ld_unit_lit]
  · rfl
  · decide

/-- The nibbles of 32 loaded rows. -/
abbrev nibD (w : IVec S32x512 32) : IVec S256x512 4 :=
  nibV w shapeCasts_S32x512_S32x1x512 shapeCasts_S32x1x512_S32x1x512 broadcasts_S32x1x512_S32x8x512 iota_S32x8x512_d1_w32 shapeCasts_S32x8x512_S256x512

/-- One row of group scales over its 128 rows. -/
abbrev sclD (i : ℕ) (g : FVec Ideal S64x512 .f32) (f : (S64x512 : Shape).Slices ![i, 0] S1x512) : FVec Ideal S128x512 .bf16 :=
  sclV i g f shapeCasts_S1x512_S1x512 broadcasts_S1x512_S128x512 bitsLt_bf16_f32

/-- One step of the product. -/
abbrev stepD (acc : FVec Ideal S80x512 .f32) (a : FVec Ideal S80x256 .bf16) (q : IVec S256x512 4) (s0 s1 : FVec Ideal S128x512 .bf16) :
    FVec Ideal S80x512 .f32 :=
  stepV acc a q s0 s1 concatenates_S128x512_S128x512_S256x512_d0

/-- One step on loaded operands extends the running sum by 256 terms. -/
theorem stepD_sums (a : Vec Ideal S80x8192 .bf16) (w : Vec Ideal S1024x512 .i32) (g : FVec Ideal S64x512 .f32) (s : ℕ)
    {acc : FVec Ideal S80x512 .f32} (oa ow i0 i1 : ℕ) (hoa : oa = 256 * s) (how : ow = 32 * s) (hi0 : i0 = 2 * s) (hi1 : i1 = 2 * s + 1)
    (hQ : i1 < 64) (ia iw f0 f1) (hacc : Sums (at2 (α := EReal) a) (at2 (α := BitVec 32) w) (at2 (α := EReal) g) s acc) :
    Sums (at2 (α := EReal) a) (at2 (α := BitVec 32) w) (at2 (α := EReal) g) (s + 1)
      (stepD acc (View.ld a (Rect.unit (s := S80x8192) ![0, oa] S80x256.size ia)) (nibD (View.ld w (Rect.unit (s := S1024x512) ![ow, 0] S32x512.size iw)))
        (sclD i0 g f0) (sclD i1 g f1)) :=
  Sums.step_ld a w g s oa ow i0 i1 hoa how hi0 hi1 hQ ia iw _ _ _ _ _ f0 f1 _ _ _ _ hacc

/-- The running sum after 1 steps. -/
theorem sum_v30 (x2 : Vec Ideal S1024x512 .i32) (x3 : Vec Ideal S1024x512 .i32) (x4 : Vec Ideal S64x512 .fp8e4m3) (x5 : Vec Ideal S64x512 .fp8e4m3) (x6 : Vec Ideal S1x512 .f32) (x7 : Vec Ideal S1x512 .f32) (a : Vec Ideal S80x8192 .bf16) (sc : Vec Ideal S72x128 .f32) :
    Sums (at2 (α := EReal) a) (at2 (α := BitVec 32) x2) (at2 (α := EReal) (gD x4)) 1 (c_v30 x2 x3 x4 x5 x6 x7 a sc) := by
  have e : (c_v30 x2 x3 x4 x5 x6 x7 a sc) = (stepD zeroV (c_v28 x2 x3 x4 x5 x6 x7 a sc) (nibD (c_v7 x2 x3 x4 x5 x6 x7 a sc)) (sclD 0 (gD x4) slices_S64x512_o0_0_S1x512) (sclD 1 (gD x4) slices_S64x512_o1_0_S1x512)) := rfl
  rw [e]
  exact (stepD_sums a x2 (gD x4) 0 0 0 0 1 rfl rfl rfl rfl (by decide) inb_S80x8192_S80x256_0_0 inb_S1024x512_S32x512_0_0 slices_S64x512_o0_0_S1x512 slices_S64x512_o1_0_S1x512 (Sums.zero _ _ _))

/-- The running sum after 3 steps. -/
theorem sum_v78 (x2 : Vec Ideal S1024x512 .i32) (x3 : Vec Ideal S1024x512 .i32) (x4 : Vec Ideal S64x512 .fp8e4m3) (x5 : Vec Ideal S64x512 .fp8e4m3) (x6 : Vec Ideal S1x512 .f32) (x7 : Vec Ideal S1x512 .f32) (a : Vec Ideal S80x8192 .bf16) (sc : Vec Ideal S72x128 .f32) :
    Sums (at2 (α := EReal) a) (at2 (α := BitVec 32) x2) (at2 (α := EReal) (gD x4)) 3 (c_v78 x2 x3 x4 x5 x6 x7 a sc) := by
  have e : (c_v78 x2 x3 x4 x5 x6 x7 a sc) = (stepD (stepD (c_v30 x2 x3 x4 x5 x6 x7 a sc) (c_v52 x2 x3 x4 x5 x6 x7 a sc) (nibD (c_v31 x2 x3 x4 x5 x6 x7 a sc)) (sclD 2 (gD x4) slices_S64x512_o2_0_S1x512) (sclD 3 (gD x4) slices_S64x512_o3_0_S1x512)) (c_v76 x2 x3 x4 x5 x6 x7 a sc) (nibD (c_v55 x2 x3 x4 x5 x6 x7 a sc)) (sclD 4 (gD x4) slices_S64x512_o4_0_S1x512) (sclD 5 (gD x4) slices_S64x512_o5_0_S1x512)) := rfl
  rw [e]
  exact (stepD_sums a x2 (gD x4) 2 512 64 4 5 rfl rfl rfl rfl (by decide) inb_S80x8192_S80x256_0_512 inb_S1024x512_S32x512_64_0 slices_S64x512_o4_0_S1x512 slices_S64x512_o5_0_S1x512 (stepD_sums a x2 (gD x4) 1 256 32 2 3 rfl rfl rfl rfl (by decide) inb_S80x8192_S80x256_0_256 inb_S1024x512_S32x512_32_0 slices_S64x512_o2_0_S1x512 slices_S64x512_o3_0_S1x512 (sum_v30 x2 x3 x4 x5 x6 x7 a sc)))

/-- The running sum after 5 steps. -/
theorem sum_v126 (x2 : Vec Ideal S1024x512 .i32) (x3 : Vec Ideal S1024x512 .i32) (x4 : Vec Ideal S64x512 .fp8e4m3) (x5 : Vec Ideal S64x512 .fp8e4m3) (x6 : Vec Ideal S1x512 .f32) (x7 : Vec Ideal S1x512 .f32) (a : Vec Ideal S80x8192 .bf16) (sc : Vec Ideal S72x128 .f32) :
    Sums (at2 (α := EReal) a) (at2 (α := BitVec 32) x2) (at2 (α := EReal) (gD x4)) 5 (c_v126 x2 x3 x4 x5 x6 x7 a sc) := by
  have e : (c_v126 x2 x3 x4 x5 x6 x7 a sc) = (stepD (stepD (c_v78 x2 x3 x4 x5 x6 x7 a sc) (c_v100 x2 x3 x4 x5 x6 x7 a sc) (nibD (c_v79 x2 x3 x4 x5 x6 x7 a sc)) (sclD 6 (gD x4) slices_S64x512_o6_0_S1x512) (sclD 7 (gD x4) slices_S64x512_o7_0_S1x512)) (c_v124 x2 x3 x4 x5 x6 x7 a sc) (nibD (c_v103 x2 x3 x4 x5 x6 x7 a sc)) (sclD 8 (gD x4) slices_S64x512_o8_0_S1x512) (sclD 9 (gD x4) slices_S64x512_o9_0_S1x512)) := rfl
  rw [e]
  exact (stepD_sums a x2 (gD x4) 4 1024 128 8 9 rfl rfl rfl rfl (by decide) inb_S80x8192_S80x256_0_1024 inb_S1024x512_S32x512_128_0 slices_S64x512_o8_0_S1x512 slices_S64x512_o9_0_S1x512 (stepD_sums a x2 (gD x4) 3 768 96 6 7 rfl rfl rfl rfl (by decide) inb_S80x8192_S80x256_0_768 inb_S1024x512_S32x512_96_0 slices_S64x512_o6_0_S1x512 slices_S64x512_o7_0_S1x512 (sum_v78 x2 x3 x4 x5 x6 x7 a sc)))

/-- The running sum after 7 steps. -/
theorem sum_v174 (x2 : Vec Ideal S1024x512 .i32) (x3 : Vec Ideal S1024x512 .i32) (x4 : Vec Ideal S64x512 .fp8e4m3) (x5 : Vec Ideal S64x512 .fp8e4m3) (x6 : Vec Ideal S1x512 .f32) (x7 : Vec Ideal S1x512 .f32) (a : Vec Ideal S80x8192 .bf16) (sc : Vec Ideal S72x128 .f32) :
    Sums (at2 (α := EReal) a) (at2 (α := BitVec 32) x2) (at2 (α := EReal) (gD x4)) 7 (c_v174 x2 x3 x4 x5 x6 x7 a sc) := by
  have e : (c_v174 x2 x3 x4 x5 x6 x7 a sc) = (stepD (stepD (c_v126 x2 x3 x4 x5 x6 x7 a sc) (c_v148 x2 x3 x4 x5 x6 x7 a sc) (nibD (c_v127 x2 x3 x4 x5 x6 x7 a sc)) (sclD 10 (gD x4) slices_S64x512_o10_0_S1x512) (sclD 11 (gD x4) slices_S64x512_o11_0_S1x512)) (c_v172 x2 x3 x4 x5 x6 x7 a sc) (nibD (c_v151 x2 x3 x4 x5 x6 x7 a sc)) (sclD 12 (gD x4) slices_S64x512_o12_0_S1x512) (sclD 13 (gD x4) slices_S64x512_o13_0_S1x512)) := rfl
  rw [e]
  exact (stepD_sums a x2 (gD x4) 6 1536 192 12 13 rfl rfl rfl rfl (by decide) inb_S80x8192_S80x256_0_1536 inb_S1024x512_S32x512_192_0 slices_S64x512_o12_0_S1x512 slices_S64x512_o13_0_S1x512 (stepD_sums a x2 (gD x4) 5 1280 160 10 11 rfl rfl rfl rfl (by decide) inb_S80x8192_S80x256_0_1280 inb_S1024x512_S32x512_160_0 slices_S64x512_o10_0_S1x512 slices_S64x512_o11_0_S1x512 (sum_v126 x2 x3 x4 x5 x6 x7 a sc)))

/-- The running sum after 9 steps. -/
theorem sum_v222 (x2 : Vec Ideal S1024x512 .i32) (x3 : Vec Ideal S1024x512 .i32) (x4 : Vec Ideal S64x512 .fp8e4m3) (x5 : Vec Ideal S64x512 .fp8e4m3) (x6 : Vec Ideal S1x512 .f32) (x7 : Vec Ideal S1x512 .f32) (a : Vec Ideal S80x8192 .bf16) (sc : Vec Ideal S72x128 .f32) :
    Sums (at2 (α := EReal) a) (at2 (α := BitVec 32) x2) (at2 (α := EReal) (gD x4)) 9 (c_v222 x2 x3 x4 x5 x6 x7 a sc) := by
  have e : (c_v222 x2 x3 x4 x5 x6 x7 a sc) = (stepD (stepD (c_v174 x2 x3 x4 x5 x6 x7 a sc) (c_v196 x2 x3 x4 x5 x6 x7 a sc) (nibD (c_v175 x2 x3 x4 x5 x6 x7 a sc)) (sclD 14 (gD x4) slices_S64x512_o14_0_S1x512) (sclD 15 (gD x4) slices_S64x512_o15_0_S1x512)) (c_v220 x2 x3 x4 x5 x6 x7 a sc) (nibD (c_v199 x2 x3 x4 x5 x6 x7 a sc)) (sclD 16 (gD x4) slices_S64x512_o16_0_S1x512) (sclD 17 (gD x4) slices_S64x512_o17_0_S1x512)) := rfl
  rw [e]
  exact (stepD_sums a x2 (gD x4) 8 2048 256 16 17 rfl rfl rfl rfl (by decide) inb_S80x8192_S80x256_0_2048 inb_S1024x512_S32x512_256_0 slices_S64x512_o16_0_S1x512 slices_S64x512_o17_0_S1x512 (stepD_sums a x2 (gD x4) 7 1792 224 14 15 rfl rfl rfl rfl (by decide) inb_S80x8192_S80x256_0_1792 inb_S1024x512_S32x512_224_0 slices_S64x512_o14_0_S1x512 slices_S64x512_o15_0_S1x512 (sum_v174 x2 x3 x4 x5 x6 x7 a sc)))

/-- The running sum after 11 steps. -/
theorem sum_v270 (x2 : Vec Ideal S1024x512 .i32) (x3 : Vec Ideal S1024x512 .i32) (x4 : Vec Ideal S64x512 .fp8e4m3) (x5 : Vec Ideal S64x512 .fp8e4m3) (x6 : Vec Ideal S1x512 .f32) (x7 : Vec Ideal S1x512 .f32) (a : Vec Ideal S80x8192 .bf16) (sc : Vec Ideal S72x128 .f32) :
    Sums (at2 (α := EReal) a) (at2 (α := BitVec 32) x2) (at2 (α := EReal) (gD x4)) 11 (c_v270 x2 x3 x4 x5 x6 x7 a sc) := by
  have e : (c_v270 x2 x3 x4 x5 x6 x7 a sc) = (stepD (stepD (c_v222 x2 x3 x4 x5 x6 x7 a sc) (c_v244 x2 x3 x4 x5 x6 x7 a sc) (nibD (c_v223 x2 x3 x4 x5 x6 x7 a sc)) (sclD 18 (gD x4) slices_S64x512_o18_0_S1x512) (sclD 19 (gD x4) slices_S64x512_o19_0_S1x512)) (c_v268 x2 x3 x4 x5 x6 x7 a sc) (nibD (c_v247 x2 x3 x4 x5 x6 x7 a sc)) (sclD 20 (gD x4) slices_S64x512_o20_0_S1x512) (sclD 21 (gD x4) slices_S64x512_o21_0_S1x512)) := rfl
  rw [e]
  exact (stepD_sums a x2 (gD x4) 10 2560 320 20 21 rfl rfl rfl rfl (by decide) inb_S80x8192_S80x256_0_2560 inb_S1024x512_S32x512_320_0 slices_S64x512_o20_0_S1x512 slices_S64x512_o21_0_S1x512 (stepD_sums a x2 (gD x4) 9 2304 288 18 19 rfl rfl rfl rfl (by decide) inb_S80x8192_S80x256_0_2304 inb_S1024x512_S32x512_288_0 slices_S64x512_o18_0_S1x512 slices_S64x512_o19_0_S1x512 (sum_v222 x2 x3 x4 x5 x6 x7 a sc)))

/-- The running sum after 13 steps. -/
theorem sum_v318 (x2 : Vec Ideal S1024x512 .i32) (x3 : Vec Ideal S1024x512 .i32) (x4 : Vec Ideal S64x512 .fp8e4m3) (x5 : Vec Ideal S64x512 .fp8e4m3) (x6 : Vec Ideal S1x512 .f32) (x7 : Vec Ideal S1x512 .f32) (a : Vec Ideal S80x8192 .bf16) (sc : Vec Ideal S72x128 .f32) :
    Sums (at2 (α := EReal) a) (at2 (α := BitVec 32) x2) (at2 (α := EReal) (gD x4)) 13 (c_v318 x2 x3 x4 x5 x6 x7 a sc) := by
  have e : (c_v318 x2 x3 x4 x5 x6 x7 a sc) = (stepD (stepD (c_v270 x2 x3 x4 x5 x6 x7 a sc) (c_v292 x2 x3 x4 x5 x6 x7 a sc) (nibD (c_v271 x2 x3 x4 x5 x6 x7 a sc)) (sclD 22 (gD x4) slices_S64x512_o22_0_S1x512) (sclD 23 (gD x4) slices_S64x512_o23_0_S1x512)) (c_v316 x2 x3 x4 x5 x6 x7 a sc) (nibD (c_v295 x2 x3 x4 x5 x6 x7 a sc)) (sclD 24 (gD x4) slices_S64x512_o24_0_S1x512) (sclD 25 (gD x4) slices_S64x512_o25_0_S1x512)) := rfl
  rw [e]
  exact (stepD_sums a x2 (gD x4) 12 3072 384 24 25 rfl rfl rfl rfl (by decide) inb_S80x8192_S80x256_0_3072 inb_S1024x512_S32x512_384_0 slices_S64x512_o24_0_S1x512 slices_S64x512_o25_0_S1x512 (stepD_sums a x2 (gD x4) 11 2816 352 22 23 rfl rfl rfl rfl (by decide) inb_S80x8192_S80x256_0_2816 inb_S1024x512_S32x512_352_0 slices_S64x512_o22_0_S1x512 slices_S64x512_o23_0_S1x512 (sum_v270 x2 x3 x4 x5 x6 x7 a sc)))

/-- The running sum after 15 steps. -/
theorem sum_v366 (x2 : Vec Ideal S1024x512 .i32) (x3 : Vec Ideal S1024x512 .i32) (x4 : Vec Ideal S64x512 .fp8e4m3) (x5 : Vec Ideal S64x512 .fp8e4m3) (x6 : Vec Ideal S1x512 .f32) (x7 : Vec Ideal S1x512 .f32) (a : Vec Ideal S80x8192 .bf16) (sc : Vec Ideal S72x128 .f32) :
    Sums (at2 (α := EReal) a) (at2 (α := BitVec 32) x2) (at2 (α := EReal) (gD x4)) 15 (c_v366 x2 x3 x4 x5 x6 x7 a sc) := by
  have e : (c_v366 x2 x3 x4 x5 x6 x7 a sc) = (stepD (stepD (c_v318 x2 x3 x4 x5 x6 x7 a sc) (c_v340 x2 x3 x4 x5 x6 x7 a sc) (nibD (c_v319 x2 x3 x4 x5 x6 x7 a sc)) (sclD 26 (gD x4) slices_S64x512_o26_0_S1x512) (sclD 27 (gD x4) slices_S64x512_o27_0_S1x512)) (c_v364 x2 x3 x4 x5 x6 x7 a sc) (nibD (c_v343 x2 x3 x4 x5 x6 x7 a sc)) (sclD 28 (gD x4) slices_S64x512_o28_0_S1x512) (sclD 29 (gD x4) slices_S64x512_o29_0_S1x512)) := rfl
  rw [e]
  exact (stepD_sums a x2 (gD x4) 14 3584 448 28 29 rfl rfl rfl rfl (by decide) inb_S80x8192_S80x256_0_3584 inb_S1024x512_S32x512_448_0 slices_S64x512_o28_0_S1x512 slices_S64x512_o29_0_S1x512 (stepD_sums a x2 (gD x4) 13 3328 416 26 27 rfl rfl rfl rfl (by decide) inb_S80x8192_S80x256_0_3328 inb_S1024x512_S32x512_416_0 slices_S64x512_o26_0_S1x512 slices_S64x512_o27_0_S1x512 (sum_v318 x2 x3 x4 x5 x6 x7 a sc)))

/-- The running sum after 17 steps. -/
theorem sum_v414 (x2 : Vec Ideal S1024x512 .i32) (x3 : Vec Ideal S1024x512 .i32) (x4 : Vec Ideal S64x512 .fp8e4m3) (x5 : Vec Ideal S64x512 .fp8e4m3) (x6 : Vec Ideal S1x512 .f32) (x7 : Vec Ideal S1x512 .f32) (a : Vec Ideal S80x8192 .bf16) (sc : Vec Ideal S72x128 .f32) :
    Sums (at2 (α := EReal) a) (at2 (α := BitVec 32) x2) (at2 (α := EReal) (gD x4)) 17 (c_v414 x2 x3 x4 x5 x6 x7 a sc) := by
  have e : (c_v414 x2 x3 x4 x5 x6 x7 a sc) = (stepD (stepD (c_v366 x2 x3 x4 x5 x6 x7 a sc) (c_v388 x2 x3 x4 x5 x6 x7 a sc) (nibD (c_v367 x2 x3 x4 x5 x6 x7 a sc)) (sclD 30 (gD x4) slices_S64x512_o30_0_S1x512) (sclD 31 (gD x4) slices_S64x512_o31_0_S1x512)) (c_v412 x2 x3 x4 x5 x6 x7 a sc) (nibD (c_v391 x2 x3 x4 x5 x6 x7 a sc)) (sclD 32 (gD x4) slices_S64x512_o32_0_S1x512) (sclD 33 (gD x4) slices_S64x512_o33_0_S1x512)) := rfl
  rw [e]
  exact (stepD_sums a x2 (gD x4) 16 4096 512 32 33 rfl rfl rfl rfl (by decide) inb_S80x8192_S80x256_0_4096 inb_S1024x512_S32x512_512_0 slices_S64x512_o32_0_S1x512 slices_S64x512_o33_0_S1x512 (stepD_sums a x2 (gD x4) 15 3840 480 30 31 rfl rfl rfl rfl (by decide) inb_S80x8192_S80x256_0_3840 inb_S1024x512_S32x512_480_0 slices_S64x512_o30_0_S1x512 slices_S64x512_o31_0_S1x512 (sum_v366 x2 x3 x4 x5 x6 x7 a sc)))

/-- The running sum after 19 steps. -/
theorem sum_v462 (x2 : Vec Ideal S1024x512 .i32) (x3 : Vec Ideal S1024x512 .i32) (x4 : Vec Ideal S64x512 .fp8e4m3) (x5 : Vec Ideal S64x512 .fp8e4m3) (x6 : Vec Ideal S1x512 .f32) (x7 : Vec Ideal S1x512 .f32) (a : Vec Ideal S80x8192 .bf16) (sc : Vec Ideal S72x128 .f32) :
    Sums (at2 (α := EReal) a) (at2 (α := BitVec 32) x2) (at2 (α := EReal) (gD x4)) 19 (c_v462 x2 x3 x4 x5 x6 x7 a sc) := by
  have e : (c_v462 x2 x3 x4 x5 x6 x7 a sc) = (stepD (stepD (c_v414 x2 x3 x4 x5 x6 x7 a sc) (c_v436 x2 x3 x4 x5 x6 x7 a sc) (nibD (c_v415 x2 x3 x4 x5 x6 x7 a sc)) (sclD 34 (gD x4) slices_S64x512_o34_0_S1x512) (sclD 35 (gD x4) slices_S64x512_o35_0_S1x512)) (c_v460 x2 x3 x4 x5 x6 x7 a sc) (nibD (c_v439 x2 x3 x4 x5 x6 x7 a sc)) (sclD 36 (gD x4) slices_S64x512_o36_0_S1x512) (sclD 37 (gD x4) slices_S64x512_o37_0_S1x512)) := rfl
  rw [e]
  exact (stepD_sums a x2 (gD x4) 18 4608 576 36 37 rfl rfl rfl rfl (by decide) inb_S80x8192_S80x256_0_4608 inb_S1024x512_S32x512_576_0 slices_S64x512_o36_0_S1x512 slices_S64x512_o37_0_S1x512 (stepD_sums a x2 (gD x4) 17 4352 544 34 35 rfl rfl rfl rfl (by decide) inb_S80x8192_S80x256_0_4352 inb_S1024x512_S32x512_544_0 slices_S64x512_o34_0_S1x512 slices_S64x512_o35_0_S1x512 (sum_v414 x2 x3 x4 x5 x6 x7 a sc)))

/-- The running sum after 21 steps. -/
theorem sum_v510 (x2 : Vec Ideal S1024x512 .i32) (x3 : Vec Ideal S1024x512 .i32) (x4 : Vec Ideal S64x512 .fp8e4m3) (x5 : Vec Ideal S64x512 .fp8e4m3) (x6 : Vec Ideal S1x512 .f32) (x7 : Vec Ideal S1x512 .f32) (a : Vec Ideal S80x8192 .bf16) (sc : Vec Ideal S72x128 .f32) :
    Sums (at2 (α := EReal) a) (at2 (α := BitVec 32) x2) (at2 (α := EReal) (gD x4)) 21 (c_v510 x2 x3 x4 x5 x6 x7 a sc) := by
  have e : (c_v510 x2 x3 x4 x5 x6 x7 a sc) = (stepD (stepD (c_v462 x2 x3 x4 x5 x6 x7 a sc) (c_v484 x2 x3 x4 x5 x6 x7 a sc) (nibD (c_v463 x2 x3 x4 x5 x6 x7 a sc)) (sclD 38 (gD x4) slices_S64x512_o38_0_S1x512) (sclD 39 (gD x4) slices_S64x512_o39_0_S1x512)) (c_v508 x2 x3 x4 x5 x6 x7 a sc) (nibD (c_v487 x2 x3 x4 x5 x6 x7 a sc)) (sclD 40 (gD x4) slices_S64x512_o40_0_S1x512) (sclD 41 (gD x4) slices_S64x512_o41_0_S1x512)) := rfl
  rw [e]
  exact (stepD_sums a x2 (gD x4) 20 5120 640 40 41 rfl rfl rfl rfl (by decide) inb_S80x8192_S80x256_0_5120 inb_S1024x512_S32x512_640_0 slices_S64x512_o40_0_S1x512 slices_S64x512_o41_0_S1x512 (stepD_sums a x2 (gD x4) 19 4864 608 38 39 rfl rfl rfl rfl (by decide) inb_S80x8192_S80x256_0_4864 inb_S1024x512_S32x512_608_0 slices_S64x512_o38_0_S1x512 slices_S64x512_o39_0_S1x512 (sum_v462 x2 x3 x4 x5 x6 x7 a sc)))

/-- The running sum after 23 steps. -/
theorem sum_v558 (x2 : Vec Ideal S1024x512 .i32) (x3 : Vec Ideal S1024x512 .i32) (x4 : Vec Ideal S64x512 .fp8e4m3) (x5 : Vec Ideal S64x512 .fp8e4m3) (x6 : Vec Ideal S1x512 .f32) (x7 : Vec Ideal S1x512 .f32) (a : Vec Ideal S80x8192 .bf16) (sc : Vec Ideal S72x128 .f32) :
    Sums (at2 (α := EReal) a) (at2 (α := BitVec 32) x2) (at2 (α := EReal) (gD x4)) 23 (c_v558 x2 x3 x4 x5 x6 x7 a sc) := by
  have e : (c_v558 x2 x3 x4 x5 x6 x7 a sc) = (stepD (stepD (c_v510 x2 x3 x4 x5 x6 x7 a sc) (c_v532 x2 x3 x4 x5 x6 x7 a sc) (nibD (c_v511 x2 x3 x4 x5 x6 x7 a sc)) (sclD 42 (gD x4) slices_S64x512_o42_0_S1x512) (sclD 43 (gD x4) slices_S64x512_o43_0_S1x512)) (c_v556 x2 x3 x4 x5 x6 x7 a sc) (nibD (c_v535 x2 x3 x4 x5 x6 x7 a sc)) (sclD 44 (gD x4) slices_S64x512_o44_0_S1x512) (sclD 45 (gD x4) slices_S64x512_o45_0_S1x512)) := rfl
  rw [e]
  exact (stepD_sums a x2 (gD x4) 22 5632 704 44 45 rfl rfl rfl rfl (by decide) inb_S80x8192_S80x256_0_5632 inb_S1024x512_S32x512_704_0 slices_S64x512_o44_0_S1x512 slices_S64x512_o45_0_S1x512 (stepD_sums a x2 (gD x4) 21 5376 672 42 43 rfl rfl rfl rfl (by decide) inb_S80x8192_S80x256_0_5376 inb_S1024x512_S32x512_672_0 slices_S64x512_o42_0_S1x512 slices_S64x512_o43_0_S1x512 (sum_v510 x2 x3 x4 x5 x6 x7 a sc)))

/-- The running sum after 25 steps. -/
theorem sum_v606 (x2 : Vec Ideal S1024x512 .i32) (x3 : Vec Ideal S1024x512 .i32) (x4 : Vec Ideal S64x512 .fp8e4m3) (x5 : Vec Ideal S64x512 .fp8e4m3) (x6 : Vec Ideal S1x512 .f32) (x7 : Vec Ideal S1x512 .f32) (a : Vec Ideal S80x8192 .bf16) (sc : Vec Ideal S72x128 .f32) :
    Sums (at2 (α := EReal) a) (at2 (α := BitVec 32) x2) (at2 (α := EReal) (gD x4)) 25 (c_v606 x2 x3 x4 x5 x6 x7 a sc) := by
  have e : (c_v606 x2 x3 x4 x5 x6 x7 a sc) = (stepD (stepD (c_v558 x2 x3 x4 x5 x6 x7 a sc) (c_v580 x2 x3 x4 x5 x6 x7 a sc) (nibD (c_v559 x2 x3 x4 x5 x6 x7 a sc)) (sclD 46 (gD x4) slices_S64x512_o46_0_S1x512) (sclD 47 (gD x4) slices_S64x512_o47_0_S1x512)) (c_v604 x2 x3 x4 x5 x6 x7 a sc) (nibD (c_v583 x2 x3 x4 x5 x6 x7 a sc)) (sclD 48 (gD x4) slices_S64x512_o48_0_S1x512) (sclD 49 (gD x4) slices_S64x512_o49_0_S1x512)) := rfl
  rw [e]
  exact (stepD_sums a x2 (gD x4) 24 6144 768 48 49 rfl rfl rfl rfl (by decide) inb_S80x8192_S80x256_0_6144 inb_S1024x512_S32x512_768_0 slices_S64x512_o48_0_S1x512 slices_S64x512_o49_0_S1x512 (stepD_sums a x2 (gD x4) 23 5888 736 46 47 rfl rfl rfl rfl (by decide) inb_S80x8192_S80x256_0_5888 inb_S1024x512_S32x512_736_0 slices_S64x512_o46_0_S1x512 slices_S64x512_o47_0_S1x512 (sum_v558 x2 x3 x4 x5 x6 x7 a sc)))

/-- The running sum after 27 steps. -/
theorem sum_v654 (x2 : Vec Ideal S1024x512 .i32) (x3 : Vec Ideal S1024x512 .i32) (x4 : Vec Ideal S64x512 .fp8e4m3) (x5 : Vec Ideal S64x512 .fp8e4m3) (x6 : Vec Ideal S1x512 .f32) (x7 : Vec Ideal S1x512 .f32) (a : Vec Ideal S80x8192 .bf16) (sc : Vec Ideal S72x128 .f32) :
    Sums (at2 (α := EReal) a) (at2 (α := BitVec 32) x2) (at2 (α := EReal) (gD x4)) 27 (c_v654 x2 x3 x4 x5 x6 x7 a sc) := by
  have e : (c_v654 x2 x3 x4 x5 x6 x7 a sc) = (stepD (stepD (c_v606 x2 x3 x4 x5 x6 x7 a sc) (c_v628 x2 x3 x4 x5 x6 x7 a sc) (nibD (c_v607 x2 x3 x4 x5 x6 x7 a sc)) (sclD 50 (gD x4) slices_S64x512_o50_0_S1x512) (sclD 51 (gD x4) slices_S64x512_o51_0_S1x512)) (c_v652 x2 x3 x4 x5 x6 x7 a sc) (nibD (c_v631 x2 x3 x4 x5 x6 x7 a sc)) (sclD 52 (gD x4) slices_S64x512_o52_0_S1x512) (sclD 53 (gD x4) slices_S64x512_o53_0_S1x512)) := rfl
  rw [e]
  exact (stepD_sums a x2 (gD x4) 26 6656 832 52 53 rfl rfl rfl rfl (by decide) inb_S80x8192_S80x256_0_6656 inb_S1024x512_S32x512_832_0 slices_S64x512_o52_0_S1x512 slices_S64x512_o53_0_S1x512 (stepD_sums a x2 (gD x4) 25 6400 800 50 51 rfl rfl rfl rfl (by decide) inb_S80x8192_S80x256_0_6400 inb_S1024x512_S32x512_800_0 slices_S64x512_o50_0_S1x512 slices_S64x512_o51_0_S1x512 (sum_v606 x2 x3 x4 x5 x6 x7 a sc)))

/-- The running sum after 29 steps. -/
theorem sum_v702 (x2 : Vec Ideal S1024x512 .i32) (x3 : Vec Ideal S1024x512 .i32) (x4 : Vec Ideal S64x512 .fp8e4m3) (x5 : Vec Ideal S64x512 .fp8e4m3) (x6 : Vec Ideal S1x512 .f32) (x7 : Vec Ideal S1x512 .f32) (a : Vec Ideal S80x8192 .bf16) (sc : Vec Ideal S72x128 .f32) :
    Sums (at2 (α := EReal) a) (at2 (α := BitVec 32) x2) (at2 (α := EReal) (gD x4)) 29 (c_v702 x2 x3 x4 x5 x6 x7 a sc) := by
  have e : (c_v702 x2 x3 x4 x5 x6 x7 a sc) = (stepD (stepD (c_v654 x2 x3 x4 x5 x6 x7 a sc) (c_v676 x2 x3 x4 x5 x6 x7 a sc) (nibD (c_v655 x2 x3 x4 x5 x6 x7 a sc)) (sclD 54 (gD x4) slices_S64x512_o54_0_S1x512) (sclD 55 (gD x4) slices_S64x512_o55_0_S1x512)) (c_v700 x2 x3 x4 x5 x6 x7 a sc) (nibD (c_v679 x2 x3 x4 x5 x6 x7 a sc)) (sclD 56 (gD x4) slices_S64x512_o56_0_S1x512) (sclD 57 (gD x4) slices_S64x512_o57_0_S1x512)) := rfl
  rw [e]
  exact (stepD_sums a x2 (gD x4) 28 7168 896 56 57 rfl rfl rfl rfl (by decide) inb_S80x8192_S80x256_0_7168 inb_S1024x512_S32x512_896_0 slices_S64x512_o56_0_S1x512 slices_S64x512_o57_0_S1x512 (stepD_sums a x2 (gD x4) 27 6912 864 54 55 rfl rfl rfl rfl (by decide) inb_S80x8192_S80x256_0_6912 inb_S1024x512_S32x512_864_0 slices_S64x512_o54_0_S1x512 slices_S64x512_o55_0_S1x512 (sum_v654 x2 x3 x4 x5 x6 x7 a sc)))

/-- The running sum after 31 steps. -/
theorem sum_v750 (x2 : Vec Ideal S1024x512 .i32) (x3 : Vec Ideal S1024x512 .i32) (x4 : Vec Ideal S64x512 .fp8e4m3) (x5 : Vec Ideal S64x512 .fp8e4m3) (x6 : Vec Ideal S1x512 .f32) (x7 : Vec Ideal S1x512 .f32) (a : Vec Ideal S80x8192 .bf16) (sc : Vec Ideal S72x128 .f32) :
    Sums (at2 (α := EReal) a) (at2 (α := BitVec 32) x2) (at2 (α := EReal) (gD x4)) 31 (c_v750 x2 x3 x4 x5 x6 x7 a sc) := by
  have e : (c_v750 x2 x3 x4 x5 x6 x7 a sc) = (stepD (stepD (c_v702 x2 x3 x4 x5 x6 x7 a sc) (c_v724 x2 x3 x4 x5 x6 x7 a sc) (nibD (c_v703 x2 x3 x4 x5 x6 x7 a sc)) (sclD 58 (gD x4) slices_S64x512_o58_0_S1x512) (sclD 59 (gD x4) slices_S64x512_o59_0_S1x512)) (c_v748 x2 x3 x4 x5 x6 x7 a sc) (nibD (c_v727 x2 x3 x4 x5 x6 x7 a sc)) (sclD 60 (gD x4) slices_S64x512_o60_0_S1x512) (sclD 61 (gD x4) slices_S64x512_o61_0_S1x512)) := rfl
  rw [e]
  exact (stepD_sums a x2 (gD x4) 30 7680 960 60 61 rfl rfl rfl rfl (by decide) inb_S80x8192_S80x256_0_7680 inb_S1024x512_S32x512_960_0 slices_S64x512_o60_0_S1x512 slices_S64x512_o61_0_S1x512 (stepD_sums a x2 (gD x4) 29 7424 928 58 59 rfl rfl rfl rfl (by decide) inb_S80x8192_S80x256_0_7424 inb_S1024x512_S32x512_928_0 slices_S64x512_o58_0_S1x512 slices_S64x512_o59_0_S1x512 (sum_v702 x2 x3 x4 x5 x6 x7 a sc)))

/-- The running sum after 2 steps. -/
theorem sum_v832 (x2 : Vec Ideal S1024x512 .i32) (x3 : Vec Ideal S1024x512 .i32) (x4 : Vec Ideal S64x512 .fp8e4m3) (x5 : Vec Ideal S64x512 .fp8e4m3) (x6 : Vec Ideal S1x512 .f32) (x7 : Vec Ideal S1x512 .f32) (a : Vec Ideal S80x8192 .bf16) (sc : Vec Ideal S72x128 .f32) :
    Sums (at2 (α := EReal) a) (at2 (α := BitVec 32) x3) (at2 (α := EReal) (gD x5)) 2 (c_v832 x2 x3 x4 x5 x6 x7 a sc) := by
  have e : (c_v832 x2 x3 x4 x5 x6 x7 a sc) = (stepD (stepD zeroV (c_v806 x2 x3 x4 x5 x6 x7 a sc) (nibD (c_v785 x2 x3 x4 x5 x6 x7 a sc)) (sclD 0 (gD x5) slices_S64x512_o0_0_S1x512) (sclD 1 (gD x5) slices_S64x512_o1_0_S1x512)) (c_v830 x2 x3 x4 x5 x6 x7 a sc) (nibD (c_v809 x2 x3 x4 x5 x6 x7 a sc)) (sclD 2 (gD x5) slices_S64x512_o2_0_S1x512) (sclD 3 (gD x5) slices_S64x512_o3_0_S1x512)) := rfl
  rw [e]
  exact (stepD_sums a x3 (gD x5) 1 256 32 2 3 rfl rfl rfl rfl (by decide) inb_S80x8192_S80x256_0_256 inb_S1024x512_S32x512_32_0 slices_S64x512_o2_0_S1x512 slices_S64x512_o3_0_S1x512 (stepD_sums a x3 (gD x5) 0 0 0 0 1 rfl rfl rfl rfl (by decide) inb_S80x8192_S80x256_0_0 inb_S1024x512_S32x512_0_0 slices_S64x512_o0_0_S1x512 slices_S64x512_o1_0_S1x512 (Sums.zero _ _ _)))

/-- The running sum after 4 steps. -/
theorem sum_v880 (x2 : Vec Ideal S1024x512 .i32) (x3 : Vec Ideal S1024x512 .i32) (x4 : Vec Ideal S64x512 .fp8e4m3) (x5 : Vec Ideal S64x512 .fp8e4m3) (x6 : Vec Ideal S1x512 .f32) (x7 : Vec Ideal S1x512 .f32) (a : Vec Ideal S80x8192 .bf16) (sc : Vec Ideal S72x128 .f32) :
    Sums (at2 (α := EReal) a) (at2 (α := BitVec 32) x3) (at2 (α := EReal) (gD x5)) 4 (c_v880 x2 x3 x4 x5 x6 x7 a sc) := by
  have e : (c_v880 x2 x3 x4 x5 x6 x7 a sc) = (stepD (stepD (c_v832 x2 x3 x4 x5 x6 x7 a sc) (c_v854 x2 x3 x4 x5 x6 x7 a sc) (nibD (c_v833 x2 x3 x4 x5 x6 x7 a sc)) (sclD 4 (gD x5) slices_S64x512_o4_0_S1x512) (sclD 5 (gD x5) slices_S64x512_o5_0_S1x512)) (c_v878 x2 x3 x4 x5 x6 x7 a sc) (nibD (c_v857 x2 x3 x4 x5 x6 x7 a sc)) (sclD 6 (gD x5) slices_S64x512_o6_0_S1x512) (sclD 7 (gD x5) slices_S64x512_o7_0_S1x512)) := rfl
  rw [e]
  exact (stepD_sums a x3 (gD x5) 3 768 96 6 7 rfl rfl rfl rfl (by decide) inb_S80x8192_S80x256_0_768 inb_S1024x512_S32x512_96_0 slices_S64x512_o6_0_S1x512 slices_S64x512_o7_0_S1x512 (stepD_sums a x3 (gD x5) 2 512 64 4 5 rfl rfl rfl rfl (by decide) inb_S80x8192_S80x256_0_512 inb_S1024x512_S32x512_64_0 slices_S64x512_o4_0_S1x512 slices_S64x512_o5_0_S1x512 (sum_v832 x2 x3 x4 x5 x6 x7 a sc)))

/-- The running sum after 6 steps. -/
theorem sum_v928 (x2 : Vec Ideal S1024x512 .i32) (x3 : Vec Ideal S1024x512 .i32) (x4 : Vec Ideal S64x512 .fp8e4m3) (x5 : Vec Ideal S64x512 .fp8e4m3) (x6 : Vec Ideal S1x512 .f32) (x7 : Vec Ideal S1x512 .f32) (a : Vec Ideal S80x8192 .bf16) (sc : Vec Ideal S72x128 .f32) :
    Sums (at2 (α := EReal) a) (at2 (α := BitVec 32) x3) (at2 (α := EReal) (gD x5)) 6 (c_v928 x2 x3 x4 x5 x6 x7 a sc) := by
  have e : (c_v928 x2 x3 x4 x5 x6 x7 a sc) = (stepD (stepD (c_v880 x2 x3 x4 x5 x6 x7 a sc) (c_v902 x2 x3 x4 x5 x6 x7 a sc) (nibD (c_v881 x2 x3 x4 x5 x6 x7 a sc)) (sclD 8 (gD x5) slices_S64x512_o8_0_S1x512) (sclD 9 (gD x5) slices_S64x512_o9_0_S1x512)) (c_v926 x2 x3 x4 x5 x6 x7 a sc) (nibD (c_v905 x2 x3 x4 x5 x6 x7 a sc)) (sclD 10 (gD x5) slices_S64x512_o10_0_S1x512) (sclD 11 (gD x5) slices_S64x512_o11_0_S1x512)) := rfl
  rw [e]
  exact (stepD_sums a x3 (gD x5) 5 1280 160 10 11 rfl rfl rfl rfl (by decide) inb_S80x8192_S80x256_0_1280 inb_S1024x512_S32x512_160_0 slices_S64x512_o10_0_S1x512 slices_S64x512_o11_0_S1x512 (stepD_sums a x3 (gD x5) 4 1024 128 8 9 rfl rfl rfl rfl (by decide) inb_S80x8192_S80x256_0_1024 inb_S1024x512_S32x512_128_0 slices_S64x512_o8_0_S1x512 slices_S64x512_o9_0_S1x512 (sum_v880 x2 x3 x4 x5 x6 x7 a sc)))

/-- The running sum after 8 steps. -/
theorem sum_v976 (x2 : Vec Ideal S1024x512 .i32) (x3 : Vec Ideal S1024x512 .i32) (x4 : Vec Ideal S64x512 .fp8e4m3) (x5 : Vec Ideal S64x512 .fp8e4m3) (x6 : Vec Ideal S1x512 .f32) (x7 : Vec Ideal S1x512 .f32) (a : Vec Ideal S80x8192 .bf16) (sc : Vec Ideal S72x128 .f32) :
    Sums (at2 (α := EReal) a) (at2 (α := BitVec 32) x3) (at2 (α := EReal) (gD x5)) 8 (c_v976 x2 x3 x4 x5 x6 x7 a sc) := by
  have e : (c_v976 x2 x3 x4 x5 x6 x7 a sc) = (stepD (stepD (c_v928 x2 x3 x4 x5 x6 x7 a sc) (c_v950 x2 x3 x4 x5 x6 x7 a sc) (nibD (c_v929 x2 x3 x4 x5 x6 x7 a sc)) (sclD 12 (gD x5) slices_S64x512_o12_0_S1x512) (sclD 13 (gD x5) slices_S64x512_o13_0_S1x512)) (c_v974 x2 x3 x4 x5 x6 x7 a sc) (nibD (c_v953 x2 x3 x4 x5 x6 x7 a sc)) (sclD 14 (gD x5) slices_S64x512_o14_0_S1x512) (sclD 15 (gD x5) slices_S64x512_o15_0_S1x512)) := rfl
  rw [e]
  exact (stepD_sums a x3 (gD x5) 7 1792 224 14 15 rfl rfl rfl rfl (by decide) inb_S80x8192_S80x256_0_1792 inb_S1024x512_S32x512_224_0 slices_S64x512_o14_0_S1x512 slices_S64x512_o15_0_S1x512 (stepD_sums a x3 (gD x5) 6 1536 192 12 13 rfl rfl rfl rfl (by decide) inb_S80x8192_S80x256_0_1536 inb_S1024x512_S32x512_192_0 slices_S64x512_o12_0_S1x512 slices_S64x512_o13_0_S1x512 (sum_v928 x2 x3 x4 x5 x6 x7 a sc)))

/-- The running sum after 10 steps. -/
theorem sum_v1024 (x2 : Vec Ideal S1024x512 .i32) (x3 : Vec Ideal S1024x512 .i32) (x4 : Vec Ideal S64x512 .fp8e4m3) (x5 : Vec Ideal S64x512 .fp8e4m3) (x6 : Vec Ideal S1x512 .f32) (x7 : Vec Ideal S1x512 .f32) (a : Vec Ideal S80x8192 .bf16) (sc : Vec Ideal S72x128 .f32) :
    Sums (at2 (α := EReal) a) (at2 (α := BitVec 32) x3) (at2 (α := EReal) (gD x5)) 10 (c_v1024 x2 x3 x4 x5 x6 x7 a sc) := by
  have e : (c_v1024 x2 x3 x4 x5 x6 x7 a sc) = (stepD (stepD (c_v976 x2 x3 x4 x5 x6 x7 a sc) (c_v998 x2 x3 x4 x5 x6 x7 a sc) (nibD (c_v977 x2 x3 x4 x5 x6 x7 a sc)) (sclD 16 (gD x5) slices_S64x512_o16_0_S1x512) (sclD 17 (gD x5) slices_S64x512_o17_0_S1x512)) (c_v1022 x2 x3 x4 x5 x6 x7 a sc) (nibD (c_v1001 x2 x3 x4 x5 x6 x7 a sc)) (sclD 18 (gD x5) slices_S64x512_o18_0_S1x512) (sclD 19 (gD x5) slices_S64x512_o19_0_S1x512)) := rfl
  rw [e]
  exact (stepD_sums a x3 (gD x5) 9 2304 288 18 19 rfl rfl rfl rfl (by decide) inb_S80x8192_S80x256_0_2304 inb_S1024x512_S32x512_288_0 slices_S64x512_o18_0_S1x512 slices_S64x512_o19_0_S1x512 (stepD_sums a x3 (gD x5) 8 2048 256 16 17 rfl rfl rfl rfl (by decide) inb_S80x8192_S80x256_0_2048 inb_S1024x512_S32x512_256_0 slices_S64x512_o16_0_S1x512 slices_S64x512_o17_0_S1x512 (sum_v976 x2 x3 x4 x5 x6 x7 a sc)))

/-- The running sum after 12 steps. -/
theorem sum_v1072 (x2 : Vec Ideal S1024x512 .i32) (x3 : Vec Ideal S1024x512 .i32) (x4 : Vec Ideal S64x512 .fp8e4m3) (x5 : Vec Ideal S64x512 .fp8e4m3) (x6 : Vec Ideal S1x512 .f32) (x7 : Vec Ideal S1x512 .f32) (a : Vec Ideal S80x8192 .bf16) (sc : Vec Ideal S72x128 .f32) :
    Sums (at2 (α := EReal) a) (at2 (α := BitVec 32) x3) (at2 (α := EReal) (gD x5)) 12 (c_v1072 x2 x3 x4 x5 x6 x7 a sc) := by
  have e : (c_v1072 x2 x3 x4 x5 x6 x7 a sc) = (stepD (stepD (c_v1024 x2 x3 x4 x5 x6 x7 a sc) (c_v1046 x2 x3 x4 x5 x6 x7 a sc) (nibD (c_v1025 x2 x3 x4 x5 x6 x7 a sc)) (sclD 20 (gD x5) slices_S64x512_o20_0_S1x512) (sclD 21 (gD x5) slices_S64x512_o21_0_S1x512)) (c_v1070 x2 x3 x4 x5 x6 x7 a sc) (nibD (c_v1049 x2 x3 x4 x5 x6 x7 a sc)) (sclD 22 (gD x5) slices_S64x512_o22_0_S1x512) (sclD 23 (gD x5) slices_S64x512_o23_0_S1x512)) := rfl
  rw [e]
  exact (stepD_sums a x3 (gD x5) 11 2816 352 22 23 rfl rfl rfl rfl (by decide) inb_S80x8192_S80x256_0_2816 inb_S1024x512_S32x512_352_0 slices_S64x512_o22_0_S1x512 slices_S64x512_o23_0_S1x512 (stepD_sums a x3 (gD x5) 10 2560 320 20 21 rfl rfl rfl rfl (by decide) inb_S80x8192_S80x256_0_2560 inb_S1024x512_S32x512_320_0 slices_S64x512_o20_0_S1x512 slices_S64x512_o21_0_S1x512 (sum_v1024 x2 x3 x4 x5 x6 x7 a sc)))

/-- The running sum after 14 steps. -/
theorem sum_v1120 (x2 : Vec Ideal S1024x512 .i32) (x3 : Vec Ideal S1024x512 .i32) (x4 : Vec Ideal S64x512 .fp8e4m3) (x5 : Vec Ideal S64x512 .fp8e4m3) (x6 : Vec Ideal S1x512 .f32) (x7 : Vec Ideal S1x512 .f32) (a : Vec Ideal S80x8192 .bf16) (sc : Vec Ideal S72x128 .f32) :
    Sums (at2 (α := EReal) a) (at2 (α := BitVec 32) x3) (at2 (α := EReal) (gD x5)) 14 (c_v1120 x2 x3 x4 x5 x6 x7 a sc) := by
  have e : (c_v1120 x2 x3 x4 x5 x6 x7 a sc) = (stepD (stepD (c_v1072 x2 x3 x4 x5 x6 x7 a sc) (c_v1094 x2 x3 x4 x5 x6 x7 a sc) (nibD (c_v1073 x2 x3 x4 x5 x6 x7 a sc)) (sclD 24 (gD x5) slices_S64x512_o24_0_S1x512) (sclD 25 (gD x5) slices_S64x512_o25_0_S1x512)) (c_v1118 x2 x3 x4 x5 x6 x7 a sc) (nibD (c_v1097 x2 x3 x4 x5 x6 x7 a sc)) (sclD 26 (gD x5) slices_S64x512_o26_0_S1x512) (sclD 27 (gD x5) slices_S64x512_o27_0_S1x512)) := rfl
  rw [e]
  exact (stepD_sums a x3 (gD x5) 13 3328 416 26 27 rfl rfl rfl rfl (by decide) inb_S80x8192_S80x256_0_3328 inb_S1024x512_S32x512_416_0 slices_S64x512_o26_0_S1x512 slices_S64x512_o27_0_S1x512 (stepD_sums a x3 (gD x5) 12 3072 384 24 25 rfl rfl rfl rfl (by decide) inb_S80x8192_S80x256_0_3072 inb_S1024x512_S32x512_384_0 slices_S64x512_o24_0_S1x512 slices_S64x512_o25_0_S1x512 (sum_v1072 x2 x3 x4 x5 x6 x7 a sc)))

/-- The running sum after 16 steps. -/
theorem sum_v1168 (x2 : Vec Ideal S1024x512 .i32) (x3 : Vec Ideal S1024x512 .i32) (x4 : Vec Ideal S64x512 .fp8e4m3) (x5 : Vec Ideal S64x512 .fp8e4m3) (x6 : Vec Ideal S1x512 .f32) (x7 : Vec Ideal S1x512 .f32) (a : Vec Ideal S80x8192 .bf16) (sc : Vec Ideal S72x128 .f32) :
    Sums (at2 (α := EReal) a) (at2 (α := BitVec 32) x3) (at2 (α := EReal) (gD x5)) 16 (c_v1168 x2 x3 x4 x5 x6 x7 a sc) := by
  have e : (c_v1168 x2 x3 x4 x5 x6 x7 a sc) = (stepD (stepD (c_v1120 x2 x3 x4 x5 x6 x7 a sc) (c_v1142 x2 x3 x4 x5 x6 x7 a sc) (nibD (c_v1121 x2 x3 x4 x5 x6 x7 a sc)) (sclD 28 (gD x5) slices_S64x512_o28_0_S1x512) (sclD 29 (gD x5) slices_S64x512_o29_0_S1x512)) (c_v1166 x2 x3 x4 x5 x6 x7 a sc) (nibD (c_v1145 x2 x3 x4 x5 x6 x7 a sc)) (sclD 30 (gD x5) slices_S64x512_o30_0_S1x512) (sclD 31 (gD x5) slices_S64x512_o31_0_S1x512)) := rfl
  rw [e]
  exact (stepD_sums a x3 (gD x5) 15 3840 480 30 31 rfl rfl rfl rfl (by decide) inb_S80x8192_S80x256_0_3840 inb_S1024x512_S32x512_480_0 slices_S64x512_o30_0_S1x512 slices_S64x512_o31_0_S1x512 (stepD_sums a x3 (gD x5) 14 3584 448 28 29 rfl rfl rfl rfl (by decide) inb_S80x8192_S80x256_0_3584 inb_S1024x512_S32x512_448_0 slices_S64x512_o28_0_S1x512 slices_S64x512_o29_0_S1x512 (sum_v1120 x2 x3 x4 x5 x6 x7 a sc)))

/-- The running sum after 18 steps. -/
theorem sum_v1216 (x2 : Vec Ideal S1024x512 .i32) (x3 : Vec Ideal S1024x512 .i32) (x4 : Vec Ideal S64x512 .fp8e4m3) (x5 : Vec Ideal S64x512 .fp8e4m3) (x6 : Vec Ideal S1x512 .f32) (x7 : Vec Ideal S1x512 .f32) (a : Vec Ideal S80x8192 .bf16) (sc : Vec Ideal S72x128 .f32) :
    Sums (at2 (α := EReal) a) (at2 (α := BitVec 32) x3) (at2 (α := EReal) (gD x5)) 18 (c_v1216 x2 x3 x4 x5 x6 x7 a sc) := by
  have e : (c_v1216 x2 x3 x4 x5 x6 x7 a sc) = (stepD (stepD (c_v1168 x2 x3 x4 x5 x6 x7 a sc) (c_v1190 x2 x3 x4 x5 x6 x7 a sc) (nibD (c_v1169 x2 x3 x4 x5 x6 x7 a sc)) (sclD 32 (gD x5) slices_S64x512_o32_0_S1x512) (sclD 33 (gD x5) slices_S64x512_o33_0_S1x512)) (c_v1214 x2 x3 x4 x5 x6 x7 a sc) (nibD (c_v1193 x2 x3 x4 x5 x6 x7 a sc)) (sclD 34 (gD x5) slices_S64x512_o34_0_S1x512) (sclD 35 (gD x5) slices_S64x512_o35_0_S1x512)) := rfl
  rw [e]
  exact (stepD_sums a x3 (gD x5) 17 4352 544 34 35 rfl rfl rfl rfl (by decide) inb_S80x8192_S80x256_0_4352 inb_S1024x512_S32x512_544_0 slices_S64x512_o34_0_S1x512 slices_S64x512_o35_0_S1x512 (stepD_sums a x3 (gD x5) 16 4096 512 32 33 rfl rfl rfl rfl (by decide) inb_S80x8192_S80x256_0_4096 inb_S1024x512_S32x512_512_0 slices_S64x512_o32_0_S1x512 slices_S64x512_o33_0_S1x512 (sum_v1168 x2 x3 x4 x5 x6 x7 a sc)))

/-- The running sum after 20 steps. -/
theorem sum_v1264 (x2 : Vec Ideal S1024x512 .i32) (x3 : Vec Ideal S1024x512 .i32) (x4 : Vec Ideal S64x512 .fp8e4m3) (x5 : Vec Ideal S64x512 .fp8e4m3) (x6 : Vec Ideal S1x512 .f32) (x7 : Vec Ideal S1x512 .f32) (a : Vec Ideal S80x8192 .bf16) (sc : Vec Ideal S72x128 .f32) :
    Sums (at2 (α := EReal) a) (at2 (α := BitVec 32) x3) (at2 (α := EReal) (gD x5)) 20 (c_v1264 x2 x3 x4 x5 x6 x7 a sc) := by
  have e : (c_v1264 x2 x3 x4 x5 x6 x7 a sc) = (stepD (stepD (c_v1216 x2 x3 x4 x5 x6 x7 a sc) (c_v1238 x2 x3 x4 x5 x6 x7 a sc) (nibD (c_v1217 x2 x3 x4 x5 x6 x7 a sc)) (sclD 36 (gD x5) slices_S64x512_o36_0_S1x512) (sclD 37 (gD x5) slices_S64x512_o37_0_S1x512)) (c_v1262 x2 x3 x4 x5 x6 x7 a sc) (nibD (c_v1241 x2 x3 x4 x5 x6 x7 a sc)) (sclD 38 (gD x5) slices_S64x512_o38_0_S1x512) (sclD 39 (gD x5) slices_S64x512_o39_0_S1x512)) := rfl
  rw [e]
  exact (stepD_sums a x3 (gD x5) 19 4864 608 38 39 rfl rfl rfl rfl (by decide) inb_S80x8192_S80x256_0_4864 inb_S1024x512_S32x512_608_0 slices_S64x512_o38_0_S1x512 slices_S64x512_o39_0_S1x512 (stepD_sums a x3 (gD x5) 18 4608 576 36 37 rfl rfl rfl rfl (by decide) inb_S80x8192_S80x256_0_4608 inb_S1024x512_S32x512_576_0 slices_S64x512_o36_0_S1x512 slices_S64x512_o37_0_S1x512 (sum_v1216 x2 x3 x4 x5 x6 x7 a sc)))

/-- The running sum after 22 steps. -/
theorem sum_v1312 (x2 : Vec Ideal S1024x512 .i32) (x3 : Vec Ideal S1024x512 .i32) (x4 : Vec Ideal S64x512 .fp8e4m3) (x5 : Vec Ideal S64x512 .fp8e4m3) (x6 : Vec Ideal S1x512 .f32) (x7 : Vec Ideal S1x512 .f32) (a : Vec Ideal S80x8192 .bf16) (sc : Vec Ideal S72x128 .f32) :
    Sums (at2 (α := EReal) a) (at2 (α := BitVec 32) x3) (at2 (α := EReal) (gD x5)) 22 (c_v1312 x2 x3 x4 x5 x6 x7 a sc) := by
  have e : (c_v1312 x2 x3 x4 x5 x6 x7 a sc) = (stepD (stepD (c_v1264 x2 x3 x4 x5 x6 x7 a sc) (c_v1286 x2 x3 x4 x5 x6 x7 a sc) (nibD (c_v1265 x2 x3 x4 x5 x6 x7 a sc)) (sclD 40 (gD x5) slices_S64x512_o40_0_S1x512) (sclD 41 (gD x5) slices_S64x512_o41_0_S1x512)) (c_v1310 x2 x3 x4 x5 x6 x7 a sc) (nibD (c_v1289 x2 x3 x4 x5 x6 x7 a sc)) (sclD 42 (gD x5) slices_S64x512_o42_0_S1x512) (sclD 43 (gD x5) slices_S64x512_o43_0_S1x512)) := rfl
  rw [e]
  exact (stepD_sums a x3 (gD x5) 21 5376 672 42 43 rfl rfl rfl rfl (by decide) inb_S80x8192_S80x256_0_5376 inb_S1024x512_S32x512_672_0 slices_S64x512_o42_0_S1x512 slices_S64x512_o43_0_S1x512 (stepD_sums a x3 (gD x5) 20 5120 640 40 41 rfl rfl rfl rfl (by decide) inb_S80x8192_S80x256_0_5120 inb_S1024x512_S32x512_640_0 slices_S64x512_o40_0_S1x512 slices_S64x512_o41_0_S1x512 (sum_v1264 x2 x3 x4 x5 x6 x7 a sc)))

/-- The running sum after 24 steps. -/
theorem sum_v1360 (x2 : Vec Ideal S1024x512 .i32) (x3 : Vec Ideal S1024x512 .i32) (x4 : Vec Ideal S64x512 .fp8e4m3) (x5 : Vec Ideal S64x512 .fp8e4m3) (x6 : Vec Ideal S1x512 .f32) (x7 : Vec Ideal S1x512 .f32) (a : Vec Ideal S80x8192 .bf16) (sc : Vec Ideal S72x128 .f32) :
    Sums (at2 (α := EReal) a) (at2 (α := BitVec 32) x3) (at2 (α := EReal) (gD x5)) 24 (c_v1360 x2 x3 x4 x5 x6 x7 a sc) := by
  have e : (c_v1360 x2 x3 x4 x5 x6 x7 a sc) = (stepD (stepD (c_v1312 x2 x3 x4 x5 x6 x7 a sc) (c_v1334 x2 x3 x4 x5 x6 x7 a sc) (nibD (c_v1313 x2 x3 x4 x5 x6 x7 a sc)) (sclD 44 (gD x5) slices_S64x512_o44_0_S1x512) (sclD 45 (gD x5) slices_S64x512_o45_0_S1x512)) (c_v1358 x2 x3 x4 x5 x6 x7 a sc) (nibD (c_v1337 x2 x3 x4 x5 x6 x7 a sc)) (sclD 46 (gD x5) slices_S64x512_o46_0_S1x512) (sclD 47 (gD x5) slices_S64x512_o47_0_S1x512)) := rfl
  rw [e]
  exact (stepD_sums a x3 (gD x5) 23 5888 736 46 47 rfl rfl rfl rfl (by decide) inb_S80x8192_S80x256_0_5888 inb_S1024x512_S32x512_736_0 slices_S64x512_o46_0_S1x512 slices_S64x512_o47_0_S1x512 (stepD_sums a x3 (gD x5) 22 5632 704 44 45 rfl rfl rfl rfl (by decide) inb_S80x8192_S80x256_0_5632 inb_S1024x512_S32x512_704_0 slices_S64x512_o44_0_S1x512 slices_S64x512_o45_0_S1x512 (sum_v1312 x2 x3 x4 x5 x6 x7 a sc)))

/-- The running sum after 26 steps. -/
theorem sum_v1408 (x2 : Vec Ideal S1024x512 .i32) (x3 : Vec Ideal S1024x512 .i32) (x4 : Vec Ideal S64x512 .fp8e4m3) (x5 : Vec Ideal S64x512 .fp8e4m3) (x6 : Vec Ideal S1x512 .f32) (x7 : Vec Ideal S1x512 .f32) (a : Vec Ideal S80x8192 .bf16) (sc : Vec Ideal S72x128 .f32) :
    Sums (at2 (α := EReal) a) (at2 (α := BitVec 32) x3) (at2 (α := EReal) (gD x5)) 26 (c_v1408 x2 x3 x4 x5 x6 x7 a sc) := by
  have e : (c_v1408 x2 x3 x4 x5 x6 x7 a sc) = (stepD (stepD (c_v1360 x2 x3 x4 x5 x6 x7 a sc) (c_v1382 x2 x3 x4 x5 x6 x7 a sc) (nibD (c_v1361 x2 x3 x4 x5 x6 x7 a sc)) (sclD 48 (gD x5) slices_S64x512_o48_0_S1x512) (sclD 49 (gD x5) slices_S64x512_o49_0_S1x512)) (c_v1406 x2 x3 x4 x5 x6 x7 a sc) (nibD (c_v1385 x2 x3 x4 x5 x6 x7 a sc)) (sclD 50 (gD x5) slices_S64x512_o50_0_S1x512) (sclD 51 (gD x5) slices_S64x512_o51_0_S1x512)) := rfl
  rw [e]
  exact (stepD_sums a x3 (gD x5) 25 6400 800 50 51 rfl rfl rfl rfl (by decide) inb_S80x8192_S80x256_0_6400 inb_S1024x512_S32x512_800_0 slices_S64x512_o50_0_S1x512 slices_S64x512_o51_0_S1x512 (stepD_sums a x3 (gD x5) 24 6144 768 48 49 rfl rfl rfl rfl (by decide) inb_S80x8192_S80x256_0_6144 inb_S1024x512_S32x512_768_0 slices_S64x512_o48_0_S1x512 slices_S64x512_o49_0_S1x512 (sum_v1360 x2 x3 x4 x5 x6 x7 a sc)))

/-- The running sum after 28 steps. -/
theorem sum_v1456 (x2 : Vec Ideal S1024x512 .i32) (x3 : Vec Ideal S1024x512 .i32) (x4 : Vec Ideal S64x512 .fp8e4m3) (x5 : Vec Ideal S64x512 .fp8e4m3) (x6 : Vec Ideal S1x512 .f32) (x7 : Vec Ideal S1x512 .f32) (a : Vec Ideal S80x8192 .bf16) (sc : Vec Ideal S72x128 .f32) :
    Sums (at2 (α := EReal) a) (at2 (α := BitVec 32) x3) (at2 (α := EReal) (gD x5)) 28 (c_v1456 x2 x3 x4 x5 x6 x7 a sc) := by
  have e : (c_v1456 x2 x3 x4 x5 x6 x7 a sc) = (stepD (stepD (c_v1408 x2 x3 x4 x5 x6 x7 a sc) (c_v1430 x2 x3 x4 x5 x6 x7 a sc) (nibD (c_v1409 x2 x3 x4 x5 x6 x7 a sc)) (sclD 52 (gD x5) slices_S64x512_o52_0_S1x512) (sclD 53 (gD x5) slices_S64x512_o53_0_S1x512)) (c_v1454 x2 x3 x4 x5 x6 x7 a sc) (nibD (c_v1433 x2 x3 x4 x5 x6 x7 a sc)) (sclD 54 (gD x5) slices_S64x512_o54_0_S1x512) (sclD 55 (gD x5) slices_S64x512_o55_0_S1x512)) := rfl
  rw [e]
  exact (stepD_sums a x3 (gD x5) 27 6912 864 54 55 rfl rfl rfl rfl (by decide) inb_S80x8192_S80x256_0_6912 inb_S1024x512_S32x512_864_0 slices_S64x512_o54_0_S1x512 slices_S64x512_o55_0_S1x512 (stepD_sums a x3 (gD x5) 26 6656 832 52 53 rfl rfl rfl rfl (by decide) inb_S80x8192_S80x256_0_6656 inb_S1024x512_S32x512_832_0 slices_S64x512_o52_0_S1x512 slices_S64x512_o53_0_S1x512 (sum_v1408 x2 x3 x4 x5 x6 x7 a sc)))

/-- The running sum after 30 steps. -/
theorem sum_v1504 (x2 : Vec Ideal S1024x512 .i32) (x3 : Vec Ideal S1024x512 .i32) (x4 : Vec Ideal S64x512 .fp8e4m3) (x5 : Vec Ideal S64x512 .fp8e4m3) (x6 : Vec Ideal S1x512 .f32) (x7 : Vec Ideal S1x512 .f32) (a : Vec Ideal S80x8192 .bf16) (sc : Vec Ideal S72x128 .f32) :
    Sums (at2 (α := EReal) a) (at2 (α := BitVec 32) x3) (at2 (α := EReal) (gD x5)) 30 (c_v1504 x2 x3 x4 x5 x6 x7 a sc) := by
  have e : (c_v1504 x2 x3 x4 x5 x6 x7 a sc) = (stepD (stepD (c_v1456 x2 x3 x4 x5 x6 x7 a sc) (c_v1478 x2 x3 x4 x5 x6 x7 a sc) (nibD (c_v1457 x2 x3 x4 x5 x6 x7 a sc)) (sclD 56 (gD x5) slices_S64x512_o56_0_S1x512) (sclD 57 (gD x5) slices_S64x512_o57_0_S1x512)) (c_v1502 x2 x3 x4 x5 x6 x7 a sc) (nibD (c_v1481 x2 x3 x4 x5 x6 x7 a sc)) (sclD 58 (gD x5) slices_S64x512_o58_0_S1x512) (sclD 59 (gD x5) slices_S64x512_o59_0_S1x512)) := rfl
  rw [e]
  exact (stepD_sums a x3 (gD x5) 29 7424 928 58 59 rfl rfl rfl rfl (by decide) inb_S80x8192_S80x256_0_7424 inb_S1024x512_S32x512_928_0 slices_S64x512_o58_0_S1x512 slices_S64x512_o59_0_S1x512 (stepD_sums a x3 (gD x5) 28 7168 896 56 57 rfl rfl rfl rfl (by decide) inb_S80x8192_S80x256_0_7168 inb_S1024x512_S32x512_896_0 slices_S64x512_o56_0_S1x512 slices_S64x512_o57_0_S1x512 (sum_v1456 x2 x3 x4 x5 x6 x7 a sc)))

/-- The running sum after 31 steps. -/
theorem sum_v1528 (x2 : Vec Ideal S1024x512 .i32) (x3 : Vec Ideal S1024x512 .i32) (x4 : Vec Ideal S64x512 .fp8e4m3) (x5 : Vec Ideal S64x512 .fp8e4m3) (x6 : Vec Ideal S1x512 .f32) (x7 : Vec Ideal S1x512 .f32) (a : Vec Ideal S80x8192 .bf16) (sc : Vec Ideal S72x128 .f32) :
    Sums (at2 (α := EReal) a) (at2 (α := BitVec 32) x3) (at2 (α := EReal) (gD x5)) 31 (c_v1528 x2 x3 x4 x5 x6 x7 a sc) := by
  have e : (c_v1528 x2 x3 x4 x5 x6 x7 a sc) = (stepD (c_v1504 x2 x3 x4 x5 x6 x7 a sc) (c_v1526 x2 x3 x4 x5 x6 x7 a sc) (nibD (c_v1505 x2 x3 x4 x5 x6 x7 a sc)) (sclD 60 (gD x5) slices_S64x512_o60_0_S1x512) (sclD 61 (gD x5) slices_S64x512_o61_0_S1x512)) := rfl
  rw [e]
  exact (stepD_sums a x3 (gD x5) 30 7680 960 60 61 rfl rfl rfl rfl (by decide) inb_S80x8192_S80x256_0_7680 inb_S1024x512_S32x512_960_0 slices_S64x512_o60_0_S1x512 slices_S64x512_o61_0_S1x512 (sum_v1504 x2 x3 x4 x5 x6 x7 a sc))

/-- The whole product, 32 steps. -/
def coreV0 (x2 : Vec Ideal S1024x512 .i32) (x3 : Vec Ideal S1024x512 .i32) (x4 : Vec Ideal S64x512 .fp8e4m3) (x5 : Vec Ideal S64x512 .fp8e4m3) (x6 : Vec Ideal S1x512 .f32) (x7 : Vec Ideal S1x512 .f32) (a : Vec Ideal S80x8192 .bf16) (sc : Vec Ideal S72x128 .f32) : FVec Ideal S80x512 .f32 :=
  (stepD (c_v750 x2 x3 x4 x5 x6 x7 a sc) (c_v772 x2 x3 x4 x5 x6 x7 a sc) (nibD (c_v751 x2 x3 x4 x5 x6 x7 a sc)) (sclD 62 (gD x4) slices_S64x512_o62_0_S1x512) (sclD 63 (gD x4) slices_S64x512_o63_0_S1x512))

theorem coreV0_sums (x2 : Vec Ideal S1024x512 .i32) (x3 : Vec Ideal S1024x512 .i32) (x4 : Vec Ideal S64x512 .fp8e4m3) (x5 : Vec Ideal S64x512 .fp8e4m3) (x6 : Vec Ideal S1x512 .f32) (x7 : Vec Ideal S1x512 .f32) (a : Vec Ideal S80x8192 .bf16) (sc : Vec Ideal S72x128 .f32) :
    Sums (at2 (α := EReal) a) (at2 (α := BitVec 32) x2) (at2 (α := EReal) (gD x4)) 32 (coreV0 x2 x3 x4 x5 x6 x7 a sc) :=
  (stepD_sums a x2 (gD x4) 31 7936 992 62 63 rfl rfl rfl rfl (by decide) inb_S80x8192_S80x256_0_7936 inb_S1024x512_S32x512_992_0 slices_S64x512_o62_0_S1x512 slices_S64x512_o63_0_S1x512 (sum_v750 x2 x3 x4 x5 x6 x7 a sc))

/-- The whole product, 32 steps. -/
def coreV1 (x2 : Vec Ideal S1024x512 .i32) (x3 : Vec Ideal S1024x512 .i32) (x4 : Vec Ideal S64x512 .fp8e4m3) (x5 : Vec Ideal S64x512 .fp8e4m3) (x6 : Vec Ideal S1x512 .f32) (x7 : Vec Ideal S1x512 .f32) (a : Vec Ideal S80x8192 .bf16) (sc : Vec Ideal S72x128 .f32) : FVec Ideal S80x512 .f32 :=
  (stepD (c_v1528 x2 x3 x4 x5 x6 x7 a sc) (c_v1550 x2 x3 x4 x5 x6 x7 a sc) (nibD (c_v1529 x2 x3 x4 x5 x6 x7 a sc)) (sclD 62 (gD x5) slices_S64x512_o62_0_S1x512) (sclD 63 (gD x5) slices_S64x512_o63_0_S1x512))

theorem coreV1_sums (x2 : Vec Ideal S1024x512 .i32) (x3 : Vec Ideal S1024x512 .i32) (x4 : Vec Ideal S64x512 .fp8e4m3) (x5 : Vec Ideal S64x512 .fp8e4m3) (x6 : Vec Ideal S1x512 .f32) (x7 : Vec Ideal S1x512 .f32) (a : Vec Ideal S80x8192 .bf16) (sc : Vec Ideal S72x128 .f32) :
    Sums (at2 (α := EReal) a) (at2 (α := BitVec 32) x3) (at2 (α := EReal) (gD x5)) 32 (coreV1 x2 x3 x4 x5 x6 x7 a sc) :=
  (stepD_sums a x3 (gD x5) 31 7936 992 62 63 rfl rfl rfl rfl (by decide) inb_S80x8192_S80x256_0_7936 inb_S1024x512_S32x512_992_0 slices_S64x512_o62_0_S1x512 slices_S64x512_o63_0_S1x512 (sum_v1528 x2 x3 x4 x5 x6 x7 a sc))

end Cert.GuIdeal.Run

end
-- ==== Proof.Gu.Value.lean ====
/- What the Gu kernel leaves in its result arrays: what the reference computes from the same arguments. -/
module

public import proofs.«01_k».proof.Proof.Gu.Sums
public import proofs.«01_k».proof.Proof.Gu.Frame
public import proofs.«01_k».proof.Proof.Common.Match
public import proofs.«01_k».proof.Proof.Gen.GuRefIdeal.Value
public import Idealize.ShloMosaic.Lib.Claim
public import Idealize.ShloMosaic.Lib.Pipeline.Value

@[expose] public section

set_option maxRecDepth 16384

noncomputable section

namespace Cert.GuIdeal.Run
open Cert.GuIdeal.Gen Cert.Linear

open Idealize.ShloMosaic Idealize.ShloMosaic.TcCoe Idealize.ShloMosaic.Tactic
open Idealize.ShloMosaic.Pipeline (Dat)

variable (m : (ℓ : Loc nD τ sig) → Buf (Elt Ideal) ℓ)

/-! ## The normalised rows, their scales and the codes -/

/-- The weights of the norm as one row. -/
def rowG (g : Vec Ideal GuRefIdeal.S8192 .f32) : Vec Ideal S1x8192 .f32 := shapeCast S1x8192 g GuRefIdeal.Gen.shapeCasts_S8192_S1x8192

/-- The normalised rows are the reference's. -/
theorem norm_eq (x : Vec Ideal S72x8192 .f32) (g : Vec Ideal GuRefIdeal.S8192 .f32) :
    k0_pay2 x (rowG g) = GuRefIdeal.Gen.k0_pay2 x g := by
  have e : shapeCast S1x8192 (rowG g) shapeCasts_S1x8192_S1x8192 = rowG g := by
    funext j
    exact shapeCast_apply _ _ j j rfl
  unfold k0_pay2
  rw [e]
  rfl

/-- The kernel's column of row scales is the reference's vector of them, as a column. -/
theorem scale_eq (x : Vec Ideal S72x8192 .f32) (g : Vec Ideal GuRefIdeal.S8192 .f32) :
    k0_pay3 x (rowG g) = shapeCast S72x1 (GuRefIdeal.Gen.k0_pay3 x g) GuRefIdeal.Gen.shapeCasts_S72_S72x1 := by
  unfold k0_pay3
  rw [norm_eq]
  funext j
  rfl

/-- The codes are the reference's. -/
theorem codes_eq (x : Vec Ideal S72x8192 .f32) (g : Vec Ideal GuRefIdeal.S8192 .f32) : k0_pay4 x (rowG g) = GuRefIdeal.Gen.k0_pay4 x g := by
  unfold k0_pay4
  rw [scale_eq, norm_eq]
  rfl

theorem b_v1564_eq (x : Vec Ideal S72x8192 .f32) (y : Vec Ideal S1x8192 .f32) : b_v1564 x y = x := by
  unfold b_v1564
  rw [View.ld_unit_lit]
  decide

theorem b_v1565_eq (x : Vec Ideal S72x8192 .f32) (y : Vec Ideal S1x8192 .f32) : b_v1565 x y = y := by
  unfold b_v1565
  rw [View.ld_unit_lit]
  decide

theorem q_c2_eq (x : Vec Ideal S72x8192 .f32) (g : Vec Ideal GuRefIdeal.S8192 .f32) : q_c2 x (rowG g) = GuRefIdeal.Gen.k0_pay4 x g := by
  unfold q_c2
  rw [View.canon_cons_unit_lit, b_v1564_eq, b_v1565_eq, codes_eq]
  decide

theorem q_s2_eq (x : Vec Ideal S72x8192 .f32) (g : Vec Ideal GuRefIdeal.S8192 .f32) : q_s2 x (rowG g) = GuRefIdeal.Gen.k0_pay5 x g := by
  unfold q_s2 b_v1587
  rw [View.canon_cons_unit_lit, b_v1564_eq, b_v1565_eq]
  · unfold k0_pay10 k0_pay8
    rw [scale_eq]
    exact wide_row _ _ _ _ _ _ _
  · decide

theorem q_sc_apply (x : Vec Ideal S72x8192 .f32) (g : Vec Ideal GuRefIdeal.S8192 .f32) (r : Fin 72) (c : Fin 128) :
    q_sc x (rowG g) (ValueIdx.ix2 r c) = GuRefIdeal.Gen.k0_pay3 x g (ValueIdx.ix1 r) := by
  unfold q_sc b_v1587
  rw [View.canon_cons_unit_lit, b_v1564_eq, b_v1565_eq]
  · have e : k0_pay9 (k0_pay3 x (rowG g)) = wideV (k0_pay3 x (rowG g)) shapeCasts_S72x1_S72x1 broadcasts_S72x1_S72x128 := by
      unfold k0_pay9
      funext j
      rw [shapeCast_apply _ _ j j rfl]
      rfl
    rw [e, wideV_apply, scale_eq, col_apply]
  · decide

theorem q_a_apply (x : Vec Ideal S72x8192 .f32) (g : Vec Ideal GuRefIdeal.S8192 .f32) (r : Fin 72) (k : Fin 8192) :
    q_a x (rowG g) (ValueIdx.ix2 ⟨r.val, Nat.lt_trans r.isLt (by decide)⟩ k) = GuRefIdeal.Gen.k0_pay4 x g (ValueIdx.ix2 r k) := by
  unfold q_a
  rw [b_v1564_eq, b_v1565_eq]
  refine (pad_apply _ _ _ _ r k).trans ?_
  unfold k0_pay5
  rw [shapeCast_apply _ _ _ _ rfl, codes_eq]
  rfl

/-! ## The blocks -/

/-- The index maps. -/
theorem idx : ∀ t : Fin cfg0.N, win0_0.index t = ![0, 0] ∧ win0_1.index t = ![0, 0] ∧ win0_2.index t = ![0, t.val]
    ∧ win0_3.index t = ![0, t.val + 14] ∧ win0_4.index t = ![0, t.val] ∧ win0_5.index t = ![0, t.val + 14] ∧ win0_6.index t = ![0, t.val]
    ∧ win0_7.index t = ![0, t.val + 14] ∧ win0_8.index t = ![0, t.val] ∧ win0_9.index t = ![0, 0] ∧ win0_10.index t = ![0, 0] :=
  (by decide +kernel : ∀ t : Fin grid0.N, _)

theorem lt_N (t : Fin cfg0.N) : t.val < 14 := Nat.lt_of_lt_of_eq t.isLt N_0

/-- Column `c` of block `t` of the result. -/
def outCol (t : Fin cfg0.N) (c : Fin 512) : Fin 7168 := ⟨512 * t.val + c.val, by have := lt_N t; have := c.isLt; omega⟩

/-- Column `c` of block `t` of the gate. -/
def gateCol (t : Fin cfg0.N) (c : Fin 512) : Fin 14336 := ⟨512 * t.val + c.val, by have := lt_N t; have := c.isLt; omega⟩

/-- Column `c` of block `t` of the other half. -/
def upCol (t : Fin cfg0.N) (c : Fin 512) : Fin 14336 := ⟨7168 + (512 * t.val + c.val), by have := lt_N t; have := c.isLt; omega⟩

theorem blk0 (c : Dev nD) (t : Fin cfg0.N) : iblk m c 0 t = m ((c : Thread nD τ).loc main_arg0) := by
  blk_ext! [iblk, V, idx t]

theorem blk1 (c : Dev nD) (t : Fin cfg0.N) : iblk m c 1 t = rowG (m ((c : Thread nD τ).loc main_arg1)) := by
  funext y
  obtain ⟨z, j, rfl⟩ : ∃ (z : Fin 1) (j : Fin 8192), y = ValueIdx.ix2 z j := ⟨y 0, y 1, ValueIdx.eq_ix2 y⟩
  obtain rfl : z = 0 := Subsingleton.elim _ _
  refine Eq.trans ?_ (row_apply _ _ j).symm
  blk_simp [iblk]
  entry_read
  refine shapeCast_apply _ _ _ _ ?_
  refine (Shape.rowMajor_val_one (ValueIdx.ix1 j)).trans (Eq.trans ?_ (Shape.rowMajor_val_two _).symm)
  blk_simp [idx t]

theorem blk2 (c : Dev nD) (t : Fin cfg0.N) (r : Fin 1024) (j : Fin 512) :
    iblk m c 2 t (ValueIdx.ix2 r j) = m ((c : Thread nD τ).loc main_arg2) (ValueIdx.ix2 r (gateCol t j)) := by
  unfold gateCol
  blk_ext [iblk, V, idx t]
  show t.val * 512 + j.val = 512 * t.val + j.val
  omega

theorem blk3 (c : Dev nD) (t : Fin cfg0.N) (r : Fin 1024) (j : Fin 512) :
    iblk m c 3 t (ValueIdx.ix2 r j) = m ((c : Thread nD τ).loc main_arg2) (ValueIdx.ix2 r (upCol t j)) := by
  unfold upCol
  blk_ext [iblk, V, idx t]
  show (t.val + 14) * 512 + j.val = 7168 + (512 * t.val + j.val)
  omega

theorem blk4 (c : Dev nD) (t : Fin cfg0.N) (r : Fin 64) (j : Fin 512) :
    iblk m c 4 t (ValueIdx.ix2 r j) = m ((c : Thread nD τ).loc main_arg3) (ValueIdx.ix2 r (gateCol t j)) := by
  unfold gateCol
  blk_ext [iblk, V, idx t]
  show t.val * 512 + j.val = 512 * t.val + j.val
  omega

theorem blk5 (c : Dev nD) (t : Fin cfg0.N) (r : Fin 64) (j : Fin 512) :
    iblk m c 5 t (ValueIdx.ix2 r j) = m ((c : Thread nD τ).loc main_arg3) (ValueIdx.ix2 r (upCol t j)) := by
  unfold upCol
  blk_ext [iblk, V, idx t]
  show (t.val + 14) * 512 + j.val = 7168 + (512 * t.val + j.val)
  omega

theorem blk6 (c : Dev nD) (t : Fin cfg0.N) (j : Fin 512) :
    iblk m c 6 t (ValueIdx.ix2 0 j) = m ((c : Thread nD τ).loc main_arg4) (ValueIdx.ix1 (gateCol t j)) := by
  blk_simp [iblk]
  entry_read
  refine shapeCast_apply _ _ _ _ ?_
  refine (Shape.rowMajor_val_one (ValueIdx.ix1 (gateCol t j))).trans (Eq.trans ?_ (Shape.rowMajor_val_two _).symm)
  blk_simp [idx t]
  unfold gateCol
  show 512 * t.val + j.val = t.val * 512 + j.val
  omega

theorem blk7 (c : Dev nD) (t : Fin cfg0.N) (j : Fin 512) :
    iblk m c 7 t (ValueIdx.ix2 0 j) = m ((c : Thread nD τ).loc main_arg4) (ValueIdx.ix1 (upCol t j)) := by
  blk_simp [iblk]
  entry_read
  refine shapeCast_apply _ _ _ _ ?_
  refine (Shape.rowMajor_val_one (ValueIdx.ix1 (upCol t j))).trans (Eq.trans ?_ (Shape.rowMajor_val_two _).symm)
  blk_simp [idx t]
  unfold upCol
  show 7168 + (512 * t.val + j.val) = (t.val + 14) * 512 + j.val
  omega

/-! ## The products -/

theorem ix3_eq {p q s : ℕ} (a : Fin p) (b : Fin q) (c : Fin s) : ix3 a b c = ValueIdx.ix3 a b c := by
  funext x
  match x with
  | ⟨0, _⟩ => rfl
  | ⟨1, _⟩ => rfl
  | ⟨2, _⟩ => rfl

/-- The reference's contraction runs over words and fields. -/
theorem words : Words GuRefIdeal.dot_S72x1024x8_S8x1024x14336_S72x14336_12_10_0_2_n_n := by
  intro L R acc r c
  simp only [matmulApply]
  refine congrArg (acc (ValueIdx.ix2 r c) + ·) (Finset.sum_congr rfl fun i _ => Finset.sum_congr rfl fun j _ => ?_)
  exact congrArg₂ (· * ·) (congrArg L (ix3_eq _ _ _)) (congrArg R (ix3_eq _ _ _))

/-- A gate passed through its own logistic, times the other half. -/
def actV {s : Shape} (g u : FVec Ideal s .f32) : FVec Ideal s .f32 := mulf (mulf g (logistic g)) u

theorem actV_congr {s s' : Shape} (g u : FVec Ideal s .f32) (g' u' : FVec Ideal s' .f32) (i : s.Idx) (i' : s'.Idx) (hg : g i = g' i') (hu : u i = u' i') :
    actV g u i = actV g' u' i' := by
  show g i * Ideal.logistic (g i) * u i = g' i' * Ideal.logistic (g' i') * u' i'
  rw [hg, hu]

/-- The gate's block. -/
theorem gate_eq (x2 x3 : Vec Ideal S1024x512 .i32) (x4 x5 : Vec Ideal S64x512 .fp8e4m3) (x6 x7 : Vec Ideal S1x512 .f32) (a : Vec Ideal S80x8192 .bf16) (sc : Vec Ideal S72x128 .f32) : c_v781 x2 x3 x4 x5 x6 x7 a sc = finV (coreV0 x2 x3 x4 x5 x6 x7 a sc) (c_v3 x2 x3 x4 x5 x6 x7 a sc) (c_v778 x2 x3 x4 x5 x6 x7 a sc) slices_S80x512_o0_0_S72x512 broadcasts_S72x1_S72x512 shapeCasts_S1x512_S1x512 broadcasts_S1x512_S72x512 := by
  rfl

/-- The result's block from the two halves. -/
theorem yB_eq (x2 x3 : Vec Ideal S1024x512 .i32) (x4 x5 : Vec Ideal S64x512 .fp8e4m3) (x6 x7 : Vec Ideal S1x512 .f32) (a : Vec Ideal S80x8192 .bf16) (sc : Vec Ideal S72x128 .f32) :
    yB x2 x3 x4 x5 x6 x7 a sc = actV (c_v781 x2 x3 x4 x5 x6 x7 a sc) (finV (coreV1 x2 x3 x4 x5 x6 x7 a sc) (c_v3 x2 x3 x4 x5 x6 x7 a sc) (c_v1556 x2 x3 x4 x5 x6 x7 a sc) slices_S80x512_o0_0_S72x512 broadcasts_S72x1_S72x512 shapeCasts_S1x512_S1x512 broadcasts_S1x512_S72x512) := by
  rfl

/-- The reference's scaled product, both halves side by side. -/
def refV (a0 : Vec Ideal S72x8192 .f32) (a1 : Vec Ideal GuRefIdeal.S8192 .f32) (a2 : Vec Ideal GuRefIdeal.S1024x14336 .i32) (a3 : Vec Ideal GuRefIdeal.S64x14336 .fp8e4m3) (a4 : Vec Ideal GuRefIdeal.S14336 .f32) : FVec Ideal GuRefIdeal.S72x14336 .f32 :=
  (scaleV (prodV GuRefIdeal.dot_S72x1024x8_S8x1024x14336_S72x14336_12_10_0_2_n_n
      (extf .bf16 (GuRefIdeal.Gen.k0_pay4 a0 a1) bitsLt_fp8e4m3_bf16) (signV (maskV a2 GuRefIdeal.Gen.shapeCasts_S1024x14336_S1x1024x14336 GuRefIdeal.Gen.broadcasts_S1x1024x14336_S8x1024x14336 GuRefIdeal.Gen.iota_S8x1x1_d0_w32 GuRefIdeal.Gen.broadcasts_S8x1x1_S8x1024x14336) GuRefIdeal.Gen.natLt_8_32)
      (spreadV (extf .bf16 a3 bitsLt_fp8e4m3_bf16) GuRefIdeal.Gen.shapeCasts_S64x14336_S64x1x14336 GuRefIdeal.Gen.broadcasts_S64x1x14336_S64x16x14336 GuRefIdeal.Gen.shapeCasts_S64x16x14336_S1024x14336 GuRefIdeal.Gen.shapeCasts_S1024x14336_S1x1024x14336 GuRefIdeal.Gen.broadcasts_S1x1024x14336_S8x1024x14336)
      GuRefIdeal.Gen.shapeCasts_S72x8192_S72x1024x8) (GuRefIdeal.Gen.k0_pay3 a0 a1) a4 GuRefIdeal.Gen.shapeCasts_S72_S72x1 GuRefIdeal.Gen.broadcasts_S72x1_S72x14336 GuRefIdeal.Gen.shapeCasts_S14336_S1x14336 GuRefIdeal.Gen.broadcasts_S1x14336_S72x14336)

/-- The reference's result from the two halves. -/
theorem G5_eq (a0 : Vec Ideal S72x8192 .f32) (a1 : Vec Ideal GuRefIdeal.S8192 .f32) (a2 : Vec Ideal GuRefIdeal.S1024x14336 .i32) (a3 : Vec Ideal GuRefIdeal.S64x14336 .fp8e4m3) (a4 : Vec Ideal GuRefIdeal.S14336 .f32) :
    GuRefIdeal.Value.G5 a0 a1 a2 a3 a4 = actV (extractStridedSlice GuRefIdeal.S72x7168 ![0, 0] (refV a0 a1 a2 a3 a4) GuRefIdeal.Gen.slices_S72x14336_o0_0_S72x7168)
      (extractStridedSlice GuRefIdeal.S72x7168 ![0, 7168] (refV a0 a1 a2 a3 a4) GuRefIdeal.Gen.slices_S72x14336_o0_7168_S72x7168) := by
  rfl

/-- A block's row scale is the reference's. -/
theorem c_v3_apply (x2 x3 : Vec Ideal S1024x512 .i32) (x4 x5 : Vec Ideal S64x512 .fp8e4m3) (x6 x7 : Vec Ideal S1x512 .f32) (a : Vec Ideal S80x8192 .bf16) (x : Vec Ideal S72x8192 .f32) (g : Vec Ideal GuRefIdeal.S8192 .f32) (r : Fin 72) :
    c_v3 x2 x3 x4 x5 x6 x7 a (q_sc x (rowG g)) (ValueIdx.ix2 r 0) = GuRefIdeal.Gen.k0_pay3 x g (ValueIdx.ix1 r) := by
  unfold c_v3
  exact (ld_ix2 _ 0 0 _ r 0 (by have := r.isLt; omega) (by decide)).trans (by simpa using q_sc_apply _ _ r 0)

/-- The gate's block at a point is the reference's product there. -/
theorem gate_at (c : Dev nD) (t : Fin cfg0.N) (r : Fin 72) (j : Fin 512) :
    finV (coreV0 (iblk m c 2 t) (iblk m c 3 t) (iblk m c 4 t) (iblk m c 5 t) (iblk m c 6 t) (iblk m c 7 t) (q_a (m ((c : Thread nD τ).loc main_arg0)) (rowG (m ((c : Thread nD τ).loc main_arg1)))) (q_sc (m ((c : Thread nD τ).loc main_arg0)) (rowG (m ((c : Thread nD τ).loc main_arg1))))) (c_v3 (iblk m c 2 t) (iblk m c 3 t) (iblk m c 4 t) (iblk m c 5 t) (iblk m c 6 t) (iblk m c 7 t) (q_a (m ((c : Thread nD τ).loc main_arg0)) (rowG (m ((c : Thread nD τ).loc main_arg1)))) (q_sc (m ((c : Thread nD τ).loc main_arg0)) (rowG (m ((c : Thread nD τ).loc main_arg1))))) (c_v778 (iblk m c 2 t) (iblk m c 3 t) (iblk m c 4 t) (iblk m c 5 t) (iblk m c 6 t) (iblk m c 7 t) (q_a (m ((c : Thread nD τ).loc main_arg0)) (rowG (m ((c : Thread nD τ).loc main_arg1)))) (q_sc (m ((c : Thread nD τ).loc main_arg0)) (rowG (m ((c : Thread nD τ).loc main_arg1))))) slices_S80x512_o0_0_S72x512 broadcasts_S72x1_S72x512 shapeCasts_S1x512_S1x512 broadcasts_S1x512_S72x512 (ValueIdx.ix2 r j)
      = refV (m ((c : Thread nD τ).loc main_arg0)) (m ((c : Thread nD τ).loc main_arg1)) (m ((c : Thread nD τ).loc main_arg2)) (m ((c : Thread nD τ).loc main_arg3)) (m ((c : Thread nD τ).loc main_arg4)) (ValueIdx.ix2 r (gateCol t j)) := by
  refine scaled_match (K := 8192) (J := 1024) (Q := 64) (s := 32) rfl rfl rfl (q_a (m ((c : Thread nD τ).loc main_arg0)) (rowG (m ((c : Thread nD τ).loc main_arg1)))) _ (iblk m c 2 t) _ (iblk m c 4 t) _ r j (gateCol t j)
    (fun k => q_a_apply _ _ r k) (fun i => blk2 m c t i j) (fun i => blk4 m c t i j) _ ?_ _ _ _ _ _ _ _ words _ _ _ _ _ _ _ _ _ _ _ _ _ _ _ _ _ ?_ ?_
  · have h := coreV0_sums (iblk m c 2 t) (iblk m c 3 t) (iblk m c 4 t) (iblk m c 5 t) (iblk m c 6 t) (iblk m c 7 t) (q_a (m ((c : Thread nD τ).loc main_arg0)) (rowG (m ((c : Thread nD τ).loc main_arg1)))) (q_sc (m ((c : Thread nD τ).loc main_arg0)) (rowG (m ((c : Thread nD τ).loc main_arg1))))
    rw [gD_eq] at h
    exact h
  · exact c_v3_apply _ _ _ _ _ _ _ _ _ r
  · unfold c_v778
    rw [View.ld_unit_lit]
    · exact blk6 m c t j
    · decide

/-- The other half's block at a point is the reference's product there. -/
theorem up_at (c : Dev nD) (t : Fin cfg0.N) (r : Fin 72) (j : Fin 512) :
    finV (coreV1 (iblk m c 2 t) (iblk m c 3 t) (iblk m c 4 t) (iblk m c 5 t) (iblk m c 6 t) (iblk m c 7 t) (q_a (m ((c : Thread nD τ).loc main_arg0)) (rowG (m ((c : Thread nD τ).loc main_arg1)))) (q_sc (m ((c : Thread nD τ).loc main_arg0)) (rowG (m ((c : Thread nD τ).loc main_arg1))))) (c_v3 (iblk m c 2 t) (iblk m c 3 t) (iblk m c 4 t) (iblk m c 5 t) (iblk m c 6 t) (iblk m c 7 t) (q_a (m ((c : Thread nD τ).loc main_arg0)) (rowG (m ((c : Thread nD τ).loc main_arg1)))) (q_sc (m ((c : Thread nD τ).loc main_arg0)) (rowG (m ((c : Thread nD τ).loc main_arg1))))) (c_v1556 (iblk m c 2 t) (iblk m c 3 t) (iblk m c 4 t) (iblk m c 5 t) (iblk m c 6 t) (iblk m c 7 t) (q_a (m ((c : Thread nD τ).loc main_arg0)) (rowG (m ((c : Thread nD τ).loc main_arg1)))) (q_sc (m ((c : Thread nD τ).loc main_arg0)) (rowG (m ((c : Thread nD τ).loc main_arg1))))) slices_S80x512_o0_0_S72x512 broadcasts_S72x1_S72x512 shapeCasts_S1x512_S1x512 broadcasts_S1x512_S72x512 (ValueIdx.ix2 r j)
      = refV (m ((c : Thread nD τ).loc main_arg0)) (m ((c : Thread nD τ).loc main_arg1)) (m ((c : Thread nD τ).loc main_arg2)) (m ((c : Thread nD τ).loc main_arg3)) (m ((c : Thread nD τ).loc main_arg4)) (ValueIdx.ix2 r (upCol t j)) := by
  refine scaled_match (K := 8192) (J := 1024) (Q := 64) (s := 32) rfl rfl rfl (q_a (m ((c : Thread nD τ).loc main_arg0)) (rowG (m ((c : Thread nD τ).loc main_arg1)))) _ (iblk m c 3 t) _ (iblk m c 5 t) _ r j (upCol t j)
    (fun k => q_a_apply _ _ r k) (fun i => blk3 m c t i j) (fun i => blk5 m c t i j) _ ?_ _ _ _ _ _ _ _ words _ _ _ _ _ _ _ _ _ _ _ _ _ _ _ _ _ ?_ ?_
  · have h := coreV1_sums (iblk m c 2 t) (iblk m c 3 t) (iblk m c 4 t) (iblk m c 5 t) (iblk m c 6 t) (iblk m c 7 t) (q_a (m ((c : Thread nD τ).loc main_arg0)) (rowG (m ((c : Thread nD τ).loc main_arg1)))) (q_sc (m ((c : Thread nD τ).loc main_arg0)) (rowG (m ((c : Thread nD τ).loc main_arg1))))
    rw [gD_eq] at h
    exact h
  · exact c_v3_apply _ _ _ _ _ _ _ _ _ r
  · unfold c_v1556
    rw [View.ld_unit_lit]
    · exact blk7 m c t j
    · decide

/-- A slice of columns, read at one of them. -/
theorem cols_apply (v : FVec Ideal GuRefIdeal.S72x14336 .f32) (o : ℕ) (h : GuRefIdeal.S72x14336.Slices ![0, o] GuRefIdeal.S72x7168) (r : Fin 72) (k : Fin 7168) (k' : Fin 14336)
    (e : k'.val = o + k.val) : extractStridedSlice GuRefIdeal.S72x7168 ![0, o] v h (ValueIdx.ix2 r k) = v (ValueIdx.ix2 r k') := by
  refine extractStridedSlice_apply ![0, o] v h _ _ fun a => ?_
  match a with
  | ⟨0, _⟩ => exact (Nat.zero_add _).symm
  | ⟨1, _⟩ => exact e

/-- The result's block at a point is the reference's result there. -/
theorem y_eq (c : Dev nD) (t : Fin cfg0.N) (r : Fin 72) (j : Fin 512) :
    yAt m c t (ValueIdx.ix2 r j) = GuRefIdeal.Value.G5 (m ((c : Thread nD τ).loc main_arg0)) (m ((c : Thread nD τ).loc main_arg1)) (m ((c : Thread nD τ).loc main_arg2)) (m ((c : Thread nD τ).loc main_arg3)) (m ((c : Thread nD τ).loc main_arg4)) (ValueIdx.ix2 r (outCol t j)) := by
  unfold yAt
  rw [yB_eq, gate_eq, G5_eq, blk0, blk1]
  refine actV_congr _ _ _ _ _ _ ?_ ?_
  · exact (gate_at m c t r j).trans (cols_apply _ 0 _ r _ _ (Nat.zero_add _).symm).symm
  · exact (up_at m c t r j).trans (cols_apply _ 7168 _ r _ _ rfl).symm

/-! ## The arrays after the run -/

theorem final8 (c : Dev nD) : (dats m 0 c).arrAt 8 cfg0.N = GuRefIdeal.Value.G5 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after0_8]
  obtain ⟨r, j, rfl⟩ : ∃ (r : Fin 72) (j : Fin 512), y = ValueIdx.ix2 r j := ⟨y 0, y 1, ValueIdx.eq_ix2 y⟩
  refine (y_eq m c t r j).trans (congrArg _ ?_)
  unfold outCol
  blk_ext [idx t]
  show 512 * t.val + j.val = t.val * 512 + j.val
  omega

/-- The last point. -/
def tLast : Fin cfg0.N := ⟨13, by rw [show cfg0.N = 14 from N_0]; decide⟩

theorem final9 (c : Dev nD) : (dats m 0 c).arrAt 9 cfg0.N = GuRefIdeal.Value.G6 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 9 tLast (by decide +kernel) _ fun y => ?_
  blk_simp
  rw [after0_9, blk0, blk1, q_c2_eq]

theorem final10 (c : Dev nD) : (dats m 0 c).arrAt 10 cfg0.N = GuRefIdeal.Value.G7 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 10 tLast (by decide +kernel) _ fun y => ?_
  blk_simp
  rw [after0_10, blk0, blk1, q_s2_eq]

end Cert.GuIdeal.Run

end
-- ==== Proof.Down.Sums.lean ====
/- The Down kernel's product over the extended reals: every running sum its body computes is the sum of its terms so far. -/
module

public import proofs.«01_k».proof.Proof.Down.Chain
public import proofs.«01_k».proof.Proof.Common.Linear

@[expose] public section

set_option maxRecDepth 16384

noncomputable section

namespace Cert.DownIdeal.Run
open Cert.DownIdeal.Gen Cert.Linear

open Idealize.ShloMosaic Idealize.ShloMosaic.TcCoe

/-- The zeros the running sum starts from. -/
def zeroV : FVec Ideal S80x512 .f32 := broadcast S80x512 (Scalar.ofBits (F := Ideal) .f32 0x00000000#32)

/-- The block's group scales. -/
def gD (g : Vec Ideal S56x512 .fp8e4m3) : FVec Ideal S56x512 .f32 :=
  extf .f32 (View.ld g (Rect.unit (s := S56x512) ![0, 0] S56x512.size inb_S56x512_S56x512_0_0)) bitsLt_fp8e4m3_f32

theorem gD_eq (g : Vec Ideal S56x512 .fp8e4m3) : gD g = g := by
  unfold gD
  rw [View.ld_unit_lit]
  · rfl
  · decide

/-- The nibbles of 32 loaded rows. -/
abbrev nibD (w : IVec S32x512 32) : IVec S256x512 4 :=
  nibV w shapeCasts_S32x512_S32x1x512 shapeCasts_S32x1x512_S32x1x512 broadcasts_S32x1x512_S32x8x512 iota_S32x8x512_d1_w32 shapeCasts_S32x8x512_S256x512

/-- One row of group scales over its 128 rows. -/
abbrev sclD (i : ℕ) (g : FVec Ideal S56x512 .f32) (f : (S56x512 : Shape).Slices ![i, 0] S1x512) : FVec Ideal S128x512 .bf16 :=
  sclV i g f shapeCasts_S1x512_S1x512 broadcasts_S1x512_S128x512 bitsLt_bf16_f32

/-- One step of the product. -/
abbrev stepD (acc : FVec Ideal S80x512 .f32) (a : FVec Ideal S80x256 .bf16) (q : IVec S256x512 4) (s0 s1 : FVec Ideal S128x512 .bf16) :
    FVec Ideal S80x512 .f32 :=
  stepV acc a q s0 s1 concatenates_S128x512_S128x512_S256x512_d0

/-- One step on loaded operands extends the running sum by 256 terms. -/
theorem stepD_sums (a : Vec Ideal S80x7168 .bf16) (w : Vec Ideal S896x512 .i32) (g : FVec Ideal S56x512 .f32) (s : ℕ)
    {acc : FVec Ideal S80x512 .f32} (oa ow i0 i1 : ℕ) (hoa : oa = 256 * s) (how : ow = 32 * s) (hi0 : i0 = 2 * s) (hi1 : i1 = 2 * s + 1)
    (hQ : i1 < 56) (ia iw f0 f1) (hacc : Sums (at2 (α := EReal) a) (at2 (α := BitVec 32) w) (at2 (α := EReal) g) s acc) :
    Sums (at2 (α := EReal) a) (at2 (α := BitVec 32) w) (at2 (α := EReal) g) (s + 1)
      (stepD acc (View.ld a (Rect.unit (s := S80x7168) ![0, oa] S80x256.size ia)) (nibD (View.ld w (Rect.unit (s := S896x512) ![ow, 0] S32x512.size iw)))
        (sclD i0 g f0) (sclD i1 g f1)) :=
  Sums.step_ld a w g s oa ow i0 i1 hoa how hi0 hi1 hQ ia iw _ _ _ _ _ f0 f1 _ _ _ _ hacc

/-- The running sum after 1 steps. -/
theorem sum_v29 (x1 : Vec Ideal S72x512 .f32) (x2 : Vec Ideal S896x512 .i32) (x3 : Vec Ideal S56x512 .fp8e4m3) (x4 : Vec Ideal S1x512 .f32) (a : Vec Ideal S80x7168 .bf16) (sc : Vec Ideal S72x128 .f32) :
    Sums (at2 (α := EReal) a) (at2 (α := BitVec 32) x2) (at2 (α := EReal) (gD x3)) 1 (c_v29 x1 x2 x3 x4 a sc) := by
  have e : (c_v29 x1 x2 x3 x4 a sc) = (stepD zeroV (c_v27 x1 x2 x3 x4 a sc) (nibD (c_v6 x1 x2 x3 x4 a sc)) (sclD 0 (gD x3) slices_S56x512_o0_0_S1x512) (sclD 1 (gD x3) slices_S56x512_o1_0_S1x512)) := rfl
  rw [e]
  exact (stepD_sums a x2 (gD x3) 0 0 0 0 1 rfl rfl rfl rfl (by decide) inb_S80x7168_S80x256_0_0 inb_S896x512_S32x512_0_0 slices_S56x512_o0_0_S1x512 slices_S56x512_o1_0_S1x512 (Sums.zero _ _ _))

/-- The running sum after 3 steps. -/
theorem sum_v77 (x1 : Vec Ideal S72x512 .f32) (x2 : Vec Ideal S896x512 .i32) (x3 : Vec Ideal S56x512 .fp8e4m3) (x4 : Vec Ideal S1x512 .f32) (a : Vec Ideal S80x7168 .bf16) (sc : Vec Ideal S72x128 .f32) :
    Sums (at2 (α := EReal) a) (at2 (α := BitVec 32) x2) (at2 (α := EReal) (gD x3)) 3 (c_v77 x1 x2 x3 x4 a sc) := by
  have e : (c_v77 x1 x2 x3 x4 a sc) = (stepD (stepD (c_v29 x1 x2 x3 x4 a sc) (c_v51 x1 x2 x3 x4 a sc) (nibD (c_v30 x1 x2 x3 x4 a sc)) (sclD 2 (gD x3) slices_S56x512_o2_0_S1x512) (sclD 3 (gD x3) slices_S56x512_o3_0_S1x512)) (c_v75 x1 x2 x3 x4 a sc) (nibD (c_v54 x1 x2 x3 x4 a sc)) (sclD 4 (gD x3) slices_S56x512_o4_0_S1x512) (sclD 5 (gD x3) slices_S56x512_o5_0_S1x512)) := rfl
  rw [e]
  exact (stepD_sums a x2 (gD x3) 2 512 64 4 5 rfl rfl rfl rfl (by decide) inb_S80x7168_S80x256_0_512 inb_S896x512_S32x512_64_0 slices_S56x512_o4_0_S1x512 slices_S56x512_o5_0_S1x512 (stepD_sums a x2 (gD x3) 1 256 32 2 3 rfl rfl rfl rfl (by decide) inb_S80x7168_S80x256_0_256 inb_S896x512_S32x512_32_0 slices_S56x512_o2_0_S1x512 slices_S56x512_o3_0_S1x512 (sum_v29 x1 x2 x3 x4 a sc)))

/-- The running sum after 5 steps. -/
theorem sum_v125 (x1 : Vec Ideal S72x512 .f32) (x2 : Vec Ideal S896x512 .i32) (x3 : Vec Ideal S56x512 .fp8e4m3) (x4 : Vec Ideal S1x512 .f32) (a : Vec Ideal S80x7168 .bf16) (sc : Vec Ideal S72x128 .f32) :
    Sums (at2 (α := EReal) a) (at2 (α := BitVec 32) x2) (at2 (α := EReal) (gD x3)) 5 (c_v125 x1 x2 x3 x4 a sc) := by
  have e : (c_v125 x1 x2 x3 x4 a sc) = (stepD (stepD (c_v77 x1 x2 x3 x4 a sc) (c_v99 x1 x2 x3 x4 a sc) (nibD (c_v78 x1 x2 x3 x4 a sc)) (sclD 6 (gD x3) slices_S56x512_o6_0_S1x512) (sclD 7 (gD x3) slices_S56x512_o7_0_S1x512)) (c_v123 x1 x2 x3 x4 a sc) (nibD (c_v102 x1 x2 x3 x4 a sc)) (sclD 8 (gD x3) slices_S56x512_o8_0_S1x512) (sclD 9 (gD x3) slices_S56x512_o9_0_S1x512)) := rfl
  rw [e]
  exact (stepD_sums a x2 (gD x3) 4 1024 128 8 9 rfl rfl rfl rfl (by decide) inb_S80x7168_S80x256_0_1024 inb_S896x512_S32x512_128_0 slices_S56x512_o8_0_S1x512 slices_S56x512_o9_0_S1x512 (stepD_sums a x2 (gD x3) 3 768 96 6 7 rfl rfl rfl rfl (by decide) inb_S80x7168_S80x256_0_768 inb_S896x512_S32x512_96_0 slices_S56x512_o6_0_S1x512 slices_S56x512_o7_0_S1x512 (sum_v77 x1 x2 x3 x4 a sc)))

/-- The running sum after 7 steps. -/
theorem sum_v173 (x1 : Vec Ideal S72x512 .f32) (x2 : Vec Ideal S896x512 .i32) (x3 : Vec Ideal S56x512 .fp8e4m3) (x4 : Vec Ideal S1x512 .f32) (a : Vec Ideal S80x7168 .bf16) (sc : Vec Ideal S72x128 .f32) :
    Sums (at2 (α := EReal) a) (at2 (α := BitVec 32) x2) (at2 (α := EReal) (gD x3)) 7 (c_v173 x1 x2 x3 x4 a sc) := by
  have e : (c_v173 x1 x2 x3 x4 a sc) = (stepD (stepD (c_v125 x1 x2 x3 x4 a sc) (c_v147 x1 x2 x3 x4 a sc) (nibD (c_v126 x1 x2 x3 x4 a sc)) (sclD 10 (gD x3) slices_S56x512_o10_0_S1x512) (sclD 11 (gD x3) slices_S56x512_o11_0_S1x512)) (c_v171 x1 x2 x3 x4 a sc) (nibD (c_v150 x1 x2 x3 x4 a sc)) (sclD 12 (gD x3) slices_S56x512_o12_0_S1x512) (sclD 13 (gD x3) slices_S56x512_o13_0_S1x512)) := rfl
  rw [e]
  exact (stepD_sums a x2 (gD x3) 6 1536 192 12 13 rfl rfl rfl rfl (by decide) inb_S80x7168_S80x256_0_1536 inb_S896x512_S32x512_192_0 slices_S56x512_o12_0_S1x512 slices_S56x512_o13_0_S1x512 (stepD_sums a x2 (gD x3) 5 1280 160 10 11 rfl rfl rfl rfl (by decide) inb_S80x7168_S80x256_0_1280 inb_S896x512_S32x512_160_0 slices_S56x512_o10_0_S1x512 slices_S56x512_o11_0_S1x512 (sum_v125 x1 x2 x3 x4 a sc)))

/-- The running sum after 9 steps. -/
theorem sum_v221 (x1 : Vec Ideal S72x512 .f32) (x2 : Vec Ideal S896x512 .i32) (x3 : Vec Ideal S56x512 .fp8e4m3) (x4 : Vec Ideal S1x512 .f32) (a : Vec Ideal S80x7168 .bf16) (sc : Vec Ideal S72x128 .f32) :
    Sums (at2 (α := EReal) a) (at2 (α := BitVec 32) x2) (at2 (α := EReal) (gD x3)) 9 (c_v221 x1 x2 x3 x4 a sc) := by
  have e : (c_v221 x1 x2 x3 x4 a sc) = (stepD (stepD (c_v173 x1 x2 x3 x4 a sc) (c_v195 x1 x2 x3 x4 a sc) (nibD (c_v174 x1 x2 x3 x4 a sc)) (sclD 14 (gD x3) slices_S56x512_o14_0_S1x512) (sclD 15 (gD x3) slices_S56x512_o15_0_S1x512)) (c_v219 x1 x2 x3 x4 a sc) (nibD (c_v198 x1 x2 x3 x4 a sc)) (sclD 16 (gD x3) slices_S56x512_o16_0_S1x512) (sclD 17 (gD x3) slices_S56x512_o17_0_S1x512)) := rfl
  rw [e]
  exact (stepD_sums a x2 (gD x3) 8 2048 256 16 17 rfl rfl rfl rfl (by decide) inb_S80x7168_S80x256_0_2048 inb_S896x512_S32x512_256_0 slices_S56x512_o16_0_S1x512 slices_S56x512_o17_0_S1x512 (stepD_sums a x2 (gD x3) 7 1792 224 14 15 rfl rfl rfl rfl (by decide) inb_S80x7168_S80x256_0_1792 inb_S896x512_S32x512_224_0 slices_S56x512_o14_0_S1x512 slices_S56x512_o15_0_S1x512 (sum_v173 x1 x2 x3 x4 a sc)))

/-- The running sum after 11 steps. -/
theorem sum_v269 (x1 : Vec Ideal S72x512 .f32) (x2 : Vec Ideal S896x512 .i32) (x3 : Vec Ideal S56x512 .fp8e4m3) (x4 : Vec Ideal S1x512 .f32) (a : Vec Ideal S80x7168 .bf16) (sc : Vec Ideal S72x128 .f32) :
    Sums (at2 (α := EReal) a) (at2 (α := BitVec 32) x2) (at2 (α := EReal) (gD x3)) 11 (c_v269 x1 x2 x3 x4 a sc) := by
  have e : (c_v269 x1 x2 x3 x4 a sc) = (stepD (stepD (c_v221 x1 x2 x3 x4 a sc) (c_v243 x1 x2 x3 x4 a sc) (nibD (c_v222 x1 x2 x3 x4 a sc)) (sclD 18 (gD x3) slices_S56x512_o18_0_S1x512) (sclD 19 (gD x3) slices_S56x512_o19_0_S1x512)) (c_v267 x1 x2 x3 x4 a sc) (nibD (c_v246 x1 x2 x3 x4 a sc)) (sclD 20 (gD x3) slices_S56x512_o20_0_S1x512) (sclD 21 (gD x3) slices_S56x512_o21_0_S1x512)) := rfl
  rw [e]
  exact (stepD_sums a x2 (gD x3) 10 2560 320 20 21 rfl rfl rfl rfl (by decide) inb_S80x7168_S80x256_0_2560 inb_S896x512_S32x512_320_0 slices_S56x512_o20_0_S1x512 slices_S56x512_o21_0_S1x512 (stepD_sums a x2 (gD x3) 9 2304 288 18 19 rfl rfl rfl rfl (by decide) inb_S80x7168_S80x256_0_2304 inb_S896x512_S32x512_288_0 slices_S56x512_o18_0_S1x512 slices_S56x512_o19_0_S1x512 (sum_v221 x1 x2 x3 x4 a sc)))

/-- The running sum after 13 steps. -/
theorem sum_v317 (x1 : Vec Ideal S72x512 .f32) (x2 : Vec Ideal S896x512 .i32) (x3 : Vec Ideal S56x512 .fp8e4m3) (x4 : Vec Ideal S1x512 .f32) (a : Vec Ideal S80x7168 .bf16) (sc : Vec Ideal S72x128 .f32) :
    Sums (at2 (α := EReal) a) (at2 (α := BitVec 32) x2) (at2 (α := EReal) (gD x3)) 13 (c_v317 x1 x2 x3 x4 a sc) := by
  have e : (c_v317 x1 x2 x3 x4 a sc) = (stepD (stepD (c_v269 x1 x2 x3 x4 a sc) (c_v291 x1 x2 x3 x4 a sc) (nibD (c_v270 x1 x2 x3 x4 a sc)) (sclD 22 (gD x3) slices_S56x512_o22_0_S1x512) (sclD 23 (gD x3) slices_S56x512_o23_0_S1x512)) (c_v315 x1 x2 x3 x4 a sc) (nibD (c_v294 x1 x2 x3 x4 a sc)) (sclD 24 (gD x3) slices_S56x512_o24_0_S1x512) (sclD 25 (gD x3) slices_S56x512_o25_0_S1x512)) := rfl
  rw [e]
  exact (stepD_sums a x2 (gD x3) 12 3072 384 24 25 rfl rfl rfl rfl (by decide) inb_S80x7168_S80x256_0_3072 inb_S896x512_S32x512_384_0 slices_S56x512_o24_0_S1x512 slices_S56x512_o25_0_S1x512 (stepD_sums a x2 (gD x3) 11 2816 352 22 23 rfl rfl rfl rfl (by decide) inb_S80x7168_S80x256_0_2816 inb_S896x512_S32x512_352_0 slices_S56x512_o22_0_S1x512 slices_S56x512_o23_0_S1x512 (sum_v269 x1 x2 x3 x4 a sc)))

/-- The running sum after 15 steps. -/
theorem sum_v365 (x1 : Vec Ideal S72x512 .f32) (x2 : Vec Ideal S896x512 .i32) (x3 : Vec Ideal S56x512 .fp8e4m3) (x4 : Vec Ideal S1x512 .f32) (a : Vec Ideal S80x7168 .bf16) (sc : Vec Ideal S72x128 .f32) :
    Sums (at2 (α := EReal) a) (at2 (α := BitVec 32) x2) (at2 (α := EReal) (gD x3)) 15 (c_v365 x1 x2 x3 x4 a sc) := by
  have e : (c_v365 x1 x2 x3 x4 a sc) = (stepD (stepD (c_v317 x1 x2 x3 x4 a sc) (c_v339 x1 x2 x3 x4 a sc) (nibD (c_v318 x1 x2 x3 x4 a sc)) (sclD 26 (gD x3) slices_S56x512_o26_0_S1x512) (sclD 27 (gD x3) slices_S56x512_o27_0_S1x512)) (c_v363 x1 x2 x3 x4 a sc) (nibD (c_v342 x1 x2 x3 x4 a sc)) (sclD 28 (gD x3) slices_S56x512_o28_0_S1x512) (sclD 29 (gD x3) slices_S56x512_o29_0_S1x512)) := rfl
  rw [e]
  exact (stepD_sums a x2 (gD x3) 14 3584 448 28 29 rfl rfl rfl rfl (by decide) inb_S80x7168_S80x256_0_3584 inb_S896x512_S32x512_448_0 slices_S56x512_o28_0_S1x512 slices_S56x512_o29_0_S1x512 (stepD_sums a x2 (gD x3) 13 3328 416 26 27 rfl rfl rfl rfl (by decide) inb_S80x7168_S80x256_0_3328 inb_S896x512_S32x512_416_0 slices_S56x512_o26_0_S1x512 slices_S56x512_o27_0_S1x512 (sum_v317 x1 x2 x3 x4 a sc)))

/-- The running sum after 17 steps. -/
theorem sum_v413 (x1 : Vec Ideal S72x512 .f32) (x2 : Vec Ideal S896x512 .i32) (x3 : Vec Ideal S56x512 .fp8e4m3) (x4 : Vec Ideal S1x512 .f32) (a : Vec Ideal S80x7168 .bf16) (sc : Vec Ideal S72x128 .f32) :
    Sums (at2 (α := EReal) a) (at2 (α := BitVec 32) x2) (at2 (α := EReal) (gD x3)) 17 (c_v413 x1 x2 x3 x4 a sc) := by
  have e : (c_v413 x1 x2 x3 x4 a sc) = (stepD (stepD (c_v365 x1 x2 x3 x4 a sc) (c_v387 x1 x2 x3 x4 a sc) (nibD (c_v366 x1 x2 x3 x4 a sc)) (sclD 30 (gD x3) slices_S56x512_o30_0_S1x512) (sclD 31 (gD x3) slices_S56x512_o31_0_S1x512)) (c_v411 x1 x2 x3 x4 a sc) (nibD (c_v390 x1 x2 x3 x4 a sc)) (sclD 32 (gD x3) slices_S56x512_o32_0_S1x512) (sclD 33 (gD x3) slices_S56x512_o33_0_S1x512)) := rfl
  rw [e]
  exact (stepD_sums a x2 (gD x3) 16 4096 512 32 33 rfl rfl rfl rfl (by decide) inb_S80x7168_S80x256_0_4096 inb_S896x512_S32x512_512_0 slices_S56x512_o32_0_S1x512 slices_S56x512_o33_0_S1x512 (stepD_sums a x2 (gD x3) 15 3840 480 30 31 rfl rfl rfl rfl (by decide) inb_S80x7168_S80x256_0_3840 inb_S896x512_S32x512_480_0 slices_S56x512_o30_0_S1x512 slices_S56x512_o31_0_S1x512 (sum_v365 x1 x2 x3 x4 a sc)))

/-- The running sum after 19 steps. -/
theorem sum_v461 (x1 : Vec Ideal S72x512 .f32) (x2 : Vec Ideal S896x512 .i32) (x3 : Vec Ideal S56x512 .fp8e4m3) (x4 : Vec Ideal S1x512 .f32) (a : Vec Ideal S80x7168 .bf16) (sc : Vec Ideal S72x128 .f32) :
    Sums (at2 (α := EReal) a) (at2 (α := BitVec 32) x2) (at2 (α := EReal) (gD x3)) 19 (c_v461 x1 x2 x3 x4 a sc) := by
  have e : (c_v461 x1 x2 x3 x4 a sc) = (stepD (stepD (c_v413 x1 x2 x3 x4 a sc) (c_v435 x1 x2 x3 x4 a sc) (nibD (c_v414 x1 x2 x3 x4 a sc)) (sclD 34 (gD x3) slices_S56x512_o34_0_S1x512) (sclD 35 (gD x3) slices_S56x512_o35_0_S1x512)) (c_v459 x1 x2 x3 x4 a sc) (nibD (c_v438 x1 x2 x3 x4 a sc)) (sclD 36 (gD x3) slices_S56x512_o36_0_S1x512) (sclD 37 (gD x3) slices_S56x512_o37_0_S1x512)) := rfl
  rw [e]
  exact (stepD_sums a x2 (gD x3) 18 4608 576 36 37 rfl rfl rfl rfl (by decide) inb_S80x7168_S80x256_0_4608 inb_S896x512_S32x512_576_0 slices_S56x512_o36_0_S1x512 slices_S56x512_o37_0_S1x512 (stepD_sums a x2 (gD x3) 17 4352 544 34 35 rfl rfl rfl rfl (by decide) inb_S80x7168_S80x256_0_4352 inb_S896x512_S32x512_544_0 slices_S56x512_o34_0_S1x512 slices_S56x512_o35_0_S1x512 (sum_v413 x1 x2 x3 x4 a sc)))

/-- The running sum after 21 steps. -/
theorem sum_v509 (x1 : Vec Ideal S72x512 .f32) (x2 : Vec Ideal S896x512 .i32) (x3 : Vec Ideal S56x512 .fp8e4m3) (x4 : Vec Ideal S1x512 .f32) (a : Vec Ideal S80x7168 .bf16) (sc : Vec Ideal S72x128 .f32) :
    Sums (at2 (α := EReal) a) (at2 (α := BitVec 32) x2) (at2 (α := EReal) (gD x3)) 21 (c_v509 x1 x2 x3 x4 a sc) := by
  have e : (c_v509 x1 x2 x3 x4 a sc) = (stepD (stepD (c_v461 x1 x2 x3 x4 a sc) (c_v483 x1 x2 x3 x4 a sc) (nibD (c_v462 x1 x2 x3 x4 a sc)) (sclD 38 (gD x3) slices_S56x512_o38_0_S1x512) (sclD 39 (gD x3) slices_S56x512_o39_0_S1x512)) (c_v507 x1 x2 x3 x4 a sc) (nibD (c_v486 x1 x2 x3 x4 a sc)) (sclD 40 (gD x3) slices_S56x512_o40_0_S1x512) (sclD 41 (gD x3) slices_S56x512_o41_0_S1x512)) := rfl
  rw [e]
  exact (stepD_sums a x2 (gD x3) 20 5120 640 40 41 rfl rfl rfl rfl (by decide) inb_S80x7168_S80x256_0_5120 inb_S896x512_S32x512_640_0 slices_S56x512_o40_0_S1x512 slices_S56x512_o41_0_S1x512 (stepD_sums a x2 (gD x3) 19 4864 608 38 39 rfl rfl rfl rfl (by decide) inb_S80x7168_S80x256_0_4864 inb_S896x512_S32x512_608_0 slices_S56x512_o38_0_S1x512 slices_S56x512_o39_0_S1x512 (sum_v461 x1 x2 x3 x4 a sc)))

/-- The running sum after 23 steps. -/
theorem sum_v557 (x1 : Vec Ideal S72x512 .f32) (x2 : Vec Ideal S896x512 .i32) (x3 : Vec Ideal S56x512 .fp8e4m3) (x4 : Vec Ideal S1x512 .f32) (a : Vec Ideal S80x7168 .bf16) (sc : Vec Ideal S72x128 .f32) :
    Sums (at2 (α := EReal) a) (at2 (α := BitVec 32) x2) (at2 (α := EReal) (gD x3)) 23 (c_v557 x1 x2 x3 x4 a sc) := by
  have e : (c_v557 x1 x2 x3 x4 a sc) = (stepD (stepD (c_v509 x1 x2 x3 x4 a sc) (c_v531 x1 x2 x3 x4 a sc) (nibD (c_v510 x1 x2 x3 x4 a sc)) (sclD 42 (gD x3) slices_S56x512_o42_0_S1x512) (sclD 43 (gD x3) slices_S56x512_o43_0_S1x512)) (c_v555 x1 x2 x3 x4 a sc) (nibD (c_v534 x1 x2 x3 x4 a sc)) (sclD 44 (gD x3) slices_S56x512_o44_0_S1x512) (sclD 45 (gD x3) slices_S56x512_o45_0_S1x512)) := rfl
  rw [e]
  exact (stepD_sums a x2 (gD x3) 22 5632 704 44 45 rfl rfl rfl rfl (by decide) inb_S80x7168_S80x256_0_5632 inb_S896x512_S32x512_704_0 slices_S56x512_o44_0_S1x512 slices_S56x512_o45_0_S1x512 (stepD_sums a x2 (gD x3) 21 5376 672 42 43 rfl rfl rfl rfl (by decide) inb_S80x7168_S80x256_0_5376 inb_S896x512_S32x512_672_0 slices_S56x512_o42_0_S1x512 slices_S56x512_o43_0_S1x512 (sum_v509 x1 x2 x3 x4 a sc)))

/-- The running sum after 25 steps. -/
theorem sum_v605 (x1 : Vec Ideal S72x512 .f32) (x2 : Vec Ideal S896x512 .i32) (x3 : Vec Ideal S56x512 .fp8e4m3) (x4 : Vec Ideal S1x512 .f32) (a : Vec Ideal S80x7168 .bf16) (sc : Vec Ideal S72x128 .f32) :
    Sums (at2 (α := EReal) a) (at2 (α := BitVec 32) x2) (at2 (α := EReal) (gD x3)) 25 (c_v605 x1 x2 x3 x4 a sc) := by
  have e : (c_v605 x1 x2 x3 x4 a sc) = (stepD (stepD (c_v557 x1 x2 x3 x4 a sc) (c_v579 x1 x2 x3 x4 a sc) (nibD (c_v558 x1 x2 x3 x4 a sc)) (sclD 46 (gD x3) slices_S56x512_o46_0_S1x512) (sclD 47 (gD x3) slices_S56x512_o47_0_S1x512)) (c_v603 x1 x2 x3 x4 a sc) (nibD (c_v582 x1 x2 x3 x4 a sc)) (sclD 48 (gD x3) slices_S56x512_o48_0_S1x512) (sclD 49 (gD x3) slices_S56x512_o49_0_S1x512)) := rfl
  rw [e]
  exact (stepD_sums a x2 (gD x3) 24 6144 768 48 49 rfl rfl rfl rfl (by decide) inb_S80x7168_S80x256_0_6144 inb_S896x512_S32x512_768_0 slices_S56x512_o48_0_S1x512 slices_S56x512_o49_0_S1x512 (stepD_sums a x2 (gD x3) 23 5888 736 46 47 rfl rfl rfl rfl (by decide) inb_S80x7168_S80x256_0_5888 inb_S896x512_S32x512_736_0 slices_S56x512_o46_0_S1x512 slices_S56x512_o47_0_S1x512 (sum_v557 x1 x2 x3 x4 a sc)))

/-- The running sum after 27 steps. -/
theorem sum_v653 (x1 : Vec Ideal S72x512 .f32) (x2 : Vec Ideal S896x512 .i32) (x3 : Vec Ideal S56x512 .fp8e4m3) (x4 : Vec Ideal S1x512 .f32) (a : Vec Ideal S80x7168 .bf16) (sc : Vec Ideal S72x128 .f32) :
    Sums (at2 (α := EReal) a) (at2 (α := BitVec 32) x2) (at2 (α := EReal) (gD x3)) 27 (c_v653 x1 x2 x3 x4 a sc) := by
  have e : (c_v653 x1 x2 x3 x4 a sc) = (stepD (stepD (c_v605 x1 x2 x3 x4 a sc) (c_v627 x1 x2 x3 x4 a sc) (nibD (c_v606 x1 x2 x3 x4 a sc)) (sclD 50 (gD x3) slices_S56x512_o50_0_S1x512) (sclD 51 (gD x3) slices_S56x512_o51_0_S1x512)) (c_v651 x1 x2 x3 x4 a sc) (nibD (c_v630 x1 x2 x3 x4 a sc)) (sclD 52 (gD x3) slices_S56x512_o52_0_S1x512) (sclD 53 (gD x3) slices_S56x512_o53_0_S1x512)) := rfl
  rw [e]
  exact (stepD_sums a x2 (gD x3) 26 6656 832 52 53 rfl rfl rfl rfl (by decide) inb_S80x7168_S80x256_0_6656 inb_S896x512_S32x512_832_0 slices_S56x512_o52_0_S1x512 slices_S56x512_o53_0_S1x512 (stepD_sums a x2 (gD x3) 25 6400 800 50 51 rfl rfl rfl rfl (by decide) inb_S80x7168_S80x256_0_6400 inb_S896x512_S32x512_800_0 slices_S56x512_o50_0_S1x512 slices_S56x512_o51_0_S1x512 (sum_v605 x1 x2 x3 x4 a sc)))

/-- The whole product, 28 steps. -/
def coreV0 (x1 : Vec Ideal S72x512 .f32) (x2 : Vec Ideal S896x512 .i32) (x3 : Vec Ideal S56x512 .fp8e4m3) (x4 : Vec Ideal S1x512 .f32) (a : Vec Ideal S80x7168 .bf16) (sc : Vec Ideal S72x128 .f32) : FVec Ideal S80x512 .f32 :=
  (stepD (c_v653 x1 x2 x3 x4 a sc) (c_v675 x1 x2 x3 x4 a sc) (nibD (c_v654 x1 x2 x3 x4 a sc)) (sclD 54 (gD x3) slices_S56x512_o54_0_S1x512) (sclD 55 (gD x3) slices_S56x512_o55_0_S1x512))

theorem coreV0_sums (x1 : Vec Ideal S72x512 .f32) (x2 : Vec Ideal S896x512 .i32) (x3 : Vec Ideal S56x512 .fp8e4m3) (x4 : Vec Ideal S1x512 .f32) (a : Vec Ideal S80x7168 .bf16) (sc : Vec Ideal S72x128 .f32) :
    Sums (at2 (α := EReal) a) (at2 (α := BitVec 32) x2) (at2 (α := EReal) (gD x3)) 28 (coreV0 x1 x2 x3 x4 a sc) :=
  (stepD_sums a x2 (gD x3) 27 6912 864 54 55 rfl rfl rfl rfl (by decide) inb_S80x7168_S80x256_0_6912 inb_S896x512_S32x512_864_0 slices_S56x512_o54_0_S1x512 slices_S56x512_o55_0_S1x512 (sum_v653 x1 x2 x3 x4 a sc))

end Cert.DownIdeal.Run

end
-- ==== Proof.Down.Value.lean ====
/- What the Down kernel leaves in its result arrays: what the reference computes from the same arguments. -/
module

public import proofs.«01_k».proof.Proof.Down.Sums
public import proofs.«01_k».proof.Proof.Down.Frame
public import proofs.«01_k».proof.Proof.Common.Match
public import proofs.«01_k».proof.Proof.Gen.DownRefIdeal.Value
public import Idealize.ShloMosaic.Lib.Claim
public import Idealize.ShloMosaic.Lib.Pipeline.Value

@[expose] public section

set_option maxRecDepth 16384

noncomputable section

namespace Cert.DownIdeal.Run
open Cert.DownIdeal.Gen Cert.Linear

open Idealize.ShloMosaic Idealize.ShloMosaic.TcCoe Idealize.ShloMosaic.Tactic
open Idealize.ShloMosaic.Pipeline (Dat)

variable (m : (ℓ : Loc nD τ sig) → Buf (Elt Ideal) ℓ)

/-! ## The row scales and the codes -/

/-- The kernel's column of row scales is the reference's vector of them, as a column. -/
theorem scale_eq (x : Vec Ideal S72x7168 .f32) :
    k0_pay2 x = shapeCast S72x1 (DownRefIdeal.Gen.k0_pay2 x) DownRefIdeal.Gen.shapeCasts_S72_S72x1 := by
  funext j
  rfl

/-- The codes are the reference's. -/
theorem codes_eq (x : Vec Ideal S72x7168 .f32) : k0_pay3 x = DownRefIdeal.Gen.k0_pay3 x := by
  unfold k0_pay3
  rw [scale_eq]
  rfl

theorem b_v690_eq (x : Vec Ideal S72x7168 .f32) : b_v690 x = x := by
  unfold b_v690
  rw [View.ld_unit_lit]
  decide

theorem q_c3_eq (x : Vec Ideal S72x7168 .f32) : q_c3 x = DownRefIdeal.Gen.k0_pay3 x := by
  unfold q_c3
  rw [View.canon_cons_unit_lit, b_v690_eq, codes_eq]
  decide

theorem q_s3_eq (x : Vec Ideal S72x7168 .f32) : q_s3 x = DownRefIdeal.Gen.k0_pay4 x := by
  unfold q_s3
  rw [View.canon_cons_unit_lit, b_v690_eq]
  · unfold k0_pay8 k0_pay6
    rw [scale_eq]
    exact wide_row _ _ _ _ _ _ _
  · decide

theorem q_sc_apply (x : Vec Ideal S72x7168 .f32) (r : Fin 72) (c : Fin 128) :
    q_sc x (ValueIdx.ix2 r c) = DownRefIdeal.Gen.k0_pay2 x (ValueIdx.ix1 r) := by
  unfold q_sc
  rw [View.canon_cons_unit_lit, b_v690_eq]
  · have e : k0_pay7 x = wideV (k0_pay2 x) shapeCasts_S72x1_S72x1 broadcasts_S72x1_S72x128 := by
      unfold k0_pay7
      funext j
      rw [shapeCast_apply _ _ j j rfl]
      rfl
    rw [e, wideV_apply, scale_eq, col_apply]
  · decide

theorem q_a_apply (x : Vec Ideal S72x7168 .f32) (r : Fin 72) (k : Fin 7168) :
    q_a x (ValueIdx.ix2 ⟨r.val, Nat.lt_trans r.isLt (by decide)⟩ k) = DownRefIdeal.Gen.k0_pay3 x (ValueIdx.ix2 r k) := by
  unfold q_a
  rw [b_v690_eq]
  refine (pad_apply _ _ _ _ r k).trans ?_
  unfold k0_pay4
  rw [shapeCast_apply _ _ _ _ rfl, codes_eq]
  rfl

/-! ## The blocks -/

/-- The index maps. -/
theorem idx : ∀ t : Fin cfg0.N, win0_0.index t = ![0, 0] ∧ win0_1.index t = ![0, t.val] ∧ win0_2.index t = ![0, t.val]
    ∧ win0_3.index t = ![0, t.val] ∧ win0_4.index t = ![0, t.val] ∧ win0_5.index t = ![0, t.val] ∧ win0_6.index t = ![0, 0]
    ∧ win0_7.index t = ![0, 0] :=
  (by decide +kernel : ∀ t : Fin grid0.N, _)

theorem lt_N (t : Fin cfg0.N) : t.val < 16 := Nat.lt_of_lt_of_eq t.isLt N_0

/-- Column `c` of block `t`. -/
def colOf (t : Fin cfg0.N) (c : Fin 512) : Fin 8192 := ⟨512 * t.val + c.val, by have := lt_N t; have := c.isLt; omega⟩

theorem blk0 (c : Dev nD) (t : Fin cfg0.N) : iblk m c 0 t = m ((c : Thread nD τ).loc main_arg0) := by
  blk_ext! [iblk, V, idx t]

theorem blk1 (c : Dev nD) (t : Fin cfg0.N) (r : Fin 72) (j : Fin 512) :
    iblk m c 1 t (ValueIdx.ix2 r j) = m ((c : Thread nD τ).loc main_arg1) (ValueIdx.ix2 r (colOf t j)) := by
  unfold colOf
  blk_ext [iblk, V, idx t]
  show t.val * 512 + j.val = 512 * t.val + j.val
  omega

theorem blk2 (c : Dev nD) (t : Fin cfg0.N) (r : Fin 896) (j : Fin 512) :
    iblk m c 2 t (ValueIdx.ix2 r j) = m ((c : Thread nD τ).loc main_arg2) (ValueIdx.ix2 r (colOf t j)) := by
  unfold colOf
  blk_ext [iblk, V, idx t]
  show t.val * 512 + j.val = 512 * t.val + j.val
  omega

theorem blk3 (c : Dev nD) (t : Fin cfg0.N) (r : Fin 56) (j : Fin 512) :
    iblk m c 3 t (ValueIdx.ix2 r j) = m ((c : Thread nD τ).loc main_arg3) (ValueIdx.ix2 r (colOf t j)) := by
  unfold colOf
  blk_ext [iblk, V, idx t]
  show t.val * 512 + j.val = 512 * t.val + j.val
  omega

theorem blk4 (c : Dev nD) (t : Fin cfg0.N) (j : Fin 512) :
    iblk m c 4 t (ValueIdx.ix2 0 j) = m ((c : Thread nD τ).loc main_arg4) (ValueIdx.ix1 (colOf t j)) := by
  blk_simp [iblk]
  entry_read
  refine shapeCast_apply _ _ _ _ ?_
  refine (Shape.rowMajor_val_one (ValueIdx.ix1 (colOf t j))).trans (Eq.trans ?_ (Shape.rowMajor_val_two _).symm)
  blk_simp [idx t]
  unfold colOf
  show 512 * t.val + j.val = t.val * 512 + j.val
  omega

/-! ## The product -/

theorem ix3_eq {p q s : ℕ} (a : Fin p) (b : Fin q) (c : Fin s) : ix3 a b c = ValueIdx.ix3 a b c := by
  funext x
  match x with
  | ⟨0, _⟩ => rfl
  | ⟨1, _⟩ => rfl
  | ⟨2, _⟩ => rfl

/-- The reference's contraction runs over words and fields. -/
theorem words : Words DownRefIdeal.dot_S72x896x8_S8x896x8192_S72x8192_12_10_0_2_n_n := by
  intro L R acc r c
  simp only [matmulApply]
  refine congrArg (acc (ValueIdx.ix2 r c) + ·) (Finset.sum_congr rfl fun i _ => Finset.sum_congr rfl fun j _ => ?_)
  exact congrArg₂ (· * ·) (congrArg L (ix3_eq _ _ _)) (congrArg R (ix3_eq _ _ _))

/-- The result's block as the scaled product added to the residual. -/
theorem yB_eq (x1 : Vec Ideal S72x512 .f32) (x2 : Vec Ideal S896x512 .i32) (x3 : Vec Ideal S56x512 .fp8e4m3) (x4 : Vec Ideal S1x512 .f32) (a : Vec Ideal S80x7168 .bf16) (sc : Vec Ideal S72x128 .f32) :
    yB x1 x2 x3 x4 a sc = addf (F := Ideal) (φ := .f32) (c_v679 x1 x2 x3 x4 a sc) (finV (coreV0 x1 x2 x3 x4 a sc) (c_v680 x1 x2 x3 x4 a sc) (c_v683 x1 x2 x3 x4 a sc)
      slices_S80x512_o0_0_S72x512 broadcasts_S72x1_S72x512 shapeCasts_S1x512_S1x512 broadcasts_S1x512_S72x512) := by
  rfl

/-- The reference's result as the scaled product added to the residual. -/
theorem G5_eq (a0 : Vec Ideal S72x7168 .f32) (a1 : Vec Ideal DownRefIdeal.S72x8192 .f32) (a2 : Vec Ideal DownRefIdeal.S896x8192 .i32) (a3 : Vec Ideal DownRefIdeal.S56x8192 .fp8e4m3) (a4 : Vec Ideal DownRefIdeal.S8192 .f32) :
    DownRefIdeal.Value.G5 a0 a1 a2 a3 a4 = addf (F := Ideal) (φ := .f32) a1 (scaleV (prodV DownRefIdeal.dot_S72x896x8_S8x896x8192_S72x8192_12_10_0_2_n_n
      (extf .bf16 (DownRefIdeal.Gen.k0_pay3 a0) bitsLt_fp8e4m3_bf16) (signV (maskV a2 DownRefIdeal.Gen.shapeCasts_S896x8192_S1x896x8192 DownRefIdeal.Gen.broadcasts_S1x896x8192_S8x896x8192 DownRefIdeal.Gen.iota_S8x1x1_d0_w32 DownRefIdeal.Gen.broadcasts_S8x1x1_S8x896x8192) DownRefIdeal.Gen.natLt_8_32)
      (spreadV (extf .bf16 a3 bitsLt_fp8e4m3_bf16) DownRefIdeal.Gen.shapeCasts_S56x8192_S56x1x8192 DownRefIdeal.Gen.broadcasts_S56x1x8192_S56x16x8192 DownRefIdeal.Gen.shapeCasts_S56x16x8192_S896x8192 DownRefIdeal.Gen.shapeCasts_S896x8192_S1x896x8192 DownRefIdeal.Gen.broadcasts_S1x896x8192_S8x896x8192)
      DownRefIdeal.Gen.shapeCasts_S72x7168_S72x896x8) (DownRefIdeal.Gen.k0_pay2 a0) a4 DownRefIdeal.Gen.shapeCasts_S72_S72x1 DownRefIdeal.Gen.broadcasts_S72x1_S72x8192 DownRefIdeal.Gen.shapeCasts_S8192_S1x8192 DownRefIdeal.Gen.broadcasts_S1x8192_S72x8192) := by
  rfl

/-- The result's block at a point is the reference's result there. -/
theorem y_eq (c : Dev nD) (t : Fin cfg0.N) (r : Fin 72) (j : Fin 512) :
    yAt m c t (ValueIdx.ix2 r j) = DownRefIdeal.Value.G5 (m ((c : Thread nD τ).loc main_arg0)) (m ((c : Thread nD τ).loc main_arg1))
      (m ((c : Thread nD τ).loc main_arg2)) (m ((c : Thread nD τ).loc main_arg3)) (m ((c : Thread nD τ).loc main_arg4)) (ValueIdx.ix2 r (colOf t j)) := by
  unfold yAt
  rw [yB_eq, G5_eq, blk0]
  refine congrArg₂ (· + ·) ?_ ?_
  · unfold c_v679
    rw [View.ld_unit_lit]
    · exact blk1 m c t r j
    · decide
  · refine scaled_match (K := 7168) (J := 896) (Q := 56) (s := 28) rfl rfl rfl (q_a (m ((c : Thread nD τ).loc main_arg0))) _ (iblk m c 2 t) _ (iblk m c 3 t) _ r j (colOf t j)
      (fun k => q_a_apply _ r k) (fun i => blk2 m c t i j) (fun i => blk3 m c t i j) _ ?_ _ _ _ _ _ _ _ words _ _ _ _ _ _ _ _ _ _ _ _ _ _ _ _ _ ?_ ?_
    · have h := coreV0_sums (iblk m c 1 t) (iblk m c 2 t) (iblk m c 3 t) (iblk m c 4 t) (q_a (m ((c : Thread nD τ).loc main_arg0))) (q_sc (m ((c : Thread nD τ).loc main_arg0)))
      rw [gD_eq] at h
      exact h
    · unfold c_v680
      exact (ld_ix2 _ 0 0 _ r 0 (by have := r.isLt; omega) (by decide)).trans (by simpa using q_sc_apply _ r 0)
    · unfold c_v683
      rw [View.ld_unit_lit]
      · exact blk4 m c t j
      · decide

/-! ## The arrays after the run -/

theorem final5 (c : Dev nD) : (dats m 0 c).arrAt 5 cfg0.N = DownRefIdeal.Value.G5 (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  obtain ⟨r, j, rfl⟩ : ∃ (r : Fin 72) (j : Fin 512), y = ValueIdx.ix2 r j := ⟨y 0, y 1, ValueIdx.eq_ix2 y⟩
  refine (y_eq m c t r j).trans (congrArg _ ?_)
  unfold colOf
  blk_ext [idx t]
  show 512 * t.val + j.val = t.val * 512 + j.val
  omega

/-- The last point. -/
def tLast : Fin cfg0.N := ⟨15, by rw [show cfg0.N = 16 from N_0]; decide⟩

theorem final6 (c : Dev nD) : (dats m 0 c).arrAt 6 cfg0.N = DownRefIdeal.Value.G6 (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_after_last 6 tLast (by decide +kernel) _ fun y => ?_
  blk_simp
  rw [after0_6, blk0, q_c3_eq]

theorem final7 (c : Dev nD) : (dats m 0 c).arrAt 7 cfg0.N = DownRefIdeal.Value.G7 (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_after_last 7 tLast (by decide +kernel) _ fun y => ?_
  blk_simp
  rw [after0_7, blk0, q_s3_eq]

end Cert.DownIdeal.Run

end
-- ==== Proof.lean ====
module

public import proofs.«01_k».proof.Defs
public import proofs.«01_k».proof.Proof.Qkv.Bits
public import proofs.«01_k».proof.Proof.Oproj.Bits
public import proofs.«01_k».proof.Proof.Gu.Bits
public import proofs.«01_k».proof.Proof.Down.Bits
public import proofs.«01_k».proof.Proof.Qkv.Value
public import proofs.«01_k».proof.Proof.Oproj.Value
public import proofs.«01_k».proof.Proof.Gu.Value
public import proofs.«01_k».proof.Proof.Down.Value
public import proofs.«01_k».proof.Proof.Gen.OprojRefIdeal.Value
public import proofs.«01_k».proof.Proof.Gen.GuRefIdeal.Value
public import proofs.«01_k».proof.Proof.Gen.DownRefIdeal.Value
public import Idealize.ShloMosaic.Adequacy
public import Idealize.ShloMosaic.Init

@[expose] public section

set_option maxRecDepth 65536

noncomputable section

namespace Cert.Proof

open Idealize.ShloMosaic Idealize.ShloMosaic.TcCoe Idealize.SL.Sem Idealize.ShloMosaic.Tactic

/-- The Qkv call at the extended reals computes what its reference computes. -/
theorem qkv : letI := Cert.QkvIdeal.Gen.facts; letI := Cert.QkvRefIdeal.Gen.facts; Cert.algebraic_QkvIdeal_QkvRefIdeal := by
  intro m g m' g' _ hagree
  refine ⟨fun c => Cert.QkvRefIdeal.Value.G9 (m ((c : Thread Cert.QkvIdeal.nD Cert.QkvIdeal.τ).loc Cert.QkvIdeal.main_arg0)) (m ((c : Thread Cert.QkvIdeal.nD Cert.QkvIdeal.τ).loc Cert.QkvIdeal.main_arg1)) (m ((c : Thread Cert.QkvIdeal.nD Cert.QkvIdeal.τ).loc Cert.QkvIdeal.main_arg2)) (m ((c : Thread Cert.QkvIdeal.nD Cert.QkvIdeal.τ).loc Cert.QkvIdeal.main_arg3)) (m ((c : Thread Cert.QkvIdeal.nD Cert.QkvIdeal.τ).loc Cert.QkvIdeal.main_arg4)) (m ((c : Thread Cert.QkvIdeal.nD Cert.QkvIdeal.τ).loc Cert.QkvIdeal.main_arg5)) (m ((c : Thread Cert.QkvIdeal.nD Cert.QkvIdeal.τ).loc Cert.QkvIdeal.main_arg6)) (m ((c : Thread Cert.QkvIdeal.nD Cert.QkvIdeal.τ).loc Cert.QkvIdeal.main_arg7)) (m ((c : Thread Cert.QkvIdeal.nD Cert.QkvIdeal.τ).loc Cert.QkvIdeal.main_arg8)),
    fun c => Cert.QkvRefIdeal.Value.G10 (m ((c : Thread Cert.QkvIdeal.nD Cert.QkvIdeal.τ).loc Cert.QkvIdeal.main_arg0)) (m ((c : Thread Cert.QkvIdeal.nD Cert.QkvIdeal.τ).loc Cert.QkvIdeal.main_arg1)) (m ((c : Thread Cert.QkvIdeal.nD Cert.QkvIdeal.τ).loc Cert.QkvIdeal.main_arg2)) (m ((c : Thread Cert.QkvIdeal.nD Cert.QkvIdeal.τ).loc Cert.QkvIdeal.main_arg3)) (m ((c : Thread Cert.QkvIdeal.nD Cert.QkvIdeal.τ).loc Cert.QkvIdeal.main_arg4)) (m ((c : Thread Cert.QkvIdeal.nD Cert.QkvIdeal.τ).loc Cert.QkvIdeal.main_arg5)) (m ((c : Thread Cert.QkvIdeal.nD Cert.QkvIdeal.τ).loc Cert.QkvIdeal.main_arg6)) (m ((c : Thread Cert.QkvIdeal.nD Cert.QkvIdeal.τ).loc Cert.QkvIdeal.main_arg7)) (m ((c : Thread Cert.QkvIdeal.nD Cert.QkvIdeal.τ).loc Cert.QkvIdeal.main_arg8)),
    fun c => Cert.QkvRefIdeal.Value.G11 (m ((c : Thread Cert.QkvIdeal.nD Cert.QkvIdeal.τ).loc Cert.QkvIdeal.main_arg0)) (m ((c : Thread Cert.QkvIdeal.nD Cert.QkvIdeal.τ).loc Cert.QkvIdeal.main_arg1)) (m ((c : Thread Cert.QkvIdeal.nD Cert.QkvIdeal.τ).loc Cert.QkvIdeal.main_arg2)) (m ((c : Thread Cert.QkvIdeal.nD Cert.QkvIdeal.τ).loc Cert.QkvIdeal.main_arg3)) (m ((c : Thread Cert.QkvIdeal.nD Cert.QkvIdeal.τ).loc Cert.QkvIdeal.main_arg4)) (m ((c : Thread Cert.QkvIdeal.nD Cert.QkvIdeal.τ).loc Cert.QkvIdeal.main_arg5)) (m ((c : Thread Cert.QkvIdeal.nD Cert.QkvIdeal.τ).loc Cert.QkvIdeal.main_arg6)) (m ((c : Thread Cert.QkvIdeal.nD Cert.QkvIdeal.τ).loc Cert.QkvIdeal.main_arg7)) (m ((c : Thread Cert.QkvIdeal.nD Cert.QkvIdeal.τ).loc Cert.QkvIdeal.main_arg8)),
    fun c => Cert.QkvRefIdeal.Value.G12 (m ((c : Thread Cert.QkvIdeal.nD Cert.QkvIdeal.τ).loc Cert.QkvIdeal.main_arg0)) (m ((c : Thread Cert.QkvIdeal.nD Cert.QkvIdeal.τ).loc Cert.QkvIdeal.main_arg1)) (m ((c : Thread Cert.QkvIdeal.nD Cert.QkvIdeal.τ).loc Cert.QkvIdeal.main_arg2)) (m ((c : Thread Cert.QkvIdeal.nD Cert.QkvIdeal.τ).loc Cert.QkvIdeal.main_arg3)) (m ((c : Thread Cert.QkvIdeal.nD Cert.QkvIdeal.τ).loc Cert.QkvIdeal.main_arg4)) (m ((c : Thread Cert.QkvIdeal.nD Cert.QkvIdeal.τ).loc Cert.QkvIdeal.main_arg5)) (m ((c : Thread Cert.QkvIdeal.nD Cert.QkvIdeal.τ).loc Cert.QkvIdeal.main_arg6)) (m ((c : Thread Cert.QkvIdeal.nD Cert.QkvIdeal.τ).loc Cert.QkvIdeal.main_arg7)) (m ((c : Thread Cert.QkvIdeal.nD Cert.QkvIdeal.τ).loc Cert.QkvIdeal.main_arg8)),
    fun c => Cert.QkvRefIdeal.Value.G13 (m ((c : Thread Cert.QkvIdeal.nD Cert.QkvIdeal.τ).loc Cert.QkvIdeal.main_arg0)) (m ((c : Thread Cert.QkvIdeal.nD Cert.QkvIdeal.τ).loc Cert.QkvIdeal.main_arg1)) (m ((c : Thread Cert.QkvIdeal.nD Cert.QkvIdeal.τ).loc Cert.QkvIdeal.main_arg2)) (m ((c : Thread Cert.QkvIdeal.nD Cert.QkvIdeal.τ).loc Cert.QkvIdeal.main_arg3)) (m ((c : Thread Cert.QkvIdeal.nD Cert.QkvIdeal.τ).loc Cert.QkvIdeal.main_arg4)) (m ((c : Thread Cert.QkvIdeal.nD Cert.QkvIdeal.τ).loc Cert.QkvIdeal.main_arg5)) (m ((c : Thread Cert.QkvIdeal.nD Cert.QkvIdeal.τ).loc Cert.QkvIdeal.main_arg6)) (m ((c : Thread Cert.QkvIdeal.nD Cert.QkvIdeal.τ).loc Cert.QkvIdeal.main_arg7)) (m ((c : Thread Cert.QkvIdeal.nD Cert.QkvIdeal.τ).loc Cert.QkvIdeal.main_arg8)),
    fun c => Cert.QkvRefIdeal.Value.G14 (m ((c : Thread Cert.QkvIdeal.nD Cert.QkvIdeal.τ).loc Cert.QkvIdeal.main_arg0)) (m ((c : Thread Cert.QkvIdeal.nD Cert.QkvIdeal.τ).loc Cert.QkvIdeal.main_arg1)) (m ((c : Thread Cert.QkvIdeal.nD Cert.QkvIdeal.τ).loc Cert.QkvIdeal.main_arg2)) (m ((c : Thread Cert.QkvIdeal.nD Cert.QkvIdeal.τ).loc Cert.QkvIdeal.main_arg3)) (m ((c : Thread Cert.QkvIdeal.nD Cert.QkvIdeal.τ).loc Cert.QkvIdeal.main_arg4)) (m ((c : Thread Cert.QkvIdeal.nD Cert.QkvIdeal.τ).loc Cert.QkvIdeal.main_arg5)) (m ((c : Thread Cert.QkvIdeal.nD Cert.QkvIdeal.τ).loc Cert.QkvIdeal.main_arg6)) (m ((c : Thread Cert.QkvIdeal.nD Cert.QkvIdeal.τ).loc Cert.QkvIdeal.main_arg7)) (m ((c : Thread Cert.QkvIdeal.nD Cert.QkvIdeal.τ).loc Cert.QkvIdeal.main_arg8)), ?_, ?_⟩
  · refine (θ_run _ _ _).mono (fun r h c => ?_) (θ_run_and (Cert.QkvIdeal.Run.run_main m g) (Cert.QkvIdeal.Run.unchanged m g))
    exact ⟨Cert.QkvIdeal.Run.final9 m c _ ((h.1 c).1 9), Cert.QkvIdeal.Run.final10 m c _ ((h.1 c).1 10), Cert.QkvIdeal.Run.final11 m c _ ((h.1 c).1 11), Cert.QkvIdeal.Run.final12 m c _ ((h.1 c).1 12), Cert.QkvIdeal.Run.final13 m c _ ((h.1 c).1 13), Cert.QkvIdeal.Run.final14 m c _ ((h.1 c).1 14), h.2 c⟩
  · refine (θ_run _ _ _).mono (fun r h c => ?_) (Cert.QkvRefIdeal.Value.run m' g')
    obtain ⟨h0, h1, h2, h3, h4, h5, h6⟩ := h c
    obtain ⟨a0, a1, a2, a3, a4, a5, a6, a7, a8⟩ := hagree c
    refine ⟨h0.trans ?_, h1.trans ?_, h2.trans ?_, h3.trans ?_, h4.trans ?_, h5.trans ?_, h6⟩
    all_goals rw [a0, a1, a2, a3, a4, a5, a6, a7, a8]

/-- The Oproj call at the extended reals computes what its reference computes. -/
theorem oproj : letI := Cert.OprojIdeal.Gen.facts; letI := Cert.OprojRefIdeal.Gen.facts; Cert.algebraic_OprojIdeal_OprojRefIdeal := by
  intro m g m' g' _ hagree
  refine ⟨fun c => (Cert.OprojIdeal.Run.dats m 0 c).arrAt 5 Cert.OprojIdeal.cfg0.N, fun c => (Cert.OprojIdeal.Run.dats m 0 c).arrAt 6 Cert.OprojIdeal.cfg0.N,
    fun c => (Cert.OprojIdeal.Run.dats m 0 c).arrAt 7 Cert.OprojIdeal.cfg0.N, ?_, ?_⟩
  · refine (θ_run _ _ _).mono (fun r h c => ?_) (θ_run_and (Cert.OprojIdeal.Run.run_main m g) (Cert.OprojIdeal.Run.unchanged m g))
    exact ⟨(h.1 c).1 5, (h.1 c).1 6, (h.1 c).1 7, h.2 c⟩
  · refine (θ_run _ _ _).mono (fun r h c => ?_) (Cert.OprojRefIdeal.Value.run m' g')
    obtain ⟨h0, h1, h2, h3⟩ := h c
    obtain ⟨a0, a1, a2, a3, a4⟩ := hagree c
    refine ⟨h0.trans ?_, h1.trans ?_, h2.trans ?_, h3⟩
    · rw [a0, a1, a2, a3, a4]; exact (Cert.OprojIdeal.Run.final5 m c).symm
    · rw [a0, a1, a2, a3, a4]; exact (Cert.OprojIdeal.Run.final6 m c).symm
    · rw [a0, a1, a2, a3, a4]; exact (Cert.OprojIdeal.Run.final7 m c).symm

/-- The Gu call at the extended reals computes what its reference computes. -/
theorem gu : letI := Cert.GuIdeal.Gen.facts; letI := Cert.GuRefIdeal.Gen.facts; Cert.algebraic_GuIdeal_GuRefIdeal := by
  intro m g m' g' _ hagree
  refine ⟨fun c => (Cert.GuIdeal.Run.dats m 0 c).arrAt 8 Cert.GuIdeal.cfg0.N, fun c => (Cert.GuIdeal.Run.dats m 0 c).arrAt 9 Cert.GuIdeal.cfg0.N,
    fun c => (Cert.GuIdeal.Run.dats m 0 c).arrAt 10 Cert.GuIdeal.cfg0.N, ?_, ?_⟩
  · refine (θ_run _ _ _).mono (fun r h c => ?_) (θ_run_and (Cert.GuIdeal.Run.run_main m g) (Cert.GuIdeal.Run.unchanged m g))
    exact ⟨(h.1 c).1 8, (h.1 c).1 9, (h.1 c).1 10, h.2 c⟩
  · refine (θ_run _ _ _).mono (fun r h c => ?_) (Cert.GuRefIdeal.Value.run m' g')
    obtain ⟨h0, h1, h2, h3⟩ := h c
    obtain ⟨a0, a1, a2, a3, a4⟩ := hagree c
    refine ⟨h0.trans ?_, h1.trans ?_, h2.trans ?_, h3⟩
    · rw [a0, a1, a2, a3, a4]; exact (Cert.GuIdeal.Run.final8 m c).symm
    · rw [a0, a1, a2, a3, a4]; exact (Cert.GuIdeal.Run.final9 m c).symm
    · rw [a0, a1, a2, a3, a4]; exact (Cert.GuIdeal.Run.final10 m c).symm

/-- The Down call at the extended reals computes what its reference computes. -/
theorem down : letI := Cert.DownIdeal.Gen.facts; letI := Cert.DownRefIdeal.Gen.facts; Cert.algebraic_DownIdeal_DownRefIdeal := by
  intro m g m' g' _ hagree
  refine ⟨fun c => (Cert.DownIdeal.Run.dats m 0 c).arrAt 5 Cert.DownIdeal.cfg0.N, fun c => (Cert.DownIdeal.Run.dats m 0 c).arrAt 6 Cert.DownIdeal.cfg0.N,
    fun c => (Cert.DownIdeal.Run.dats m 0 c).arrAt 7 Cert.DownIdeal.cfg0.N, ?_, ?_⟩
  · refine (θ_run _ _ _).mono (fun r h c => ?_) (θ_run_and (Cert.DownIdeal.Run.run_main m g) (Cert.DownIdeal.Run.unchanged m g))
    exact ⟨(h.1 c).1 5, (h.1 c).1 6, (h.1 c).1 7, h.2 c⟩
  · refine (θ_run _ _ _).mono (fun r h c => ?_) (Cert.DownRefIdeal.Value.run m' g')
    obtain ⟨h0, h1, h2, h3⟩ := h c
    obtain ⟨a0, a1, a2, a3, a4⟩ := hagree c
    refine ⟨h0.trans ?_, h1.trans ?_, h2.trans ?_, h3⟩
    · rw [a0, a1, a2, a3, a4]; exact (Cert.DownIdeal.Run.final5 m c).symm
    · rw [a0, a1, a2, a3, a4]; exact (Cert.DownIdeal.Run.final6 m c).symm
    · rw [a0, a1, a2, a3, a4]; exact (Cert.DownIdeal.Run.final7 m c).symm

theorem claim : Cert.Claim := ⟨Cert.Qkv.Gen.facts, Cert.QkvIdeal.Gen.facts, Cert.QkvRefIdeal.Gen.facts, Cert.Oproj.Gen.facts, Cert.OprojIdeal.Gen.facts, Cert.OprojRefIdeal.Gen.facts, Cert.Gu.Gen.facts,
  Cert.GuIdeal.Gen.facts, Cert.GuRefIdeal.Gen.facts, Cert.Down.Gen.facts, Cert.DownIdeal.Gen.facts, Cert.DownRefIdeal.Gen.facts,
  Cert.QkvIdeal.Run.frame_bits, fun m g _ => Cert.QkvIdeal.Run.frame m g, fun m g _ => Cert.QkvRefIdeal.Gen.frame m g,
  Cert.OprojIdeal.Run.frame_bits, fun m g _ => Cert.OprojIdeal.Run.frame m g, fun m g _ => Cert.OprojRefIdeal.Gen.frame m g,
  Cert.GuIdeal.Run.frame_bits, fun m g _ => Cert.GuIdeal.Run.frame m g, fun m g _ => Cert.GuRefIdeal.Gen.frame m g,
  Cert.DownIdeal.Run.frame_bits, fun m g _ => Cert.DownIdeal.Run.frame m g, fun m g _ => Cert.DownRefIdeal.Gen.frame m g,
  trivial, qkv, trivial, oproj, trivial, gu, trivial, down⟩

end Cert.Proof

end
